-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.2 = (fun _ => 1#1)

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormIdeal_norm_finite [hPre_norm_finite : Cert.Pre_norm_finite.Facts] (m : (ℓ : Loc Cert.NormIdeal.nD Cert.NormIdeal.τ Cert.NormIdeal.sig) → Buf (Elt Ideal) ℓ) : Prop :=
  ∀ c : Dev Cert.NormIdeal.nD,
    (Cert.Pre_norm_finite.fn (F := Ideal) (m ((c.tc : Thread Cert.NormIdeal.nD Cert.NormIdeal.τ).loc Cert.NormIdeal.main_arg0)) (m ((c.tc : Thread Cert.NormIdeal.nD Cert.NormIdeal.τ).loc Cert.NormIdeal.main_arg1)) (m ((c.tc : Thread Cert.NormIdeal.nD Cert.NormIdeal.τ).loc Cert.NormIdeal.main_arg2)) (m ((c.tc : Thread Cert.NormIdeal.nD Cert.NormIdeal.τ).loc Cert.NormIdeal.main_arg3)) (m ((c.tc : Thread Cert.NormIdeal.nD Cert.NormIdeal.τ).loc Cert.NormIdeal.main_arg4))).1 = (fun _ => 1#1)
    ∧ (Cert.Pre_norm_finite.fn (F := Ideal) (m ((c.tc : Thread Cert.NormIdeal.nD Cert.NormIdeal.τ).loc Cert.NormIdeal.main_arg0)) (m ((c.tc : Thread Cert.NormIdeal.nD Cert.NormIdeal.τ).loc Cert.NormIdeal.main_arg1)) (m ((c.tc : Thread Cert.NormIdeal.nD Cert.NormIdeal.τ).loc Cert.NormIdeal.main_arg2)) (m ((c.tc : Thread Cert.NormIdeal.nD Cert.NormIdeal.τ).loc Cert.NormIdeal.main_arg3)) (m ((c.tc : Thread Cert.NormIdeal.nD Cert.NormIdeal.τ).loc Cert.NormIdeal.main_arg4))).2.1 = (fun _ => 1#1)
    ∧ (Cert.Pre_norm_finite.fn (F := Ideal) (m ((c.tc : Thread Cert.NormIdeal.nD Cert.NormIdeal.τ).loc Cert.NormIdeal.main_arg0)) (m ((c.tc : Thread Cert.NormIdeal.nD Cert.NormIdeal.τ).loc Cert.NormIdeal.main_arg1)) (m ((c.tc : Thread Cert.NormIdeal.nD Cert.NormIdeal.τ).loc Cert.NormIdeal.main_arg2)) (m ((c.tc : Thread Cert.NormIdeal.nD Cert.NormIdeal.τ).loc Cert.NormIdeal.main_arg3)) (m ((c.tc : Thread Cert.NormIdeal.nD Cert.NormIdeal.τ).loc Cert.NormIdeal.main_arg4))).2.2.1 = (fun _ => 1#1)
    ∧ (Cert.Pre_norm_finite.fn (F := Ideal) (m ((c.tc : Thread Cert.NormIdeal.nD Cert.NormIdeal.τ).loc Cert.NormIdeal.main_arg0)) (m ((c.tc : Thread Cert.NormIdeal.nD Cert.NormIdeal.τ).loc Cert.NormIdeal.main_arg1)) (m ((c.tc : Thread Cert.NormIdeal.nD Cert.NormIdeal.τ).loc Cert.NormIdeal.main_arg2)) (m ((c.tc : Thread Cert.NormIdeal.nD Cert.NormIdeal.τ).loc Cert.NormIdeal.main_arg3)) (m ((c.tc : Thread Cert.NormIdeal.nD Cert.NormIdeal.τ).loc Cert.NormIdeal.main_arg4))).2.2.2 = (fun _ => 1#1)

def Pre_NormRefIdeal (m : (ℓ : Loc Cert.NormRefIdeal.nD Cert.NormRefIdeal.τ Cert.NormRefIdeal.sig) → Buf (Elt Ideal) ℓ) : Prop :=
  True

def Pre_NormRefIdeal_norm_finite [hPre_norm_finite : Cert.Pre_norm_finite.Facts] (m : (ℓ : Loc Cert.NormRefIdeal.nD Cert.NormRefIdeal.τ Cert.NormRefIdeal.sig) → Buf (Elt Ideal) ℓ) : Prop :=
  ∀ c : Dev Cert.NormRefIdeal.nD,
    (Cert.Pre_norm_finite.fn (F := Ideal) (m ((c.tc : Thread Cert.NormRefIdeal.nD Cert.NormRefIdeal.τ).loc Cert.NormRefIdeal.main_arg0)) (m ((c.tc : Thread Cert.NormRefIdeal.nD Cert.NormRefIdeal.τ).loc Cert.NormRefIdeal.main_arg1)) (m ((c.tc : Thread Cert.NormRefIdeal.nD Cert.NormRefIdeal.τ).loc Cert.NormRefIdeal.main_arg2)) (m ((c.tc : Thread Cert.NormRefIdeal.nD Cert.NormRefIdeal.τ).loc Cert.NormRefIdeal.main_arg3)) (m ((c.tc : Thread Cert.NormRefIdeal.nD Cert.NormRefIdeal.τ).loc Cert.NormRefIdeal.main_arg4))).1 = (fun _ => 1#1)
    ∧ (Cert.Pre_norm_finite.fn (F := Ideal) (m ((c.tc : Thread Cert.NormRefIdeal.nD Cert.NormRefIdeal.τ).loc Cert.NormRefIdeal.main_arg0)) (m ((c.tc : Thread Cert.NormRefIdeal.nD Cert.NormRefIdeal.τ).loc Cert.NormRefIdeal.main_arg1)) (m ((c.tc : Thread Cert.NormRefIdeal.nD Cert.NormRefIdeal.τ).loc Cert.NormRefIdeal.main_arg2)) (m ((c.tc : Thread Cert.NormRefIdeal.nD Cert.NormRefIdeal.τ).loc Cert.NormRefIdeal.main_arg3)) (m ((c.tc : Thread Cert.NormRefIdeal.nD Cert.NormRefIdeal.τ).loc Cert.NormRefIdeal.main_arg4))).2.1 = (fun _ => 1#1)
    ∧ (Cert.Pre_norm_finite.fn (F := Ideal) (m ((c.tc : Thread Cert.NormRefIdeal.nD Cert.NormRefIdeal.τ).loc Cert.NormRefIdeal.main_arg0)) (m ((c.tc : Thread Cert.NormRefIdeal.nD Cert.NormRefIdeal.τ).loc Cert.NormRefIdeal.main_arg1)) (m ((c.tc : Thread Cert.NormRefIdeal.nD Cert.NormRefIdeal.τ).loc Cert.NormRefIdeal.main_arg2)) (m ((c.tc : Thread Cert.NormRefIdeal.nD Cert.NormRefIdeal.τ).loc Cert.NormRefIdeal.main_arg3)) (m ((c.tc : Thread Cert.NormRefIdeal.nD Cert.NormRefIdeal.τ).loc Cert.NormRefIdeal.main_arg4))).2.2.1 = (fun _ => 1#1)
    ∧ (Cert.Pre_norm_finite.fn (F := Ideal) (m ((c.tc : Thread Cert.NormRefIdeal.nD Cert.NormRefIdeal.τ).loc Cert.NormRefIdeal.main_arg0)) (m ((c.tc : Thread Cert.NormRefIdeal.nD Cert.NormRefIdeal.τ).loc Cert.NormRefIdeal.main_arg1)) (m ((c.tc : Thread Cert.NormRefIdeal.nD Cert.NormRefIdeal.τ).loc Cert.NormRefIdeal.main_arg2)) (m ((c.tc : Thread Cert.NormRefIdeal.nD Cert.NormRefIdeal.τ).loc Cert.NormRefIdeal.main_arg3)) (m ((c.tc : Thread Cert.NormRefIdeal.nD Cert.NormRefIdeal.τ).loc Cert.NormRefIdeal.main_arg4))).2.2.2 = (fun _ => 1#1)

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_Sent [hPre_core_named : Cert.Pre_core_named.Facts] (m : (ℓ : Loc Cert.Sent.nD Cert.Sent.τ Cert.Sent.sig) → Buf (Elt Bits) ℓ) : Prop :=
  ∀ c : Dev Cert.Sent.nD,
    (Cert.Pre_core_named.fn (F := Bits) (m ((c.tc : Thread Cert.Sent.nD Cert.Sent.τ).loc Cert.Sent.main_arg0)) (m ((c.tc : Thread Cert.Sent.nD Cert.Sent.τ).loc Cert.Sent.main_arg1)) (m ((c.tc : Thread Cert.Sent.nD Cert.Sent.τ).loc Cert.Sent.main_arg2)) (m ((c.tc : Thread Cert.Sent.nD Cert.Sent.τ).loc Cert.Sent.main_arg3))) = (fun _ => 1#1)

def Pre_SentIdeal [hPre_core_named : Cert.Pre_core_named.Facts] (m : (ℓ : Loc Cert.SentIdeal.nD Cert.SentIdeal.τ Cert.SentIdeal.sig) → Buf (Elt Ideal) ℓ) : Prop :=
  ∀ c : Dev Cert.SentIdeal.nD,
    (Cert.Pre_core_named.fn (F := Ideal) (m ((c.tc : Thread Cert.SentIdeal.nD Cert.SentIdeal.τ).loc Cert.SentIdeal.main_arg0)) (m ((c.tc : Thread Cert.SentIdeal.nD Cert.SentIdeal.τ).loc Cert.SentIdeal.main_arg1)) (m ((c.tc : Thread Cert.SentIdeal.nD Cert.SentIdeal.τ).loc Cert.SentIdeal.main_arg2)) (m ((c.tc : Thread Cert.SentIdeal.nD Cert.SentIdeal.τ).loc Cert.SentIdeal.main_arg3))) = (fun _ => 1#1)

def Pre_SentRefIdeal (m : (ℓ : Loc Cert.SentRefIdeal.nD Cert.SentRefIdeal.τ Cert.SentRefIdeal.sig) → Buf (Elt Ideal) ℓ) : Prop :=
  True

def Pre_SentRefIdeal_core_named [hPre_core_named : Cert.Pre_core_named.Facts] (m : (ℓ : Loc Cert.SentRefIdeal.nD Cert.SentRefIdeal.τ Cert.SentRefIdeal.sig) → Buf (Elt Ideal) ℓ) : Prop :=
  ∀ c : Dev Cert.SentRefIdeal.nD,
    (Cert.Pre_core_named.fn (F := Ideal) (m ((c.tc : Thread Cert.SentRefIdeal.nD Cert.SentRefIdeal.τ).loc Cert.SentRefIdeal.main_arg0)) (m ((c.tc : Thread Cert.SentRefIdeal.nD Cert.SentRefIdeal.τ).loc Cert.SentRefIdeal.main_arg1)) (m ((c.tc : Thread Cert.SentRefIdeal.nD Cert.SentRefIdeal.τ).loc Cert.SentRefIdeal.main_arg2)) (m ((c.tc : Thread Cert.SentRefIdeal.nD Cert.SentRefIdeal.τ).loc Cert.SentRefIdeal.main_arg3))) = (fun _ => 1#1)

def Pre_Kept [hPre_own_core_named : Cert.Pre_own_core_named.Facts] (m : (ℓ : Loc Cert.Kept.nD Cert.Kept.τ Cert.Kept.sig) → Buf (Elt Bits) ℓ) : Prop :=
  ∀ c : Dev Cert.Kept.nD,
    (Cert.Pre_own_core_named.fn (F := Bits) (m ((c.tc : Thread Cert.Kept.nD Cert.Kept.τ).loc Cert.Kept.main_arg0)) (m ((c.tc : Thread Cert.Kept.nD Cert.Kept.τ).loc Cert.Kept.main_arg1)) (m ((c.tc : Thread Cert.Kept.nD Cert.Kept.τ).loc Cert.Kept.main_arg2)) (m ((c.tc : Thread Cert.Kept.nD Cert.Kept.τ).loc Cert.Kept.main_arg3)) (m ((c.tc : Thread Cert.Kept.nD Cert.Kept.τ).loc Cert.Kept.main_arg4))) = (fun _ => 1#1)

def Pre_KeptIdeal [hPre_own_core_named : Cert.Pre_own_core_named.Facts] (m : (ℓ : Loc Cert.KeptIdeal.nD Cert.KeptIdeal.τ Cert.KeptIdeal.sig) → Buf (Elt Ideal) ℓ) : Prop :=
  ∀ c : Dev Cert.KeptIdeal.nD,
    (Cert.Pre_own_core_named.fn (F := Ideal) (m ((c.tc : Thread Cert.KeptIdeal.nD Cert.KeptIdeal.τ).loc Cert.KeptIdeal.main_arg0)) (m ((c.tc : Thread Cert.KeptIdeal.nD Cert.KeptIdeal.τ).loc Cert.KeptIdeal.main_arg1)) (m ((c.tc : Thread Cert.KeptIdeal.nD Cert.KeptIdeal.τ).loc Cert.KeptIdeal.main_arg2)) (m ((c.tc : Thread Cert.KeptIdeal.nD Cert.KeptIdeal.τ).loc Cert.KeptIdeal.main_arg3)) (m ((c.tc : Thread Cert.KeptIdeal.nD Cert.KeptIdeal.τ).loc Cert.KeptIdeal.main_arg4))) = (fun _ => 1#1)

def Pre_KeptRefIdeal (m : (ℓ : Loc Cert.KeptRefIdeal.nD Cert.KeptRefIdeal.τ Cert.KeptRefIdeal.sig) → Buf (Elt Ideal) ℓ) : Prop :=
  True

def Pre_KeptRefIdeal_own_core_named [hPre_own_core_named : Cert.Pre_own_core_named.Facts] (m : (ℓ : Loc Cert.KeptRefIdeal.nD Cert.KeptRefIdeal.τ Cert.KeptRefIdeal.sig) → Buf (Elt Ideal) ℓ) : Prop :=
  ∀ c : Dev Cert.KeptRefIdeal.nD,
    (Cert.Pre_own_core_named.fn (F := Ideal) (m ((c.tc : Thread Cert.KeptRefIdeal.nD Cert.KeptRefIdeal.τ).loc Cert.KeptRefIdeal.main_arg0)) (m ((c.tc : Thread Cert.KeptRefIdeal.nD Cert.KeptRefIdeal.τ).loc Cert.KeptRefIdeal.main_arg1)) (m ((c.tc : Thread Cert.KeptRefIdeal.nD Cert.KeptRefIdeal.τ).loc Cert.KeptRefIdeal.main_arg2)) (m ((c.tc : Thread Cert.KeptRefIdeal.nD Cert.KeptRefIdeal.τ).loc Cert.KeptRefIdeal.main_arg3)) (m ((c.tc : Thread Cert.KeptRefIdeal.nD Cert.KeptRefIdeal.τ).loc Cert.KeptRefIdeal.main_arg4))) = (fun _ => 1#1)

def Pre_Gla (m : (ℓ : Loc Cert.Gla.nD Cert.Gla.τ Cert.Gla.sig) → Buf (Elt Bits) ℓ) : Prop :=
  True

def Pre_GlaIdeal (m : (ℓ : Loc Cert.GlaIdeal.nD Cert.GlaIdeal.τ Cert.GlaIdeal.sig) → Buf (Elt Ideal) ℓ) : Prop :=
  True

def Pre_AdamUp (m : (ℓ : Loc Cert.AdamUp.nD Cert.AdamUp.τ Cert.AdamUp.sig) → Buf (Elt Bits) ℓ) : Prop :=
  True

def Pre_AdamUpIdeal (m : (ℓ : Loc Cert.AdamUpIdeal.nD Cert.AdamUpIdeal.τ Cert.AdamUpIdeal.sig) → Buf (Elt Ideal) ℓ) : Prop :=
  True

def Pre_AdamUpRefIdeal (m : (ℓ : Loc Cert.AdamUpRefIdeal.nD Cert.AdamUpRefIdeal.τ Cert.AdamUpRefIdeal.sig) → Buf (Elt Ideal) ℓ) : Prop :=
  True

def Pre_AdamDown (m : (ℓ : Loc Cert.AdamDown.nD Cert.AdamDown.τ Cert.AdamDown.sig) → Buf (Elt Bits) ℓ) : Prop :=
  True

def Pre_AdamDownIdeal (m : (ℓ : Loc Cert.AdamDownIdeal.nD Cert.AdamDownIdeal.τ Cert.AdamDownIdeal.sig) → Buf (Elt Ideal) ℓ) : Prop :=
  True

def Pre_AdamDownRefIdeal (m : (ℓ : Loc Cert.AdamDownRefIdeal.nD Cert.AdamDownRefIdeal.τ Cert.AdamDownRefIdeal.sig) → Buf (Elt Ideal) ℓ) : Prop :=
  True

def Pre_AdamGain (m : (ℓ : Loc Cert.AdamGain.nD Cert.AdamGain.τ Cert.AdamGain.sig) → Buf (Elt Bits) ℓ) : Prop :=
  True

def Pre_AdamGainIdeal (m : (ℓ : Loc Cert.AdamGainIdeal.nD Cert.AdamGainIdeal.τ Cert.AdamGainIdeal.sig) → Buf (Elt Ideal) ℓ) : Prop :=
  True

def Pre_AdamGainRefIdeal (m : (ℓ : Loc Cert.AdamGainRefIdeal.nD Cert.AdamGainRefIdeal.τ Cert.AdamGainRefIdeal.sig) → Buf (Elt Ideal) ℓ) : Prop :=
  True

def Pre_AdamMixIn (m : (ℓ : Loc Cert.AdamMixIn.nD Cert.AdamMixIn.τ Cert.AdamMixIn.sig) → Buf (Elt Bits) ℓ) : Prop :=
  True

def Pre_AdamMixInIdeal (m : (ℓ : Loc Cert.AdamMixInIdeal.nD Cert.AdamMixInIdeal.τ Cert.AdamMixInIdeal.sig) → Buf (Elt Ideal) ℓ) : Prop :=
  True

def Pre_AdamMixInRefIdeal (m : (ℓ : Loc Cert.AdamMixInRefIdeal.nD Cert.AdamMixInRefIdeal.τ Cert.AdamMixInRefIdeal.sig) → Buf (Elt Ideal) ℓ) : Prop :=
  True

def Pre_AdamMixOut (m : (ℓ : Loc Cert.AdamMixOut.nD Cert.AdamMixOut.τ Cert.AdamMixOut.sig) → Buf (Elt Bits) ℓ) : Prop :=
  True

def Pre_AdamMixOutIdeal (m : (ℓ : Loc Cert.AdamMixOutIdeal.nD Cert.AdamMixOutIdeal.τ Cert.AdamMixOutIdeal.sig) → Buf (Elt Ideal) ℓ) : Prop :=
  True

def Pre_AdamMixOutRefIdeal (m : (ℓ : Loc Cert.AdamMixOutRefIdeal.nD Cert.AdamMixOutRefIdeal.τ Cert.AdamMixOutRefIdeal.sig) → Buf (Elt Ideal) ℓ) : Prop :=
  True

def Pre_AdamPool (m : (ℓ : Loc Cert.AdamPool.nD Cert.AdamPool.τ Cert.AdamPool.sig) → Buf (Elt Bits) ℓ) : Prop :=
  True

def Pre_AdamPoolIdeal (m : (ℓ : Loc Cert.AdamPoolIdeal.nD Cert.AdamPoolIdeal.τ Cert.AdamPoolIdeal.sig) → Buf (Elt Ideal) ℓ) : Prop :=
  True

def Pre_AdamPoolRefIdeal (m : (ℓ : Loc Cert.AdamPoolRefIdeal.nD Cert.AdamPoolRefIdeal.τ Cert.AdamPoolRefIdeal.sig) → Buf (Elt Ideal) ℓ) : Prop :=
  True

def Pre_AdamScale (m : (ℓ : Loc Cert.AdamScale.nD Cert.AdamScale.τ Cert.AdamScale.sig) → Buf (Elt Bits) ℓ) : Prop :=
  True

def Pre_AdamScaleIdeal (m : (ℓ : Loc Cert.AdamScaleIdeal.nD Cert.AdamScaleIdeal.τ Cert.AdamScaleIdeal.sig) → Buf (Elt Ideal) ℓ) : Prop :=
  True

def Pre_AdamScaleRefIdeal (m : (ℓ : Loc Cert.AdamScaleRefIdeal.nD Cert.AdamScaleRefIdeal.τ Cert.AdamScaleRefIdeal.sig) → Buf (Elt Ideal) ℓ) : Prop :=
  True

def Pre_AdamAlpha (m : (ℓ : Loc Cert.AdamAlpha.nD Cert.AdamAlpha.τ Cert.AdamAlpha.sig) → Buf (Elt Bits) ℓ) : Prop :=
  True

def Pre_AdamAlphaIdeal (m : (ℓ : Loc Cert.AdamAlphaIdeal.nD Cert.AdamAlphaIdeal.τ Cert.AdamAlphaIdeal.sig) → Buf (Elt Ideal) ℓ) : Prop :=
  True

def Pre_AdamAlphaRefIdeal (m : (ℓ : Loc Cert.AdamAlphaRefIdeal.nD Cert.AdamAlphaRefIdeal.τ Cert.AdamAlphaRefIdeal.sig) → Buf (Elt Ideal) ℓ) : Prop :=
  True

def Pre_AdamBias (m : (ℓ : Loc Cert.AdamBias.nD Cert.AdamBias.τ Cert.AdamBias.sig) → Buf (Elt Bits) ℓ) : Prop :=
  True

def Pre_AdamBiasIdeal (m : (ℓ : Loc Cert.AdamBiasIdeal.nD Cert.AdamBiasIdeal.τ Cert.AdamBiasIdeal.sig) → Buf (Elt Ideal) ℓ) : Prop :=
  True

def Pre_AdamBiasRefIdeal (m : (ℓ : Loc Cert.AdamBiasRefIdeal.nD Cert.AdamBiasRefIdeal.τ Cert.AdamBiasRefIdeal.sig) → Buf (Elt Ideal) ℓ) : Prop :=
  True

def Pre_AdamHead (m : (ℓ : Loc Cert.AdamHead.nD Cert.AdamHead.τ Cert.AdamHead.sig) → Buf (Elt Bits) ℓ) : Prop :=
  True

def Pre_AdamHeadIdeal (m : (ℓ : Loc Cert.AdamHeadIdeal.nD Cert.AdamHeadIdeal.τ Cert.AdamHeadIdeal.sig) → Buf (Elt Ideal) ℓ) : Prop :=
  True

def Pre_AdamHeadRefIdeal (m : (ℓ : Loc Cert.AdamHeadRefIdeal.nD Cert.AdamHeadRefIdeal.τ Cert.AdamHeadRefIdeal.sig) → Buf (Elt Ideal) ℓ) : Prop :=
  True

def Pre_Small (m : (ℓ : Loc Cert.Small.nD Cert.Small.τ Cert.Small.sig) → Buf (Elt Bits) ℓ) : Prop :=
  True

def Pre_SmallIdeal (m : (ℓ : Loc Cert.SmallIdeal.nD Cert.SmallIdeal.τ Cert.SmallIdeal.sig) → Buf (Elt Ideal) ℓ) : Prop :=
  True

def Pre_SmallRefIdeal (m : (ℓ : Loc Cert.SmallRefIdeal.nD Cert.SmallRefIdeal.τ Cert.SmallRefIdeal.sig) → Buf (Elt Ideal) ℓ) : Prop :=
  True

def Pre_SumUp [hPre_up_place_named : Cert.Pre_up_place_named.Facts] (m : (ℓ : Loc Cert.SumUp.nD Cert.SumUp.τ Cert.SumUp.sig) → Buf (Elt Bits) ℓ) : Prop :=
  ∀ c : Dev Cert.SumUp.nD,
    (Cert.Pre_up_place_named.fn (F := Bits) (m ((c.tc : Thread Cert.SumUp.nD Cert.SumUp.τ).loc Cert.SumUp.main_arg0)) (m ((c.tc : Thread Cert.SumUp.nD Cert.SumUp.τ).loc Cert.SumUp.main_arg1)) (m ((c.tc : Thread Cert.SumUp.nD Cert.SumUp.τ).loc Cert.SumUp.main_arg2)) (m ((c.tc : Thread Cert.SumUp.nD Cert.SumUp.τ).loc Cert.SumUp.main_arg3))).1 = (fun _ => 1#1)
    ∧ (Cert.Pre_up_place_named.fn (F := Bits) (m ((c.tc : Thread Cert.SumUp.nD Cert.SumUp.τ).loc Cert.SumUp.main_arg0)) (m ((c.tc : Thread Cert.SumUp.nD Cert.SumUp.τ).loc Cert.SumUp.main_arg1)) (m ((c.tc : Thread Cert.SumUp.nD Cert.SumUp.τ).loc Cert.SumUp.main_arg2)) (m ((c.tc : Thread Cert.SumUp.nD Cert.SumUp.τ).loc Cert.SumUp.main_arg3))).2 = (fun _ => 1#1)

def Pre_SumUpIdeal [hPre_up_place_named : Cert.Pre_up_place_named.Facts] (m : (ℓ : Loc Cert.SumUpIdeal.nD Cert.SumUpIdeal.τ Cert.SumUpIdeal.sig) → Buf (Elt Ideal) ℓ) : Prop :=
  ∀ c : Dev Cert.SumUpIdeal.nD,
    (Cert.Pre_up_place_named.fn (F := Ideal) (m ((c.tc : Thread Cert.SumUpIdeal.nD Cert.SumUpIdeal.τ).loc Cert.SumUpIdeal.main_arg0)) (m ((c.tc : Thread Cert.SumUpIdeal.nD Cert.SumUpIdeal.τ).loc Cert.SumUpIdeal.main_arg1)) (m ((c.tc : Thread Cert.SumUpIdeal.nD Cert.SumUpIdeal.τ).loc Cert.SumUpIdeal.main_arg2)) (m ((c.tc : Thread Cert.SumUpIdeal.nD Cert.SumUpIdeal.τ).loc Cert.SumUpIdeal.main_arg3))).1 = (fun _ => 1#1)
    ∧ (Cert.Pre_up_place_named.fn (F := Ideal) (m ((c.tc : Thread Cert.SumUpIdeal.nD Cert.SumUpIdeal.τ).loc Cert.SumUpIdeal.main_arg0)) (m ((c.tc : Thread Cert.SumUpIdeal.nD Cert.SumUpIdeal.τ).loc Cert.SumUpIdeal.main_arg1)) (m ((c.tc : Thread Cert.SumUpIdeal.nD Cert.SumUpIdeal.τ).loc Cert.SumUpIdeal.main_arg2)) (m ((c.tc : Thread Cert.SumUpIdeal.nD Cert.SumUpIdeal.τ).loc Cert.SumUpIdeal.main_arg3))).2 = (fun _ => 1#1)

def Pre_SumUpRefIdeal (m : (ℓ : Loc Cert.SumUpRefIdeal.nD Cert.SumUpRefIdeal.τ Cert.SumUpRefIdeal.sig) → Buf (Elt Ideal) ℓ) : Prop :=
  True

def Pre_SumUpRefIdeal_up_place_named [hPre_up_place_named : Cert.Pre_up_place_named.Facts] (m : (ℓ : Loc Cert.SumUpRefIdeal.nD Cert.SumUpRefIdeal.τ Cert.SumUpRefIdeal.sig) → Buf (Elt Ideal) ℓ) : Prop :=
  ∀ c : Dev Cert.SumUpRefIdeal.nD,
    (Cert.Pre_up_place_named.fn (F := Ideal) (m ((c.tc : Thread Cert.SumUpRefIdeal.nD Cert.SumUpRefIdeal.τ).loc Cert.SumUpRefIdeal.main_arg0)) (m ((c.tc : Thread Cert.SumUpRefIdeal.nD Cert.SumUpRefIdeal.τ).loc Cert.SumUpRefIdeal.main_arg1)) (m ((c.tc : Thread Cert.SumUpRefIdeal.nD Cert.SumUpRefIdeal.τ).loc Cert.SumUpRefIdeal.main_arg2)) (m ((c.tc : Thread Cert.SumUpRefIdeal.nD Cert.SumUpRefIdeal.τ).loc Cert.SumUpRefIdeal.main_arg3))).1 = (fun _ => 1#1)
    ∧ (Cert.Pre_up_place_named.fn (F := Ideal) (m ((c.tc : Thread Cert.SumUpRefIdeal.nD Cert.SumUpRefIdeal.τ).loc Cert.SumUpRefIdeal.main_arg0)) (m ((c.tc : Thread Cert.SumUpRefIdeal.nD Cert.SumUpRefIdeal.τ).loc Cert.SumUpRefIdeal.main_arg1)) (m ((c.tc : Thread Cert.SumUpRefIdeal.nD Cert.SumUpRefIdeal.τ).loc Cert.SumUpRefIdeal.main_arg2)) (m ((c.tc : Thread Cert.SumUpRefIdeal.nD Cert.SumUpRefIdeal.τ).loc Cert.SumUpRefIdeal.main_arg3))).2 = (fun _ => 1#1)

def Pre_SumOut [hPre_out_place_named : Cert.Pre_out_place_named.Facts] (m : (ℓ : Loc Cert.SumOut.nD Cert.SumOut.τ Cert.SumOut.sig) → Buf (Elt Bits) ℓ) : Prop :=
  ∀ c : Dev Cert.SumOut.nD,
    (Cert.Pre_out_place_named.fn (F := Bits) (m ((c.tc : Thread Cert.SumOut.nD Cert.SumOut.τ).loc Cert.SumOut.main_arg0)) (m ((c.tc : Thread Cert.SumOut.nD Cert.SumOut.τ).loc Cert.SumOut.main_arg1)) (m ((c.tc : Thread Cert.SumOut.nD Cert.SumOut.τ).loc Cert.SumOut.main_arg2)) (m ((c.tc : Thread Cert.SumOut.nD Cert.SumOut.τ).loc Cert.SumOut.main_arg3))).1 = (fun _ => 1#1)
    ∧ (Cert.Pre_out_place_named.fn (F := Bits) (m ((c.tc : Thread Cert.SumOut.nD Cert.SumOut.τ).loc Cert.SumOut.main_arg0)) (m ((c.tc : Thread Cert.SumOut.nD Cert.SumOut.τ).loc Cert.SumOut.main_arg1)) (m ((c.tc : Thread Cert.SumOut.nD Cert.SumOut.τ).loc Cert.SumOut.main_arg2)) (m ((c.tc : Thread Cert.SumOut.nD Cert.SumOut.τ).loc Cert.SumOut.main_arg3))).2 = (fun _ => 1#1)

def Pre_SumOutIdeal [hPre_out_place_named : Cert.Pre_out_place_named.Facts] (m : (ℓ : Loc Cert.SumOutIdeal.nD Cert.SumOutIdeal.τ Cert.SumOutIdeal.sig) → Buf (Elt Ideal) ℓ) : Prop :=
  ∀ c : Dev Cert.SumOutIdeal.nD,
    (Cert.Pre_out_place_named.fn (F := Ideal) (m ((c.tc : Thread Cert.SumOutIdeal.nD Cert.SumOutIdeal.τ).loc Cert.SumOutIdeal.main_arg0)) (m ((c.tc : Thread Cert.SumOutIdeal.nD Cert.SumOutIdeal.τ).loc Cert.SumOutIdeal.main_arg1)) (m ((c.tc : Thread Cert.SumOutIdeal.nD Cert.SumOutIdeal.τ).loc Cert.SumOutIdeal.main_arg2)) (m ((c.tc : Thread Cert.SumOutIdeal.nD Cert.SumOutIdeal.τ).loc Cert.SumOutIdeal.main_arg3))).1 = (fun _ => 1#1)
    ∧ (Cert.Pre_out_place_named.fn (F := Ideal) (m ((c.tc : Thread Cert.SumOutIdeal.nD Cert.SumOutIdeal.τ).loc Cert.SumOutIdeal.main_arg0)) (m ((c.tc : Thread Cert.SumOutIdeal.nD Cert.SumOutIdeal.τ).loc Cert.SumOutIdeal.main_arg1)) (m ((c.tc : Thread Cert.SumOutIdeal.nD Cert.SumOutIdeal.τ).loc Cert.SumOutIdeal.main_arg2)) (m ((c.tc : Thread Cert.SumOutIdeal.nD Cert.SumOutIdeal.τ).loc Cert.SumOutIdeal.main_arg3))).2 = (fun _ => 1#1)

def Pre_SumOutRefIdeal (m : (ℓ : Loc Cert.SumOutRefIdeal.nD Cert.SumOutRefIdeal.τ Cert.SumOutRefIdeal.sig) → Buf (Elt Ideal) ℓ) : Prop :=
  True

def Pre_SumOutRefIdeal_out_place_named [hPre_out_place_named : Cert.Pre_out_place_named.Facts] (m : (ℓ : Loc Cert.SumOutRefIdeal.nD Cert.SumOutRefIdeal.τ Cert.SumOutRefIdeal.sig) → Buf (Elt Ideal) ℓ) : Prop :=
  ∀ c : Dev Cert.SumOutRefIdeal.nD,
    (Cert.Pre_out_place_named.fn (F := Ideal) (m ((c.tc : Thread Cert.SumOutRefIdeal.nD Cert.SumOutRefIdeal.τ).loc Cert.SumOutRefIdeal.main_arg0)) (m ((c.tc : Thread Cert.SumOutRefIdeal.nD Cert.SumOutRefIdeal.τ).loc Cert.SumOutRefIdeal.main_arg1)) (m ((c.tc : Thread Cert.SumOutRefIdeal.nD Cert.SumOutRefIdeal.τ).loc Cert.SumOutRefIdeal.main_arg2)) (m ((c.tc : Thread Cert.SumOutRefIdeal.nD Cert.SumOutRefIdeal.τ).loc Cert.SumOutRefIdeal.main_arg3))).1 = (fun _ => 1#1)
    ∧ (Cert.Pre_out_place_named.fn (F := Ideal) (m ((c.tc : Thread Cert.SumOutRefIdeal.nD Cert.SumOutRefIdeal.τ).loc Cert.SumOutRefIdeal.main_arg0)) (m ((c.tc : Thread Cert.SumOutRefIdeal.nD Cert.SumOutRefIdeal.τ).loc Cert.SumOutRefIdeal.main_arg1)) (m ((c.tc : Thread Cert.SumOutRefIdeal.nD Cert.SumOutRefIdeal.τ).loc Cert.SumOutRefIdeal.main_arg2)) (m ((c.tc : Thread Cert.SumOutRefIdeal.nD Cert.SumOutRefIdeal.τ).loc Cert.SumOutRefIdeal.main_arg3))).2 = (fun _ => 1#1)

def Pre_SumMixIn [hPre_mix_in_place_named : Cert.Pre_mix_in_place_named.Facts] (m : (ℓ : Loc Cert.SumMixIn.nD Cert.SumMixIn.τ Cert.SumMixIn.sig) → Buf (Elt Bits) ℓ) : Prop :=
  ∀ c : Dev Cert.SumMixIn.nD,
    (Cert.Pre_mix_in_place_named.fn (F := Bits) (m ((c.tc : Thread Cert.SumMixIn.nD Cert.SumMixIn.τ).loc Cert.SumMixIn.main_arg0)) (m ((c.tc : Thread Cert.SumMixIn.nD Cert.SumMixIn.τ).loc Cert.SumMixIn.main_arg1)) (m ((c.tc : Thread Cert.SumMixIn.nD Cert.SumMixIn.τ).loc Cert.SumMixIn.main_arg2)) (m ((c.tc : Thread Cert.SumMixIn.nD Cert.SumMixIn.τ).loc Cert.SumMixIn.main_arg3))).1 = (fun _ => 1#1)
    ∧ (Cert.Pre_mix_in_place_named.fn (F := Bits) (m ((c.tc : Thread Cert.SumMixIn.nD Cert.SumMixIn.τ).loc Cert.SumMixIn.main_arg0)) (m ((c.tc : Thread Cert.SumMixIn.nD Cert.SumMixIn.τ).loc Cert.SumMixIn.main_arg1)) (m ((c.tc : Thread Cert.SumMixIn.nD Cert.SumMixIn.τ).loc Cert.SumMixIn.main_arg2)) (m ((c.tc : Thread Cert.SumMixIn.nD Cert.SumMixIn.τ).loc Cert.SumMixIn.main_arg3))).2 = (fun _ => 1#1)

def Pre_SumMixInIdeal [hPre_mix_in_place_named : Cert.Pre_mix_in_place_named.Facts] (m : (ℓ : Loc Cert.SumMixInIdeal.nD Cert.SumMixInIdeal.τ Cert.SumMixInIdeal.sig) → Buf (Elt Ideal) ℓ) : Prop :=
  ∀ c : Dev Cert.SumMixInIdeal.nD,
    (Cert.Pre_mix_in_place_named.fn (F := Ideal) (m ((c.tc : Thread Cert.SumMixInIdeal.nD Cert.SumMixInIdeal.τ).loc Cert.SumMixInIdeal.main_arg0)) (m ((c.tc : Thread Cert.SumMixInIdeal.nD Cert.SumMixInIdeal.τ).loc Cert.SumMixInIdeal.main_arg1)) (m ((c.tc : Thread Cert.SumMixInIdeal.nD Cert.SumMixInIdeal.τ).loc Cert.SumMixInIdeal.main_arg2)) (m ((c.tc : Thread Cert.SumMixInIdeal.nD Cert.SumMixInIdeal.τ).loc Cert.SumMixInIdeal.main_arg3))).1 = (fun _ => 1#1)
    ∧ (Cert.Pre_mix_in_place_named.fn (F := Ideal) (m ((c.tc : Thread Cert.SumMixInIdeal.nD Cert.SumMixInIdeal.τ).loc Cert.SumMixInIdeal.main_arg0)) (m ((c.tc : Thread Cert.SumMixInIdeal.nD Cert.SumMixInIdeal.τ).loc Cert.SumMixInIdeal.main_arg1)) (m ((c.tc : Thread Cert.SumMixInIdeal.nD Cert.SumMixInIdeal.τ).loc Cert.SumMixInIdeal.main_arg2)) (m ((c.tc : Thread Cert.SumMixInIdeal.nD Cert.SumMixInIdeal.τ).loc Cert.SumMixInIdeal.main_arg3))).2 = (fun _ => 1#1)

def Pre_SumMixInRefIdeal (m : (ℓ : Loc Cert.SumMixInRefIdeal.nD Cert.SumMixInRefIdeal.τ Cert.SumMixInRefIdeal.sig) → Buf (Elt Ideal) ℓ) : Prop :=
  True

def Pre_SumMixInRefIdeal_mix_in_place_named [hPre_mix_in_place_named : Cert.Pre_mix_in_place_named.Facts] (m : (ℓ : Loc Cert.SumMixInRefIdeal.nD Cert.SumMixInRefIdeal.τ Cert.SumMixInRefIdeal.sig) → Buf (Elt Ideal) ℓ) : Prop :=
  ∀ c : Dev Cert.SumMixInRefIdeal.nD,
    (Cert.Pre_mix_in_place_named.fn (F := Ideal) (m ((c.tc : Thread Cert.SumMixInRefIdeal.nD Cert.SumMixInRefIdeal.τ).loc Cert.SumMixInRefIdeal.main_arg0)) (m ((c.tc : Thread Cert.SumMixInRefIdeal.nD Cert.SumMixInRefIdeal.τ).loc Cert.SumMixInRefIdeal.main_arg1)) (m ((c.tc : Thread Cert.SumMixInRefIdeal.nD Cert.SumMixInRefIdeal.τ).loc Cert.SumMixInRefIdeal.main_arg2)) (m ((c.tc : Thread Cert.SumMixInRefIdeal.nD Cert.SumMixInRefIdeal.τ).loc Cert.SumMixInRefIdeal.main_arg3))).1 = (fun _ => 1#1)
    ∧ (Cert.Pre_mix_in_place_named.fn (F := Ideal) (m ((c.tc : Thread Cert.SumMixInRefIdeal.nD Cert.SumMixInRefIdeal.τ).loc Cert.SumMixInRefIdeal.main_arg0)) (m ((c.tc : Thread Cert.SumMixInRefIdeal.nD Cert.SumMixInRefIdeal.τ).loc Cert.SumMixInRefIdeal.main_arg1)) (m ((c.tc : Thread Cert.SumMixInRefIdeal.nD Cert.SumMixInRefIdeal.τ).loc Cert.SumMixInRefIdeal.main_arg2)) (m ((c.tc : Thread Cert.SumMixInRefIdeal.nD Cert.SumMixInRefIdeal.τ).loc Cert.SumMixInRefIdeal.main_arg3))).2 = (fun _ => 1#1)

def Pre_SumMixOut [hPre_mix_out_place_named : Cert.Pre_mix_out_place_named.Facts] (m : (ℓ : Loc Cert.SumMixOut.nD Cert.SumMixOut.τ Cert.SumMixOut.sig) → Buf (Elt Bits) ℓ) : Prop :=
  ∀ c : Dev Cert.SumMixOut.nD,
    (Cert.Pre_mix_out_place_named.fn (F := Bits) (m ((c.tc : Thread Cert.SumMixOut.nD Cert.SumMixOut.τ).loc Cert.SumMixOut.main_arg0)) (m ((c.tc : Thread Cert.SumMixOut.nD Cert.SumMixOut.τ).loc Cert.SumMixOut.main_arg1)) (m ((c.tc : Thread Cert.SumMixOut.nD Cert.SumMixOut.τ).loc Cert.SumMixOut.main_arg2)) (m ((c.tc : Thread Cert.SumMixOut.nD Cert.SumMixOut.τ).loc Cert.SumMixOut.main_arg3))).1 = (fun _ => 1#1)
    ∧ (Cert.Pre_mix_out_place_named.fn (F := Bits) (m ((c.tc : Thread Cert.SumMixOut.nD Cert.SumMixOut.τ).loc Cert.SumMixOut.main_arg0)) (m ((c.tc : Thread Cert.SumMixOut.nD Cert.SumMixOut.τ).loc Cert.SumMixOut.main_arg1)) (m ((c.tc : Thread Cert.SumMixOut.nD Cert.SumMixOut.τ).loc Cert.SumMixOut.main_arg2)) (m ((c.tc : Thread Cert.SumMixOut.nD Cert.SumMixOut.τ).loc Cert.SumMixOut.main_arg3))).2 = (fun _ => 1#1)

def Pre_SumMixOutIdeal [hPre_mix_out_place_named : Cert.Pre_mix_out_place_named.Facts] (m : (ℓ : Loc Cert.SumMixOutIdeal.nD Cert.SumMixOutIdeal.τ Cert.SumMixOutIdeal.sig) → Buf (Elt Ideal) ℓ) : Prop :=
  ∀ c : Dev Cert.SumMixOutIdeal.nD,
    (Cert.Pre_mix_out_place_named.fn (F := Ideal) (m ((c.tc : Thread Cert.SumMixOutIdeal.nD Cert.SumMixOutIdeal.τ).loc Cert.SumMixOutIdeal.main_arg0)) (m ((c.tc : Thread Cert.SumMixOutIdeal.nD Cert.SumMixOutIdeal.τ).loc Cert.SumMixOutIdeal.main_arg1)) (m ((c.tc : Thread Cert.SumMixOutIdeal.nD Cert.SumMixOutIdeal.τ).loc Cert.SumMixOutIdeal.main_arg2)) (m ((c.tc : Thread Cert.SumMixOutIdeal.nD Cert.SumMixOutIdeal.τ).loc Cert.SumMixOutIdeal.main_arg3))).1 = (fun _ => 1#1)
    ∧ (Cert.Pre_mix_out_place_named.fn (F := Ideal) (m ((c.tc : Thread Cert.SumMixOutIdeal.nD Cert.SumMixOutIdeal.τ).loc Cert.SumMixOutIdeal.main_arg0)) (m ((c.tc : Thread Cert.SumMixOutIdeal.nD Cert.SumMixOutIdeal.τ).loc Cert.SumMixOutIdeal.main_arg1)) (m ((c.tc : Thread Cert.SumMixOutIdeal.nD Cert.SumMixOutIdeal.τ).loc Cert.SumMixOutIdeal.main_arg2)) (m ((c.tc : Thread Cert.SumMixOutIdeal.nD Cert.SumMixOutIdeal.τ).loc Cert.SumMixOutIdeal.main_arg3))).2 = (fun _ => 1#1)

def Pre_SumMixOutRefIdeal (m : (ℓ : Loc Cert.SumMixOutRefIdeal.nD Cert.SumMixOutRefIdeal.τ Cert.SumMixOutRefIdeal.sig) → Buf (Elt Ideal) ℓ) : Prop :=
  True

def Pre_SumMixOutRefIdeal_mix_out_place_named [hPre_mix_out_place_named : Cert.Pre_mix_out_place_named.Facts] (m : (ℓ : Loc Cert.SumMixOutRefIdeal.nD Cert.SumMixOutRefIdeal.τ Cert.SumMixOutRefIdeal.sig) → Buf (Elt Ideal) ℓ) : Prop :=
  ∀ c : Dev Cert.SumMixOutRefIdeal.nD,
    (Cert.Pre_mix_out_place_named.fn (F := Ideal) (m ((c.tc : Thread Cert.SumMixOutRefIdeal.nD Cert.SumMixOutRefIdeal.τ).loc Cert.SumMixOutRefIdeal.main_arg0)) (m ((c.tc : Thread Cert.SumMixOutRefIdeal.nD Cert.SumMixOutRefIdeal.τ).loc Cert.SumMixOutRefIdeal.main_arg1)) (m ((c.tc : Thread Cert.SumMixOutRefIdeal.nD Cert.SumMixOutRefIdeal.τ).loc Cert.SumMixOutRefIdeal.main_arg2)) (m ((c.tc : Thread Cert.SumMixOutRefIdeal.nD Cert.SumMixOutRefIdeal.τ).loc Cert.SumMixOutRefIdeal.main_arg3))).1 = (fun _ => 1#1)
    ∧ (Cert.Pre_mix_out_place_named.fn (F := Ideal) (m ((c.tc : Thread Cert.SumMixOutRefIdeal.nD Cert.SumMixOutRefIdeal.τ).loc Cert.SumMixOutRefIdeal.main_arg0)) (m ((c.tc : Thread Cert.SumMixOutRefIdeal.nD Cert.SumMixOutRefIdeal.τ).loc Cert.SumMixOutRefIdeal.main_arg1)) (m ((c.tc : Thread Cert.SumMixOutRefIdeal.nD Cert.SumMixOutRefIdeal.τ).loc Cert.SumMixOutRefIdeal.main_arg2)) (m ((c.tc : Thread Cert.SumMixOutRefIdeal.nD Cert.SumMixOutRefIdeal.τ).loc Cert.SumMixOutRefIdeal.main_arg3))).2 = (fun _ => 1#1)

def Pre_SumPool [hPre_pool_place_named : Cert.Pre_pool_place_named.Facts] (m : (ℓ : Loc Cert.SumPool.nD Cert.SumPool.τ Cert.SumPool.sig) → Buf (Elt Bits) ℓ) : Prop :=
  ∀ c : Dev Cert.SumPool.nD,
    (Cert.Pre_pool_place_named.fn (F := Bits) (m ((c.tc : Thread Cert.SumPool.nD Cert.SumPool.τ).loc Cert.SumPool.main_arg0)) (m ((c.tc : Thread Cert.SumPool.nD Cert.SumPool.τ).loc Cert.SumPool.main_arg1)) (m ((c.tc : Thread Cert.SumPool.nD Cert.SumPool.τ).loc Cert.SumPool.main_arg2)) (m ((c.tc : Thread Cert.SumPool.nD Cert.SumPool.τ).loc Cert.SumPool.main_arg3))).1 = (fun _ => 1#1)
    ∧ (Cert.Pre_pool_place_named.fn (F := Bits) (m ((c.tc : Thread Cert.SumPool.nD Cert.SumPool.τ).loc Cert.SumPool.main_arg0)) (m ((c.tc : Thread Cert.SumPool.nD Cert.SumPool.τ).loc Cert.SumPool.main_arg1)) (m ((c.tc : Thread Cert.SumPool.nD Cert.SumPool.τ).loc Cert.SumPool.main_arg2)) (m ((c.tc : Thread Cert.SumPool.nD Cert.SumPool.τ).loc Cert.SumPool.main_arg3))).2 = (fun _ => 1#1)

def Pre_SumPoolIdeal [hPre_pool_place_named : Cert.Pre_pool_place_named.Facts] (m : (ℓ : Loc Cert.SumPoolIdeal.nD Cert.SumPoolIdeal.τ Cert.SumPoolIdeal.sig) → Buf (Elt Ideal) ℓ) : Prop :=
  ∀ c : Dev Cert.SumPoolIdeal.nD,
    (Cert.Pre_pool_place_named.fn (F := Ideal) (m ((c.tc : Thread Cert.SumPoolIdeal.nD Cert.SumPoolIdeal.τ).loc Cert.SumPoolIdeal.main_arg0)) (m ((c.tc : Thread Cert.SumPoolIdeal.nD Cert.SumPoolIdeal.τ).loc Cert.SumPoolIdeal.main_arg1)) (m ((c.tc : Thread Cert.SumPoolIdeal.nD Cert.SumPoolIdeal.τ).loc Cert.SumPoolIdeal.main_arg2)) (m ((c.tc : Thread Cert.SumPoolIdeal.nD Cert.SumPoolIdeal.τ).loc Cert.SumPoolIdeal.main_arg3))).1 = (fun _ => 1#1)
    ∧ (Cert.Pre_pool_place_named.fn (F := Ideal) (m ((c.tc : Thread Cert.SumPoolIdeal.nD Cert.SumPoolIdeal.τ).loc Cert.SumPoolIdeal.main_arg0)) (m ((c.tc : Thread Cert.SumPoolIdeal.nD Cert.SumPoolIdeal.τ).loc Cert.SumPoolIdeal.main_arg1)) (m ((c.tc : Thread Cert.SumPoolIdeal.nD Cert.SumPoolIdeal.τ).loc Cert.SumPoolIdeal.main_arg2)) (m ((c.tc : Thread Cert.SumPoolIdeal.nD Cert.SumPoolIdeal.τ).loc Cert.SumPoolIdeal.main_arg3))).2 = (fun _ => 1#1)

def Pre_SumPoolRefIdeal (m : (ℓ : Loc Cert.SumPoolRefIdeal.nD Cert.SumPoolRefIdeal.τ Cert.SumPoolRefIdeal.sig) → Buf (Elt Ideal) ℓ) : Prop :=
  True

def Pre_SumPoolRefIdeal_pool_place_named [hPre_pool_place_named : Cert.Pre_pool_place_named.Facts] (m : (ℓ : Loc Cert.SumPoolRefIdeal.nD Cert.SumPoolRefIdeal.τ Cert.SumPoolRefIdeal.sig) → Buf (Elt Ideal) ℓ) : Prop :=
  ∀ c : Dev Cert.SumPoolRefIdeal.nD,
    (Cert.Pre_pool_place_named.fn (F := Ideal) (m ((c.tc : Thread Cert.SumPoolRefIdeal.nD Cert.SumPoolRefIdeal.τ).loc Cert.SumPoolRefIdeal.main_arg0)) (m ((c.tc : Thread Cert.SumPoolRefIdeal.nD Cert.SumPoolRefIdeal.τ).loc Cert.SumPoolRefIdeal.main_arg1)) (m ((c.tc : Thread Cert.SumPoolRefIdeal.nD Cert.SumPoolRefIdeal.τ).loc Cert.SumPoolRefIdeal.main_arg2)) (m ((c.tc : Thread Cert.SumPoolRefIdeal.nD Cert.SumPoolRefIdeal.τ).loc Cert.SumPoolRefIdeal.main_arg3))).1 = (fun _ => 1#1)
    ∧ (Cert.Pre_pool_place_named.fn (F := Ideal) (m ((c.tc : Thread Cert.SumPoolRefIdeal.nD Cert.SumPoolRefIdeal.τ).loc Cert.SumPoolRefIdeal.main_arg0)) (m ((c.tc : Thread Cert.SumPoolRefIdeal.nD Cert.SumPoolRefIdeal.τ).loc Cert.SumPoolRefIdeal.main_arg1)) (m ((c.tc : Thread Cert.SumPoolRefIdeal.nD Cert.SumPoolRefIdeal.τ).loc Cert.SumPoolRefIdeal.main_arg2)) (m ((c.tc : Thread Cert.SumPoolRefIdeal.nD Cert.SumPoolRefIdeal.τ).loc Cert.SumPoolRefIdeal.main_arg3))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1)
      ∧ r.2.mem ((c.tc : Thread Cert.Norm.nD Cert.Norm.τ).loc Cert.Norm.main_arg2) = m ((c.tc : Thread Cert.Norm.nD Cert.Norm.τ).loc Cert.Norm.main_arg2)
      ∧ r.2.mem ((c.tc : Thread Cert.Norm.nD Cert.Norm.τ).loc Cert.Norm.main_arg3) = m ((c.tc : Thread Cert.Norm.nD Cert.Norm.τ).loc Cert.Norm.main_arg3)
      ∧ r.2.mem ((c.tc : Thread Cert.Norm.nD Cert.Norm.τ).loc Cert.Norm.main_arg4) = m ((c.tc : Thread Cert.Norm.nD Cert.Norm.τ).loc Cert.Norm.main_arg4))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
      ∧ r.2.mem ((c.tc : Thread Cert.NormIdeal.nD Cert.NormIdeal.τ).loc Cert.NormIdeal.main_arg3) = m ((c.tc : Thread Cert.NormIdeal.nD Cert.NormIdeal.τ).loc Cert.NormIdeal.main_arg3)
      ∧ r.2.mem ((c.tc : Thread Cert.NormIdeal.nD Cert.NormIdeal.τ).loc Cert.NormIdeal.main_arg4) = m ((c.tc : Thread Cert.NormIdeal.nD Cert.NormIdeal.τ).loc Cert.NormIdeal.main_arg4))
      ∧ r.2.sem = fun _ => 0)

def quiescent_NormIdeal_pre_norm_finite [hNormIdeal : Cert.NormIdeal.Facts] [hPre_norm_finite : Cert.Pre_norm_finite.Facts] : Prop :=
  ∀ (m : (ℓ : Loc Cert.NormIdeal.nD Cert.NormIdeal.τ Cert.NormIdeal.sig) → Buf (Elt Ideal) ℓ) (g : Dev Cert.NormIdeal.nD → PrngReg), Pre_NormIdeal_norm_finite m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
      ∧ r.2.mem ((c.tc : Thread Cert.NormIdeal.nD Cert.NormIdeal.τ).loc Cert.NormIdeal.main_arg3) = m ((c.tc : Thread Cert.NormIdeal.nD Cert.NormIdeal.τ).loc Cert.NormIdeal.main_arg3)
      ∧ r.2.mem ((c.tc : Thread Cert.NormIdeal.nD Cert.NormIdeal.τ).loc Cert.NormIdeal.main_arg4) = m ((c.tc : Thread Cert.NormIdeal.nD Cert.NormIdeal.τ).loc Cert.NormIdeal.main_arg4))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1)
      ∧ r.2.mem ((c.tc : Thread Cert.NormRefIdeal.nD Cert.NormRefIdeal.τ).loc Cert.NormRefIdeal.main_arg2) = m ((c.tc : Thread Cert.NormRefIdeal.nD Cert.NormRefIdeal.τ).loc Cert.NormRefIdeal.main_arg2)
      ∧ r.2.mem ((c.tc : Thread Cert.NormRefIdeal.nD Cert.NormRefIdeal.τ).loc Cert.NormRefIdeal.main_arg3) = m ((c.tc : Thread Cert.NormRefIdeal.nD Cert.NormRefIdeal.τ).loc Cert.NormRefIdeal.main_arg3)
      ∧ r.2.mem ((c.tc : Thread Cert.NormRefIdeal.nD Cert.NormRefIdeal.τ).loc Cert.NormRefIdeal.main_arg4) = m ((c.tc : Thread Cert.NormRefIdeal.nD Cert.NormRefIdeal.τ).loc Cert.NormRefIdeal.main_arg4))
      ∧ r.2.sem = fun _ => 0)

def quiescent_NormRefIdeal_pre_norm_finite [hNormRefIdeal : Cert.NormRefIdeal.Facts] [hPre_norm_finite : Cert.Pre_norm_finite.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal_norm_finite m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1)
      ∧ r.2.mem ((c.tc : Thread Cert.NormRefIdeal.nD Cert.NormRefIdeal.τ).loc Cert.NormRefIdeal.main_arg2) = m ((c.tc : Thread Cert.NormRefIdeal.nD Cert.NormRefIdeal.τ).loc Cert.NormRefIdeal.main_arg2)
      ∧ r.2.mem ((c.tc : Thread Cert.NormRefIdeal.nD Cert.NormRefIdeal.τ).loc Cert.NormRefIdeal.main_arg3) = m ((c.tc : Thread Cert.NormRefIdeal.nD Cert.NormRefIdeal.τ).loc Cert.NormRefIdeal.main_arg3)
      ∧ r.2.mem ((c.tc : Thread Cert.NormRefIdeal.nD Cert.NormRefIdeal.τ).loc Cert.NormRefIdeal.main_arg4) = m ((c.tc : Thread Cert.NormRefIdeal.nD Cert.NormRefIdeal.τ).loc Cert.NormRefIdeal.main_arg4))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2))
      ∧ r.2.sem = fun _ => 0)

def quiescent_Sent [hSent : Cert.Sent.Facts] [hPre_core_named : Cert.Pre_core_named.Facts] : Prop :=
  ∀ (m : (ℓ : Loc Cert.Sent.nD Cert.Sent.τ Cert.Sent.sig) → Buf (Elt Bits) ℓ) (g : Dev Cert.Sent.nD → PrngReg), Pre_Sent m →
    θ_run (Cert.Sent.defs (F := Bits)) (onTc (τ := Cert.Sent.τ) (Cert.Sent.main (F := Bits))) ⟨m, fun _ => 0, g⟩ (fun r => (∀ c : Dev Cert.Sent.nD,
      r.2.mem ((c.tc : Thread Cert.Sent.nD Cert.Sent.τ).loc Cert.Sent.main_arg0) = m ((c.tc : Thread Cert.Sent.nD Cert.Sent.τ).loc Cert.Sent.main_arg0)
      ∧ r.2.mem ((c.tc : Thread Cert.Sent.nD Cert.Sent.τ).loc Cert.Sent.main_arg1) = m ((c.tc : Thread Cert.Sent.nD Cert.Sent.τ).loc Cert.Sent.main_arg1)
      ∧ r.2.mem ((c.tc : Thread Cert.Sent.nD Cert.Sent.τ).loc Cert.Sent.main_arg2) = m ((c.tc : Thread Cert.Sent.nD Cert.Sent.τ).loc Cert.Sent.main_arg2)
      ∧ r.2.mem ((c.tc : Thread Cert.Sent.nD Cert.Sent.τ).loc Cert.Sent.main_arg3) = m ((c.tc : Thread Cert.Sent.nD Cert.Sent.τ).loc Cert.Sent.main_arg3))
      ∧ r.2.sem = fun _ => 0)

def quiescent_SentIdeal [hSentIdeal : Cert.SentIdeal.Facts] [hPre_core_named : Cert.Pre_core_named.Facts] : Prop :=
  ∀ (m : (ℓ : Loc Cert.SentIdeal.nD Cert.SentIdeal.τ Cert.SentIdeal.sig) → Buf (Elt Ideal) ℓ) (g : Dev Cert.SentIdeal.nD → PrngReg), Pre_SentIdeal m →
    θ_run (Cert.SentIdeal.defs (F := Ideal)) (onTc (τ := Cert.SentIdeal.τ) (Cert.SentIdeal.main (F := Ideal))) ⟨m, fun _ => 0, g⟩ (fun r => (∀ c : Dev Cert.SentIdeal.nD,
      r.2.mem ((c.tc : Thread Cert.SentIdeal.nD Cert.SentIdeal.τ).loc Cert.SentIdeal.main_arg0) = m ((c.tc : Thread Cert.SentIdeal.nD Cert.SentIdeal.τ).loc Cert.SentIdeal.main_arg0)
      ∧ r.2.mem ((c.tc : Thread Cert.SentIdeal.nD Cert.SentIdeal.τ).loc Cert.SentIdeal.main_arg1) = m ((c.tc : Thread Cert.SentIdeal.nD Cert.SentIdeal.τ).loc Cert.SentIdeal.main_arg1)
      ∧ r.2.mem ((c.tc : Thread Cert.SentIdeal.nD Cert.SentIdeal.τ).loc Cert.SentIdeal.main_arg2) = m ((c.tc : Thread Cert.SentIdeal.nD Cert.SentIdeal.τ).loc Cert.SentIdeal.main_arg2)
      ∧ r.2.mem ((c.tc : Thread Cert.SentIdeal.nD Cert.SentIdeal.τ).loc Cert.SentIdeal.main_arg3) = m ((c.tc : Thread Cert.SentIdeal.nD Cert.SentIdeal.τ).loc Cert.SentIdeal.main_arg3))
      ∧ r.2.sem = fun _ => 0)

def quiescent_SentRefIdeal [hSentRefIdeal : Cert.SentRefIdeal.Facts] : Prop :=
  ∀ (m : (ℓ : Loc Cert.SentRefIdeal.nD Cert.SentRefIdeal.τ Cert.SentRefIdeal.sig) → Buf (Elt Ideal) ℓ) (g : Dev Cert.SentRefIdeal.nD → PrngReg), Pre_SentRefIdeal m →
    θ_run (Cert.SentRefIdeal.defs (F := Ideal)) (onTc (τ := Cert.SentRefIdeal.τ) (Cert.SentRefIdeal.main (F := Ideal))) ⟨m, fun _ => 0, g⟩ (fun r => (∀ c : Dev Cert.SentRefIdeal.nD,
      r.2.mem ((c.tc : Thread Cert.SentRefIdeal.nD Cert.SentRefIdeal.τ).loc Cert.SentRefIdeal.main_arg0) = m ((c.tc : Thread Cert.SentRefIdeal.nD Cert.SentRefIdeal.τ).loc Cert.SentRefIdeal.main_arg0)
      ∧ r.2.mem ((c.tc : Thread Cert.SentRefIdeal.nD Cert.SentRefIdeal.τ).loc Cert.SentRefIdeal.main_arg1) = m ((c.tc : Thread Cert.SentRefIdeal.nD Cert.SentRefIdeal.τ).loc Cert.SentRefIdeal.main_arg1)
      ∧ r.2.mem ((c.tc : Thread Cert.SentRefIdeal.nD Cert.SentRefIdeal.τ).loc Cert.SentRefIdeal.main_arg2) = m ((c.tc : Thread Cert.SentRefIdeal.nD Cert.SentRefIdeal.τ).loc Cert.SentRefIdeal.main_arg2)
      ∧ r.2.mem ((c.tc : Thread Cert.SentRefIdeal.nD Cert.SentRefIdeal.τ).loc Cert.SentRefIdeal.main_arg3) = m ((c.tc : Thread Cert.SentRefIdeal.nD Cert.SentRefIdeal.τ).loc Cert.SentRefIdeal.main_arg3))
      ∧ r.2.sem = fun _ => 0)

def quiescent_SentRefIdeal_pre_core_named [hSentRefIdeal : Cert.SentRefIdeal.Facts] [hPre_core_named : Cert.Pre_core_named.Facts] : Prop :=
  ∀ (m : (ℓ : Loc Cert.SentRefIdeal.nD Cert.SentRefIdeal.τ Cert.SentRefIdeal.sig) → Buf (Elt Ideal) ℓ) (g : Dev Cert.SentRefIdeal.nD → PrngReg), Pre_SentRefIdeal_core_named m →
    θ_run (Cert.SentRefIdeal.defs (F := Ideal)) (onTc (τ := Cert.SentRefIdeal.τ) (Cert.SentRefIdeal.main (F := Ideal))) ⟨m, fun _ => 0, g⟩ (fun r => (∀ c : Dev Cert.SentRefIdeal.nD,
      r.2.mem ((c.tc : Thread Cert.SentRefIdeal.nD Cert.SentRefIdeal.τ).loc Cert.SentRefIdeal.main_arg0) = m ((c.tc : Thread Cert.SentRefIdeal.nD Cert.SentRefIdeal.τ).loc Cert.SentRefIdeal.main_arg0)
      ∧ r.2.mem ((c.tc : Thread Cert.SentRefIdeal.nD Cert.SentRefIdeal.τ).loc Cert.SentRefIdeal.main_arg1) = m ((c.tc : Thread Cert.SentRefIdeal.nD Cert.SentRefIdeal.τ).loc Cert.SentRefIdeal.main_arg1)
      ∧ r.2.mem ((c.tc : Thread Cert.SentRefIdeal.nD Cert.SentRefIdeal.τ).loc Cert.SentRefIdeal.main_arg2) = m ((c.tc : Thread Cert.SentRefIdeal.nD Cert.SentRefIdeal.τ).loc Cert.SentRefIdeal.main_arg2)
      ∧ r.2.mem ((c.tc : Thread Cert.SentRefIdeal.nD Cert.SentRefIdeal.τ).loc Cert.SentRefIdeal.main_arg3) = m ((c.tc : Thread Cert.SentRefIdeal.nD Cert.SentRefIdeal.τ).loc Cert.SentRefIdeal.main_arg3))
      ∧ r.2.sem = fun _ => 0)

def quiescent_Kept [hKept : Cert.Kept.Facts] [hPre_own_core_named : Cert.Pre_own_core_named.Facts] : Prop :=
  ∀ (m : (ℓ : Loc Cert.Kept.nD Cert.Kept.τ Cert.Kept.sig) → Buf (Elt Bits) ℓ) (g : Dev Cert.Kept.nD → PrngReg), Pre_Kept m →
    θ_run (Cert.Kept.defs (F := Bits)) (onTc (τ := Cert.Kept.τ) (Cert.Kept.main (F := Bits))) ⟨m, fun _ => 0, g⟩ (fun r => (∀ c : Dev Cert.Kept.nD,
      r.2.mem ((c.tc : Thread Cert.Kept.nD Cert.Kept.τ).loc Cert.Kept.main_arg0) = m ((c.tc : Thread Cert.Kept.nD Cert.Kept.τ).loc Cert.Kept.main_arg0)
      ∧ r.2.mem ((c.tc : Thread Cert.Kept.nD Cert.Kept.τ).loc Cert.Kept.main_arg1) = m ((c.tc : Thread Cert.Kept.nD Cert.Kept.τ).loc Cert.Kept.main_arg1)
      ∧ r.2.mem ((c.tc : Thread Cert.Kept.nD Cert.Kept.τ).loc Cert.Kept.main_arg2) = m ((c.tc : Thread Cert.Kept.nD Cert.Kept.τ).loc Cert.Kept.main_arg2)
      ∧ r.2.mem ((c.tc : Thread Cert.Kept.nD Cert.Kept.τ).loc Cert.Kept.main_arg3) = m ((c.tc : Thread Cert.Kept.nD Cert.Kept.τ).loc Cert.Kept.main_arg3)
      ∧ r.2.mem ((c.tc : Thread Cert.Kept.nD Cert.Kept.τ).loc Cert.Kept.main_arg4) = m ((c.tc : Thread Cert.Kept.nD Cert.Kept.τ).loc Cert.Kept.main_arg4))
      ∧ r.2.sem = fun _ => 0)

def quiescent_KeptIdeal [hKeptIdeal : Cert.KeptIdeal.Facts] [hPre_own_core_named : Cert.Pre_own_core_named.Facts] : Prop :=
  ∀ (m : (ℓ : Loc Cert.KeptIdeal.nD Cert.KeptIdeal.τ Cert.KeptIdeal.sig) → Buf (Elt Ideal) ℓ) (g : Dev Cert.KeptIdeal.nD → PrngReg), Pre_KeptIdeal m →
    θ_run (Cert.KeptIdeal.defs (F := Ideal)) (onTc (τ := Cert.KeptIdeal.τ) (Cert.KeptIdeal.main (F := Ideal))) ⟨m, fun _ => 0, g⟩ (fun r => (∀ c : Dev Cert.KeptIdeal.nD,
      r.2.mem ((c.tc : Thread Cert.KeptIdeal.nD Cert.KeptIdeal.τ).loc Cert.KeptIdeal.main_arg0) = m ((c.tc : Thread Cert.KeptIdeal.nD Cert.KeptIdeal.τ).loc Cert.KeptIdeal.main_arg0)
      ∧ r.2.mem ((c.tc : Thread Cert.KeptIdeal.nD Cert.KeptIdeal.τ).loc Cert.KeptIdeal.main_arg1) = m ((c.tc : Thread Cert.KeptIdeal.nD Cert.KeptIdeal.τ).loc Cert.KeptIdeal.main_arg1)
      ∧ r.2.mem ((c.tc : Thread Cert.KeptIdeal.nD Cert.KeptIdeal.τ).loc Cert.KeptIdeal.main_arg2) = m ((c.tc : Thread Cert.KeptIdeal.nD Cert.KeptIdeal.τ).loc Cert.KeptIdeal.main_arg2)
      ∧ r.2.mem ((c.tc : Thread Cert.KeptIdeal.nD Cert.KeptIdeal.τ).loc Cert.KeptIdeal.main_arg3) = m ((c.tc : Thread Cert.KeptIdeal.nD Cert.KeptIdeal.τ).loc Cert.KeptIdeal.main_arg3)
      ∧ r.2.mem ((c.tc : Thread Cert.KeptIdeal.nD Cert.KeptIdeal.τ).loc Cert.KeptIdeal.main_arg4) = m ((c.tc : Thread Cert.KeptIdeal.nD Cert.KeptIdeal.τ).loc Cert.KeptIdeal.main_arg4))
      ∧ r.2.sem = fun _ => 0)

def quiescent_KeptRefIdeal [hKeptRefIdeal : Cert.KeptRefIdeal.Facts] : Prop :=
  ∀ (m : (ℓ : Loc Cert.KeptRefIdeal.nD Cert.KeptRefIdeal.τ Cert.KeptRefIdeal.sig) → Buf (Elt Ideal) ℓ) (g : Dev Cert.KeptRefIdeal.nD → PrngReg), Pre_KeptRefIdeal m →
    θ_run (Cert.KeptRefIdeal.defs (F := Ideal)) (onTc (τ := Cert.KeptRefIdeal.τ) (Cert.KeptRefIdeal.main (F := Ideal))) ⟨m, fun _ => 0, g⟩ (fun r => (∀ c : Dev Cert.KeptRefIdeal.nD,
      r.2.mem ((c.tc : Thread Cert.KeptRefIdeal.nD Cert.KeptRefIdeal.τ).loc Cert.KeptRefIdeal.main_arg0) = m ((c.tc : Thread Cert.KeptRefIdeal.nD Cert.KeptRefIdeal.τ).loc Cert.KeptRefIdeal.main_arg0)
      ∧ r.2.mem ((c.tc : Thread Cert.KeptRefIdeal.nD Cert.KeptRefIdeal.τ).loc Cert.KeptRefIdeal.main_arg1) = m ((c.tc : Thread Cert.KeptRefIdeal.nD Cert.KeptRefIdeal.τ).loc Cert.KeptRefIdeal.main_arg1)
      ∧ r.2.mem ((c.tc : Thread Cert.KeptRefIdeal.nD Cert.KeptRefIdeal.τ).loc Cert.KeptRefIdeal.main_arg2) = m ((c.tc : Thread Cert.KeptRefIdeal.nD Cert.KeptRefIdeal.τ).loc Cert.KeptRefIdeal.main_arg2)
      ∧ r.2.mem ((c.tc : Thread Cert.KeptRefIdeal.nD Cert.KeptRefIdeal.τ).loc Cert.KeptRefIdeal.main_arg3) = m ((c.tc : Thread Cert.KeptRefIdeal.nD Cert.KeptRefIdeal.τ).loc Cert.KeptRefIdeal.main_arg3)
      ∧ r.2.mem ((c.tc : Thread Cert.KeptRefIdeal.nD Cert.KeptRefIdeal.τ).loc Cert.KeptRefIdeal.main_arg4) = m ((c.tc : Thread Cert.KeptRefIdeal.nD Cert.KeptRefIdeal.τ).loc Cert.KeptRefIdeal.main_arg4))
      ∧ r.2.sem = fun _ => 0)

def quiescent_KeptRefIdeal_pre_own_core_named [hKeptRefIdeal : Cert.KeptRefIdeal.Facts] [hPre_own_core_named : Cert.Pre_own_core_named.Facts] : Prop :=
  ∀ (m : (ℓ : Loc Cert.KeptRefIdeal.nD Cert.KeptRefIdeal.τ Cert.KeptRefIdeal.sig) → Buf (Elt Ideal) ℓ) (g : Dev Cert.KeptRefIdeal.nD → PrngReg), Pre_KeptRefIdeal_own_core_named m →
    θ_run (Cert.KeptRefIdeal.defs (F := Ideal)) (onTc (τ := Cert.KeptRefIdeal.τ) (Cert.KeptRefIdeal.main (F := Ideal))) ⟨m, fun _ => 0, g⟩ (fun r => (∀ c : Dev Cert.KeptRefIdeal.nD,
      r.2.mem ((c.tc : Thread Cert.KeptRefIdeal.nD Cert.KeptRefIdeal.τ).loc Cert.KeptRefIdeal.main_arg0) = m ((c.tc : Thread Cert.KeptRefIdeal.nD Cert.KeptRefIdeal.τ).loc Cert.KeptRefIdeal.main_arg0)
      ∧ r.2.mem ((c.tc : Thread Cert.KeptRefIdeal.nD Cert.KeptRefIdeal.τ).loc Cert.KeptRefIdeal.main_arg1) = m ((c.tc : Thread Cert.KeptRefIdeal.nD Cert.KeptRefIdeal.τ).loc Cert.KeptRefIdeal.main_arg1)
      ∧ r.2.mem ((c.tc : Thread Cert.KeptRefIdeal.nD Cert.KeptRefIdeal.τ).loc Cert.KeptRefIdeal.main_arg2) = m ((c.tc : Thread Cert.KeptRefIdeal.nD Cert.KeptRefIdeal.τ).loc Cert.KeptRefIdeal.main_arg2)
      ∧ r.2.mem ((c.tc : Thread Cert.KeptRefIdeal.nD Cert.KeptRefIdeal.τ).loc Cert.KeptRefIdeal.main_arg3) = m ((c.tc : Thread Cert.KeptRefIdeal.nD Cert.KeptRefIdeal.τ).loc Cert.KeptRefIdeal.main_arg3)
      ∧ r.2.mem ((c.tc : Thread Cert.KeptRefIdeal.nD Cert.KeptRefIdeal.τ).loc Cert.KeptRefIdeal.main_arg4) = m ((c.tc : Thread Cert.KeptRefIdeal.nD Cert.KeptRefIdeal.τ).loc Cert.KeptRefIdeal.main_arg4))
      ∧ r.2.sem = fun _ => 0)

def quiescent_Gla [hGla : Cert.Gla.Facts] : Prop :=
  ∀ (m : (ℓ : Loc Cert.Gla.nD Cert.Gla.τ Cert.Gla.sig) → Buf (Elt Bits) ℓ) (g : Dev Cert.Gla.nD → PrngReg), Pre_Gla m →
    θ_run (Cert.Gla.defs (F := Bits)) (onTc (τ := Cert.Gla.τ) (Cert.Gla.main (F := Bits))) ⟨m, fun _ => 0, g⟩ (fun r => (∀ c : Dev Cert.Gla.nD,
      r.2.mem ((c.tc : Thread Cert.Gla.nD Cert.Gla.τ).loc Cert.Gla.main_arg0) = m ((c.tc : Thread Cert.Gla.nD Cert.Gla.τ).loc Cert.Gla.main_arg0)
      ∧ r.2.mem ((c.tc : Thread Cert.Gla.nD Cert.Gla.τ).loc Cert.Gla.main_arg1) = m ((c.tc : Thread Cert.Gla.nD Cert.Gla.τ).loc Cert.Gla.main_arg1)
      ∧ r.2.mem ((c.tc : Thread Cert.Gla.nD Cert.Gla.τ).loc Cert.Gla.main_arg2) = m ((c.tc : Thread Cert.Gla.nD Cert.Gla.τ).loc Cert.Gla.main_arg2)
      ∧ r.2.mem ((c.tc : Thread Cert.Gla.nD Cert.Gla.τ).loc Cert.Gla.main_arg3) = m ((c.tc : Thread Cert.Gla.nD Cert.Gla.τ).loc Cert.Gla.main_arg3)
      ∧ r.2.mem ((c.tc : Thread Cert.Gla.nD Cert.Gla.τ).loc Cert.Gla.main_arg4) = m ((c.tc : Thread Cert.Gla.nD Cert.Gla.τ).loc Cert.Gla.main_arg4)
      ∧ r.2.mem ((c.tc : Thread Cert.Gla.nD Cert.Gla.τ).loc Cert.Gla.main_arg5) = m ((c.tc : Thread Cert.Gla.nD Cert.Gla.τ).loc Cert.Gla.main_arg5)
      ∧ r.2.mem ((c.tc : Thread Cert.Gla.nD Cert.Gla.τ).loc Cert.Gla.main_arg6) = m ((c.tc : Thread Cert.Gla.nD Cert.Gla.τ).loc Cert.Gla.main_arg6)
      ∧ r.2.mem ((c.tc : Thread Cert.Gla.nD Cert.Gla.τ).loc Cert.Gla.main_arg7) = m ((c.tc : Thread Cert.Gla.nD Cert.Gla.τ).loc Cert.Gla.main_arg7))
      ∧ r.2.sem = fun _ => 0)

def quiescent_GlaIdeal [hGlaIdeal : Cert.GlaIdeal.Facts] : Prop :=
  ∀ (m : (ℓ : Loc Cert.GlaIdeal.nD Cert.GlaIdeal.τ Cert.GlaIdeal.sig) → Buf (Elt Ideal) ℓ) (g : Dev Cert.GlaIdeal.nD → PrngReg), Pre_GlaIdeal m →
    θ_run (Cert.GlaIdeal.defs (F := Ideal)) (onTc (τ := Cert.GlaIdeal.τ) (Cert.GlaIdeal.main (F := Ideal))) ⟨m, fun _ => 0, g⟩ (fun r => (∀ c : Dev Cert.GlaIdeal.nD,
      r.2.mem ((c.tc : Thread Cert.GlaIdeal.nD Cert.GlaIdeal.τ).loc Cert.GlaIdeal.main_arg0) = m ((c.tc : Thread Cert.GlaIdeal.nD Cert.GlaIdeal.τ).loc Cert.GlaIdeal.main_arg0)
      ∧ r.2.mem ((c.tc : Thread Cert.GlaIdeal.nD Cert.GlaIdeal.τ).loc Cert.GlaIdeal.main_arg1) = m ((c.tc : Thread Cert.GlaIdeal.nD Cert.GlaIdeal.τ).loc Cert.GlaIdeal.main_arg1)
      ∧ r.2.mem ((c.tc : Thread Cert.GlaIdeal.nD Cert.GlaIdeal.τ).loc Cert.GlaIdeal.main_arg2) = m ((c.tc : Thread Cert.GlaIdeal.nD Cert.GlaIdeal.τ).loc Cert.GlaIdeal.main_arg2)
      ∧ r.2.mem ((c.tc : Thread Cert.GlaIdeal.nD Cert.GlaIdeal.τ).loc Cert.GlaIdeal.main_arg3) = m ((c.tc : Thread Cert.GlaIdeal.nD Cert.GlaIdeal.τ).loc Cert.GlaIdeal.main_arg3)
      ∧ r.2.mem ((c.tc : Thread Cert.GlaIdeal.nD Cert.GlaIdeal.τ).loc Cert.GlaIdeal.main_arg4) = m ((c.tc : Thread Cert.GlaIdeal.nD Cert.GlaIdeal.τ).loc Cert.GlaIdeal.main_arg4)
      ∧ r.2.mem ((c.tc : Thread Cert.GlaIdeal.nD Cert.GlaIdeal.τ).loc Cert.GlaIdeal.main_arg5) = m ((c.tc : Thread Cert.GlaIdeal.nD Cert.GlaIdeal.τ).loc Cert.GlaIdeal.main_arg5)
      ∧ r.2.mem ((c.tc : Thread Cert.GlaIdeal.nD Cert.GlaIdeal.τ).loc Cert.GlaIdeal.main_arg6) = m ((c.tc : Thread Cert.GlaIdeal.nD Cert.GlaIdeal.τ).loc Cert.GlaIdeal.main_arg6)
      ∧ r.2.mem ((c.tc : Thread Cert.GlaIdeal.nD Cert.GlaIdeal.τ).loc Cert.GlaIdeal.main_arg7) = m ((c.tc : Thread Cert.GlaIdeal.nD Cert.GlaIdeal.τ).loc Cert.GlaIdeal.main_arg7))
      ∧ r.2.sem = fun _ => 0)

def quiescent_AdamUp [hAdamUp : Cert.AdamUp.Facts] : Prop :=
  ∀ (m : (ℓ : Loc Cert.AdamUp.nD Cert.AdamUp.τ Cert.AdamUp.sig) → Buf (Elt Bits) ℓ) (g : Dev Cert.AdamUp.nD → PrngReg), Pre_AdamUp m →
    θ_run (Cert.AdamUp.defs (F := Bits)) (onTc (τ := Cert.AdamUp.τ) (Cert.AdamUp.main (F := Bits))) ⟨m, fun _ => 0, g⟩ (fun r => (∀ c : Dev Cert.AdamUp.nD,
      r.2.mem ((c.tc : Thread Cert.AdamUp.nD Cert.AdamUp.τ).loc Cert.AdamUp.main_arg0) = m ((c.tc : Thread Cert.AdamUp.nD Cert.AdamUp.τ).loc Cert.AdamUp.main_arg0)
      ∧ r.2.mem ((c.tc : Thread Cert.AdamUp.nD Cert.AdamUp.τ).loc Cert.AdamUp.main_arg1) = m ((c.tc : Thread Cert.AdamUp.nD Cert.AdamUp.τ).loc Cert.AdamUp.main_arg1)
      ∧ r.2.mem ((c.tc : Thread Cert.AdamUp.nD Cert.AdamUp.τ).loc Cert.AdamUp.main_arg2) = m ((c.tc : Thread Cert.AdamUp.nD Cert.AdamUp.τ).loc Cert.AdamUp.main_arg2)
      ∧ r.2.mem ((c.tc : Thread Cert.AdamUp.nD Cert.AdamUp.τ).loc Cert.AdamUp.main_arg3) = m ((c.tc : Thread Cert.AdamUp.nD Cert.AdamUp.τ).loc Cert.AdamUp.main_arg3)
      ∧ r.2.mem ((c.tc : Thread Cert.AdamUp.nD Cert.AdamUp.τ).loc Cert.AdamUp.main_arg4) = m ((c.tc : Thread Cert.AdamUp.nD Cert.AdamUp.τ).loc Cert.AdamUp.main_arg4))
      ∧ r.2.sem = fun _ => 0)

def quiescent_AdamUpIdeal [hAdamUpIdeal : Cert.AdamUpIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg), Pre_AdamUpIdeal m →
    θ_run (Cert.AdamUpIdeal.defs (F := Ideal)) (onTc (τ := Cert.AdamUpIdeal.τ) (Cert.AdamUpIdeal.main (F := Ideal))) ⟨m, fun _ => 0, g⟩ (fun r => (∀ c : Dev Cert.AdamUpIdeal.nD,
      r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
      ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
      ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
      ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3)
      ∧ r.2.mem ((c.tc : Thread Cert.AdamUpIdeal.nD Cert.AdamUpIdeal.τ).loc Cert.AdamUpIdeal.main_arg4) = m ((c.tc : Thread Cert.AdamUpIdeal.nD Cert.AdamUpIdeal.τ).loc Cert.AdamUpIdeal.main_arg4))
      ∧ r.2.sem = fun _ => 0)

def quiescent_AdamUpRefIdeal [hAdamUpRefIdeal : Cert.AdamUpRefIdeal.Facts] : Prop :=
  ∀ (m : (ℓ : Loc Cert.AdamUpRefIdeal.nD Cert.AdamUpRefIdeal.τ Cert.AdamUpRefIdeal.sig) → Buf (Elt Ideal) ℓ) (g : Dev Cert.AdamUpRefIdeal.nD → PrngReg), Pre_AdamUpRefIdeal m →
    θ_run (Cert.AdamUpRefIdeal.defs (F := Ideal)) (onTc (τ := Cert.AdamUpRefIdeal.τ) (Cert.AdamUpRefIdeal.main (F := Ideal))) ⟨m, fun _ => 0, g⟩ (fun r => (∀ c : Dev Cert.AdamUpRefIdeal.nD,
      r.2.mem ((c.tc : Thread Cert.AdamUpRefIdeal.nD Cert.AdamUpRefIdeal.τ).loc Cert.AdamUpRefIdeal.main_arg0) = m ((c.tc : Thread Cert.AdamUpRefIdeal.nD Cert.AdamUpRefIdeal.τ).loc Cert.AdamUpRefIdeal.main_arg0)
      ∧ r.2.mem ((c.tc : Thread Cert.AdamUpRefIdeal.nD Cert.AdamUpRefIdeal.τ).loc Cert.AdamUpRefIdeal.main_arg1) = m ((c.tc : Thread Cert.AdamUpRefIdeal.nD Cert.AdamUpRefIdeal.τ).loc Cert.AdamUpRefIdeal.main_arg1)
      ∧ r.2.mem ((c.tc : Thread Cert.AdamUpRefIdeal.nD Cert.AdamUpRefIdeal.τ).loc Cert.AdamUpRefIdeal.main_arg2) = m ((c.tc : Thread Cert.AdamUpRefIdeal.nD Cert.AdamUpRefIdeal.τ).loc Cert.AdamUpRefIdeal.main_arg2)
      ∧ r.2.mem ((c.tc : Thread Cert.AdamUpRefIdeal.nD Cert.AdamUpRefIdeal.τ).loc Cert.AdamUpRefIdeal.main_arg3) = m ((c.tc : Thread Cert.AdamUpRefIdeal.nD Cert.AdamUpRefIdeal.τ).loc Cert.AdamUpRefIdeal.main_arg3)
      ∧ r.2.mem ((c.tc : Thread Cert.AdamUpRefIdeal.nD Cert.AdamUpRefIdeal.τ).loc Cert.AdamUpRefIdeal.main_arg4) = m ((c.tc : Thread Cert.AdamUpRefIdeal.nD Cert.AdamUpRefIdeal.τ).loc Cert.AdamUpRefIdeal.main_arg4))
      ∧ r.2.sem = fun _ => 0)

def quiescent_AdamDown [hAdamDown : Cert.AdamDown.Facts] : Prop :=
  ∀ (m : (ℓ : Loc Cert.AdamDown.nD Cert.AdamDown.τ Cert.AdamDown.sig) → Buf (Elt Bits) ℓ) (g : Dev Cert.AdamDown.nD → PrngReg), Pre_AdamDown m →
    θ_run (Cert.AdamDown.defs (F := Bits)) (onTc (τ := Cert.AdamDown.τ) (Cert.AdamDown.main (F := Bits))) ⟨m, fun _ => 0, g⟩ (fun r => (∀ c : Dev Cert.AdamDown.nD,
      r.2.mem ((c.tc : Thread Cert.AdamDown.nD Cert.AdamDown.τ).loc Cert.AdamDown.main_arg0) = m ((c.tc : Thread Cert.AdamDown.nD Cert.AdamDown.τ).loc Cert.AdamDown.main_arg0)
      ∧ r.2.mem ((c.tc : Thread Cert.AdamDown.nD Cert.AdamDown.τ).loc Cert.AdamDown.main_arg1) = m ((c.tc : Thread Cert.AdamDown.nD Cert.AdamDown.τ).loc Cert.AdamDown.main_arg1)
      ∧ r.2.mem ((c.tc : Thread Cert.AdamDown.nD Cert.AdamDown.τ).loc Cert.AdamDown.main_arg2) = m ((c.tc : Thread Cert.AdamDown.nD Cert.AdamDown.τ).loc Cert.AdamDown.main_arg2)
      ∧ r.2.mem ((c.tc : Thread Cert.AdamDown.nD Cert.AdamDown.τ).loc Cert.AdamDown.main_arg3) = m ((c.tc : Thread Cert.AdamDown.nD Cert.AdamDown.τ).loc Cert.AdamDown.main_arg3)
      ∧ r.2.mem ((c.tc : Thread Cert.AdamDown.nD Cert.AdamDown.τ).loc Cert.AdamDown.main_arg4) = m ((c.tc : Thread Cert.AdamDown.nD Cert.AdamDown.τ).loc Cert.AdamDown.main_arg4))
      ∧ r.2.sem = fun _ => 0)

def quiescent_AdamDownIdeal [hAdamDownIdeal : Cert.AdamDownIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg), Pre_AdamDownIdeal m →
    θ_run (Cert.AdamDownIdeal.defs (F := Ideal)) (onTc (τ := Cert.AdamDownIdeal.τ) (Cert.AdamDownIdeal.main (F := Ideal))) ⟨m, fun _ => 0, g⟩ (fun r => (∀ c : Dev Cert.AdamDownIdeal.nD,
      r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
      ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
      ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
      ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3)
      ∧ r.2.mem ((c.tc : Thread Cert.AdamDownIdeal.nD Cert.AdamDownIdeal.τ).loc Cert.AdamDownIdeal.main_arg4) = m ((c.tc : Thread Cert.AdamDownIdeal.nD Cert.AdamDownIdeal.τ).loc Cert.AdamDownIdeal.main_arg4))
      ∧ r.2.sem = fun _ => 0)

def quiescent_AdamDownRefIdeal [hAdamDownRefIdeal : Cert.AdamDownRefIdeal.Facts] : Prop :=
  ∀ (m : (ℓ : Loc Cert.AdamDownRefIdeal.nD Cert.AdamDownRefIdeal.τ Cert.AdamDownRefIdeal.sig) → Buf (Elt Ideal) ℓ) (g : Dev Cert.AdamDownRefIdeal.nD → PrngReg), Pre_AdamDownRefIdeal m →
    θ_run (Cert.AdamDownRefIdeal.defs (F := Ideal)) (onTc (τ := Cert.AdamDownRefIdeal.τ) (Cert.AdamDownRefIdeal.main (F := Ideal))) ⟨m, fun _ => 0, g⟩ (fun r => (∀ c : Dev Cert.AdamDownRefIdeal.nD,
      r.2.mem ((c.tc : Thread Cert.AdamDownRefIdeal.nD Cert.AdamDownRefIdeal.τ).loc Cert.AdamDownRefIdeal.main_arg0) = m ((c.tc : Thread Cert.AdamDownRefIdeal.nD Cert.AdamDownRefIdeal.τ).loc Cert.AdamDownRefIdeal.main_arg0)
      ∧ r.2.mem ((c.tc : Thread Cert.AdamDownRefIdeal.nD Cert.AdamDownRefIdeal.τ).loc Cert.AdamDownRefIdeal.main_arg1) = m ((c.tc : Thread Cert.AdamDownRefIdeal.nD Cert.AdamDownRefIdeal.τ).loc Cert.AdamDownRefIdeal.main_arg1)
      ∧ r.2.mem ((c.tc : Thread Cert.AdamDownRefIdeal.nD Cert.AdamDownRefIdeal.τ).loc Cert.AdamDownRefIdeal.main_arg2) = m ((c.tc : Thread Cert.AdamDownRefIdeal.nD Cert.AdamDownRefIdeal.τ).loc Cert.AdamDownRefIdeal.main_arg2)
      ∧ r.2.mem ((c.tc : Thread Cert.AdamDownRefIdeal.nD Cert.AdamDownRefIdeal.τ).loc Cert.AdamDownRefIdeal.main_arg3) = m ((c.tc : Thread Cert.AdamDownRefIdeal.nD Cert.AdamDownRefIdeal.τ).loc Cert.AdamDownRefIdeal.main_arg3)
      ∧ r.2.mem ((c.tc : Thread Cert.AdamDownRefIdeal.nD Cert.AdamDownRefIdeal.τ).loc Cert.AdamDownRefIdeal.main_arg4) = m ((c.tc : Thread Cert.AdamDownRefIdeal.nD Cert.AdamDownRefIdeal.τ).loc Cert.AdamDownRefIdeal.main_arg4))
      ∧ r.2.sem = fun _ => 0)

def quiescent_AdamGain [hAdamGain : Cert.AdamGain.Facts] : Prop :=
  ∀ (m : (ℓ : Loc Cert.AdamGain.nD Cert.AdamGain.τ Cert.AdamGain.sig) → Buf (Elt Bits) ℓ) (g : Dev Cert.AdamGain.nD → PrngReg), Pre_AdamGain m →
    θ_run (Cert.AdamGain.defs (F := Bits)) (onTc (τ := Cert.AdamGain.τ) (Cert.AdamGain.main (F := Bits))) ⟨m, fun _ => 0, g⟩ (fun r => (∀ c : Dev Cert.AdamGain.nD,
      r.2.mem ((c.tc : Thread Cert.AdamGain.nD Cert.AdamGain.τ).loc Cert.AdamGain.main_arg0) = m ((c.tc : Thread Cert.AdamGain.nD Cert.AdamGain.τ).loc Cert.AdamGain.main_arg0)
      ∧ r.2.mem ((c.tc : Thread Cert.AdamGain.nD Cert.AdamGain.τ).loc Cert.AdamGain.main_arg1) = m ((c.tc : Thread Cert.AdamGain.nD Cert.AdamGain.τ).loc Cert.AdamGain.main_arg1)
      ∧ r.2.mem ((c.tc : Thread Cert.AdamGain.nD Cert.AdamGain.τ).loc Cert.AdamGain.main_arg2) = m ((c.tc : Thread Cert.AdamGain.nD Cert.AdamGain.τ).loc Cert.AdamGain.main_arg2)
      ∧ r.2.mem ((c.tc : Thread Cert.AdamGain.nD Cert.AdamGain.τ).loc Cert.AdamGain.main_arg3) = m ((c.tc : Thread Cert.AdamGain.nD Cert.AdamGain.τ).loc Cert.AdamGain.main_arg3)
      ∧ r.2.mem ((c.tc : Thread Cert.AdamGain.nD Cert.AdamGain.τ).loc Cert.AdamGain.main_arg4) = m ((c.tc : Thread Cert.AdamGain.nD Cert.AdamGain.τ).loc Cert.AdamGain.main_arg4))
      ∧ r.2.sem = fun _ => 0)

def quiescent_AdamGainIdeal [hAdamGainIdeal : Cert.AdamGainIdeal.Facts] : Prop :=
  ∀ (m : (ℓ : Loc Cert.AdamGainIdeal.nD Cert.AdamGainIdeal.τ Cert.AdamGainIdeal.sig) → Buf (Elt Ideal) ℓ) (g : Dev Cert.AdamGainIdeal.nD → PrngReg), Pre_AdamGainIdeal m →
    θ_run (Cert.AdamGainIdeal.defs (F := Ideal)) (onTc (τ := Cert.AdamGainIdeal.τ) (Cert.AdamGainIdeal.main (F := Ideal))) ⟨m, fun _ => 0, g⟩ (fun r => (∀ c : Dev Cert.AdamGainIdeal.nD,
      r.2.mem ((c.tc : Thread Cert.AdamGainIdeal.nD Cert.AdamGainIdeal.τ).loc Cert.AdamGainIdeal.main_arg0) = m ((c.tc : Thread Cert.AdamGainIdeal.nD Cert.AdamGainIdeal.τ).loc Cert.AdamGainIdeal.main_arg0)
      ∧ r.2.mem ((c.tc : Thread Cert.AdamGainIdeal.nD Cert.AdamGainIdeal.τ).loc Cert.AdamGainIdeal.main_arg1) = m ((c.tc : Thread Cert.AdamGainIdeal.nD Cert.AdamGainIdeal.τ).loc Cert.AdamGainIdeal.main_arg1)
      ∧ r.2.mem ((c.tc : Thread Cert.AdamGainIdeal.nD Cert.AdamGainIdeal.τ).loc Cert.AdamGainIdeal.main_arg2) = m ((c.tc : Thread Cert.AdamGainIdeal.nD Cert.AdamGainIdeal.τ).loc Cert.AdamGainIdeal.main_arg2)
      ∧ r.2.mem ((c.tc : Thread Cert.AdamGainIdeal.nD Cert.AdamGainIdeal.τ).loc Cert.AdamGainIdeal.main_arg3) = m ((c.tc : Thread Cert.AdamGainIdeal.nD Cert.AdamGainIdeal.τ).loc Cert.AdamGainIdeal.main_arg3)
      ∧ r.2.mem ((c.tc : Thread Cert.AdamGainIdeal.nD Cert.AdamGainIdeal.τ).loc Cert.AdamGainIdeal.main_arg4) = m ((c.tc : Thread Cert.AdamGainIdeal.nD Cert.AdamGainIdeal.τ).loc Cert.AdamGainIdeal.main_arg4))
      ∧ r.2.sem = fun _ => 0)

def quiescent_AdamGainRefIdeal [hAdamGainRefIdeal : Cert.AdamGainRefIdeal.Facts] : Prop :=
  ∀ (m : (ℓ : Loc Cert.AdamGainRefIdeal.nD Cert.AdamGainRefIdeal.τ Cert.AdamGainRefIdeal.sig) → Buf (Elt Ideal) ℓ) (g : Dev Cert.AdamGainRefIdeal.nD → PrngReg), Pre_AdamGainRefIdeal m →
    θ_run (Cert.AdamGainRefIdeal.defs (F := Ideal)) (onTc (τ := Cert.AdamGainRefIdeal.τ) (Cert.AdamGainRefIdeal.main (F := Ideal))) ⟨m, fun _ => 0, g⟩ (fun r => (∀ c : Dev Cert.AdamGainRefIdeal.nD,
      r.2.mem ((c.tc : Thread Cert.AdamGainRefIdeal.nD Cert.AdamGainRefIdeal.τ).loc Cert.AdamGainRefIdeal.main_arg0) = m ((c.tc : Thread Cert.AdamGainRefIdeal.nD Cert.AdamGainRefIdeal.τ).loc Cert.AdamGainRefIdeal.main_arg0)
      ∧ r.2.mem ((c.tc : Thread Cert.AdamGainRefIdeal.nD Cert.AdamGainRefIdeal.τ).loc Cert.AdamGainRefIdeal.main_arg1) = m ((c.tc : Thread Cert.AdamGainRefIdeal.nD Cert.AdamGainRefIdeal.τ).loc Cert.AdamGainRefIdeal.main_arg1)
      ∧ r.2.mem ((c.tc : Thread Cert.AdamGainRefIdeal.nD Cert.AdamGainRefIdeal.τ).loc Cert.AdamGainRefIdeal.main_arg2) = m ((c.tc : Thread Cert.AdamGainRefIdeal.nD Cert.AdamGainRefIdeal.τ).loc Cert.AdamGainRefIdeal.main_arg2)
      ∧ r.2.mem ((c.tc : Thread Cert.AdamGainRefIdeal.nD Cert.AdamGainRefIdeal.τ).loc Cert.AdamGainRefIdeal.main_arg3) = m ((c.tc : Thread Cert.AdamGainRefIdeal.nD Cert.AdamGainRefIdeal.τ).loc Cert.AdamGainRefIdeal.main_arg3)
      ∧ r.2.mem ((c.tc : Thread Cert.AdamGainRefIdeal.nD Cert.AdamGainRefIdeal.τ).loc Cert.AdamGainRefIdeal.main_arg4) = m ((c.tc : Thread Cert.AdamGainRefIdeal.nD Cert.AdamGainRefIdeal.τ).loc Cert.AdamGainRefIdeal.main_arg4))
      ∧ r.2.sem = fun _ => 0)

def quiescent_AdamMixIn [hAdamMixIn : Cert.AdamMixIn.Facts] : Prop :=
  ∀ (m : (ℓ : Loc Cert.AdamMixIn.nD Cert.AdamMixIn.τ Cert.AdamMixIn.sig) → Buf (Elt Bits) ℓ) (g : Dev Cert.AdamMixIn.nD → PrngReg), Pre_AdamMixIn m →
    θ_run (Cert.AdamMixIn.defs (F := Bits)) (onTc (τ := Cert.AdamMixIn.τ) (Cert.AdamMixIn.main (F := Bits))) ⟨m, fun _ => 0, g⟩ (fun r => (∀ c : Dev Cert.AdamMixIn.nD,
      r.2.mem ((c.tc : Thread Cert.AdamMixIn.nD Cert.AdamMixIn.τ).loc Cert.AdamMixIn.main_arg0) = m ((c.tc : Thread Cert.AdamMixIn.nD Cert.AdamMixIn.τ).loc Cert.AdamMixIn.main_arg0)
      ∧ r.2.mem ((c.tc : Thread Cert.AdamMixIn.nD Cert.AdamMixIn.τ).loc Cert.AdamMixIn.main_arg1) = m ((c.tc : Thread Cert.AdamMixIn.nD Cert.AdamMixIn.τ).loc Cert.AdamMixIn.main_arg1)
      ∧ r.2.mem ((c.tc : Thread Cert.AdamMixIn.nD Cert.AdamMixIn.τ).loc Cert.AdamMixIn.main_arg2) = m ((c.tc : Thread Cert.AdamMixIn.nD Cert.AdamMixIn.τ).loc Cert.AdamMixIn.main_arg2)
      ∧ r.2.mem ((c.tc : Thread Cert.AdamMixIn.nD Cert.AdamMixIn.τ).loc Cert.AdamMixIn.main_arg3) = m ((c.tc : Thread Cert.AdamMixIn.nD Cert.AdamMixIn.τ).loc Cert.AdamMixIn.main_arg3)
      ∧ r.2.mem ((c.tc : Thread Cert.AdamMixIn.nD Cert.AdamMixIn.τ).loc Cert.AdamMixIn.main_arg4) = m ((c.tc : Thread Cert.AdamMixIn.nD Cert.AdamMixIn.τ).loc Cert.AdamMixIn.main_arg4))
      ∧ r.2.sem = fun _ => 0)

def quiescent_AdamMixInIdeal [hAdamMixInIdeal : Cert.AdamMixInIdeal.Facts] : Prop :=
  ∀ (m : (ℓ : Loc Cert.AdamMixInIdeal.nD Cert.AdamMixInIdeal.τ Cert.AdamMixInIdeal.sig) → Buf (Elt Ideal) ℓ) (g : Dev Cert.AdamMixInIdeal.nD → PrngReg), Pre_AdamMixInIdeal m →
    θ_run (Cert.AdamMixInIdeal.defs (F := Ideal)) (onTc (τ := Cert.AdamMixInIdeal.τ) (Cert.AdamMixInIdeal.main (F := Ideal))) ⟨m, fun _ => 0, g⟩ (fun r => (∀ c : Dev Cert.AdamMixInIdeal.nD,
      r.2.mem ((c.tc : Thread Cert.AdamMixInIdeal.nD Cert.AdamMixInIdeal.τ).loc Cert.AdamMixInIdeal.main_arg0) = m ((c.tc : Thread Cert.AdamMixInIdeal.nD Cert.AdamMixInIdeal.τ).loc Cert.AdamMixInIdeal.main_arg0)
      ∧ r.2.mem ((c.tc : Thread Cert.AdamMixInIdeal.nD Cert.AdamMixInIdeal.τ).loc Cert.AdamMixInIdeal.main_arg1) = m ((c.tc : Thread Cert.AdamMixInIdeal.nD Cert.AdamMixInIdeal.τ).loc Cert.AdamMixInIdeal.main_arg1)
      ∧ r.2.mem ((c.tc : Thread Cert.AdamMixInIdeal.nD Cert.AdamMixInIdeal.τ).loc Cert.AdamMixInIdeal.main_arg2) = m ((c.tc : Thread Cert.AdamMixInIdeal.nD Cert.AdamMixInIdeal.τ).loc Cert.AdamMixInIdeal.main_arg2)
      ∧ r.2.mem ((c.tc : Thread Cert.AdamMixInIdeal.nD Cert.AdamMixInIdeal.τ).loc Cert.AdamMixInIdeal.main_arg3) = m ((c.tc : Thread Cert.AdamMixInIdeal.nD Cert.AdamMixInIdeal.τ).loc Cert.AdamMixInIdeal.main_arg3)
      ∧ r.2.mem ((c.tc : Thread Cert.AdamMixInIdeal.nD Cert.AdamMixInIdeal.τ).loc Cert.AdamMixInIdeal.main_arg4) = m ((c.tc : Thread Cert.AdamMixInIdeal.nD Cert.AdamMixInIdeal.τ).loc Cert.AdamMixInIdeal.main_arg4))
      ∧ r.2.sem = fun _ => 0)

def quiescent_AdamMixInRefIdeal [hAdamMixInRefIdeal : Cert.AdamMixInRefIdeal.Facts] : Prop :=
  ∀ (m : (ℓ : Loc Cert.AdamMixInRefIdeal.nD Cert.AdamMixInRefIdeal.τ Cert.AdamMixInRefIdeal.sig) → Buf (Elt Ideal) ℓ) (g : Dev Cert.AdamMixInRefIdeal.nD → PrngReg), Pre_AdamMixInRefIdeal m →
    θ_run (Cert.AdamMixInRefIdeal.defs (F := Ideal)) (onTc (τ := Cert.AdamMixInRefIdeal.τ) (Cert.AdamMixInRefIdeal.main (F := Ideal))) ⟨m, fun _ => 0, g⟩ (fun r => (∀ c : Dev Cert.AdamMixInRefIdeal.nD,
      r.2.mem ((c.tc : Thread Cert.AdamMixInRefIdeal.nD Cert.AdamMixInRefIdeal.τ).loc Cert.AdamMixInRefIdeal.main_arg0) = m ((c.tc : Thread Cert.AdamMixInRefIdeal.nD Cert.AdamMixInRefIdeal.τ).loc Cert.AdamMixInRefIdeal.main_arg0)
      ∧ r.2.mem ((c.tc : Thread Cert.AdamMixInRefIdeal.nD Cert.AdamMixInRefIdeal.τ).loc Cert.AdamMixInRefIdeal.main_arg1) = m ((c.tc : Thread Cert.AdamMixInRefIdeal.nD Cert.AdamMixInRefIdeal.τ).loc Cert.AdamMixInRefIdeal.main_arg1)
      ∧ r.2.mem ((c.tc : Thread Cert.AdamMixInRefIdeal.nD Cert.AdamMixInRefIdeal.τ).loc Cert.AdamMixInRefIdeal.main_arg2) = m ((c.tc : Thread Cert.AdamMixInRefIdeal.nD Cert.AdamMixInRefIdeal.τ).loc Cert.AdamMixInRefIdeal.main_arg2)
      ∧ r.2.mem ((c.tc : Thread Cert.AdamMixInRefIdeal.nD Cert.AdamMixInRefIdeal.τ).loc Cert.AdamMixInRefIdeal.main_arg3) = m ((c.tc : Thread Cert.AdamMixInRefIdeal.nD Cert.AdamMixInRefIdeal.τ).loc Cert.AdamMixInRefIdeal.main_arg3)
      ∧ r.2.mem ((c.tc : Thread Cert.AdamMixInRefIdeal.nD Cert.AdamMixInRefIdeal.τ).loc Cert.AdamMixInRefIdeal.main_arg4) = m ((c.tc : Thread Cert.AdamMixInRefIdeal.nD Cert.AdamMixInRefIdeal.τ).loc Cert.AdamMixInRefIdeal.main_arg4))
      ∧ r.2.sem = fun _ => 0)

def quiescent_AdamMixOut [hAdamMixOut : Cert.AdamMixOut.Facts] : Prop :=
  ∀ (m : (ℓ : Loc Cert.AdamMixOut.nD Cert.AdamMixOut.τ Cert.AdamMixOut.sig) → Buf (Elt Bits) ℓ) (g : Dev Cert.AdamMixOut.nD → PrngReg), Pre_AdamMixOut m →
    θ_run (Cert.AdamMixOut.defs (F := Bits)) (onTc (τ := Cert.AdamMixOut.τ) (Cert.AdamMixOut.main (F := Bits))) ⟨m, fun _ => 0, g⟩ (fun r => (∀ c : Dev Cert.AdamMixOut.nD,
      r.2.mem ((c.tc : Thread Cert.AdamMixOut.nD Cert.AdamMixOut.τ).loc Cert.AdamMixOut.main_arg0) = m ((c.tc : Thread Cert.AdamMixOut.nD Cert.AdamMixOut.τ).loc Cert.AdamMixOut.main_arg0)
      ∧ r.2.mem ((c.tc : Thread Cert.AdamMixOut.nD Cert.AdamMixOut.τ).loc Cert.AdamMixOut.main_arg1) = m ((c.tc : Thread Cert.AdamMixOut.nD Cert.AdamMixOut.τ).loc Cert.AdamMixOut.main_arg1)
      ∧ r.2.mem ((c.tc : Thread Cert.AdamMixOut.nD Cert.AdamMixOut.τ).loc Cert.AdamMixOut.main_arg2) = m ((c.tc : Thread Cert.AdamMixOut.nD Cert.AdamMixOut.τ).loc Cert.AdamMixOut.main_arg2)
      ∧ r.2.mem ((c.tc : Thread Cert.AdamMixOut.nD Cert.AdamMixOut.τ).loc Cert.AdamMixOut.main_arg3) = m ((c.tc : Thread Cert.AdamMixOut.nD Cert.AdamMixOut.τ).loc Cert.AdamMixOut.main_arg3)
      ∧ r.2.mem ((c.tc : Thread Cert.AdamMixOut.nD Cert.AdamMixOut.τ).loc Cert.AdamMixOut.main_arg4) = m ((c.tc : Thread Cert.AdamMixOut.nD Cert.AdamMixOut.τ).loc Cert.AdamMixOut.main_arg4))
      ∧ r.2.sem = fun _ => 0)

def quiescent_AdamMixOutIdeal [hAdamMixOutIdeal : Cert.AdamMixOutIdeal.Facts] : Prop :=
  ∀ (m : (ℓ : Loc Cert.AdamMixOutIdeal.nD Cert.AdamMixOutIdeal.τ Cert.AdamMixOutIdeal.sig) → Buf (Elt Ideal) ℓ) (g : Dev Cert.AdamMixOutIdeal.nD → PrngReg), Pre_AdamMixOutIdeal m →
    θ_run (Cert.AdamMixOutIdeal.defs (F := Ideal)) (onTc (τ := Cert.AdamMixOutIdeal.τ) (Cert.AdamMixOutIdeal.main (F := Ideal))) ⟨m, fun _ => 0, g⟩ (fun r => (∀ c : Dev Cert.AdamMixOutIdeal.nD,
      r.2.mem ((c.tc : Thread Cert.AdamMixOutIdeal.nD Cert.AdamMixOutIdeal.τ).loc Cert.AdamMixOutIdeal.main_arg0) = m ((c.tc : Thread Cert.AdamMixOutIdeal.nD Cert.AdamMixOutIdeal.τ).loc Cert.AdamMixOutIdeal.main_arg0)
      ∧ r.2.mem ((c.tc : Thread Cert.AdamMixOutIdeal.nD Cert.AdamMixOutIdeal.τ).loc Cert.AdamMixOutIdeal.main_arg1) = m ((c.tc : Thread Cert.AdamMixOutIdeal.nD Cert.AdamMixOutIdeal.τ).loc Cert.AdamMixOutIdeal.main_arg1)
      ∧ r.2.mem ((c.tc : Thread Cert.AdamMixOutIdeal.nD Cert.AdamMixOutIdeal.τ).loc Cert.AdamMixOutIdeal.main_arg2) = m ((c.tc : Thread Cert.AdamMixOutIdeal.nD Cert.AdamMixOutIdeal.τ).loc Cert.AdamMixOutIdeal.main_arg2)
      ∧ r.2.mem ((c.tc : Thread Cert.AdamMixOutIdeal.nD Cert.AdamMixOutIdeal.τ).loc Cert.AdamMixOutIdeal.main_arg3) = m ((c.tc : Thread Cert.AdamMixOutIdeal.nD Cert.AdamMixOutIdeal.τ).loc Cert.AdamMixOutIdeal.main_arg3)
      ∧ r.2.mem ((c.tc : Thread Cert.AdamMixOutIdeal.nD Cert.AdamMixOutIdeal.τ).loc Cert.AdamMixOutIdeal.main_arg4) = m ((c.tc : Thread Cert.AdamMixOutIdeal.nD Cert.AdamMixOutIdeal.τ).loc Cert.AdamMixOutIdeal.main_arg4))
      ∧ r.2.sem = fun _ => 0)

def quiescent_AdamMixOutRefIdeal [hAdamMixOutRefIdeal : Cert.AdamMixOutRefIdeal.Facts] : Prop :=
  ∀ (m : (ℓ : Loc Cert.AdamMixOutRefIdeal.nD Cert.AdamMixOutRefIdeal.τ Cert.AdamMixOutRefIdeal.sig) → Buf (Elt Ideal) ℓ) (g : Dev Cert.AdamMixOutRefIdeal.nD → PrngReg), Pre_AdamMixOutRefIdeal m →
    θ_run (Cert.AdamMixOutRefIdeal.defs (F := Ideal)) (onTc (τ := Cert.AdamMixOutRefIdeal.τ) (Cert.AdamMixOutRefIdeal.main (F := Ideal))) ⟨m, fun _ => 0, g⟩ (fun r => (∀ c : Dev Cert.AdamMixOutRefIdeal.nD,
      r.2.mem ((c.tc : Thread Cert.AdamMixOutRefIdeal.nD Cert.AdamMixOutRefIdeal.τ).loc Cert.AdamMixOutRefIdeal.main_arg0) = m ((c.tc : Thread Cert.AdamMixOutRefIdeal.nD Cert.AdamMixOutRefIdeal.τ).loc Cert.AdamMixOutRefIdeal.main_arg0)
      ∧ r.2.mem ((c.tc : Thread Cert.AdamMixOutRefIdeal.nD Cert.AdamMixOutRefIdeal.τ).loc Cert.AdamMixOutRefIdeal.main_arg1) = m ((c.tc : Thread Cert.AdamMixOutRefIdeal.nD Cert.AdamMixOutRefIdeal.τ).loc Cert.AdamMixOutRefIdeal.main_arg1)
      ∧ r.2.mem ((c.tc : Thread Cert.AdamMixOutRefIdeal.nD Cert.AdamMixOutRefIdeal.τ).loc Cert.AdamMixOutRefIdeal.main_arg2) = m ((c.tc : Thread Cert.AdamMixOutRefIdeal.nD Cert.AdamMixOutRefIdeal.τ).loc Cert.AdamMixOutRefIdeal.main_arg2)
      ∧ r.2.mem ((c.tc : Thread Cert.AdamMixOutRefIdeal.nD Cert.AdamMixOutRefIdeal.τ).loc Cert.AdamMixOutRefIdeal.main_arg3) = m ((c.tc : Thread Cert.AdamMixOutRefIdeal.nD Cert.AdamMixOutRefIdeal.τ).loc Cert.AdamMixOutRefIdeal.main_arg3)
      ∧ r.2.mem ((c.tc : Thread Cert.AdamMixOutRefIdeal.nD Cert.AdamMixOutRefIdeal.τ).loc Cert.AdamMixOutRefIdeal.main_arg4) = m ((c.tc : Thread Cert.AdamMixOutRefIdeal.nD Cert.AdamMixOutRefIdeal.τ).loc Cert.AdamMixOutRefIdeal.main_arg4))
      ∧ r.2.sem = fun _ => 0)

def quiescent_AdamPool [hAdamPool : Cert.AdamPool.Facts] : Prop :=
  ∀ (m : (ℓ : Loc Cert.AdamPool.nD Cert.AdamPool.τ Cert.AdamPool.sig) → Buf (Elt Bits) ℓ) (g : Dev Cert.AdamPool.nD → PrngReg), Pre_AdamPool m →
    θ_run (Cert.AdamPool.defs (F := Bits)) (onTc (τ := Cert.AdamPool.τ) (Cert.AdamPool.main (F := Bits))) ⟨m, fun _ => 0, g⟩ (fun r => (∀ c : Dev Cert.AdamPool.nD,
      r.2.mem ((c.tc : Thread Cert.AdamPool.nD Cert.AdamPool.τ).loc Cert.AdamPool.main_arg0) = m ((c.tc : Thread Cert.AdamPool.nD Cert.AdamPool.τ).loc Cert.AdamPool.main_arg0)
      ∧ r.2.mem ((c.tc : Thread Cert.AdamPool.nD Cert.AdamPool.τ).loc Cert.AdamPool.main_arg1) = m ((c.tc : Thread Cert.AdamPool.nD Cert.AdamPool.τ).loc Cert.AdamPool.main_arg1)
      ∧ r.2.mem ((c.tc : Thread Cert.AdamPool.nD Cert.AdamPool.τ).loc Cert.AdamPool.main_arg2) = m ((c.tc : Thread Cert.AdamPool.nD Cert.AdamPool.τ).loc Cert.AdamPool.main_arg2)
      ∧ r.2.mem ((c.tc : Thread Cert.AdamPool.nD Cert.AdamPool.τ).loc Cert.AdamPool.main_arg3) = m ((c.tc : Thread Cert.AdamPool.nD Cert.AdamPool.τ).loc Cert.AdamPool.main_arg3)
      ∧ r.2.mem ((c.tc : Thread Cert.AdamPool.nD Cert.AdamPool.τ).loc Cert.AdamPool.main_arg4) = m ((c.tc : Thread Cert.AdamPool.nD Cert.AdamPool.τ).loc Cert.AdamPool.main_arg4))
      ∧ r.2.sem = fun _ => 0)

def quiescent_AdamPoolIdeal [hAdamPoolIdeal : Cert.AdamPoolIdeal.Facts] : Prop :=
  ∀ (m : (ℓ : Loc Cert.AdamPoolIdeal.nD Cert.AdamPoolIdeal.τ Cert.AdamPoolIdeal.sig) → Buf (Elt Ideal) ℓ) (g : Dev Cert.AdamPoolIdeal.nD → PrngReg), Pre_AdamPoolIdeal m →
    θ_run (Cert.AdamPoolIdeal.defs (F := Ideal)) (onTc (τ := Cert.AdamPoolIdeal.τ) (Cert.AdamPoolIdeal.main (F := Ideal))) ⟨m, fun _ => 0, g⟩ (fun r => (∀ c : Dev Cert.AdamPoolIdeal.nD,
      r.2.mem ((c.tc : Thread Cert.AdamPoolIdeal.nD Cert.AdamPoolIdeal.τ).loc Cert.AdamPoolIdeal.main_arg0) = m ((c.tc : Thread Cert.AdamPoolIdeal.nD Cert.AdamPoolIdeal.τ).loc Cert.AdamPoolIdeal.main_arg0)
      ∧ r.2.mem ((c.tc : Thread Cert.AdamPoolIdeal.nD Cert.AdamPoolIdeal.τ).loc Cert.AdamPoolIdeal.main_arg1) = m ((c.tc : Thread Cert.AdamPoolIdeal.nD Cert.AdamPoolIdeal.τ).loc Cert.AdamPoolIdeal.main_arg1)
      ∧ r.2.mem ((c.tc : Thread Cert.AdamPoolIdeal.nD Cert.AdamPoolIdeal.τ).loc Cert.AdamPoolIdeal.main_arg2) = m ((c.tc : Thread Cert.AdamPoolIdeal.nD Cert.AdamPoolIdeal.τ).loc Cert.AdamPoolIdeal.main_arg2)
      ∧ r.2.mem ((c.tc : Thread Cert.AdamPoolIdeal.nD Cert.AdamPoolIdeal.τ).loc Cert.AdamPoolIdeal.main_arg3) = m ((c.tc : Thread Cert.AdamPoolIdeal.nD Cert.AdamPoolIdeal.τ).loc Cert.AdamPoolIdeal.main_arg3)
      ∧ r.2.mem ((c.tc : Thread Cert.AdamPoolIdeal.nD Cert.AdamPoolIdeal.τ).loc Cert.AdamPoolIdeal.main_arg4) = m ((c.tc : Thread Cert.AdamPoolIdeal.nD Cert.AdamPoolIdeal.τ).loc Cert.AdamPoolIdeal.main_arg4))
      ∧ r.2.sem = fun _ => 0)

def quiescent_AdamPoolRefIdeal [hAdamPoolRefIdeal : Cert.AdamPoolRefIdeal.Facts] : Prop :=
  ∀ (m : (ℓ : Loc Cert.AdamPoolRefIdeal.nD Cert.AdamPoolRefIdeal.τ Cert.AdamPoolRefIdeal.sig) → Buf (Elt Ideal) ℓ) (g : Dev Cert.AdamPoolRefIdeal.nD → PrngReg), Pre_AdamPoolRefIdeal m →
    θ_run (Cert.AdamPoolRefIdeal.defs (F := Ideal)) (onTc (τ := Cert.AdamPoolRefIdeal.τ) (Cert.AdamPoolRefIdeal.main (F := Ideal))) ⟨m, fun _ => 0, g⟩ (fun r => (∀ c : Dev Cert.AdamPoolRefIdeal.nD,
      r.2.mem ((c.tc : Thread Cert.AdamPoolRefIdeal.nD Cert.AdamPoolRefIdeal.τ).loc Cert.AdamPoolRefIdeal.main_arg0) = m ((c.tc : Thread Cert.AdamPoolRefIdeal.nD Cert.AdamPoolRefIdeal.τ).loc Cert.AdamPoolRefIdeal.main_arg0)
      ∧ r.2.mem ((c.tc : Thread Cert.AdamPoolRefIdeal.nD Cert.AdamPoolRefIdeal.τ).loc Cert.AdamPoolRefIdeal.main_arg1) = m ((c.tc : Thread Cert.AdamPoolRefIdeal.nD Cert.AdamPoolRefIdeal.τ).loc Cert.AdamPoolRefIdeal.main_arg1)
      ∧ r.2.mem ((c.tc : Thread Cert.AdamPoolRefIdeal.nD Cert.AdamPoolRefIdeal.τ).loc Cert.AdamPoolRefIdeal.main_arg2) = m ((c.tc : Thread Cert.AdamPoolRefIdeal.nD Cert.AdamPoolRefIdeal.τ).loc Cert.AdamPoolRefIdeal.main_arg2)
      ∧ r.2.mem ((c.tc : Thread Cert.AdamPoolRefIdeal.nD Cert.AdamPoolRefIdeal.τ).loc Cert.AdamPoolRefIdeal.main_arg3) = m ((c.tc : Thread Cert.AdamPoolRefIdeal.nD Cert.AdamPoolRefIdeal.τ).loc Cert.AdamPoolRefIdeal.main_arg3)
      ∧ r.2.mem ((c.tc : Thread Cert.AdamPoolRefIdeal.nD Cert.AdamPoolRefIdeal.τ).loc Cert.AdamPoolRefIdeal.main_arg4) = m ((c.tc : Thread Cert.AdamPoolRefIdeal.nD Cert.AdamPoolRefIdeal.τ).loc Cert.AdamPoolRefIdeal.main_arg4))
      ∧ r.2.sem = fun _ => 0)

def quiescent_AdamScale [hAdamScale : Cert.AdamScale.Facts] : Prop :=
  ∀ (m : (ℓ : Loc Cert.AdamScale.nD Cert.AdamScale.τ Cert.AdamScale.sig) → Buf (Elt Bits) ℓ) (g : Dev Cert.AdamScale.nD → PrngReg), Pre_AdamScale m →
    θ_run (Cert.AdamScale.defs (F := Bits)) (onTc (τ := Cert.AdamScale.τ) (Cert.AdamScale.main (F := Bits))) ⟨m, fun _ => 0, g⟩ (fun r => (∀ c : Dev Cert.AdamScale.nD,
      r.2.mem ((c.tc : Thread Cert.AdamScale.nD Cert.AdamScale.τ).loc Cert.AdamScale.main_arg0) = m ((c.tc : Thread Cert.AdamScale.nD Cert.AdamScale.τ).loc Cert.AdamScale.main_arg0)
      ∧ r.2.mem ((c.tc : Thread Cert.AdamScale.nD Cert.AdamScale.τ).loc Cert.AdamScale.main_arg1) = m ((c.tc : Thread Cert.AdamScale.nD Cert.AdamScale.τ).loc Cert.AdamScale.main_arg1)
      ∧ r.2.mem ((c.tc : Thread Cert.AdamScale.nD Cert.AdamScale.τ).loc Cert.AdamScale.main_arg2) = m ((c.tc : Thread Cert.AdamScale.nD Cert.AdamScale.τ).loc Cert.AdamScale.main_arg2)
      ∧ r.2.mem ((c.tc : Thread Cert.AdamScale.nD Cert.AdamScale.τ).loc Cert.AdamScale.main_arg3) = m ((c.tc : Thread Cert.AdamScale.nD Cert.AdamScale.τ).loc Cert.AdamScale.main_arg3)
      ∧ r.2.mem ((c.tc : Thread Cert.AdamScale.nD Cert.AdamScale.τ).loc Cert.AdamScale.main_arg4) = m ((c.tc : Thread Cert.AdamScale.nD Cert.AdamScale.τ).loc Cert.AdamScale.main_arg4))
      ∧ r.2.sem = fun _ => 0)

def quiescent_AdamScaleIdeal [hAdamScaleIdeal : Cert.AdamScaleIdeal.Facts] : Prop :=
  ∀ (m : (ℓ : Loc Cert.AdamScaleIdeal.nD Cert.AdamScaleIdeal.τ Cert.AdamScaleIdeal.sig) → Buf (Elt Ideal) ℓ) (g : Dev Cert.AdamScaleIdeal.nD → PrngReg), Pre_AdamScaleIdeal m →
    θ_run (Cert.AdamScaleIdeal.defs (F := Ideal)) (onTc (τ := Cert.AdamScaleIdeal.τ) (Cert.AdamScaleIdeal.main (F := Ideal))) ⟨m, fun _ => 0, g⟩ (fun r => (∀ c : Dev Cert.AdamScaleIdeal.nD,
      r.2.mem ((c.tc : Thread Cert.AdamScaleIdeal.nD Cert.AdamScaleIdeal.τ).loc Cert.AdamScaleIdeal.main_arg0) = m ((c.tc : Thread Cert.AdamScaleIdeal.nD Cert.AdamScaleIdeal.τ).loc Cert.AdamScaleIdeal.main_arg0)
      ∧ r.2.mem ((c.tc : Thread Cert.AdamScaleIdeal.nD Cert.AdamScaleIdeal.τ).loc Cert.AdamScaleIdeal.main_arg1) = m ((c.tc : Thread Cert.AdamScaleIdeal.nD Cert.AdamScaleIdeal.τ).loc Cert.AdamScaleIdeal.main_arg1)
      ∧ r.2.mem ((c.tc : Thread Cert.AdamScaleIdeal.nD Cert.AdamScaleIdeal.τ).loc Cert.AdamScaleIdeal.main_arg2) = m ((c.tc : Thread Cert.AdamScaleIdeal.nD Cert.AdamScaleIdeal.τ).loc Cert.AdamScaleIdeal.main_arg2)
      ∧ r.2.mem ((c.tc : Thread Cert.AdamScaleIdeal.nD Cert.AdamScaleIdeal.τ).loc Cert.AdamScaleIdeal.main_arg3) = m ((c.tc : Thread Cert.AdamScaleIdeal.nD Cert.AdamScaleIdeal.τ).loc Cert.AdamScaleIdeal.main_arg3)
      ∧ r.2.mem ((c.tc : Thread Cert.AdamScaleIdeal.nD Cert.AdamScaleIdeal.τ).loc Cert.AdamScaleIdeal.main_arg4) = m ((c.tc : Thread Cert.AdamScaleIdeal.nD Cert.AdamScaleIdeal.τ).loc Cert.AdamScaleIdeal.main_arg4))
      ∧ r.2.sem = fun _ => 0)

def quiescent_AdamScaleRefIdeal [hAdamScaleRefIdeal : Cert.AdamScaleRefIdeal.Facts] : Prop :=
  ∀ (m : (ℓ : Loc Cert.AdamScaleRefIdeal.nD Cert.AdamScaleRefIdeal.τ Cert.AdamScaleRefIdeal.sig) → Buf (Elt Ideal) ℓ) (g : Dev Cert.AdamScaleRefIdeal.nD → PrngReg), Pre_AdamScaleRefIdeal m →
    θ_run (Cert.AdamScaleRefIdeal.defs (F := Ideal)) (onTc (τ := Cert.AdamScaleRefIdeal.τ) (Cert.AdamScaleRefIdeal.main (F := Ideal))) ⟨m, fun _ => 0, g⟩ (fun r => (∀ c : Dev Cert.AdamScaleRefIdeal.nD,
      r.2.mem ((c.tc : Thread Cert.AdamScaleRefIdeal.nD Cert.AdamScaleRefIdeal.τ).loc Cert.AdamScaleRefIdeal.main_arg0) = m ((c.tc : Thread Cert.AdamScaleRefIdeal.nD Cert.AdamScaleRefIdeal.τ).loc Cert.AdamScaleRefIdeal.main_arg0)
      ∧ r.2.mem ((c.tc : Thread Cert.AdamScaleRefIdeal.nD Cert.AdamScaleRefIdeal.τ).loc Cert.AdamScaleRefIdeal.main_arg1) = m ((c.tc : Thread Cert.AdamScaleRefIdeal.nD Cert.AdamScaleRefIdeal.τ).loc Cert.AdamScaleRefIdeal.main_arg1)
      ∧ r.2.mem ((c.tc : Thread Cert.AdamScaleRefIdeal.nD Cert.AdamScaleRefIdeal.τ).loc Cert.AdamScaleRefIdeal.main_arg2) = m ((c.tc : Thread Cert.AdamScaleRefIdeal.nD Cert.AdamScaleRefIdeal.τ).loc Cert.AdamScaleRefIdeal.main_arg2)
      ∧ r.2.mem ((c.tc : Thread Cert.AdamScaleRefIdeal.nD Cert.AdamScaleRefIdeal.τ).loc Cert.AdamScaleRefIdeal.main_arg3) = m ((c.tc : Thread Cert.AdamScaleRefIdeal.nD Cert.AdamScaleRefIdeal.τ).loc Cert.AdamScaleRefIdeal.main_arg3)
      ∧ r.2.mem ((c.tc : Thread Cert.AdamScaleRefIdeal.nD Cert.AdamScaleRefIdeal.τ).loc Cert.AdamScaleRefIdeal.main_arg4) = m ((c.tc : Thread Cert.AdamScaleRefIdeal.nD Cert.AdamScaleRefIdeal.τ).loc Cert.AdamScaleRefIdeal.main_arg4))
      ∧ r.2.sem = fun _ => 0)

def quiescent_AdamAlpha [hAdamAlpha : Cert.AdamAlpha.Facts] : Prop :=
  ∀ (m : (ℓ : Loc Cert.AdamAlpha.nD Cert.AdamAlpha.τ Cert.AdamAlpha.sig) → Buf (Elt Bits) ℓ) (g : Dev Cert.AdamAlpha.nD → PrngReg), Pre_AdamAlpha m →
    θ_run (Cert.AdamAlpha.defs (F := Bits)) (onTc (τ := Cert.AdamAlpha.τ) (Cert.AdamAlpha.main (F := Bits))) ⟨m, fun _ => 0, g⟩ (fun r => (∀ c : Dev Cert.AdamAlpha.nD,
      r.2.mem ((c.tc : Thread Cert.AdamAlpha.nD Cert.AdamAlpha.τ).loc Cert.AdamAlpha.main_arg0) = m ((c.tc : Thread Cert.AdamAlpha.nD Cert.AdamAlpha.τ).loc Cert.AdamAlpha.main_arg0)
      ∧ r.2.mem ((c.tc : Thread Cert.AdamAlpha.nD Cert.AdamAlpha.τ).loc Cert.AdamAlpha.main_arg1) = m ((c.tc : Thread Cert.AdamAlpha.nD Cert.AdamAlpha.τ).loc Cert.AdamAlpha.main_arg1)
      ∧ r.2.mem ((c.tc : Thread Cert.AdamAlpha.nD Cert.AdamAlpha.τ).loc Cert.AdamAlpha.main_arg2) = m ((c.tc : Thread Cert.AdamAlpha.nD Cert.AdamAlpha.τ).loc Cert.AdamAlpha.main_arg2)
      ∧ r.2.mem ((c.tc : Thread Cert.AdamAlpha.nD Cert.AdamAlpha.τ).loc Cert.AdamAlpha.main_arg3) = m ((c.tc : Thread Cert.AdamAlpha.nD Cert.AdamAlpha.τ).loc Cert.AdamAlpha.main_arg3)
      ∧ r.2.mem ((c.tc : Thread Cert.AdamAlpha.nD Cert.AdamAlpha.τ).loc Cert.AdamAlpha.main_arg4) = m ((c.tc : Thread Cert.AdamAlpha.nD Cert.AdamAlpha.τ).loc Cert.AdamAlpha.main_arg4))
      ∧ r.2.sem = fun _ => 0)

def quiescent_AdamAlphaIdeal [hAdamAlphaIdeal : Cert.AdamAlphaIdeal.Facts] : Prop :=
  ∀ (m : (ℓ : Loc Cert.AdamAlphaIdeal.nD Cert.AdamAlphaIdeal.τ Cert.AdamAlphaIdeal.sig) → Buf (Elt Ideal) ℓ) (g : Dev Cert.AdamAlphaIdeal.nD → PrngReg), Pre_AdamAlphaIdeal m →
    θ_run (Cert.AdamAlphaIdeal.defs (F := Ideal)) (onTc (τ := Cert.AdamAlphaIdeal.τ) (Cert.AdamAlphaIdeal.main (F := Ideal))) ⟨m, fun _ => 0, g⟩ (fun r => (∀ c : Dev Cert.AdamAlphaIdeal.nD,
      r.2.mem ((c.tc : Thread Cert.AdamAlphaIdeal.nD Cert.AdamAlphaIdeal.τ).loc Cert.AdamAlphaIdeal.main_arg0) = m ((c.tc : Thread Cert.AdamAlphaIdeal.nD Cert.AdamAlphaIdeal.τ).loc Cert.AdamAlphaIdeal.main_arg0)
      ∧ r.2.mem ((c.tc : Thread Cert.AdamAlphaIdeal.nD Cert.AdamAlphaIdeal.τ).loc Cert.AdamAlphaIdeal.main_arg1) = m ((c.tc : Thread Cert.AdamAlphaIdeal.nD Cert.AdamAlphaIdeal.τ).loc Cert.AdamAlphaIdeal.main_arg1)
      ∧ r.2.mem ((c.tc : Thread Cert.AdamAlphaIdeal.nD Cert.AdamAlphaIdeal.τ).loc Cert.AdamAlphaIdeal.main_arg2) = m ((c.tc : Thread Cert.AdamAlphaIdeal.nD Cert.AdamAlphaIdeal.τ).loc Cert.AdamAlphaIdeal.main_arg2)
      ∧ r.2.mem ((c.tc : Thread Cert.AdamAlphaIdeal.nD Cert.AdamAlphaIdeal.τ).loc Cert.AdamAlphaIdeal.main_arg3) = m ((c.tc : Thread Cert.AdamAlphaIdeal.nD Cert.AdamAlphaIdeal.τ).loc Cert.AdamAlphaIdeal.main_arg3)
      ∧ r.2.mem ((c.tc : Thread Cert.AdamAlphaIdeal.nD Cert.AdamAlphaIdeal.τ).loc Cert.AdamAlphaIdeal.main_arg4) = m ((c.tc : Thread Cert.AdamAlphaIdeal.nD Cert.AdamAlphaIdeal.τ).loc Cert.AdamAlphaIdeal.main_arg4))
      ∧ r.2.sem = fun _ => 0)

def quiescent_AdamAlphaRefIdeal [hAdamAlphaRefIdeal : Cert.AdamAlphaRefIdeal.Facts] : Prop :=
  ∀ (m : (ℓ : Loc Cert.AdamAlphaRefIdeal.nD Cert.AdamAlphaRefIdeal.τ Cert.AdamAlphaRefIdeal.sig) → Buf (Elt Ideal) ℓ) (g : Dev Cert.AdamAlphaRefIdeal.nD → PrngReg), Pre_AdamAlphaRefIdeal m →
    θ_run (Cert.AdamAlphaRefIdeal.defs (F := Ideal)) (onTc (τ := Cert.AdamAlphaRefIdeal.τ) (Cert.AdamAlphaRefIdeal.main (F := Ideal))) ⟨m, fun _ => 0, g⟩ (fun r => (∀ c : Dev Cert.AdamAlphaRefIdeal.nD,
      r.2.mem ((c.tc : Thread Cert.AdamAlphaRefIdeal.nD Cert.AdamAlphaRefIdeal.τ).loc Cert.AdamAlphaRefIdeal.main_arg0) = m ((c.tc : Thread Cert.AdamAlphaRefIdeal.nD Cert.AdamAlphaRefIdeal.τ).loc Cert.AdamAlphaRefIdeal.main_arg0)
      ∧ r.2.mem ((c.tc : Thread Cert.AdamAlphaRefIdeal.nD Cert.AdamAlphaRefIdeal.τ).loc Cert.AdamAlphaRefIdeal.main_arg1) = m ((c.tc : Thread Cert.AdamAlphaRefIdeal.nD Cert.AdamAlphaRefIdeal.τ).loc Cert.AdamAlphaRefIdeal.main_arg1)
      ∧ r.2.mem ((c.tc : Thread Cert.AdamAlphaRefIdeal.nD Cert.AdamAlphaRefIdeal.τ).loc Cert.AdamAlphaRefIdeal.main_arg2) = m ((c.tc : Thread Cert.AdamAlphaRefIdeal.nD Cert.AdamAlphaRefIdeal.τ).loc Cert.AdamAlphaRefIdeal.main_arg2)
      ∧ r.2.mem ((c.tc : Thread Cert.AdamAlphaRefIdeal.nD Cert.AdamAlphaRefIdeal.τ).loc Cert.AdamAlphaRefIdeal.main_arg3) = m ((c.tc : Thread Cert.AdamAlphaRefIdeal.nD Cert.AdamAlphaRefIdeal.τ).loc Cert.AdamAlphaRefIdeal.main_arg3)
      ∧ r.2.mem ((c.tc : Thread Cert.AdamAlphaRefIdeal.nD Cert.AdamAlphaRefIdeal.τ).loc Cert.AdamAlphaRefIdeal.main_arg4) = m ((c.tc : Thread Cert.AdamAlphaRefIdeal.nD Cert.AdamAlphaRefIdeal.τ).loc Cert.AdamAlphaRefIdeal.main_arg4))
      ∧ r.2.sem = fun _ => 0)

def quiescent_AdamBias [hAdamBias : Cert.AdamBias.Facts] : Prop :=
  ∀ (m : (ℓ : Loc Cert.AdamBias.nD Cert.AdamBias.τ Cert.AdamBias.sig) → Buf (Elt Bits) ℓ) (g : Dev Cert.AdamBias.nD → PrngReg), Pre_AdamBias m →
    θ_run (Cert.AdamBias.defs (F := Bits)) (onTc (τ := Cert.AdamBias.τ) (Cert.AdamBias.main (F := Bits))) ⟨m, fun _ => 0, g⟩ (fun r => (∀ c : Dev Cert.AdamBias.nD,
      r.2.mem ((c.tc : Thread Cert.AdamBias.nD Cert.AdamBias.τ).loc Cert.AdamBias.main_arg0) = m ((c.tc : Thread Cert.AdamBias.nD Cert.AdamBias.τ).loc Cert.AdamBias.main_arg0)
      ∧ r.2.mem ((c.tc : Thread Cert.AdamBias.nD Cert.AdamBias.τ).loc Cert.AdamBias.main_arg1) = m ((c.tc : Thread Cert.AdamBias.nD Cert.AdamBias.τ).loc Cert.AdamBias.main_arg1)
      ∧ r.2.mem ((c.tc : Thread Cert.AdamBias.nD Cert.AdamBias.τ).loc Cert.AdamBias.main_arg2) = m ((c.tc : Thread Cert.AdamBias.nD Cert.AdamBias.τ).loc Cert.AdamBias.main_arg2)
      ∧ r.2.mem ((c.tc : Thread Cert.AdamBias.nD Cert.AdamBias.τ).loc Cert.AdamBias.main_arg3) = m ((c.tc : Thread Cert.AdamBias.nD Cert.AdamBias.τ).loc Cert.AdamBias.main_arg3)
      ∧ r.2.mem ((c.tc : Thread Cert.AdamBias.nD Cert.AdamBias.τ).loc Cert.AdamBias.main_arg4) = m ((c.tc : Thread Cert.AdamBias.nD Cert.AdamBias.τ).loc Cert.AdamBias.main_arg4))
      ∧ r.2.sem = fun _ => 0)

def quiescent_AdamBiasIdeal [hAdamBiasIdeal : Cert.AdamBiasIdeal.Facts] : Prop :=
  ∀ (m : (ℓ : Loc Cert.AdamBiasIdeal.nD Cert.AdamBiasIdeal.τ Cert.AdamBiasIdeal.sig) → Buf (Elt Ideal) ℓ) (g : Dev Cert.AdamBiasIdeal.nD → PrngReg), Pre_AdamBiasIdeal m →
    θ_run (Cert.AdamBiasIdeal.defs (F := Ideal)) (onTc (τ := Cert.AdamBiasIdeal.τ) (Cert.AdamBiasIdeal.main (F := Ideal))) ⟨m, fun _ => 0, g⟩ (fun r => (∀ c : Dev Cert.AdamBiasIdeal.nD,
      r.2.mem ((c.tc : Thread Cert.AdamBiasIdeal.nD Cert.AdamBiasIdeal.τ).loc Cert.AdamBiasIdeal.main_arg0) = m ((c.tc : Thread Cert.AdamBiasIdeal.nD Cert.AdamBiasIdeal.τ).loc Cert.AdamBiasIdeal.main_arg0)
      ∧ r.2.mem ((c.tc : Thread Cert.AdamBiasIdeal.nD Cert.AdamBiasIdeal.τ).loc Cert.AdamBiasIdeal.main_arg1) = m ((c.tc : Thread Cert.AdamBiasIdeal.nD Cert.AdamBiasIdeal.τ).loc Cert.AdamBiasIdeal.main_arg1)
      ∧ r.2.mem ((c.tc : Thread Cert.AdamBiasIdeal.nD Cert.AdamBiasIdeal.τ).loc Cert.AdamBiasIdeal.main_arg2) = m ((c.tc : Thread Cert.AdamBiasIdeal.nD Cert.AdamBiasIdeal.τ).loc Cert.AdamBiasIdeal.main_arg2)
      ∧ r.2.mem ((c.tc : Thread Cert.AdamBiasIdeal.nD Cert.AdamBiasIdeal.τ).loc Cert.AdamBiasIdeal.main_arg3) = m ((c.tc : Thread Cert.AdamBiasIdeal.nD Cert.AdamBiasIdeal.τ).loc Cert.AdamBiasIdeal.main_arg3)
      ∧ r.2.mem ((c.tc : Thread Cert.AdamBiasIdeal.nD Cert.AdamBiasIdeal.τ).loc Cert.AdamBiasIdeal.main_arg4) = m ((c.tc : Thread Cert.AdamBiasIdeal.nD Cert.AdamBiasIdeal.τ).loc Cert.AdamBiasIdeal.main_arg4))
      ∧ r.2.sem = fun _ => 0)

def quiescent_AdamBiasRefIdeal [hAdamBiasRefIdeal : Cert.AdamBiasRefIdeal.Facts] : Prop :=
  ∀ (m : (ℓ : Loc Cert.AdamBiasRefIdeal.nD Cert.AdamBiasRefIdeal.τ Cert.AdamBiasRefIdeal.sig) → Buf (Elt Ideal) ℓ) (g : Dev Cert.AdamBiasRefIdeal.nD → PrngReg), Pre_AdamBiasRefIdeal m →
    θ_run (Cert.AdamBiasRefIdeal.defs (F := Ideal)) (onTc (τ := Cert.AdamBiasRefIdeal.τ) (Cert.AdamBiasRefIdeal.main (F := Ideal))) ⟨m, fun _ => 0, g⟩ (fun r => (∀ c : Dev Cert.AdamBiasRefIdeal.nD,
      r.2.mem ((c.tc : Thread Cert.AdamBiasRefIdeal.nD Cert.AdamBiasRefIdeal.τ).loc Cert.AdamBiasRefIdeal.main_arg0) = m ((c.tc : Thread Cert.AdamBiasRefIdeal.nD Cert.AdamBiasRefIdeal.τ).loc Cert.AdamBiasRefIdeal.main_arg0)
      ∧ r.2.mem ((c.tc : Thread Cert.AdamBiasRefIdeal.nD Cert.AdamBiasRefIdeal.τ).loc Cert.AdamBiasRefIdeal.main_arg1) = m ((c.tc : Thread Cert.AdamBiasRefIdeal.nD Cert.AdamBiasRefIdeal.τ).loc Cert.AdamBiasRefIdeal.main_arg1)
      ∧ r.2.mem ((c.tc : Thread Cert.AdamBiasRefIdeal.nD Cert.AdamBiasRefIdeal.τ).loc Cert.AdamBiasRefIdeal.main_arg2) = m ((c.tc : Thread Cert.AdamBiasRefIdeal.nD Cert.AdamBiasRefIdeal.τ).loc Cert.AdamBiasRefIdeal.main_arg2)
      ∧ r.2.mem ((c.tc : Thread Cert.AdamBiasRefIdeal.nD Cert.AdamBiasRefIdeal.τ).loc Cert.AdamBiasRefIdeal.main_arg3) = m ((c.tc : Thread Cert.AdamBiasRefIdeal.nD Cert.AdamBiasRefIdeal.τ).loc Cert.AdamBiasRefIdeal.main_arg3)
      ∧ r.2.mem ((c.tc : Thread Cert.AdamBiasRefIdeal.nD Cert.AdamBiasRefIdeal.τ).loc Cert.AdamBiasRefIdeal.main_arg4) = m ((c.tc : Thread Cert.AdamBiasRefIdeal.nD Cert.AdamBiasRefIdeal.τ).loc Cert.AdamBiasRefIdeal.main_arg4))
      ∧ r.2.sem = fun _ => 0)

def quiescent_AdamHead [hAdamHead : Cert.AdamHead.Facts] : Prop :=
  ∀ (m : (ℓ : Loc Cert.AdamHead.nD Cert.AdamHead.τ Cert.AdamHead.sig) → Buf (Elt Bits) ℓ) (g : Dev Cert.AdamHead.nD → PrngReg), Pre_AdamHead m →
    θ_run (Cert.AdamHead.defs (F := Bits)) (onTc (τ := Cert.AdamHead.τ) (Cert.AdamHead.main (F := Bits))) ⟨m, fun _ => 0, g⟩ (fun r => (∀ c : Dev Cert.AdamHead.nD,
      r.2.mem ((c.tc : Thread Cert.AdamHead.nD Cert.AdamHead.τ).loc Cert.AdamHead.main_arg0) = m ((c.tc : Thread Cert.AdamHead.nD Cert.AdamHead.τ).loc Cert.AdamHead.main_arg0)
      ∧ r.2.mem ((c.tc : Thread Cert.AdamHead.nD Cert.AdamHead.τ).loc Cert.AdamHead.main_arg1) = m ((c.tc : Thread Cert.AdamHead.nD Cert.AdamHead.τ).loc Cert.AdamHead.main_arg1)
      ∧ r.2.mem ((c.tc : Thread Cert.AdamHead.nD Cert.AdamHead.τ).loc Cert.AdamHead.main_arg2) = m ((c.tc : Thread Cert.AdamHead.nD Cert.AdamHead.τ).loc Cert.AdamHead.main_arg2)
      ∧ r.2.mem ((c.tc : Thread Cert.AdamHead.nD Cert.AdamHead.τ).loc Cert.AdamHead.main_arg3) = m ((c.tc : Thread Cert.AdamHead.nD Cert.AdamHead.τ).loc Cert.AdamHead.main_arg3)
      ∧ r.2.mem ((c.tc : Thread Cert.AdamHead.nD Cert.AdamHead.τ).loc Cert.AdamHead.main_arg4) = m ((c.tc : Thread Cert.AdamHead.nD Cert.AdamHead.τ).loc Cert.AdamHead.main_arg4))
      ∧ r.2.sem = fun _ => 0)

def quiescent_AdamHeadIdeal [hAdamHeadIdeal : Cert.AdamHeadIdeal.Facts] : Prop :=
  ∀ (m : (ℓ : Loc Cert.AdamHeadIdeal.nD Cert.AdamHeadIdeal.τ Cert.AdamHeadIdeal.sig) → Buf (Elt Ideal) ℓ) (g : Dev Cert.AdamHeadIdeal.nD → PrngReg), Pre_AdamHeadIdeal m →
    θ_run (Cert.AdamHeadIdeal.defs (F := Ideal)) (onTc (τ := Cert.AdamHeadIdeal.τ) (Cert.AdamHeadIdeal.main (F := Ideal))) ⟨m, fun _ => 0, g⟩ (fun r => (∀ c : Dev Cert.AdamHeadIdeal.nD,
      r.2.mem ((c.tc : Thread Cert.AdamHeadIdeal.nD Cert.AdamHeadIdeal.τ).loc Cert.AdamHeadIdeal.main_arg0) = m ((c.tc : Thread Cert.AdamHeadIdeal.nD Cert.AdamHeadIdeal.τ).loc Cert.AdamHeadIdeal.main_arg0)
      ∧ r.2.mem ((c.tc : Thread Cert.AdamHeadIdeal.nD Cert.AdamHeadIdeal.τ).loc Cert.AdamHeadIdeal.main_arg1) = m ((c.tc : Thread Cert.AdamHeadIdeal.nD Cert.AdamHeadIdeal.τ).loc Cert.AdamHeadIdeal.main_arg1)
      ∧ r.2.mem ((c.tc : Thread Cert.AdamHeadIdeal.nD Cert.AdamHeadIdeal.τ).loc Cert.AdamHeadIdeal.main_arg2) = m ((c.tc : Thread Cert.AdamHeadIdeal.nD Cert.AdamHeadIdeal.τ).loc Cert.AdamHeadIdeal.main_arg2)
      ∧ r.2.mem ((c.tc : Thread Cert.AdamHeadIdeal.nD Cert.AdamHeadIdeal.τ).loc Cert.AdamHeadIdeal.main_arg3) = m ((c.tc : Thread Cert.AdamHeadIdeal.nD Cert.AdamHeadIdeal.τ).loc Cert.AdamHeadIdeal.main_arg3)
      ∧ r.2.mem ((c.tc : Thread Cert.AdamHeadIdeal.nD Cert.AdamHeadIdeal.τ).loc Cert.AdamHeadIdeal.main_arg4) = m ((c.tc : Thread Cert.AdamHeadIdeal.nD Cert.AdamHeadIdeal.τ).loc Cert.AdamHeadIdeal.main_arg4))
      ∧ r.2.sem = fun _ => 0)

def quiescent_AdamHeadRefIdeal [hAdamHeadRefIdeal : Cert.AdamHeadRefIdeal.Facts] : Prop :=
  ∀ (m : (ℓ : Loc Cert.AdamHeadRefIdeal.nD Cert.AdamHeadRefIdeal.τ Cert.AdamHeadRefIdeal.sig) → Buf (Elt Ideal) ℓ) (g : Dev Cert.AdamHeadRefIdeal.nD → PrngReg), Pre_AdamHeadRefIdeal m →
    θ_run (Cert.AdamHeadRefIdeal.defs (F := Ideal)) (onTc (τ := Cert.AdamHeadRefIdeal.τ) (Cert.AdamHeadRefIdeal.main (F := Ideal))) ⟨m, fun _ => 0, g⟩ (fun r => (∀ c : Dev Cert.AdamHeadRefIdeal.nD,
      r.2.mem ((c.tc : Thread Cert.AdamHeadRefIdeal.nD Cert.AdamHeadRefIdeal.τ).loc Cert.AdamHeadRefIdeal.main_arg0) = m ((c.tc : Thread Cert.AdamHeadRefIdeal.nD Cert.AdamHeadRefIdeal.τ).loc Cert.AdamHeadRefIdeal.main_arg0)
      ∧ r.2.mem ((c.tc : Thread Cert.AdamHeadRefIdeal.nD Cert.AdamHeadRefIdeal.τ).loc Cert.AdamHeadRefIdeal.main_arg1) = m ((c.tc : Thread Cert.AdamHeadRefIdeal.nD Cert.AdamHeadRefIdeal.τ).loc Cert.AdamHeadRefIdeal.main_arg1)
      ∧ r.2.mem ((c.tc : Thread Cert.AdamHeadRefIdeal.nD Cert.AdamHeadRefIdeal.τ).loc Cert.AdamHeadRefIdeal.main_arg2) = m ((c.tc : Thread Cert.AdamHeadRefIdeal.nD Cert.AdamHeadRefIdeal.τ).loc Cert.AdamHeadRefIdeal.main_arg2)
      ∧ r.2.mem ((c.tc : Thread Cert.AdamHeadRefIdeal.nD Cert.AdamHeadRefIdeal.τ).loc Cert.AdamHeadRefIdeal.main_arg3) = m ((c.tc : Thread Cert.AdamHeadRefIdeal.nD Cert.AdamHeadRefIdeal.τ).loc Cert.AdamHeadRefIdeal.main_arg3)
      ∧ r.2.mem ((c.tc : Thread Cert.AdamHeadRefIdeal.nD Cert.AdamHeadRefIdeal.τ).loc Cert.AdamHeadRefIdeal.main_arg4) = m ((c.tc : Thread Cert.AdamHeadRefIdeal.nD Cert.AdamHeadRefIdeal.τ).loc Cert.AdamHeadRefIdeal.main_arg4))
      ∧ r.2.sem = fun _ => 0)

def quiescent_Small [hSmall : Cert.Small.Facts] : Prop :=
  ∀ (m : (ℓ : Loc Cert.Small.nD Cert.Small.τ Cert.Small.sig) → Buf (Elt Bits) ℓ) (g : Dev Cert.Small.nD → PrngReg), Pre_Small m →
    θ_run (Cert.Small.defs (F := Bits)) (onTc (τ := Cert.Small.τ) (Cert.Small.main (F := Bits))) ⟨m, fun _ => 0, g⟩ (fun r => (∀ c : Dev Cert.Small.nD,
      r.2.mem ((c.tc : Thread Cert.Small.nD Cert.Small.τ).loc Cert.Small.main_arg0) = m ((c.tc : Thread Cert.Small.nD Cert.Small.τ).loc Cert.Small.main_arg0)
      ∧ r.2.mem ((c.tc : Thread Cert.Small.nD Cert.Small.τ).loc Cert.Small.main_arg1) = m ((c.tc : Thread Cert.Small.nD Cert.Small.τ).loc Cert.Small.main_arg1)
      ∧ r.2.mem ((c.tc : Thread Cert.Small.nD Cert.Small.τ).loc Cert.Small.main_arg2) = m ((c.tc : Thread Cert.Small.nD Cert.Small.τ).loc Cert.Small.main_arg2)
      ∧ r.2.mem ((c.tc : Thread Cert.Small.nD Cert.Small.τ).loc Cert.Small.main_arg3) = m ((c.tc : Thread Cert.Small.nD Cert.Small.τ).loc Cert.Small.main_arg3)
      ∧ r.2.mem ((c.tc : Thread Cert.Small.nD Cert.Small.τ).loc Cert.Small.main_arg4) = m ((c.tc : Thread Cert.Small.nD Cert.Small.τ).loc Cert.Small.main_arg4)
      ∧ r.2.mem ((c.tc : Thread Cert.Small.nD Cert.Small.τ).loc Cert.Small.main_arg5) = m ((c.tc : Thread Cert.Small.nD Cert.Small.τ).loc Cert.Small.main_arg5)
      ∧ r.2.mem ((c.tc : Thread Cert.Small.nD Cert.Small.τ).loc Cert.Small.main_arg6) = m ((c.tc : Thread Cert.Small.nD Cert.Small.τ).loc Cert.Small.main_arg6)
      ∧ r.2.mem ((c.tc : Thread Cert.Small.nD Cert.Small.τ).loc Cert.Small.main_arg7) = m ((c.tc : Thread Cert.Small.nD Cert.Small.τ).loc Cert.Small.main_arg7)
      ∧ r.2.mem ((c.tc : Thread Cert.Small.nD Cert.Small.τ).loc Cert.Small.main_arg8) = m ((c.tc : Thread Cert.Small.nD Cert.Small.τ).loc Cert.Small.main_arg8))
      ∧ r.2.sem = fun _ => 0)

def quiescent_SmallIdeal [hSmallIdeal : Cert.SmallIdeal.Facts] : Prop :=
  ∀ (m : (ℓ : Loc Cert.SmallIdeal.nD Cert.SmallIdeal.τ Cert.SmallIdeal.sig) → Buf (Elt Ideal) ℓ) (g : Dev Cert.SmallIdeal.nD → PrngReg), Pre_SmallIdeal m →
    θ_run (Cert.SmallIdeal.defs (F := Ideal)) (onTc (τ := Cert.SmallIdeal.τ) (Cert.SmallIdeal.main (F := Ideal))) ⟨m, fun _ => 0, g⟩ (fun r => (∀ c : Dev Cert.SmallIdeal.nD,
      r.2.mem ((c.tc : Thread Cert.SmallIdeal.nD Cert.SmallIdeal.τ).loc Cert.SmallIdeal.main_arg0) = m ((c.tc : Thread Cert.SmallIdeal.nD Cert.SmallIdeal.τ).loc Cert.SmallIdeal.main_arg0)
      ∧ r.2.mem ((c.tc : Thread Cert.SmallIdeal.nD Cert.SmallIdeal.τ).loc Cert.SmallIdeal.main_arg1) = m ((c.tc : Thread Cert.SmallIdeal.nD Cert.SmallIdeal.τ).loc Cert.SmallIdeal.main_arg1)
      ∧ r.2.mem ((c.tc : Thread Cert.SmallIdeal.nD Cert.SmallIdeal.τ).loc Cert.SmallIdeal.main_arg2) = m ((c.tc : Thread Cert.SmallIdeal.nD Cert.SmallIdeal.τ).loc Cert.SmallIdeal.main_arg2)
      ∧ r.2.mem ((c.tc : Thread Cert.SmallIdeal.nD Cert.SmallIdeal.τ).loc Cert.SmallIdeal.main_arg3) = m ((c.tc : Thread Cert.SmallIdeal.nD Cert.SmallIdeal.τ).loc Cert.SmallIdeal.main_arg3)
      ∧ r.2.mem ((c.tc : Thread Cert.SmallIdeal.nD Cert.SmallIdeal.τ).loc Cert.SmallIdeal.main_arg4) = m ((c.tc : Thread Cert.SmallIdeal.nD Cert.SmallIdeal.τ).loc Cert.SmallIdeal.main_arg4)
      ∧ r.2.mem ((c.tc : Thread Cert.SmallIdeal.nD Cert.SmallIdeal.τ).loc Cert.SmallIdeal.main_arg5) = m ((c.tc : Thread Cert.SmallIdeal.nD Cert.SmallIdeal.τ).loc Cert.SmallIdeal.main_arg5)
      ∧ r.2.mem ((c.tc : Thread Cert.SmallIdeal.nD Cert.SmallIdeal.τ).loc Cert.SmallIdeal.main_arg6) = m ((c.tc : Thread Cert.SmallIdeal.nD Cert.SmallIdeal.τ).loc Cert.SmallIdeal.main_arg6)
      ∧ r.2.mem ((c.tc : Thread Cert.SmallIdeal.nD Cert.SmallIdeal.τ).loc Cert.SmallIdeal.main_arg7) = m ((c.tc : Thread Cert.SmallIdeal.nD Cert.SmallIdeal.τ).loc Cert.SmallIdeal.main_arg7)
      ∧ r.2.mem ((c.tc : Thread Cert.SmallIdeal.nD Cert.SmallIdeal.τ).loc Cert.SmallIdeal.main_arg8) = m ((c.tc : Thread Cert.SmallIdeal.nD Cert.SmallIdeal.τ).loc Cert.SmallIdeal.main_arg8))
      ∧ r.2.sem = fun _ => 0)

def quiescent_SmallRefIdeal [hSmallRefIdeal : Cert.SmallRefIdeal.Facts] : Prop :=
  ∀ (m : (ℓ : Loc Cert.SmallRefIdeal.nD Cert.SmallRefIdeal.τ Cert.SmallRefIdeal.sig) → Buf (Elt Ideal) ℓ) (g : Dev Cert.SmallRefIdeal.nD → PrngReg), Pre_SmallRefIdeal m →
    θ_run (Cert.SmallRefIdeal.defs (F := Ideal)) (onTc (τ := Cert.SmallRefIdeal.τ) (Cert.SmallRefIdeal.main (F := Ideal))) ⟨m, fun _ => 0, g⟩ (fun r => (∀ c : Dev Cert.SmallRefIdeal.nD,
      r.2.mem ((c.tc : Thread Cert.SmallRefIdeal.nD Cert.SmallRefIdeal.τ).loc Cert.SmallRefIdeal.main_arg0) = m ((c.tc : Thread Cert.SmallRefIdeal.nD Cert.SmallRefIdeal.τ).loc Cert.SmallRefIdeal.main_arg0)
      ∧ r.2.mem ((c.tc : Thread Cert.SmallRefIdeal.nD Cert.SmallRefIdeal.τ).loc Cert.SmallRefIdeal.main_arg1) = m ((c.tc : Thread Cert.SmallRefIdeal.nD Cert.SmallRefIdeal.τ).loc Cert.SmallRefIdeal.main_arg1)
      ∧ r.2.mem ((c.tc : Thread Cert.SmallRefIdeal.nD Cert.SmallRefIdeal.τ).loc Cert.SmallRefIdeal.main_arg2) = m ((c.tc : Thread Cert.SmallRefIdeal.nD Cert.SmallRefIdeal.τ).loc Cert.SmallRefIdeal.main_arg2)
      ∧ r.2.mem ((c.tc : Thread Cert.SmallRefIdeal.nD Cert.SmallRefIdeal.τ).loc Cert.SmallRefIdeal.main_arg3) = m ((c.tc : Thread Cert.SmallRefIdeal.nD Cert.SmallRefIdeal.τ).loc Cert.SmallRefIdeal.main_arg3)
      ∧ r.2.mem ((c.tc : Thread Cert.SmallRefIdeal.nD Cert.SmallRefIdeal.τ).loc Cert.SmallRefIdeal.main_arg4) = m ((c.tc : Thread Cert.SmallRefIdeal.nD Cert.SmallRefIdeal.τ).loc Cert.SmallRefIdeal.main_arg4)
      ∧ r.2.mem ((c.tc : Thread Cert.SmallRefIdeal.nD Cert.SmallRefIdeal.τ).loc Cert.SmallRefIdeal.main_arg5) = m ((c.tc : Thread Cert.SmallRefIdeal.nD Cert.SmallRefIdeal.τ).loc Cert.SmallRefIdeal.main_arg5)
      ∧ r.2.mem ((c.tc : Thread Cert.SmallRefIdeal.nD Cert.SmallRefIdeal.τ).loc Cert.SmallRefIdeal.main_arg6) = m ((c.tc : Thread Cert.SmallRefIdeal.nD Cert.SmallRefIdeal.τ).loc Cert.SmallRefIdeal.main_arg6)
      ∧ r.2.mem ((c.tc : Thread Cert.SmallRefIdeal.nD Cert.SmallRefIdeal.τ).loc Cert.SmallRefIdeal.main_arg7) = m ((c.tc : Thread Cert.SmallRefIdeal.nD Cert.SmallRefIdeal.τ).loc Cert.SmallRefIdeal.main_arg7)
      ∧ r.2.mem ((c.tc : Thread Cert.SmallRefIdeal.nD Cert.SmallRefIdeal.τ).loc Cert.SmallRefIdeal.main_arg8) = m ((c.tc : Thread Cert.SmallRefIdeal.nD Cert.SmallRefIdeal.τ).loc Cert.SmallRefIdeal.main_arg8))
      ∧ r.2.sem = fun _ => 0)

def quiescent_SumUp [hSumUp : Cert.SumUp.Facts] [hPre_up_place_named : Cert.Pre_up_place_named.Facts] : Prop :=
  ∀ (m : (ℓ : Loc Cert.SumUp.nD Cert.SumUp.τ Cert.SumUp.sig) → Buf (Elt Bits) ℓ) (g : Dev Cert.SumUp.nD → PrngReg), Pre_SumUp m →
    θ_run (Cert.SumUp.defs (F := Bits)) (onTc (τ := Cert.SumUp.τ) (Cert.SumUp.main (F := Bits))) ⟨m, fun _ => 0, g⟩ (fun r => (∀ c : Dev Cert.SumUp.nD,
      r.2.mem ((c.tc : Thread Cert.SumUp.nD Cert.SumUp.τ).loc Cert.SumUp.main_arg0) = m ((c.tc : Thread Cert.SumUp.nD Cert.SumUp.τ).loc Cert.SumUp.main_arg0)
      ∧ r.2.mem ((c.tc : Thread Cert.SumUp.nD Cert.SumUp.τ).loc Cert.SumUp.main_arg1) = m ((c.tc : Thread Cert.SumUp.nD Cert.SumUp.τ).loc Cert.SumUp.main_arg1)
      ∧ r.2.mem ((c.tc : Thread Cert.SumUp.nD Cert.SumUp.τ).loc Cert.SumUp.main_arg2) = m ((c.tc : Thread Cert.SumUp.nD Cert.SumUp.τ).loc Cert.SumUp.main_arg2)
      ∧ r.2.mem ((c.tc : Thread Cert.SumUp.nD Cert.SumUp.τ).loc Cert.SumUp.main_arg3) = m ((c.tc : Thread Cert.SumUp.nD Cert.SumUp.τ).loc Cert.SumUp.main_arg3))
      ∧ r.2.sem = fun _ => 0)

def quiescent_SumUpIdeal [hSumUpIdeal : Cert.SumUpIdeal.Facts] [hPre_up_place_named : Cert.Pre_up_place_named.Facts] : Prop :=
  ∀ (m : (ℓ : Loc Cert.SumUpIdeal.nD Cert.SumUpIdeal.τ Cert.SumUpIdeal.sig) → Buf (Elt Ideal) ℓ) (g : Dev Cert.SumUpIdeal.nD → PrngReg), Pre_SumUpIdeal m →
    θ_run (Cert.SumUpIdeal.defs (F := Ideal)) (onTc (τ := Cert.SumUpIdeal.τ) (Cert.SumUpIdeal.main (F := Ideal))) ⟨m, fun _ => 0, g⟩ (fun r => (∀ c : Dev Cert.SumUpIdeal.nD,
      r.2.mem ((c.tc : Thread Cert.SumUpIdeal.nD Cert.SumUpIdeal.τ).loc Cert.SumUpIdeal.main_arg0) = m ((c.tc : Thread Cert.SumUpIdeal.nD Cert.SumUpIdeal.τ).loc Cert.SumUpIdeal.main_arg0)
      ∧ r.2.mem ((c.tc : Thread Cert.SumUpIdeal.nD Cert.SumUpIdeal.τ).loc Cert.SumUpIdeal.main_arg1) = m ((c.tc : Thread Cert.SumUpIdeal.nD Cert.SumUpIdeal.τ).loc Cert.SumUpIdeal.main_arg1)
      ∧ r.2.mem ((c.tc : Thread Cert.SumUpIdeal.nD Cert.SumUpIdeal.τ).loc Cert.SumUpIdeal.main_arg2) = m ((c.tc : Thread Cert.SumUpIdeal.nD Cert.SumUpIdeal.τ).loc Cert.SumUpIdeal.main_arg2)
      ∧ r.2.mem ((c.tc : Thread Cert.SumUpIdeal.nD Cert.SumUpIdeal.τ).loc Cert.SumUpIdeal.main_arg3) = m ((c.tc : Thread Cert.SumUpIdeal.nD Cert.SumUpIdeal.τ).loc Cert.SumUpIdeal.main_arg3))
      ∧ r.2.sem = fun _ => 0)

def quiescent_SumUpRefIdeal [hSumUpRefIdeal : Cert.SumUpRefIdeal.Facts] : Prop :=
  ∀ (m : (ℓ : Loc Cert.SumUpRefIdeal.nD Cert.SumUpRefIdeal.τ Cert.SumUpRefIdeal.sig) → Buf (Elt Ideal) ℓ) (g : Dev Cert.SumUpRefIdeal.nD → PrngReg), Pre_SumUpRefIdeal m →
    θ_run (Cert.SumUpRefIdeal.defs (F := Ideal)) (onTc (τ := Cert.SumUpRefIdeal.τ) (Cert.SumUpRefIdeal.main (F := Ideal))) ⟨m, fun _ => 0, g⟩ (fun r => (∀ c : Dev Cert.SumUpRefIdeal.nD,
      r.2.mem ((c.tc : Thread Cert.SumUpRefIdeal.nD Cert.SumUpRefIdeal.τ).loc Cert.SumUpRefIdeal.main_arg0) = m ((c.tc : Thread Cert.SumUpRefIdeal.nD Cert.SumUpRefIdeal.τ).loc Cert.SumUpRefIdeal.main_arg0)
      ∧ r.2.mem ((c.tc : Thread Cert.SumUpRefIdeal.nD Cert.SumUpRefIdeal.τ).loc Cert.SumUpRefIdeal.main_arg1) = m ((c.tc : Thread Cert.SumUpRefIdeal.nD Cert.SumUpRefIdeal.τ).loc Cert.SumUpRefIdeal.main_arg1)
      ∧ r.2.mem ((c.tc : Thread Cert.SumUpRefIdeal.nD Cert.SumUpRefIdeal.τ).loc Cert.SumUpRefIdeal.main_arg2) = m ((c.tc : Thread Cert.SumUpRefIdeal.nD Cert.SumUpRefIdeal.τ).loc Cert.SumUpRefIdeal.main_arg2)
      ∧ r.2.mem ((c.tc : Thread Cert.SumUpRefIdeal.nD Cert.SumUpRefIdeal.τ).loc Cert.SumUpRefIdeal.main_arg3) = m ((c.tc : Thread Cert.SumUpRefIdeal.nD Cert.SumUpRefIdeal.τ).loc Cert.SumUpRefIdeal.main_arg3))
      ∧ r.2.sem = fun _ => 0)

def quiescent_SumUpRefIdeal_pre_up_place_named [hSumUpRefIdeal : Cert.SumUpRefIdeal.Facts] [hPre_up_place_named : Cert.Pre_up_place_named.Facts] : Prop :=
  ∀ (m : (ℓ : Loc Cert.SumUpRefIdeal.nD Cert.SumUpRefIdeal.τ Cert.SumUpRefIdeal.sig) → Buf (Elt Ideal) ℓ) (g : Dev Cert.SumUpRefIdeal.nD → PrngReg), Pre_SumUpRefIdeal_up_place_named m →
    θ_run (Cert.SumUpRefIdeal.defs (F := Ideal)) (onTc (τ := Cert.SumUpRefIdeal.τ) (Cert.SumUpRefIdeal.main (F := Ideal))) ⟨m, fun _ => 0, g⟩ (fun r => (∀ c : Dev Cert.SumUpRefIdeal.nD,
      r.2.mem ((c.tc : Thread Cert.SumUpRefIdeal.nD Cert.SumUpRefIdeal.τ).loc Cert.SumUpRefIdeal.main_arg0) = m ((c.tc : Thread Cert.SumUpRefIdeal.nD Cert.SumUpRefIdeal.τ).loc Cert.SumUpRefIdeal.main_arg0)
      ∧ r.2.mem ((c.tc : Thread Cert.SumUpRefIdeal.nD Cert.SumUpRefIdeal.τ).loc Cert.SumUpRefIdeal.main_arg1) = m ((c.tc : Thread Cert.SumUpRefIdeal.nD Cert.SumUpRefIdeal.τ).loc Cert.SumUpRefIdeal.main_arg1)
      ∧ r.2.mem ((c.tc : Thread Cert.SumUpRefIdeal.nD Cert.SumUpRefIdeal.τ).loc Cert.SumUpRefIdeal.main_arg2) = m ((c.tc : Thread Cert.SumUpRefIdeal.nD Cert.SumUpRefIdeal.τ).loc Cert.SumUpRefIdeal.main_arg2)
      ∧ r.2.mem ((c.tc : Thread Cert.SumUpRefIdeal.nD Cert.SumUpRefIdeal.τ).loc Cert.SumUpRefIdeal.main_arg3) = m ((c.tc : Thread Cert.SumUpRefIdeal.nD Cert.SumUpRefIdeal.τ).loc Cert.SumUpRefIdeal.main_arg3))
      ∧ r.2.sem = fun _ => 0)

def quiescent_SumOut [hSumOut : Cert.SumOut.Facts] [hPre_out_place_named : Cert.Pre_out_place_named.Facts] : Prop :=
  ∀ (m : (ℓ : Loc Cert.SumOut.nD Cert.SumOut.τ Cert.SumOut.sig) → Buf (Elt Bits) ℓ) (g : Dev Cert.SumOut.nD → PrngReg), Pre_SumOut m →
    θ_run (Cert.SumOut.defs (F := Bits)) (onTc (τ := Cert.SumOut.τ) (Cert.SumOut.main (F := Bits))) ⟨m, fun _ => 0, g⟩ (fun r => (∀ c : Dev Cert.SumOut.nD,
      r.2.mem ((c.tc : Thread Cert.SumOut.nD Cert.SumOut.τ).loc Cert.SumOut.main_arg0) = m ((c.tc : Thread Cert.SumOut.nD Cert.SumOut.τ).loc Cert.SumOut.main_arg0)
      ∧ r.2.mem ((c.tc : Thread Cert.SumOut.nD Cert.SumOut.τ).loc Cert.SumOut.main_arg1) = m ((c.tc : Thread Cert.SumOut.nD Cert.SumOut.τ).loc Cert.SumOut.main_arg1)
      ∧ r.2.mem ((c.tc : Thread Cert.SumOut.nD Cert.SumOut.τ).loc Cert.SumOut.main_arg2) = m ((c.tc : Thread Cert.SumOut.nD Cert.SumOut.τ).loc Cert.SumOut.main_arg2)
      ∧ r.2.mem ((c.tc : Thread Cert.SumOut.nD Cert.SumOut.τ).loc Cert.SumOut.main_arg3) = m ((c.tc : Thread Cert.SumOut.nD Cert.SumOut.τ).loc Cert.SumOut.main_arg3))
      ∧ r.2.sem = fun _ => 0)

def quiescent_SumOutIdeal [hSumOutIdeal : Cert.SumOutIdeal.Facts] [hPre_out_place_named : Cert.Pre_out_place_named.Facts] : Prop :=
  ∀ (m : (ℓ : Loc Cert.SumOutIdeal.nD Cert.SumOutIdeal.τ Cert.SumOutIdeal.sig) → Buf (Elt Ideal) ℓ) (g : Dev Cert.SumOutIdeal.nD → PrngReg), Pre_SumOutIdeal m →
    θ_run (Cert.SumOutIdeal.defs (F := Ideal)) (onTc (τ := Cert.SumOutIdeal.τ) (Cert.SumOutIdeal.main (F := Ideal))) ⟨m, fun _ => 0, g⟩ (fun r => (∀ c : Dev Cert.SumOutIdeal.nD,
      r.2.mem ((c.tc : Thread Cert.SumOutIdeal.nD Cert.SumOutIdeal.τ).loc Cert.SumOutIdeal.main_arg0) = m ((c.tc : Thread Cert.SumOutIdeal.nD Cert.SumOutIdeal.τ).loc Cert.SumOutIdeal.main_arg0)
      ∧ r.2.mem ((c.tc : Thread Cert.SumOutIdeal.nD Cert.SumOutIdeal.τ).loc Cert.SumOutIdeal.main_arg1) = m ((c.tc : Thread Cert.SumOutIdeal.nD Cert.SumOutIdeal.τ).loc Cert.SumOutIdeal.main_arg1)
      ∧ r.2.mem ((c.tc : Thread Cert.SumOutIdeal.nD Cert.SumOutIdeal.τ).loc Cert.SumOutIdeal.main_arg2) = m ((c.tc : Thread Cert.SumOutIdeal.nD Cert.SumOutIdeal.τ).loc Cert.SumOutIdeal.main_arg2)
      ∧ r.2.mem ((c.tc : Thread Cert.SumOutIdeal.nD Cert.SumOutIdeal.τ).loc Cert.SumOutIdeal.main_arg3) = m ((c.tc : Thread Cert.SumOutIdeal.nD Cert.SumOutIdeal.τ).loc Cert.SumOutIdeal.main_arg3))
      ∧ r.2.sem = fun _ => 0)

def quiescent_SumOutRefIdeal [hSumOutRefIdeal : Cert.SumOutRefIdeal.Facts] : Prop :=
  ∀ (m : (ℓ : Loc Cert.SumOutRefIdeal.nD Cert.SumOutRefIdeal.τ Cert.SumOutRefIdeal.sig) → Buf (Elt Ideal) ℓ) (g : Dev Cert.SumOutRefIdeal.nD → PrngReg), Pre_SumOutRefIdeal m →
    θ_run (Cert.SumOutRefIdeal.defs (F := Ideal)) (onTc (τ := Cert.SumOutRefIdeal.τ) (Cert.SumOutRefIdeal.main (F := Ideal))) ⟨m, fun _ => 0, g⟩ (fun r => (∀ c : Dev Cert.SumOutRefIdeal.nD,
      r.2.mem ((c.tc : Thread Cert.SumOutRefIdeal.nD Cert.SumOutRefIdeal.τ).loc Cert.SumOutRefIdeal.main_arg0) = m ((c.tc : Thread Cert.SumOutRefIdeal.nD Cert.SumOutRefIdeal.τ).loc Cert.SumOutRefIdeal.main_arg0)
      ∧ r.2.mem ((c.tc : Thread Cert.SumOutRefIdeal.nD Cert.SumOutRefIdeal.τ).loc Cert.SumOutRefIdeal.main_arg1) = m ((c.tc : Thread Cert.SumOutRefIdeal.nD Cert.SumOutRefIdeal.τ).loc Cert.SumOutRefIdeal.main_arg1)
      ∧ r.2.mem ((c.tc : Thread Cert.SumOutRefIdeal.nD Cert.SumOutRefIdeal.τ).loc Cert.SumOutRefIdeal.main_arg2) = m ((c.tc : Thread Cert.SumOutRefIdeal.nD Cert.SumOutRefIdeal.τ).loc Cert.SumOutRefIdeal.main_arg2)
      ∧ r.2.mem ((c.tc : Thread Cert.SumOutRefIdeal.nD Cert.SumOutRefIdeal.τ).loc Cert.SumOutRefIdeal.main_arg3) = m ((c.tc : Thread Cert.SumOutRefIdeal.nD Cert.SumOutRefIdeal.τ).loc Cert.SumOutRefIdeal.main_arg3))
      ∧ r.2.sem = fun _ => 0)

def quiescent_SumOutRefIdeal_pre_out_place_named [hSumOutRefIdeal : Cert.SumOutRefIdeal.Facts] [hPre_out_place_named : Cert.Pre_out_place_named.Facts] : Prop :=
  ∀ (m : (ℓ : Loc Cert.SumOutRefIdeal.nD Cert.SumOutRefIdeal.τ Cert.SumOutRefIdeal.sig) → Buf (Elt Ideal) ℓ) (g : Dev Cert.SumOutRefIdeal.nD → PrngReg), Pre_SumOutRefIdeal_out_place_named m →
    θ_run (Cert.SumOutRefIdeal.defs (F := Ideal)) (onTc (τ := Cert.SumOutRefIdeal.τ) (Cert.SumOutRefIdeal.main (F := Ideal))) ⟨m, fun _ => 0, g⟩ (fun r => (∀ c : Dev Cert.SumOutRefIdeal.nD,
      r.2.mem ((c.tc : Thread Cert.SumOutRefIdeal.nD Cert.SumOutRefIdeal.τ).loc Cert.SumOutRefIdeal.main_arg0) = m ((c.tc : Thread Cert.SumOutRefIdeal.nD Cert.SumOutRefIdeal.τ).loc Cert.SumOutRefIdeal.main_arg0)
      ∧ r.2.mem ((c.tc : Thread Cert.SumOutRefIdeal.nD Cert.SumOutRefIdeal.τ).loc Cert.SumOutRefIdeal.main_arg1) = m ((c.tc : Thread Cert.SumOutRefIdeal.nD Cert.SumOutRefIdeal.τ).loc Cert.SumOutRefIdeal.main_arg1)
      ∧ r.2.mem ((c.tc : Thread Cert.SumOutRefIdeal.nD Cert.SumOutRefIdeal.τ).loc Cert.SumOutRefIdeal.main_arg2) = m ((c.tc : Thread Cert.SumOutRefIdeal.nD Cert.SumOutRefIdeal.τ).loc Cert.SumOutRefIdeal.main_arg2)
      ∧ r.2.mem ((c.tc : Thread Cert.SumOutRefIdeal.nD Cert.SumOutRefIdeal.τ).loc Cert.SumOutRefIdeal.main_arg3) = m ((c.tc : Thread Cert.SumOutRefIdeal.nD Cert.SumOutRefIdeal.τ).loc Cert.SumOutRefIdeal.main_arg3))
      ∧ r.2.sem = fun _ => 0)

def quiescent_SumMixIn [hSumMixIn : Cert.SumMixIn.Facts] [hPre_mix_in_place_named : Cert.Pre_mix_in_place_named.Facts] : Prop :=
  ∀ (m : (ℓ : Loc Cert.SumMixIn.nD Cert.SumMixIn.τ Cert.SumMixIn.sig) → Buf (Elt Bits) ℓ) (g : Dev Cert.SumMixIn.nD → PrngReg), Pre_SumMixIn m →
    θ_run (Cert.SumMixIn.defs (F := Bits)) (onTc (τ := Cert.SumMixIn.τ) (Cert.SumMixIn.main (F := Bits))) ⟨m, fun _ => 0, g⟩ (fun r => (∀ c : Dev Cert.SumMixIn.nD,
      r.2.mem ((c.tc : Thread Cert.SumMixIn.nD Cert.SumMixIn.τ).loc Cert.SumMixIn.main_arg0) = m ((c.tc : Thread Cert.SumMixIn.nD Cert.SumMixIn.τ).loc Cert.SumMixIn.main_arg0)
      ∧ r.2.mem ((c.tc : Thread Cert.SumMixIn.nD Cert.SumMixIn.τ).loc Cert.SumMixIn.main_arg1) = m ((c.tc : Thread Cert.SumMixIn.nD Cert.SumMixIn.τ).loc Cert.SumMixIn.main_arg1)
      ∧ r.2.mem ((c.tc : Thread Cert.SumMixIn.nD Cert.SumMixIn.τ).loc Cert.SumMixIn.main_arg2) = m ((c.tc : Thread Cert.SumMixIn.nD Cert.SumMixIn.τ).loc Cert.SumMixIn.main_arg2)
      ∧ r.2.mem ((c.tc : Thread Cert.SumMixIn.nD Cert.SumMixIn.τ).loc Cert.SumMixIn.main_arg3) = m ((c.tc : Thread Cert.SumMixIn.nD Cert.SumMixIn.τ).loc Cert.SumMixIn.main_arg3))
      ∧ r.2.sem = fun _ => 0)

def quiescent_SumMixInIdeal [hSumMixInIdeal : Cert.SumMixInIdeal.Facts] [hPre_mix_in_place_named : Cert.Pre_mix_in_place_named.Facts] : Prop :=
  ∀ (m : (ℓ : Loc Cert.SumMixInIdeal.nD Cert.SumMixInIdeal.τ Cert.SumMixInIdeal.sig) → Buf (Elt Ideal) ℓ) (g : Dev Cert.SumMixInIdeal.nD → PrngReg), Pre_SumMixInIdeal m →
    θ_run (Cert.SumMixInIdeal.defs (F := Ideal)) (onTc (τ := Cert.SumMixInIdeal.τ) (Cert.SumMixInIdeal.main (F := Ideal))) ⟨m, fun _ => 0, g⟩ (fun r => (∀ c : Dev Cert.SumMixInIdeal.nD,
      r.2.mem ((c.tc : Thread Cert.SumMixInIdeal.nD Cert.SumMixInIdeal.τ).loc Cert.SumMixInIdeal.main_arg0) = m ((c.tc : Thread Cert.SumMixInIdeal.nD Cert.SumMixInIdeal.τ).loc Cert.SumMixInIdeal.main_arg0)
      ∧ r.2.mem ((c.tc : Thread Cert.SumMixInIdeal.nD Cert.SumMixInIdeal.τ).loc Cert.SumMixInIdeal.main_arg1) = m ((c.tc : Thread Cert.SumMixInIdeal.nD Cert.SumMixInIdeal.τ).loc Cert.SumMixInIdeal.main_arg1)
      ∧ r.2.mem ((c.tc : Thread Cert.SumMixInIdeal.nD Cert.SumMixInIdeal.τ).loc Cert.SumMixInIdeal.main_arg2) = m ((c.tc : Thread Cert.SumMixInIdeal.nD Cert.SumMixInIdeal.τ).loc Cert.SumMixInIdeal.main_arg2)
      ∧ r.2.mem ((c.tc : Thread Cert.SumMixInIdeal.nD Cert.SumMixInIdeal.τ).loc Cert.SumMixInIdeal.main_arg3) = m ((c.tc : Thread Cert.SumMixInIdeal.nD Cert.SumMixInIdeal.τ).loc Cert.SumMixInIdeal.main_arg3))
      ∧ r.2.sem = fun _ => 0)

def quiescent_SumMixInRefIdeal [hSumMixInRefIdeal : Cert.SumMixInRefIdeal.Facts] : Prop :=
  ∀ (m : (ℓ : Loc Cert.SumMixInRefIdeal.nD Cert.SumMixInRefIdeal.τ Cert.SumMixInRefIdeal.sig) → Buf (Elt Ideal) ℓ) (g : Dev Cert.SumMixInRefIdeal.nD → PrngReg), Pre_SumMixInRefIdeal m →
    θ_run (Cert.SumMixInRefIdeal.defs (F := Ideal)) (onTc (τ := Cert.SumMixInRefIdeal.τ) (Cert.SumMixInRefIdeal.main (F := Ideal))) ⟨m, fun _ => 0, g⟩ (fun r => (∀ c : Dev Cert.SumMixInRefIdeal.nD,
      r.2.mem ((c.tc : Thread Cert.SumMixInRefIdeal.nD Cert.SumMixInRefIdeal.τ).loc Cert.SumMixInRefIdeal.main_arg0) = m ((c.tc : Thread Cert.SumMixInRefIdeal.nD Cert.SumMixInRefIdeal.τ).loc Cert.SumMixInRefIdeal.main_arg0)
      ∧ r.2.mem ((c.tc : Thread Cert.SumMixInRefIdeal.nD Cert.SumMixInRefIdeal.τ).loc Cert.SumMixInRefIdeal.main_arg1) = m ((c.tc : Thread Cert.SumMixInRefIdeal.nD Cert.SumMixInRefIdeal.τ).loc Cert.SumMixInRefIdeal.main_arg1)
      ∧ r.2.mem ((c.tc : Thread Cert.SumMixInRefIdeal.nD Cert.SumMixInRefIdeal.τ).loc Cert.SumMixInRefIdeal.main_arg2) = m ((c.tc : Thread Cert.SumMixInRefIdeal.nD Cert.SumMixInRefIdeal.τ).loc Cert.SumMixInRefIdeal.main_arg2)
      ∧ r.2.mem ((c.tc : Thread Cert.SumMixInRefIdeal.nD Cert.SumMixInRefIdeal.τ).loc Cert.SumMixInRefIdeal.main_arg3) = m ((c.tc : Thread Cert.SumMixInRefIdeal.nD Cert.SumMixInRefIdeal.τ).loc Cert.SumMixInRefIdeal.main_arg3))
      ∧ r.2.sem = fun _ => 0)

def quiescent_SumMixInRefIdeal_pre_mix_in_place_named [hSumMixInRefIdeal : Cert.SumMixInRefIdeal.Facts] [hPre_mix_in_place_named : Cert.Pre_mix_in_place_named.Facts] : Prop :=
  ∀ (m : (ℓ : Loc Cert.SumMixInRefIdeal.nD Cert.SumMixInRefIdeal.τ Cert.SumMixInRefIdeal.sig) → Buf (Elt Ideal) ℓ) (g : Dev Cert.SumMixInRefIdeal.nD → PrngReg), Pre_SumMixInRefIdeal_mix_in_place_named m →
    θ_run (Cert.SumMixInRefIdeal.defs (F := Ideal)) (onTc (τ := Cert.SumMixInRefIdeal.τ) (Cert.SumMixInRefIdeal.main (F := Ideal))) ⟨m, fun _ => 0, g⟩ (fun r => (∀ c : Dev Cert.SumMixInRefIdeal.nD,
      r.2.mem ((c.tc : Thread Cert.SumMixInRefIdeal.nD Cert.SumMixInRefIdeal.τ).loc Cert.SumMixInRefIdeal.main_arg0) = m ((c.tc : Thread Cert.SumMixInRefIdeal.nD Cert.SumMixInRefIdeal.τ).loc Cert.SumMixInRefIdeal.main_arg0)
      ∧ r.2.mem ((c.tc : Thread Cert.SumMixInRefIdeal.nD Cert.SumMixInRefIdeal.τ).loc Cert.SumMixInRefIdeal.main_arg1) = m ((c.tc : Thread Cert.SumMixInRefIdeal.nD Cert.SumMixInRefIdeal.τ).loc Cert.SumMixInRefIdeal.main_arg1)
      ∧ r.2.mem ((c.tc : Thread Cert.SumMixInRefIdeal.nD Cert.SumMixInRefIdeal.τ).loc Cert.SumMixInRefIdeal.main_arg2) = m ((c.tc : Thread Cert.SumMixInRefIdeal.nD Cert.SumMixInRefIdeal.τ).loc Cert.SumMixInRefIdeal.main_arg2)
      ∧ r.2.mem ((c.tc : Thread Cert.SumMixInRefIdeal.nD Cert.SumMixInRefIdeal.τ).loc Cert.SumMixInRefIdeal.main_arg3) = m ((c.tc : Thread Cert.SumMixInRefIdeal.nD Cert.SumMixInRefIdeal.τ).loc Cert.SumMixInRefIdeal.main_arg3))
      ∧ r.2.sem = fun _ => 0)

def quiescent_SumMixOut [hSumMixOut : Cert.SumMixOut.Facts] [hPre_mix_out_place_named : Cert.Pre_mix_out_place_named.Facts] : Prop :=
  ∀ (m : (ℓ : Loc Cert.SumMixOut.nD Cert.SumMixOut.τ Cert.SumMixOut.sig) → Buf (Elt Bits) ℓ) (g : Dev Cert.SumMixOut.nD → PrngReg), Pre_SumMixOut m →
    θ_run (Cert.SumMixOut.defs (F := Bits)) (onTc (τ := Cert.SumMixOut.τ) (Cert.SumMixOut.main (F := Bits))) ⟨m, fun _ => 0, g⟩ (fun r => (∀ c : Dev Cert.SumMixOut.nD,
      r.2.mem ((c.tc : Thread Cert.SumMixOut.nD Cert.SumMixOut.τ).loc Cert.SumMixOut.main_arg0) = m ((c.tc : Thread Cert.SumMixOut.nD Cert.SumMixOut.τ).loc Cert.SumMixOut.main_arg0)
      ∧ r.2.mem ((c.tc : Thread Cert.SumMixOut.nD Cert.SumMixOut.τ).loc Cert.SumMixOut.main_arg1) = m ((c.tc : Thread Cert.SumMixOut.nD Cert.SumMixOut.τ).loc Cert.SumMixOut.main_arg1)
      ∧ r.2.mem ((c.tc : Thread Cert.SumMixOut.nD Cert.SumMixOut.τ).loc Cert.SumMixOut.main_arg2) = m ((c.tc : Thread Cert.SumMixOut.nD Cert.SumMixOut.τ).loc Cert.SumMixOut.main_arg2)
      ∧ r.2.mem ((c.tc : Thread Cert.SumMixOut.nD Cert.SumMixOut.τ).loc Cert.SumMixOut.main_arg3) = m ((c.tc : Thread Cert.SumMixOut.nD Cert.SumMixOut.τ).loc Cert.SumMixOut.main_arg3))
      ∧ r.2.sem = fun _ => 0)

def quiescent_SumMixOutIdeal [hSumMixOutIdeal : Cert.SumMixOutIdeal.Facts] [hPre_mix_out_place_named : Cert.Pre_mix_out_place_named.Facts] : Prop :=
  ∀ (m : (ℓ : Loc Cert.SumMixOutIdeal.nD Cert.SumMixOutIdeal.τ Cert.SumMixOutIdeal.sig) → Buf (Elt Ideal) ℓ) (g : Dev Cert.SumMixOutIdeal.nD → PrngReg), Pre_SumMixOutIdeal m →
    θ_run (Cert.SumMixOutIdeal.defs (F := Ideal)) (onTc (τ := Cert.SumMixOutIdeal.τ) (Cert.SumMixOutIdeal.main (F := Ideal))) ⟨m, fun _ => 0, g⟩ (fun r => (∀ c : Dev Cert.SumMixOutIdeal.nD,
      r.2.mem ((c.tc : Thread Cert.SumMixOutIdeal.nD Cert.SumMixOutIdeal.τ).loc Cert.SumMixOutIdeal.main_arg0) = m ((c.tc : Thread Cert.SumMixOutIdeal.nD Cert.SumMixOutIdeal.τ).loc Cert.SumMixOutIdeal.main_arg0)
      ∧ r.2.mem ((c.tc : Thread Cert.SumMixOutIdeal.nD Cert.SumMixOutIdeal.τ).loc Cert.SumMixOutIdeal.main_arg1) = m ((c.tc : Thread Cert.SumMixOutIdeal.nD Cert.SumMixOutIdeal.τ).loc Cert.SumMixOutIdeal.main_arg1)
      ∧ r.2.mem ((c.tc : Thread Cert.SumMixOutIdeal.nD Cert.SumMixOutIdeal.τ).loc Cert.SumMixOutIdeal.main_arg2) = m ((c.tc : Thread Cert.SumMixOutIdeal.nD Cert.SumMixOutIdeal.τ).loc Cert.SumMixOutIdeal.main_arg2)
      ∧ r.2.mem ((c.tc : Thread Cert.SumMixOutIdeal.nD Cert.SumMixOutIdeal.τ).loc Cert.SumMixOutIdeal.main_arg3) = m ((c.tc : Thread Cert.SumMixOutIdeal.nD Cert.SumMixOutIdeal.τ).loc Cert.SumMixOutIdeal.main_arg3))
      ∧ r.2.sem = fun _ => 0)

def quiescent_SumMixOutRefIdeal [hSumMixOutRefIdeal : Cert.SumMixOutRefIdeal.Facts] : Prop :=
  ∀ (m : (ℓ : Loc Cert.SumMixOutRefIdeal.nD Cert.SumMixOutRefIdeal.τ Cert.SumMixOutRefIdeal.sig) → Buf (Elt Ideal) ℓ) (g : Dev Cert.SumMixOutRefIdeal.nD → PrngReg), Pre_SumMixOutRefIdeal m →
    θ_run (Cert.SumMixOutRefIdeal.defs (F := Ideal)) (onTc (τ := Cert.SumMixOutRefIdeal.τ) (Cert.SumMixOutRefIdeal.main (F := Ideal))) ⟨m, fun _ => 0, g⟩ (fun r => (∀ c : Dev Cert.SumMixOutRefIdeal.nD,
      r.2.mem ((c.tc : Thread Cert.SumMixOutRefIdeal.nD Cert.SumMixOutRefIdeal.τ).loc Cert.SumMixOutRefIdeal.main_arg0) = m ((c.tc : Thread Cert.SumMixOutRefIdeal.nD Cert.SumMixOutRefIdeal.τ).loc Cert.SumMixOutRefIdeal.main_arg0)
      ∧ r.2.mem ((c.tc : Thread Cert.SumMixOutRefIdeal.nD Cert.SumMixOutRefIdeal.τ).loc Cert.SumMixOutRefIdeal.main_arg1) = m ((c.tc : Thread Cert.SumMixOutRefIdeal.nD Cert.SumMixOutRefIdeal.τ).loc Cert.SumMixOutRefIdeal.main_arg1)
      ∧ r.2.mem ((c.tc : Thread Cert.SumMixOutRefIdeal.nD Cert.SumMixOutRefIdeal.τ).loc Cert.SumMixOutRefIdeal.main_arg2) = m ((c.tc : Thread Cert.SumMixOutRefIdeal.nD Cert.SumMixOutRefIdeal.τ).loc Cert.SumMixOutRefIdeal.main_arg2)
      ∧ r.2.mem ((c.tc : Thread Cert.SumMixOutRefIdeal.nD Cert.SumMixOutRefIdeal.τ).loc Cert.SumMixOutRefIdeal.main_arg3) = m ((c.tc : Thread Cert.SumMixOutRefIdeal.nD Cert.SumMixOutRefIdeal.τ).loc Cert.SumMixOutRefIdeal.main_arg3))
      ∧ r.2.sem = fun _ => 0)

def quiescent_SumMixOutRefIdeal_pre_mix_out_place_named [hSumMixOutRefIdeal : Cert.SumMixOutRefIdeal.Facts] [hPre_mix_out_place_named : Cert.Pre_mix_out_place_named.Facts] : Prop :=
  ∀ (m : (ℓ : Loc Cert.SumMixOutRefIdeal.nD Cert.SumMixOutRefIdeal.τ Cert.SumMixOutRefIdeal.sig) → Buf (Elt Ideal) ℓ) (g : Dev Cert.SumMixOutRefIdeal.nD → PrngReg), Pre_SumMixOutRefIdeal_mix_out_place_named m →
    θ_run (Cert.SumMixOutRefIdeal.defs (F := Ideal)) (onTc (τ := Cert.SumMixOutRefIdeal.τ) (Cert.SumMixOutRefIdeal.main (F := Ideal))) ⟨m, fun _ => 0, g⟩ (fun r => (∀ c : Dev Cert.SumMixOutRefIdeal.nD,
      r.2.mem ((c.tc : Thread Cert.SumMixOutRefIdeal.nD Cert.SumMixOutRefIdeal.τ).loc Cert.SumMixOutRefIdeal.main_arg0) = m ((c.tc : Thread Cert.SumMixOutRefIdeal.nD Cert.SumMixOutRefIdeal.τ).loc Cert.SumMixOutRefIdeal.main_arg0)
      ∧ r.2.mem ((c.tc : Thread Cert.SumMixOutRefIdeal.nD Cert.SumMixOutRefIdeal.τ).loc Cert.SumMixOutRefIdeal.main_arg1) = m ((c.tc : Thread Cert.SumMixOutRefIdeal.nD Cert.SumMixOutRefIdeal.τ).loc Cert.SumMixOutRefIdeal.main_arg1)
      ∧ r.2.mem ((c.tc : Thread Cert.SumMixOutRefIdeal.nD Cert.SumMixOutRefIdeal.τ).loc Cert.SumMixOutRefIdeal.main_arg2) = m ((c.tc : Thread Cert.SumMixOutRefIdeal.nD Cert.SumMixOutRefIdeal.τ).loc Cert.SumMixOutRefIdeal.main_arg2)
      ∧ r.2.mem ((c.tc : Thread Cert.SumMixOutRefIdeal.nD Cert.SumMixOutRefIdeal.τ).loc Cert.SumMixOutRefIdeal.main_arg3) = m ((c.tc : Thread Cert.SumMixOutRefIdeal.nD Cert.SumMixOutRefIdeal.τ).loc Cert.SumMixOutRefIdeal.main_arg3))
      ∧ r.2.sem = fun _ => 0)

def quiescent_SumPool [hSumPool : Cert.SumPool.Facts] [hPre_pool_place_named : Cert.Pre_pool_place_named.Facts] : Prop :=
  ∀ (m : (ℓ : Loc Cert.SumPool.nD Cert.SumPool.τ Cert.SumPool.sig) → Buf (Elt Bits) ℓ) (g : Dev Cert.SumPool.nD → PrngReg), Pre_SumPool m →
    θ_run (Cert.SumPool.defs (F := Bits)) (onTc (τ := Cert.SumPool.τ) (Cert.SumPool.main (F := Bits))) ⟨m, fun _ => 0, g⟩ (fun r => (∀ c : Dev Cert.SumPool.nD,
      r.2.mem ((c.tc : Thread Cert.SumPool.nD Cert.SumPool.τ).loc Cert.SumPool.main_arg0) = m ((c.tc : Thread Cert.SumPool.nD Cert.SumPool.τ).loc Cert.SumPool.main_arg0)
      ∧ r.2.mem ((c.tc : Thread Cert.SumPool.nD Cert.SumPool.τ).loc Cert.SumPool.main_arg1) = m ((c.tc : Thread Cert.SumPool.nD Cert.SumPool.τ).loc Cert.SumPool.main_arg1)
      ∧ r.2.mem ((c.tc : Thread Cert.SumPool.nD Cert.SumPool.τ).loc Cert.SumPool.main_arg2) = m ((c.tc : Thread Cert.SumPool.nD Cert.SumPool.τ).loc Cert.SumPool.main_arg2)
      ∧ r.2.mem ((c.tc : Thread Cert.SumPool.nD Cert.SumPool.τ).loc Cert.SumPool.main_arg3) = m ((c.tc : Thread Cert.SumPool.nD Cert.SumPool.τ).loc Cert.SumPool.main_arg3))
      ∧ r.2.sem = fun _ => 0)

def quiescent_SumPoolIdeal [hSumPoolIdeal : Cert.SumPoolIdeal.Facts] [hPre_pool_place_named : Cert.Pre_pool_place_named.Facts] : Prop :=
  ∀ (m : (ℓ : Loc Cert.SumPoolIdeal.nD Cert.SumPoolIdeal.τ Cert.SumPoolIdeal.sig) → Buf (Elt Ideal) ℓ) (g : Dev Cert.SumPoolIdeal.nD → PrngReg), Pre_SumPoolIdeal m →
    θ_run (Cert.SumPoolIdeal.defs (F := Ideal)) (onTc (τ := Cert.SumPoolIdeal.τ) (Cert.SumPoolIdeal.main (F := Ideal))) ⟨m, fun _ => 0, g⟩ (fun r => (∀ c : Dev Cert.SumPoolIdeal.nD,
      r.2.mem ((c.tc : Thread Cert.SumPoolIdeal.nD Cert.SumPoolIdeal.τ).loc Cert.SumPoolIdeal.main_arg0) = m ((c.tc : Thread Cert.SumPoolIdeal.nD Cert.SumPoolIdeal.τ).loc Cert.SumPoolIdeal.main_arg0)
      ∧ r.2.mem ((c.tc : Thread Cert.SumPoolIdeal.nD Cert.SumPoolIdeal.τ).loc Cert.SumPoolIdeal.main_arg1) = m ((c.tc : Thread Cert.SumPoolIdeal.nD Cert.SumPoolIdeal.τ).loc Cert.SumPoolIdeal.main_arg1)
      ∧ r.2.mem ((c.tc : Thread Cert.SumPoolIdeal.nD Cert.SumPoolIdeal.τ).loc Cert.SumPoolIdeal.main_arg2) = m ((c.tc : Thread Cert.SumPoolIdeal.nD Cert.SumPoolIdeal.τ).loc Cert.SumPoolIdeal.main_arg2)
      ∧ r.2.mem ((c.tc : Thread Cert.SumPoolIdeal.nD Cert.SumPoolIdeal.τ).loc Cert.SumPoolIdeal.main_arg3) = m ((c.tc : Thread Cert.SumPoolIdeal.nD Cert.SumPoolIdeal.τ).loc Cert.SumPoolIdeal.main_arg3))
      ∧ r.2.sem = fun _ => 0)

def quiescent_SumPoolRefIdeal [hSumPoolRefIdeal : Cert.SumPoolRefIdeal.Facts] : Prop :=
  ∀ (m : (ℓ : Loc Cert.SumPoolRefIdeal.nD Cert.SumPoolRefIdeal.τ Cert.SumPoolRefIdeal.sig) → Buf (Elt Ideal) ℓ) (g : Dev Cert.SumPoolRefIdeal.nD → PrngReg), Pre_SumPoolRefIdeal m →
    θ_run (Cert.SumPoolRefIdeal.defs (F := Ideal)) (onTc (τ := Cert.SumPoolRefIdeal.τ) (Cert.SumPoolRefIdeal.main (F := Ideal))) ⟨m, fun _ => 0, g⟩ (fun r => (∀ c : Dev Cert.SumPoolRefIdeal.nD,
      r.2.mem ((c.tc : Thread Cert.SumPoolRefIdeal.nD Cert.SumPoolRefIdeal.τ).loc Cert.SumPoolRefIdeal.main_arg0) = m ((c.tc : Thread Cert.SumPoolRefIdeal.nD Cert.SumPoolRefIdeal.τ).loc Cert.SumPoolRefIdeal.main_arg0)
      ∧ r.2.mem ((c.tc : Thread Cert.SumPoolRefIdeal.nD Cert.SumPoolRefIdeal.τ).loc Cert.SumPoolRefIdeal.main_arg1) = m ((c.tc : Thread Cert.SumPoolRefIdeal.nD Cert.SumPoolRefIdeal.τ).loc Cert.SumPoolRefIdeal.main_arg1)
      ∧ r.2.mem ((c.tc : Thread Cert.SumPoolRefIdeal.nD Cert.SumPoolRefIdeal.τ).loc Cert.SumPoolRefIdeal.main_arg2) = m ((c.tc : Thread Cert.SumPoolRefIdeal.nD Cert.SumPoolRefIdeal.τ).loc Cert.SumPoolRefIdeal.main_arg2)
      ∧ r.2.mem ((c.tc : Thread Cert.SumPoolRefIdeal.nD Cert.SumPoolRefIdeal.τ).loc Cert.SumPoolRefIdeal.main_arg3) = m ((c.tc : Thread Cert.SumPoolRefIdeal.nD Cert.SumPoolRefIdeal.τ).loc Cert.SumPoolRefIdeal.main_arg3))
      ∧ r.2.sem = fun _ => 0)

def quiescent_SumPoolRefIdeal_pre_pool_place_named [hSumPoolRefIdeal : Cert.SumPoolRefIdeal.Facts] [hPre_pool_place_named : Cert.Pre_pool_place_named.Facts] : Prop :=
  ∀ (m : (ℓ : Loc Cert.SumPoolRefIdeal.nD Cert.SumPoolRefIdeal.τ Cert.SumPoolRefIdeal.sig) → Buf (Elt Ideal) ℓ) (g : Dev Cert.SumPoolRefIdeal.nD → PrngReg), Pre_SumPoolRefIdeal_pool_place_named m →
    θ_run (Cert.SumPoolRefIdeal.defs (F := Ideal)) (onTc (τ := Cert.SumPoolRefIdeal.τ) (Cert.SumPoolRefIdeal.main (F := Ideal))) ⟨m, fun _ => 0, g⟩ (fun r => (∀ c : Dev Cert.SumPoolRefIdeal.nD,
      r.2.mem ((c.tc : Thread Cert.SumPoolRefIdeal.nD Cert.SumPoolRefIdeal.τ).loc Cert.SumPoolRefIdeal.main_arg0) = m ((c.tc : Thread Cert.SumPoolRefIdeal.nD Cert.SumPoolRefIdeal.τ).loc Cert.SumPoolRefIdeal.main_arg0)
      ∧ r.2.mem ((c.tc : Thread Cert.SumPoolRefIdeal.nD Cert.SumPoolRefIdeal.τ).loc Cert.SumPoolRefIdeal.main_arg1) = m ((c.tc : Thread Cert.SumPoolRefIdeal.nD Cert.SumPoolRefIdeal.τ).loc Cert.SumPoolRefIdeal.main_arg1)
      ∧ r.2.mem ((c.tc : Thread Cert.SumPoolRefIdeal.nD Cert.SumPoolRefIdeal.τ).loc Cert.SumPoolRefIdeal.main_arg2) = m ((c.tc : Thread Cert.SumPoolRefIdeal.nD Cert.SumPoolRefIdeal.τ).loc Cert.SumPoolRefIdeal.main_arg2)
      ∧ r.2.mem ((c.tc : Thread Cert.SumPoolRefIdeal.nD Cert.SumPoolRefIdeal.τ).loc Cert.SumPoolRefIdeal.main_arg3) = m ((c.tc : Thread Cert.SumPoolRefIdeal.nD Cert.SumPoolRefIdeal.τ).loc Cert.SumPoolRefIdeal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v9)) (v1 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_v8) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_v37) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Norm_NormIdeal : Prop :=
  True

def algebraic_NormIdeal_NormRefIdeal_pre_norm_finite [hNormIdeal : Cert.NormIdeal.Facts] [hNormRefIdeal : Cert.NormRefIdeal.Facts] [hPre_norm_finite : Cert.Pre_norm_finite.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal_norm_finite m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)
      ∧ m' ((c.tc : Thread Cert.NormRefIdeal.nD Cert.NormRefIdeal.τ).loc Cert.NormRefIdeal.main_arg2) = m ((c.tc : Thread Cert.NormIdeal.nD Cert.NormIdeal.τ).loc Cert.NormIdeal.main_arg2)
      ∧ m' ((c.tc : Thread Cert.NormRefIdeal.nD Cert.NormRefIdeal.τ).loc Cert.NormRefIdeal.main_arg3) = m ((c.tc : Thread Cert.NormIdeal.nD Cert.NormIdeal.τ).loc Cert.NormIdeal.main_arg3)
      ∧ m' ((c.tc : Thread Cert.NormRefIdeal.nD Cert.NormRefIdeal.τ).loc Cert.NormRefIdeal.main_arg4) = m ((c.tc : Thread Cert.NormIdeal.nD Cert.NormIdeal.τ).loc Cert.NormIdeal.main_arg4)) →
    ∃ (v0 : (c : Dev Cert.NormIdeal.nD) → Buf (Elt Ideal) ((c.tc : Thread Cert.NormIdeal.nD Cert.NormIdeal.τ).loc Cert.NormIdeal.main_v3_0)) (v1 : (c : Dev Cert.NormIdeal.nD) → Buf (Elt Ideal) ((c.tc : Thread Cert.NormIdeal.nD Cert.NormIdeal.τ).loc Cert.NormIdeal.main_v3_1)) (v2 : (c : Dev Cert.NormIdeal.nD) → Buf (Elt Ideal) ((c.tc : Thread Cert.NormIdeal.nD Cert.NormIdeal.τ).loc Cert.NormIdeal.main_v3_2)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v3_0) = v0 c
          ∧ r.2.mem ((c.tc : Thread Cert.NormIdeal.nD Cert.NormIdeal.τ).loc Cert.NormIdeal.main_v3_1) = v1 c
          ∧ r.2.mem ((c.tc : Thread Cert.NormIdeal.nD Cert.NormIdeal.τ).loc Cert.NormIdeal.main_v3_2) = v2 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
          ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
          ∧ r.2.mem ((c.tc : Thread Cert.NormIdeal.nD Cert.NormIdeal.τ).loc Cert.NormIdeal.main_arg3) = m ((c.tc : Thread Cert.NormIdeal.nD Cert.NormIdeal.τ).loc Cert.NormIdeal.main_arg3)
          ∧ r.2.mem ((c.tc : Thread Cert.NormIdeal.nD Cert.NormIdeal.τ).loc Cert.NormIdeal.main_arg4) = m ((c.tc : Thread Cert.NormIdeal.nD Cert.NormIdeal.τ).loc Cert.NormIdeal.main_arg4))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v42) = v0 c
          ∧ r.2.mem ((c.tc : Thread Cert.NormRefIdeal.nD Cert.NormRefIdeal.τ).loc Cert.NormRefIdeal.main_v44) = v1 c
          ∧ r.2.mem ((c.tc : Thread Cert.NormRefIdeal.nD Cert.NormRefIdeal.τ).loc Cert.NormRefIdeal.main_v43) = v2 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1)
          ∧ r.2.mem ((c.tc : Thread Cert.NormRefIdeal.nD Cert.NormRefIdeal.τ).loc Cert.NormRefIdeal.main_arg2) = m' ((c.tc : Thread Cert.NormRefIdeal.nD Cert.NormRefIdeal.τ).loc Cert.NormRefIdeal.main_arg2)
          ∧ r.2.mem ((c.tc : Thread Cert.NormRefIdeal.nD Cert.NormRefIdeal.τ).loc Cert.NormRefIdeal.main_arg3) = m' ((c.tc : Thread Cert.NormRefIdeal.nD Cert.NormRefIdeal.τ).loc Cert.NormRefIdeal.main_arg3)
          ∧ r.2.mem ((c.tc : Thread Cert.NormRefIdeal.nD Cert.NormRefIdeal.τ).loc Cert.NormRefIdeal.main_arg4) = m' ((c.tc : Thread Cert.NormRefIdeal.nD Cert.NormRefIdeal.τ).loc Cert.NormRefIdeal.main_arg4))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)) →
    ∃ (v0 : (c : Dev Cert.DownIdeal.nD) → Buf (Elt Ideal) ((c.tc : Thread Cert.DownIdeal.nD Cert.DownIdeal.τ).loc Cert.DownIdeal.main_v1)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v1) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v4) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2))

def preserves_Sent_SentIdeal : Prop :=
  True

def algebraic_SentIdeal_SentRefIdeal [hSentIdeal : Cert.SentIdeal.Facts] [hSentRefIdeal : Cert.SentRefIdeal.Facts] [hPre_core_named : Cert.Pre_core_named.Facts] : Prop :=
  ∀ (m : (ℓ : Loc Cert.SentIdeal.nD Cert.SentIdeal.τ Cert.SentIdeal.sig) → Buf (Elt Ideal) ℓ) (g : Dev Cert.SentIdeal.nD → PrngReg)
    (m' : (ℓ : Loc Cert.SentRefIdeal.nD Cert.SentRefIdeal.τ Cert.SentRefIdeal.sig) → Buf (Elt Ideal) ℓ) (g' : Dev Cert.SentRefIdeal.nD → PrngReg), Pre_SentIdeal m →
    (∀ c : Dev Cert.SentIdeal.nD,
      m' ((c.tc : Thread Cert.SentRefIdeal.nD Cert.SentRefIdeal.τ).loc Cert.SentRefIdeal.main_arg0) = m ((c.tc : Thread Cert.SentIdeal.nD Cert.SentIdeal.τ).loc Cert.SentIdeal.main_arg0)
      ∧ m' ((c.tc : Thread Cert.SentRefIdeal.nD Cert.SentRefIdeal.τ).loc Cert.SentRefIdeal.main_arg1) = m ((c.tc : Thread Cert.SentIdeal.nD Cert.SentIdeal.τ).loc Cert.SentIdeal.main_arg1)
      ∧ m' ((c.tc : Thread Cert.SentRefIdeal.nD Cert.SentRefIdeal.τ).loc Cert.SentRefIdeal.main_arg2) = m ((c.tc : Thread Cert.SentIdeal.nD Cert.SentIdeal.τ).loc Cert.SentIdeal.main_arg2)
      ∧ m' ((c.tc : Thread Cert.SentRefIdeal.nD Cert.SentRefIdeal.τ).loc Cert.SentRefIdeal.main_arg3) = m ((c.tc : Thread Cert.SentIdeal.nD Cert.SentIdeal.τ).loc Cert.SentIdeal.main_arg3)) →
    ∃ (v0 : (c : Dev Cert.SentIdeal.nD) → Buf (Elt Ideal) ((c.tc : Thread Cert.SentIdeal.nD Cert.SentIdeal.τ).loc Cert.SentIdeal.main_v18)),
      θ_run (Cert.SentIdeal.defs (F := Ideal)) (onTc (τ := Cert.SentIdeal.τ) (Cert.SentIdeal.main (F := Ideal))) ⟨m, fun _ => 0, g⟩ (fun r => ∀ c : Dev Cert.SentIdeal.nD,
          r.2.mem ((c.tc : Thread Cert.SentIdeal.nD Cert.SentIdeal.τ).loc Cert.SentIdeal.main_v18) = v0 c
          ∧ r.2.mem ((c.tc : Thread Cert.SentIdeal.nD Cert.SentIdeal.τ).loc Cert.SentIdeal.main_arg0) = m ((c.tc : Thread Cert.SentIdeal.nD Cert.SentIdeal.τ).loc Cert.SentIdeal.main_arg0)
          ∧ r.2.mem ((c.tc : Thread Cert.SentIdeal.nD Cert.SentIdeal.τ).loc Cert.SentIdeal.main_arg1) = m ((c.tc : Thread Cert.SentIdeal.nD Cert.SentIdeal.τ).loc Cert.SentIdeal.main_arg1)
          ∧ r.2.mem ((c.tc : Thread Cert.SentIdeal.nD Cert.SentIdeal.τ).loc Cert.SentIdeal.main_arg2) = m ((c.tc : Thread Cert.SentIdeal.nD Cert.SentIdeal.τ).loc Cert.SentIdeal.main_arg2)
          ∧ r.2.mem ((c.tc : Thread Cert.SentIdeal.nD Cert.SentIdeal.τ).loc Cert.SentIdeal.main_arg3) = m ((c.tc : Thread Cert.SentIdeal.nD Cert.SentIdeal.τ).loc Cert.SentIdeal.main_arg3))
      ∧ θ_run (Cert.SentRefIdeal.defs (F := Ideal)) (onTc (τ := Cert.SentRefIdeal.τ) (Cert.SentRefIdeal.main (F := Ideal))) ⟨m', fun _ => 0, g'⟩ (fun r => ∀ c : Dev Cert.SentRefIdeal.nD,
          r.2.mem ((c.tc : Thread Cert.SentRefIdeal.nD Cert.SentRefIdeal.τ).loc Cert.SentRefIdeal.main_v30) = v0 c
          ∧ r.2.mem ((c.tc : Thread Cert.SentRefIdeal.nD Cert.SentRefIdeal.τ).loc Cert.SentRefIdeal.main_arg0) = m' ((c.tc : Thread Cert.SentRefIdeal.nD Cert.SentRefIdeal.τ).loc Cert.SentRefIdeal.main_arg0)
          ∧ r.2.mem ((c.tc : Thread Cert.SentRefIdeal.nD Cert.SentRefIdeal.τ).loc Cert.SentRefIdeal.main_arg1) = m' ((c.tc : Thread Cert.SentRefIdeal.nD Cert.SentRefIdeal.τ).loc Cert.SentRefIdeal.main_arg1)
          ∧ r.2.mem ((c.tc : Thread Cert.SentRefIdeal.nD Cert.SentRefIdeal.τ).loc Cert.SentRefIdeal.main_arg2) = m' ((c.tc : Thread Cert.SentRefIdeal.nD Cert.SentRefIdeal.τ).loc Cert.SentRefIdeal.main_arg2)
          ∧ r.2.mem ((c.tc : Thread Cert.SentRefIdeal.nD Cert.SentRefIdeal.τ).loc Cert.SentRefIdeal.main_arg3) = m' ((c.tc : Thread Cert.SentRefIdeal.nD Cert.SentRefIdeal.τ).loc Cert.SentRefIdeal.main_arg3))

def preserves_Kept_KeptIdeal : Prop :=
  True

def algebraic_KeptIdeal_KeptRefIdeal [hKeptIdeal : Cert.KeptIdeal.Facts] [hKeptRefIdeal : Cert.KeptRefIdeal.Facts] [hPre_own_core_named : Cert.Pre_own_core_named.Facts] : Prop :=
  ∀ (m : (ℓ : Loc Cert.KeptIdeal.nD Cert.KeptIdeal.τ Cert.KeptIdeal.sig) → Buf (Elt Ideal) ℓ) (g : Dev Cert.KeptIdeal.nD → PrngReg)
    (m' : (ℓ : Loc Cert.KeptRefIdeal.nD Cert.KeptRefIdeal.τ Cert.KeptRefIdeal.sig) → Buf (Elt Ideal) ℓ) (g' : Dev Cert.KeptRefIdeal.nD → PrngReg), Pre_KeptIdeal m →
    (∀ c : Dev Cert.KeptIdeal.nD,
      m' ((c.tc : Thread Cert.KeptRefIdeal.nD Cert.KeptRefIdeal.τ).loc Cert.KeptRefIdeal.main_arg0) = m ((c.tc : Thread Cert.KeptIdeal.nD Cert.KeptIdeal.τ).loc Cert.KeptIdeal.main_arg0)
      ∧ m' ((c.tc : Thread Cert.KeptRefIdeal.nD Cert.KeptRefIdeal.τ).loc Cert.KeptRefIdeal.main_arg1) = m ((c.tc : Thread Cert.KeptIdeal.nD Cert.KeptIdeal.τ).loc Cert.KeptIdeal.main_arg1)
      ∧ m' ((c.tc : Thread Cert.KeptRefIdeal.nD Cert.KeptRefIdeal.τ).loc Cert.KeptRefIdeal.main_arg2) = m ((c.tc : Thread Cert.KeptIdeal.nD Cert.KeptIdeal.τ).loc Cert.KeptIdeal.main_arg2)
      ∧ m' ((c.tc : Thread Cert.KeptRefIdeal.nD Cert.KeptRefIdeal.τ).loc Cert.KeptRefIdeal.main_arg3) = m ((c.tc : Thread Cert.KeptIdeal.nD Cert.KeptIdeal.τ).loc Cert.KeptIdeal.main_arg3)
      ∧ m' ((c.tc : Thread Cert.KeptRefIdeal.nD Cert.KeptRefIdeal.τ).loc Cert.KeptRefIdeal.main_arg4) = m ((c.tc : Thread Cert.KeptIdeal.nD Cert.KeptIdeal.τ).loc Cert.KeptIdeal.main_arg4)) →
    ∃ (v0 : (c : Dev Cert.KeptIdeal.nD) → Buf (Elt Ideal) ((c.tc : Thread Cert.KeptIdeal.nD Cert.KeptIdeal.τ).loc Cert.KeptIdeal.main_v16)),
      θ_run (Cert.KeptIdeal.defs (F := Ideal)) (onTc (τ := Cert.KeptIdeal.τ) (Cert.KeptIdeal.main (F := Ideal))) ⟨m, fun _ => 0, g⟩ (fun r => ∀ c : Dev Cert.KeptIdeal.nD,
          r.2.mem ((c.tc : Thread Cert.KeptIdeal.nD Cert.KeptIdeal.τ).loc Cert.KeptIdeal.main_v16) = v0 c
          ∧ r.2.mem ((c.tc : Thread Cert.KeptIdeal.nD Cert.KeptIdeal.τ).loc Cert.KeptIdeal.main_arg0) = m ((c.tc : Thread Cert.KeptIdeal.nD Cert.KeptIdeal.τ).loc Cert.KeptIdeal.main_arg0)
          ∧ r.2.mem ((c.tc : Thread Cert.KeptIdeal.nD Cert.KeptIdeal.τ).loc Cert.KeptIdeal.main_arg1) = m ((c.tc : Thread Cert.KeptIdeal.nD Cert.KeptIdeal.τ).loc Cert.KeptIdeal.main_arg1)
          ∧ r.2.mem ((c.tc : Thread Cert.KeptIdeal.nD Cert.KeptIdeal.τ).loc Cert.KeptIdeal.main_arg2) = m ((c.tc : Thread Cert.KeptIdeal.nD Cert.KeptIdeal.τ).loc Cert.KeptIdeal.main_arg2)
          ∧ r.2.mem ((c.tc : Thread Cert.KeptIdeal.nD Cert.KeptIdeal.τ).loc Cert.KeptIdeal.main_arg3) = m ((c.tc : Thread Cert.KeptIdeal.nD Cert.KeptIdeal.τ).loc Cert.KeptIdeal.main_arg3)
          ∧ r.2.mem ((c.tc : Thread Cert.KeptIdeal.nD Cert.KeptIdeal.τ).loc Cert.KeptIdeal.main_arg4) = m ((c.tc : Thread Cert.KeptIdeal.nD Cert.KeptIdeal.τ).loc Cert.KeptIdeal.main_arg4))
      ∧ θ_run (Cert.KeptRefIdeal.defs (F := Ideal)) (onTc (τ := Cert.KeptRefIdeal.τ) (Cert.KeptRefIdeal.main (F := Ideal))) ⟨m', fun _ => 0, g'⟩ (fun r => ∀ c : Dev Cert.KeptRefIdeal.nD,
          r.2.mem ((c.tc : Thread Cert.KeptRefIdeal.nD Cert.KeptRefIdeal.τ).loc Cert.KeptRefIdeal.main_v32) = v0 c
          ∧ r.2.mem ((c.tc : Thread Cert.KeptRefIdeal.nD Cert.KeptRefIdeal.τ).loc Cert.KeptRefIdeal.main_arg0) = m' ((c.tc : Thread Cert.KeptRefIdeal.nD Cert.KeptRefIdeal.τ).loc Cert.KeptRefIdeal.main_arg0)
          ∧ r.2.mem ((c.tc : Thread Cert.KeptRefIdeal.nD Cert.KeptRefIdeal.τ).loc Cert.KeptRefIdeal.main_arg1) = m' ((c.tc : Thread Cert.KeptRefIdeal.nD Cert.KeptRefIdeal.τ).loc Cert.KeptRefIdeal.main_arg1)
          ∧ r.2.mem ((c.tc : Thread Cert.KeptRefIdeal.nD Cert.KeptRefIdeal.τ).loc Cert.KeptRefIdeal.main_arg2) = m' ((c.tc : Thread Cert.KeptRefIdeal.nD Cert.KeptRefIdeal.τ).loc Cert.KeptRefIdeal.main_arg2)
          ∧ r.2.mem ((c.tc : Thread Cert.KeptRefIdeal.nD Cert.KeptRefIdeal.τ).loc Cert.KeptRefIdeal.main_arg3) = m' ((c.tc : Thread Cert.KeptRefIdeal.nD Cert.KeptRefIdeal.τ).loc Cert.KeptRefIdeal.main_arg3)
          ∧ r.2.mem ((c.tc : Thread Cert.KeptRefIdeal.nD Cert.KeptRefIdeal.τ).loc Cert.KeptRefIdeal.main_arg4) = m' ((c.tc : Thread Cert.KeptRefIdeal.nD Cert.KeptRefIdeal.τ).loc Cert.KeptRefIdeal.main_arg4))

def preserves_Gla_GlaIdeal : Prop :=
  True

def preserves_AdamUp_AdamUpIdeal : Prop :=
  True

def algebraic_AdamUpIdeal_AdamUpRefIdeal [hAdamUpIdeal : Cert.AdamUpIdeal.Facts] [hAdamUpRefIdeal : Cert.AdamUpRefIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg)
    (m' : (ℓ : Loc Cert.AdamUpRefIdeal.nD Cert.AdamUpRefIdeal.τ Cert.AdamUpRefIdeal.sig) → Buf (Elt Ideal) ℓ) (g' : Dev Cert.AdamUpRefIdeal.nD → PrngReg), Pre_AdamUpIdeal m →
    (∀ c : Dev Cert.AdamUpIdeal.nD,
      m' ((c.tc : Thread Cert.AdamUpRefIdeal.nD Cert.AdamUpRefIdeal.τ).loc Cert.AdamUpRefIdeal.main_arg0) = m ((c.tc : Thread Cert.AdamUpIdeal.nD Cert.AdamUpIdeal.τ).loc Cert.AdamUpIdeal.main_arg0)
      ∧ m' ((c.tc : Thread Cert.AdamUpRefIdeal.nD Cert.AdamUpRefIdeal.τ).loc Cert.AdamUpRefIdeal.main_arg1) = m ((c.tc : Thread Cert.AdamUpIdeal.nD Cert.AdamUpIdeal.τ).loc Cert.AdamUpIdeal.main_arg1)
      ∧ m' ((c.tc : Thread Cert.AdamUpRefIdeal.nD Cert.AdamUpRefIdeal.τ).loc Cert.AdamUpRefIdeal.main_arg2) = m ((c.tc : Thread Cert.AdamUpIdeal.nD Cert.AdamUpIdeal.τ).loc Cert.AdamUpIdeal.main_arg2)
      ∧ m' ((c.tc : Thread Cert.AdamUpRefIdeal.nD Cert.AdamUpRefIdeal.τ).loc Cert.AdamUpRefIdeal.main_arg3) = m ((c.tc : Thread Cert.AdamUpIdeal.nD Cert.AdamUpIdeal.τ).loc Cert.AdamUpIdeal.main_arg3)
      ∧ m' ((c.tc : Thread Cert.AdamUpRefIdeal.nD Cert.AdamUpRefIdeal.τ).loc Cert.AdamUpRefIdeal.main_arg4) = m ((c.tc : Thread Cert.AdamUpIdeal.nD Cert.AdamUpIdeal.τ).loc Cert.AdamUpIdeal.main_arg4)) →
    ∃ (v0 : (c : Dev Cert.AdamUpIdeal.nD) → Buf (Elt Ideal) ((c.tc : Thread Cert.AdamUpIdeal.nD Cert.AdamUpIdeal.τ).loc Cert.AdamUpIdeal.main_v0_0)) (v1 : (c : Dev Cert.AdamUpIdeal.nD) → Buf (Elt Ideal) ((c.tc : Thread Cert.AdamUpIdeal.nD Cert.AdamUpIdeal.τ).loc Cert.AdamUpIdeal.main_v0_1)) (v2 : (c : Dev Cert.AdamUpIdeal.nD) → Buf (Elt Ideal) ((c.tc : Thread Cert.AdamUpIdeal.nD Cert.AdamUpIdeal.τ).loc Cert.AdamUpIdeal.main_v0_2)) (v3 : (c : Dev Cert.AdamUpIdeal.nD) → Buf (Elt Ideal) ((c.tc : Thread Cert.AdamUpIdeal.nD Cert.AdamUpIdeal.τ).loc Cert.AdamUpIdeal.main_v0_3)),
      θ_run (Cert.AdamUpIdeal.defs (F := Ideal)) (onTc (τ := Cert.AdamUpIdeal.τ) (Cert.AdamUpIdeal.main (F := Ideal))) ⟨m, fun _ => 0, g⟩ (fun r => ∀ c : Dev Cert.AdamUpIdeal.nD,
          r.2.mem ((c.tc : Thread Cert.AdamUpIdeal.nD Cert.AdamUpIdeal.τ).loc Cert.AdamUpIdeal.main_v0_0) = v0 c
          ∧ r.2.mem ((c.tc : Thread Cert.AdamUpIdeal.nD Cert.AdamUpIdeal.τ).loc Cert.AdamUpIdeal.main_v0_1) = v1 c
          ∧ r.2.mem ((c.tc : Thread Cert.AdamUpIdeal.nD Cert.AdamUpIdeal.τ).loc Cert.AdamUpIdeal.main_v0_2) = v2 c
          ∧ r.2.mem ((c.tc : Thread Cert.AdamUpIdeal.nD Cert.AdamUpIdeal.τ).loc Cert.AdamUpIdeal.main_v0_3) = v3 c
          ∧ r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
          ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
          ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
          ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3)
          ∧ r.2.mem ((c.tc : Thread Cert.AdamUpIdeal.nD Cert.AdamUpIdeal.τ).loc Cert.AdamUpIdeal.main_arg4) = m ((c.tc : Thread Cert.AdamUpIdeal.nD Cert.AdamUpIdeal.τ).loc Cert.AdamUpIdeal.main_arg4))
      ∧ θ_run (Cert.AdamUpRefIdeal.defs (F := Ideal)) (onTc (τ := Cert.AdamUpRefIdeal.τ) (Cert.AdamUpRefIdeal.main (F := Ideal))) ⟨m', fun _ => 0, g'⟩ (fun r => ∀ c : Dev Cert.AdamUpRefIdeal.nD,
          r.2.mem ((c.tc : Thread Cert.AdamUpRefIdeal.nD Cert.AdamUpRefIdeal.τ).loc Cert.AdamUpRefIdeal.main_arg1) = v0 c
          ∧ r.2.mem ((c.tc : Thread Cert.AdamUpRefIdeal.nD Cert.AdamUpRefIdeal.τ).loc Cert.AdamUpRefIdeal.main_v23) = v1 c
          ∧ r.2.mem ((c.tc : Thread Cert.AdamUpRefIdeal.nD Cert.AdamUpRefIdeal.τ).loc Cert.AdamUpRefIdeal.main_v4) = v2 c
          ∧ r.2.mem ((c.tc : Thread Cert.AdamUpRefIdeal.nD Cert.AdamUpRefIdeal.τ).loc Cert.AdamUpRefIdeal.main_v10) = v3 c
          ∧ r.2.mem ((c.tc : Thread Cert.AdamUpRefIdeal.nD Cert.AdamUpRefIdeal.τ).loc Cert.AdamUpRefIdeal.main_arg0) = m' ((c.tc : Thread Cert.AdamUpRefIdeal.nD Cert.AdamUpRefIdeal.τ).loc Cert.AdamUpRefIdeal.main_arg0)
          ∧ r.2.mem ((c.tc : Thread Cert.AdamUpRefIdeal.nD Cert.AdamUpRefIdeal.τ).loc Cert.AdamUpRefIdeal.main_arg1) = m' ((c.tc : Thread Cert.AdamUpRefIdeal.nD Cert.AdamUpRefIdeal.τ).loc Cert.AdamUpRefIdeal.main_arg1)
          ∧ r.2.mem ((c.tc : Thread Cert.AdamUpRefIdeal.nD Cert.AdamUpRefIdeal.τ).loc Cert.AdamUpRefIdeal.main_arg2) = m' ((c.tc : Thread Cert.AdamUpRefIdeal.nD Cert.AdamUpRefIdeal.τ).loc Cert.AdamUpRefIdeal.main_arg2)
          ∧ r.2.mem ((c.tc : Thread Cert.AdamUpRefIdeal.nD Cert.AdamUpRefIdeal.τ).loc Cert.AdamUpRefIdeal.main_arg3) = m' ((c.tc : Thread Cert.AdamUpRefIdeal.nD Cert.AdamUpRefIdeal.τ).loc Cert.AdamUpRefIdeal.main_arg3)
          ∧ r.2.mem ((c.tc : Thread Cert.AdamUpRefIdeal.nD Cert.AdamUpRefIdeal.τ).loc Cert.AdamUpRefIdeal.main_arg4) = m' ((c.tc : Thread Cert.AdamUpRefIdeal.nD Cert.AdamUpRefIdeal.τ).loc Cert.AdamUpRefIdeal.main_arg4))

def preserves_AdamDown_AdamDownIdeal : Prop :=
  True

def algebraic_AdamDownIdeal_AdamDownRefIdeal [hAdamDownIdeal : Cert.AdamDownIdeal.Facts] [hAdamDownRefIdeal : Cert.AdamDownRefIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg)
    (m' : (ℓ : Loc Cert.AdamDownRefIdeal.nD Cert.AdamDownRefIdeal.τ Cert.AdamDownRefIdeal.sig) → Buf (Elt Ideal) ℓ) (g' : Dev Cert.AdamDownRefIdeal.nD → PrngReg), Pre_AdamDownIdeal m →
    (∀ c : Dev Cert.AdamDownIdeal.nD,
      m' ((c.tc : Thread Cert.AdamDownRefIdeal.nD Cert.AdamDownRefIdeal.τ).loc Cert.AdamDownRefIdeal.main_arg0) = m ((c.tc : Thread Cert.AdamDownIdeal.nD Cert.AdamDownIdeal.τ).loc Cert.AdamDownIdeal.main_arg0)
      ∧ m' ((c.tc : Thread Cert.AdamDownRefIdeal.nD Cert.AdamDownRefIdeal.τ).loc Cert.AdamDownRefIdeal.main_arg1) = m ((c.tc : Thread Cert.AdamDownIdeal.nD Cert.AdamDownIdeal.τ).loc Cert.AdamDownIdeal.main_arg1)
      ∧ m' ((c.tc : Thread Cert.AdamDownRefIdeal.nD Cert.AdamDownRefIdeal.τ).loc Cert.AdamDownRefIdeal.main_arg2) = m ((c.tc : Thread Cert.AdamDownIdeal.nD Cert.AdamDownIdeal.τ).loc Cert.AdamDownIdeal.main_arg2)
      ∧ m' ((c.tc : Thread Cert.AdamDownRefIdeal.nD Cert.AdamDownRefIdeal.τ).loc Cert.AdamDownRefIdeal.main_arg3) = m ((c.tc : Thread Cert.AdamDownIdeal.nD Cert.AdamDownIdeal.τ).loc Cert.AdamDownIdeal.main_arg3)
      ∧ m' ((c.tc : Thread Cert.AdamDownRefIdeal.nD Cert.AdamDownRefIdeal.τ).loc Cert.AdamDownRefIdeal.main_arg4) = m ((c.tc : Thread Cert.AdamDownIdeal.nD Cert.AdamDownIdeal.τ).loc Cert.AdamDownIdeal.main_arg4)) →
    ∃ (v0 : (c : Dev Cert.AdamDownIdeal.nD) → Buf (Elt Ideal) ((c.tc : Thread Cert.AdamDownIdeal.nD Cert.AdamDownIdeal.τ).loc Cert.AdamDownIdeal.main_v0_0)) (v1 : (c : Dev Cert.AdamDownIdeal.nD) → Buf (Elt Ideal) ((c.tc : Thread Cert.AdamDownIdeal.nD Cert.AdamDownIdeal.τ).loc Cert.AdamDownIdeal.main_v0_1)) (v2 : (c : Dev Cert.AdamDownIdeal.nD) → Buf (Elt Ideal) ((c.tc : Thread Cert.AdamDownIdeal.nD Cert.AdamDownIdeal.τ).loc Cert.AdamDownIdeal.main_v0_2)) (v3 : (c : Dev Cert.AdamDownIdeal.nD) → Buf (Elt Ideal) ((c.tc : Thread Cert.AdamDownIdeal.nD Cert.AdamDownIdeal.τ).loc Cert.AdamDownIdeal.main_v0_3)),
      θ_run (Cert.AdamDownIdeal.defs (F := Ideal)) (onTc (τ := Cert.AdamDownIdeal.τ) (Cert.AdamDownIdeal.main (F := Ideal))) ⟨m, fun _ => 0, g⟩ (fun r => ∀ c : Dev Cert.AdamDownIdeal.nD,
          r.2.mem ((c.tc : Thread Cert.AdamDownIdeal.nD Cert.AdamDownIdeal.τ).loc Cert.AdamDownIdeal.main_v0_0) = v0 c
          ∧ r.2.mem ((c.tc : Thread Cert.AdamDownIdeal.nD Cert.AdamDownIdeal.τ).loc Cert.AdamDownIdeal.main_v0_1) = v1 c
          ∧ r.2.mem ((c.tc : Thread Cert.AdamDownIdeal.nD Cert.AdamDownIdeal.τ).loc Cert.AdamDownIdeal.main_v0_2) = v2 c
          ∧ r.2.mem ((c.tc : Thread Cert.AdamDownIdeal.nD Cert.AdamDownIdeal.τ).loc Cert.AdamDownIdeal.main_v0_3) = v3 c
          ∧ r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
          ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
          ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
          ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3)
          ∧ r.2.mem ((c.tc : Thread Cert.AdamDownIdeal.nD Cert.AdamDownIdeal.τ).loc Cert.AdamDownIdeal.main_arg4) = m ((c.tc : Thread Cert.AdamDownIdeal.nD Cert.AdamDownIdeal.τ).loc Cert.AdamDownIdeal.main_arg4))
      ∧ θ_run (Cert.AdamDownRefIdeal.defs (F := Ideal)) (onTc (τ := Cert.AdamDownRefIdeal.τ) (Cert.AdamDownRefIdeal.main (F := Ideal))) ⟨m', fun _ => 0, g'⟩ (fun r => ∀ c : Dev Cert.AdamDownRefIdeal.nD,
          r.2.mem ((c.tc : Thread Cert.AdamDownRefIdeal.nD Cert.AdamDownRefIdeal.τ).loc Cert.AdamDownRefIdeal.main_arg1) = v0 c
          ∧ r.2.mem ((c.tc : Thread Cert.AdamDownRefIdeal.nD Cert.AdamDownRefIdeal.τ).loc Cert.AdamDownRefIdeal.main_v23) = v1 c
          ∧ r.2.mem ((c.tc : Thread Cert.AdamDownRefIdeal.nD Cert.AdamDownRefIdeal.τ).loc Cert.AdamDownRefIdeal.main_v4) = v2 c
          ∧ r.2.mem ((c.tc : Thread Cert.AdamDownRefIdeal.nD Cert.AdamDownRefIdeal.τ).loc Cert.AdamDownRefIdeal.main_v10) = v3 c
          ∧ r.2.mem ((c.tc : Thread Cert.AdamDownRefIdeal.nD Cert.AdamDownRefIdeal.τ).loc Cert.AdamDownRefIdeal.main_arg0) = m' ((c.tc : Thread Cert.AdamDownRefIdeal.nD Cert.AdamDownRefIdeal.τ).loc Cert.AdamDownRefIdeal.main_arg0)
          ∧ r.2.mem ((c.tc : Thread Cert.AdamDownRefIdeal.nD Cert.AdamDownRefIdeal.τ).loc Cert.AdamDownRefIdeal.main_arg1) = m' ((c.tc : Thread Cert.AdamDownRefIdeal.nD Cert.AdamDownRefIdeal.τ).loc Cert.AdamDownRefIdeal.main_arg1)
          ∧ r.2.mem ((c.tc : Thread Cert.AdamDownRefIdeal.nD Cert.AdamDownRefIdeal.τ).loc Cert.AdamDownRefIdeal.main_arg2) = m' ((c.tc : Thread Cert.AdamDownRefIdeal.nD Cert.AdamDownRefIdeal.τ).loc Cert.AdamDownRefIdeal.main_arg2)
          ∧ r.2.mem ((c.tc : Thread Cert.AdamDownRefIdeal.nD Cert.AdamDownRefIdeal.τ).loc Cert.AdamDownRefIdeal.main_arg3) = m' ((c.tc : Thread Cert.AdamDownRefIdeal.nD Cert.AdamDownRefIdeal.τ).loc Cert.AdamDownRefIdeal.main_arg3)
          ∧ r.2.mem ((c.tc : Thread Cert.AdamDownRefIdeal.nD Cert.AdamDownRefIdeal.τ).loc Cert.AdamDownRefIdeal.main_arg4) = m' ((c.tc : Thread Cert.AdamDownRefIdeal.nD Cert.AdamDownRefIdeal.τ).loc Cert.AdamDownRefIdeal.main_arg4))

def preserves_AdamGain_AdamGainIdeal : Prop :=
  True

def algebraic_AdamGainIdeal_AdamGainRefIdeal [hAdamGainIdeal : Cert.AdamGainIdeal.Facts] [hAdamGainRefIdeal : Cert.AdamGainRefIdeal.Facts] : Prop :=
  ∀ (m : (ℓ : Loc Cert.AdamGainIdeal.nD Cert.AdamGainIdeal.τ Cert.AdamGainIdeal.sig) → Buf (Elt Ideal) ℓ) (g : Dev Cert.AdamGainIdeal.nD → PrngReg)
    (m' : (ℓ : Loc Cert.AdamGainRefIdeal.nD Cert.AdamGainRefIdeal.τ Cert.AdamGainRefIdeal.sig) → Buf (Elt Ideal) ℓ) (g' : Dev Cert.AdamGainRefIdeal.nD → PrngReg), Pre_AdamGainIdeal m →
    (∀ c : Dev Cert.AdamGainIdeal.nD,
      m' ((c.tc : Thread Cert.AdamGainRefIdeal.nD Cert.AdamGainRefIdeal.τ).loc Cert.AdamGainRefIdeal.main_arg0) = m ((c.tc : Thread Cert.AdamGainIdeal.nD Cert.AdamGainIdeal.τ).loc Cert.AdamGainIdeal.main_arg0)
      ∧ m' ((c.tc : Thread Cert.AdamGainRefIdeal.nD Cert.AdamGainRefIdeal.τ).loc Cert.AdamGainRefIdeal.main_arg1) = m ((c.tc : Thread Cert.AdamGainIdeal.nD Cert.AdamGainIdeal.τ).loc Cert.AdamGainIdeal.main_arg1)
      ∧ m' ((c.tc : Thread Cert.AdamGainRefIdeal.nD Cert.AdamGainRefIdeal.τ).loc Cert.AdamGainRefIdeal.main_arg2) = m ((c.tc : Thread Cert.AdamGainIdeal.nD Cert.AdamGainIdeal.τ).loc Cert.AdamGainIdeal.main_arg2)
      ∧ m' ((c.tc : Thread Cert.AdamGainRefIdeal.nD Cert.AdamGainRefIdeal.τ).loc Cert.AdamGainRefIdeal.main_arg3) = m ((c.tc : Thread Cert.AdamGainIdeal.nD Cert.AdamGainIdeal.τ).loc Cert.AdamGainIdeal.main_arg3)
      ∧ m' ((c.tc : Thread Cert.AdamGainRefIdeal.nD Cert.AdamGainRefIdeal.τ).loc Cert.AdamGainRefIdeal.main_arg4) = m ((c.tc : Thread Cert.AdamGainIdeal.nD Cert.AdamGainIdeal.τ).loc Cert.AdamGainIdeal.main_arg4)) →
    ∃ (v0 : (c : Dev Cert.AdamGainIdeal.nD) → Buf (Elt Ideal) ((c.tc : Thread Cert.AdamGainIdeal.nD Cert.AdamGainIdeal.τ).loc Cert.AdamGainIdeal.main_v0_0)) (v1 : (c : Dev Cert.AdamGainIdeal.nD) → Buf (Elt Ideal) ((c.tc : Thread Cert.AdamGainIdeal.nD Cert.AdamGainIdeal.τ).loc Cert.AdamGainIdeal.main_v0_1)) (v2 : (c : Dev Cert.AdamGainIdeal.nD) → Buf (Elt Ideal) ((c.tc : Thread Cert.AdamGainIdeal.nD Cert.AdamGainIdeal.τ).loc Cert.AdamGainIdeal.main_v0_2)) (v3 : (c : Dev Cert.AdamGainIdeal.nD) → Buf (Elt Ideal) ((c.tc : Thread Cert.AdamGainIdeal.nD Cert.AdamGainIdeal.τ).loc Cert.AdamGainIdeal.main_v0_3)),
      θ_run (Cert.AdamGainIdeal.defs (F := Ideal)) (onTc (τ := Cert.AdamGainIdeal.τ) (Cert.AdamGainIdeal.main (F := Ideal))) ⟨m, fun _ => 0, g⟩ (fun r => ∀ c : Dev Cert.AdamGainIdeal.nD,
          r.2.mem ((c.tc : Thread Cert.AdamGainIdeal.nD Cert.AdamGainIdeal.τ).loc Cert.AdamGainIdeal.main_v0_0) = v0 c
          ∧ r.2.mem ((c.tc : Thread Cert.AdamGainIdeal.nD Cert.AdamGainIdeal.τ).loc Cert.AdamGainIdeal.main_v0_1) = v1 c
          ∧ r.2.mem ((c.tc : Thread Cert.AdamGainIdeal.nD Cert.AdamGainIdeal.τ).loc Cert.AdamGainIdeal.main_v0_2) = v2 c
          ∧ r.2.mem ((c.tc : Thread Cert.AdamGainIdeal.nD Cert.AdamGainIdeal.τ).loc Cert.AdamGainIdeal.main_v0_3) = v3 c
          ∧ r.2.mem ((c.tc : Thread Cert.AdamGainIdeal.nD Cert.AdamGainIdeal.τ).loc Cert.AdamGainIdeal.main_arg0) = m ((c.tc : Thread Cert.AdamGainIdeal.nD Cert.AdamGainIdeal.τ).loc Cert.AdamGainIdeal.main_arg0)
          ∧ r.2.mem ((c.tc : Thread Cert.AdamGainIdeal.nD Cert.AdamGainIdeal.τ).loc Cert.AdamGainIdeal.main_arg1) = m ((c.tc : Thread Cert.AdamGainIdeal.nD Cert.AdamGainIdeal.τ).loc Cert.AdamGainIdeal.main_arg1)
          ∧ r.2.mem ((c.tc : Thread Cert.AdamGainIdeal.nD Cert.AdamGainIdeal.τ).loc Cert.AdamGainIdeal.main_arg2) = m ((c.tc : Thread Cert.AdamGainIdeal.nD Cert.AdamGainIdeal.τ).loc Cert.AdamGainIdeal.main_arg2)
          ∧ r.2.mem ((c.tc : Thread Cert.AdamGainIdeal.nD Cert.AdamGainIdeal.τ).loc Cert.AdamGainIdeal.main_arg3) = m ((c.tc : Thread Cert.AdamGainIdeal.nD Cert.AdamGainIdeal.τ).loc Cert.AdamGainIdeal.main_arg3)
          ∧ r.2.mem ((c.tc : Thread Cert.AdamGainIdeal.nD Cert.AdamGainIdeal.τ).loc Cert.AdamGainIdeal.main_arg4) = m ((c.tc : Thread Cert.AdamGainIdeal.nD Cert.AdamGainIdeal.τ).loc Cert.AdamGainIdeal.main_arg4))
      ∧ θ_run (Cert.AdamGainRefIdeal.defs (F := Ideal)) (onTc (τ := Cert.AdamGainRefIdeal.τ) (Cert.AdamGainRefIdeal.main (F := Ideal))) ⟨m', fun _ => 0, g'⟩ (fun r => ∀ c : Dev Cert.AdamGainRefIdeal.nD,
          r.2.mem ((c.tc : Thread Cert.AdamGainRefIdeal.nD Cert.AdamGainRefIdeal.τ).loc Cert.AdamGainRefIdeal.main_arg1) = v0 c
          ∧ r.2.mem ((c.tc : Thread Cert.AdamGainRefIdeal.nD Cert.AdamGainRefIdeal.τ).loc Cert.AdamGainRefIdeal.main_v23) = v1 c
          ∧ r.2.mem ((c.tc : Thread Cert.AdamGainRefIdeal.nD Cert.AdamGainRefIdeal.τ).loc Cert.AdamGainRefIdeal.main_v4) = v2 c
          ∧ r.2.mem ((c.tc : Thread Cert.AdamGainRefIdeal.nD Cert.AdamGainRefIdeal.τ).loc Cert.AdamGainRefIdeal.main_v10) = v3 c
          ∧ r.2.mem ((c.tc : Thread Cert.AdamGainRefIdeal.nD Cert.AdamGainRefIdeal.τ).loc Cert.AdamGainRefIdeal.main_arg0) = m' ((c.tc : Thread Cert.AdamGainRefIdeal.nD Cert.AdamGainRefIdeal.τ).loc Cert.AdamGainRefIdeal.main_arg0)
          ∧ r.2.mem ((c.tc : Thread Cert.AdamGainRefIdeal.nD Cert.AdamGainRefIdeal.τ).loc Cert.AdamGainRefIdeal.main_arg1) = m' ((c.tc : Thread Cert.AdamGainRefIdeal.nD Cert.AdamGainRefIdeal.τ).loc Cert.AdamGainRefIdeal.main_arg1)
          ∧ r.2.mem ((c.tc : Thread Cert.AdamGainRefIdeal.nD Cert.AdamGainRefIdeal.τ).loc Cert.AdamGainRefIdeal.main_arg2) = m' ((c.tc : Thread Cert.AdamGainRefIdeal.nD Cert.AdamGainRefIdeal.τ).loc Cert.AdamGainRefIdeal.main_arg2)
          ∧ r.2.mem ((c.tc : Thread Cert.AdamGainRefIdeal.nD Cert.AdamGainRefIdeal.τ).loc Cert.AdamGainRefIdeal.main_arg3) = m' ((c.tc : Thread Cert.AdamGainRefIdeal.nD Cert.AdamGainRefIdeal.τ).loc Cert.AdamGainRefIdeal.main_arg3)
          ∧ r.2.mem ((c.tc : Thread Cert.AdamGainRefIdeal.nD Cert.AdamGainRefIdeal.τ).loc Cert.AdamGainRefIdeal.main_arg4) = m' ((c.tc : Thread Cert.AdamGainRefIdeal.nD Cert.AdamGainRefIdeal.τ).loc Cert.AdamGainRefIdeal.main_arg4))

def preserves_AdamMixIn_AdamMixInIdeal : Prop :=
  True

def algebraic_AdamMixInIdeal_AdamMixInRefIdeal [hAdamMixInIdeal : Cert.AdamMixInIdeal.Facts] [hAdamMixInRefIdeal : Cert.AdamMixInRefIdeal.Facts] : Prop :=
  ∀ (m : (ℓ : Loc Cert.AdamMixInIdeal.nD Cert.AdamMixInIdeal.τ Cert.AdamMixInIdeal.sig) → Buf (Elt Ideal) ℓ) (g : Dev Cert.AdamMixInIdeal.nD → PrngReg)
    (m' : (ℓ : Loc Cert.AdamMixInRefIdeal.nD Cert.AdamMixInRefIdeal.τ Cert.AdamMixInRefIdeal.sig) → Buf (Elt Ideal) ℓ) (g' : Dev Cert.AdamMixInRefIdeal.nD → PrngReg), Pre_AdamMixInIdeal m →
    (∀ c : Dev Cert.AdamMixInIdeal.nD,
      m' ((c.tc : Thread Cert.AdamMixInRefIdeal.nD Cert.AdamMixInRefIdeal.τ).loc Cert.AdamMixInRefIdeal.main_arg0) = m ((c.tc : Thread Cert.AdamMixInIdeal.nD Cert.AdamMixInIdeal.τ).loc Cert.AdamMixInIdeal.main_arg0)
      ∧ m' ((c.tc : Thread Cert.AdamMixInRefIdeal.nD Cert.AdamMixInRefIdeal.τ).loc Cert.AdamMixInRefIdeal.main_arg1) = m ((c.tc : Thread Cert.AdamMixInIdeal.nD Cert.AdamMixInIdeal.τ).loc Cert.AdamMixInIdeal.main_arg1)
      ∧ m' ((c.tc : Thread Cert.AdamMixInRefIdeal.nD Cert.AdamMixInRefIdeal.τ).loc Cert.AdamMixInRefIdeal.main_arg2) = m ((c.tc : Thread Cert.AdamMixInIdeal.nD Cert.AdamMixInIdeal.τ).loc Cert.AdamMixInIdeal.main_arg2)
      ∧ m' ((c.tc : Thread Cert.AdamMixInRefIdeal.nD Cert.AdamMixInRefIdeal.τ).loc Cert.AdamMixInRefIdeal.main_arg3) = m ((c.tc : Thread Cert.AdamMixInIdeal.nD Cert.AdamMixInIdeal.τ).loc Cert.AdamMixInIdeal.main_arg3)
      ∧ m' ((c.tc : Thread Cert.AdamMixInRefIdeal.nD Cert.AdamMixInRefIdeal.τ).loc Cert.AdamMixInRefIdeal.main_arg4) = m ((c.tc : Thread Cert.AdamMixInIdeal.nD Cert.AdamMixInIdeal.τ).loc Cert.AdamMixInIdeal.main_arg4)) →
    ∃ (v0 : (c : Dev Cert.AdamMixInIdeal.nD) → Buf (Elt Ideal) ((c.tc : Thread Cert.AdamMixInIdeal.nD Cert.AdamMixInIdeal.τ).loc Cert.AdamMixInIdeal.main_v0_0)) (v1 : (c : Dev Cert.AdamMixInIdeal.nD) → Buf (Elt Ideal) ((c.tc : Thread Cert.AdamMixInIdeal.nD Cert.AdamMixInIdeal.τ).loc Cert.AdamMixInIdeal.main_v0_1)) (v2 : (c : Dev Cert.AdamMixInIdeal.nD) → Buf (Elt Ideal) ((c.tc : Thread Cert.AdamMixInIdeal.nD Cert.AdamMixInIdeal.τ).loc Cert.AdamMixInIdeal.main_v0_2)) (v3 : (c : Dev Cert.AdamMixInIdeal.nD) → Buf (Elt Ideal) ((c.tc : Thread Cert.AdamMixInIdeal.nD Cert.AdamMixInIdeal.τ).loc Cert.AdamMixInIdeal.main_v0_3)),
      θ_run (Cert.AdamMixInIdeal.defs (F := Ideal)) (onTc (τ := Cert.AdamMixInIdeal.τ) (Cert.AdamMixInIdeal.main (F := Ideal))) ⟨m, fun _ => 0, g⟩ (fun r => ∀ c : Dev Cert.AdamMixInIdeal.nD,
          r.2.mem ((c.tc : Thread Cert.AdamMixInIdeal.nD Cert.AdamMixInIdeal.τ).loc Cert.AdamMixInIdeal.main_v0_0) = v0 c
          ∧ r.2.mem ((c.tc : Thread Cert.AdamMixInIdeal.nD Cert.AdamMixInIdeal.τ).loc Cert.AdamMixInIdeal.main_v0_1) = v1 c
          ∧ r.2.mem ((c.tc : Thread Cert.AdamMixInIdeal.nD Cert.AdamMixInIdeal.τ).loc Cert.AdamMixInIdeal.main_v0_2) = v2 c
          ∧ r.2.mem ((c.tc : Thread Cert.AdamMixInIdeal.nD Cert.AdamMixInIdeal.τ).loc Cert.AdamMixInIdeal.main_v0_3) = v3 c
          ∧ r.2.mem ((c.tc : Thread Cert.AdamMixInIdeal.nD Cert.AdamMixInIdeal.τ).loc Cert.AdamMixInIdeal.main_arg0) = m ((c.tc : Thread Cert.AdamMixInIdeal.nD Cert.AdamMixInIdeal.τ).loc Cert.AdamMixInIdeal.main_arg0)
          ∧ r.2.mem ((c.tc : Thread Cert.AdamMixInIdeal.nD Cert.AdamMixInIdeal.τ).loc Cert.AdamMixInIdeal.main_arg1) = m ((c.tc : Thread Cert.AdamMixInIdeal.nD Cert.AdamMixInIdeal.τ).loc Cert.AdamMixInIdeal.main_arg1)
          ∧ r.2.mem ((c.tc : Thread Cert.AdamMixInIdeal.nD Cert.AdamMixInIdeal.τ).loc Cert.AdamMixInIdeal.main_arg2) = m ((c.tc : Thread Cert.AdamMixInIdeal.nD Cert.AdamMixInIdeal.τ).loc Cert.AdamMixInIdeal.main_arg2)
          ∧ r.2.mem ((c.tc : Thread Cert.AdamMixInIdeal.nD Cert.AdamMixInIdeal.τ).loc Cert.AdamMixInIdeal.main_arg3) = m ((c.tc : Thread Cert.AdamMixInIdeal.nD Cert.AdamMixInIdeal.τ).loc Cert.AdamMixInIdeal.main_arg3)
          ∧ r.2.mem ((c.tc : Thread Cert.AdamMixInIdeal.nD Cert.AdamMixInIdeal.τ).loc Cert.AdamMixInIdeal.main_arg4) = m ((c.tc : Thread Cert.AdamMixInIdeal.nD Cert.AdamMixInIdeal.τ).loc Cert.AdamMixInIdeal.main_arg4))
      ∧ θ_run (Cert.AdamMixInRefIdeal.defs (F := Ideal)) (onTc (τ := Cert.AdamMixInRefIdeal.τ) (Cert.AdamMixInRefIdeal.main (F := Ideal))) ⟨m', fun _ => 0, g'⟩ (fun r => ∀ c : Dev Cert.AdamMixInRefIdeal.nD,
          r.2.mem ((c.tc : Thread Cert.AdamMixInRefIdeal.nD Cert.AdamMixInRefIdeal.τ).loc Cert.AdamMixInRefIdeal.main_arg1) = v0 c
          ∧ r.2.mem ((c.tc : Thread Cert.AdamMixInRefIdeal.nD Cert.AdamMixInRefIdeal.τ).loc Cert.AdamMixInRefIdeal.main_v23) = v1 c
          ∧ r.2.mem ((c.tc : Thread Cert.AdamMixInRefIdeal.nD Cert.AdamMixInRefIdeal.τ).loc Cert.AdamMixInRefIdeal.main_v4) = v2 c
          ∧ r.2.mem ((c.tc : Thread Cert.AdamMixInRefIdeal.nD Cert.AdamMixInRefIdeal.τ).loc Cert.AdamMixInRefIdeal.main_v10) = v3 c
          ∧ r.2.mem ((c.tc : Thread Cert.AdamMixInRefIdeal.nD Cert.AdamMixInRefIdeal.τ).loc Cert.AdamMixInRefIdeal.main_arg0) = m' ((c.tc : Thread Cert.AdamMixInRefIdeal.nD Cert.AdamMixInRefIdeal.τ).loc Cert.AdamMixInRefIdeal.main_arg0)
          ∧ r.2.mem ((c.tc : Thread Cert.AdamMixInRefIdeal.nD Cert.AdamMixInRefIdeal.τ).loc Cert.AdamMixInRefIdeal.main_arg1) = m' ((c.tc : Thread Cert.AdamMixInRefIdeal.nD Cert.AdamMixInRefIdeal.τ).loc Cert.AdamMixInRefIdeal.main_arg1)
          ∧ r.2.mem ((c.tc : Thread Cert.AdamMixInRefIdeal.nD Cert.AdamMixInRefIdeal.τ).loc Cert.AdamMixInRefIdeal.main_arg2) = m' ((c.tc : Thread Cert.AdamMixInRefIdeal.nD Cert.AdamMixInRefIdeal.τ).loc Cert.AdamMixInRefIdeal.main_arg2)
          ∧ r.2.mem ((c.tc : Thread Cert.AdamMixInRefIdeal.nD Cert.AdamMixInRefIdeal.τ).loc Cert.AdamMixInRefIdeal.main_arg3) = m' ((c.tc : Thread Cert.AdamMixInRefIdeal.nD Cert.AdamMixInRefIdeal.τ).loc Cert.AdamMixInRefIdeal.main_arg3)
          ∧ r.2.mem ((c.tc : Thread Cert.AdamMixInRefIdeal.nD Cert.AdamMixInRefIdeal.τ).loc Cert.AdamMixInRefIdeal.main_arg4) = m' ((c.tc : Thread Cert.AdamMixInRefIdeal.nD Cert.AdamMixInRefIdeal.τ).loc Cert.AdamMixInRefIdeal.main_arg4))

def preserves_AdamMixOut_AdamMixOutIdeal : Prop :=
  True

def algebraic_AdamMixOutIdeal_AdamMixOutRefIdeal [hAdamMixOutIdeal : Cert.AdamMixOutIdeal.Facts] [hAdamMixOutRefIdeal : Cert.AdamMixOutRefIdeal.Facts] : Prop :=
  ∀ (m : (ℓ : Loc Cert.AdamMixOutIdeal.nD Cert.AdamMixOutIdeal.τ Cert.AdamMixOutIdeal.sig) → Buf (Elt Ideal) ℓ) (g : Dev Cert.AdamMixOutIdeal.nD → PrngReg)
    (m' : (ℓ : Loc Cert.AdamMixOutRefIdeal.nD Cert.AdamMixOutRefIdeal.τ Cert.AdamMixOutRefIdeal.sig) → Buf (Elt Ideal) ℓ) (g' : Dev Cert.AdamMixOutRefIdeal.nD → PrngReg), Pre_AdamMixOutIdeal m →
    (∀ c : Dev Cert.AdamMixOutIdeal.nD,
      m' ((c.tc : Thread Cert.AdamMixOutRefIdeal.nD Cert.AdamMixOutRefIdeal.τ).loc Cert.AdamMixOutRefIdeal.main_arg0) = m ((c.tc : Thread Cert.AdamMixOutIdeal.nD Cert.AdamMixOutIdeal.τ).loc Cert.AdamMixOutIdeal.main_arg0)
      ∧ m' ((c.tc : Thread Cert.AdamMixOutRefIdeal.nD Cert.AdamMixOutRefIdeal.τ).loc Cert.AdamMixOutRefIdeal.main_arg1) = m ((c.tc : Thread Cert.AdamMixOutIdeal.nD Cert.AdamMixOutIdeal.τ).loc Cert.AdamMixOutIdeal.main_arg1)
      ∧ m' ((c.tc : Thread Cert.AdamMixOutRefIdeal.nD Cert.AdamMixOutRefIdeal.τ).loc Cert.AdamMixOutRefIdeal.main_arg2) = m ((c.tc : Thread Cert.AdamMixOutIdeal.nD Cert.AdamMixOutIdeal.τ).loc Cert.AdamMixOutIdeal.main_arg2)
      ∧ m' ((c.tc : Thread Cert.AdamMixOutRefIdeal.nD Cert.AdamMixOutRefIdeal.τ).loc Cert.AdamMixOutRefIdeal.main_arg3) = m ((c.tc : Thread Cert.AdamMixOutIdeal.nD Cert.AdamMixOutIdeal.τ).loc Cert.AdamMixOutIdeal.main_arg3)
      ∧ m' ((c.tc : Thread Cert.AdamMixOutRefIdeal.nD Cert.AdamMixOutRefIdeal.τ).loc Cert.AdamMixOutRefIdeal.main_arg4) = m ((c.tc : Thread Cert.AdamMixOutIdeal.nD Cert.AdamMixOutIdeal.τ).loc Cert.AdamMixOutIdeal.main_arg4)) →
    ∃ (v0 : (c : Dev Cert.AdamMixOutIdeal.nD) → Buf (Elt Ideal) ((c.tc : Thread Cert.AdamMixOutIdeal.nD Cert.AdamMixOutIdeal.τ).loc Cert.AdamMixOutIdeal.main_v0_0)) (v1 : (c : Dev Cert.AdamMixOutIdeal.nD) → Buf (Elt Ideal) ((c.tc : Thread Cert.AdamMixOutIdeal.nD Cert.AdamMixOutIdeal.τ).loc Cert.AdamMixOutIdeal.main_v0_1)) (v2 : (c : Dev Cert.AdamMixOutIdeal.nD) → Buf (Elt Ideal) ((c.tc : Thread Cert.AdamMixOutIdeal.nD Cert.AdamMixOutIdeal.τ).loc Cert.AdamMixOutIdeal.main_v0_2)) (v3 : (c : Dev Cert.AdamMixOutIdeal.nD) → Buf (Elt Ideal) ((c.tc : Thread Cert.AdamMixOutIdeal.nD Cert.AdamMixOutIdeal.τ).loc Cert.AdamMixOutIdeal.main_v0_3)),
      θ_run (Cert.AdamMixOutIdeal.defs (F := Ideal)) (onTc (τ := Cert.AdamMixOutIdeal.τ) (Cert.AdamMixOutIdeal.main (F := Ideal))) ⟨m, fun _ => 0, g⟩ (fun r => ∀ c : Dev Cert.AdamMixOutIdeal.nD,
          r.2.mem ((c.tc : Thread Cert.AdamMixOutIdeal.nD Cert.AdamMixOutIdeal.τ).loc Cert.AdamMixOutIdeal.main_v0_0) = v0 c
          ∧ r.2.mem ((c.tc : Thread Cert.AdamMixOutIdeal.nD Cert.AdamMixOutIdeal.τ).loc Cert.AdamMixOutIdeal.main_v0_1) = v1 c
          ∧ r.2.mem ((c.tc : Thread Cert.AdamMixOutIdeal.nD Cert.AdamMixOutIdeal.τ).loc Cert.AdamMixOutIdeal.main_v0_2) = v2 c
          ∧ r.2.mem ((c.tc : Thread Cert.AdamMixOutIdeal.nD Cert.AdamMixOutIdeal.τ).loc Cert.AdamMixOutIdeal.main_v0_3) = v3 c
          ∧ r.2.mem ((c.tc : Thread Cert.AdamMixOutIdeal.nD Cert.AdamMixOutIdeal.τ).loc Cert.AdamMixOutIdeal.main_arg0) = m ((c.tc : Thread Cert.AdamMixOutIdeal.nD Cert.AdamMixOutIdeal.τ).loc Cert.AdamMixOutIdeal.main_arg0)
          ∧ r.2.mem ((c.tc : Thread Cert.AdamMixOutIdeal.nD Cert.AdamMixOutIdeal.τ).loc Cert.AdamMixOutIdeal.main_arg1) = m ((c.tc : Thread Cert.AdamMixOutIdeal.nD Cert.AdamMixOutIdeal.τ).loc Cert.AdamMixOutIdeal.main_arg1)
          ∧ r.2.mem ((c.tc : Thread Cert.AdamMixOutIdeal.nD Cert.AdamMixOutIdeal.τ).loc Cert.AdamMixOutIdeal.main_arg2) = m ((c.tc : Thread Cert.AdamMixOutIdeal.nD Cert.AdamMixOutIdeal.τ).loc Cert.AdamMixOutIdeal.main_arg2)
          ∧ r.2.mem ((c.tc : Thread Cert.AdamMixOutIdeal.nD Cert.AdamMixOutIdeal.τ).loc Cert.AdamMixOutIdeal.main_arg3) = m ((c.tc : Thread Cert.AdamMixOutIdeal.nD Cert.AdamMixOutIdeal.τ).loc Cert.AdamMixOutIdeal.main_arg3)
          ∧ r.2.mem ((c.tc : Thread Cert.AdamMixOutIdeal.nD Cert.AdamMixOutIdeal.τ).loc Cert.AdamMixOutIdeal.main_arg4) = m ((c.tc : Thread Cert.AdamMixOutIdeal.nD Cert.AdamMixOutIdeal.τ).loc Cert.AdamMixOutIdeal.main_arg4))
      ∧ θ_run (Cert.AdamMixOutRefIdeal.defs (F := Ideal)) (onTc (τ := Cert.AdamMixOutRefIdeal.τ) (Cert.AdamMixOutRefIdeal.main (F := Ideal))) ⟨m', fun _ => 0, g'⟩ (fun r => ∀ c : Dev Cert.AdamMixOutRefIdeal.nD,
          r.2.mem ((c.tc : Thread Cert.AdamMixOutRefIdeal.nD Cert.AdamMixOutRefIdeal.τ).loc Cert.AdamMixOutRefIdeal.main_arg1) = v0 c
          ∧ r.2.mem ((c.tc : Thread Cert.AdamMixOutRefIdeal.nD Cert.AdamMixOutRefIdeal.τ).loc Cert.AdamMixOutRefIdeal.main_v23) = v1 c
          ∧ r.2.mem ((c.tc : Thread Cert.AdamMixOutRefIdeal.nD Cert.AdamMixOutRefIdeal.τ).loc Cert.AdamMixOutRefIdeal.main_v4) = v2 c
          ∧ r.2.mem ((c.tc : Thread Cert.AdamMixOutRefIdeal.nD Cert.AdamMixOutRefIdeal.τ).loc Cert.AdamMixOutRefIdeal.main_v10) = v3 c
          ∧ r.2.mem ((c.tc : Thread Cert.AdamMixOutRefIdeal.nD Cert.AdamMixOutRefIdeal.τ).loc Cert.AdamMixOutRefIdeal.main_arg0) = m' ((c.tc : Thread Cert.AdamMixOutRefIdeal.nD Cert.AdamMixOutRefIdeal.τ).loc Cert.AdamMixOutRefIdeal.main_arg0)
          ∧ r.2.mem ((c.tc : Thread Cert.AdamMixOutRefIdeal.nD Cert.AdamMixOutRefIdeal.τ).loc Cert.AdamMixOutRefIdeal.main_arg1) = m' ((c.tc : Thread Cert.AdamMixOutRefIdeal.nD Cert.AdamMixOutRefIdeal.τ).loc Cert.AdamMixOutRefIdeal.main_arg1)
          ∧ r.2.mem ((c.tc : Thread Cert.AdamMixOutRefIdeal.nD Cert.AdamMixOutRefIdeal.τ).loc Cert.AdamMixOutRefIdeal.main_arg2) = m' ((c.tc : Thread Cert.AdamMixOutRefIdeal.nD Cert.AdamMixOutRefIdeal.τ).loc Cert.AdamMixOutRefIdeal.main_arg2)
          ∧ r.2.mem ((c.tc : Thread Cert.AdamMixOutRefIdeal.nD Cert.AdamMixOutRefIdeal.τ).loc Cert.AdamMixOutRefIdeal.main_arg3) = m' ((c.tc : Thread Cert.AdamMixOutRefIdeal.nD Cert.AdamMixOutRefIdeal.τ).loc Cert.AdamMixOutRefIdeal.main_arg3)
          ∧ r.2.mem ((c.tc : Thread Cert.AdamMixOutRefIdeal.nD Cert.AdamMixOutRefIdeal.τ).loc Cert.AdamMixOutRefIdeal.main_arg4) = m' ((c.tc : Thread Cert.AdamMixOutRefIdeal.nD Cert.AdamMixOutRefIdeal.τ).loc Cert.AdamMixOutRefIdeal.main_arg4))

def preserves_AdamPool_AdamPoolIdeal : Prop :=
  True

def algebraic_AdamPoolIdeal_AdamPoolRefIdeal [hAdamPoolIdeal : Cert.AdamPoolIdeal.Facts] [hAdamPoolRefIdeal : Cert.AdamPoolRefIdeal.Facts] : Prop :=
  ∀ (m : (ℓ : Loc Cert.AdamPoolIdeal.nD Cert.AdamPoolIdeal.τ Cert.AdamPoolIdeal.sig) → Buf (Elt Ideal) ℓ) (g : Dev Cert.AdamPoolIdeal.nD → PrngReg)
    (m' : (ℓ : Loc Cert.AdamPoolRefIdeal.nD Cert.AdamPoolRefIdeal.τ Cert.AdamPoolRefIdeal.sig) → Buf (Elt Ideal) ℓ) (g' : Dev Cert.AdamPoolRefIdeal.nD → PrngReg), Pre_AdamPoolIdeal m →
    (∀ c : Dev Cert.AdamPoolIdeal.nD,
      m' ((c.tc : Thread Cert.AdamPoolRefIdeal.nD Cert.AdamPoolRefIdeal.τ).loc Cert.AdamPoolRefIdeal.main_arg0) = m ((c.tc : Thread Cert.AdamPoolIdeal.nD Cert.AdamPoolIdeal.τ).loc Cert.AdamPoolIdeal.main_arg0)
      ∧ m' ((c.tc : Thread Cert.AdamPoolRefIdeal.nD Cert.AdamPoolRefIdeal.τ).loc Cert.AdamPoolRefIdeal.main_arg1) = m ((c.tc : Thread Cert.AdamPoolIdeal.nD Cert.AdamPoolIdeal.τ).loc Cert.AdamPoolIdeal.main_arg1)
      ∧ m' ((c.tc : Thread Cert.AdamPoolRefIdeal.nD Cert.AdamPoolRefIdeal.τ).loc Cert.AdamPoolRefIdeal.main_arg2) = m ((c.tc : Thread Cert.AdamPoolIdeal.nD Cert.AdamPoolIdeal.τ).loc Cert.AdamPoolIdeal.main_arg2)
      ∧ m' ((c.tc : Thread Cert.AdamPoolRefIdeal.nD Cert.AdamPoolRefIdeal.τ).loc Cert.AdamPoolRefIdeal.main_arg3) = m ((c.tc : Thread Cert.AdamPoolIdeal.nD Cert.AdamPoolIdeal.τ).loc Cert.AdamPoolIdeal.main_arg3)
      ∧ m' ((c.tc : Thread Cert.AdamPoolRefIdeal.nD Cert.AdamPoolRefIdeal.τ).loc Cert.AdamPoolRefIdeal.main_arg4) = m ((c.tc : Thread Cert.AdamPoolIdeal.nD Cert.AdamPoolIdeal.τ).loc Cert.AdamPoolIdeal.main_arg4)) →
    ∃ (v0 : (c : Dev Cert.AdamPoolIdeal.nD) → Buf (Elt Ideal) ((c.tc : Thread Cert.AdamPoolIdeal.nD Cert.AdamPoolIdeal.τ).loc Cert.AdamPoolIdeal.main_v0_0)) (v1 : (c : Dev Cert.AdamPoolIdeal.nD) → Buf (Elt Ideal) ((c.tc : Thread Cert.AdamPoolIdeal.nD Cert.AdamPoolIdeal.τ).loc Cert.AdamPoolIdeal.main_v0_1)) (v2 : (c : Dev Cert.AdamPoolIdeal.nD) → Buf (Elt Ideal) ((c.tc : Thread Cert.AdamPoolIdeal.nD Cert.AdamPoolIdeal.τ).loc Cert.AdamPoolIdeal.main_v0_2)) (v3 : (c : Dev Cert.AdamPoolIdeal.nD) → Buf (Elt Ideal) ((c.tc : Thread Cert.AdamPoolIdeal.nD Cert.AdamPoolIdeal.τ).loc Cert.AdamPoolIdeal.main_v0_3)),
      θ_run (Cert.AdamPoolIdeal.defs (F := Ideal)) (onTc (τ := Cert.AdamPoolIdeal.τ) (Cert.AdamPoolIdeal.main (F := Ideal))) ⟨m, fun _ => 0, g⟩ (fun r => ∀ c : Dev Cert.AdamPoolIdeal.nD,
          r.2.mem ((c.tc : Thread Cert.AdamPoolIdeal.nD Cert.AdamPoolIdeal.τ).loc Cert.AdamPoolIdeal.main_v0_0) = v0 c
          ∧ r.2.mem ((c.tc : Thread Cert.AdamPoolIdeal.nD Cert.AdamPoolIdeal.τ).loc Cert.AdamPoolIdeal.main_v0_1) = v1 c
          ∧ r.2.mem ((c.tc : Thread Cert.AdamPoolIdeal.nD Cert.AdamPoolIdeal.τ).loc Cert.AdamPoolIdeal.main_v0_2) = v2 c
          ∧ r.2.mem ((c.tc : Thread Cert.AdamPoolIdeal.nD Cert.AdamPoolIdeal.τ).loc Cert.AdamPoolIdeal.main_v0_3) = v3 c
          ∧ r.2.mem ((c.tc : Thread Cert.AdamPoolIdeal.nD Cert.AdamPoolIdeal.τ).loc Cert.AdamPoolIdeal.main_arg0) = m ((c.tc : Thread Cert.AdamPoolIdeal.nD Cert.AdamPoolIdeal.τ).loc Cert.AdamPoolIdeal.main_arg0)
          ∧ r.2.mem ((c.tc : Thread Cert.AdamPoolIdeal.nD Cert.AdamPoolIdeal.τ).loc Cert.AdamPoolIdeal.main_arg1) = m ((c.tc : Thread Cert.AdamPoolIdeal.nD Cert.AdamPoolIdeal.τ).loc Cert.AdamPoolIdeal.main_arg1)
          ∧ r.2.mem ((c.tc : Thread Cert.AdamPoolIdeal.nD Cert.AdamPoolIdeal.τ).loc Cert.AdamPoolIdeal.main_arg2) = m ((c.tc : Thread Cert.AdamPoolIdeal.nD Cert.AdamPoolIdeal.τ).loc Cert.AdamPoolIdeal.main_arg2)
          ∧ r.2.mem ((c.tc : Thread Cert.AdamPoolIdeal.nD Cert.AdamPoolIdeal.τ).loc Cert.AdamPoolIdeal.main_arg3) = m ((c.tc : Thread Cert.AdamPoolIdeal.nD Cert.AdamPoolIdeal.τ).loc Cert.AdamPoolIdeal.main_arg3)
          ∧ r.2.mem ((c.tc : Thread Cert.AdamPoolIdeal.nD Cert.AdamPoolIdeal.τ).loc Cert.AdamPoolIdeal.main_arg4) = m ((c.tc : Thread Cert.AdamPoolIdeal.nD Cert.AdamPoolIdeal.τ).loc Cert.AdamPoolIdeal.main_arg4))
      ∧ θ_run (Cert.AdamPoolRefIdeal.defs (F := Ideal)) (onTc (τ := Cert.AdamPoolRefIdeal.τ) (Cert.AdamPoolRefIdeal.main (F := Ideal))) ⟨m', fun _ => 0, g'⟩ (fun r => ∀ c : Dev Cert.AdamPoolRefIdeal.nD,
          r.2.mem ((c.tc : Thread Cert.AdamPoolRefIdeal.nD Cert.AdamPoolRefIdeal.τ).loc Cert.AdamPoolRefIdeal.main_arg1) = v0 c
          ∧ r.2.mem ((c.tc : Thread Cert.AdamPoolRefIdeal.nD Cert.AdamPoolRefIdeal.τ).loc Cert.AdamPoolRefIdeal.main_v23) = v1 c
          ∧ r.2.mem ((c.tc : Thread Cert.AdamPoolRefIdeal.nD Cert.AdamPoolRefIdeal.τ).loc Cert.AdamPoolRefIdeal.main_v4) = v2 c
          ∧ r.2.mem ((c.tc : Thread Cert.AdamPoolRefIdeal.nD Cert.AdamPoolRefIdeal.τ).loc Cert.AdamPoolRefIdeal.main_v10) = v3 c
          ∧ r.2.mem ((c.tc : Thread Cert.AdamPoolRefIdeal.nD Cert.AdamPoolRefIdeal.τ).loc Cert.AdamPoolRefIdeal.main_arg0) = m' ((c.tc : Thread Cert.AdamPoolRefIdeal.nD Cert.AdamPoolRefIdeal.τ).loc Cert.AdamPoolRefIdeal.main_arg0)
          ∧ r.2.mem ((c.tc : Thread Cert.AdamPoolRefIdeal.nD Cert.AdamPoolRefIdeal.τ).loc Cert.AdamPoolRefIdeal.main_arg1) = m' ((c.tc : Thread Cert.AdamPoolRefIdeal.nD Cert.AdamPoolRefIdeal.τ).loc Cert.AdamPoolRefIdeal.main_arg1)
          ∧ r.2.mem ((c.tc : Thread Cert.AdamPoolRefIdeal.nD Cert.AdamPoolRefIdeal.τ).loc Cert.AdamPoolRefIdeal.main_arg2) = m' ((c.tc : Thread Cert.AdamPoolRefIdeal.nD Cert.AdamPoolRefIdeal.τ).loc Cert.AdamPoolRefIdeal.main_arg2)
          ∧ r.2.mem ((c.tc : Thread Cert.AdamPoolRefIdeal.nD Cert.AdamPoolRefIdeal.τ).loc Cert.AdamPoolRefIdeal.main_arg3) = m' ((c.tc : Thread Cert.AdamPoolRefIdeal.nD Cert.AdamPoolRefIdeal.τ).loc Cert.AdamPoolRefIdeal.main_arg3)
          ∧ r.2.mem ((c.tc : Thread Cert.AdamPoolRefIdeal.nD Cert.AdamPoolRefIdeal.τ).loc Cert.AdamPoolRefIdeal.main_arg4) = m' ((c.tc : Thread Cert.AdamPoolRefIdeal.nD Cert.AdamPoolRefIdeal.τ).loc Cert.AdamPoolRefIdeal.main_arg4))

def preserves_AdamScale_AdamScaleIdeal : Prop :=
  True

def algebraic_AdamScaleIdeal_AdamScaleRefIdeal [hAdamScaleIdeal : Cert.AdamScaleIdeal.Facts] [hAdamScaleRefIdeal : Cert.AdamScaleRefIdeal.Facts] : Prop :=
  ∀ (m : (ℓ : Loc Cert.AdamScaleIdeal.nD Cert.AdamScaleIdeal.τ Cert.AdamScaleIdeal.sig) → Buf (Elt Ideal) ℓ) (g : Dev Cert.AdamScaleIdeal.nD → PrngReg)
    (m' : (ℓ : Loc Cert.AdamScaleRefIdeal.nD Cert.AdamScaleRefIdeal.τ Cert.AdamScaleRefIdeal.sig) → Buf (Elt Ideal) ℓ) (g' : Dev Cert.AdamScaleRefIdeal.nD → PrngReg), Pre_AdamScaleIdeal m →
    (∀ c : Dev Cert.AdamScaleIdeal.nD,
      m' ((c.tc : Thread Cert.AdamScaleRefIdeal.nD Cert.AdamScaleRefIdeal.τ).loc Cert.AdamScaleRefIdeal.main_arg0) = m ((c.tc : Thread Cert.AdamScaleIdeal.nD Cert.AdamScaleIdeal.τ).loc Cert.AdamScaleIdeal.main_arg0)
      ∧ m' ((c.tc : Thread Cert.AdamScaleRefIdeal.nD Cert.AdamScaleRefIdeal.τ).loc Cert.AdamScaleRefIdeal.main_arg1) = m ((c.tc : Thread Cert.AdamScaleIdeal.nD Cert.AdamScaleIdeal.τ).loc Cert.AdamScaleIdeal.main_arg1)
      ∧ m' ((c.tc : Thread Cert.AdamScaleRefIdeal.nD Cert.AdamScaleRefIdeal.τ).loc Cert.AdamScaleRefIdeal.main_arg2) = m ((c.tc : Thread Cert.AdamScaleIdeal.nD Cert.AdamScaleIdeal.τ).loc Cert.AdamScaleIdeal.main_arg2)
      ∧ m' ((c.tc : Thread Cert.AdamScaleRefIdeal.nD Cert.AdamScaleRefIdeal.τ).loc Cert.AdamScaleRefIdeal.main_arg3) = m ((c.tc : Thread Cert.AdamScaleIdeal.nD Cert.AdamScaleIdeal.τ).loc Cert.AdamScaleIdeal.main_arg3)
      ∧ m' ((c.tc : Thread Cert.AdamScaleRefIdeal.nD Cert.AdamScaleRefIdeal.τ).loc Cert.AdamScaleRefIdeal.main_arg4) = m ((c.tc : Thread Cert.AdamScaleIdeal.nD Cert.AdamScaleIdeal.τ).loc Cert.AdamScaleIdeal.main_arg4)) →
    ∃ (v0 : (c : Dev Cert.AdamScaleIdeal.nD) → Buf (Elt Ideal) ((c.tc : Thread Cert.AdamScaleIdeal.nD Cert.AdamScaleIdeal.τ).loc Cert.AdamScaleIdeal.main_v0_0)) (v1 : (c : Dev Cert.AdamScaleIdeal.nD) → Buf (Elt Ideal) ((c.tc : Thread Cert.AdamScaleIdeal.nD Cert.AdamScaleIdeal.τ).loc Cert.AdamScaleIdeal.main_v0_1)) (v2 : (c : Dev Cert.AdamScaleIdeal.nD) → Buf (Elt Ideal) ((c.tc : Thread Cert.AdamScaleIdeal.nD Cert.AdamScaleIdeal.τ).loc Cert.AdamScaleIdeal.main_v0_2)) (v3 : (c : Dev Cert.AdamScaleIdeal.nD) → Buf (Elt Ideal) ((c.tc : Thread Cert.AdamScaleIdeal.nD Cert.AdamScaleIdeal.τ).loc Cert.AdamScaleIdeal.main_v0_3)),
      θ_run (Cert.AdamScaleIdeal.defs (F := Ideal)) (onTc (τ := Cert.AdamScaleIdeal.τ) (Cert.AdamScaleIdeal.main (F := Ideal))) ⟨m, fun _ => 0, g⟩ (fun r => ∀ c : Dev Cert.AdamScaleIdeal.nD,
          r.2.mem ((c.tc : Thread Cert.AdamScaleIdeal.nD Cert.AdamScaleIdeal.τ).loc Cert.AdamScaleIdeal.main_v0_0) = v0 c
          ∧ r.2.mem ((c.tc : Thread Cert.AdamScaleIdeal.nD Cert.AdamScaleIdeal.τ).loc Cert.AdamScaleIdeal.main_v0_1) = v1 c
          ∧ r.2.mem ((c.tc : Thread Cert.AdamScaleIdeal.nD Cert.AdamScaleIdeal.τ).loc Cert.AdamScaleIdeal.main_v0_2) = v2 c
          ∧ r.2.mem ((c.tc : Thread Cert.AdamScaleIdeal.nD Cert.AdamScaleIdeal.τ).loc Cert.AdamScaleIdeal.main_v0_3) = v3 c
          ∧ r.2.mem ((c.tc : Thread Cert.AdamScaleIdeal.nD Cert.AdamScaleIdeal.τ).loc Cert.AdamScaleIdeal.main_arg0) = m ((c.tc : Thread Cert.AdamScaleIdeal.nD Cert.AdamScaleIdeal.τ).loc Cert.AdamScaleIdeal.main_arg0)
          ∧ r.2.mem ((c.tc : Thread Cert.AdamScaleIdeal.nD Cert.AdamScaleIdeal.τ).loc Cert.AdamScaleIdeal.main_arg1) = m ((c.tc : Thread Cert.AdamScaleIdeal.nD Cert.AdamScaleIdeal.τ).loc Cert.AdamScaleIdeal.main_arg1)
          ∧ r.2.mem ((c.tc : Thread Cert.AdamScaleIdeal.nD Cert.AdamScaleIdeal.τ).loc Cert.AdamScaleIdeal.main_arg2) = m ((c.tc : Thread Cert.AdamScaleIdeal.nD Cert.AdamScaleIdeal.τ).loc Cert.AdamScaleIdeal.main_arg2)
          ∧ r.2.mem ((c.tc : Thread Cert.AdamScaleIdeal.nD Cert.AdamScaleIdeal.τ).loc Cert.AdamScaleIdeal.main_arg3) = m ((c.tc : Thread Cert.AdamScaleIdeal.nD Cert.AdamScaleIdeal.τ).loc Cert.AdamScaleIdeal.main_arg3)
          ∧ r.2.mem ((c.tc : Thread Cert.AdamScaleIdeal.nD Cert.AdamScaleIdeal.τ).loc Cert.AdamScaleIdeal.main_arg4) = m ((c.tc : Thread Cert.AdamScaleIdeal.nD Cert.AdamScaleIdeal.τ).loc Cert.AdamScaleIdeal.main_arg4))
      ∧ θ_run (Cert.AdamScaleRefIdeal.defs (F := Ideal)) (onTc (τ := Cert.AdamScaleRefIdeal.τ) (Cert.AdamScaleRefIdeal.main (F := Ideal))) ⟨m', fun _ => 0, g'⟩ (fun r => ∀ c : Dev Cert.AdamScaleRefIdeal.nD,
          r.2.mem ((c.tc : Thread Cert.AdamScaleRefIdeal.nD Cert.AdamScaleRefIdeal.τ).loc Cert.AdamScaleRefIdeal.main_arg1) = v0 c
          ∧ r.2.mem ((c.tc : Thread Cert.AdamScaleRefIdeal.nD Cert.AdamScaleRefIdeal.τ).loc Cert.AdamScaleRefIdeal.main_v23) = v1 c
          ∧ r.2.mem ((c.tc : Thread Cert.AdamScaleRefIdeal.nD Cert.AdamScaleRefIdeal.τ).loc Cert.AdamScaleRefIdeal.main_v4) = v2 c
          ∧ r.2.mem ((c.tc : Thread Cert.AdamScaleRefIdeal.nD Cert.AdamScaleRefIdeal.τ).loc Cert.AdamScaleRefIdeal.main_v10) = v3 c
          ∧ r.2.mem ((c.tc : Thread Cert.AdamScaleRefIdeal.nD Cert.AdamScaleRefIdeal.τ).loc Cert.AdamScaleRefIdeal.main_arg0) = m' ((c.tc : Thread Cert.AdamScaleRefIdeal.nD Cert.AdamScaleRefIdeal.τ).loc Cert.AdamScaleRefIdeal.main_arg0)
          ∧ r.2.mem ((c.tc : Thread Cert.AdamScaleRefIdeal.nD Cert.AdamScaleRefIdeal.τ).loc Cert.AdamScaleRefIdeal.main_arg1) = m' ((c.tc : Thread Cert.AdamScaleRefIdeal.nD Cert.AdamScaleRefIdeal.τ).loc Cert.AdamScaleRefIdeal.main_arg1)
          ∧ r.2.mem ((c.tc : Thread Cert.AdamScaleRefIdeal.nD Cert.AdamScaleRefIdeal.τ).loc Cert.AdamScaleRefIdeal.main_arg2) = m' ((c.tc : Thread Cert.AdamScaleRefIdeal.nD Cert.AdamScaleRefIdeal.τ).loc Cert.AdamScaleRefIdeal.main_arg2)
          ∧ r.2.mem ((c.tc : Thread Cert.AdamScaleRefIdeal.nD Cert.AdamScaleRefIdeal.τ).loc Cert.AdamScaleRefIdeal.main_arg3) = m' ((c.tc : Thread Cert.AdamScaleRefIdeal.nD Cert.AdamScaleRefIdeal.τ).loc Cert.AdamScaleRefIdeal.main_arg3)
          ∧ r.2.mem ((c.tc : Thread Cert.AdamScaleRefIdeal.nD Cert.AdamScaleRefIdeal.τ).loc Cert.AdamScaleRefIdeal.main_arg4) = m' ((c.tc : Thread Cert.AdamScaleRefIdeal.nD Cert.AdamScaleRefIdeal.τ).loc Cert.AdamScaleRefIdeal.main_arg4))

def preserves_AdamAlpha_AdamAlphaIdeal : Prop :=
  True

def algebraic_AdamAlphaIdeal_AdamAlphaRefIdeal [hAdamAlphaIdeal : Cert.AdamAlphaIdeal.Facts] [hAdamAlphaRefIdeal : Cert.AdamAlphaRefIdeal.Facts] : Prop :=
  ∀ (m : (ℓ : Loc Cert.AdamAlphaIdeal.nD Cert.AdamAlphaIdeal.τ Cert.AdamAlphaIdeal.sig) → Buf (Elt Ideal) ℓ) (g : Dev Cert.AdamAlphaIdeal.nD → PrngReg)
    (m' : (ℓ : Loc Cert.AdamAlphaRefIdeal.nD Cert.AdamAlphaRefIdeal.τ Cert.AdamAlphaRefIdeal.sig) → Buf (Elt Ideal) ℓ) (g' : Dev Cert.AdamAlphaRefIdeal.nD → PrngReg), Pre_AdamAlphaIdeal m →
    (∀ c : Dev Cert.AdamAlphaIdeal.nD,
      m' ((c.tc : Thread Cert.AdamAlphaRefIdeal.nD Cert.AdamAlphaRefIdeal.τ).loc Cert.AdamAlphaRefIdeal.main_arg0) = m ((c.tc : Thread Cert.AdamAlphaIdeal.nD Cert.AdamAlphaIdeal.τ).loc Cert.AdamAlphaIdeal.main_arg0)
      ∧ m' ((c.tc : Thread Cert.AdamAlphaRefIdeal.nD Cert.AdamAlphaRefIdeal.τ).loc Cert.AdamAlphaRefIdeal.main_arg1) = m ((c.tc : Thread Cert.AdamAlphaIdeal.nD Cert.AdamAlphaIdeal.τ).loc Cert.AdamAlphaIdeal.main_arg1)
      ∧ m' ((c.tc : Thread Cert.AdamAlphaRefIdeal.nD Cert.AdamAlphaRefIdeal.τ).loc Cert.AdamAlphaRefIdeal.main_arg2) = m ((c.tc : Thread Cert.AdamAlphaIdeal.nD Cert.AdamAlphaIdeal.τ).loc Cert.AdamAlphaIdeal.main_arg2)
      ∧ m' ((c.tc : Thread Cert.AdamAlphaRefIdeal.nD Cert.AdamAlphaRefIdeal.τ).loc Cert.AdamAlphaRefIdeal.main_arg3) = m ((c.tc : Thread Cert.AdamAlphaIdeal.nD Cert.AdamAlphaIdeal.τ).loc Cert.AdamAlphaIdeal.main_arg3)
      ∧ m' ((c.tc : Thread Cert.AdamAlphaRefIdeal.nD Cert.AdamAlphaRefIdeal.τ).loc Cert.AdamAlphaRefIdeal.main_arg4) = m ((c.tc : Thread Cert.AdamAlphaIdeal.nD Cert.AdamAlphaIdeal.τ).loc Cert.AdamAlphaIdeal.main_arg4)) →
    ∃ (v0 : (c : Dev Cert.AdamAlphaIdeal.nD) → Buf (Elt Ideal) ((c.tc : Thread Cert.AdamAlphaIdeal.nD Cert.AdamAlphaIdeal.τ).loc Cert.AdamAlphaIdeal.main_v0_0)) (v1 : (c : Dev Cert.AdamAlphaIdeal.nD) → Buf (Elt Ideal) ((c.tc : Thread Cert.AdamAlphaIdeal.nD Cert.AdamAlphaIdeal.τ).loc Cert.AdamAlphaIdeal.main_v0_1)) (v2 : (c : Dev Cert.AdamAlphaIdeal.nD) → Buf (Elt Ideal) ((c.tc : Thread Cert.AdamAlphaIdeal.nD Cert.AdamAlphaIdeal.τ).loc Cert.AdamAlphaIdeal.main_v0_2)) (v3 : (c : Dev Cert.AdamAlphaIdeal.nD) → Buf (Elt Ideal) ((c.tc : Thread Cert.AdamAlphaIdeal.nD Cert.AdamAlphaIdeal.τ).loc Cert.AdamAlphaIdeal.main_v0_3)),
      θ_run (Cert.AdamAlphaIdeal.defs (F := Ideal)) (onTc (τ := Cert.AdamAlphaIdeal.τ) (Cert.AdamAlphaIdeal.main (F := Ideal))) ⟨m, fun _ => 0, g⟩ (fun r => ∀ c : Dev Cert.AdamAlphaIdeal.nD,
          r.2.mem ((c.tc : Thread Cert.AdamAlphaIdeal.nD Cert.AdamAlphaIdeal.τ).loc Cert.AdamAlphaIdeal.main_v0_0) = v0 c
          ∧ r.2.mem ((c.tc : Thread Cert.AdamAlphaIdeal.nD Cert.AdamAlphaIdeal.τ).loc Cert.AdamAlphaIdeal.main_v0_1) = v1 c
          ∧ r.2.mem ((c.tc : Thread Cert.AdamAlphaIdeal.nD Cert.AdamAlphaIdeal.τ).loc Cert.AdamAlphaIdeal.main_v0_2) = v2 c
          ∧ r.2.mem ((c.tc : Thread Cert.AdamAlphaIdeal.nD Cert.AdamAlphaIdeal.τ).loc Cert.AdamAlphaIdeal.main_v0_3) = v3 c
          ∧ r.2.mem ((c.tc : Thread Cert.AdamAlphaIdeal.nD Cert.AdamAlphaIdeal.τ).loc Cert.AdamAlphaIdeal.main_arg0) = m ((c.tc : Thread Cert.AdamAlphaIdeal.nD Cert.AdamAlphaIdeal.τ).loc Cert.AdamAlphaIdeal.main_arg0)
          ∧ r.2.mem ((c.tc : Thread Cert.AdamAlphaIdeal.nD Cert.AdamAlphaIdeal.τ).loc Cert.AdamAlphaIdeal.main_arg1) = m ((c.tc : Thread Cert.AdamAlphaIdeal.nD Cert.AdamAlphaIdeal.τ).loc Cert.AdamAlphaIdeal.main_arg1)
          ∧ r.2.mem ((c.tc : Thread Cert.AdamAlphaIdeal.nD Cert.AdamAlphaIdeal.τ).loc Cert.AdamAlphaIdeal.main_arg2) = m ((c.tc : Thread Cert.AdamAlphaIdeal.nD Cert.AdamAlphaIdeal.τ).loc Cert.AdamAlphaIdeal.main_arg2)
          ∧ r.2.mem ((c.tc : Thread Cert.AdamAlphaIdeal.nD Cert.AdamAlphaIdeal.τ).loc Cert.AdamAlphaIdeal.main_arg3) = m ((c.tc : Thread Cert.AdamAlphaIdeal.nD Cert.AdamAlphaIdeal.τ).loc Cert.AdamAlphaIdeal.main_arg3)
          ∧ r.2.mem ((c.tc : Thread Cert.AdamAlphaIdeal.nD Cert.AdamAlphaIdeal.τ).loc Cert.AdamAlphaIdeal.main_arg4) = m ((c.tc : Thread Cert.AdamAlphaIdeal.nD Cert.AdamAlphaIdeal.τ).loc Cert.AdamAlphaIdeal.main_arg4))
      ∧ θ_run (Cert.AdamAlphaRefIdeal.defs (F := Ideal)) (onTc (τ := Cert.AdamAlphaRefIdeal.τ) (Cert.AdamAlphaRefIdeal.main (F := Ideal))) ⟨m', fun _ => 0, g'⟩ (fun r => ∀ c : Dev Cert.AdamAlphaRefIdeal.nD,
          r.2.mem ((c.tc : Thread Cert.AdamAlphaRefIdeal.nD Cert.AdamAlphaRefIdeal.τ).loc Cert.AdamAlphaRefIdeal.main_arg1) = v0 c
          ∧ r.2.mem ((c.tc : Thread Cert.AdamAlphaRefIdeal.nD Cert.AdamAlphaRefIdeal.τ).loc Cert.AdamAlphaRefIdeal.main_v23) = v1 c
          ∧ r.2.mem ((c.tc : Thread Cert.AdamAlphaRefIdeal.nD Cert.AdamAlphaRefIdeal.τ).loc Cert.AdamAlphaRefIdeal.main_v4) = v2 c
          ∧ r.2.mem ((c.tc : Thread Cert.AdamAlphaRefIdeal.nD Cert.AdamAlphaRefIdeal.τ).loc Cert.AdamAlphaRefIdeal.main_v10) = v3 c
          ∧ r.2.mem ((c.tc : Thread Cert.AdamAlphaRefIdeal.nD Cert.AdamAlphaRefIdeal.τ).loc Cert.AdamAlphaRefIdeal.main_arg0) = m' ((c.tc : Thread Cert.AdamAlphaRefIdeal.nD Cert.AdamAlphaRefIdeal.τ).loc Cert.AdamAlphaRefIdeal.main_arg0)
          ∧ r.2.mem ((c.tc : Thread Cert.AdamAlphaRefIdeal.nD Cert.AdamAlphaRefIdeal.τ).loc Cert.AdamAlphaRefIdeal.main_arg1) = m' ((c.tc : Thread Cert.AdamAlphaRefIdeal.nD Cert.AdamAlphaRefIdeal.τ).loc Cert.AdamAlphaRefIdeal.main_arg1)
          ∧ r.2.mem ((c.tc : Thread Cert.AdamAlphaRefIdeal.nD Cert.AdamAlphaRefIdeal.τ).loc Cert.AdamAlphaRefIdeal.main_arg2) = m' ((c.tc : Thread Cert.AdamAlphaRefIdeal.nD Cert.AdamAlphaRefIdeal.τ).loc Cert.AdamAlphaRefIdeal.main_arg2)
          ∧ r.2.mem ((c.tc : Thread Cert.AdamAlphaRefIdeal.nD Cert.AdamAlphaRefIdeal.τ).loc Cert.AdamAlphaRefIdeal.main_arg3) = m' ((c.tc : Thread Cert.AdamAlphaRefIdeal.nD Cert.AdamAlphaRefIdeal.τ).loc Cert.AdamAlphaRefIdeal.main_arg3)
          ∧ r.2.mem ((c.tc : Thread Cert.AdamAlphaRefIdeal.nD Cert.AdamAlphaRefIdeal.τ).loc Cert.AdamAlphaRefIdeal.main_arg4) = m' ((c.tc : Thread Cert.AdamAlphaRefIdeal.nD Cert.AdamAlphaRefIdeal.τ).loc Cert.AdamAlphaRefIdeal.main_arg4))

def preserves_AdamBias_AdamBiasIdeal : Prop :=
  True

def algebraic_AdamBiasIdeal_AdamBiasRefIdeal [hAdamBiasIdeal : Cert.AdamBiasIdeal.Facts] [hAdamBiasRefIdeal : Cert.AdamBiasRefIdeal.Facts] : Prop :=
  ∀ (m : (ℓ : Loc Cert.AdamBiasIdeal.nD Cert.AdamBiasIdeal.τ Cert.AdamBiasIdeal.sig) → Buf (Elt Ideal) ℓ) (g : Dev Cert.AdamBiasIdeal.nD → PrngReg)
    (m' : (ℓ : Loc Cert.AdamBiasRefIdeal.nD Cert.AdamBiasRefIdeal.τ Cert.AdamBiasRefIdeal.sig) → Buf (Elt Ideal) ℓ) (g' : Dev Cert.AdamBiasRefIdeal.nD → PrngReg), Pre_AdamBiasIdeal m →
    (∀ c : Dev Cert.AdamBiasIdeal.nD,
      m' ((c.tc : Thread Cert.AdamBiasRefIdeal.nD Cert.AdamBiasRefIdeal.τ).loc Cert.AdamBiasRefIdeal.main_arg0) = m ((c.tc : Thread Cert.AdamBiasIdeal.nD Cert.AdamBiasIdeal.τ).loc Cert.AdamBiasIdeal.main_arg0)
      ∧ m' ((c.tc : Thread Cert.AdamBiasRefIdeal.nD Cert.AdamBiasRefIdeal.τ).loc Cert.AdamBiasRefIdeal.main_arg1) = m ((c.tc : Thread Cert.AdamBiasIdeal.nD Cert.AdamBiasIdeal.τ).loc Cert.AdamBiasIdeal.main_arg1)
      ∧ m' ((c.tc : Thread Cert.AdamBiasRefIdeal.nD Cert.AdamBiasRefIdeal.τ).loc Cert.AdamBiasRefIdeal.main_arg2) = m ((c.tc : Thread Cert.AdamBiasIdeal.nD Cert.AdamBiasIdeal.τ).loc Cert.AdamBiasIdeal.main_arg2)
      ∧ m' ((c.tc : Thread Cert.AdamBiasRefIdeal.nD Cert.AdamBiasRefIdeal.τ).loc Cert.AdamBiasRefIdeal.main_arg3) = m ((c.tc : Thread Cert.AdamBiasIdeal.nD Cert.AdamBiasIdeal.τ).loc Cert.AdamBiasIdeal.main_arg3)
      ∧ m' ((c.tc : Thread Cert.AdamBiasRefIdeal.nD Cert.AdamBiasRefIdeal.τ).loc Cert.AdamBiasRefIdeal.main_arg4) = m ((c.tc : Thread Cert.AdamBiasIdeal.nD Cert.AdamBiasIdeal.τ).loc Cert.AdamBiasIdeal.main_arg4)) →
    ∃ (v0 : (c : Dev Cert.AdamBiasIdeal.nD) → Buf (Elt Ideal) ((c.tc : Thread Cert.AdamBiasIdeal.nD Cert.AdamBiasIdeal.τ).loc Cert.AdamBiasIdeal.main_v0_0)) (v1 : (c : Dev Cert.AdamBiasIdeal.nD) → Buf (Elt Ideal) ((c.tc : Thread Cert.AdamBiasIdeal.nD Cert.AdamBiasIdeal.τ).loc Cert.AdamBiasIdeal.main_v0_1)) (v2 : (c : Dev Cert.AdamBiasIdeal.nD) → Buf (Elt Ideal) ((c.tc : Thread Cert.AdamBiasIdeal.nD Cert.AdamBiasIdeal.τ).loc Cert.AdamBiasIdeal.main_v0_2)) (v3 : (c : Dev Cert.AdamBiasIdeal.nD) → Buf (Elt Ideal) ((c.tc : Thread Cert.AdamBiasIdeal.nD Cert.AdamBiasIdeal.τ).loc Cert.AdamBiasIdeal.main_v0_3)),
      θ_run (Cert.AdamBiasIdeal.defs (F := Ideal)) (onTc (τ := Cert.AdamBiasIdeal.τ) (Cert.AdamBiasIdeal.main (F := Ideal))) ⟨m, fun _ => 0, g⟩ (fun r => ∀ c : Dev Cert.AdamBiasIdeal.nD,
          r.2.mem ((c.tc : Thread Cert.AdamBiasIdeal.nD Cert.AdamBiasIdeal.τ).loc Cert.AdamBiasIdeal.main_v0_0) = v0 c
          ∧ r.2.mem ((c.tc : Thread Cert.AdamBiasIdeal.nD Cert.AdamBiasIdeal.τ).loc Cert.AdamBiasIdeal.main_v0_1) = v1 c
          ∧ r.2.mem ((c.tc : Thread Cert.AdamBiasIdeal.nD Cert.AdamBiasIdeal.τ).loc Cert.AdamBiasIdeal.main_v0_2) = v2 c
          ∧ r.2.mem ((c.tc : Thread Cert.AdamBiasIdeal.nD Cert.AdamBiasIdeal.τ).loc Cert.AdamBiasIdeal.main_v0_3) = v3 c
          ∧ r.2.mem ((c.tc : Thread Cert.AdamBiasIdeal.nD Cert.AdamBiasIdeal.τ).loc Cert.AdamBiasIdeal.main_arg0) = m ((c.tc : Thread Cert.AdamBiasIdeal.nD Cert.AdamBiasIdeal.τ).loc Cert.AdamBiasIdeal.main_arg0)
          ∧ r.2.mem ((c.tc : Thread Cert.AdamBiasIdeal.nD Cert.AdamBiasIdeal.τ).loc Cert.AdamBiasIdeal.main_arg1) = m ((c.tc : Thread Cert.AdamBiasIdeal.nD Cert.AdamBiasIdeal.τ).loc Cert.AdamBiasIdeal.main_arg1)
          ∧ r.2.mem ((c.tc : Thread Cert.AdamBiasIdeal.nD Cert.AdamBiasIdeal.τ).loc Cert.AdamBiasIdeal.main_arg2) = m ((c.tc : Thread Cert.AdamBiasIdeal.nD Cert.AdamBiasIdeal.τ).loc Cert.AdamBiasIdeal.main_arg2)
          ∧ r.2.mem ((c.tc : Thread Cert.AdamBiasIdeal.nD Cert.AdamBiasIdeal.τ).loc Cert.AdamBiasIdeal.main_arg3) = m ((c.tc : Thread Cert.AdamBiasIdeal.nD Cert.AdamBiasIdeal.τ).loc Cert.AdamBiasIdeal.main_arg3)
          ∧ r.2.mem ((c.tc : Thread Cert.AdamBiasIdeal.nD Cert.AdamBiasIdeal.τ).loc Cert.AdamBiasIdeal.main_arg4) = m ((c.tc : Thread Cert.AdamBiasIdeal.nD Cert.AdamBiasIdeal.τ).loc Cert.AdamBiasIdeal.main_arg4))
      ∧ θ_run (Cert.AdamBiasRefIdeal.defs (F := Ideal)) (onTc (τ := Cert.AdamBiasRefIdeal.τ) (Cert.AdamBiasRefIdeal.main (F := Ideal))) ⟨m', fun _ => 0, g'⟩ (fun r => ∀ c : Dev Cert.AdamBiasRefIdeal.nD,
          r.2.mem ((c.tc : Thread Cert.AdamBiasRefIdeal.nD Cert.AdamBiasRefIdeal.τ).loc Cert.AdamBiasRefIdeal.main_arg1) = v0 c
          ∧ r.2.mem ((c.tc : Thread Cert.AdamBiasRefIdeal.nD Cert.AdamBiasRefIdeal.τ).loc Cert.AdamBiasRefIdeal.main_v23) = v1 c
          ∧ r.2.mem ((c.tc : Thread Cert.AdamBiasRefIdeal.nD Cert.AdamBiasRefIdeal.τ).loc Cert.AdamBiasRefIdeal.main_v4) = v2 c
          ∧ r.2.mem ((c.tc : Thread Cert.AdamBiasRefIdeal.nD Cert.AdamBiasRefIdeal.τ).loc Cert.AdamBiasRefIdeal.main_v10) = v3 c
          ∧ r.2.mem ((c.tc : Thread Cert.AdamBiasRefIdeal.nD Cert.AdamBiasRefIdeal.τ).loc Cert.AdamBiasRefIdeal.main_arg0) = m' ((c.tc : Thread Cert.AdamBiasRefIdeal.nD Cert.AdamBiasRefIdeal.τ).loc Cert.AdamBiasRefIdeal.main_arg0)
          ∧ r.2.mem ((c.tc : Thread Cert.AdamBiasRefIdeal.nD Cert.AdamBiasRefIdeal.τ).loc Cert.AdamBiasRefIdeal.main_arg1) = m' ((c.tc : Thread Cert.AdamBiasRefIdeal.nD Cert.AdamBiasRefIdeal.τ).loc Cert.AdamBiasRefIdeal.main_arg1)
          ∧ r.2.mem ((c.tc : Thread Cert.AdamBiasRefIdeal.nD Cert.AdamBiasRefIdeal.τ).loc Cert.AdamBiasRefIdeal.main_arg2) = m' ((c.tc : Thread Cert.AdamBiasRefIdeal.nD Cert.AdamBiasRefIdeal.τ).loc Cert.AdamBiasRefIdeal.main_arg2)
          ∧ r.2.mem ((c.tc : Thread Cert.AdamBiasRefIdeal.nD Cert.AdamBiasRefIdeal.τ).loc Cert.AdamBiasRefIdeal.main_arg3) = m' ((c.tc : Thread Cert.AdamBiasRefIdeal.nD Cert.AdamBiasRefIdeal.τ).loc Cert.AdamBiasRefIdeal.main_arg3)
          ∧ r.2.mem ((c.tc : Thread Cert.AdamBiasRefIdeal.nD Cert.AdamBiasRefIdeal.τ).loc Cert.AdamBiasRefIdeal.main_arg4) = m' ((c.tc : Thread Cert.AdamBiasRefIdeal.nD Cert.AdamBiasRefIdeal.τ).loc Cert.AdamBiasRefIdeal.main_arg4))

def preserves_AdamHead_AdamHeadIdeal : Prop :=
  True

def algebraic_AdamHeadIdeal_AdamHeadRefIdeal [hAdamHeadIdeal : Cert.AdamHeadIdeal.Facts] [hAdamHeadRefIdeal : Cert.AdamHeadRefIdeal.Facts] : Prop :=
  ∀ (m : (ℓ : Loc Cert.AdamHeadIdeal.nD Cert.AdamHeadIdeal.τ Cert.AdamHeadIdeal.sig) → Buf (Elt Ideal) ℓ) (g : Dev Cert.AdamHeadIdeal.nD → PrngReg)
    (m' : (ℓ : Loc Cert.AdamHeadRefIdeal.nD Cert.AdamHeadRefIdeal.τ Cert.AdamHeadRefIdeal.sig) → Buf (Elt Ideal) ℓ) (g' : Dev Cert.AdamHeadRefIdeal.nD → PrngReg), Pre_AdamHeadIdeal m →
    (∀ c : Dev Cert.AdamHeadIdeal.nD,
      m' ((c.tc : Thread Cert.AdamHeadRefIdeal.nD Cert.AdamHeadRefIdeal.τ).loc Cert.AdamHeadRefIdeal.main_arg0) = m ((c.tc : Thread Cert.AdamHeadIdeal.nD Cert.AdamHeadIdeal.τ).loc Cert.AdamHeadIdeal.main_arg0)
      ∧ m' ((c.tc : Thread Cert.AdamHeadRefIdeal.nD Cert.AdamHeadRefIdeal.τ).loc Cert.AdamHeadRefIdeal.main_arg1) = m ((c.tc : Thread Cert.AdamHeadIdeal.nD Cert.AdamHeadIdeal.τ).loc Cert.AdamHeadIdeal.main_arg1)
      ∧ m' ((c.tc : Thread Cert.AdamHeadRefIdeal.nD Cert.AdamHeadRefIdeal.τ).loc Cert.AdamHeadRefIdeal.main_arg2) = m ((c.tc : Thread Cert.AdamHeadIdeal.nD Cert.AdamHeadIdeal.τ).loc Cert.AdamHeadIdeal.main_arg2)
      ∧ m' ((c.tc : Thread Cert.AdamHeadRefIdeal.nD Cert.AdamHeadRefIdeal.τ).loc Cert.AdamHeadRefIdeal.main_arg3) = m ((c.tc : Thread Cert.AdamHeadIdeal.nD Cert.AdamHeadIdeal.τ).loc Cert.AdamHeadIdeal.main_arg3)
      ∧ m' ((c.tc : Thread Cert.AdamHeadRefIdeal.nD Cert.AdamHeadRefIdeal.τ).loc Cert.AdamHeadRefIdeal.main_arg4) = m ((c.tc : Thread Cert.AdamHeadIdeal.nD Cert.AdamHeadIdeal.τ).loc Cert.AdamHeadIdeal.main_arg4)) →
    ∃ (v0 : (c : Dev Cert.AdamHeadIdeal.nD) → Buf (Elt Ideal) ((c.tc : Thread Cert.AdamHeadIdeal.nD Cert.AdamHeadIdeal.τ).loc Cert.AdamHeadIdeal.main_v0_0)) (v1 : (c : Dev Cert.AdamHeadIdeal.nD) → Buf (Elt Ideal) ((c.tc : Thread Cert.AdamHeadIdeal.nD Cert.AdamHeadIdeal.τ).loc Cert.AdamHeadIdeal.main_v0_1)) (v2 : (c : Dev Cert.AdamHeadIdeal.nD) → Buf (Elt Ideal) ((c.tc : Thread Cert.AdamHeadIdeal.nD Cert.AdamHeadIdeal.τ).loc Cert.AdamHeadIdeal.main_v0_2)) (v3 : (c : Dev Cert.AdamHeadIdeal.nD) → Buf (Elt Ideal) ((c.tc : Thread Cert.AdamHeadIdeal.nD Cert.AdamHeadIdeal.τ).loc Cert.AdamHeadIdeal.main_v0_3)),
      θ_run (Cert.AdamHeadIdeal.defs (F := Ideal)) (onTc (τ := Cert.AdamHeadIdeal.τ) (Cert.AdamHeadIdeal.main (F := Ideal))) ⟨m, fun _ => 0, g⟩ (fun r => ∀ c : Dev Cert.AdamHeadIdeal.nD,
          r.2.mem ((c.tc : Thread Cert.AdamHeadIdeal.nD Cert.AdamHeadIdeal.τ).loc Cert.AdamHeadIdeal.main_v0_0) = v0 c
          ∧ r.2.mem ((c.tc : Thread Cert.AdamHeadIdeal.nD Cert.AdamHeadIdeal.τ).loc Cert.AdamHeadIdeal.main_v0_1) = v1 c
          ∧ r.2.mem ((c.tc : Thread Cert.AdamHeadIdeal.nD Cert.AdamHeadIdeal.τ).loc Cert.AdamHeadIdeal.main_v0_2) = v2 c
          ∧ r.2.mem ((c.tc : Thread Cert.AdamHeadIdeal.nD Cert.AdamHeadIdeal.τ).loc Cert.AdamHeadIdeal.main_v0_3) = v3 c
          ∧ r.2.mem ((c.tc : Thread Cert.AdamHeadIdeal.nD Cert.AdamHeadIdeal.τ).loc Cert.AdamHeadIdeal.main_arg0) = m ((c.tc : Thread Cert.AdamHeadIdeal.nD Cert.AdamHeadIdeal.τ).loc Cert.AdamHeadIdeal.main_arg0)
          ∧ r.2.mem ((c.tc : Thread Cert.AdamHeadIdeal.nD Cert.AdamHeadIdeal.τ).loc Cert.AdamHeadIdeal.main_arg1) = m ((c.tc : Thread Cert.AdamHeadIdeal.nD Cert.AdamHeadIdeal.τ).loc Cert.AdamHeadIdeal.main_arg1)
          ∧ r.2.mem ((c.tc : Thread Cert.AdamHeadIdeal.nD Cert.AdamHeadIdeal.τ).loc Cert.AdamHeadIdeal.main_arg2) = m ((c.tc : Thread Cert.AdamHeadIdeal.nD Cert.AdamHeadIdeal.τ).loc Cert.AdamHeadIdeal.main_arg2)
          ∧ r.2.mem ((c.tc : Thread Cert.AdamHeadIdeal.nD Cert.AdamHeadIdeal.τ).loc Cert.AdamHeadIdeal.main_arg3) = m ((c.tc : Thread Cert.AdamHeadIdeal.nD Cert.AdamHeadIdeal.τ).loc Cert.AdamHeadIdeal.main_arg3)
          ∧ r.2.mem ((c.tc : Thread Cert.AdamHeadIdeal.nD Cert.AdamHeadIdeal.τ).loc Cert.AdamHeadIdeal.main_arg4) = m ((c.tc : Thread Cert.AdamHeadIdeal.nD Cert.AdamHeadIdeal.τ).loc Cert.AdamHeadIdeal.main_arg4))
      ∧ θ_run (Cert.AdamHeadRefIdeal.defs (F := Ideal)) (onTc (τ := Cert.AdamHeadRefIdeal.τ) (Cert.AdamHeadRefIdeal.main (F := Ideal))) ⟨m', fun _ => 0, g'⟩ (fun r => ∀ c : Dev Cert.AdamHeadRefIdeal.nD,
          r.2.mem ((c.tc : Thread Cert.AdamHeadRefIdeal.nD Cert.AdamHeadRefIdeal.τ).loc Cert.AdamHeadRefIdeal.main_arg1) = v0 c
          ∧ r.2.mem ((c.tc : Thread Cert.AdamHeadRefIdeal.nD Cert.AdamHeadRefIdeal.τ).loc Cert.AdamHeadRefIdeal.main_v23) = v1 c
          ∧ r.2.mem ((c.tc : Thread Cert.AdamHeadRefIdeal.nD Cert.AdamHeadRefIdeal.τ).loc Cert.AdamHeadRefIdeal.main_v4) = v2 c
          ∧ r.2.mem ((c.tc : Thread Cert.AdamHeadRefIdeal.nD Cert.AdamHeadRefIdeal.τ).loc Cert.AdamHeadRefIdeal.main_v10) = v3 c
          ∧ r.2.mem ((c.tc : Thread Cert.AdamHeadRefIdeal.nD Cert.AdamHeadRefIdeal.τ).loc Cert.AdamHeadRefIdeal.main_arg0) = m' ((c.tc : Thread Cert.AdamHeadRefIdeal.nD Cert.AdamHeadRefIdeal.τ).loc Cert.AdamHeadRefIdeal.main_arg0)
          ∧ r.2.mem ((c.tc : Thread Cert.AdamHeadRefIdeal.nD Cert.AdamHeadRefIdeal.τ).loc Cert.AdamHeadRefIdeal.main_arg1) = m' ((c.tc : Thread Cert.AdamHeadRefIdeal.nD Cert.AdamHeadRefIdeal.τ).loc Cert.AdamHeadRefIdeal.main_arg1)
          ∧ r.2.mem ((c.tc : Thread Cert.AdamHeadRefIdeal.nD Cert.AdamHeadRefIdeal.τ).loc Cert.AdamHeadRefIdeal.main_arg2) = m' ((c.tc : Thread Cert.AdamHeadRefIdeal.nD Cert.AdamHeadRefIdeal.τ).loc Cert.AdamHeadRefIdeal.main_arg2)
          ∧ r.2.mem ((c.tc : Thread Cert.AdamHeadRefIdeal.nD Cert.AdamHeadRefIdeal.τ).loc Cert.AdamHeadRefIdeal.main_arg3) = m' ((c.tc : Thread Cert.AdamHeadRefIdeal.nD Cert.AdamHeadRefIdeal.τ).loc Cert.AdamHeadRefIdeal.main_arg3)
          ∧ r.2.mem ((c.tc : Thread Cert.AdamHeadRefIdeal.nD Cert.AdamHeadRefIdeal.τ).loc Cert.AdamHeadRefIdeal.main_arg4) = m' ((c.tc : Thread Cert.AdamHeadRefIdeal.nD Cert.AdamHeadRefIdeal.τ).loc Cert.AdamHeadRefIdeal.main_arg4))

def preserves_Small_SmallIdeal : Prop :=
  True

def algebraic_SmallIdeal_SmallRefIdeal [hSmallIdeal : Cert.SmallIdeal.Facts] [hSmallRefIdeal : Cert.SmallRefIdeal.Facts] : Prop :=
  ∀ (m : (ℓ : Loc Cert.SmallIdeal.nD Cert.SmallIdeal.τ Cert.SmallIdeal.sig) → Buf (Elt Ideal) ℓ) (g : Dev Cert.SmallIdeal.nD → PrngReg)
    (m' : (ℓ : Loc Cert.SmallRefIdeal.nD Cert.SmallRefIdeal.τ Cert.SmallRefIdeal.sig) → Buf (Elt Ideal) ℓ) (g' : Dev Cert.SmallRefIdeal.nD → PrngReg), Pre_SmallIdeal m →
    (∀ c : Dev Cert.SmallIdeal.nD,
      m' ((c.tc : Thread Cert.SmallRefIdeal.nD Cert.SmallRefIdeal.τ).loc Cert.SmallRefIdeal.main_arg0) = m ((c.tc : Thread Cert.SmallIdeal.nD Cert.SmallIdeal.τ).loc Cert.SmallIdeal.main_arg0)
      ∧ m' ((c.tc : Thread Cert.SmallRefIdeal.nD Cert.SmallRefIdeal.τ).loc Cert.SmallRefIdeal.main_arg1) = m ((c.tc : Thread Cert.SmallIdeal.nD Cert.SmallIdeal.τ).loc Cert.SmallIdeal.main_arg1)
      ∧ m' ((c.tc : Thread Cert.SmallRefIdeal.nD Cert.SmallRefIdeal.τ).loc Cert.SmallRefIdeal.main_arg2) = m ((c.tc : Thread Cert.SmallIdeal.nD Cert.SmallIdeal.τ).loc Cert.SmallIdeal.main_arg2)
      ∧ m' ((c.tc : Thread Cert.SmallRefIdeal.nD Cert.SmallRefIdeal.τ).loc Cert.SmallRefIdeal.main_arg3) = m ((c.tc : Thread Cert.SmallIdeal.nD Cert.SmallIdeal.τ).loc Cert.SmallIdeal.main_arg3)
      ∧ m' ((c.tc : Thread Cert.SmallRefIdeal.nD Cert.SmallRefIdeal.τ).loc Cert.SmallRefIdeal.main_arg4) = m ((c.tc : Thread Cert.SmallIdeal.nD Cert.SmallIdeal.τ).loc Cert.SmallIdeal.main_arg4)
      ∧ m' ((c.tc : Thread Cert.SmallRefIdeal.nD Cert.SmallRefIdeal.τ).loc Cert.SmallRefIdeal.main_arg5) = m ((c.tc : Thread Cert.SmallIdeal.nD Cert.SmallIdeal.τ).loc Cert.SmallIdeal.main_arg5)
      ∧ m' ((c.tc : Thread Cert.SmallRefIdeal.nD Cert.SmallRefIdeal.τ).loc Cert.SmallRefIdeal.main_arg6) = m ((c.tc : Thread Cert.SmallIdeal.nD Cert.SmallIdeal.τ).loc Cert.SmallIdeal.main_arg6)
      ∧ m' ((c.tc : Thread Cert.SmallRefIdeal.nD Cert.SmallRefIdeal.τ).loc Cert.SmallRefIdeal.main_arg7) = m ((c.tc : Thread Cert.SmallIdeal.nD Cert.SmallIdeal.τ).loc Cert.SmallIdeal.main_arg7)
      ∧ m' ((c.tc : Thread Cert.SmallRefIdeal.nD Cert.SmallRefIdeal.τ).loc Cert.SmallRefIdeal.main_arg8) = m ((c.tc : Thread Cert.SmallIdeal.nD Cert.SmallIdeal.τ).loc Cert.SmallIdeal.main_arg8)) →
    ∃ (v0 : (c : Dev Cert.SmallIdeal.nD) → Buf (Elt Ideal) ((c.tc : Thread Cert.SmallIdeal.nD Cert.SmallIdeal.τ).loc Cert.SmallIdeal.main_v10)),
      θ_run (Cert.SmallIdeal.defs (F := Ideal)) (onTc (τ := Cert.SmallIdeal.τ) (Cert.SmallIdeal.main (F := Ideal))) ⟨m, fun _ => 0, g⟩ (fun r => ∀ c : Dev Cert.SmallIdeal.nD,
          r.2.mem ((c.tc : Thread Cert.SmallIdeal.nD Cert.SmallIdeal.τ).loc Cert.SmallIdeal.main_v10) = v0 c
          ∧ r.2.mem ((c.tc : Thread Cert.SmallIdeal.nD Cert.SmallIdeal.τ).loc Cert.SmallIdeal.main_arg0) = m ((c.tc : Thread Cert.SmallIdeal.nD Cert.SmallIdeal.τ).loc Cert.SmallIdeal.main_arg0)
          ∧ r.2.mem ((c.tc : Thread Cert.SmallIdeal.nD Cert.SmallIdeal.τ).loc Cert.SmallIdeal.main_arg1) = m ((c.tc : Thread Cert.SmallIdeal.nD Cert.SmallIdeal.τ).loc Cert.SmallIdeal.main_arg1)
          ∧ r.2.mem ((c.tc : Thread Cert.SmallIdeal.nD Cert.SmallIdeal.τ).loc Cert.SmallIdeal.main_arg2) = m ((c.tc : Thread Cert.SmallIdeal.nD Cert.SmallIdeal.τ).loc Cert.SmallIdeal.main_arg2)
          ∧ r.2.mem ((c.tc : Thread Cert.SmallIdeal.nD Cert.SmallIdeal.τ).loc Cert.SmallIdeal.main_arg3) = m ((c.tc : Thread Cert.SmallIdeal.nD Cert.SmallIdeal.τ).loc Cert.SmallIdeal.main_arg3)
          ∧ r.2.mem ((c.tc : Thread Cert.SmallIdeal.nD Cert.SmallIdeal.τ).loc Cert.SmallIdeal.main_arg4) = m ((c.tc : Thread Cert.SmallIdeal.nD Cert.SmallIdeal.τ).loc Cert.SmallIdeal.main_arg4)
          ∧ r.2.mem ((c.tc : Thread Cert.SmallIdeal.nD Cert.SmallIdeal.τ).loc Cert.SmallIdeal.main_arg5) = m ((c.tc : Thread Cert.SmallIdeal.nD Cert.SmallIdeal.τ).loc Cert.SmallIdeal.main_arg5)
          ∧ r.2.mem ((c.tc : Thread Cert.SmallIdeal.nD Cert.SmallIdeal.τ).loc Cert.SmallIdeal.main_arg6) = m ((c.tc : Thread Cert.SmallIdeal.nD Cert.SmallIdeal.τ).loc Cert.SmallIdeal.main_arg6)
          ∧ r.2.mem ((c.tc : Thread Cert.SmallIdeal.nD Cert.SmallIdeal.τ).loc Cert.SmallIdeal.main_arg7) = m ((c.tc : Thread Cert.SmallIdeal.nD Cert.SmallIdeal.τ).loc Cert.SmallIdeal.main_arg7)
          ∧ r.2.mem ((c.tc : Thread Cert.SmallIdeal.nD Cert.SmallIdeal.τ).loc Cert.SmallIdeal.main_arg8) = m ((c.tc : Thread Cert.SmallIdeal.nD Cert.SmallIdeal.τ).loc Cert.SmallIdeal.main_arg8))
      ∧ θ_run (Cert.SmallRefIdeal.defs (F := Ideal)) (onTc (τ := Cert.SmallRefIdeal.τ) (Cert.SmallRefIdeal.main (F := Ideal))) ⟨m', fun _ => 0, g'⟩ (fun r => ∀ c : Dev Cert.SmallRefIdeal.nD,
          r.2.mem ((c.tc : Thread Cert.SmallRefIdeal.nD Cert.SmallRefIdeal.τ).loc Cert.SmallRefIdeal.main_v18) = v0 c
          ∧ r.2.mem ((c.tc : Thread Cert.SmallRefIdeal.nD Cert.SmallRefIdeal.τ).loc Cert.SmallRefIdeal.main_arg0) = m' ((c.tc : Thread Cert.SmallRefIdeal.nD Cert.SmallRefIdeal.τ).loc Cert.SmallRefIdeal.main_arg0)
          ∧ r.2.mem ((c.tc : Thread Cert.SmallRefIdeal.nD Cert.SmallRefIdeal.τ).loc Cert.SmallRefIdeal.main_arg1) = m' ((c.tc : Thread Cert.SmallRefIdeal.nD Cert.SmallRefIdeal.τ).loc Cert.SmallRefIdeal.main_arg1)
          ∧ r.2.mem ((c.tc : Thread Cert.SmallRefIdeal.nD Cert.SmallRefIdeal.τ).loc Cert.SmallRefIdeal.main_arg2) = m' ((c.tc : Thread Cert.SmallRefIdeal.nD Cert.SmallRefIdeal.τ).loc Cert.SmallRefIdeal.main_arg2)
          ∧ r.2.mem ((c.tc : Thread Cert.SmallRefIdeal.nD Cert.SmallRefIdeal.τ).loc Cert.SmallRefIdeal.main_arg3) = m' ((c.tc : Thread Cert.SmallRefIdeal.nD Cert.SmallRefIdeal.τ).loc Cert.SmallRefIdeal.main_arg3)
          ∧ r.2.mem ((c.tc : Thread Cert.SmallRefIdeal.nD Cert.SmallRefIdeal.τ).loc Cert.SmallRefIdeal.main_arg4) = m' ((c.tc : Thread Cert.SmallRefIdeal.nD Cert.SmallRefIdeal.τ).loc Cert.SmallRefIdeal.main_arg4)
          ∧ r.2.mem ((c.tc : Thread Cert.SmallRefIdeal.nD Cert.SmallRefIdeal.τ).loc Cert.SmallRefIdeal.main_arg5) = m' ((c.tc : Thread Cert.SmallRefIdeal.nD Cert.SmallRefIdeal.τ).loc Cert.SmallRefIdeal.main_arg5)
          ∧ r.2.mem ((c.tc : Thread Cert.SmallRefIdeal.nD Cert.SmallRefIdeal.τ).loc Cert.SmallRefIdeal.main_arg6) = m' ((c.tc : Thread Cert.SmallRefIdeal.nD Cert.SmallRefIdeal.τ).loc Cert.SmallRefIdeal.main_arg6)
          ∧ r.2.mem ((c.tc : Thread Cert.SmallRefIdeal.nD Cert.SmallRefIdeal.τ).loc Cert.SmallRefIdeal.main_arg7) = m' ((c.tc : Thread Cert.SmallRefIdeal.nD Cert.SmallRefIdeal.τ).loc Cert.SmallRefIdeal.main_arg7)
          ∧ r.2.mem ((c.tc : Thread Cert.SmallRefIdeal.nD Cert.SmallRefIdeal.τ).loc Cert.SmallRefIdeal.main_arg8) = m' ((c.tc : Thread Cert.SmallRefIdeal.nD Cert.SmallRefIdeal.τ).loc Cert.SmallRefIdeal.main_arg8))

def preserves_SumUp_SumUpIdeal : Prop :=
  True

def algebraic_SumUpIdeal_SumUpRefIdeal [hSumUpIdeal : Cert.SumUpIdeal.Facts] [hSumUpRefIdeal : Cert.SumUpRefIdeal.Facts] [hPre_up_place_named : Cert.Pre_up_place_named.Facts] : Prop :=
  ∀ (m : (ℓ : Loc Cert.SumUpIdeal.nD Cert.SumUpIdeal.τ Cert.SumUpIdeal.sig) → Buf (Elt Ideal) ℓ) (g : Dev Cert.SumUpIdeal.nD → PrngReg)
    (m' : (ℓ : Loc Cert.SumUpRefIdeal.nD Cert.SumUpRefIdeal.τ Cert.SumUpRefIdeal.sig) → Buf (Elt Ideal) ℓ) (g' : Dev Cert.SumUpRefIdeal.nD → PrngReg), Pre_SumUpIdeal m →
    (∀ c : Dev Cert.SumUpIdeal.nD,
      m' ((c.tc : Thread Cert.SumUpRefIdeal.nD Cert.SumUpRefIdeal.τ).loc Cert.SumUpRefIdeal.main_arg0) = m ((c.tc : Thread Cert.SumUpIdeal.nD Cert.SumUpIdeal.τ).loc Cert.SumUpIdeal.main_arg0)
      ∧ m' ((c.tc : Thread Cert.SumUpRefIdeal.nD Cert.SumUpRefIdeal.τ).loc Cert.SumUpRefIdeal.main_arg1) = m ((c.tc : Thread Cert.SumUpIdeal.nD Cert.SumUpIdeal.τ).loc Cert.SumUpIdeal.main_arg1)
      ∧ m' ((c.tc : Thread Cert.SumUpRefIdeal.nD Cert.SumUpRefIdeal.τ).loc Cert.SumUpRefIdeal.main_arg2) = m ((c.tc : Thread Cert.SumUpIdeal.nD Cert.SumUpIdeal.τ).loc Cert.SumUpIdeal.main_arg2)
      ∧ m' ((c.tc : Thread Cert.SumUpRefIdeal.nD Cert.SumUpRefIdeal.τ).loc Cert.SumUpRefIdeal.main_arg3) = m ((c.tc : Thread Cert.SumUpIdeal.nD Cert.SumUpIdeal.τ).loc Cert.SumUpIdeal.main_arg3)) →
    ∃ (v0 : (c : Dev Cert.SumUpIdeal.nD) → Buf (Elt Ideal) ((c.tc : Thread Cert.SumUpIdeal.nD Cert.SumUpIdeal.τ).loc Cert.SumUpIdeal.main_v6)),
      θ_run (Cert.SumUpIdeal.defs (F := Ideal)) (onTc (τ := Cert.SumUpIdeal.τ) (Cert.SumUpIdeal.main (F := Ideal))) ⟨m, fun _ => 0, g⟩ (fun r => ∀ c : Dev Cert.SumUpIdeal.nD,
          r.2.mem ((c.tc : Thread Cert.SumUpIdeal.nD Cert.SumUpIdeal.τ).loc Cert.SumUpIdeal.main_v6) = v0 c
          ∧ r.2.mem ((c.tc : Thread Cert.SumUpIdeal.nD Cert.SumUpIdeal.τ).loc Cert.SumUpIdeal.main_arg0) = m ((c.tc : Thread Cert.SumUpIdeal.nD Cert.SumUpIdeal.τ).loc Cert.SumUpIdeal.main_arg0)
          ∧ r.2.mem ((c.tc : Thread Cert.SumUpIdeal.nD Cert.SumUpIdeal.τ).loc Cert.SumUpIdeal.main_arg1) = m ((c.tc : Thread Cert.SumUpIdeal.nD Cert.SumUpIdeal.τ).loc Cert.SumUpIdeal.main_arg1)
          ∧ r.2.mem ((c.tc : Thread Cert.SumUpIdeal.nD Cert.SumUpIdeal.τ).loc Cert.SumUpIdeal.main_arg2) = m ((c.tc : Thread Cert.SumUpIdeal.nD Cert.SumUpIdeal.τ).loc Cert.SumUpIdeal.main_arg2)
          ∧ r.2.mem ((c.tc : Thread Cert.SumUpIdeal.nD Cert.SumUpIdeal.τ).loc Cert.SumUpIdeal.main_arg3) = m ((c.tc : Thread Cert.SumUpIdeal.nD Cert.SumUpIdeal.τ).loc Cert.SumUpIdeal.main_arg3))
      ∧ θ_run (Cert.SumUpRefIdeal.defs (F := Ideal)) (onTc (τ := Cert.SumUpRefIdeal.τ) (Cert.SumUpRefIdeal.main (F := Ideal))) ⟨m', fun _ => 0, g'⟩ (fun r => ∀ c : Dev Cert.SumUpRefIdeal.nD,
          r.2.mem ((c.tc : Thread Cert.SumUpRefIdeal.nD Cert.SumUpRefIdeal.τ).loc Cert.SumUpRefIdeal.main_v10) = v0 c
          ∧ r.2.mem ((c.tc : Thread Cert.SumUpRefIdeal.nD Cert.SumUpRefIdeal.τ).loc Cert.SumUpRefIdeal.main_arg0) = m' ((c.tc : Thread Cert.SumUpRefIdeal.nD Cert.SumUpRefIdeal.τ).loc Cert.SumUpRefIdeal.main_arg0)
          ∧ r.2.mem ((c.tc : Thread Cert.SumUpRefIdeal.nD Cert.SumUpRefIdeal.τ).loc Cert.SumUpRefIdeal.main_arg1) = m' ((c.tc : Thread Cert.SumUpRefIdeal.nD Cert.SumUpRefIdeal.τ).loc Cert.SumUpRefIdeal.main_arg1)
          ∧ r.2.mem ((c.tc : Thread Cert.SumUpRefIdeal.nD Cert.SumUpRefIdeal.τ).loc Cert.SumUpRefIdeal.main_arg2) = m' ((c.tc : Thread Cert.SumUpRefIdeal.nD Cert.SumUpRefIdeal.τ).loc Cert.SumUpRefIdeal.main_arg2)
          ∧ r.2.mem ((c.tc : Thread Cert.SumUpRefIdeal.nD Cert.SumUpRefIdeal.τ).loc Cert.SumUpRefIdeal.main_arg3) = m' ((c.tc : Thread Cert.SumUpRefIdeal.nD Cert.SumUpRefIdeal.τ).loc Cert.SumUpRefIdeal.main_arg3))

def preserves_SumOut_SumOutIdeal : Prop :=
  True

def algebraic_SumOutIdeal_SumOutRefIdeal [hSumOutIdeal : Cert.SumOutIdeal.Facts] [hSumOutRefIdeal : Cert.SumOutRefIdeal.Facts] [hPre_out_place_named : Cert.Pre_out_place_named.Facts] : Prop :=
  ∀ (m : (ℓ : Loc Cert.SumOutIdeal.nD Cert.SumOutIdeal.τ Cert.SumOutIdeal.sig) → Buf (Elt Ideal) ℓ) (g : Dev Cert.SumOutIdeal.nD → PrngReg)
    (m' : (ℓ : Loc Cert.SumOutRefIdeal.nD Cert.SumOutRefIdeal.τ Cert.SumOutRefIdeal.sig) → Buf (Elt Ideal) ℓ) (g' : Dev Cert.SumOutRefIdeal.nD → PrngReg), Pre_SumOutIdeal m →
    (∀ c : Dev Cert.SumOutIdeal.nD,
      m' ((c.tc : Thread Cert.SumOutRefIdeal.nD Cert.SumOutRefIdeal.τ).loc Cert.SumOutRefIdeal.main_arg0) = m ((c.tc : Thread Cert.SumOutIdeal.nD Cert.SumOutIdeal.τ).loc Cert.SumOutIdeal.main_arg0)
      ∧ m' ((c.tc : Thread Cert.SumOutRefIdeal.nD Cert.SumOutRefIdeal.τ).loc Cert.SumOutRefIdeal.main_arg1) = m ((c.tc : Thread Cert.SumOutIdeal.nD Cert.SumOutIdeal.τ).loc Cert.SumOutIdeal.main_arg1)
      ∧ m' ((c.tc : Thread Cert.SumOutRefIdeal.nD Cert.SumOutRefIdeal.τ).loc Cert.SumOutRefIdeal.main_arg2) = m ((c.tc : Thread Cert.SumOutIdeal.nD Cert.SumOutIdeal.τ).loc Cert.SumOutIdeal.main_arg2)
      ∧ m' ((c.tc : Thread Cert.SumOutRefIdeal.nD Cert.SumOutRefIdeal.τ).loc Cert.SumOutRefIdeal.main_arg3) = m ((c.tc : Thread Cert.SumOutIdeal.nD Cert.SumOutIdeal.τ).loc Cert.SumOutIdeal.main_arg3)) →
    ∃ (v0 : (c : Dev Cert.SumOutIdeal.nD) → Buf (Elt Ideal) ((c.tc : Thread Cert.SumOutIdeal.nD Cert.SumOutIdeal.τ).loc Cert.SumOutIdeal.main_v6)),
      θ_run (Cert.SumOutIdeal.defs (F := Ideal)) (onTc (τ := Cert.SumOutIdeal.τ) (Cert.SumOutIdeal.main (F := Ideal))) ⟨m, fun _ => 0, g⟩ (fun r => ∀ c : Dev Cert.SumOutIdeal.nD,
          r.2.mem ((c.tc : Thread Cert.SumOutIdeal.nD Cert.SumOutIdeal.τ).loc Cert.SumOutIdeal.main_v6) = v0 c
          ∧ r.2.mem ((c.tc : Thread Cert.SumOutIdeal.nD Cert.SumOutIdeal.τ).loc Cert.SumOutIdeal.main_arg0) = m ((c.tc : Thread Cert.SumOutIdeal.nD Cert.SumOutIdeal.τ).loc Cert.SumOutIdeal.main_arg0)
          ∧ r.2.mem ((c.tc : Thread Cert.SumOutIdeal.nD Cert.SumOutIdeal.τ).loc Cert.SumOutIdeal.main_arg1) = m ((c.tc : Thread Cert.SumOutIdeal.nD Cert.SumOutIdeal.τ).loc Cert.SumOutIdeal.main_arg1)
          ∧ r.2.mem ((c.tc : Thread Cert.SumOutIdeal.nD Cert.SumOutIdeal.τ).loc Cert.SumOutIdeal.main_arg2) = m ((c.tc : Thread Cert.SumOutIdeal.nD Cert.SumOutIdeal.τ).loc Cert.SumOutIdeal.main_arg2)
          ∧ r.2.mem ((c.tc : Thread Cert.SumOutIdeal.nD Cert.SumOutIdeal.τ).loc Cert.SumOutIdeal.main_arg3) = m ((c.tc : Thread Cert.SumOutIdeal.nD Cert.SumOutIdeal.τ).loc Cert.SumOutIdeal.main_arg3))
      ∧ θ_run (Cert.SumOutRefIdeal.defs (F := Ideal)) (onTc (τ := Cert.SumOutRefIdeal.τ) (Cert.SumOutRefIdeal.main (F := Ideal))) ⟨m', fun _ => 0, g'⟩ (fun r => ∀ c : Dev Cert.SumOutRefIdeal.nD,
          r.2.mem ((c.tc : Thread Cert.SumOutRefIdeal.nD Cert.SumOutRefIdeal.τ).loc Cert.SumOutRefIdeal.main_v10) = v0 c
          ∧ r.2.mem ((c.tc : Thread Cert.SumOutRefIdeal.nD Cert.SumOutRefIdeal.τ).loc Cert.SumOutRefIdeal.main_arg0) = m' ((c.tc : Thread Cert.SumOutRefIdeal.nD Cert.SumOutRefIdeal.τ).loc Cert.SumOutRefIdeal.main_arg0)
          ∧ r.2.mem ((c.tc : Thread Cert.SumOutRefIdeal.nD Cert.SumOutRefIdeal.τ).loc Cert.SumOutRefIdeal.main_arg1) = m' ((c.tc : Thread Cert.SumOutRefIdeal.nD Cert.SumOutRefIdeal.τ).loc Cert.SumOutRefIdeal.main_arg1)
          ∧ r.2.mem ((c.tc : Thread Cert.SumOutRefIdeal.nD Cert.SumOutRefIdeal.τ).loc Cert.SumOutRefIdeal.main_arg2) = m' ((c.tc : Thread Cert.SumOutRefIdeal.nD Cert.SumOutRefIdeal.τ).loc Cert.SumOutRefIdeal.main_arg2)
          ∧ r.2.mem ((c.tc : Thread Cert.SumOutRefIdeal.nD Cert.SumOutRefIdeal.τ).loc Cert.SumOutRefIdeal.main_arg3) = m' ((c.tc : Thread Cert.SumOutRefIdeal.nD Cert.SumOutRefIdeal.τ).loc Cert.SumOutRefIdeal.main_arg3))

def preserves_SumMixIn_SumMixInIdeal : Prop :=
  True

def algebraic_SumMixInIdeal_SumMixInRefIdeal [hSumMixInIdeal : Cert.SumMixInIdeal.Facts] [hSumMixInRefIdeal : Cert.SumMixInRefIdeal.Facts] [hPre_mix_in_place_named : Cert.Pre_mix_in_place_named.Facts] : Prop :=
  ∀ (m : (ℓ : Loc Cert.SumMixInIdeal.nD Cert.SumMixInIdeal.τ Cert.SumMixInIdeal.sig) → Buf (Elt Ideal) ℓ) (g : Dev Cert.SumMixInIdeal.nD → PrngReg)
    (m' : (ℓ : Loc Cert.SumMixInRefIdeal.nD Cert.SumMixInRefIdeal.τ Cert.SumMixInRefIdeal.sig) → Buf (Elt Ideal) ℓ) (g' : Dev Cert.SumMixInRefIdeal.nD → PrngReg), Pre_SumMixInIdeal m →
    (∀ c : Dev Cert.SumMixInIdeal.nD,
      m' ((c.tc : Thread Cert.SumMixInRefIdeal.nD Cert.SumMixInRefIdeal.τ).loc Cert.SumMixInRefIdeal.main_arg0) = m ((c.tc : Thread Cert.SumMixInIdeal.nD Cert.SumMixInIdeal.τ).loc Cert.SumMixInIdeal.main_arg0)
      ∧ m' ((c.tc : Thread Cert.SumMixInRefIdeal.nD Cert.SumMixInRefIdeal.τ).loc Cert.SumMixInRefIdeal.main_arg1) = m ((c.tc : Thread Cert.SumMixInIdeal.nD Cert.SumMixInIdeal.τ).loc Cert.SumMixInIdeal.main_arg1)
      ∧ m' ((c.tc : Thread Cert.SumMixInRefIdeal.nD Cert.SumMixInRefIdeal.τ).loc Cert.SumMixInRefIdeal.main_arg2) = m ((c.tc : Thread Cert.SumMixInIdeal.nD Cert.SumMixInIdeal.τ).loc Cert.SumMixInIdeal.main_arg2)
      ∧ m' ((c.tc : Thread Cert.SumMixInRefIdeal.nD Cert.SumMixInRefIdeal.τ).loc Cert.SumMixInRefIdeal.main_arg3) = m ((c.tc : Thread Cert.SumMixInIdeal.nD Cert.SumMixInIdeal.τ).loc Cert.SumMixInIdeal.main_arg3)) →
    ∃ (v0 : (c : Dev Cert.SumMixInIdeal.nD) → Buf (Elt Ideal) ((c.tc : Thread Cert.SumMixInIdeal.nD Cert.SumMixInIdeal.τ).loc Cert.SumMixInIdeal.main_v6)),
      θ_run (Cert.SumMixInIdeal.defs (F := Ideal)) (onTc (τ := Cert.SumMixInIdeal.τ) (Cert.SumMixInIdeal.main (F := Ideal))) ⟨m, fun _ => 0, g⟩ (fun r => ∀ c : Dev Cert.SumMixInIdeal.nD,
          r.2.mem ((c.tc : Thread Cert.SumMixInIdeal.nD Cert.SumMixInIdeal.τ).loc Cert.SumMixInIdeal.main_v6) = v0 c
          ∧ r.2.mem ((c.tc : Thread Cert.SumMixInIdeal.nD Cert.SumMixInIdeal.τ).loc Cert.SumMixInIdeal.main_arg0) = m ((c.tc : Thread Cert.SumMixInIdeal.nD Cert.SumMixInIdeal.τ).loc Cert.SumMixInIdeal.main_arg0)
          ∧ r.2.mem ((c.tc : Thread Cert.SumMixInIdeal.nD Cert.SumMixInIdeal.τ).loc Cert.SumMixInIdeal.main_arg1) = m ((c.tc : Thread Cert.SumMixInIdeal.nD Cert.SumMixInIdeal.τ).loc Cert.SumMixInIdeal.main_arg1)
          ∧ r.2.mem ((c.tc : Thread Cert.SumMixInIdeal.nD Cert.SumMixInIdeal.τ).loc Cert.SumMixInIdeal.main_arg2) = m ((c.tc : Thread Cert.SumMixInIdeal.nD Cert.SumMixInIdeal.τ).loc Cert.SumMixInIdeal.main_arg2)
          ∧ r.2.mem ((c.tc : Thread Cert.SumMixInIdeal.nD Cert.SumMixInIdeal.τ).loc Cert.SumMixInIdeal.main_arg3) = m ((c.tc : Thread Cert.SumMixInIdeal.nD Cert.SumMixInIdeal.τ).loc Cert.SumMixInIdeal.main_arg3))
      ∧ θ_run (Cert.SumMixInRefIdeal.defs (F := Ideal)) (onTc (τ := Cert.SumMixInRefIdeal.τ) (Cert.SumMixInRefIdeal.main (F := Ideal))) ⟨m', fun _ => 0, g'⟩ (fun r => ∀ c : Dev Cert.SumMixInRefIdeal.nD,
          r.2.mem ((c.tc : Thread Cert.SumMixInRefIdeal.nD Cert.SumMixInRefIdeal.τ).loc Cert.SumMixInRefIdeal.main_v10) = v0 c
          ∧ r.2.mem ((c.tc : Thread Cert.SumMixInRefIdeal.nD Cert.SumMixInRefIdeal.τ).loc Cert.SumMixInRefIdeal.main_arg0) = m' ((c.tc : Thread Cert.SumMixInRefIdeal.nD Cert.SumMixInRefIdeal.τ).loc Cert.SumMixInRefIdeal.main_arg0)
          ∧ r.2.mem ((c.tc : Thread Cert.SumMixInRefIdeal.nD Cert.SumMixInRefIdeal.τ).loc Cert.SumMixInRefIdeal.main_arg1) = m' ((c.tc : Thread Cert.SumMixInRefIdeal.nD Cert.SumMixInRefIdeal.τ).loc Cert.SumMixInRefIdeal.main_arg1)
          ∧ r.2.mem ((c.tc : Thread Cert.SumMixInRefIdeal.nD Cert.SumMixInRefIdeal.τ).loc Cert.SumMixInRefIdeal.main_arg2) = m' ((c.tc : Thread Cert.SumMixInRefIdeal.nD Cert.SumMixInRefIdeal.τ).loc Cert.SumMixInRefIdeal.main_arg2)
          ∧ r.2.mem ((c.tc : Thread Cert.SumMixInRefIdeal.nD Cert.SumMixInRefIdeal.τ).loc Cert.SumMixInRefIdeal.main_arg3) = m' ((c.tc : Thread Cert.SumMixInRefIdeal.nD Cert.SumMixInRefIdeal.τ).loc Cert.SumMixInRefIdeal.main_arg3))

def preserves_SumMixOut_SumMixOutIdeal : Prop :=
  True

def algebraic_SumMixOutIdeal_SumMixOutRefIdeal [hSumMixOutIdeal : Cert.SumMixOutIdeal.Facts] [hSumMixOutRefIdeal : Cert.SumMixOutRefIdeal.Facts] [hPre_mix_out_place_named : Cert.Pre_mix_out_place_named.Facts] : Prop :=
  ∀ (m : (ℓ : Loc Cert.SumMixOutIdeal.nD Cert.SumMixOutIdeal.τ Cert.SumMixOutIdeal.sig) → Buf (Elt Ideal) ℓ) (g : Dev Cert.SumMixOutIdeal.nD → PrngReg)
    (m' : (ℓ : Loc Cert.SumMixOutRefIdeal.nD Cert.SumMixOutRefIdeal.τ Cert.SumMixOutRefIdeal.sig) → Buf (Elt Ideal) ℓ) (g' : Dev Cert.SumMixOutRefIdeal.nD → PrngReg), Pre_SumMixOutIdeal m →
    (∀ c : Dev Cert.SumMixOutIdeal.nD,
      m' ((c.tc : Thread Cert.SumMixOutRefIdeal.nD Cert.SumMixOutRefIdeal.τ).loc Cert.SumMixOutRefIdeal.main_arg0) = m ((c.tc : Thread Cert.SumMixOutIdeal.nD Cert.SumMixOutIdeal.τ).loc Cert.SumMixOutIdeal.main_arg0)
      ∧ m' ((c.tc : Thread Cert.SumMixOutRefIdeal.nD Cert.SumMixOutRefIdeal.τ).loc Cert.SumMixOutRefIdeal.main_arg1) = m ((c.tc : Thread Cert.SumMixOutIdeal.nD Cert.SumMixOutIdeal.τ).loc Cert.SumMixOutIdeal.main_arg1)
      ∧ m' ((c.tc : Thread Cert.SumMixOutRefIdeal.nD Cert.SumMixOutRefIdeal.τ).loc Cert.SumMixOutRefIdeal.main_arg2) = m ((c.tc : Thread Cert.SumMixOutIdeal.nD Cert.SumMixOutIdeal.τ).loc Cert.SumMixOutIdeal.main_arg2)
      ∧ m' ((c.tc : Thread Cert.SumMixOutRefIdeal.nD Cert.SumMixOutRefIdeal.τ).loc Cert.SumMixOutRefIdeal.main_arg3) = m ((c.tc : Thread Cert.SumMixOutIdeal.nD Cert.SumMixOutIdeal.τ).loc Cert.SumMixOutIdeal.main_arg3)) →
    ∃ (v0 : (c : Dev Cert.SumMixOutIdeal.nD) → Buf (Elt Ideal) ((c.tc : Thread Cert.SumMixOutIdeal.nD Cert.SumMixOutIdeal.τ).loc Cert.SumMixOutIdeal.main_v6)),
      θ_run (Cert.SumMixOutIdeal.defs (F := Ideal)) (onTc (τ := Cert.SumMixOutIdeal.τ) (Cert.SumMixOutIdeal.main (F := Ideal))) ⟨m, fun _ => 0, g⟩ (fun r => ∀ c : Dev Cert.SumMixOutIdeal.nD,
          r.2.mem ((c.tc : Thread Cert.SumMixOutIdeal.nD Cert.SumMixOutIdeal.τ).loc Cert.SumMixOutIdeal.main_v6) = v0 c
          ∧ r.2.mem ((c.tc : Thread Cert.SumMixOutIdeal.nD Cert.SumMixOutIdeal.τ).loc Cert.SumMixOutIdeal.main_arg0) = m ((c.tc : Thread Cert.SumMixOutIdeal.nD Cert.SumMixOutIdeal.τ).loc Cert.SumMixOutIdeal.main_arg0)
          ∧ r.2.mem ((c.tc : Thread Cert.SumMixOutIdeal.nD Cert.SumMixOutIdeal.τ).loc Cert.SumMixOutIdeal.main_arg1) = m ((c.tc : Thread Cert.SumMixOutIdeal.nD Cert.SumMixOutIdeal.τ).loc Cert.SumMixOutIdeal.main_arg1)
          ∧ r.2.mem ((c.tc : Thread Cert.SumMixOutIdeal.nD Cert.SumMixOutIdeal.τ).loc Cert.SumMixOutIdeal.main_arg2) = m ((c.tc : Thread Cert.SumMixOutIdeal.nD Cert.SumMixOutIdeal.τ).loc Cert.SumMixOutIdeal.main_arg2)
          ∧ r.2.mem ((c.tc : Thread Cert.SumMixOutIdeal.nD Cert.SumMixOutIdeal.τ).loc Cert.SumMixOutIdeal.main_arg3) = m ((c.tc : Thread Cert.SumMixOutIdeal.nD Cert.SumMixOutIdeal.τ).loc Cert.SumMixOutIdeal.main_arg3))
      ∧ θ_run (Cert.SumMixOutRefIdeal.defs (F := Ideal)) (onTc (τ := Cert.SumMixOutRefIdeal.τ) (Cert.SumMixOutRefIdeal.main (F := Ideal))) ⟨m', fun _ => 0, g'⟩ (fun r => ∀ c : Dev Cert.SumMixOutRefIdeal.nD,
          r.2.mem ((c.tc : Thread Cert.SumMixOutRefIdeal.nD Cert.SumMixOutRefIdeal.τ).loc Cert.SumMixOutRefIdeal.main_v10) = v0 c
          ∧ r.2.mem ((c.tc : Thread Cert.SumMixOutRefIdeal.nD Cert.SumMixOutRefIdeal.τ).loc Cert.SumMixOutRefIdeal.main_arg0) = m' ((c.tc : Thread Cert.SumMixOutRefIdeal.nD Cert.SumMixOutRefIdeal.τ).loc Cert.SumMixOutRefIdeal.main_arg0)
          ∧ r.2.mem ((c.tc : Thread Cert.SumMixOutRefIdeal.nD Cert.SumMixOutRefIdeal.τ).loc Cert.SumMixOutRefIdeal.main_arg1) = m' ((c.tc : Thread Cert.SumMixOutRefIdeal.nD Cert.SumMixOutRefIdeal.τ).loc Cert.SumMixOutRefIdeal.main_arg1)
          ∧ r.2.mem ((c.tc : Thread Cert.SumMixOutRefIdeal.nD Cert.SumMixOutRefIdeal.τ).loc Cert.SumMixOutRefIdeal.main_arg2) = m' ((c.tc : Thread Cert.SumMixOutRefIdeal.nD Cert.SumMixOutRefIdeal.τ).loc Cert.SumMixOutRefIdeal.main_arg2)
          ∧ r.2.mem ((c.tc : Thread Cert.SumMixOutRefIdeal.nD Cert.SumMixOutRefIdeal.τ).loc Cert.SumMixOutRefIdeal.main_arg3) = m' ((c.tc : Thread Cert.SumMixOutRefIdeal.nD Cert.SumMixOutRefIdeal.τ).loc Cert.SumMixOutRefIdeal.main_arg3))

def preserves_SumPool_SumPoolIdeal : Prop :=
  True

def algebraic_SumPoolIdeal_SumPoolRefIdeal [hSumPoolIdeal : Cert.SumPoolIdeal.Facts] [hSumPoolRefIdeal : Cert.SumPoolRefIdeal.Facts] [hPre_pool_place_named : Cert.Pre_pool_place_named.Facts] : Prop :=
  ∀ (m : (ℓ : Loc Cert.SumPoolIdeal.nD Cert.SumPoolIdeal.τ Cert.SumPoolIdeal.sig) → Buf (Elt Ideal) ℓ) (g : Dev Cert.SumPoolIdeal.nD → PrngReg)
    (m' : (ℓ : Loc Cert.SumPoolRefIdeal.nD Cert.SumPoolRefIdeal.τ Cert.SumPoolRefIdeal.sig) → Buf (Elt Ideal) ℓ) (g' : Dev Cert.SumPoolRefIdeal.nD → PrngReg), Pre_SumPoolIdeal m →
    (∀ c : Dev Cert.SumPoolIdeal.nD,
      m' ((c.tc : Thread Cert.SumPoolRefIdeal.nD Cert.SumPoolRefIdeal.τ).loc Cert.SumPoolRefIdeal.main_arg0) = m ((c.tc : Thread Cert.SumPoolIdeal.nD Cert.SumPoolIdeal.τ).loc Cert.SumPoolIdeal.main_arg0)
      ∧ m' ((c.tc : Thread Cert.SumPoolRefIdeal.nD Cert.SumPoolRefIdeal.τ).loc Cert.SumPoolRefIdeal.main_arg1) = m ((c.tc : Thread Cert.SumPoolIdeal.nD Cert.SumPoolIdeal.τ).loc Cert.SumPoolIdeal.main_arg1)
      ∧ m' ((c.tc : Thread Cert.SumPoolRefIdeal.nD Cert.SumPoolRefIdeal.τ).loc Cert.SumPoolRefIdeal.main_arg2) = m ((c.tc : Thread Cert.SumPoolIdeal.nD Cert.SumPoolIdeal.τ).loc Cert.SumPoolIdeal.main_arg2)
      ∧ m' ((c.tc : Thread Cert.SumPoolRefIdeal.nD Cert.SumPoolRefIdeal.τ).loc Cert.SumPoolRefIdeal.main_arg3) = m ((c.tc : Thread Cert.SumPoolIdeal.nD Cert.SumPoolIdeal.τ).loc Cert.SumPoolIdeal.main_arg3)) →
    ∃ (v0 : (c : Dev Cert.SumPoolIdeal.nD) → Buf (Elt Ideal) ((c.tc : Thread Cert.SumPoolIdeal.nD Cert.SumPoolIdeal.τ).loc Cert.SumPoolIdeal.main_v6)),
      θ_run (Cert.SumPoolIdeal.defs (F := Ideal)) (onTc (τ := Cert.SumPoolIdeal.τ) (Cert.SumPoolIdeal.main (F := Ideal))) ⟨m, fun _ => 0, g⟩ (fun r => ∀ c : Dev Cert.SumPoolIdeal.nD,
          r.2.mem ((c.tc : Thread Cert.SumPoolIdeal.nD Cert.SumPoolIdeal.τ).loc Cert.SumPoolIdeal.main_v6) = v0 c
          ∧ r.2.mem ((c.tc : Thread Cert.SumPoolIdeal.nD Cert.SumPoolIdeal.τ).loc Cert.SumPoolIdeal.main_arg0) = m ((c.tc : Thread Cert.SumPoolIdeal.nD Cert.SumPoolIdeal.τ).loc Cert.SumPoolIdeal.main_arg0)
          ∧ r.2.mem ((c.tc : Thread Cert.SumPoolIdeal.nD Cert.SumPoolIdeal.τ).loc Cert.SumPoolIdeal.main_arg1) = m ((c.tc : Thread Cert.SumPoolIdeal.nD Cert.SumPoolIdeal.τ).loc Cert.SumPoolIdeal.main_arg1)
          ∧ r.2.mem ((c.tc : Thread Cert.SumPoolIdeal.nD Cert.SumPoolIdeal.τ).loc Cert.SumPoolIdeal.main_arg2) = m ((c.tc : Thread Cert.SumPoolIdeal.nD Cert.SumPoolIdeal.τ).loc Cert.SumPoolIdeal.main_arg2)
          ∧ r.2.mem ((c.tc : Thread Cert.SumPoolIdeal.nD Cert.SumPoolIdeal.τ).loc Cert.SumPoolIdeal.main_arg3) = m ((c.tc : Thread Cert.SumPoolIdeal.nD Cert.SumPoolIdeal.τ).loc Cert.SumPoolIdeal.main_arg3))
      ∧ θ_run (Cert.SumPoolRefIdeal.defs (F := Ideal)) (onTc (τ := Cert.SumPoolRefIdeal.τ) (Cert.SumPoolRefIdeal.main (F := Ideal))) ⟨m', fun _ => 0, g'⟩ (fun r => ∀ c : Dev Cert.SumPoolRefIdeal.nD,
          r.2.mem ((c.tc : Thread Cert.SumPoolRefIdeal.nD Cert.SumPoolRefIdeal.τ).loc Cert.SumPoolRefIdeal.main_v10) = v0 c
          ∧ r.2.mem ((c.tc : Thread Cert.SumPoolRefIdeal.nD Cert.SumPoolRefIdeal.τ).loc Cert.SumPoolRefIdeal.main_arg0) = m' ((c.tc : Thread Cert.SumPoolRefIdeal.nD Cert.SumPoolRefIdeal.τ).loc Cert.SumPoolRefIdeal.main_arg0)
          ∧ r.2.mem ((c.tc : Thread Cert.SumPoolRefIdeal.nD Cert.SumPoolRefIdeal.τ).loc Cert.SumPoolRefIdeal.main_arg1) = m' ((c.tc : Thread Cert.SumPoolRefIdeal.nD Cert.SumPoolRefIdeal.τ).loc Cert.SumPoolRefIdeal.main_arg1)
          ∧ r.2.mem ((c.tc : Thread Cert.SumPoolRefIdeal.nD Cert.SumPoolRefIdeal.τ).loc Cert.SumPoolRefIdeal.main_arg2) = m' ((c.tc : Thread Cert.SumPoolRefIdeal.nD Cert.SumPoolRefIdeal.τ).loc Cert.SumPoolRefIdeal.main_arg2)
          ∧ r.2.mem ((c.tc : Thread Cert.SumPoolRefIdeal.nD Cert.SumPoolRefIdeal.τ).loc Cert.SumPoolRefIdeal.main_arg3) = m' ((c.tc : Thread Cert.SumPoolRefIdeal.nD Cert.SumPoolRefIdeal.τ).loc Cert.SumPoolRefIdeal.main_arg3))

def Claim : Prop :=
  ∃ (hKernel : Cert.Kernel.Facts) (hKernelIdeal : Cert.KernelIdeal.Facts) (hReferenceIdeal : Cert.ReferenceIdeal.Facts) (hNorm : Cert.Norm.Facts) (hNormIdeal : Cert.NormIdeal.Facts) (hNormRefIdeal : Cert.NormRefIdeal.Facts) (hDown : Cert.Down.Facts) (hDownIdeal : Cert.DownIdeal.Facts) (hDownRefIdeal : Cert.DownRefIdeal.Facts) (hSent : Cert.Sent.Facts) (hSentIdeal : Cert.SentIdeal.Facts) (hSentRefIdeal : Cert.SentRefIdeal.Facts) (hKept : Cert.Kept.Facts) (hKeptIdeal : Cert.KeptIdeal.Facts) (hKeptRefIdeal : Cert.KeptRefIdeal.Facts) (hGla : Cert.Gla.Facts) (hGlaIdeal : Cert.GlaIdeal.Facts) (hAdamUp : Cert.AdamUp.Facts) (hAdamUpIdeal : Cert.AdamUpIdeal.Facts) (hAdamUpRefIdeal : Cert.AdamUpRefIdeal.Facts) (hAdamDown : Cert.AdamDown.Facts) (hAdamDownIdeal : Cert.AdamDownIdeal.Facts) (hAdamDownRefIdeal : Cert.AdamDownRefIdeal.Facts) (hAdamGain : Cert.AdamGain.Facts) (hAdamGainIdeal : Cert.AdamGainIdeal.Facts) (hAdamGainRefIdeal : Cert.AdamGainRefIdeal.Facts) (hAdamMixIn : Cert.AdamMixIn.Facts) (hAdamMixInIdeal : Cert.AdamMixInIdeal.Facts) (hAdamMixInRefIdeal : Cert.AdamMixInRefIdeal.Facts) (hAdamMixOut : Cert.AdamMixOut.Facts) (hAdamMixOutIdeal : Cert.AdamMixOutIdeal.Facts) (hAdamMixOutRefIdeal : Cert.AdamMixOutRefIdeal.Facts) (hAdamPool : Cert.AdamPool.Facts) (hAdamPoolIdeal : Cert.AdamPoolIdeal.Facts) (hAdamPoolRefIdeal : Cert.AdamPoolRefIdeal.Facts) (hAdamScale : Cert.AdamScale.Facts) (hAdamScaleIdeal : Cert.AdamScaleIdeal.Facts) (hAdamScaleRefIdeal : Cert.AdamScaleRefIdeal.Facts) (hAdamAlpha : Cert.AdamAlpha.Facts) (hAdamAlphaIdeal : Cert.AdamAlphaIdeal.Facts) (hAdamAlphaRefIdeal : Cert.AdamAlphaRefIdeal.Facts) (hAdamBias : Cert.AdamBias.Facts) (hAdamBiasIdeal : Cert.AdamBiasIdeal.Facts) (hAdamBiasRefIdeal : Cert.AdamBiasRefIdeal.Facts) (hAdamHead : Cert.AdamHead.Facts) (hAdamHeadIdeal : Cert.AdamHeadIdeal.Facts) (hAdamHeadRefIdeal : Cert.AdamHeadRefIdeal.Facts) (hSmall : Cert.Small.Facts) (hSmallIdeal : Cert.SmallIdeal.Facts) (hSmallRefIdeal : Cert.SmallRefIdeal.Facts) (hSumUp : Cert.SumUp.Facts) (hSumUpIdeal : Cert.SumUpIdeal.Facts) (hSumUpRefIdeal : Cert.SumUpRefIdeal.Facts) (hSumOut : Cert.SumOut.Facts) (hSumOutIdeal : Cert.SumOutIdeal.Facts) (hSumOutRefIdeal : Cert.SumOutRefIdeal.Facts) (hSumMixIn : Cert.SumMixIn.Facts) (hSumMixInIdeal : Cert.SumMixInIdeal.Facts) (hSumMixInRefIdeal : Cert.SumMixInRefIdeal.Facts) (hSumMixOut : Cert.SumMixOut.Facts) (hSumMixOutIdeal : Cert.SumMixOutIdeal.Facts) (hSumMixOutRefIdeal : Cert.SumMixOutRefIdeal.Facts) (hSumPool : Cert.SumPool.Facts) (hSumPoolIdeal : Cert.SumPoolIdeal.Facts) (hSumPoolRefIdeal : Cert.SumPoolRefIdeal.Facts) (hPre_finite : Cert.Pre_finite.Facts) (hPre_norm_finite : Cert.Pre_norm_finite.Facts) (hPre_core_named : Cert.Pre_core_named.Facts) (hPre_own_core_named : Cert.Pre_own_core_named.Facts) (hPre_up_place_named : Cert.Pre_up_place_named.Facts) (hPre_out_place_named : Cert.Pre_out_place_named.Facts) (hPre_mix_in_place_named : Cert.Pre_mix_in_place_named.Facts) (hPre_mix_out_place_named : Cert.Pre_mix_out_place_named.Facts) (hPre_pool_place_named : Cert.Pre_pool_place_named.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Norm (hNorm := hNorm)
    ∧ quiescent_NormIdeal (hNormIdeal := hNormIdeal)
    ∧ quiescent_NormIdeal_pre_norm_finite (hNormIdeal := hNormIdeal) (hPre_norm_finite := hPre_norm_finite)
    ∧ quiescent_NormRefIdeal (hNormRefIdeal := hNormRefIdeal)
    ∧ quiescent_NormRefIdeal_pre_norm_finite (hNormRefIdeal := hNormRefIdeal) (hPre_norm_finite := hPre_norm_finite)
    ∧ quiescent_Down (hDown := hDown)
    ∧ quiescent_DownIdeal (hDownIdeal := hDownIdeal)
    ∧ quiescent_DownRefIdeal (hDownRefIdeal := hDownRefIdeal)
    ∧ quiescent_Sent (hSent := hSent) (hPre_core_named := hPre_core_named)
    ∧ quiescent_SentIdeal (hSentIdeal := hSentIdeal) (hPre_core_named := hPre_core_named)
    ∧ quiescent_SentRefIdeal (hSentRefIdeal := hSentRefIdeal)
    ∧ quiescent_SentRefIdeal_pre_core_named (hSentRefIdeal := hSentRefIdeal) (hPre_core_named := hPre_core_named)
    ∧ quiescent_Kept (hKept := hKept) (hPre_own_core_named := hPre_own_core_named)
    ∧ quiescent_KeptIdeal (hKeptIdeal := hKeptIdeal) (hPre_own_core_named := hPre_own_core_named)
    ∧ quiescent_KeptRefIdeal (hKeptRefIdeal := hKeptRefIdeal)
    ∧ quiescent_KeptRefIdeal_pre_own_core_named (hKeptRefIdeal := hKeptRefIdeal) (hPre_own_core_named := hPre_own_core_named)
    ∧ quiescent_Gla (hGla := hGla)
    ∧ quiescent_GlaIdeal (hGlaIdeal := hGlaIdeal)
    ∧ quiescent_AdamUp (hAdamUp := hAdamUp)
    ∧ quiescent_AdamUpIdeal (hAdamUpIdeal := hAdamUpIdeal)
    ∧ quiescent_AdamUpRefIdeal (hAdamUpRefIdeal := hAdamUpRefIdeal)
    ∧ quiescent_AdamDown (hAdamDown := hAdamDown)
    ∧ quiescent_AdamDownIdeal (hAdamDownIdeal := hAdamDownIdeal)
    ∧ quiescent_AdamDownRefIdeal (hAdamDownRefIdeal := hAdamDownRefIdeal)
    ∧ quiescent_AdamGain (hAdamGain := hAdamGain)
    ∧ quiescent_AdamGainIdeal (hAdamGainIdeal := hAdamGainIdeal)
    ∧ quiescent_AdamGainRefIdeal (hAdamGainRefIdeal := hAdamGainRefIdeal)
    ∧ quiescent_AdamMixIn (hAdamMixIn := hAdamMixIn)
    ∧ quiescent_AdamMixInIdeal (hAdamMixInIdeal := hAdamMixInIdeal)
    ∧ quiescent_AdamMixInRefIdeal (hAdamMixInRefIdeal := hAdamMixInRefIdeal)
    ∧ quiescent_AdamMixOut (hAdamMixOut := hAdamMixOut)
    ∧ quiescent_AdamMixOutIdeal (hAdamMixOutIdeal := hAdamMixOutIdeal)
    ∧ quiescent_AdamMixOutRefIdeal (hAdamMixOutRefIdeal := hAdamMixOutRefIdeal)
    ∧ quiescent_AdamPool (hAdamPool := hAdamPool)
    ∧ quiescent_AdamPoolIdeal (hAdamPoolIdeal := hAdamPoolIdeal)
    ∧ quiescent_AdamPoolRefIdeal (hAdamPoolRefIdeal := hAdamPoolRefIdeal)
    ∧ quiescent_AdamScale (hAdamScale := hAdamScale)
    ∧ quiescent_AdamScaleIdeal (hAdamScaleIdeal := hAdamScaleIdeal)
    ∧ quiescent_AdamScaleRefIdeal (hAdamScaleRefIdeal := hAdamScaleRefIdeal)
    ∧ quiescent_AdamAlpha (hAdamAlpha := hAdamAlpha)
    ∧ quiescent_AdamAlphaIdeal (hAdamAlphaIdeal := hAdamAlphaIdeal)
    ∧ quiescent_AdamAlphaRefIdeal (hAdamAlphaRefIdeal := hAdamAlphaRefIdeal)
    ∧ quiescent_AdamBias (hAdamBias := hAdamBias)
    ∧ quiescent_AdamBiasIdeal (hAdamBiasIdeal := hAdamBiasIdeal)
    ∧ quiescent_AdamBiasRefIdeal (hAdamBiasRefIdeal := hAdamBiasRefIdeal)
    ∧ quiescent_AdamHead (hAdamHead := hAdamHead)
    ∧ quiescent_AdamHeadIdeal (hAdamHeadIdeal := hAdamHeadIdeal)
    ∧ quiescent_AdamHeadRefIdeal (hAdamHeadRefIdeal := hAdamHeadRefIdeal)
    ∧ quiescent_Small (hSmall := hSmall)
    ∧ quiescent_SmallIdeal (hSmallIdeal := hSmallIdeal)
    ∧ quiescent_SmallRefIdeal (hSmallRefIdeal := hSmallRefIdeal)
    ∧ quiescent_SumUp (hSumUp := hSumUp) (hPre_up_place_named := hPre_up_place_named)
    ∧ quiescent_SumUpIdeal (hSumUpIdeal := hSumUpIdeal) (hPre_up_place_named := hPre_up_place_named)
    ∧ quiescent_SumUpRefIdeal (hSumUpRefIdeal := hSumUpRefIdeal)
    ∧ quiescent_SumUpRefIdeal_pre_up_place_named (hSumUpRefIdeal := hSumUpRefIdeal) (hPre_up_place_named := hPre_up_place_named)
    ∧ quiescent_SumOut (hSumOut := hSumOut) (hPre_out_place_named := hPre_out_place_named)
    ∧ quiescent_SumOutIdeal (hSumOutIdeal := hSumOutIdeal) (hPre_out_place_named := hPre_out_place_named)
    ∧ quiescent_SumOutRefIdeal (hSumOutRefIdeal := hSumOutRefIdeal)
    ∧ quiescent_SumOutRefIdeal_pre_out_place_named (hSumOutRefIdeal := hSumOutRefIdeal) (hPre_out_place_named := hPre_out_place_named)
    ∧ quiescent_SumMixIn (hSumMixIn := hSumMixIn) (hPre_mix_in_place_named := hPre_mix_in_place_named)
    ∧ quiescent_SumMixInIdeal (hSumMixInIdeal := hSumMixInIdeal) (hPre_mix_in_place_named := hPre_mix_in_place_named)
    ∧ quiescent_SumMixInRefIdeal (hSumMixInRefIdeal := hSumMixInRefIdeal)
    ∧ quiescent_SumMixInRefIdeal_pre_mix_in_place_named (hSumMixInRefIdeal := hSumMixInRefIdeal) (hPre_mix_in_place_named := hPre_mix_in_place_named)
    ∧ quiescent_SumMixOut (hSumMixOut := hSumMixOut) (hPre_mix_out_place_named := hPre_mix_out_place_named)
    ∧ quiescent_SumMixOutIdeal (hSumMixOutIdeal := hSumMixOutIdeal) (hPre_mix_out_place_named := hPre_mix_out_place_named)
    ∧ quiescent_SumMixOutRefIdeal (hSumMixOutRefIdeal := hSumMixOutRefIdeal)
    ∧ quiescent_SumMixOutRefIdeal_pre_mix_out_place_named (hSumMixOutRefIdeal := hSumMixOutRefIdeal) (hPre_mix_out_place_named := hPre_mix_out_place_named)
    ∧ quiescent_SumPool (hSumPool := hSumPool) (hPre_pool_place_named := hPre_pool_place_named)
    ∧ quiescent_SumPoolIdeal (hSumPoolIdeal := hSumPoolIdeal) (hPre_pool_place_named := hPre_pool_place_named)
    ∧ quiescent_SumPoolRefIdeal (hSumPoolRefIdeal := hSumPoolRefIdeal)
    ∧ quiescent_SumPoolRefIdeal_pre_pool_place_named (hSumPoolRefIdeal := hSumPoolRefIdeal) (hPre_pool_place_named := hPre_pool_place_named)
    ∧ preserves_Kernel_KernelIdeal
    ∧ algebraic_KernelIdeal_ReferenceIdeal_pre_finite (hKernelIdeal := hKernelIdeal) (hReferenceIdeal := hReferenceIdeal) (hPre_finite := hPre_finite)
    ∧ preserves_Norm_NormIdeal
    ∧ algebraic_NormIdeal_NormRefIdeal_pre_norm_finite (hNormIdeal := hNormIdeal) (hNormRefIdeal := hNormRefIdeal) (hPre_norm_finite := hPre_norm_finite)
    ∧ preserves_Down_DownIdeal
    ∧ algebraic_DownIdeal_DownRefIdeal (hDownIdeal := hDownIdeal) (hDownRefIdeal := hDownRefIdeal)
    ∧ preserves_Sent_SentIdeal
    ∧ algebraic_SentIdeal_SentRefIdeal (hSentIdeal := hSentIdeal) (hSentRefIdeal := hSentRefIdeal) (hPre_core_named := hPre_core_named)
    ∧ preserves_Kept_KeptIdeal
    ∧ algebraic_KeptIdeal_KeptRefIdeal (hKeptIdeal := hKeptIdeal) (hKeptRefIdeal := hKeptRefIdeal) (hPre_own_core_named := hPre_own_core_named)
    ∧ preserves_Gla_GlaIdeal
    ∧ preserves_AdamUp_AdamUpIdeal
    ∧ algebraic_AdamUpIdeal_AdamUpRefIdeal (hAdamUpIdeal := hAdamUpIdeal) (hAdamUpRefIdeal := hAdamUpRefIdeal)
    ∧ preserves_AdamDown_AdamDownIdeal
    ∧ algebraic_AdamDownIdeal_AdamDownRefIdeal (hAdamDownIdeal := hAdamDownIdeal) (hAdamDownRefIdeal := hAdamDownRefIdeal)
    ∧ preserves_AdamGain_AdamGainIdeal
    ∧ algebraic_AdamGainIdeal_AdamGainRefIdeal (hAdamGainIdeal := hAdamGainIdeal) (hAdamGainRefIdeal := hAdamGainRefIdeal)
    ∧ preserves_AdamMixIn_AdamMixInIdeal
    ∧ algebraic_AdamMixInIdeal_AdamMixInRefIdeal (hAdamMixInIdeal := hAdamMixInIdeal) (hAdamMixInRefIdeal := hAdamMixInRefIdeal)
    ∧ preserves_AdamMixOut_AdamMixOutIdeal
    ∧ algebraic_AdamMixOutIdeal_AdamMixOutRefIdeal (hAdamMixOutIdeal := hAdamMixOutIdeal) (hAdamMixOutRefIdeal := hAdamMixOutRefIdeal)
    ∧ preserves_AdamPool_AdamPoolIdeal
    ∧ algebraic_AdamPoolIdeal_AdamPoolRefIdeal (hAdamPoolIdeal := hAdamPoolIdeal) (hAdamPoolRefIdeal := hAdamPoolRefIdeal)
    ∧ preserves_AdamScale_AdamScaleIdeal
    ∧ algebraic_AdamScaleIdeal_AdamScaleRefIdeal (hAdamScaleIdeal := hAdamScaleIdeal) (hAdamScaleRefIdeal := hAdamScaleRefIdeal)
    ∧ preserves_AdamAlpha_AdamAlphaIdeal
    ∧ algebraic_AdamAlphaIdeal_AdamAlphaRefIdeal (hAdamAlphaIdeal := hAdamAlphaIdeal) (hAdamAlphaRefIdeal := hAdamAlphaRefIdeal)
    ∧ preserves_AdamBias_AdamBiasIdeal
    ∧ algebraic_AdamBiasIdeal_AdamBiasRefIdeal (hAdamBiasIdeal := hAdamBiasIdeal) (hAdamBiasRefIdeal := hAdamBiasRefIdeal)
    ∧ preserves_AdamHead_AdamHeadIdeal
    ∧ algebraic_AdamHeadIdeal_AdamHeadRefIdeal (hAdamHeadIdeal := hAdamHeadIdeal) (hAdamHeadRefIdeal := hAdamHeadRefIdeal)
    ∧ preserves_Small_SmallIdeal
    ∧ algebraic_SmallIdeal_SmallRefIdeal (hSmallIdeal := hSmallIdeal) (hSmallRefIdeal := hSmallRefIdeal)
    ∧ preserves_SumUp_SumUpIdeal
    ∧ algebraic_SumUpIdeal_SumUpRefIdeal (hSumUpIdeal := hSumUpIdeal) (hSumUpRefIdeal := hSumUpRefIdeal) (hPre_up_place_named := hPre_up_place_named)
    ∧ preserves_SumOut_SumOutIdeal
    ∧ algebraic_SumOutIdeal_SumOutRefIdeal (hSumOutIdeal := hSumOutIdeal) (hSumOutRefIdeal := hSumOutRefIdeal) (hPre_out_place_named := hPre_out_place_named)
    ∧ preserves_SumMixIn_SumMixInIdeal
    ∧ algebraic_SumMixInIdeal_SumMixInRefIdeal (hSumMixInIdeal := hSumMixInIdeal) (hSumMixInRefIdeal := hSumMixInRefIdeal) (hPre_mix_in_place_named := hPre_mix_in_place_named)
    ∧ preserves_SumMixOut_SumMixOutIdeal
    ∧ algebraic_SumMixOutIdeal_SumMixOutRefIdeal (hSumMixOutIdeal := hSumMixOutIdeal) (hSumMixOutRefIdeal := hSumMixOutRefIdeal) (hPre_mix_out_place_named := hPre_mix_out_place_named)
    ∧ preserves_SumPool_SumPoolIdeal
    ∧ algebraic_SumPoolIdeal_SumPoolRefIdeal (hSumPoolIdeal := hSumPoolIdeal) (hSumPoolRefIdeal := hSumPoolRefIdeal) (hPre_pool_place_named := hPre_pool_place_named)
-- ==== Pre_core_named.lean ====
abbrev S1 : Shape := ⟨1, ![1]⟩
abbrev S2048x2048 : Shape := ⟨2, ![2048, 2048]⟩
abbrev S1x2048 : Shape := ⟨2, ![1, 2048]⟩
abbrev S2x2048x5632 : Shape := ⟨3, ![2, 2048, 5632]⟩
abbrev S_ : Shape := ⟨0, ![]⟩

class Facts : Prop where
  bcast_S_S1 : S_.BroadcastsInDim S1 (![] : Fin 0 → Fin S1.rank)

variable [Facts]

def fn {F : FTy → Type} [FloatOps F] (main_arg0 : IVec S1 32) (main_arg1 : FVec F S2048x2048 .f32) (main_arg2 : FVec F S1x2048 .f32) (main_arg3 : FVec F S2x2048x5632 .bf16) : IVec S1 1 :=
  let main_c : IVec S_ 32 := constantI S_ 32 0#32
  let main_v0 : IVec S1 32 := broadcastInDim S1 ![] bcast_S_S1 main_c
  let main_v1 : IVec S1 1 := cmpi .sge main_arg0 main_v0
  let main_c_0 : IVec S_ 32 := constantI S_ 32 1#32
  let main_v2 : IVec S1 32 := broadcastInDim S1 ![] bcast_S_S1 main_c_0
  let main_v3 : IVec S1 1 := cmpi .sle main_arg0 main_v2
  let main_v4 : IVec S1 1 := andi main_v1 main_v3
  main_v4
-- ==== Pre_finite.lean ====
abbrev S2048x2048 : Shape := ⟨2, ![2048, 2048]⟩
abbrev S1x2048 : Shape := ⟨2, ![1, 2048]⟩
abbrev S2048x11264 : Shape := ⟨2, ![2048, 11264]⟩
abbrev S5632x2048 : Shape := ⟨2, ![5632, 2048]⟩
abbrev S_ : Shape := ⟨0, ![]⟩

class Facts : Prop where
  bcast_S_S2048x2048 : S_.BroadcastsInDim S2048x2048 (![] : Fin 0 → Fin S2048x2048.rank)
  bcast_S_S1x2048 : S_.BroadcastsInDim S1x2048 (![] : Fin 0 → Fin S1x2048.rank)
  bcast_S_S2048x11264 : S_.BroadcastsInDim S2048x11264 (![] : Fin 0 → Fin S2048x11264.rank)
  bcast_S_S5632x2048 : S_.BroadcastsInDim S5632x2048 (![] : Fin 0 → Fin S5632x2048.rank)

variable [Facts]

def fn {F : FTy → Type} [FloatOps F] (main_arg0 : FVec F S2048x2048 .f32) (main_arg1 : FVec F S1x2048 .f32) (main_arg2 : FVec F S2048x11264 .f32) (main_arg3 : FVec F S5632x2048 .f32) (main_arg4 : FVec F S2048x2048 .f32) : IVec S2048x2048 1 × IVec S1x2048 1 × IVec S2048x11264 1 × IVec S5632x2048 1 × IVec S2048x2048 1 :=
  let main_v0 : FVec F S2048x2048 .f32 := Host.absf main_arg0
  let main_cst : FVec F S_ .f32 := constant S_ .f32 0x7F800000#32
  let main_v1 : FVec F S2048x2048 .f32 := broadcastInDim S2048x2048 ![] bcast_S_S2048x2048 main_cst
  let main_v2 : IVec S2048x2048 1 := cmpf .olt main_v0 main_v1
  let main_v3 : FVec F S1x2048 .f32 := Host.absf main_arg1
  let main_cst_0 : FVec F S_ .f32 := constant S_ .f32 0x7F800000#32
  let main_v4 : FVec F S1x2048 .f32 := broadcastInDim S1x2048 ![] bcast_S_S1x2048 main_cst_0
  let main_v5 : IVec S1x2048 1 := cmpf .olt main_v3 main_v4
  let main_v6 : FVec F S2048x11264 .f32 := Host.absf main_arg2
  let main_cst_1 : FVec F S_ .f32 := constant S_ .f32 0x7F800000#32
  let main_v7 : FVec F S2048x11264 .f32 := broadcastInDim S2048x11264 ![] bcast_S_S2048x11264 main_cst_1
  let main_v8 : IVec S2048x11264 1 := cmpf .olt main_v6 main_v7
  let main_v9 : FVec F S5632x2048 .f32 := Host.absf main_arg3
  let main_cst_2 : FVec F S_ .f32 := constant S_ .f32 0x7F800000#32
  let main_v10 : FVec F S5632x2048 .f32 := broadcastInDim S5632x2048 ![] bcast_S_S5632x2048 main_cst_2
  let main_v11 : IVec S5632x2048 1 := cmpf .olt main_v9 main_v10
  let main_v12 : FVec F S2048x2048 .f32 := Host.absf main_arg4
  let main_cst_3 : FVec F S_ .f32 := constant S_ .f32 0x7F800000#32
  let main_v13 : FVec F S2048x2048 .f32 := broadcastInDim S2048x2048 ![] bcast_S_S2048x2048 main_cst_3
  let main_v14 : IVec S2048x2048 1 := cmpf .olt main_v12 main_v13
  (main_v2, main_v5, main_v8, main_v11, main_v14)
-- ==== Pre_mix_in_place_named.lean ====
abbrev S1 : Shape := ⟨1, ![1]⟩
abbrev S4x1024x1028 : Shape := ⟨3, ![4, 1024, 1028]⟩
abbrev S3x1024x1028 : Shape := ⟨3, ![3, 1024, 1028]⟩
abbrev S_ : Shape := ⟨0, ![]⟩

class Facts : Prop where
  bcast_S_S1 : S_.BroadcastsInDim S1 (![] : Fin 0 → Fin S1.rank)

variable [Facts]

def fn {F : FTy → Type} [FloatOps F] (main_arg0 : IVec S1 32) (main_arg1 : IVec S1 32) (main_arg2 : FVec F S4x1024x1028 .bf16) (main_arg3 : FVec F S3x1024x1028 .bf16) : IVec S1 1 × IVec S1 1 :=
  let main_c : IVec S_ 32 := constantI S_ 32 0#32
  let main_v0 : IVec S1 32 := broadcastInDim S1 ![] bcast_S_S1 main_c
  let main_v1 : IVec S1 1 := cmpi .sge main_arg0 main_v0
  let main_c_0 : IVec S_ 32 := constantI S_ 32 4#32
  let main_v2 : IVec S1 32 := broadcastInDim S1 ![] bcast_S_S1 main_c_0
  let main_v3 : IVec S1 1 := cmpi .slt main_arg0 main_v2
  let main_v4 : IVec S1 1 := andi main_v1 main_v3
  let main_c_1 : IVec S_ 32 := constantI S_ 32 0#32
  let main_v5 : IVec S1 32 := broadcastInDim S1 ![] bcast_S_S1 main_c_1
  let main_v6 : IVec S1 1 := cmpi .sge main_arg1 main_v5
  let main_c_2 : IVec S_ 32 := constantI S_ 32 1#32
  let main_v7 : IVec S1 32 := broadcastInDim S1 ![] bcast_S_S1 main_c_2
  let main_v8 : IVec S1 1 := cmpi .sle main_arg1 main_v7
  let main_v9 : IVec S1 1 := andi main_v6 main_v8
  (main_v4, main_v9)
-- ==== Pre_mix_out_place_named.lean ====
abbrev S1 : Shape := ⟨1, ![1]⟩
abbrev S4x256x2048 : Shape := ⟨3, ![4, 256, 2048]⟩
abbrev S3x256x2048 : Shape := ⟨3, ![3, 256, 2048]⟩
abbrev S_ : Shape := ⟨0, ![]⟩

class Facts : Prop where
  bcast_S_S1 : S_.BroadcastsInDim S1 (![] : Fin 0 → Fin S1.rank)

variable [Facts]

def fn {F : FTy → Type} [FloatOps F] (main_arg0 : IVec S1 32) (main_arg1 : IVec S1 32) (main_arg2 : FVec F S4x256x2048 .bf16) (main_arg3 : FVec F S3x256x2048 .bf16) : IVec S1 1 × IVec S1 1 :=
  let main_c : IVec S_ 32 := constantI S_ 32 0#32
  let main_v0 : IVec S1 32 := broadcastInDim S1 ![] bcast_S_S1 main_c
  let main_v1 : IVec S1 1 := cmpi .sge main_arg0 main_v0
  let main_c_0 : IVec S_ 32 := constantI S_ 32 4#32
  let main_v2 : IVec S1 32 := broadcastInDim S1 ![] bcast_S_S1 main_c_0
  let main_v3 : IVec S1 1 := cmpi .slt main_arg0 main_v2
  let main_v4 : IVec S1 1 := andi main_v1 main_v3
  let main_c_1 : IVec S_ 32 := constantI S_ 32 0#32
  let main_v5 : IVec S1 32 := broadcastInDim S1 ![] bcast_S_S1 main_c_1
  let main_v6 : IVec S1 1 := cmpi .sge main_arg1 main_v5
  let main_c_2 : IVec S_ 32 := constantI S_ 32 1#32
  let main_v7 : IVec S1 32 := broadcastInDim S1 ![] bcast_S_S1 main_c_2
  let main_v8 : IVec S1 1 := cmpi .sle main_arg1 main_v7
  let main_v9 : IVec S1 1 := andi main_v6 main_v8
  (main_v4, main_v9)
-- ==== Pre_norm_finite.lean ====
abbrev S2048x2048 : Shape := ⟨2, ![2048, 2048]⟩
abbrev S1x2048 : Shape := ⟨2, ![1, 2048]⟩
abbrev S2048x11264 : Shape := ⟨2, ![2048, 11264]⟩
abbrev S2x2048x5632 : Shape := ⟨3, ![2, 2048, 5632]⟩
abbrev S_ : Shape := ⟨0, ![]⟩

class Facts : Prop where
  bitsLt_bf16_f32 : FTy.bits .bf16 < FTy.bits .f32
  bcast_S_S2048x2048 : S_.BroadcastsInDim S2048x2048 (![] : Fin 0 → Fin S2048x2048.rank)
  bcast_S_S1x2048 : S_.BroadcastsInDim S1x2048 (![] : Fin 0 → Fin S1x2048.rank)
  bcast_S_S2048x11264 : S_.BroadcastsInDim S2048x11264 (![] : Fin 0 → Fin S2048x11264.rank)
  bcast_S_S2x2048x5632 : S_.BroadcastsInDim S2x2048x5632 (![] : Fin 0 → Fin S2x2048x5632.rank)

variable [Facts]

def fn {F : FTy → Type} [FloatOps F] (main_arg0 : FVec F S2048x2048 .f32) (main_arg1 : FVec F S1x2048 .f32) (main_arg2 : FVec F S2048x11264 .f32) (main_arg3 : FVec F S2x2048x5632 .bf16) (main_arg4 : FVec F S2048x2048 .f32) : IVec S2048x2048 1 × IVec S1x2048 1 × IVec S2048x11264 1 × IVec S2x2048x5632 1 :=
  let main_v0 : FVec F S2x2048x5632 .f32 := (extf .f32 · bitsLt_bf16_f32) main_arg3
  let main_v1 : FVec F S2048x2048 .f32 := Host.absf main_arg0
  let main_cst : FVec F S_ .f32 := constant S_ .f32 0x7F800000#32
  let main_v2 : FVec F S2048x2048 .f32 := broadcastInDim S2048x2048 ![] bcast_S_S2048x2048 main_cst
  let main_v3 : IVec S2048x2048 1 := cmpf .olt main_v1 main_v2
  let main_v4 : FVec F S1x2048 .f32 := Host.absf main_arg1
  let main_cst_0 : FVec F S_ .f32 := constant S_ .f32 0x7F800000#32
  let main_v5 : FVec F S1x2048 .f32 := broadcastInDim S1x2048 ![] bcast_S_S1x2048 main_cst_0
  let main_v6 : IVec S1x2048 1 := cmpf .olt main_v4 main_v5
  let main_v7 : FVec F S2048x11264 .f32 := Host.absf main_arg2
  let main_cst_1 : FVec F S_ .f32 := constant S_ .f32 0x7F800000#32
  let main_v8 : FVec F S2048x11264 .f32 := broadcastInDim S2048x11264 ![] bcast_S_S2048x11264 main_cst_1
  let main_v9 : IVec S2048x11264 1 := cmpf .olt main_v7 main_v8
  let main_v10 : FVec F S2x2048x5632 .f32 := Host.absf main_v0
  let main_cst_2 : FVec F S_ .f32 := constant S_ .f32 0x7F800000#32
  let main_v11 : FVec F S2x2048x5632 .f32 := broadcastInDim S2x2048x5632 ![] bcast_S_S2x2048x5632 main_cst_2
  let main_v12 : IVec S2x2048x5632 1 := cmpf .olt main_v10 main_v11
  (main_v3, main_v6, main_v9, main_v12)
-- ==== Pre_out_place_named.lean ====
abbrev S1 : Shape := ⟨1, ![1]⟩
abbrev S4x704x2048 : Shape := ⟨3, ![4, 704, 2048]⟩
abbrev S3x704x2048 : Shape := ⟨3, ![3, 704, 2048]⟩
abbrev S_ : Shape := ⟨0, ![]⟩

class Facts : Prop where
  bcast_S_S1 : S_.BroadcastsInDim S1 (![] : Fin 0 → Fin S1.rank)

variable [Facts]

def fn {F : FTy → Type} [FloatOps F] (main_arg0 : IVec S1 32) (main_arg1 : IVec S1 32) (main_arg2 : FVec F S4x704x2048 .bf16) (main_arg3 : FVec F S3x704x2048 .bf16) : IVec S1 1 × IVec S1 1 :=
  let main_c : IVec S_ 32 := constantI S_ 32 0#32
  let main_v0 : IVec S1 32 := broadcastInDim S1 ![] bcast_S_S1 main_c
  let main_v1 : IVec S1 1 := cmpi .sge main_arg0 main_v0
  let main_c_0 : IVec S_ 32 := constantI S_ 32 4#32
  let main_v2 : IVec S1 32 := broadcastInDim S1 ![] bcast_S_S1 main_c_0
  let main_v3 : IVec S1 1 := cmpi .slt main_arg0 main_v2
  let main_v4 : IVec S1 1 := andi main_v1 main_v3
  let main_c_1 : IVec S_ 32 := constantI S_ 32 0#32
  let main_v5 : IVec S1 32 := broadcastInDim S1 ![] bcast_S_S1 main_c_1
  let main_v6 : IVec S1 1 := cmpi .sge main_arg1 main_v5
  let main_c_2 : IVec S_ 32 := constantI S_ 32 1#32
  let main_v7 : IVec S1 32 := broadcastInDim S1 ![] bcast_S_S1 main_c_2
  let main_v8 : IVec S1 1 := cmpi .sle main_arg1 main_v7
  let main_v9 : IVec S1 1 := andi main_v6 main_v8
  (main_v4, main_v9)
-- ==== Pre_own_core_named.lean ====
abbrev S1 : Shape := ⟨1, ![1]⟩
abbrev S2048x2048 : Shape := ⟨2, ![2048, 2048]⟩
abbrev S1x2048 : Shape := ⟨2, ![1, 2048]⟩
abbrev S2x2048x5632 : Shape := ⟨3, ![2, 2048, 5632]⟩
abbrev S4x1024x2816 : Shape := ⟨3, ![4, 1024, 2816]⟩
abbrev S_ : Shape := ⟨0, ![]⟩

class Facts : Prop where
  bcast_S_S1 : S_.BroadcastsInDim S1 (![] : Fin 0 → Fin S1.rank)

variable [Facts]

def fn {F : FTy → Type} [FloatOps F] (main_arg0 : IVec S1 32) (main_arg1 : FVec F S2048x2048 .f32) (main_arg2 : FVec F S1x2048 .f32) (main_arg3 : FVec F S2x2048x5632 .bf16) (main_arg4 : FVec F S4x1024x2816 .bf16) : IVec S1 1 :=
  let main_c : IVec S_ 32 := constantI S_ 32 0#32
  let main_v0 : IVec S1 32 := broadcastInDim S1 ![] bcast_S_S1 main_c
  let main_v1 : IVec S1 1 := cmpi .sge main_arg0 main_v0
  let main_c_0 : IVec S_ 32 := constantI S_ 32 1#32
  let main_v2 : IVec S1 32 := broadcastInDim S1 ![] bcast_S_S1 main_c_0
  let main_v3 : IVec S1 1 := cmpi .sle main_arg0 main_v2
  let main_v4 : IVec S1 1 := andi main_v1 main_v3
  main_v4
-- ==== Pre_pool_place_named.lean ====
abbrev S1 : Shape := ⟨1, ![1]⟩
abbrev S4x128x256 : Shape := ⟨3, ![4, 128, 256]⟩
abbrev S3x128x256 : Shape := ⟨3, ![3, 128, 256]⟩
abbrev S_ : Shape := ⟨0, ![]⟩

class Facts : Prop where
  bcast_S_S1 : S_.BroadcastsInDim S1 (![] : Fin 0 → Fin S1.rank)

variable [Facts]

def fn {F : FTy → Type} [FloatOps F] (main_arg0 : IVec S1 32) (main_arg1 : IVec S1 32) (main_arg2 : FVec F S4x128x256 .bf16) (main_arg3 : FVec F S3x128x256 .bf16) : IVec S1 1 × IVec S1 1 :=
  let main_c : IVec S_ 32 := constantI S_ 32 0#32
  let main_v0 : IVec S1 32 := broadcastInDim S1 ![] bcast_S_S1 main_c
  let main_v1 : IVec S1 1 := cmpi .sge main_arg0 main_v0
  let main_c_0 : IVec S_ 32 := constantI S_ 32 4#32
  let main_v2 : IVec S1 32 := broadcastInDim S1 ![] bcast_S_S1 main_c_0
  let main_v3 : IVec S1 1 := cmpi .slt main_arg0 main_v2
  let main_v4 : IVec S1 1 := andi main_v1 main_v3
  let main_c_1 : IVec S_ 32 := constantI S_ 32 0#32
  let main_v5 : IVec S1 32 := broadcastInDim S1 ![] bcast_S_S1 main_c_1
  let main_v6 : IVec S1 1 := cmpi .sge main_arg1 main_v5
  let main_c_2 : IVec S_ 32 := constantI S_ 32 1#32
  let main_v7 : IVec S1 32 := broadcastInDim S1 ![] bcast_S_S1 main_c_2
  let main_v8 : IVec S1 1 := cmpi .sle main_arg1 main_v7
  let main_v9 : IVec S1 1 := andi main_v6 main_v8
  (main_v4, main_v9)
-- ==== Pre_up_place_named.lean ====
abbrev S1 : Shape := ⟨1, ![1]⟩
abbrev S4x1024x2816 : Shape := ⟨3, ![4, 1024, 2816]⟩
abbrev S3x1024x2816 : Shape := ⟨3, ![3, 1024, 2816]⟩
abbrev S_ : Shape := ⟨0, ![]⟩

class Facts : Prop where
  bcast_S_S1 : S_.BroadcastsInDim S1 (![] : Fin 0 → Fin S1.rank)

variable [Facts]

def fn {F : FTy → Type} [FloatOps F] (main_arg0 : IVec S1 32) (main_arg1 : IVec S1 32) (main_arg2 : FVec F S4x1024x2816 .bf16) (main_arg3 : FVec F S3x1024x2816 .bf16) : IVec S1 1 × IVec S1 1 :=
  let main_c : IVec S_ 32 := constantI S_ 32 0#32
  let main_v0 : IVec S1 32 := broadcastInDim S1 ![] bcast_S_S1 main_c
  let main_v1 : IVec S1 1 := cmpi .sge main_arg0 main_v0
  let main_c_0 : IVec S_ 32 := constantI S_ 32 4#32
  let main_v2 : IVec S1 32 := broadcastInDim S1 ![] bcast_S_S1 main_c_0
  let main_v3 : IVec S1 1 := cmpi .slt main_arg0 main_v2
  let main_v4 : IVec S1 1 := andi main_v1 main_v3
  let main_c_1 : IVec S_ 32 := constantI S_ 32 0#32
  let main_v5 : IVec S1 32 := broadcastInDim S1 ![] bcast_S_S1 main_c_1
  let main_v6 : IVec S1 1 := cmpi .sge main_arg1 main_v5
  let main_c_2 : IVec S_ 32 := constantI S_ 32 1#32
  let main_v7 : IVec S1 32 := broadcastInDim S1 ![] bcast_S_S1 main_c_2
  let main_v8 : IVec S1 1 := cmpi .sle main_arg1 main_v7
  let main_v9 : IVec S1 1 := andi main_v6 main_v8
  (main_v4, main_v9)
-- ==== Kernel.lean ====
abbrev S2048x2048 : Shape := ⟨2, ![2048, 2048]⟩
abbrev S1x2048 : Shape := ⟨2, ![1, 2048]⟩
abbrev S2048x11264 : Shape := ⟨2, ![2048, 11264]⟩
abbrev S5632x2048 : Shape := ⟨2, ![5632, 2048]⟩
abbrev S2048x4x2816 : Shape := ⟨3, ![2048, 4, 2816]⟩
abbrev S4x2048x2816 : Shape := ⟨3, ![4, 2048, 2816]⟩
abbrev S256x2048 : Shape := ⟨2, ![256, 2048]⟩
abbrev S2048x256 : Shape := ⟨2, ![2048, 256]⟩
abbrev S256 : Shape := ⟨1, ![256]⟩
abbrev S256x1 : Shape := ⟨2, ![256, 1]⟩
abbrev S2x2048x5632 : Shape := ⟨3, ![2, 2048, 5632]⟩
abbrev S2048x5632 : Shape := ⟨2, ![2048, 5632]⟩
abbrev S128x2048 : Shape := ⟨2, ![128, 2048]⟩
abbrev S1x2048x2816 : Shape := ⟨3, ![1, 2048, 2816]⟩
abbrev S2x128x2816 : Shape := ⟨3, ![2, 128, 2816]⟩
abbrev S128x2816 : Shape := ⟨2, ![128, 2816]⟩
abbrev S2048x2816 : Shape := ⟨2, ![2048, 2816]⟩
abbrev S1x128x2816 : Shape := ⟨3, ![1, 128, 2816]⟩
abbrev S2048x512 : Shape := ⟨2, ![2048, 512]⟩
abbrev S512x2048 : Shape := ⟨2, ![512, 2048]⟩
abbrev S4x1408x2048 : Shape := ⟨3, ![4, 1408, 2048]⟩
abbrev S2816x2048 : Shape := ⟨2, ![2816, 2048]⟩
abbrev S2x256x2816 : Shape := ⟨3, ![2, 256, 2816]⟩
abbrev S256x2816 : Shape := ⟨2, ![256, 2816]⟩
abbrev S1x256x2816 : Shape := ⟨3, ![1, 256, 2816]⟩

abbrev nBuf : Space → Nat
  | .hbm => 17
  | .vmem => 30
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x11264, .f32⟩
  | .hbm, ⟨3, _⟩ => ⟨S5632x2048, .f32⟩
  | .hbm, ⟨4, _⟩ => ⟨S2048x2048, .f32⟩
  | .hbm, ⟨5, _⟩ => ⟨S2048x4x2816, .f32⟩
  | .hbm, ⟨6, _⟩ => ⟨S4x2048x2816, .f32⟩
  | .hbm, ⟨7, _⟩ => ⟨S4x2048x2816, .bf16⟩
  | .hbm, ⟨8, _⟩ => ⟨S5632x2048, .bf16⟩
  | .hbm, ⟨9, _⟩ => ⟨S2048x2048, .bf16⟩
  | .hbm, ⟨10, _⟩ => ⟨S2048x2048, .bf16⟩
  | .hbm, ⟨11, _⟩ => ⟨S2048x2048, .bf16⟩
  | .hbm, ⟨12, _⟩ => ⟨S2x2048x5632, .bf16⟩
  | .hbm, ⟨13, _⟩ => ⟨S2048x5632, .bf16⟩
  | .hbm, ⟨14, _⟩ => ⟨S5632x2048, .bf16⟩
  | .hbm, ⟨15, _⟩ => ⟨S4x1408x2048, .bf16⟩
  | .hbm, ⟨16, _⟩ => ⟨S2x2048x5632, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .bf16⟩
  | .local _ .vmem, ⟨4, _⟩ => ⟨S256x2048, .bf16⟩
  | .local _ .vmem, ⟨5, _⟩ => ⟨S2048x256, .bf16⟩
  | .local _ .vmem, ⟨6, _⟩ => ⟨S2048x256, .bf16⟩
  | .local _ .vmem, ⟨7, _⟩ => ⟨S128x2048, .bf16⟩
  | .local _ .vmem, ⟨8, _⟩ => ⟨S128x2048, .bf16⟩
  | .local _ .vmem, ⟨9, _⟩ => ⟨S1x2048x2816, .bf16⟩
  | .local _ .vmem, ⟨10, _⟩ => ⟨S1x2048x2816, .bf16⟩
  | .local _ .vmem, ⟨11, _⟩ => ⟨S1x2048x2816, .bf16⟩
  | .local _ .vmem, ⟨12, _⟩ => ⟨S1x2048x2816, .bf16⟩
  | .local _ .vmem, ⟨13, _⟩ => ⟨S2x128x2816, .bf16⟩
  | .local _ .vmem, ⟨14, _⟩ => ⟨S2x128x2816, .bf16⟩
  | .local _ .vmem, ⟨15, _⟩ => ⟨S128x2816, .bf16⟩
  | .local _ .vmem, ⟨16, _⟩ => ⟨S128x2816, .bf16⟩
  | .local _ .vmem, ⟨17, _⟩ => ⟨S2048x512, .bf16⟩
  | .local _ .vmem, ⟨18, _⟩ => ⟨S2048x512, .bf16⟩
  | .local _ .vmem, ⟨19, _⟩ => ⟨S2048x2048, .bf16⟩
  | .local _ .vmem, ⟨20, _⟩ => ⟨S512x2048, .bf16⟩
  | .local _ .vmem, ⟨21, _⟩ => ⟨S512x2048, .bf16⟩
  | .local _ .vmem, ⟨22, _⟩ => ⟨S256x2048, .bf16⟩
  | .local _ .vmem, ⟨23, _⟩ => ⟨S256x2048, .bf16⟩
  | .local _ .vmem, ⟨24, _⟩ => ⟨S2816x2048, .bf16⟩
  | .local _ .vmem, ⟨25, _⟩ => ⟨S2816x2048, .bf16⟩
  | .local _ .vmem, ⟨26, _⟩ => ⟨S2x256x2816, .bf16⟩
  | .local _ .vmem, ⟨27, _⟩ => ⟨S2x256x2816, .bf16⟩
  | .local _ .vmem, ⟨28, _⟩ => ⟨S2x256x2816, .bf16⟩
  | .local _ .vmem, ⟨29, _⟩ => ⟨S2x256x2816, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v6_0 : Ref sig .tc := ⟨.hbm, 12, rfl⟩
abbrev main_v6_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg3_1 : Ref sig .tc := ⟨.vmem, 14, rfl⟩
abbrev cc1_stg4_0 : Ref sig .tc := ⟨.vmem, 15, rfl⟩
abbrev cc1_stg4_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg2_0 : Ref sig .tc := ⟨.vmem, 20, rfl⟩
abbrev cc2_stg2_1 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg1_1 : Ref sig .tc := ⟨.vmem, 25, rfl⟩
abbrev cc3_stg2_0 : Ref sig .tc := ⟨.vmem, 26, rfl⟩
abbrev cc3_stg2_1 : Ref sig .tc := ⟨.vmem, 27, rfl⟩
abbrev cc3_stg3_0 : Ref sig .tc := ⟨.vmem, 28, rfl⟩
abbrev cc3_stg3_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem3_1 : DmaSem sig := 14
abbrev cc1_sem4_0 : DmaSem sig := 15
abbrev cc1_sem4_1 : DmaSem sig := 16
abbrev cc2_sem0_0 : DmaSem sig := 17
abbrev cc2_sem0_1 : DmaSem sig := 18
abbrev cc2_sem1_0 : DmaSem sig := 19
abbrev cc2_sem2_0 : DmaSem sig := 20
abbrev cc2_sem2_1 : DmaSem sig := 21
abbrev cc3_sem0_0 : DmaSem sig := 22
abbrev cc3_sem0_1 : DmaSem sig := 23
abbrev cc3_sem1_0 : DmaSem sig := 24
abbrev cc3_sem1_1 : DmaSem sig := 25
abbrev cc3_sem2_0 : DmaSem sig := 26
abbrev cc3_sem2_1 : DmaSem sig := 27
abbrev cc3_sem3_0 : DmaSem sig := 28
abbrev cc3_sem3_1 : DmaSem sig := 29

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![2, 16], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c1_i32_0 : BitVec 32 := 1#32
  let v1 : BitVec 32 := Scalar.remsi arg0 c1_i32_0
  let c0_i32 : BitVec 32 := 0#32
  let c0_i32_1 : BitVec 32 := 0#32
  ![v0.toNat, c0_i32.toNat, v1.toNat]

def cc1_transform_2 (i : grid1.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c2_i32 : BitVec 32 := 2#32
  let v1 : BitVec 32 := Scalar.addi c2_i32 v0
  let c1_i32_0 : BitVec 32 := 1#32
  let v2 : BitVec 32 := Scalar.remsi arg0 c1_i32_0
  let c0_i32 : BitVec 32 := 0#32
  let c0_i32_1 : BitVec 32 := 0#32
  ![v1.toNat, c0_i32.toNat, v2.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S128x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S1x2048x2816 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x2048x2816 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S2x128x2816 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S128x2816 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev grid2 : Pipeline.Grid := ⟨1, ![11], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2048x512 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S2048x2048 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S512x2048 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨2, ![2, 8], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_2 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc3_transform_4 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

abbrev stage3_0 : Fin 2 → Memref sig .tc .vmem S256x2048 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![false, true]

abbrev stage3_1 : Fin 2 → Memref sig .tc .vmem S2816x2048 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, false]

abbrev stage3_2 : Fin 2 → Memref sig .tc .vmem S2x256x2816 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev stage3_3 : Fin 2 → Memref sig .tc .vmem S2x256x2816 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true]
-- ==== ReferenceIdeal.lean ====
abbrev S2048x2048 : Shape := ⟨2, ![2048, 2048]⟩
abbrev S1x2048 : Shape := ⟨2, ![1, 2048]⟩
abbrev S2048x11264 : Shape := ⟨2, ![2048, 11264]⟩
abbrev S5632x2048 : Shape := ⟨2, ![5632, 2048]⟩
abbrev S2048 : Shape := ⟨1, ![2048]⟩
abbrev S_ : Shape := ⟨0, ![]⟩
abbrev S2048x1 : Shape := ⟨2, ![2048, 1]⟩
abbrev S2048x5632 : Shape := ⟨2, ![2048, 5632]⟩
abbrev S2048x2x5632 : Shape := ⟨3, ![2048, 2, 5632]⟩
abbrev S2x2048x5632 : Shape := ⟨3, ![2, 2048, 5632]⟩
abbrev S4x1408x2048 : Shape := ⟨3, ![4, 1408, 2048]⟩

abbrev nBuf : Space → Nat
  | .hbm => 65
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x11264, .f32⟩
  | .hbm, ⟨3, _⟩ => ⟨S5632x2048, .f32⟩
  | .hbm, ⟨4, _⟩ => ⟨S2048x2048, .f32⟩
  | .hbm, ⟨5, _⟩ => ⟨S2048, .f32⟩
  | .hbm, ⟨6, _⟩ => ⟨S2048x2048, .f32⟩
  | .hbm, ⟨7, _⟩ => ⟨S_, .f32⟩
  | .hbm, ⟨8, _⟩ => ⟨S2048, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S2048x2048, .f32⟩
  | .hbm, ⟨18, _⟩ => ⟨S2048x2048, .f32⟩
  | .hbm, ⟨19, _⟩ => ⟨S1x2048, .f32⟩
  | .hbm, ⟨20, _⟩ => ⟨S2048x2048, .f32⟩
  | .hbm, ⟨21, _⟩ => ⟨S2048x2048, .f32⟩
  | .hbm, ⟨22, _⟩ => ⟨S2048x11264, .f32⟩
  | .hbm, ⟨23, _⟩ => ⟨S2048x5632, .f32⟩
  | .hbm, ⟨24, _⟩ => ⟨S2048x5632, .f32⟩
  | .hbm, ⟨25, _⟩ => ⟨S2048x5632, .f32⟩
  | .hbm, ⟨26, _⟩ => ⟨S2048x5632, .f32⟩
  | .hbm, ⟨27, _⟩ => ⟨S_, .f32⟩
  | .hbm, ⟨28, _⟩ => ⟨S2048x5632, .f32⟩
  | .hbm, ⟨29, _⟩ => ⟨S2048x5632, .f32⟩
  | .hbm, ⟨30, _⟩ => ⟨S_, .f32⟩
  | .hbm, ⟨31, _⟩ => ⟨S2048x5632, .f32⟩
  | .hbm, ⟨32, _⟩ => ⟨S2048x5632, .f32⟩
  | .hbm, ⟨33, _⟩ => ⟨S_, .f32⟩
  | .hbm, ⟨34, _⟩ => ⟨S2048x5632, .f32⟩
  | .hbm, ⟨35, _⟩ => ⟨S2048x5632, .f32⟩
  | .hbm, ⟨36, _⟩ => ⟨S2048x5632, .f32⟩
  | .hbm, ⟨37, _⟩ => ⟨S2048x5632, .f32⟩
  | .hbm, ⟨38, _⟩ => ⟨S2048x5632, .f32⟩
  | .hbm, ⟨39, _⟩ => ⟨S2048x2048, .f32⟩
  | .hbm, ⟨40, _⟩ => ⟨S_, .f32⟩
  | .hbm, ⟨41, _⟩ => ⟨S2048x2048, .f32⟩
  | .hbm, ⟨42, _⟩ => ⟨S2048x2048, .f32⟩
  | .hbm, ⟨43, _⟩ => ⟨S_, .f32⟩
  | .hbm, ⟨44, _⟩ => ⟨S2048x2048, .f32⟩
  | .hbm, ⟨45, _⟩ => ⟨S2048x2048, .f32⟩
  | .hbm, ⟨46, _⟩ => ⟨S2048x5632, .f32⟩
  | .hbm, ⟨47, _⟩ => ⟨S5632x2048, .f32⟩
  | .hbm, ⟨48, _⟩ => ⟨S2048x5632, .f32⟩
  | .hbm, ⟨49, _⟩ => ⟨S2048x5632, .f32⟩
  | .hbm, ⟨50, _⟩ => ⟨S2048x5632, .f32⟩
  | .hbm, ⟨51, _⟩ => ⟨S2048x5632, .f32⟩
  | .hbm, ⟨52, _⟩ => ⟨S2048x5632, .f32⟩
  | .hbm, ⟨53, _⟩ => ⟨S2048x5632, .f32⟩
  | .hbm, ⟨54, _⟩ => ⟨S2048x5632, .f32⟩
  | .hbm, ⟨55, _⟩ => ⟨S_, .f32⟩
  | .hbm, ⟨56, _⟩ => ⟨S2048x11264, .f32⟩
  | .hbm, ⟨57, _⟩ => ⟨S_, .f32⟩
  | .hbm, ⟨58, _⟩ => ⟨S2048x11264, .f32⟩
  | .hbm, ⟨59, _⟩ => ⟨S2048x11264, .f32⟩
  | .hbm, ⟨60, _⟩ => ⟨S2048x2x5632, .f32⟩
  | .hbm, ⟨61, _⟩ => ⟨S2x2048x5632, .f32⟩
  | .hbm, ⟨62, _⟩ => ⟨S2x2048x5632, .bf16⟩
  | .hbm, ⟨63, _⟩ => ⟨S4x1408x2048, .f32⟩
  | .hbm, ⟨64, _⟩ => ⟨S4x1408x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_call0_v0 : Ref sig .tc := ⟨.hbm, 25, rfl⟩
abbrev main_call0_v1 : Ref sig .tc := ⟨.hbm, 26, rfl⟩
abbrev main_call0_cst : Ref sig .tc := ⟨.hbm, 27, rfl⟩
abbrev main_call0_v2 : Ref sig .tc := ⟨.hbm, 28, rfl⟩
abbrev main_call0_v3 : Ref sig .tc := ⟨.hbm, 29, rfl⟩
abbrev main_call0_cst_0 : Ref sig .tc := ⟨.hbm, 30, rfl⟩
abbrev main_call0_v4 : Ref sig .tc := ⟨.hbm, 31, rfl⟩
abbrev main_v17_2 : Ref sig .tc := ⟨.hbm, 32, rfl⟩
abbrev main_call0_cst_1 : Ref sig .tc := ⟨.hbm, 33, rfl⟩
abbrev main_call0_v6 : Ref sig .tc := ⟨.hbm, 34, rfl⟩
abbrev main_call0_v7 : Ref sig .tc := ⟨.hbm, 35, rfl⟩
abbrev main_v17_1 : Ref sig .tc := ⟨.hbm, 36, rfl⟩
abbrev main_v17_0 : Ref sig .tc := ⟨.hbm, 37, rfl⟩
abbrev main_v18 : Ref sig .tc := ⟨.hbm, 38, rfl⟩
abbrev main_v19 : Ref sig .tc := ⟨.hbm, 39, rfl⟩
abbrev main_cst_2 : Ref sig .tc := ⟨.hbm, 40, rfl⟩
abbrev main_v20 : Ref sig .tc := ⟨.hbm, 41, rfl⟩
abbrev main_v21 : Ref sig .tc := ⟨.hbm, 42, rfl⟩
abbrev main_cst_3 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_call1_v0 : Ref sig .tc := ⟨.hbm, 51, rfl⟩
abbrev main_call1_v1 : Ref sig .tc := ⟨.hbm, 52, rfl⟩
abbrev main_call1_v2 : Ref sig .tc := ⟨.hbm, 53, rfl⟩
abbrev main_v29 : Ref sig .tc := ⟨.hbm, 54, rfl⟩
abbrev main_cst_4 : Ref sig .tc := ⟨.hbm, 55, rfl⟩
abbrev main_v30 : Ref sig .tc := ⟨.hbm, 56, rfl⟩
abbrev main_cst_5 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩

abbrev nD : Nat := 1
abbrev τ : Topo := Topo.v7x

variable {F : FTy → Type} [FloatOps F]
-- ==== Norm.lean ====
abbrev S2048x2048 : Shape := ⟨2, ![2048, 2048]⟩
abbrev S1x2048 : Shape := ⟨2, ![1, 2048]⟩
abbrev S2048x11264 : Shape := ⟨2, ![2048, 11264]⟩
abbrev S2x2048x5632 : Shape := ⟨3, ![2, 2048, 5632]⟩
abbrev S2048x4x2816 : Shape := ⟨3, ![2048, 4, 2816]⟩
abbrev S4x2048x2816 : Shape := ⟨3, ![4, 2048, 2816]⟩
abbrev S1x512x2816 : Shape := ⟨3, ![1, 512, 2816]⟩
abbrev S1x2048x2816 : Shape := ⟨3, ![1, 2048, 2816]⟩
abbrev S512x2048 : Shape := ⟨2, ![512, 2048]⟩
abbrev S512x2816 : Shape := ⟨2, ![512, 2816]⟩
abbrev S2048x2816 : Shape := ⟨2, ![2048, 2816]⟩
abbrev S64x2048 : Shape := ⟨2, ![64, 2048]⟩
abbrev S64 : Shape := ⟨1, ![64]⟩
abbrev S64x1 : Shape := ⟨2, ![64, 1]⟩
abbrev S2048 : Shape := ⟨1, ![2048]⟩

abbrev nBuf : Space → Nat
  | .hbm => 11
  | .vmem => 13
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x11264, .f32⟩
  | .hbm, ⟨3, _⟩ => ⟨S2x2048x5632, .bf16⟩
  | .hbm, ⟨4, _⟩ => ⟨S2048x2048, .f32⟩
  | .hbm, ⟨5, _⟩ => ⟨S2048x4x2816, .f32⟩
  | .hbm, ⟨6, _⟩ => ⟨S4x2048x2816, .f32⟩
  | .hbm, ⟨7, _⟩ => ⟨S4x2048x2816, .bf16⟩
  | .hbm, ⟨8, _⟩ => ⟨S2048x2048, .f32⟩
  | .hbm, ⟨9, _⟩ => ⟨S2048x2048, .bf16⟩
  | .hbm, ⟨10, _⟩ => ⟨S1x2048, .f32⟩
  | .local _ .vmem, ⟨0, _⟩ => ⟨S1x512x2816, .bf16⟩
  | .local _ .vmem, ⟨1, _⟩ => ⟨S1x512x2816, .bf16⟩
  | .local _ .vmem, ⟨2, _⟩ => ⟨S1x2048x2816, .bf16⟩
  | .local _ .vmem, ⟨3, _⟩ => ⟨S1x2048x2816, .bf16⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | .local _ .vmem, ⟨7, _⟩ => ⟨S512x2048, .f32⟩
  | .local _ .vmem, ⟨8, _⟩ => ⟨S1x2048, .f32⟩
  | .local _ .vmem, ⟨9, _⟩ => ⟨S512x2048, .f32⟩
  | .local _ .vmem, ⟨10, _⟩ => ⟨S512x2048, .bf16⟩
  | .local _ .vmem, ⟨11, _⟩ => ⟨S1x2048, .f32⟩
  | .local _ .vmem, ⟨12, _⟩ => ⟨S512x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11

abbrev nD : Nat := 1
abbrev τ : Topo := Topo.v7x

variable {F : FTy → Type} [FloatOps F]

abbrev grid0 : Pipeline.Grid := ⟨2, ![4, 4], ![false, false]⟩

def k0_cond3 (i : grid0.Coords) : BitVec 1 :=
  let arg1 : BitVec 32 := BitVec.ofNat 32 (i 1).val
  let c3_i32 : BitVec 32 := 3#32
  let v18 : BitVec 1 := Scalar.cmpi .eq arg1 c3_i32
  let v19 : BitVec 32 := Scalar.extui v18
  let c0_i32_13 : BitVec 32 := 0#32
  let v20 : BitVec 1 := Scalar.cmpi .ne v19 c0_i32_13
  v20

@[reducible] def k0_t1_loop : Scf.Loop 32 :=
  let c0_i32_19 : BitVec 32 := 0#32
  let c8_i32 : BitVec 32 := 8#32
  let v25 : BitVec 32 := Scalar.addi c0_i32_19 c8_i32
  let c1_i32 : BitVec 32 := 1#32
  ⟨c0_i32_19, v25, c1_i32⟩
def k0_mult1 (k0_t1 : Fin k0_t1_loop.trips) : BitVec 32 :=
  let c0_i32_19 : BitVec 32 := 0#32
  let c1_i32 : BitVec 32 := 1#32
  let arg11 : BitVec 32 := Scf.iv c0_i32_19 c1_i32 k0_t1
  let c64_i32 : BitVec 32 := 64#32
  let v29 : BitVec 32 := Scalar.muli arg11 c64_i32
  v29
def k0_off1 (k0_t1 : Fin k0_t1_loop.trips) : Fin 2 → Nat :=
  let c0_i32_19 : BitVec 32 := 0#32
  let c1_i32 : BitVec 32 := 1#32
  let arg11 : BitVec 32 := Scf.iv c0_i32_19 c1_i32 k0_t1
  let c64_i32 : BitVec 32 := 64#32
  let v29 : BitVec 32 := Scalar.muli arg11 c64_i32
  let v30 : BitVec 32 := v29
  let v31 : Index := Scalar.indexCast v30
  let c0_23 : Index := 0#32
  ![v31.toNat, 0]
def k0_cond2 (i : grid0.Coords) : BitVec 1 :=
  let arg0 : BitVec 32 := BitVec.ofNat 32 (i 0).val
  let c0_i32_10 : BitVec 32 := 0#32
  let v13 : BitVec 1 := Scalar.cmpi .eq arg0 c0_i32_10
  let arg1 : BitVec 32 := BitVec.ofNat 32 (i 1).val
  let c0_i32_11 : BitVec 32 := 0#32
  let v14 : BitVec 1 := Scalar.cmpi .eq arg1 c0_i32_11
  let v15 : BitVec 1 := Scalar.andi v13 v14
  let v16 : BitVec 32 := Scalar.extui v15
  let c0_i32_12 : BitVec 32 := 0#32
  let v17 : BitVec 1 := Scalar.cmpi .ne v16 c0_i32_12
  v17

def cc0_transform_0 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c2_i32_0 : BitVec 32 := 2#32
  let v1 : BitVec 32 := Scalar.remsi arg1 c2_i32_0
  let c0_i32 : BitVec 32 := 0#32
  ![v0.toNat, arg0.toNat, v1.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c1_i32_0 : BitVec 32 := 1#32
  let v1 : BitVec 32 := Scalar.remsi arg1 c1_i32_0
  let c0_i32 : BitVec 32 := 0#32
  let c0_i32_1 : BitVec 32 := 0#32
  ![v0.toNat, c0_i32.toNat, v1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S512x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]

abbrev stage0_6 : Fin 1 → Memref sig .tc .vmem S512x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]
-- ==== NormRefIdeal.lean ====
abbrev S2048x2048 : Shape := ⟨2, ![2048, 2048]⟩
abbrev S1x2048 : Shape := ⟨2, ![1, 2048]⟩
abbrev S2048x11264 : Shape := ⟨2, ![2048, 11264]⟩
abbrev S2x2048x5632 : Shape := ⟨3, ![2, 2048, 5632]⟩
abbrev S2048x2x5632 : Shape := ⟨3, ![2048, 2, 5632]⟩
abbrev S2048 : Shape := ⟨1, ![2048]⟩
abbrev S_ : Shape := ⟨0, ![]⟩
abbrev S2048x1 : Shape := ⟨2, ![2048, 1]⟩

abbrev nBuf : Space → Nat
  | .hbm => 59
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x11264, .f32⟩
  | .hbm, ⟨3, _⟩ => ⟨S2x2048x5632, .bf16⟩
  | .hbm, ⟨4, _⟩ => ⟨S2048x2048, .f32⟩
  | .hbm, ⟨5, _⟩ => ⟨S2x2048x5632, .f32⟩
  | .hbm, ⟨6, _⟩ => ⟨S2048x2x5632, .f32⟩
  | .hbm, ⟨7, _⟩ => ⟨S2048x11264, .f32⟩
  | .hbm, ⟨8, _⟩ => ⟨S2048, .f32⟩
  | .hbm, ⟨9, _⟩ => ⟨S2048x2048, .f32⟩
  | .hbm, ⟨10, _⟩ => ⟨S_, .f32⟩
  | .hbm, ⟨11, _⟩ => ⟨S2048, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S2048x1, .f32⟩
  | .hbm, ⟨20, _⟩ => ⟨S2048x1, .f32⟩
  | .hbm, ⟨21, _⟩ => ⟨S_, .f32⟩
  | .hbm, ⟨22, _⟩ => ⟨S2048x1, .f32⟩
  | .hbm, ⟨23, _⟩ => ⟨S2048x1, .f32⟩
  | .hbm, ⟨24, _⟩ => ⟨S2048x2048, .f32⟩
  | .hbm, ⟨25, _⟩ => ⟨S2048x2048, .f32⟩
  | .hbm, ⟨26, _⟩ => ⟨S1x2048, .f32⟩
  | .hbm, ⟨27, _⟩ => ⟨S2048x2048, .f32⟩
  | .hbm, ⟨28, _⟩ => ⟨S2048x2048, .f32⟩
  | .hbm, ⟨29, _⟩ => ⟨S2048x11264, .f32⟩
  | .hbm, ⟨30, _⟩ => ⟨S2048x2048, .f32⟩
  | .hbm, ⟨31, _⟩ => ⟨S2048x2048, .f32⟩
  | .hbm, ⟨32, _⟩ => ⟨S_, .f32⟩
  | .hbm, ⟨33, _⟩ => ⟨S2048, .f32⟩
  | .hbm, ⟨34, _⟩ => ⟨S1x2048, .f32⟩
  | .hbm, ⟨35, _⟩ => ⟨S2048x2048, .f32⟩
  | .hbm, ⟨36, _⟩ => ⟨S2048x2048, .f32⟩
  | .hbm, ⟨37, _⟩ => ⟨S_, .f32⟩
  | .hbm, ⟨38, _⟩ => ⟨S2048, .f32⟩
  | .hbm, ⟨39, _⟩ => ⟨S2048x2048, .f32⟩
  | .hbm, ⟨40, _⟩ => ⟨S_, .f32⟩
  | .hbm, ⟨41, _⟩ => ⟨S2048, .f32⟩
  | .hbm, ⟨42, _⟩ => ⟨S2048x1, .f32⟩
  | .hbm, ⟨43, _⟩ => ⟨S2048x2048, .f32⟩
  | .hbm, ⟨44, _⟩ => ⟨S2048x2048, .f32⟩
  | .hbm, ⟨45, _⟩ => ⟨S2048x2048, .f32⟩
  | .hbm, ⟨46, _⟩ => ⟨S2048x1, .f32⟩
  | .hbm, ⟨47, _⟩ => ⟨S_, .f32⟩
  | .hbm, ⟨48, _⟩ => ⟨S2048x1, .f32⟩
  | .hbm, ⟨49, _⟩ => ⟨S2048x1, .f32⟩
  | .hbm, ⟨50, _⟩ => ⟨S_, .f32⟩
  | .hbm, ⟨51, _⟩ => ⟨S2048, .f32⟩
  | .hbm, ⟨52, _⟩ => ⟨S2048x2048, .f32⟩
  | .hbm, ⟨53, _⟩ => ⟨S2048x2048, .f32⟩
  | .hbm, ⟨54, _⟩ => ⟨S2048x2048, .f32⟩
  | .hbm, ⟨55, _⟩ => ⟨S2048x2048, .f32⟩
  | .hbm, ⟨56, _⟩ => ⟨S2048x2048, .f32⟩
  | .hbm, ⟨57, _⟩ => ⟨S1x2048, .f32⟩
  | .hbm, ⟨58, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_v28 : Ref sig .tc := ⟨.hbm, 39, rfl⟩
abbrev main_cst_5 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_6 : Ref sig .tc := ⟨.hbm, 47, rfl⟩
abbrev main_v35 : Ref sig .tc := ⟨.hbm, 48, rfl⟩
abbrev main_v36 : Ref sig .tc := ⟨.hbm, 49, rfl⟩
abbrev main_cst_7 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩

abbrev nD : Nat := 1
abbrev τ : Topo := Topo.v7x

variable {F : FTy → Type} [FloatOps F]
-- ==== Down.lean ====
abbrev S2048x5632 : Shape := ⟨2, ![2048, 5632]⟩
abbrev S5632x2048 : Shape := ⟨2, ![5632, 2048]⟩
abbrev S2048x2048 : Shape := ⟨2, ![2048, 2048]⟩
abbrev S512x2816 : Shape := ⟨2, ![512, 2816]⟩
abbrev S2816x2048 : Shape := ⟨2, ![2816, 2048]⟩
abbrev S512x2048 : Shape := ⟨2, ![512, 2048]⟩

abbrev nBuf : Space → Nat
  | .hbm => 5
  | .vmem => 9
  | .smem => 0
  | _ => 0

abbrev bufTy : (tb : Table) → Fin (tcTables nBuf tb) → BufTy
  | .hbm, ⟨0, _⟩ => ⟨S2048x5632, .bf16⟩
  | .hbm, ⟨1, _⟩ => ⟨S5632x2048, .f32⟩
  | .hbm, ⟨2, _⟩ => ⟨S2048x2048, .f32⟩
  | .hbm, ⟨3, _⟩ => ⟨S5632x2048, .bf16⟩
  | .hbm, ⟨4, _⟩ => ⟨S2048x2048, .f32⟩
  | .local _ .vmem, ⟨0, _⟩ => ⟨S512x2816, .bf16⟩
  | .local _ .vmem, ⟨1, _⟩ => ⟨S512x2816, .bf16⟩
  | .local _ .vmem, ⟨2, _⟩ => ⟨S2816x2048, .bf16⟩
  | .local _ .vmem, ⟨3, _⟩ => ⟨S2816x2048, .bf16⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .f32⟩
  | _, _ => ⟨S2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 1, 2], ![false, false, false]⟩

def k0_cond2 (i : grid0.Coords) : BitVec 1 :=
  let arg2 : BitVec 32 := BitVec.ofNat 32 (i 2).val
  let c1_i32 : BitVec 32 := 1#32
  let v12 : BitVec 1 := Scalar.cmpi .eq arg2 c1_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DownRefIdeal.lean ====
abbrev S2048x5632 : Shape := ⟨2, ![2048, 5632]⟩
abbrev S5632x2048 : Shape := ⟨2, ![5632, 2048]⟩
abbrev S2048x2048 : Shape := ⟨2, ![2048, 2048]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S2048x5632, .bf16⟩
  | .hbm, ⟨1, _⟩ => ⟨S5632x2048, .f32⟩
  | .hbm, ⟨2, _⟩ => ⟨S2048x2048, .f32⟩
  | .hbm, ⟨3, _⟩ => ⟨S2048x5632, .f32⟩
  | .hbm, ⟨4, _⟩ => ⟨S2048x2048, .f32⟩
  | .hbm, ⟨5, _⟩ => ⟨S_, .f32⟩
  | .hbm, ⟨6, _⟩ => ⟨S2048x2048, .f32⟩
  | .hbm, ⟨7, _⟩ => ⟨S2048x2048, .f32⟩
  | .hbm, ⟨8, _⟩ => ⟨S2048x2048, .f32⟩
  | _, _ => ⟨S2048x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Sent.lean ====
abbrev S1 : Shape := ⟨1, ![1]⟩
abbrev S2048x2048 : Shape := ⟨2, ![2048, 2048]⟩
abbrev S1x2048 : Shape := ⟨2, ![1, 2048]⟩
abbrev S2x2048x5632 : Shape := ⟨3, ![2, 2048, 5632]⟩
abbrev S2048 : Shape := ⟨1, ![2048]⟩
abbrev S_ : Shape := ⟨0, ![]⟩
abbrev S2048x1 : Shape := ⟨2, ![2048, 1]⟩
abbrev S4x1024x2816 : Shape := ⟨3, ![4, 1024, 2816]⟩
abbrev S1024x2048 : Shape := ⟨2, ![1024, 2048]⟩
abbrev S1x2048x2816 : Shape := ⟨3, ![1, 2048, 2816]⟩
abbrev S1x1024x2816 : Shape := ⟨3, ![1, 1024, 2816]⟩
abbrev S2048x2816 : Shape := ⟨2, ![2048, 2816]⟩
abbrev S1024x2816 : Shape := ⟨2, ![1024, 2816]⟩

abbrev nBuf : Space → Nat
  | .hbm => 26
  | .vmem => 5
  | .smem => 1
  | _ => 0

abbrev bufTy : (tb : Table) → Fin (tcTables nBuf tb) → BufTy
  | .hbm, ⟨0, _⟩ => ⟨S1, .i32⟩
  | .hbm, ⟨1, _⟩ => ⟨S2048x2048, .f32⟩
  | .hbm, ⟨2, _⟩ => ⟨S1x2048, .f32⟩
  | .hbm, ⟨3, _⟩ => ⟨S2x2048x5632, .bf16⟩
  | .hbm, ⟨4, _⟩ => ⟨S2048, .f32⟩
  | .hbm, ⟨5, _⟩ => ⟨S2048x2048, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S2048x2048, .f32⟩
  | .hbm, ⟨17, _⟩ => ⟨S2048x2048, .f32⟩
  | .hbm, ⟨18, _⟩ => ⟨S1x2048, .f32⟩
  | .hbm, ⟨19, _⟩ => ⟨S2048x2048, .f32⟩
  | .hbm, ⟨20, _⟩ => ⟨S2048x2048, .f32⟩
  | .hbm, ⟨21, _⟩ => ⟨S2048x2048, .f32⟩
  | .hbm, ⟨22, _⟩ => ⟨S2048x2048, .bf16⟩
  | .hbm, ⟨23, _⟩ => ⟨S_, .i32⟩
  | .hbm, ⟨24, _⟩ => ⟨S1, .i32⟩
  | .hbm, ⟨25, _⟩ => ⟨S4x1024x2816, .bf16⟩
  | .local _ .vmem, ⟨0, _⟩ => ⟨S1024x2048, .bf16⟩
  | .local _ .vmem, ⟨1, _⟩ => ⟨S1x2048x2816, .bf16⟩
  | .local _ .vmem, ⟨2, _⟩ => ⟨S1x2048x2816, .bf16⟩
  | .local _ .vmem, ⟨3, _⟩ => ⟨S1x1024x2816, .bf16⟩
  | .local _ .vmem, ⟨4, _⟩ => ⟨S1x1024x2816, .bf16⟩
  | .local _ .smem, ⟨0, _⟩ => ⟨S1, .i32⟩
  | _, _ => ⟨S1, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_c : Ref sig .tc := ⟨.hbm, 23, rfl⟩
abbrev main_v16 : Ref sig .tc := ⟨.hbm, 24, rfl⟩
abbrev main_v18 : Ref sig .tc := ⟨.hbm, 25, rfl⟩
abbrev main_v17 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

abbrev pre0 : Pipeline.Prefetch sig := ⟨1, ![main_v17.idx], fun | 0 => main_v17.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, c0_i32.toNat]

def cc0_transform_1 (i : grid0.Coords) : Fin 3 → Nat :=
  let arg0 : BitVec 32 := BitVec.ofNat 32 (i 0).val
  let c2_i32 : BitVec 32 := 2#32
  let v0 : BitVec 32 := Scalar.divsi arg0 c2_i32
  let c2_i32_0 : BitVec 32 := 2#32
  let v1 : BitVec 32 := Scalar.remsi arg0 c2_i32_0
  let c0_i32 : BitVec 32 := 0#32
  let c0_i32_1 : BitVec 32 := 0#32
  ![v0.toNat, c0_i32.toNat, v1.toNat]

def cc0_transform_2 (i : grid0.Coords) : Fin 3 → Nat :=
  let arg0 : BitVec 32 := BitVec.ofNat 32 (i 0).val
  let c1_i32 : BitVec 32 := 1#32
  let v0 : BitVec 32 := Scalar.divsi arg0 c1_i32
  let c1_i32_0 : BitVec 32 := 1#32
  let v1 : BitVec 32 := Scalar.remsi arg0 c1_i32_0
  let c0_i32 : BitVec 32 := 0#32
  let c0_i32_1 : BitVec 32 := 0#32
  ![v0.toNat, c0_i32.toNat, v1.toNat]

abbrev stage0_0 : Fin 1 → Memref sig .tc .vmem S1024x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x2048x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== SentRefIdeal.lean ====
abbrev S1 : Shape := ⟨1, ![1]⟩
abbrev S2048x2048 : Shape := ⟨2, ![2048, 2048]⟩
abbrev S1x2048 : Shape := ⟨2, ![1, 2048]⟩
abbrev S2x2048x5632 : Shape := ⟨3, ![2, 2048, 5632]⟩
abbrev S2048x2x5632 : Shape := ⟨3, ![2048, 2, 5632]⟩
abbrev S2048x11264 : Shape := ⟨2, ![2048, 11264]⟩
abbrev S_ : Shape := ⟨0, ![]⟩
abbrev S2048 : Shape := ⟨1, ![2048]⟩
abbrev S2048x1 : Shape := ⟨2, ![2048, 1]⟩
abbrev S11264x2048 : Shape := ⟨2, ![11264, 2048]⟩
abbrev S2x1024x4x2816 : Shape := ⟨4, ![2, 1024, 4, 2816]⟩
abbrev S1x1024x4x2816 : Shape := ⟨4, ![1, 1024, 4, 2816]⟩
abbrev S1024x4x2816 : Shape := ⟨3, ![1024, 4, 2816]⟩
abbrev S4x1024x2816 : Shape := ⟨3, ![4, 1024, 2816]⟩

abbrev nBuf : Space → Nat
  | .hbm => 40
  | .vmem => 0
  | .smem => 0
  | _ => 0

abbrev bufTy : (tb : Table) → Fin (tcTables nBuf tb) → BufTy
  | .hbm, ⟨0, _⟩ => ⟨S1, .i32⟩
  | .hbm, ⟨1, _⟩ => ⟨S2048x2048, .f32⟩
  | .hbm, ⟨2, _⟩ => ⟨S1x2048, .f32⟩
  | .hbm, ⟨3, _⟩ => ⟨S2x2048x5632, .bf16⟩
  | .hbm, ⟨4, _⟩ => ⟨S2x2048x5632, .f32⟩
  | .hbm, ⟨5, _⟩ => ⟨S2048x2x5632, .f32⟩
  | .hbm, ⟨6, _⟩ => ⟨S2048x11264, .f32⟩
  | .hbm, ⟨7, _⟩ => ⟨S_, .f32⟩
  | .hbm, ⟨8, _⟩ => ⟨S2048x11264, .f32⟩
  | .hbm, ⟨9, _⟩ => ⟨S2048, .f32⟩
  | .hbm, ⟨10, _⟩ => ⟨S2048x2048, .f32⟩
  | .hbm, ⟨11, _⟩ => ⟨S_, .f32⟩
  | .hbm, ⟨12, _⟩ => ⟨S2048, .f32⟩
  | .hbm, ⟨13, _⟩ => ⟨S2048x1, .f32⟩
  | .hbm, ⟨14, _⟩ => ⟨S_, .f32⟩
  | .hbm, ⟨15, _⟩ => ⟨S2048x1, .f32⟩
  | .hbm, ⟨16, _⟩ => ⟨S2048x1, .f32⟩
  | .hbm, ⟨17, _⟩ => ⟨S_, .f32⟩
  | .hbm, ⟨18, _⟩ => ⟨S2048x1, .f32⟩
  | .hbm, ⟨19, _⟩ => ⟨S2048x1, .f32⟩
  | .hbm, ⟨20, _⟩ => ⟨S2048x1, .f32⟩
  | .hbm, ⟨21, _⟩ => ⟨S2048x2048, .f32⟩
  | .hbm, ⟨22, _⟩ => ⟨S2048x2048, .f32⟩
  | .hbm, ⟨23, _⟩ => ⟨S1x2048, .f32⟩
  | .hbm, ⟨24, _⟩ => ⟨S2048x2048, .f32⟩
  | .hbm, ⟨25, _⟩ => ⟨S2048x2048, .f32⟩
  | .hbm, ⟨26, _⟩ => ⟨S2048x11264, .f32⟩
  | .hbm, ⟨27, _⟩ => ⟨S11264x2048, .f32⟩
  | .hbm, ⟨28, _⟩ => ⟨S2048x11264, .f32⟩
  | .hbm, ⟨29, _⟩ => ⟨S2x1024x4x2816, .f32⟩
  | .hbm, ⟨30, _⟩ => ⟨S_, .i32⟩
  | .hbm, ⟨31, _⟩ => ⟨S_, .i32⟩
  | .hbm, ⟨32, _⟩ => ⟨S_, .i1⟩
  | .hbm, ⟨33, _⟩ => ⟨S1x1024x4x2816, .f32⟩
  | .hbm, ⟨34, _⟩ => ⟨S1024x4x2816, .f32⟩
  | .hbm, ⟨35, _⟩ => ⟨S1x1024x4x2816, .f32⟩
  | .hbm, ⟨36, _⟩ => ⟨S1024x4x2816, .f32⟩
  | .hbm, ⟨37, _⟩ => ⟨S1024x4x2816, .f32⟩
  | .hbm, ⟨38, _⟩ => ⟨S4x1024x2816, .f32⟩
  | .hbm, ⟨39, _⟩ => ⟨S4x1024x2816, .bf16⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_c : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩

abbrev nD : Nat := 1
abbrev τ : Topo := Topo.v7x

variable {F : FTy → Type} [FloatOps F]
-- ==== Kept.lean ====
abbrev S1 : Shape := ⟨1, ![1]⟩
abbrev S2048x2048 : Shape := ⟨2, ![2048, 2048]⟩
abbrev S1x2048 : Shape := ⟨2, ![1, 2048]⟩
abbrev S2x2048x5632 : Shape := ⟨3, ![2, 2048, 5632]⟩
abbrev S4x1024x2816 : Shape := ⟨3, ![4, 1024, 2816]⟩
abbrev S2048 : Shape := ⟨1, ![2048]⟩
abbrev S_ : Shape := ⟨0, ![]⟩
abbrev S2048x1 : Shape := ⟨2, ![2048, 1]⟩
abbrev S1024x2048 : Shape := ⟨2, ![1024, 2048]⟩
abbrev S1x2048x2816 : Shape := ⟨3, ![1, 2048, 2816]⟩
abbrev S1x1024x2816 : Shape := ⟨3, ![1, 1024, 2816]⟩
abbrev S2048x2816 : Shape := ⟨2, ![2048, 2816]⟩
abbrev S1024x2816 : Shape := ⟨2, ![1024, 2816]⟩

abbrev nBuf : Space → Nat
  | .hbm => 24
  | .vmem => 7
  | .smem => 1
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2x2048x5632, .bf16⟩
  | .hbm, ⟨3, _⟩ => ⟨S4x1024x2816, .bf16⟩
  | .hbm, ⟨4, _⟩ => ⟨S2048, .f32⟩
  | .hbm, ⟨5, _⟩ => ⟨S2048x2048, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S2048x2048, .f32⟩
  | .hbm, ⟨17, _⟩ => ⟨S2048x2048, .f32⟩
  | .hbm, ⟨18, _⟩ => ⟨S1x2048, .f32⟩
  | .hbm, ⟨19, _⟩ => ⟨S2048x2048, .f32⟩
  | .hbm, ⟨20, _⟩ => ⟨S2048x2048, .f32⟩
  | .hbm, ⟨21, _⟩ => ⟨S2048x2048, .f32⟩
  | .hbm, ⟨22, _⟩ => ⟨S2048x2048, .bf16⟩
  | .hbm, ⟨23, _⟩ => ⟨S4x1024x2816, .bf16⟩
  | .local _ .vmem, ⟨0, _⟩ => ⟨S1024x2048, .bf16⟩
  | .local _ .vmem, ⟨1, _⟩ => ⟨S1x2048x2816, .bf16⟩
  | .local _ .vmem, ⟨2, _⟩ => ⟨S1x2048x2816, .bf16⟩
  | .local _ .vmem, ⟨3, _⟩ => ⟨S1x1024x2816, .bf16⟩
  | .local _ .vmem, ⟨4, _⟩ => ⟨S1x1024x2816, .bf16⟩
  | .local _ .vmem, ⟨5, _⟩ => ⟨S1x1024x2816, .bf16⟩
  | .local _ .vmem, ⟨6, _⟩ => ⟨S1x1024x2816, .bf16⟩
  | .local _ .smem, ⟨0, _⟩ => ⟨S1, .i32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_arg0 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![4], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, c0_i32.toNat]

def cc0_transform_1 (i : grid0.Coords) : Fin 3 → Nat :=
  let arg0 : BitVec 32 := BitVec.ofNat 32 (i 0).val
  let c2_i32 : BitVec 32 := 2#32
  let v0 : BitVec 32 := Scalar.divsi arg0 c2_i32
  let c2_i32_0 : BitVec 32 := 2#32
  let v1 : BitVec 32 := Scalar.remsi arg0 c2_i32_0
  let c0_i32 : BitVec 32 := 0#32
  let c0_i32_1 : BitVec 32 := 0#32
  ![v0.toNat, c0_i32.toNat, v1.toNat]

def cc0_transform_2 (i : grid0.Coords) : Fin 3 → Nat :=
  let arg0 : BitVec 32 := BitVec.ofNat 32 (i 0).val
  let c1_i32 : BitVec 32 := 1#32
  let v0 : BitVec 32 := Scalar.divsi arg0 c1_i32
  let c1_i32_0 : BitVec 32 := 1#32
  let v1 : BitVec 32 := Scalar.remsi arg0 c1_i32_0
  let c0_i32 : BitVec 32 := 0#32
  let c0_i32_1 : BitVec 32 := 0#32
  ![v0.toNat, c0_i32.toNat, v1.toNat]

def cc0_transform_3 (i : grid0.Coords) : Fin 3 → Nat :=
  let arg0 : BitVec 32 := BitVec.ofNat 32 (i 0).val
  let c1_i32 : BitVec 32 := 1#32
  let v0 : BitVec 32 := Scalar.divsi arg0 c1_i32
  let c1_i32_0 : BitVec 32 := 1#32
  let v1 : BitVec 32 := Scalar.remsi arg0 c1_i32_0
  let c0_i32 : BitVec 32 := 0#32
  let c0_i32_1 : BitVec 32 := 0#32
  ![v0.toNat, c0_i32.toNat, v1.toNat]

abbrev stage0_0 : Fin 1 → Memref sig .tc .vmem S1024x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x2048x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== KeptRefIdeal.lean ====
abbrev S1 : Shape := ⟨1, ![1]⟩
abbrev S2048x2048 : Shape := ⟨2, ![2048, 2048]⟩
abbrev S1x2048 : Shape := ⟨2, ![1, 2048]⟩
abbrev S2x2048x5632 : Shape := ⟨3, ![2, 2048, 5632]⟩
abbrev S4x1024x2816 : Shape := ⟨3, ![4, 1024, 2816]⟩
abbrev S2048x2x5632 : Shape := ⟨3, ![2048, 2, 5632]⟩
abbrev S2048x11264 : Shape := ⟨2, ![2048, 11264]⟩
abbrev S_ : Shape := ⟨0, ![]⟩
abbrev S2048 : Shape := ⟨1, ![2048]⟩
abbrev S2048x1 : Shape := ⟨2, ![2048, 1]⟩
abbrev S11264x2048 : Shape := ⟨2, ![11264, 2048]⟩
abbrev S2x1024x4x2816 : Shape := ⟨4, ![2, 1024, 4, 2816]⟩
abbrev S1x1024x4x2816 : Shape := ⟨4, ![1, 1024, 4, 2816]⟩
abbrev S1024x4x2816 : Shape := ⟨3, ![1024, 4, 2816]⟩

abbrev nBuf : Space → Nat
  | .hbm => 43
  | .vmem => 0
  | .smem => 0
  | _ => 0

abbrev bufTy : (tb : Table) → Fin (tcTables nBuf tb) → BufTy
  | .hbm, ⟨0, _⟩ => ⟨S1, .i32⟩
  | .hbm, ⟨1, _⟩ => ⟨S2048x2048, .f32⟩
  | .hbm, ⟨2, _⟩ => ⟨S1x2048, .f32⟩
  | .hbm, ⟨3, _⟩ => ⟨S2x2048x5632, .bf16⟩
  | .hbm, ⟨4, _⟩ => ⟨S4x1024x2816, .bf16⟩
  | .hbm, ⟨5, _⟩ => ⟨S2x2048x5632, .f32⟩
  | .hbm, ⟨6, _⟩ => ⟨S2048x2x5632, .f32⟩
  | .hbm, ⟨7, _⟩ => ⟨S2048x11264, .f32⟩
  | .hbm, ⟨8, _⟩ => ⟨S_, .f32⟩
  | .hbm, ⟨9, _⟩ => ⟨S2048x11264, .f32⟩
  | .hbm, ⟨10, _⟩ => ⟨S2048, .f32⟩
  | .hbm, ⟨11, _⟩ => ⟨S2048x2048, .f32⟩
  | .hbm, ⟨12, _⟩ => ⟨S_, .f32⟩
  | .hbm, ⟨13, _⟩ => ⟨S2048, .f32⟩
  | .hbm, ⟨14, _⟩ => ⟨S2048x1, .f32⟩
  | .hbm, ⟨15, _⟩ => ⟨S_, .f32⟩
  | .hbm, ⟨16, _⟩ => ⟨S2048x1, .f32⟩
  | .hbm, ⟨17, _⟩ => ⟨S2048x1, .f32⟩
  | .hbm, ⟨18, _⟩ => ⟨S_, .f32⟩
  | .hbm, ⟨19, _⟩ => ⟨S2048x1, .f32⟩
  | .hbm, ⟨20, _⟩ => ⟨S2048x1, .f32⟩
  | .hbm, ⟨21, _⟩ => ⟨S2048x1, .f32⟩
  | .hbm, ⟨22, _⟩ => ⟨S2048x2048, .f32⟩
  | .hbm, ⟨23, _⟩ => ⟨S2048x2048, .f32⟩
  | .hbm, ⟨24, _⟩ => ⟨S1x2048, .f32⟩
  | .hbm, ⟨25, _⟩ => ⟨S2048x2048, .f32⟩
  | .hbm, ⟨26, _⟩ => ⟨S2048x2048, .f32⟩
  | .hbm, ⟨27, _⟩ => ⟨S2048x11264, .f32⟩
  | .hbm, ⟨28, _⟩ => ⟨S11264x2048, .f32⟩
  | .hbm, ⟨29, _⟩ => ⟨S2048x11264, .f32⟩
  | .hbm, ⟨30, _⟩ => ⟨S2x1024x4x2816, .f32⟩
  | .hbm, ⟨31, _⟩ => ⟨S_, .i32⟩
  | .hbm, ⟨32, _⟩ => ⟨S_, .i32⟩
  | .hbm, ⟨33, _⟩ => ⟨S_, .i1⟩
  | .hbm, ⟨34, _⟩ => ⟨S1x1024x4x2816, .f32⟩
  | .hbm, ⟨35, _⟩ => ⟨S1024x4x2816, .f32⟩
  | .hbm, ⟨36, _⟩ => ⟨S1x1024x4x2816, .f32⟩
  | .hbm, ⟨37, _⟩ => ⟨S1024x4x2816, .f32⟩
  | .hbm, ⟨38, _⟩ => ⟨S1024x4x2816, .f32⟩
  | .hbm, ⟨39, _⟩ => ⟨S4x1024x2816, .f32⟩
  | .hbm, ⟨40, _⟩ => ⟨S4x1024x2816, .f32⟩
  | .hbm, ⟨41, _⟩ => ⟨S4x1024x2816, .f32⟩
  | .hbm, ⟨42, _⟩ => ⟨S4x1024x2816, .bf16⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_c : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩

abbrev nD : Nat := 1
abbrev τ : Topo := Topo.v7x

variable {F : FTy → Type} [FloatOps F]
-- ==== Gla.lean ====
abbrev S2048x4224 : Shape := ⟨2, ![2048, 4224]⟩
abbrev S2048x1024 : Shape := ⟨2, ![2048, 1024]⟩
abbrev S32x4x256x128 : Shape := ⟨4, ![32, 4, 256, 128]⟩
abbrev S2048x2048 : Shape := ⟨2, ![2048, 2048]⟩
abbrev S128x512 : Shape := ⟨2, ![128, 512]⟩
abbrev S1x512 : Shape := ⟨2, ![1, 512]⟩
abbrev S1x256 : Shape := ⟨2, ![1, 256]⟩
abbrev S256x512 : Shape := ⟨2, ![256, 512]⟩
abbrev S256x1024 : Shape := ⟨2, ![256, 1024]⟩
abbrev S256x128 : Shape := ⟨2, ![256, 128]⟩
abbrev S4x4x256x128 : Shape := ⟨4, ![4, 4, 256, 128]⟩
abbrev S256x4224 : Shape := ⟨2, ![256, 4224]⟩
abbrev S4x256x128 : Shape := ⟨3, ![4, 256, 128]⟩
abbrev S64x64 : Shape := ⟨2, ![64, 64]⟩
abbrev S64x128 : Shape := ⟨2, ![64, 128]⟩
abbrev S128 : Shape := ⟨1, ![128]⟩
abbrev S1x128 : Shape := ⟨2, ![1, 128]⟩
abbrev S64x256 : Shape := ⟨2, ![64, 256]⟩
abbrev S64 : Shape := ⟨1, ![64]⟩
abbrev S64x1 : Shape := ⟨2, ![64, 1]⟩
abbrev S256 : Shape := ⟨1, ![256]⟩
abbrev S1x1x256x128 : Shape := ⟨4, ![1, 1, 256, 128]⟩
abbrev S1x256x128 : Shape := ⟨3, ![1, 256, 128]⟩
abbrev S512 : Shape := ⟨1, ![512]⟩

abbrev nBuf : Space → Nat
  | .hbm => 12
  | .vmem => 28
  | .smem => 0
  | _ => 0

abbrev bufTy : (tb : Table) → Fin (tcTables nBuf tb) → BufTy
  | .hbm, ⟨0, _⟩ => ⟨S2048x4224, .f32⟩
  | .hbm, ⟨1, _⟩ => ⟨S2048x1024, .f32⟩
  | .hbm, ⟨2, _⟩ => ⟨S32x4x256x128, .f32⟩
  | .hbm, ⟨3, _⟩ => ⟨S2048x2048, .f32⟩
  | .hbm, ⟨4, _⟩ => ⟨S2048x1024, .bf16⟩
  | .hbm, ⟨5, _⟩ => ⟨S128x512, .bf16⟩
  | .hbm, ⟨6, _⟩ => ⟨S1x512, .f32⟩
  | .hbm, ⟨7, _⟩ => ⟨S1x256, .f32⟩
  | .hbm, ⟨8, _⟩ => ⟨S2048x4224, .bf16⟩
  | .hbm, ⟨9, _⟩ => ⟨S128x512, .f32⟩
  | .hbm, ⟨10, _⟩ => ⟨S1x512, .f32⟩
  | .hbm, ⟨11, _⟩ => ⟨S1x256, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x128, .f32⟩
  | .local _ .vmem, ⟨9, _⟩ => ⟨S256x128, .f32⟩
  | .local _ .vmem, ⟨10, _⟩ => ⟨S256x1024, .f32⟩
  | .local _ .vmem, ⟨11, _⟩ => ⟨S256x1024, .f32⟩
  | .local _ .vmem, ⟨12, _⟩ => ⟨S4x4x256x128, .f32⟩
  | .local _ .vmem, ⟨13, _⟩ => ⟨S4x4x256x128, .f32⟩
  | .local _ .vmem, ⟨14, _⟩ => ⟨S256x1024, .f32⟩
  | .local _ .vmem, ⟨15, _⟩ => ⟨S256x1024, .f32⟩
  | .local _ .vmem, ⟨16, _⟩ => ⟨S256x1024, .bf16⟩
  | .local _ .vmem, ⟨17, _⟩ => ⟨S256x1024, .bf16⟩
  | .local _ .vmem, ⟨18, _⟩ => ⟨S128x512, .bf16⟩
  | .local _ .vmem, ⟨19, _⟩ => ⟨S1x512, .f32⟩
  | .local _ .vmem, ⟨20, _⟩ => ⟨S1x256, .f32⟩
  | .local _ .vmem, ⟨21, _⟩ => ⟨S256x4224, .bf16⟩
  | .local _ .vmem, ⟨22, _⟩ => ⟨S256x4224, .bf16⟩
  | .local _ .vmem, ⟨23, _⟩ => ⟨S128x512, .f32⟩
  | .local _ .vmem, ⟨24, _⟩ => ⟨S1x512, .f32⟩
  | .local _ .vmem, ⟨25, _⟩ => ⟨S1x256, .f32⟩
  | .local _ .vmem, ⟨26, _⟩ => ⟨S4x256x128, .f32⟩
  | .local _ .vmem, ⟨27, _⟩ => ⟨S256x512, .f32⟩
  | _, _ => ⟨S2048x4224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg14_0 : Ref sig .tc := ⟨.vmem, 24, rfl⟩
abbrev cc0_stg15_0 : Ref sig .tc := ⟨.vmem, 25, rfl⟩
abbrev cc0_scratch0 : Ref sig .tc := ⟨.vmem, 26, rfl⟩
abbrev cc0_scratch1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem12_0 : DmaSem sig := 21
abbrev cc0_sem12_1 : DmaSem sig := 22
abbrev cc0_sem13_0 : DmaSem sig := 23
abbrev cc0_sem14_0 : DmaSem sig := 24
abbrev cc0_sem15_0 : DmaSem sig := 25

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c7_i32 : BitVec 32 := 7#32
  let v0 : BitVec 32 := Scalar.subi c7_i32 arg0
  let c2_i32 : BitVec 32 := 2#32
  let c0_i32 : BitVec 32 := 0#32
  ![v0.toNat, c2_i32.toNat]

def cc0_transform_1 (i : grid0.Coords) : Fin 2 → Nat :=
  let arg0 : BitVec 32 := BitVec.ofNat 32 (i 0).val
  let c7_i32 : BitVec 32 := 7#32
  let v0 : BitVec 32 := Scalar.subi c7_i32 arg0
  let c3_i32 : BitVec 32 := 3#32
  let c0_i32 : BitVec 32 := 0#32
  ![v0.toNat, c3_i32.toNat]

def cc0_transform_2 (i : grid0.Coords) : Fin 2 → Nat :=
  let arg0 : BitVec 32 := BitVec.ofNat 32 (i 0).val
  let c7_i32 : BitVec 32 := 7#32
  let v0 : BitVec 32 := Scalar.subi c7_i32 arg0
  let c2_i32 : BitVec 32 := 2#32
  let c0_i32 : BitVec 32 := 0#32
  ![v0.toNat, c2_i32.toNat]

def cc0_transform_3 (i : grid0.Coords) : Fin 2 → Nat :=
  let arg0 : BitVec 32 := BitVec.ofNat 32 (i 0).val
  let c7_i32 : BitVec 32 := 7#32
  let v0 : BitVec 32 := Scalar.subi c7_i32 arg0
  let c3_i32 : BitVec 32 := 3#32
  let c0_i32 : BitVec 32 := 0#32
  ![v0.toNat, c3_i32.toNat]

def cc0_transform_4 (i : grid0.Coords) : Fin 2 → Nat :=
  let arg0 : BitVec 32 := BitVec.ofNat 32 (i 0).val
  let c7_i32 : BitVec 32 := 7#32
  let v0 : BitVec 32 := Scalar.subi c7_i32 arg0
  let c32_i32 : BitVec 32 := 32#32
  let c0_i32 : BitVec 32 := 0#32
  ![v0.toNat, c32_i32.toNat]

def cc0_transform_5 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_6 (i : grid0.Coords) : Fin 4 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_7 (i : grid0.Coords) : Fin 2 → Nat :=
  let arg0 : BitVec 32 := BitVec.ofNat 32 (i 0).val
  let c7_i32 : BitVec 32 := 7#32
  let v0 : BitVec 32 := Scalar.subi c7_i32 arg0
  let c1_i32 : BitVec 32 := 1#32
  let c0_i32 : BitVec 32 := 0#32
  ![v0.toNat, c1_i32.toNat]

def cc0_transform_8 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4x4x256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S128x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S256x4224 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S128x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x256 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== AdamUp.lean ====
abbrev S2048x2816 : Shape := ⟨2, ![2048, 2816]⟩
abbrev S8x128 : Shape := ⟨2, ![8, 128]⟩
abbrev S128x2816 : Shape := ⟨2, ![128, 2816]⟩

abbrev nBuf : Space → Nat
  | .hbm => 9
  | .vmem => 16
  | .smem => 0
  | _ => 0

abbrev bufTy : (tb : Table) → Fin (tcTables nBuf tb) → BufTy
  | .hbm, ⟨0, _⟩ => ⟨S2048x2816, .f32⟩
  | .hbm, ⟨1, _⟩ => ⟨S2048x2816, .f32⟩
  | .hbm, ⟨2, _⟩ => ⟨S2048x2816, .f32⟩
  | .hbm, ⟨3, _⟩ => ⟨S2048x2816, .f32⟩
  | .hbm, ⟨4, _⟩ => ⟨S8x128, .f32⟩
  | .hbm, ⟨5, _⟩ => ⟨S2048x2816, .f32⟩
  | .hbm, ⟨6, _⟩ => ⟨S2048x2816, .f32⟩
  | .hbm, ⟨7, _⟩ => ⟨S2048x2816, .f32⟩
  | .hbm, ⟨8, _⟩ => ⟨S2048x2816, .f32⟩
  | .local _ .vmem, ⟨0, _⟩ => ⟨S128x2816, .f32⟩
  | .local _ .vmem, ⟨1, _⟩ => ⟨S128x2816, .f32⟩
  | .local _ .vmem, ⟨2, _⟩ => ⟨S128x2816, .f32⟩
  | .local _ .vmem, ⟨3, _⟩ => ⟨S128x2816, .f32⟩
  | .local _ .vmem, ⟨4, _⟩ => ⟨S128x2816, .f32⟩
  | .local _ .vmem, ⟨5, _⟩ => ⟨S128x2816, .f32⟩
  | .local _ .vmem, ⟨6, _⟩ => ⟨S128x2816, .f32⟩
  | .local _ .vmem, ⟨7, _⟩ => ⟨S128x2816, .f32⟩
  | .local _ .vmem, ⟨8, _⟩ => ⟨S128x2816, .f32⟩
  | .local _ .vmem, ⟨9, _⟩ => ⟨S128x2816, .f32⟩
  | .local _ .vmem, ⟨10, _⟩ => ⟨S128x2816, .f32⟩
  | .local _ .vmem, ⟨11, _⟩ => ⟨S128x2816, .f32⟩
  | .local _ .vmem, ⟨12, _⟩ => ⟨S128x2816, .f32⟩
  | .local _ .vmem, ⟨13, _⟩ => ⟨S128x2816, .f32⟩
  | .local _ .vmem, ⟨14, _⟩ => ⟨S128x2816, .f32⟩
  | .local _ .vmem, ⟨15, _⟩ => ⟨S128x2816, .f32⟩
  | _, _ => ⟨S2048x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2816 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2816 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2816 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2816 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2816 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2816 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2816 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x2816 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamUpIdeal.lean ====
abbrev S2048x2816 : Shape := ⟨2, ![2048, 2816]⟩
abbrev S8x128 : Shape := ⟨2, ![8, 128]⟩
abbrev S128x2816 : Shape := ⟨2, ![128, 2816]⟩

abbrev nBuf : Space → Nat
  | .hbm => 9
  | .vmem => 16
  | .smem => 0
  | _ => 0

abbrev bufTy : (tb : Table) → Fin (tcTables nBuf tb) → BufTy
  | .hbm, ⟨0, _⟩ => ⟨S2048x2816, .f32⟩
  | .hbm, ⟨1, _⟩ => ⟨S2048x2816, .f32⟩
  | .hbm, ⟨2, _⟩ => ⟨S2048x2816, .f32⟩
  | .hbm, ⟨3, _⟩ => ⟨S2048x2816, .f32⟩
  | .hbm, ⟨4, _⟩ => ⟨S8x128, .f32⟩
  | .hbm, ⟨5, _⟩ => ⟨S2048x2816, .f32⟩
  | .hbm, ⟨6, _⟩ => ⟨S2048x2816, .f32⟩
  | .hbm, ⟨7, _⟩ => ⟨S2048x2816, .f32⟩
  | .hbm, ⟨8, _⟩ => ⟨S2048x2816, .f32⟩
  | .local _ .vmem, ⟨0, _⟩ => ⟨S128x2816, .f32⟩
  | .local _ .vmem, ⟨1, _⟩ => ⟨S128x2816, .f32⟩
  | .local _ .vmem, ⟨2, _⟩ => ⟨S128x2816, .f32⟩
  | .local _ .vmem, ⟨3, _⟩ => ⟨S128x2816, .f32⟩
  | .local _ .vmem, ⟨4, _⟩ => ⟨S128x2816, .f32⟩
  | .local _ .vmem, ⟨5, _⟩ => ⟨S128x2816, .f32⟩
  | .local _ .vmem, ⟨6, _⟩ => ⟨S128x2816, .f32⟩
  | .local _ .vmem, ⟨7, _⟩ => ⟨S128x2816, .f32⟩
  | .local _ .vmem, ⟨8, _⟩ => ⟨S128x2816, .f32⟩
  | .local _ .vmem, ⟨9, _⟩ => ⟨S128x2816, .f32⟩
  | .local _ .vmem, ⟨10, _⟩ => ⟨S128x2816, .f32⟩
  | .local _ .vmem, ⟨11, _⟩ => ⟨S128x2816, .f32⟩
  | .local _ .vmem, ⟨12, _⟩ => ⟨S128x2816, .f32⟩
  | .local _ .vmem, ⟨13, _⟩ => ⟨S128x2816, .f32⟩
  | .local _ .vmem, ⟨14, _⟩ => ⟨S128x2816, .f32⟩
  | .local _ .vmem, ⟨15, _⟩ => ⟨S128x2816, .f32⟩
  | _, _ => ⟨S2048x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2816 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2816 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2816 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2816 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2816 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2816 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2816 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x2816 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamUpRefIdeal.lean ====
abbrev S2048x2816 : Shape := ⟨2, ![2048, 2816]⟩
abbrev S8x128 : Shape := ⟨2, ![8, 128]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S2048x2816, .f32⟩
  | .hbm, ⟨1, _⟩ => ⟨S2048x2816, .f32⟩
  | .hbm, ⟨2, _⟩ => ⟨S2048x2816, .f32⟩
  | .hbm, ⟨3, _⟩ => ⟨S2048x2816, .f32⟩
  | .hbm, ⟨4, _⟩ => ⟨S8x128, .f32⟩
  | .hbm, ⟨5, _⟩ => ⟨S_, .f32⟩
  | .hbm, ⟨6, _⟩ => ⟨S2048x2816, .f32⟩
  | .hbm, ⟨7, _⟩ => ⟨S2048x2816, .f32⟩
  | .hbm, ⟨8, _⟩ => ⟨S_, .f32⟩
  | .hbm, ⟨9, _⟩ => ⟨S2048x2816, .f32⟩
  | .hbm, ⟨10, _⟩ => ⟨S2048x2816, .f32⟩
  | .hbm, ⟨11, _⟩ => ⟨S2048x2816, .f32⟩
  | .hbm, ⟨12, _⟩ => ⟨S_, .f32⟩
  | .hbm, ⟨13, _⟩ => ⟨S2048x2816, .f32⟩
  | .hbm, ⟨14, _⟩ => ⟨S2048x2816, .f32⟩
  | .hbm, ⟨15, _⟩ => ⟨S2048x2816, .f32⟩
  | .hbm, ⟨16, _⟩ => ⟨S_, .f32⟩
  | .hbm, ⟨17, _⟩ => ⟨S2048x2816, .f32⟩
  | .hbm, ⟨18, _⟩ => ⟨S2048x2816, .f32⟩
  | .hbm, ⟨19, _⟩ => ⟨S2048x2816, .f32⟩
  | .hbm, ⟨20, _⟩ => ⟨S_, .f32⟩
  | .hbm, ⟨21, _⟩ => ⟨S2048x2816, .f32⟩
  | .hbm, ⟨22, _⟩ => ⟨S2048x2816, .f32⟩
  | .hbm, ⟨23, _⟩ => ⟨S_, .f32⟩
  | .hbm, ⟨24, _⟩ => ⟨S2048x2816, .f32⟩
  | .hbm, ⟨25, _⟩ => ⟨S2048x2816, .f32⟩
  | .hbm, ⟨26, _⟩ => ⟨S2048x2816, .f32⟩
  | .hbm, ⟨27, _⟩ => ⟨S_, .f32⟩
  | .hbm, ⟨28, _⟩ => ⟨S2048x2816, .f32⟩
  | .hbm, ⟨29, _⟩ => ⟨S2048x2816, .f32⟩
  | .hbm, ⟨30, _⟩ => ⟨S2048x2816, .f32⟩
  | .hbm, ⟨31, _⟩ => ⟨S_, .f32⟩
  | .hbm, ⟨32, _⟩ => ⟨S2048x2816, .f32⟩
  | .hbm, ⟨33, _⟩ => ⟨S2048x2816, .f32⟩
  | .hbm, ⟨34, _⟩ => ⟨S2048x2816, .f32⟩
  | .hbm, ⟨35, _⟩ => ⟨S_, .f32⟩
  | .hbm, ⟨36, _⟩ => ⟨S2048x2816, .f32⟩
  | .hbm, ⟨37, _⟩ => ⟨S2048x2816, .f32⟩
  | _, _ => ⟨S2048x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_cst_4 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_6 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_7 : Ref sig .tc := ⟨.hbm, 35, rfl⟩
abbrev main_v22 : Ref sig .tc := ⟨.hbm, 36, rfl⟩
abbrev main_v23 : Ref sig .tc := ⟨.hbm, 37, rfl⟩

abbrev nD : Nat := 1
abbrev τ : Topo := Topo.v7x

variable {F : FTy → Type} [FloatOps F]
-- ==== AdamDown.lean ====
abbrev S1408x2048 : Shape := ⟨2, ![1408, 2048]⟩
abbrev S8x128 : Shape := ⟨2, ![8, 128]⟩
abbrev S176x2048 : Shape := ⟨2, ![176, 2048]⟩

abbrev nBuf : Space → Nat
  | .hbm => 9
  | .vmem => 16
  | .smem => 0
  | _ => 0

abbrev bufTy : (tb : Table) → Fin (tcTables nBuf tb) → BufTy
  | .hbm, ⟨0, _⟩ => ⟨S1408x2048, .f32⟩
  | .hbm, ⟨1, _⟩ => ⟨S1408x2048, .f32⟩
  | .hbm, ⟨2, _⟩ => ⟨S1408x2048, .f32⟩
  | .hbm, ⟨3, _⟩ => ⟨S1408x2048, .f32⟩
  | .hbm, ⟨4, _⟩ => ⟨S8x128, .f32⟩
  | .hbm, ⟨5, _⟩ => ⟨S1408x2048, .f32⟩
  | .hbm, ⟨6, _⟩ => ⟨S1408x2048, .f32⟩
  | .hbm, ⟨7, _⟩ => ⟨S1408x2048, .f32⟩
  | .hbm, ⟨8, _⟩ => ⟨S1408x2048, .f32⟩
  | .local _ .vmem, ⟨0, _⟩ => ⟨S176x2048, .f32⟩
  | .local _ .vmem, ⟨1, _⟩ => ⟨S176x2048, .f32⟩
  | .local _ .vmem, ⟨2, _⟩ => ⟨S176x2048, .f32⟩
  | .local _ .vmem, ⟨3, _⟩ => ⟨S176x2048, .f32⟩
  | .local _ .vmem, ⟨4, _⟩ => ⟨S176x2048, .f32⟩
  | .local _ .vmem, ⟨5, _⟩ => ⟨S176x2048, .f32⟩
  | .local _ .vmem, ⟨6, _⟩ => ⟨S176x2048, .f32⟩
  | .local _ .vmem, ⟨7, _⟩ => ⟨S176x2048, .f32⟩
  | .local _ .vmem, ⟨8, _⟩ => ⟨S176x2048, .f32⟩
  | .local _ .vmem, ⟨9, _⟩ => ⟨S176x2048, .f32⟩
  | .local _ .vmem, ⟨10, _⟩ => ⟨S176x2048, .f32⟩
  | .local _ .vmem, ⟨11, _⟩ => ⟨S176x2048, .f32⟩
  | .local _ .vmem, ⟨12, _⟩ => ⟨S176x2048, .f32⟩
  | .local _ .vmem, ⟨13, _⟩ => ⟨S176x2048, .f32⟩
  | .local _ .vmem, ⟨14, _⟩ => ⟨S176x2048, .f32⟩
  | .local _ .vmem, ⟨15, _⟩ => ⟨S176x2048, .f32⟩
  | _, _ => ⟨S1408x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S176x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S176x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamDownIdeal.lean ====
abbrev S1408x2048 : Shape := ⟨2, ![1408, 2048]⟩
abbrev S8x128 : Shape := ⟨2, ![8, 128]⟩
abbrev S176x2048 : Shape := ⟨2, ![176, 2048]⟩

abbrev nBuf : Space → Nat
  | .hbm => 9
  | .vmem => 16
  | .smem => 0
  | _ => 0

abbrev bufTy : (tb : Table) → Fin (tcTables nBuf tb) → BufTy
  | .hbm, ⟨0, _⟩ => ⟨S1408x2048, .f32⟩
  | .hbm, ⟨1, _⟩ => ⟨S1408x2048, .f32⟩
  | .hbm, ⟨2, _⟩ => ⟨S1408x2048, .f32⟩
  | .hbm, ⟨3, _⟩ => ⟨S1408x2048, .f32⟩
  | .hbm, ⟨4, _⟩ => ⟨S8x128, .f32⟩
  | .hbm, ⟨5, _⟩ => ⟨S1408x2048, .f32⟩
  | .hbm, ⟨6, _⟩ => ⟨S1408x2048, .f32⟩
  | .hbm, ⟨7, _⟩ => ⟨S1408x2048, .f32⟩
  | .hbm, ⟨8, _⟩ => ⟨S1408x2048, .f32⟩
  | .local _ .vmem, ⟨0, _⟩ => ⟨S176x2048, .f32⟩
  | .local _ .vmem, ⟨1, _⟩ => ⟨S176x2048, .f32⟩
  | .local _ .vmem, ⟨2, _⟩ => ⟨S176x2048, .f32⟩
  | .local _ .vmem, ⟨3, _⟩ => ⟨S176x2048, .f32⟩
  | .local _ .vmem, ⟨4, _⟩ => ⟨S176x2048, .f32⟩
  | .local _ .vmem, ⟨5, _⟩ => ⟨S176x2048, .f32⟩
  | .local _ .vmem, ⟨6, _⟩ => ⟨S176x2048, .f32⟩
  | .local _ .vmem, ⟨7, _⟩ => ⟨S176x2048, .f32⟩
  | .local _ .vmem, ⟨8, _⟩ => ⟨S176x2048, .f32⟩
  | .local _ .vmem, ⟨9, _⟩ => ⟨S176x2048, .f32⟩
  | .local _ .vmem, ⟨10, _⟩ => ⟨S176x2048, .f32⟩
  | .local _ .vmem, ⟨11, _⟩ => ⟨S176x2048, .f32⟩
  | .local _ .vmem, ⟨12, _⟩ => ⟨S176x2048, .f32⟩
  | .local _ .vmem, ⟨13, _⟩ => ⟨S176x2048, .f32⟩
  | .local _ .vmem, ⟨14, _⟩ => ⟨S176x2048, .f32⟩
  | .local _ .vmem, ⟨15, _⟩ => ⟨S176x2048, .f32⟩
  | _, _ => ⟨S1408x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S176x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S176x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamDownRefIdeal.lean ====
abbrev S1408x2048 : Shape := ⟨2, ![1408, 2048]⟩
abbrev S8x128 : Shape := ⟨2, ![8, 128]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S1408x2048, .f32⟩
  | .hbm, ⟨1, _⟩ => ⟨S1408x2048, .f32⟩
  | .hbm, ⟨2, _⟩ => ⟨S1408x2048, .f32⟩
  | .hbm, ⟨3, _⟩ => ⟨S1408x2048, .f32⟩
  | .hbm, ⟨4, _⟩ => ⟨S8x128, .f32⟩
  | .hbm, ⟨5, _⟩ => ⟨S_, .f32⟩
  | .hbm, ⟨6, _⟩ => ⟨S1408x2048, .f32⟩
  | .hbm, ⟨7, _⟩ => ⟨S1408x2048, .f32⟩
  | .hbm, ⟨8, _⟩ => ⟨S_, .f32⟩
  | .hbm, ⟨9, _⟩ => ⟨S1408x2048, .f32⟩
  | .hbm, ⟨10, _⟩ => ⟨S1408x2048, .f32⟩
  | .hbm, ⟨11, _⟩ => ⟨S1408x2048, .f32⟩
  | .hbm, ⟨12, _⟩ => ⟨S_, .f32⟩
  | .hbm, ⟨13, _⟩ => ⟨S1408x2048, .f32⟩
  | .hbm, ⟨14, _⟩ => ⟨S1408x2048, .f32⟩
  | .hbm, ⟨15, _⟩ => ⟨S1408x2048, .f32⟩
  | .hbm, ⟨16, _⟩ => ⟨S_, .f32⟩
  | .hbm, ⟨17, _⟩ => ⟨S1408x2048, .f32⟩
  | .hbm, ⟨18, _⟩ => ⟨S1408x2048, .f32⟩
  | .hbm, ⟨19, _⟩ => ⟨S1408x2048, .f32⟩
  | .hbm, ⟨20, _⟩ => ⟨S_, .f32⟩
  | .hbm, ⟨21, _⟩ => ⟨S1408x2048, .f32⟩
  | .hbm, ⟨22, _⟩ => ⟨S1408x2048, .f32⟩
  | .hbm, ⟨23, _⟩ => ⟨S_, .f32⟩
  | .hbm, ⟨24, _⟩ => ⟨S1408x2048, .f32⟩
  | .hbm, ⟨25, _⟩ => ⟨S1408x2048, .f32⟩
  | .hbm, ⟨26, _⟩ => ⟨S1408x2048, .f32⟩
  | .hbm, ⟨27, _⟩ => ⟨S_, .f32⟩
  | .hbm, ⟨28, _⟩ => ⟨S1408x2048, .f32⟩
  | .hbm, ⟨29, _⟩ => ⟨S1408x2048, .f32⟩
  | .hbm, ⟨30, _⟩ => ⟨S1408x2048, .f32⟩
  | .hbm, ⟨31, _⟩ => ⟨S_, .f32⟩
  | .hbm, ⟨32, _⟩ => ⟨S1408x2048, .f32⟩
  | .hbm, ⟨33, _⟩ => ⟨S1408x2048, .f32⟩
  | .hbm, ⟨34, _⟩ => ⟨S1408x2048, .f32⟩
  | .hbm, ⟨35, _⟩ => ⟨S_, .f32⟩
  | .hbm, ⟨36, _⟩ => ⟨S1408x2048, .f32⟩
  | .hbm, ⟨37, _⟩ => ⟨S1408x2048, .f32⟩
  | _, _ => ⟨S1408x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_cst_4 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_6 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_7 : Ref sig .tc := ⟨.hbm, 35, rfl⟩
abbrev main_v22 : Ref sig .tc := ⟨.hbm, 36, rfl⟩
abbrev main_v23 : Ref sig .tc := ⟨.hbm, 37, rfl⟩

abbrev nD : Nat := 1
abbrev τ : Topo := Topo.v7x

variable {F : FTy → Type} [FloatOps F]
-- ==== AdamGain.lean ====
abbrev S1x2048 : Shape := ⟨2, ![1, 2048]⟩
abbrev S8x128 : Shape := ⟨2, ![8, 128]⟩

abbrev nBuf : Space → Nat
  | .hbm => 9
  | .vmem => 8
  | .smem => 0
  | _ => 0

abbrev bufTy : (tb : Table) → Fin (tcTables nBuf tb) → BufTy
  | .hbm, ⟨0, _⟩ => ⟨S1x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S8x128, .f32⟩
  | .hbm, ⟨5, _⟩ => ⟨S1x2048, .f32⟩
  | .hbm, ⟨6, _⟩ => ⟨S1x2048, .f32⟩
  | .hbm, ⟨7, _⟩ => ⟨S1x2048, .f32⟩
  | .hbm, ⟨8, _⟩ => ⟨S1x2048, .f32⟩
  | .local _ .vmem, ⟨0, _⟩ => ⟨S1x2048, .f32⟩
  | .local _ .vmem, ⟨1, _⟩ => ⟨S1x2048, .f32⟩
  | .local _ .vmem, ⟨2, _⟩ => ⟨S1x2048, .f32⟩
  | .local _ .vmem, ⟨3, _⟩ => ⟨S1x2048, .f32⟩
  | .local _ .vmem, ⟨4, _⟩ => ⟨S1x2048, .f32⟩
  | .local _ .vmem, ⟨5, _⟩ => ⟨S1x2048, .f32⟩
  | .local _ .vmem, ⟨6, _⟩ => ⟨S1x2048, .f32⟩
  | .local _ .vmem, ⟨7, _⟩ => ⟨S1x2048, .f32⟩
  | _, _ => ⟨S1x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamGainIdeal.lean ====
abbrev S1x2048 : Shape := ⟨2, ![1, 2048]⟩
abbrev S8x128 : Shape := ⟨2, ![8, 128]⟩

abbrev nBuf : Space → Nat
  | .hbm => 9
  | .vmem => 8
  | .smem => 0
  | _ => 0

abbrev bufTy : (tb : Table) → Fin (tcTables nBuf tb) → BufTy
  | .hbm, ⟨0, _⟩ => ⟨S1x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S8x128, .f32⟩
  | .hbm, ⟨5, _⟩ => ⟨S1x2048, .f32⟩
  | .hbm, ⟨6, _⟩ => ⟨S1x2048, .f32⟩
  | .hbm, ⟨7, _⟩ => ⟨S1x2048, .f32⟩
  | .hbm, ⟨8, _⟩ => ⟨S1x2048, .f32⟩
  | .local _ .vmem, ⟨0, _⟩ => ⟨S1x2048, .f32⟩
  | .local _ .vmem, ⟨1, _⟩ => ⟨S1x2048, .f32⟩
  | .local _ .vmem, ⟨2, _⟩ => ⟨S1x2048, .f32⟩
  | .local _ .vmem, ⟨3, _⟩ => ⟨S1x2048, .f32⟩
  | .local _ .vmem, ⟨4, _⟩ => ⟨S1x2048, .f32⟩
  | .local _ .vmem, ⟨5, _⟩ => ⟨S1x2048, .f32⟩
  | .local _ .vmem, ⟨6, _⟩ => ⟨S1x2048, .f32⟩
  | .local _ .vmem, ⟨7, _⟩ => ⟨S1x2048, .f32⟩
  | _, _ => ⟨S1x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamGainRefIdeal.lean ====
abbrev S1x2048 : Shape := ⟨2, ![1, 2048]⟩
abbrev S8x128 : Shape := ⟨2, ![8, 128]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S1x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S8x128, .f32⟩
  | .hbm, ⟨5, _⟩ => ⟨S_, .f32⟩
  | .hbm, ⟨6, _⟩ => ⟨S1x2048, .f32⟩
  | .hbm, ⟨7, _⟩ => ⟨S1x2048, .f32⟩
  | .hbm, ⟨8, _⟩ => ⟨S_, .f32⟩
  | .hbm, ⟨9, _⟩ => ⟨S1x2048, .f32⟩
  | .hbm, ⟨10, _⟩ => ⟨S1x2048, .f32⟩
  | .hbm, ⟨11, _⟩ => ⟨S1x2048, .f32⟩
  | .hbm, ⟨12, _⟩ => ⟨S_, .f32⟩
  | .hbm, ⟨13, _⟩ => ⟨S1x2048, .f32⟩
  | .hbm, ⟨14, _⟩ => ⟨S1x2048, .f32⟩
  | .hbm, ⟨15, _⟩ => ⟨S1x2048, .f32⟩
  | .hbm, ⟨16, _⟩ => ⟨S_, .f32⟩
  | .hbm, ⟨17, _⟩ => ⟨S1x2048, .f32⟩
  | .hbm, ⟨18, _⟩ => ⟨S1x2048, .f32⟩
  | .hbm, ⟨19, _⟩ => ⟨S1x2048, .f32⟩
  | .hbm, ⟨20, _⟩ => ⟨S_, .f32⟩
  | .hbm, ⟨21, _⟩ => ⟨S1x2048, .f32⟩
  | .hbm, ⟨22, _⟩ => ⟨S1x2048, .f32⟩
  | .hbm, ⟨23, _⟩ => ⟨S_, .f32⟩
  | .hbm, ⟨24, _⟩ => ⟨S1x2048, .f32⟩
  | .hbm, ⟨25, _⟩ => ⟨S1x2048, .f32⟩
  | .hbm, ⟨26, _⟩ => ⟨S1x2048, .f32⟩
  | .hbm, ⟨27, _⟩ => ⟨S_, .f32⟩
  | .hbm, ⟨28, _⟩ => ⟨S1x2048, .f32⟩
  | .hbm, ⟨29, _⟩ => ⟨S1x2048, .f32⟩
  | .hbm, ⟨30, _⟩ => ⟨S1x2048, .f32⟩
  | .hbm, ⟨31, _⟩ => ⟨S_, .f32⟩
  | .hbm, ⟨32, _⟩ => ⟨S1x2048, .f32⟩
  | .hbm, ⟨33, _⟩ => ⟨S1x2048, .f32⟩
  | .hbm, ⟨34, _⟩ => ⟨S1x2048, .f32⟩
  | .hbm, ⟨35, _⟩ => ⟨S_, .f32⟩
  | .hbm, ⟨36, _⟩ => ⟨S1x2048, .f32⟩
  | .hbm, ⟨37, _⟩ => ⟨S1x2048, .f32⟩
  | _, _ => ⟨S1x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_cst_4 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_6 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_7 : Ref sig .tc := ⟨.hbm, 35, rfl⟩
abbrev main_v22 : Ref sig .tc := ⟨.hbm, 36, rfl⟩
abbrev main_v23 : Ref sig .tc := ⟨.hbm, 37, rfl⟩

abbrev nD : Nat := 1
abbrev τ : Topo := Topo.v7x

variable {F : FTy → Type} [FloatOps F]
-- ==== AdamMixIn.lean ====
abbrev S2048x1028 : Shape := ⟨2, ![2048, 1028]⟩
abbrev S8x128 : Shape := ⟨2, ![8, 128]⟩
abbrev S256x1028 : Shape := ⟨2, ![256, 1028]⟩

abbrev nBuf : Space → Nat
  | .hbm => 9
  | .vmem => 16
  | .smem => 0
  | _ => 0

abbrev bufTy : (tb : Table) → Fin (tcTables nBuf tb) → BufTy
  | .hbm, ⟨0, _⟩ => ⟨S2048x1028, .f32⟩
  | .hbm, ⟨1, _⟩ => ⟨S2048x1028, .f32⟩
  | .hbm, ⟨2, _⟩ => ⟨S2048x1028, .f32⟩
  | .hbm, ⟨3, _⟩ => ⟨S2048x1028, .f32⟩
  | .hbm, ⟨4, _⟩ => ⟨S8x128, .f32⟩
  | .hbm, ⟨5, _⟩ => ⟨S2048x1028, .f32⟩
  | .hbm, ⟨6, _⟩ => ⟨S2048x1028, .f32⟩
  | .hbm, ⟨7, _⟩ => ⟨S2048x1028, .f32⟩
  | .hbm, ⟨8, _⟩ => ⟨S2048x1028, .f32⟩
  | .local _ .vmem, ⟨0, _⟩ => ⟨S256x1028, .f32⟩
  | .local _ .vmem, ⟨1, _⟩ => ⟨S256x1028, .f32⟩
  | .local _ .vmem, ⟨2, _⟩ => ⟨S256x1028, .f32⟩
  | .local _ .vmem, ⟨3, _⟩ => ⟨S256x1028, .f32⟩
  | .local _ .vmem, ⟨4, _⟩ => ⟨S256x1028, .f32⟩
  | .local _ .vmem, ⟨5, _⟩ => ⟨S256x1028, .f32⟩
  | .local _ .vmem, ⟨6, _⟩ => ⟨S256x1028, .f32⟩
  | .local _ .vmem, ⟨7, _⟩ => ⟨S256x1028, .f32⟩
  | .local _ .vmem, ⟨8, _⟩ => ⟨S256x1028, .f32⟩
  | .local _ .vmem, ⟨9, _⟩ => ⟨S256x1028, .f32⟩
  | .local _ .vmem, ⟨10, _⟩ => ⟨S256x1028, .f32⟩
  | .local _ .vmem, ⟨11, _⟩ => ⟨S256x1028, .f32⟩
  | .local _ .vmem, ⟨12, _⟩ => ⟨S256x1028, .f32⟩
  | .local _ .vmem, ⟨13, _⟩ => ⟨S256x1028, .f32⟩
  | .local _ .vmem, ⟨14, _⟩ => ⟨S256x1028, .f32⟩
  | .local _ .vmem, ⟨15, _⟩ => ⟨S256x1028, .f32⟩
  | _, _ => ⟨S2048x1028, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1028 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1028 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1028 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1028 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1028 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1028 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1028 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1028 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamMixInIdeal.lean ====
abbrev S2048x1028 : Shape := ⟨2, ![2048, 1028]⟩
abbrev S8x128 : Shape := ⟨2, ![8, 128]⟩
abbrev S256x1028 : Shape := ⟨2, ![256, 1028]⟩

abbrev nBuf : Space → Nat
  | .hbm => 9
  | .vmem => 16
  | .smem => 0
  | _ => 0

abbrev bufTy : (tb : Table) → Fin (tcTables nBuf tb) → BufTy
  | .hbm, ⟨0, _⟩ => ⟨S2048x1028, .f32⟩
  | .hbm, ⟨1, _⟩ => ⟨S2048x1028, .f32⟩
  | .hbm, ⟨2, _⟩ => ⟨S2048x1028, .f32⟩
  | .hbm, ⟨3, _⟩ => ⟨S2048x1028, .f32⟩
  | .hbm, ⟨4, _⟩ => ⟨S8x128, .f32⟩
  | .hbm, ⟨5, _⟩ => ⟨S2048x1028, .f32⟩
  | .hbm, ⟨6, _⟩ => ⟨S2048x1028, .f32⟩
  | .hbm, ⟨7, _⟩ => ⟨S2048x1028, .f32⟩
  | .hbm, ⟨8, _⟩ => ⟨S2048x1028, .f32⟩
  | .local _ .vmem, ⟨0, _⟩ => ⟨S256x1028, .f32⟩
  | .local _ .vmem, ⟨1, _⟩ => ⟨S256x1028, .f32⟩
  | .local _ .vmem, ⟨2, _⟩ => ⟨S256x1028, .f32⟩
  | .local _ .vmem, ⟨3, _⟩ => ⟨S256x1028, .f32⟩
  | .local _ .vmem, ⟨4, _⟩ => ⟨S256x1028, .f32⟩
  | .local _ .vmem, ⟨5, _⟩ => ⟨S256x1028, .f32⟩
  | .local _ .vmem, ⟨6, _⟩ => ⟨S256x1028, .f32⟩
  | .local _ .vmem, ⟨7, _⟩ => ⟨S256x1028, .f32⟩
  | .local _ .vmem, ⟨8, _⟩ => ⟨S256x1028, .f32⟩
  | .local _ .vmem, ⟨9, _⟩ => ⟨S256x1028, .f32⟩
  | .local _ .vmem, ⟨10, _⟩ => ⟨S256x1028, .f32⟩
  | .local _ .vmem, ⟨11, _⟩ => ⟨S256x1028, .f32⟩
  | .local _ .vmem, ⟨12, _⟩ => ⟨S256x1028, .f32⟩
  | .local _ .vmem, ⟨13, _⟩ => ⟨S256x1028, .f32⟩
  | .local _ .vmem, ⟨14, _⟩ => ⟨S256x1028, .f32⟩
  | .local _ .vmem, ⟨15, _⟩ => ⟨S256x1028, .f32⟩
  | _, _ => ⟨S2048x1028, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1028 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1028 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1028 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1028 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1028 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1028 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1028 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1028 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamMixInRefIdeal.lean ====
abbrev S2048x1028 : Shape := ⟨2, ![2048, 1028]⟩
abbrev S8x128 : Shape := ⟨2, ![8, 128]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S2048x1028, .f32⟩
  | .hbm, ⟨1, _⟩ => ⟨S2048x1028, .f32⟩
  | .hbm, ⟨2, _⟩ => ⟨S2048x1028, .f32⟩
  | .hbm, ⟨3, _⟩ => ⟨S2048x1028, .f32⟩
  | .hbm, ⟨4, _⟩ => ⟨S8x128, .f32⟩
  | .hbm, ⟨5, _⟩ => ⟨S_, .f32⟩
  | .hbm, ⟨6, _⟩ => ⟨S2048x1028, .f32⟩
  | .hbm, ⟨7, _⟩ => ⟨S2048x1028, .f32⟩
  | .hbm, ⟨8, _⟩ => ⟨S_, .f32⟩
  | .hbm, ⟨9, _⟩ => ⟨S2048x1028, .f32⟩
  | .hbm, ⟨10, _⟩ => ⟨S2048x1028, .f32⟩
  | .hbm, ⟨11, _⟩ => ⟨S2048x1028, .f32⟩
  | .hbm, ⟨12, _⟩ => ⟨S_, .f32⟩
  | .hbm, ⟨13, _⟩ => ⟨S2048x1028, .f32⟩
  | .hbm, ⟨14, _⟩ => ⟨S2048x1028, .f32⟩
  | .hbm, ⟨15, _⟩ => ⟨S2048x1028, .f32⟩
  | .hbm, ⟨16, _⟩ => ⟨S_, .f32⟩
  | .hbm, ⟨17, _⟩ => ⟨S2048x1028, .f32⟩
  | .hbm, ⟨18, _⟩ => ⟨S2048x1028, .f32⟩
  | .hbm, ⟨19, _⟩ => ⟨S2048x1028, .f32⟩
  | .hbm, ⟨20, _⟩ => ⟨S_, .f32⟩
  | .hbm, ⟨21, _⟩ => ⟨S2048x1028, .f32⟩
  | .hbm, ⟨22, _⟩ => ⟨S2048x1028, .f32⟩
  | .hbm, ⟨23, _⟩ => ⟨S_, .f32⟩
  | .hbm, ⟨24, _⟩ => ⟨S2048x1028, .f32⟩
  | .hbm, ⟨25, _⟩ => ⟨S2048x1028, .f32⟩
  | .hbm, ⟨26, _⟩ => ⟨S2048x1028, .f32⟩
  | .hbm, ⟨27, _⟩ => ⟨S_, .f32⟩
  | .hbm, ⟨28, _⟩ => ⟨S2048x1028, .f32⟩
  | .hbm, ⟨29, _⟩ => ⟨S2048x1028, .f32⟩
  | .hbm, ⟨30, _⟩ => ⟨S2048x1028, .f32⟩
  | .hbm, ⟨31, _⟩ => ⟨S_, .f32⟩
  | .hbm, ⟨32, _⟩ => ⟨S2048x1028, .f32⟩
  | .hbm, ⟨33, _⟩ => ⟨S2048x1028, .f32⟩
  | .hbm, ⟨34, _⟩ => ⟨S2048x1028, .f32⟩
  | .hbm, ⟨35, _⟩ => ⟨S_, .f32⟩
  | .hbm, ⟨36, _⟩ => ⟨S2048x1028, .f32⟩
  | .hbm, ⟨37, _⟩ => ⟨S2048x1028, .f32⟩
  | _, _ => ⟨S2048x1028, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_cst_4 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_6 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_7 : Ref sig .tc := ⟨.hbm, 35, rfl⟩
abbrev main_v22 : Ref sig .tc := ⟨.hbm, 36, rfl⟩
abbrev main_v23 : Ref sig .tc := ⟨.hbm, 37, rfl⟩

abbrev nD : Nat := 1
abbrev τ : Topo := Topo.v7x

variable {F : FTy → Type} [FloatOps F]
-- ==== AdamMixOut.lean ====
abbrev S512x2048 : Shape := ⟨2, ![512, 2048]⟩
abbrev S8x128 : Shape := ⟨2, ![8, 128]⟩
abbrev S256x2048 : Shape := ⟨2, ![256, 2048]⟩

abbrev nBuf : Space → Nat
  | .hbm => 9
  | .vmem => 16
  | .smem => 0
  | _ => 0

abbrev bufTy : (tb : Table) → Fin (tcTables nBuf tb) → BufTy
  | .hbm, ⟨0, _⟩ => ⟨S512x2048, .f32⟩
  | .hbm, ⟨1, _⟩ => ⟨S512x2048, .f32⟩
  | .hbm, ⟨2, _⟩ => ⟨S512x2048, .f32⟩
  | .hbm, ⟨3, _⟩ => ⟨S512x2048, .f32⟩
  | .hbm, ⟨4, _⟩ => ⟨S8x128, .f32⟩
  | .hbm, ⟨5, _⟩ => ⟨S512x2048, .f32⟩
  | .hbm, ⟨6, _⟩ => ⟨S512x2048, .f32⟩
  | .hbm, ⟨7, _⟩ => ⟨S512x2048, .f32⟩
  | .hbm, ⟨8, _⟩ => ⟨S512x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | .local _ .vmem, ⟨14, _⟩ => ⟨S256x2048, .f32⟩
  | .local _ .vmem, ⟨15, _⟩ => ⟨S256x2048, .f32⟩
  | _, _ => ⟨S512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamMixOutIdeal.lean ====
abbrev S512x2048 : Shape := ⟨2, ![512, 2048]⟩
abbrev S8x128 : Shape := ⟨2, ![8, 128]⟩
abbrev S256x2048 : Shape := ⟨2, ![256, 2048]⟩

abbrev nBuf : Space → Nat
  | .hbm => 9
  | .vmem => 16
  | .smem => 0
  | _ => 0

abbrev bufTy : (tb : Table) → Fin (tcTables nBuf tb) → BufTy
  | .hbm, ⟨0, _⟩ => ⟨S512x2048, .f32⟩
  | .hbm, ⟨1, _⟩ => ⟨S512x2048, .f32⟩
  | .hbm, ⟨2, _⟩ => ⟨S512x2048, .f32⟩
  | .hbm, ⟨3, _⟩ => ⟨S512x2048, .f32⟩
  | .hbm, ⟨4, _⟩ => ⟨S8x128, .f32⟩
  | .hbm, ⟨5, _⟩ => ⟨S512x2048, .f32⟩
  | .hbm, ⟨6, _⟩ => ⟨S512x2048, .f32⟩
  | .hbm, ⟨7, _⟩ => ⟨S512x2048, .f32⟩
  | .hbm, ⟨8, _⟩ => ⟨S512x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | .local _ .vmem, ⟨14, _⟩ => ⟨S256x2048, .f32⟩
  | .local _ .vmem, ⟨15, _⟩ => ⟨S256x2048, .f32⟩
  | _, _ => ⟨S512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamMixOutRefIdeal.lean ====
abbrev S512x2048 : Shape := ⟨2, ![512, 2048]⟩
abbrev S8x128 : Shape := ⟨2, ![8, 128]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S512x2048, .f32⟩
  | .hbm, ⟨1, _⟩ => ⟨S512x2048, .f32⟩
  | .hbm, ⟨2, _⟩ => ⟨S512x2048, .f32⟩
  | .hbm, ⟨3, _⟩ => ⟨S512x2048, .f32⟩
  | .hbm, ⟨4, _⟩ => ⟨S8x128, .f32⟩
  | .hbm, ⟨5, _⟩ => ⟨S_, .f32⟩
  | .hbm, ⟨6, _⟩ => ⟨S512x2048, .f32⟩
  | .hbm, ⟨7, _⟩ => ⟨S512x2048, .f32⟩
  | .hbm, ⟨8, _⟩ => ⟨S_, .f32⟩
  | .hbm, ⟨9, _⟩ => ⟨S512x2048, .f32⟩
  | .hbm, ⟨10, _⟩ => ⟨S512x2048, .f32⟩
  | .hbm, ⟨11, _⟩ => ⟨S512x2048, .f32⟩
  | .hbm, ⟨12, _⟩ => ⟨S_, .f32⟩
  | .hbm, ⟨13, _⟩ => ⟨S512x2048, .f32⟩
  | .hbm, ⟨14, _⟩ => ⟨S512x2048, .f32⟩
  | .hbm, ⟨15, _⟩ => ⟨S512x2048, .f32⟩
  | .hbm, ⟨16, _⟩ => ⟨S_, .f32⟩
  | .hbm, ⟨17, _⟩ => ⟨S512x2048, .f32⟩
  | .hbm, ⟨18, _⟩ => ⟨S512x2048, .f32⟩
  | .hbm, ⟨19, _⟩ => ⟨S512x2048, .f32⟩
  | .hbm, ⟨20, _⟩ => ⟨S_, .f32⟩
  | .hbm, ⟨21, _⟩ => ⟨S512x2048, .f32⟩
  | .hbm, ⟨22, _⟩ => ⟨S512x2048, .f32⟩
  | .hbm, ⟨23, _⟩ => ⟨S_, .f32⟩
  | .hbm, ⟨24, _⟩ => ⟨S512x2048, .f32⟩
  | .hbm, ⟨25, _⟩ => ⟨S512x2048, .f32⟩
  | .hbm, ⟨26, _⟩ => ⟨S512x2048, .f32⟩
  | .hbm, ⟨27, _⟩ => ⟨S_, .f32⟩
  | .hbm, ⟨28, _⟩ => ⟨S512x2048, .f32⟩
  | .hbm, ⟨29, _⟩ => ⟨S512x2048, .f32⟩
  | .hbm, ⟨30, _⟩ => ⟨S512x2048, .f32⟩
  | .hbm, ⟨31, _⟩ => ⟨S_, .f32⟩
  | .hbm, ⟨32, _⟩ => ⟨S512x2048, .f32⟩
  | .hbm, ⟨33, _⟩ => ⟨S512x2048, .f32⟩
  | .hbm, ⟨34, _⟩ => ⟨S512x2048, .f32⟩
  | .hbm, ⟨35, _⟩ => ⟨S_, .f32⟩
  | .hbm, ⟨36, _⟩ => ⟨S512x2048, .f32⟩
  | .hbm, ⟨37, _⟩ => ⟨S512x2048, .f32⟩
  | _, _ => ⟨S512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_cst_4 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_6 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_7 : Ref sig .tc := ⟨.hbm, 35, rfl⟩
abbrev main_v22 : Ref sig .tc := ⟨.hbm, 36, rfl⟩
abbrev main_v23 : Ref sig .tc := ⟨.hbm, 37, rfl⟩

abbrev nD : Nat := 1
abbrev τ : Topo := Topo.v7x

variable {F : FTy → Type} [FloatOps F]
-- ==== AdamPool.lean ====
abbrev S256x256 : Shape := ⟨2, ![256, 256]⟩
abbrev S8x128 : Shape := ⟨2, ![8, 128]⟩

abbrev nBuf : Space → Nat
  | .hbm => 9
  | .vmem => 8
  | .smem => 0
  | _ => 0

abbrev bufTy : (tb : Table) → Fin (tcTables nBuf tb) → BufTy
  | .hbm, ⟨0, _⟩ => ⟨S256x256, .f32⟩
  | .hbm, ⟨1, _⟩ => ⟨S256x256, .f32⟩
  | .hbm, ⟨2, _⟩ => ⟨S256x256, .f32⟩
  | .hbm, ⟨3, _⟩ => ⟨S256x256, .f32⟩
  | .hbm, ⟨4, _⟩ => ⟨S8x128, .f32⟩
  | .hbm, ⟨5, _⟩ => ⟨S256x256, .f32⟩
  | .hbm, ⟨6, _⟩ => ⟨S256x256, .f32⟩
  | .hbm, ⟨7, _⟩ => ⟨S256x256, .f32⟩
  | .hbm, ⟨8, _⟩ => ⟨S256x256, .f32⟩
  | .local _ .vmem, ⟨0, _⟩ => ⟨S256x256, .f32⟩
  | .local _ .vmem, ⟨1, _⟩ => ⟨S256x256, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S256x256, .f32⟩
  | .local _ .vmem, ⟨7, _⟩ => ⟨S256x256, .f32⟩
  | _, _ => ⟨S256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S256x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamPoolIdeal.lean ====
abbrev S256x256 : Shape := ⟨2, ![256, 256]⟩
abbrev S8x128 : Shape := ⟨2, ![8, 128]⟩

abbrev nBuf : Space → Nat
  | .hbm => 9
  | .vmem => 8
  | .smem => 0
  | _ => 0

abbrev bufTy : (tb : Table) → Fin (tcTables nBuf tb) → BufTy
  | .hbm, ⟨0, _⟩ => ⟨S256x256, .f32⟩
  | .hbm, ⟨1, _⟩ => ⟨S256x256, .f32⟩
  | .hbm, ⟨2, _⟩ => ⟨S256x256, .f32⟩
  | .hbm, ⟨3, _⟩ => ⟨S256x256, .f32⟩
  | .hbm, ⟨4, _⟩ => ⟨S8x128, .f32⟩
  | .hbm, ⟨5, _⟩ => ⟨S256x256, .f32⟩
  | .hbm, ⟨6, _⟩ => ⟨S256x256, .f32⟩
  | .hbm, ⟨7, _⟩ => ⟨S256x256, .f32⟩
  | .hbm, ⟨8, _⟩ => ⟨S256x256, .f32⟩
  | .local _ .vmem, ⟨0, _⟩ => ⟨S256x256, .f32⟩
  | .local _ .vmem, ⟨1, _⟩ => ⟨S256x256, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S256x256, .f32⟩
  | .local _ .vmem, ⟨7, _⟩ => ⟨S256x256, .f32⟩
  | _, _ => ⟨S256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S256x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamPoolRefIdeal.lean ====
abbrev S256x256 : Shape := ⟨2, ![256, 256]⟩
abbrev S8x128 : Shape := ⟨2, ![8, 128]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S256x256, .f32⟩
  | .hbm, ⟨1, _⟩ => ⟨S256x256, .f32⟩
  | .hbm, ⟨2, _⟩ => ⟨S256x256, .f32⟩
  | .hbm, ⟨3, _⟩ => ⟨S256x256, .f32⟩
  | .hbm, ⟨4, _⟩ => ⟨S8x128, .f32⟩
  | .hbm, ⟨5, _⟩ => ⟨S_, .f32⟩
  | .hbm, ⟨6, _⟩ => ⟨S256x256, .f32⟩
  | .hbm, ⟨7, _⟩ => ⟨S256x256, .f32⟩
  | .hbm, ⟨8, _⟩ => ⟨S_, .f32⟩
  | .hbm, ⟨9, _⟩ => ⟨S256x256, .f32⟩
  | .hbm, ⟨10, _⟩ => ⟨S256x256, .f32⟩
  | .hbm, ⟨11, _⟩ => ⟨S256x256, .f32⟩
  | .hbm, ⟨12, _⟩ => ⟨S_, .f32⟩
  | .hbm, ⟨13, _⟩ => ⟨S256x256, .f32⟩
  | .hbm, ⟨14, _⟩ => ⟨S256x256, .f32⟩
  | .hbm, ⟨15, _⟩ => ⟨S256x256, .f32⟩
  | .hbm, ⟨16, _⟩ => ⟨S_, .f32⟩
  | .hbm, ⟨17, _⟩ => ⟨S256x256, .f32⟩
  | .hbm, ⟨18, _⟩ => ⟨S256x256, .f32⟩
  | .hbm, ⟨19, _⟩ => ⟨S256x256, .f32⟩
  | .hbm, ⟨20, _⟩ => ⟨S_, .f32⟩
  | .hbm, ⟨21, _⟩ => ⟨S256x256, .f32⟩
  | .hbm, ⟨22, _⟩ => ⟨S256x256, .f32⟩
  | .hbm, ⟨23, _⟩ => ⟨S_, .f32⟩
  | .hbm, ⟨24, _⟩ => ⟨S256x256, .f32⟩
  | .hbm, ⟨25, _⟩ => ⟨S256x256, .f32⟩
  | .hbm, ⟨26, _⟩ => ⟨S256x256, .f32⟩
  | .hbm, ⟨27, _⟩ => ⟨S_, .f32⟩
  | .hbm, ⟨28, _⟩ => ⟨S256x256, .f32⟩
  | .hbm, ⟨29, _⟩ => ⟨S256x256, .f32⟩
  | .hbm, ⟨30, _⟩ => ⟨S256x256, .f32⟩
  | .hbm, ⟨31, _⟩ => ⟨S_, .f32⟩
  | .hbm, ⟨32, _⟩ => ⟨S256x256, .f32⟩
  | .hbm, ⟨33, _⟩ => ⟨S256x256, .f32⟩
  | .hbm, ⟨34, _⟩ => ⟨S256x256, .f32⟩
  | .hbm, ⟨35, _⟩ => ⟨S_, .f32⟩
  | .hbm, ⟨36, _⟩ => ⟨S256x256, .f32⟩
  | .hbm, ⟨37, _⟩ => ⟨S256x256, .f32⟩
  | _, _ => ⟨S256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_cst_4 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_6 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_7 : Ref sig .tc := ⟨.hbm, 35, rfl⟩
abbrev main_v22 : Ref sig .tc := ⟨.hbm, 36, rfl⟩
abbrev main_v23 : Ref sig .tc := ⟨.hbm, 37, rfl⟩

abbrev nD : Nat := 1
abbrev τ : Topo := Topo.v7x

variable {F : FTy → Type} [FloatOps F]
-- ==== AdamScale.lean ====
abbrev S1x1024 : Shape := ⟨2, ![1, 1024]⟩
abbrev S8x128 : Shape := ⟨2, ![8, 128]⟩

abbrev nBuf : Space → Nat
  | .hbm => 9
  | .vmem => 8
  | .smem => 0
  | _ => 0

abbrev bufTy : (tb : Table) → Fin (tcTables nBuf tb) → BufTy
  | .hbm, ⟨0, _⟩ => ⟨S1x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S8x128, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S1x1024, .f32⟩
  | .local _ .vmem, ⟨0, _⟩ => ⟨S1x1024, .f32⟩
  | .local _ .vmem, ⟨1, _⟩ => ⟨S1x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | _, _ => ⟨S1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamScaleIdeal.lean ====
abbrev S1x1024 : Shape := ⟨2, ![1, 1024]⟩
abbrev S8x128 : Shape := ⟨2, ![8, 128]⟩

abbrev nBuf : Space → Nat
  | .hbm => 9
  | .vmem => 8
  | .smem => 0
  | _ => 0

abbrev bufTy : (tb : Table) → Fin (tcTables nBuf tb) → BufTy
  | .hbm, ⟨0, _⟩ => ⟨S1x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S8x128, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S1x1024, .f32⟩
  | .local _ .vmem, ⟨0, _⟩ => ⟨S1x1024, .f32⟩
  | .local _ .vmem, ⟨1, _⟩ => ⟨S1x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | _, _ => ⟨S1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamScaleRefIdeal.lean ====
abbrev S1x1024 : Shape := ⟨2, ![1, 1024]⟩
abbrev S8x128 : Shape := ⟨2, ![8, 128]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S1x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S8x128, .f32⟩
  | .hbm, ⟨5, _⟩ => ⟨S_, .f32⟩
  | .hbm, ⟨6, _⟩ => ⟨S1x1024, .f32⟩
  | .hbm, ⟨7, _⟩ => ⟨S1x1024, .f32⟩
  | .hbm, ⟨8, _⟩ => ⟨S_, .f32⟩
  | .hbm, ⟨9, _⟩ => ⟨S1x1024, .f32⟩
  | .hbm, ⟨10, _⟩ => ⟨S1x1024, .f32⟩
  | .hbm, ⟨11, _⟩ => ⟨S1x1024, .f32⟩
  | .hbm, ⟨12, _⟩ => ⟨S_, .f32⟩
  | .hbm, ⟨13, _⟩ => ⟨S1x1024, .f32⟩
  | .hbm, ⟨14, _⟩ => ⟨S1x1024, .f32⟩
  | .hbm, ⟨15, _⟩ => ⟨S1x1024, .f32⟩
  | .hbm, ⟨16, _⟩ => ⟨S_, .f32⟩
  | .hbm, ⟨17, _⟩ => ⟨S1x1024, .f32⟩
  | .hbm, ⟨18, _⟩ => ⟨S1x1024, .f32⟩
  | .hbm, ⟨19, _⟩ => ⟨S1x1024, .f32⟩
  | .hbm, ⟨20, _⟩ => ⟨S_, .f32⟩
  | .hbm, ⟨21, _⟩ => ⟨S1x1024, .f32⟩
  | .hbm, ⟨22, _⟩ => ⟨S1x1024, .f32⟩
  | .hbm, ⟨23, _⟩ => ⟨S_, .f32⟩
  | .hbm, ⟨24, _⟩ => ⟨S1x1024, .f32⟩
  | .hbm, ⟨25, _⟩ => ⟨S1x1024, .f32⟩
  | .hbm, ⟨26, _⟩ => ⟨S1x1024, .f32⟩
  | .hbm, ⟨27, _⟩ => ⟨S_, .f32⟩
  | .hbm, ⟨28, _⟩ => ⟨S1x1024, .f32⟩
  | .hbm, ⟨29, _⟩ => ⟨S1x1024, .f32⟩
  | .hbm, ⟨30, _⟩ => ⟨S1x1024, .f32⟩
  | .hbm, ⟨31, _⟩ => ⟨S_, .f32⟩
  | .hbm, ⟨32, _⟩ => ⟨S1x1024, .f32⟩
  | .hbm, ⟨33, _⟩ => ⟨S1x1024, .f32⟩
  | .hbm, ⟨34, _⟩ => ⟨S1x1024, .f32⟩
  | .hbm, ⟨35, _⟩ => ⟨S_, .f32⟩
  | .hbm, ⟨36, _⟩ => ⟨S1x1024, .f32⟩
  | .hbm, ⟨37, _⟩ => ⟨S1x1024, .f32⟩
  | _, _ => ⟨S1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_cst_4 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_6 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_7 : Ref sig .tc := ⟨.hbm, 35, rfl⟩
abbrev main_v22 : Ref sig .tc := ⟨.hbm, 36, rfl⟩
abbrev main_v23 : Ref sig .tc := ⟨.hbm, 37, rfl⟩

abbrev nD : Nat := 1
abbrev τ : Topo := Topo.v7x

variable {F : FTy → Type} [FloatOps F]
-- ==== AdamAlpha.lean ====
abbrev S16x128 : Shape := ⟨2, ![16, 128]⟩
abbrev S8x128 : Shape := ⟨2, ![8, 128]⟩

abbrev nBuf : Space → Nat
  | .hbm => 9
  | .vmem => 8
  | .smem => 0
  | _ => 0

abbrev bufTy : (tb : Table) → Fin (tcTables nBuf tb) → BufTy
  | .hbm, ⟨0, _⟩ => ⟨S16x128, .f32⟩
  | .hbm, ⟨1, _⟩ => ⟨S16x128, .f32⟩
  | .hbm, ⟨2, _⟩ => ⟨S16x128, .f32⟩
  | .hbm, ⟨3, _⟩ => ⟨S16x128, .f32⟩
  | .hbm, ⟨4, _⟩ => ⟨S8x128, .f32⟩
  | .hbm, ⟨5, _⟩ => ⟨S16x128, .f32⟩
  | .hbm, ⟨6, _⟩ => ⟨S16x128, .f32⟩
  | .hbm, ⟨7, _⟩ => ⟨S16x128, .f32⟩
  | .hbm, ⟨8, _⟩ => ⟨S16x128, .f32⟩
  | .local _ .vmem, ⟨0, _⟩ => ⟨S16x128, .f32⟩
  | .local _ .vmem, ⟨1, _⟩ => ⟨S16x128, .f32⟩
  | .local _ .vmem, ⟨2, _⟩ => ⟨S16x128, .f32⟩
  | .local _ .vmem, ⟨3, _⟩ => ⟨S16x128, .f32⟩
  | .local _ .vmem, ⟨4, _⟩ => ⟨S16x128, .f32⟩
  | .local _ .vmem, ⟨5, _⟩ => ⟨S16x128, .f32⟩
  | .local _ .vmem, ⟨6, _⟩ => ⟨S16x128, .f32⟩
  | .local _ .vmem, ⟨7, _⟩ => ⟨S16x128, .f32⟩
  | _, _ => ⟨S16x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S16x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S16x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S16x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S16x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S16x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S16x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S16x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S16x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamAlphaIdeal.lean ====
abbrev S16x128 : Shape := ⟨2, ![16, 128]⟩
abbrev S8x128 : Shape := ⟨2, ![8, 128]⟩

abbrev nBuf : Space → Nat
  | .hbm => 9
  | .vmem => 8
  | .smem => 0
  | _ => 0

abbrev bufTy : (tb : Table) → Fin (tcTables nBuf tb) → BufTy
  | .hbm, ⟨0, _⟩ => ⟨S16x128, .f32⟩
  | .hbm, ⟨1, _⟩ => ⟨S16x128, .f32⟩
  | .hbm, ⟨2, _⟩ => ⟨S16x128, .f32⟩
  | .hbm, ⟨3, _⟩ => ⟨S16x128, .f32⟩
  | .hbm, ⟨4, _⟩ => ⟨S8x128, .f32⟩
  | .hbm, ⟨5, _⟩ => ⟨S16x128, .f32⟩
  | .hbm, ⟨6, _⟩ => ⟨S16x128, .f32⟩
  | .hbm, ⟨7, _⟩ => ⟨S16x128, .f32⟩
  | .hbm, ⟨8, _⟩ => ⟨S16x128, .f32⟩
  | .local _ .vmem, ⟨0, _⟩ => ⟨S16x128, .f32⟩
  | .local _ .vmem, ⟨1, _⟩ => ⟨S16x128, .f32⟩
  | .local _ .vmem, ⟨2, _⟩ => ⟨S16x128, .f32⟩
  | .local _ .vmem, ⟨3, _⟩ => ⟨S16x128, .f32⟩
  | .local _ .vmem, ⟨4, _⟩ => ⟨S16x128, .f32⟩
  | .local _ .vmem, ⟨5, _⟩ => ⟨S16x128, .f32⟩
  | .local _ .vmem, ⟨6, _⟩ => ⟨S16x128, .f32⟩
  | .local _ .vmem, ⟨7, _⟩ => ⟨S16x128, .f32⟩
  | _, _ => ⟨S16x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S16x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S16x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S16x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S16x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S16x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S16x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S16x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S16x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamAlphaRefIdeal.lean ====
abbrev S16x128 : Shape := ⟨2, ![16, 128]⟩
abbrev S8x128 : Shape := ⟨2, ![8, 128]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S16x128, .f32⟩
  | .hbm, ⟨1, _⟩ => ⟨S16x128, .f32⟩
  | .hbm, ⟨2, _⟩ => ⟨S16x128, .f32⟩
  | .hbm, ⟨3, _⟩ => ⟨S16x128, .f32⟩
  | .hbm, ⟨4, _⟩ => ⟨S8x128, .f32⟩
  | .hbm, ⟨5, _⟩ => ⟨S_, .f32⟩
  | .hbm, ⟨6, _⟩ => ⟨S16x128, .f32⟩
  | .hbm, ⟨7, _⟩ => ⟨S16x128, .f32⟩
  | .hbm, ⟨8, _⟩ => ⟨S_, .f32⟩
  | .hbm, ⟨9, _⟩ => ⟨S16x128, .f32⟩
  | .hbm, ⟨10, _⟩ => ⟨S16x128, .f32⟩
  | .hbm, ⟨11, _⟩ => ⟨S16x128, .f32⟩
  | .hbm, ⟨12, _⟩ => ⟨S_, .f32⟩
  | .hbm, ⟨13, _⟩ => ⟨S16x128, .f32⟩
  | .hbm, ⟨14, _⟩ => ⟨S16x128, .f32⟩
  | .hbm, ⟨15, _⟩ => ⟨S16x128, .f32⟩
  | .hbm, ⟨16, _⟩ => ⟨S_, .f32⟩
  | .hbm, ⟨17, _⟩ => ⟨S16x128, .f32⟩
  | .hbm, ⟨18, _⟩ => ⟨S16x128, .f32⟩
  | .hbm, ⟨19, _⟩ => ⟨S16x128, .f32⟩
  | .hbm, ⟨20, _⟩ => ⟨S_, .f32⟩
  | .hbm, ⟨21, _⟩ => ⟨S16x128, .f32⟩
  | .hbm, ⟨22, _⟩ => ⟨S16x128, .f32⟩
  | .hbm, ⟨23, _⟩ => ⟨S_, .f32⟩
  | .hbm, ⟨24, _⟩ => ⟨S16x128, .f32⟩
  | .hbm, ⟨25, _⟩ => ⟨S16x128, .f32⟩
  | .hbm, ⟨26, _⟩ => ⟨S16x128, .f32⟩
  | .hbm, ⟨27, _⟩ => ⟨S_, .f32⟩
  | .hbm, ⟨28, _⟩ => ⟨S16x128, .f32⟩
  | .hbm, ⟨29, _⟩ => ⟨S16x128, .f32⟩
  | .hbm, ⟨30, _⟩ => ⟨S16x128, .f32⟩
  | .hbm, ⟨31, _⟩ => ⟨S_, .f32⟩
  | .hbm, ⟨32, _⟩ => ⟨S16x128, .f32⟩
  | .hbm, ⟨33, _⟩ => ⟨S16x128, .f32⟩
  | .hbm, ⟨34, _⟩ => ⟨S16x128, .f32⟩
  | .hbm, ⟨35, _⟩ => ⟨S_, .f32⟩
  | .hbm, ⟨36, _⟩ => ⟨S16x128, .f32⟩
  | .hbm, ⟨37, _⟩ => ⟨S16x128, .f32⟩
  | _, _ => ⟨S16x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_cst_4 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_6 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_7 : Ref sig .tc := ⟨.hbm, 35, rfl⟩
abbrev main_v22 : Ref sig .tc := ⟨.hbm, 36, rfl⟩
abbrev main_v23 : Ref sig .tc := ⟨.hbm, 37, rfl⟩

abbrev nD : Nat := 1
abbrev τ : Topo := Topo.v7x

variable {F : FTy → Type} [FloatOps F]
-- ==== AdamBias.lean ====
abbrev S1x512 : Shape := ⟨2, ![1, 512]⟩
abbrev S8x128 : Shape := ⟨2, ![8, 128]⟩

abbrev nBuf : Space → Nat
  | .hbm => 9
  | .vmem => 8
  | .smem => 0
  | _ => 0

abbrev bufTy : (tb : Table) → Fin (tcTables nBuf tb) → BufTy
  | .hbm, ⟨0, _⟩ => ⟨S1x512, .f32⟩
  | .hbm, ⟨1, _⟩ => ⟨S1x512, .f32⟩
  | .hbm, ⟨2, _⟩ => ⟨S1x512, .f32⟩
  | .hbm, ⟨3, _⟩ => ⟨S1x512, .f32⟩
  | .hbm, ⟨4, _⟩ => ⟨S8x128, .f32⟩
  | .hbm, ⟨5, _⟩ => ⟨S1x512, .f32⟩
  | .hbm, ⟨6, _⟩ => ⟨S1x512, .f32⟩
  | .hbm, ⟨7, _⟩ => ⟨S1x512, .f32⟩
  | .hbm, ⟨8, _⟩ => ⟨S1x512, .f32⟩
  | .local _ .vmem, ⟨0, _⟩ => ⟨S1x512, .f32⟩
  | .local _ .vmem, ⟨1, _⟩ => ⟨S1x512, .f32⟩
  | .local _ .vmem, ⟨2, _⟩ => ⟨S1x512, .f32⟩
  | .local _ .vmem, ⟨3, _⟩ => ⟨S1x512, .f32⟩
  | .local _ .vmem, ⟨4, _⟩ => ⟨S1x512, .f32⟩
  | .local _ .vmem, ⟨5, _⟩ => ⟨S1x512, .f32⟩
  | .local _ .vmem, ⟨6, _⟩ => ⟨S1x512, .f32⟩
  | .local _ .vmem, ⟨7, _⟩ => ⟨S1x512, .f32⟩
  | _, _ => ⟨S1x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamBiasIdeal.lean ====
abbrev S1x512 : Shape := ⟨2, ![1, 512]⟩
abbrev S8x128 : Shape := ⟨2, ![8, 128]⟩

abbrev nBuf : Space → Nat
  | .hbm => 9
  | .vmem => 8
  | .smem => 0
  | _ => 0

abbrev bufTy : (tb : Table) → Fin (tcTables nBuf tb) → BufTy
  | .hbm, ⟨0, _⟩ => ⟨S1x512, .f32⟩
  | .hbm, ⟨1, _⟩ => ⟨S1x512, .f32⟩
  | .hbm, ⟨2, _⟩ => ⟨S1x512, .f32⟩
  | .hbm, ⟨3, _⟩ => ⟨S1x512, .f32⟩
  | .hbm, ⟨4, _⟩ => ⟨S8x128, .f32⟩
  | .hbm, ⟨5, _⟩ => ⟨S1x512, .f32⟩
  | .hbm, ⟨6, _⟩ => ⟨S1x512, .f32⟩
  | .hbm, ⟨7, _⟩ => ⟨S1x512, .f32⟩
  | .hbm, ⟨8, _⟩ => ⟨S1x512, .f32⟩
  | .local _ .vmem, ⟨0, _⟩ => ⟨S1x512, .f32⟩
  | .local _ .vmem, ⟨1, _⟩ => ⟨S1x512, .f32⟩
  | .local _ .vmem, ⟨2, _⟩ => ⟨S1x512, .f32⟩
  | .local _ .vmem, ⟨3, _⟩ => ⟨S1x512, .f32⟩
  | .local _ .vmem, ⟨4, _⟩ => ⟨S1x512, .f32⟩
  | .local _ .vmem, ⟨5, _⟩ => ⟨S1x512, .f32⟩
  | .local _ .vmem, ⟨6, _⟩ => ⟨S1x512, .f32⟩
  | .local _ .vmem, ⟨7, _⟩ => ⟨S1x512, .f32⟩
  | _, _ => ⟨S1x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamBiasRefIdeal.lean ====
abbrev S1x512 : Shape := ⟨2, ![1, 512]⟩
abbrev S8x128 : Shape := ⟨2, ![8, 128]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S1x512, .f32⟩
  | .hbm, ⟨1, _⟩ => ⟨S1x512, .f32⟩
  | .hbm, ⟨2, _⟩ => ⟨S1x512, .f32⟩
  | .hbm, ⟨3, _⟩ => ⟨S1x512, .f32⟩
  | .hbm, ⟨4, _⟩ => ⟨S8x128, .f32⟩
  | .hbm, ⟨5, _⟩ => ⟨S_, .f32⟩
  | .hbm, ⟨6, _⟩ => ⟨S1x512, .f32⟩
  | .hbm, ⟨7, _⟩ => ⟨S1x512, .f32⟩
  | .hbm, ⟨8, _⟩ => ⟨S_, .f32⟩
  | .hbm, ⟨9, _⟩ => ⟨S1x512, .f32⟩
  | .hbm, ⟨10, _⟩ => ⟨S1x512, .f32⟩
  | .hbm, ⟨11, _⟩ => ⟨S1x512, .f32⟩
  | .hbm, ⟨12, _⟩ => ⟨S_, .f32⟩
  | .hbm, ⟨13, _⟩ => ⟨S1x512, .f32⟩
  | .hbm, ⟨14, _⟩ => ⟨S1x512, .f32⟩
  | .hbm, ⟨15, _⟩ => ⟨S1x512, .f32⟩
  | .hbm, ⟨16, _⟩ => ⟨S_, .f32⟩
  | .hbm, ⟨17, _⟩ => ⟨S1x512, .f32⟩
  | .hbm, ⟨18, _⟩ => ⟨S1x512, .f32⟩
  | .hbm, ⟨19, _⟩ => ⟨S1x512, .f32⟩
  | .hbm, ⟨20, _⟩ => ⟨S_, .f32⟩
  | .hbm, ⟨21, _⟩ => ⟨S1x512, .f32⟩
  | .hbm, ⟨22, _⟩ => ⟨S1x512, .f32⟩
  | .hbm, ⟨23, _⟩ => ⟨S_, .f32⟩
  | .hbm, ⟨24, _⟩ => ⟨S1x512, .f32⟩
  | .hbm, ⟨25, _⟩ => ⟨S1x512, .f32⟩
  | .hbm, ⟨26, _⟩ => ⟨S1x512, .f32⟩
  | .hbm, ⟨27, _⟩ => ⟨S_, .f32⟩
  | .hbm, ⟨28, _⟩ => ⟨S1x512, .f32⟩
  | .hbm, ⟨29, _⟩ => ⟨S1x512, .f32⟩
  | .hbm, ⟨30, _⟩ => ⟨S1x512, .f32⟩
  | .hbm, ⟨31, _⟩ => ⟨S_, .f32⟩
  | .hbm, ⟨32, _⟩ => ⟨S1x512, .f32⟩
  | .hbm, ⟨33, _⟩ => ⟨S1x512, .f32⟩
  | .hbm, ⟨34, _⟩ => ⟨S1x512, .f32⟩
  | .hbm, ⟨35, _⟩ => ⟨S_, .f32⟩
  | .hbm, ⟨36, _⟩ => ⟨S1x512, .f32⟩
  | .hbm, ⟨37, _⟩ => ⟨S1x512, .f32⟩
  | _, _ => ⟨S1x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_cst_4 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_6 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_7 : Ref sig .tc := ⟨.hbm, 35, rfl⟩
abbrev main_v22 : Ref sig .tc := ⟨.hbm, 36, rfl⟩
abbrev main_v23 : Ref sig .tc := ⟨.hbm, 37, rfl⟩

abbrev nD : Nat := 1
abbrev τ : Topo := Topo.v7x

variable {F : FTy → Type} [FloatOps F]
-- ==== AdamHead.lean ====
abbrev S1x256 : Shape := ⟨2, ![1, 256]⟩
abbrev S8x128 : Shape := ⟨2, ![8, 128]⟩

abbrev nBuf : Space → Nat
  | .hbm => 9
  | .vmem => 8
  | .smem => 0
  | _ => 0

abbrev bufTy : (tb : Table) → Fin (tcTables nBuf tb) → BufTy
  | .hbm, ⟨0, _⟩ => ⟨S1x256, .f32⟩
  | .hbm, ⟨1, _⟩ => ⟨S1x256, .f32⟩
  | .hbm, ⟨2, _⟩ => ⟨S1x256, .f32⟩
  | .hbm, ⟨3, _⟩ => ⟨S1x256, .f32⟩
  | .hbm, ⟨4, _⟩ => ⟨S8x128, .f32⟩
  | .hbm, ⟨5, _⟩ => ⟨S1x256, .f32⟩
  | .hbm, ⟨6, _⟩ => ⟨S1x256, .f32⟩
  | .hbm, ⟨7, _⟩ => ⟨S1x256, .f32⟩
  | .hbm, ⟨8, _⟩ => ⟨S1x256, .f32⟩
  | .local _ .vmem, ⟨0, _⟩ => ⟨S1x256, .f32⟩
  | .local _ .vmem, ⟨1, _⟩ => ⟨S1x256, .f32⟩
  | .local _ .vmem, ⟨2, _⟩ => ⟨S1x256, .f32⟩
  | .local _ .vmem, ⟨3, _⟩ => ⟨S1x256, .f32⟩
  | .local _ .vmem, ⟨4, _⟩ => ⟨S1x256, .f32⟩
  | .local _ .vmem, ⟨5, _⟩ => ⟨S1x256, .f32⟩
  | .local _ .vmem, ⟨6, _⟩ => ⟨S1x256, .f32⟩
  | .local _ .vmem, ⟨7, _⟩ => ⟨S1x256, .f32⟩
  | _, _ => ⟨S1x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamHeadRefIdeal.lean ====
abbrev S1x256 : Shape := ⟨2, ![1, 256]⟩
abbrev S8x128 : Shape := ⟨2, ![8, 128]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S1x256, .f32⟩
  | .hbm, ⟨1, _⟩ => ⟨S1x256, .f32⟩
  | .hbm, ⟨2, _⟩ => ⟨S1x256, .f32⟩
  | .hbm, ⟨3, _⟩ => ⟨S1x256, .f32⟩
  | .hbm, ⟨4, _⟩ => ⟨S8x128, .f32⟩
  | .hbm, ⟨5, _⟩ => ⟨S_, .f32⟩
  | .hbm, ⟨6, _⟩ => ⟨S1x256, .f32⟩
  | .hbm, ⟨7, _⟩ => ⟨S1x256, .f32⟩
  | .hbm, ⟨8, _⟩ => ⟨S_, .f32⟩
  | .hbm, ⟨9, _⟩ => ⟨S1x256, .f32⟩
  | .hbm, ⟨10, _⟩ => ⟨S1x256, .f32⟩
  | .hbm, ⟨11, _⟩ => ⟨S1x256, .f32⟩
  | .hbm, ⟨12, _⟩ => ⟨S_, .f32⟩
  | .hbm, ⟨13, _⟩ => ⟨S1x256, .f32⟩
  | .hbm, ⟨14, _⟩ => ⟨S1x256, .f32⟩
  | .hbm, ⟨15, _⟩ => ⟨S1x256, .f32⟩
  | .hbm, ⟨16, _⟩ => ⟨S_, .f32⟩
  | .hbm, ⟨17, _⟩ => ⟨S1x256, .f32⟩
  | .hbm, ⟨18, _⟩ => ⟨S1x256, .f32⟩
  | .hbm, ⟨19, _⟩ => ⟨S1x256, .f32⟩
  | .hbm, ⟨20, _⟩ => ⟨S_, .f32⟩
  | .hbm, ⟨21, _⟩ => ⟨S1x256, .f32⟩
  | .hbm, ⟨22, _⟩ => ⟨S1x256, .f32⟩
  | .hbm, ⟨23, _⟩ => ⟨S_, .f32⟩
  | .hbm, ⟨24, _⟩ => ⟨S1x256, .f32⟩
  | .hbm, ⟨25, _⟩ => ⟨S1x256, .f32⟩
  | .hbm, ⟨26, _⟩ => ⟨S1x256, .f32⟩
  | .hbm, ⟨27, _⟩ => ⟨S_, .f32⟩
  | .hbm, ⟨28, _⟩ => ⟨S1x256, .f32⟩
  | .hbm, ⟨29, _⟩ => ⟨S1x256, .f32⟩
  | .hbm, ⟨30, _⟩ => ⟨S1x256, .f32⟩
  | .hbm, ⟨31, _⟩ => ⟨S_, .f32⟩
  | .hbm, ⟨32, _⟩ => ⟨S1x256, .f32⟩
  | .hbm, ⟨33, _⟩ => ⟨S1x256, .f32⟩
  | .hbm, ⟨34, _⟩ => ⟨S1x256, .f32⟩
  | .hbm, ⟨35, _⟩ => ⟨S_, .f32⟩
  | .hbm, ⟨36, _⟩ => ⟨S1x256, .f32⟩
  | .hbm, ⟨37, _⟩ => ⟨S1x256, .f32⟩
  | _, _ => ⟨S1x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_cst_4 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_6 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_7 : Ref sig .tc := ⟨.hbm, 35, rfl⟩
abbrev main_v22 : Ref sig .tc := ⟨.hbm, 36, rfl⟩
abbrev main_v23 : Ref sig .tc := ⟨.hbm, 37, rfl⟩

abbrev nD : Nat := 1
abbrev τ : Topo := Topo.v7x

variable {F : FTy → Type} [FloatOps F]
-- ==== Small.lean ====
abbrev S8x1x2048 : Shape := ⟨3, ![8, 1, 2048]⟩
abbrev S8x1x1024 : Shape := ⟨3, ![8, 1, 1024]⟩
abbrev S8x1x512 : Shape := ⟨3, ![8, 1, 512]⟩
abbrev S8x1x256 : Shape := ⟨3, ![8, 1, 256]⟩
abbrev S8x16x512 : Shape := ⟨3, ![8, 16, 512]⟩
abbrev S8x1x128 : Shape := ⟨3, ![8, 1, 128]⟩
abbrev S8x16x128 : Shape := ⟨3, ![8, 16, 128]⟩
abbrev S8x8x128 : Shape := ⟨3, ![8, 8, 128]⟩
abbrev S8x4x128 : Shape := ⟨3, ![8, 4, 128]⟩
abbrev S8x2x128 : Shape := ⟨3, ![8, 2, 128]⟩
abbrev S8x64x128 : Shape := ⟨3, ![8, 64, 128]⟩
abbrev S8x143x128 : Shape := ⟨3, ![8, 143, 128]⟩
abbrev S_ : Shape := ⟨0, ![]⟩
abbrev S8x144x128 : Shape := ⟨3, ![8, 144, 128]⟩
abbrev S144x128 : Shape := ⟨2, ![144, 128]⟩
abbrev S1x144x128 : Shape := ⟨3, ![1, 144, 128]⟩

abbrev nBuf : Space → Nat
  | .hbm => 22
  | .vmem => 2
  | .smem => 0
  | _ => 0

abbrev bufTy : (tb : Table) → Fin (tcTables nBuf tb) → BufTy
  | .hbm, ⟨0, _⟩ => ⟨S8x1x2048, .f32⟩
  | .hbm, ⟨1, _⟩ => ⟨S8x1x2048, .f32⟩
  | .hbm, ⟨2, _⟩ => ⟨S8x1x2048, .f32⟩
  | .hbm, ⟨3, _⟩ => ⟨S8x1x2048, .f32⟩
  | .hbm, ⟨4, _⟩ => ⟨S8x1x1024, .f32⟩
  | .hbm, ⟨5, _⟩ => ⟨S8x1x512, .f32⟩
  | .hbm, ⟨6, _⟩ => ⟨S8x1x256, .f32⟩
  | .hbm, ⟨7, _⟩ => ⟨S8x16x512, .f32⟩
  | .hbm, ⟨8, _⟩ => ⟨S8x1x128, .f32⟩
  | .hbm, ⟨9, _⟩ => ⟨S8x16x128, .f32⟩
  | .hbm, ⟨10, _⟩ => ⟨S8x16x128, .f32⟩
  | .hbm, ⟨11, _⟩ => ⟨S8x16x128, .f32⟩
  | .hbm, ⟨12, _⟩ => ⟨S8x16x128, .f32⟩
  | .hbm, ⟨13, _⟩ => ⟨S8x8x128, .f32⟩
  | .hbm, ⟨14, _⟩ => ⟨S8x4x128, .f32⟩
  | .hbm, ⟨15, _⟩ => ⟨S8x2x128, .f32⟩
  | .hbm, ⟨16, _⟩ => ⟨S8x64x128, .f32⟩
  | .hbm, ⟨17, _⟩ => ⟨S8x143x128, .f32⟩
  | .hbm, ⟨18, _⟩ => ⟨S_, .i32⟩
  | .hbm, ⟨19, _⟩ => ⟨S_, .f32⟩
  | .hbm, ⟨20, _⟩ => ⟨S8x144x128, .f32⟩
  | .hbm, ⟨21, _⟩ => ⟨S144x128, .f32⟩
  | .local _ .vmem, ⟨0, _⟩ => ⟨S8x144x128, .f32⟩
  | .local _ .vmem, ⟨1, _⟩ => ⟨S144x128, .f32⟩
  | _, _ => ⟨S8x1x2048, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_c : Ref sig .tc := ⟨.hbm, 18, rfl⟩
abbrev main_call0_v0 : Ref sig .tc := ⟨.hbm, 19, rfl⟩
abbrev main_v9 : Ref sig .tc := ⟨.hbm, 20, rfl⟩
abbrev main_v10 : Ref sig .tc := ⟨.hbm, 21, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S8x144x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S144x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== SmallRefIdeal.lean ====
abbrev S8x1x2048 : Shape := ⟨3, ![8, 1, 2048]⟩
abbrev S8x1x1024 : Shape := ⟨3, ![8, 1, 1024]⟩
abbrev S8x1x512 : Shape := ⟨3, ![8, 1, 512]⟩
abbrev S8x1x256 : Shape := ⟨3, ![8, 1, 256]⟩
abbrev S8x16x512 : Shape := ⟨3, ![8, 16, 512]⟩
abbrev S8x1x128 : Shape := ⟨3, ![8, 1, 128]⟩
abbrev S_ : Shape := ⟨0, ![]⟩
abbrev S1x2048 : Shape := ⟨2, ![1, 2048]⟩
abbrev S16x128 : Shape := ⟨2, ![16, 128]⟩
abbrev S1x1024 : Shape := ⟨2, ![1, 1024]⟩
abbrev S8x128 : Shape := ⟨2, ![8, 128]⟩
abbrev S1x512 : Shape := ⟨2, ![1, 512]⟩
abbrev S4x128 : Shape := ⟨2, ![4, 128]⟩
abbrev S1x256 : Shape := ⟨2, ![1, 256]⟩
abbrev S2x128 : Shape := ⟨2, ![2, 128]⟩
abbrev S16x512 : Shape := ⟨2, ![16, 512]⟩
abbrev S64x128 : Shape := ⟨2, ![64, 128]⟩
abbrev S1x128 : Shape := ⟨2, ![1, 128]⟩
abbrev S143x128 : Shape := ⟨2, ![143, 128]⟩
abbrev S144x128 : Shape := ⟨2, ![144, 128]⟩

abbrev nBuf : Space → Nat
  | .hbm => 39
  | .vmem => 0
  | .smem => 0
  | _ => 0

abbrev bufTy : (tb : Table) → Fin (tcTables nBuf tb) → BufTy
  | .hbm, ⟨0, _⟩ => ⟨S8x1x2048, .f32⟩
  | .hbm, ⟨1, _⟩ => ⟨S8x1x2048, .f32⟩
  | .hbm, ⟨2, _⟩ => ⟨S8x1x2048, .f32⟩
  | .hbm, ⟨3, _⟩ => ⟨S8x1x2048, .f32⟩
  | .hbm, ⟨4, _⟩ => ⟨S8x1x1024, .f32⟩
  | .hbm, ⟨5, _⟩ => ⟨S8x1x512, .f32⟩
  | .hbm, ⟨6, _⟩ => ⟨S8x1x256, .f32⟩
  | .hbm, ⟨7, _⟩ => ⟨S8x16x512, .f32⟩
  | .hbm, ⟨8, _⟩ => ⟨S8x1x128, .f32⟩
  | .hbm, ⟨9, _⟩ => ⟨S_, .f32⟩
  | .hbm, ⟨10, _⟩ => ⟨S1x2048, .f32⟩
  | .hbm, ⟨11, _⟩ => ⟨S16x128, .f32⟩
  | .hbm, ⟨12, _⟩ => ⟨S_, .f32⟩
  | .hbm, ⟨13, _⟩ => ⟨S1x2048, .f32⟩
  | .hbm, ⟨14, _⟩ => ⟨S16x128, .f32⟩
  | .hbm, ⟨15, _⟩ => ⟨S_, .f32⟩
  | .hbm, ⟨16, _⟩ => ⟨S1x2048, .f32⟩
  | .hbm, ⟨17, _⟩ => ⟨S16x128, .f32⟩
  | .hbm, ⟨18, _⟩ => ⟨S_, .f32⟩
  | .hbm, ⟨19, _⟩ => ⟨S1x2048, .f32⟩
  | .hbm, ⟨20, _⟩ => ⟨S16x128, .f32⟩
  | .hbm, ⟨21, _⟩ => ⟨S_, .f32⟩
  | .hbm, ⟨22, _⟩ => ⟨S1x1024, .f32⟩
  | .hbm, ⟨23, _⟩ => ⟨S8x128, .f32⟩
  | .hbm, ⟨24, _⟩ => ⟨S_, .f32⟩
  | .hbm, ⟨25, _⟩ => ⟨S1x512, .f32⟩
  | .hbm, ⟨26, _⟩ => ⟨S4x128, .f32⟩
  | .hbm, ⟨27, _⟩ => ⟨S_, .f32⟩
  | .hbm, ⟨28, _⟩ => ⟨S1x256, .f32⟩
  | .hbm, ⟨29, _⟩ => ⟨S2x128, .f32⟩
  | .hbm, ⟨30, _⟩ => ⟨S_, .f32⟩
  | .hbm, ⟨31, _⟩ => ⟨S16x512, .f32⟩
  | .hbm, ⟨32, _⟩ => ⟨S64x128, .f32⟩
  | .hbm, ⟨33, _⟩ => ⟨S_, .f32⟩
  | .hbm, ⟨34, _⟩ => ⟨S1x128, .f32⟩
  | .hbm, ⟨35, _⟩ => ⟨S143x128, .f32⟩
  | .hbm, ⟨36, _⟩ => ⟨S_, .i32⟩
  | .hbm, ⟨37, _⟩ => ⟨S_, .f32⟩
  | .hbm, ⟨38, _⟩ => ⟨S144x128, .f32⟩
  | _, _ => ⟨S8x1x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_cst_0 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_v4 : Ref sig .tc := ⟨.hbm, 16, rfl⟩
abbrev main_v5 : Ref sig .tc := ⟨.hbm, 17, rfl⟩
abbrev main_cst_2 : Ref sig .tc := ⟨.hbm, 18, rfl⟩
abbrev main_v6 : Ref sig .tc := ⟨.hbm, 19, rfl⟩
abbrev main_v7 : Ref sig .tc := ⟨.hbm, 20, rfl⟩
abbrev main_cst_3 : Ref sig .tc := ⟨.hbm, 21, rfl⟩
abbrev main_v8 : Ref sig .tc := ⟨.hbm, 22, rfl⟩
abbrev main_v9 : Ref sig .tc := ⟨.hbm, 23, rfl⟩
abbrev main_cst_4 : Ref sig .tc := ⟨.hbm, 24, rfl⟩
abbrev main_v10 : Ref sig .tc := ⟨.hbm, 25, rfl⟩
abbrev main_v11 : Ref sig .tc := ⟨.hbm, 26, rfl⟩
abbrev main_cst_5 : Ref sig .tc := ⟨.hbm, 27, rfl⟩
abbrev main_v12 : Ref sig .tc := ⟨.hbm, 28, rfl⟩
abbrev main_v13 : Ref sig .tc := ⟨.hbm, 29, rfl⟩
abbrev main_cst_6 : Ref sig .tc := ⟨.hbm, 30, rfl⟩
abbrev main_v14 : Ref sig .tc := ⟨.hbm, 31, rfl⟩
abbrev main_v15 : Ref sig .tc := ⟨.hbm, 32, rfl⟩
abbrev main_cst_7 : Ref sig .tc := ⟨.hbm, 33, rfl⟩
abbrev main_v16 : Ref sig .tc := ⟨.hbm, 34, rfl⟩
abbrev main_v17 : Ref sig .tc := ⟨.hbm, 35, rfl⟩
abbrev main_c : Ref sig .tc := ⟨.hbm, 36, rfl⟩
abbrev main_call0_v0 : Ref sig .tc := ⟨.hbm, 37, rfl⟩
abbrev main_v18 : Ref sig .tc := ⟨.hbm, 38, rfl⟩

abbrev nD : Nat := 1
abbrev τ : Topo := Topo.v7x

variable {F : FTy → Type} [FloatOps F]
-- ==== SumUp.lean ====
abbrev S1 : Shape := ⟨1, ![1]⟩
abbrev S4x1024x2816 : Shape := ⟨3, ![4, 1024, 2816]⟩
abbrev S3x1024x2816 : Shape := ⟨3, ![3, 1024, 2816]⟩
abbrev S2 : Shape := ⟨1, ![2]⟩
abbrev S2048x2816 : Shape := ⟨2, ![2048, 2816]⟩
abbrev S1x128x2816 : Shape := ⟨3, ![1, 128, 2816]⟩
abbrev S3x128x2816 : Shape := ⟨3, ![3, 128, 2816]⟩
abbrev S128x2816 : Shape := ⟨2, ![128, 2816]⟩
abbrev S_ : Shape := ⟨0, ![]⟩
abbrev S1024x2816 : Shape := ⟨2, ![1024, 2816]⟩

abbrev nBuf : Space → Nat
  | .hbm => 11
  | .vmem => 6
  | .smem => 1
  | _ => 0

abbrev bufTy : (tb : Table) → Fin (tcTables nBuf tb) → BufTy
  | .hbm, ⟨0, _⟩ => ⟨S1, .i32⟩
  | .hbm, ⟨1, _⟩ => ⟨S1, .i32⟩
  | .hbm, ⟨2, _⟩ => ⟨S4x1024x2816, .bf16⟩
  | .hbm, ⟨3, _⟩ => ⟨S3x1024x2816, .bf16⟩
  | .hbm, ⟨4, _⟩ => ⟨S2048x2816, .f32⟩
  | .hbm, ⟨5, _⟩ => ⟨S_, .i32⟩
  | .hbm, ⟨6, _⟩ => ⟨S_, .i32⟩
  | .hbm, ⟨7, _⟩ => ⟨S_, .i1⟩
  | .hbm, ⟨8, _⟩ => ⟨S1024x2816, .f32⟩
  | .hbm, ⟨9, _⟩ => ⟨S1024x2816, .f32⟩
  | .hbm, ⟨10, _⟩ => ⟨S1024x2816, .f32⟩
  | .local _ .vmem, ⟨0, _⟩ => ⟨S1x128x2816, .bf16⟩
  | .local _ .vmem, ⟨1, _⟩ => ⟨S1x128x2816, .bf16⟩
  | .local _ .vmem, ⟨2, _⟩ => ⟨S3x128x2816, .bf16⟩
  | .local _ .vmem, ⟨3, _⟩ => ⟨S3x128x2816, .bf16⟩
  | .local _ .vmem, ⟨4, _⟩ => ⟨S128x2816, .f32⟩
  | .local _ .vmem, ⟨5, _⟩ => ⟨S128x2816, .f32⟩
  | .local _ .smem, ⟨0, _⟩ => ⟨S2, .i32⟩
  | _, _ => ⟨S1, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![8], ![false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S2_S1_0 : ∀ a, (![0] : Fin 1 → Nat) a + S1.size a ≤ S2.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S2) ![0] S1.size inb_S2_S1_0) numel1_S1
  let c0_i32 : BitVec 32 := 0#32
  let c0_i32_0 : BitVec 32 := 0#32
  ![v0.toNat, arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (inb_S2_S1_1 : ∀ a, (![1] : Fin 1 → Nat) a + S1.size a ≤ S2.size a) (numel1_S1 : S1.numel = 1) (pf : pre0.Contents (Elt F)) (i : grid0.Coords) : Fin 2 → Nat :=
  let arg0 : BitVec 32 := BitVec.ofNat 32 (i 0).val
  let c1 : Index := 1#32
  let v0 : BitVec 32 := pf.at 0 (Rect.unit (s := S2) ![1] S1.size inb_S2_S1_1) numel1_S1
  let c8_i32 : BitVec 32 := 8#32
  let v1 : BitVec 32 := Scalar.muli v0 c8_i32
  let v2 : BitVec 32 := Scalar.addi v1 arg0
  let c0_i32 : BitVec 32 := 0#32
  let c0_i32_0 : BitVec 32 := 0#32
  ![v2.toNat, c0_i32.toNat]

abbrev stage0_0 : Fin 2 → Memref sig .tc .vmem S1x128x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x128x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2816 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== SumUpIdeal.lean ====
abbrev S1 : Shape := ⟨1, ![1]⟩
abbrev S4x1024x2816 : Shape := ⟨3, ![4, 1024, 2816]⟩
abbrev S3x1024x2816 : Shape := ⟨3, ![3, 1024, 2816]⟩
abbrev S2 : Shape := ⟨1, ![2]⟩
abbrev S2048x2816 : Shape := ⟨2, ![2048, 2816]⟩
abbrev S1x128x2816 : Shape := ⟨3, ![1, 128, 2816]⟩
abbrev S3x128x2816 : Shape := ⟨3, ![3, 128, 2816]⟩
abbrev S128x2816 : Shape := ⟨2, ![128, 2816]⟩
abbrev S_ : Shape := ⟨0, ![]⟩
abbrev S1024x2816 : Shape := ⟨2, ![1024, 2816]⟩

abbrev nBuf : Space → Nat
  | .hbm => 11
  | .vmem => 6
  | .smem => 1
  | _ => 0

abbrev bufTy : (tb : Table) → Fin (tcTables nBuf tb) → BufTy
  | .hbm, ⟨0, _⟩ => ⟨S1, .i32⟩
  | .hbm, ⟨1, _⟩ => ⟨S1, .i32⟩
  | .hbm, ⟨2, _⟩ => ⟨S4x1024x2816, .bf16⟩
  | .hbm, ⟨3, _⟩ => ⟨S3x1024x2816, .bf16⟩
  | .hbm, ⟨4, _⟩ => ⟨S2048x2816, .f32⟩
  | .hbm, ⟨5, _⟩ => ⟨S_, .i32⟩
  | .hbm, ⟨6, _⟩ => ⟨S_, .i32⟩
  | .hbm, ⟨7, _⟩ => ⟨S_, .i1⟩
  | .hbm, ⟨8, _⟩ => ⟨S1024x2816, .f32⟩
  | .hbm, ⟨9, _⟩ => ⟨S1024x2816, .f32⟩
  | .hbm, ⟨10, _⟩ => ⟨S1024x2816, .f32⟩
  | .local _ .vmem, ⟨0, _⟩ => ⟨S1x128x2816, .bf16⟩
  | .local _ .vmem, ⟨1, _⟩ => ⟨S1x128x2816, .bf16⟩
  | .local _ .vmem, ⟨2, _⟩ => ⟨S3x128x2816, .bf16⟩
  | .local _ .vmem, ⟨3, _⟩ => ⟨S3x128x2816, .bf16⟩
  | .local _ .vmem, ⟨4, _⟩ => ⟨S128x2816, .f32⟩
  | .local _ .vmem, ⟨5, _⟩ => ⟨S128x2816, .f32⟩
  | .local _ .smem, ⟨0, _⟩ => ⟨S2, .i32⟩
  | _, _ => ⟨S1, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![8], ![false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S2_S1_0 : ∀ a, (![0] : Fin 1 → Nat) a + S1.size a ≤ S2.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S2) ![0] S1.size inb_S2_S1_0) numel1_S1
  let c0_i32 : BitVec 32 := 0#32
  let c0_i32_0 : BitVec 32 := 0#32
  ![v0.toNat, arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (inb_S2_S1_1 : ∀ a, (![1] : Fin 1 → Nat) a + S1.size a ≤ S2.size a) (numel1_S1 : S1.numel = 1) (pf : pre0.Contents (Elt F)) (i : grid0.Coords) : Fin 2 → Nat :=
  let arg0 : BitVec 32 := BitVec.ofNat 32 (i 0).val
  let c1 : Index := 1#32
  let v0 : BitVec 32 := pf.at 0 (Rect.unit (s := S2) ![1] S1.size inb_S2_S1_1) numel1_S1
  let c8_i32 : BitVec 32 := 8#32
  let v1 : BitVec 32 := Scalar.muli v0 c8_i32
  let v2 : BitVec 32 := Scalar.addi v1 arg0
  let c0_i32 : BitVec 32 := 0#32
  let c0_i32_0 : BitVec 32 := 0#32
  ![v2.toNat, c0_i32.toNat]

abbrev stage0_0 : Fin 2 → Memref sig .tc .vmem S1x128x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x128x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2816 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== SumUpRefIdeal.lean ====
abbrev S1 : Shape := ⟨1, ![1]⟩
abbrev S4x1024x2816 : Shape := ⟨3, ![4, 1024, 2816]⟩
abbrev S3x1024x2816 : Shape := ⟨3, ![3, 1024, 2816]⟩
abbrev S4 : Shape := ⟨1, ![4]⟩
abbrev S4x1x1 : Shape := ⟨3, ![4, 1, 1]⟩
abbrev S_ : Shape := ⟨0, ![]⟩
abbrev S1024x2816 : Shape := ⟨2, ![1024, 2816]⟩

abbrev nBuf : Space → Nat
  | .hbm => 21
  | .vmem => 0
  | .smem => 0
  | _ => 0

abbrev bufTy : (tb : Table) → Fin (tcTables nBuf tb) → BufTy
  | .hbm, ⟨0, _⟩ => ⟨S1, .i32⟩
  | .hbm, ⟨1, _⟩ => ⟨S1, .i32⟩
  | .hbm, ⟨2, _⟩ => ⟨S4x1024x2816, .bf16⟩
  | .hbm, ⟨3, _⟩ => ⟨S3x1024x2816, .bf16⟩
  | .hbm, ⟨4, _⟩ => ⟨S4, .i32⟩
  | .hbm, ⟨5, _⟩ => ⟨S4x1x1, .i32⟩
  | .hbm, ⟨6, _⟩ => ⟨S_, .i32⟩
  | .hbm, ⟨7, _⟩ => ⟨S4x1x1, .i32⟩
  | .hbm, ⟨8, _⟩ => ⟨S4x1x1, .i1⟩
  | .hbm, ⟨9, _⟩ => ⟨S4x1024x2816, .f32⟩
  | .hbm, ⟨10, _⟩ => ⟨S_, .f32⟩
  | .hbm, ⟨11, _⟩ => ⟨S_, .f32⟩
  | .hbm, ⟨12, _⟩ => ⟨S4x1024x2816, .i1⟩
  | .hbm, ⟨13, _⟩ => ⟨S4x1024x2816, .f32⟩
  | .hbm, ⟨14, _⟩ => ⟨S4x1024x2816, .f32⟩
  | .hbm, ⟨15, _⟩ => ⟨S_, .f32⟩
  | .hbm, ⟨16, _⟩ => ⟨S1024x2816, .f32⟩
  | .hbm, ⟨17, _⟩ => ⟨S3x1024x2816, .f32⟩
  | .hbm, ⟨18, _⟩ => ⟨S_, .f32⟩
  | .hbm, ⟨19, _⟩ => ⟨S1024x2816, .f32⟩
  | .hbm, ⟨20, _⟩ => ⟨S1024x2816, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩

abbrev nD : Nat := 1
abbrev τ : Topo := Topo.v7x

variable {F : FTy → Type} [FloatOps F]
-- ==== SumOut.lean ====
abbrev S1 : Shape := ⟨1, ![1]⟩
abbrev S4x704x2048 : Shape := ⟨3, ![4, 704, 2048]⟩
abbrev S3x704x2048 : Shape := ⟨3, ![3, 704, 2048]⟩
abbrev S2 : Shape := ⟨1, ![2]⟩
abbrev S1408x2048 : Shape := ⟨2, ![1408, 2048]⟩
abbrev S1x176x2048 : Shape := ⟨3, ![1, 176, 2048]⟩
abbrev S3x176x2048 : Shape := ⟨3, ![3, 176, 2048]⟩
abbrev S176x2048 : Shape := ⟨2, ![176, 2048]⟩
abbrev S_ : Shape := ⟨0, ![]⟩
abbrev S704x2048 : Shape := ⟨2, ![704, 2048]⟩

abbrev nBuf : Space → Nat
  | .hbm => 11
  | .vmem => 6
  | .smem => 1
  | _ => 0

abbrev bufTy : (tb : Table) → Fin (tcTables nBuf tb) → BufTy
  | .hbm, ⟨0, _⟩ => ⟨S1, .i32⟩
  | .hbm, ⟨1, _⟩ => ⟨S1, .i32⟩
  | .hbm, ⟨2, _⟩ => ⟨S4x704x2048, .bf16⟩
  | .hbm, ⟨3, _⟩ => ⟨S3x704x2048, .bf16⟩
  | .hbm, ⟨4, _⟩ => ⟨S1408x2048, .f32⟩
  | .hbm, ⟨5, _⟩ => ⟨S_, .i32⟩
  | .hbm, ⟨6, _⟩ => ⟨S_, .i32⟩
  | .hbm, ⟨7, _⟩ => ⟨S_, .i1⟩
  | .hbm, ⟨8, _⟩ => ⟨S704x2048, .f32⟩
  | .hbm, ⟨9, _⟩ => ⟨S704x2048, .f32⟩
  | .hbm, ⟨10, _⟩ => ⟨S704x2048, .f32⟩
  | .local _ .vmem, ⟨0, _⟩ => ⟨S1x176x2048, .bf16⟩
  | .local _ .vmem, ⟨1, _⟩ => ⟨S1x176x2048, .bf16⟩
  | .local _ .vmem, ⟨2, _⟩ => ⟨S3x176x2048, .bf16⟩
  | .local _ .vmem, ⟨3, _⟩ => ⟨S3x176x2048, .bf16⟩
  | .local _ .vmem, ⟨4, _⟩ => ⟨S176x2048, .f32⟩
  | .local _ .vmem, ⟨5, _⟩ => ⟨S176x2048, .f32⟩
  | .local _ .smem, ⟨0, _⟩ => ⟨S2, .i32⟩
  | _, _ => ⟨S1, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![4], ![false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S2_S1_0 : ∀ a, (![0] : Fin 1 → Nat) a + S1.size a ≤ S2.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S2) ![0] S1.size inb_S2_S1_0) numel1_S1
  let c0_i32 : BitVec 32 := 0#32
  let c0_i32_0 : BitVec 32 := 0#32
  ![v0.toNat, arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (inb_S2_S1_1 : ∀ a, (![1] : Fin 1 → Nat) a + S1.size a ≤ S2.size a) (numel1_S1 : S1.numel = 1) (pf : pre0.Contents (Elt F)) (i : grid0.Coords) : Fin 2 → Nat :=
  let arg0 : BitVec 32 := BitVec.ofNat 32 (i 0).val
  let c1 : Index := 1#32
  let v0 : BitVec 32 := pf.at 0 (Rect.unit (s := S2) ![1] S1.size inb_S2_S1_1) numel1_S1
  let c4_i32 : BitVec 32 := 4#32
  let v1 : BitVec 32 := Scalar.muli v0 c4_i32
  let v2 : BitVec 32 := Scalar.addi v1 arg0
  let c0_i32 : BitVec 32 := 0#32
  let c0_i32_0 : BitVec 32 := 0#32
  ![v2.toNat, c0_i32.toNat]

abbrev stage0_0 : Fin 2 → Memref sig .tc .vmem S1x176x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x176x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== SumOutIdeal.lean ====
abbrev S1 : Shape := ⟨1, ![1]⟩
abbrev S4x704x2048 : Shape := ⟨3, ![4, 704, 2048]⟩
abbrev S3x704x2048 : Shape := ⟨3, ![3, 704, 2048]⟩
abbrev S2 : Shape := ⟨1, ![2]⟩
abbrev S1408x2048 : Shape := ⟨2, ![1408, 2048]⟩
abbrev S1x176x2048 : Shape := ⟨3, ![1, 176, 2048]⟩
abbrev S3x176x2048 : Shape := ⟨3, ![3, 176, 2048]⟩
abbrev S176x2048 : Shape := ⟨2, ![176, 2048]⟩
abbrev S_ : Shape := ⟨0, ![]⟩
abbrev S704x2048 : Shape := ⟨2, ![704, 2048]⟩

abbrev nBuf : Space → Nat
  | .hbm => 11
  | .vmem => 6
  | .smem => 1
  | _ => 0

abbrev bufTy : (tb : Table) → Fin (tcTables nBuf tb) → BufTy
  | .hbm, ⟨0, _⟩ => ⟨S1, .i32⟩
  | .hbm, ⟨1, _⟩ => ⟨S1, .i32⟩
  | .hbm, ⟨2, _⟩ => ⟨S4x704x2048, .bf16⟩
  | .hbm, ⟨3, _⟩ => ⟨S3x704x2048, .bf16⟩
  | .hbm, ⟨4, _⟩ => ⟨S1408x2048, .f32⟩
  | .hbm, ⟨5, _⟩ => ⟨S_, .i32⟩
  | .hbm, ⟨6, _⟩ => ⟨S_, .i32⟩
  | .hbm, ⟨7, _⟩ => ⟨S_, .i1⟩
  | .hbm, ⟨8, _⟩ => ⟨S704x2048, .f32⟩
  | .hbm, ⟨9, _⟩ => ⟨S704x2048, .f32⟩
  | .hbm, ⟨10, _⟩ => ⟨S704x2048, .f32⟩
  | .local _ .vmem, ⟨0, _⟩ => ⟨S1x176x2048, .bf16⟩
  | .local _ .vmem, ⟨1, _⟩ => ⟨S1x176x2048, .bf16⟩
  | .local _ .vmem, ⟨2, _⟩ => ⟨S3x176x2048, .bf16⟩
  | .local _ .vmem, ⟨3, _⟩ => ⟨S3x176x2048, .bf16⟩
  | .local _ .vmem, ⟨4, _⟩ => ⟨S176x2048, .f32⟩
  | .local _ .vmem, ⟨5, _⟩ => ⟨S176x2048, .f32⟩
  | .local _ .smem, ⟨0, _⟩ => ⟨S2, .i32⟩
  | _, _ => ⟨S1, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![4], ![false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S2_S1_0 : ∀ a, (![0] : Fin 1 → Nat) a + S1.size a ≤ S2.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S2) ![0] S1.size inb_S2_S1_0) numel1_S1
  let c0_i32 : BitVec 32 := 0#32
  let c0_i32_0 : BitVec 32 := 0#32
  ![v0.toNat, arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (inb_S2_S1_1 : ∀ a, (![1] : Fin 1 → Nat) a + S1.size a ≤ S2.size a) (numel1_S1 : S1.numel = 1) (pf : pre0.Contents (Elt F)) (i : grid0.Coords) : Fin 2 → Nat :=
  let arg0 : BitVec 32 := BitVec.ofNat 32 (i 0).val
  let c1 : Index := 1#32
  let v0 : BitVec 32 := pf.at 0 (Rect.unit (s := S2) ![1] S1.size inb_S2_S1_1) numel1_S1
  let c4_i32 : BitVec 32 := 4#32
  let v1 : BitVec 32 := Scalar.muli v0 c4_i32
  let v2 : BitVec 32 := Scalar.addi v1 arg0
  let c0_i32 : BitVec 32 := 0#32
  let c0_i32_0 : BitVec 32 := 0#32
  ![v2.toNat, c0_i32.toNat]

abbrev stage0_0 : Fin 2 → Memref sig .tc .vmem S1x176x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x176x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== SumOutRefIdeal.lean ====
abbrev S1 : Shape := ⟨1, ![1]⟩
abbrev S4x704x2048 : Shape := ⟨3, ![4, 704, 2048]⟩
abbrev S3x704x2048 : Shape := ⟨3, ![3, 704, 2048]⟩
abbrev S4 : Shape := ⟨1, ![4]⟩
abbrev S4x1x1 : Shape := ⟨3, ![4, 1, 1]⟩
abbrev S_ : Shape := ⟨0, ![]⟩
abbrev S704x2048 : Shape := ⟨2, ![704, 2048]⟩

abbrev nBuf : Space → Nat
  | .hbm => 21
  | .vmem => 0
  | .smem => 0
  | _ => 0

abbrev bufTy : (tb : Table) → Fin (tcTables nBuf tb) → BufTy
  | .hbm, ⟨0, _⟩ => ⟨S1, .i32⟩
  | .hbm, ⟨1, _⟩ => ⟨S1, .i32⟩
  | .hbm, ⟨2, _⟩ => ⟨S4x704x2048, .bf16⟩
  | .hbm, ⟨3, _⟩ => ⟨S3x704x2048, .bf16⟩
  | .hbm, ⟨4, _⟩ => ⟨S4, .i32⟩
  | .hbm, ⟨5, _⟩ => ⟨S4x1x1, .i32⟩
  | .hbm, ⟨6, _⟩ => ⟨S_, .i32⟩
  | .hbm, ⟨7, _⟩ => ⟨S4x1x1, .i32⟩
  | .hbm, ⟨8, _⟩ => ⟨S4x1x1, .i1⟩
  | .hbm, ⟨9, _⟩ => ⟨S4x704x2048, .f32⟩
  | .hbm, ⟨10, _⟩ => ⟨S_, .f32⟩
  | .hbm, ⟨11, _⟩ => ⟨S_, .f32⟩
  | .hbm, ⟨12, _⟩ => ⟨S4x704x2048, .i1⟩
  | .hbm, ⟨13, _⟩ => ⟨S4x704x2048, .f32⟩
  | .hbm, ⟨14, _⟩ => ⟨S4x704x2048, .f32⟩
  | .hbm, ⟨15, _⟩ => ⟨S_, .f32⟩
  | .hbm, ⟨16, _⟩ => ⟨S704x2048, .f32⟩
  | .hbm, ⟨17, _⟩ => ⟨S3x704x2048, .f32⟩
  | .hbm, ⟨18, _⟩ => ⟨S_, .f32⟩
  | .hbm, ⟨19, _⟩ => ⟨S704x2048, .f32⟩
  | .hbm, ⟨20, _⟩ => ⟨S704x2048, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩

abbrev nD : Nat := 1
abbrev τ : Topo := Topo.v7x

variable {F : FTy → Type} [FloatOps F]
-- ==== SumMixIn.lean ====
abbrev S1 : Shape := ⟨1, ![1]⟩
abbrev S4x1024x1028 : Shape := ⟨3, ![4, 1024, 1028]⟩
abbrev S3x1024x1028 : Shape := ⟨3, ![3, 1024, 1028]⟩
abbrev S2 : Shape := ⟨1, ![2]⟩
abbrev S2048x1028 : Shape := ⟨2, ![2048, 1028]⟩
abbrev S1x256x1028 : Shape := ⟨3, ![1, 256, 1028]⟩
abbrev S3x256x1028 : Shape := ⟨3, ![3, 256, 1028]⟩
abbrev S256x1028 : Shape := ⟨2, ![256, 1028]⟩
abbrev S_ : Shape := ⟨0, ![]⟩
abbrev S1024x1028 : Shape := ⟨2, ![1024, 1028]⟩

abbrev nBuf : Space → Nat
  | .hbm => 11
  | .vmem => 6
  | .smem => 1
  | _ => 0

abbrev bufTy : (tb : Table) → Fin (tcTables nBuf tb) → BufTy
  | .hbm, ⟨0, _⟩ => ⟨S1, .i32⟩
  | .hbm, ⟨1, _⟩ => ⟨S1, .i32⟩
  | .hbm, ⟨2, _⟩ => ⟨S4x1024x1028, .bf16⟩
  | .hbm, ⟨3, _⟩ => ⟨S3x1024x1028, .bf16⟩
  | .hbm, ⟨4, _⟩ => ⟨S2048x1028, .f32⟩
  | .hbm, ⟨5, _⟩ => ⟨S_, .i32⟩
  | .hbm, ⟨6, _⟩ => ⟨S_, .i32⟩
  | .hbm, ⟨7, _⟩ => ⟨S_, .i1⟩
  | .hbm, ⟨8, _⟩ => ⟨S1024x1028, .f32⟩
  | .hbm, ⟨9, _⟩ => ⟨S1024x1028, .f32⟩
  | .hbm, ⟨10, _⟩ => ⟨S1024x1028, .f32⟩
  | .local _ .vmem, ⟨0, _⟩ => ⟨S1x256x1028, .bf16⟩
  | .local _ .vmem, ⟨1, _⟩ => ⟨S1x256x1028, .bf16⟩
  | .local _ .vmem, ⟨2, _⟩ => ⟨S3x256x1028, .bf16⟩
  | .local _ .vmem, ⟨3, _⟩ => ⟨S3x256x1028, .bf16⟩
  | .local _ .vmem, ⟨4, _⟩ => ⟨S256x1028, .f32⟩
  | .local _ .vmem, ⟨5, _⟩ => ⟨S256x1028, .f32⟩
  | .local _ .smem, ⟨0, _⟩ => ⟨S2, .i32⟩
  | _, _ => ⟨S1, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![4], ![false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S2_S1_0 : ∀ a, (![0] : Fin 1 → Nat) a + S1.size a ≤ S2.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S2) ![0] S1.size inb_S2_S1_0) numel1_S1
  let c0_i32 : BitVec 32 := 0#32
  let c0_i32_0 : BitVec 32 := 0#32
  ![v0.toNat, arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (inb_S2_S1_1 : ∀ a, (![1] : Fin 1 → Nat) a + S1.size a ≤ S2.size a) (numel1_S1 : S1.numel = 1) (pf : pre0.Contents (Elt F)) (i : grid0.Coords) : Fin 2 → Nat :=
  let arg0 : BitVec 32 := BitVec.ofNat 32 (i 0).val
  let c1 : Index := 1#32
  let v0 : BitVec 32 := pf.at 0 (Rect.unit (s := S2) ![1] S1.size inb_S2_S1_1) numel1_S1
  let c4_i32 : BitVec 32 := 4#32
  let v1 : BitVec 32 := Scalar.muli v0 c4_i32
  let v2 : BitVec 32 := Scalar.addi v1 arg0
  let c0_i32 : BitVec 32 := 0#32
  let c0_i32_0 : BitVec 32 := 0#32
  ![v2.toNat, c0_i32.toNat]

abbrev stage0_0 : Fin 2 → Memref sig .tc .vmem S1x256x1028 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x256x1028 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1028 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== SumMixInIdeal.lean ====
abbrev S1 : Shape := ⟨1, ![1]⟩
abbrev S4x1024x1028 : Shape := ⟨3, ![4, 1024, 1028]⟩
abbrev S3x1024x1028 : Shape := ⟨3, ![3, 1024, 1028]⟩
abbrev S2 : Shape := ⟨1, ![2]⟩
abbrev S2048x1028 : Shape := ⟨2, ![2048, 1028]⟩
abbrev S1x256x1028 : Shape := ⟨3, ![1, 256, 1028]⟩
abbrev S3x256x1028 : Shape := ⟨3, ![3, 256, 1028]⟩
abbrev S256x1028 : Shape := ⟨2, ![256, 1028]⟩
abbrev S_ : Shape := ⟨0, ![]⟩
abbrev S1024x1028 : Shape := ⟨2, ![1024, 1028]⟩

abbrev nBuf : Space → Nat
  | .hbm => 11
  | .vmem => 6
  | .smem => 1
  | _ => 0

abbrev bufTy : (tb : Table) → Fin (tcTables nBuf tb) → BufTy
  | .hbm, ⟨0, _⟩ => ⟨S1, .i32⟩
  | .hbm, ⟨1, _⟩ => ⟨S1, .i32⟩
  | .hbm, ⟨2, _⟩ => ⟨S4x1024x1028, .bf16⟩
  | .hbm, ⟨3, _⟩ => ⟨S3x1024x1028, .bf16⟩
  | .hbm, ⟨4, _⟩ => ⟨S2048x1028, .f32⟩
  | .hbm, ⟨5, _⟩ => ⟨S_, .i32⟩
  | .hbm, ⟨6, _⟩ => ⟨S_, .i32⟩
  | .hbm, ⟨7, _⟩ => ⟨S_, .i1⟩
  | .hbm, ⟨8, _⟩ => ⟨S1024x1028, .f32⟩
  | .hbm, ⟨9, _⟩ => ⟨S1024x1028, .f32⟩
  | .hbm, ⟨10, _⟩ => ⟨S1024x1028, .f32⟩
  | .local _ .vmem, ⟨0, _⟩ => ⟨S1x256x1028, .bf16⟩
  | .local _ .vmem, ⟨1, _⟩ => ⟨S1x256x1028, .bf16⟩
  | .local _ .vmem, ⟨2, _⟩ => ⟨S3x256x1028, .bf16⟩
  | .local _ .vmem, ⟨3, _⟩ => ⟨S3x256x1028, .bf16⟩
  | .local _ .vmem, ⟨4, _⟩ => ⟨S256x1028, .f32⟩
  | .local _ .vmem, ⟨5, _⟩ => ⟨S256x1028, .f32⟩
  | .local _ .smem, ⟨0, _⟩ => ⟨S2, .i32⟩
  | _, _ => ⟨S1, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![4], ![false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S2_S1_0 : ∀ a, (![0] : Fin 1 → Nat) a + S1.size a ≤ S2.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S2) ![0] S1.size inb_S2_S1_0) numel1_S1
  let c0_i32 : BitVec 32 := 0#32
  let c0_i32_0 : BitVec 32 := 0#32
  ![v0.toNat, arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (inb_S2_S1_1 : ∀ a, (![1] : Fin 1 → Nat) a + S1.size a ≤ S2.size a) (numel1_S1 : S1.numel = 1) (pf : pre0.Contents (Elt F)) (i : grid0.Coords) : Fin 2 → Nat :=
  let arg0 : BitVec 32 := BitVec.ofNat 32 (i 0).val
  let c1 : Index := 1#32
  let v0 : BitVec 32 := pf.at 0 (Rect.unit (s := S2) ![1] S1.size inb_S2_S1_1) numel1_S1
  let c4_i32 : BitVec 32 := 4#32
  let v1 : BitVec 32 := Scalar.muli v0 c4_i32
  let v2 : BitVec 32 := Scalar.addi v1 arg0
  let c0_i32 : BitVec 32 := 0#32
  let c0_i32_0 : BitVec 32 := 0#32
  ![v2.toNat, c0_i32.toNat]

abbrev stage0_0 : Fin 2 → Memref sig .tc .vmem S1x256x1028 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x256x1028 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1028 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== SumMixInRefIdeal.lean ====
abbrev S1 : Shape := ⟨1, ![1]⟩
abbrev S4x1024x1028 : Shape := ⟨3, ![4, 1024, 1028]⟩
abbrev S3x1024x1028 : Shape := ⟨3, ![3, 1024, 1028]⟩
abbrev S4 : Shape := ⟨1, ![4]⟩
abbrev S4x1x1 : Shape := ⟨3, ![4, 1, 1]⟩
abbrev S_ : Shape := ⟨0, ![]⟩
abbrev S1024x1028 : Shape := ⟨2, ![1024, 1028]⟩

abbrev nBuf : Space → Nat
  | .hbm => 21
  | .vmem => 0
  | .smem => 0
  | _ => 0

abbrev bufTy : (tb : Table) → Fin (tcTables nBuf tb) → BufTy
  | .hbm, ⟨0, _⟩ => ⟨S1, .i32⟩
  | .hbm, ⟨1, _⟩ => ⟨S1, .i32⟩
  | .hbm, ⟨2, _⟩ => ⟨S4x1024x1028, .bf16⟩
  | .hbm, ⟨3, _⟩ => ⟨S3x1024x1028, .bf16⟩
  | .hbm, ⟨4, _⟩ => ⟨S4, .i32⟩
  | .hbm, ⟨5, _⟩ => ⟨S4x1x1, .i32⟩
  | .hbm, ⟨6, _⟩ => ⟨S_, .i32⟩
  | .hbm, ⟨7, _⟩ => ⟨S4x1x1, .i32⟩
  | .hbm, ⟨8, _⟩ => ⟨S4x1x1, .i1⟩
  | .hbm, ⟨9, _⟩ => ⟨S4x1024x1028, .f32⟩
  | .hbm, ⟨10, _⟩ => ⟨S_, .f32⟩
  | .hbm, ⟨11, _⟩ => ⟨S_, .f32⟩
  | .hbm, ⟨12, _⟩ => ⟨S4x1024x1028, .i1⟩
  | .hbm, ⟨13, _⟩ => ⟨S4x1024x1028, .f32⟩
  | .hbm, ⟨14, _⟩ => ⟨S4x1024x1028, .f32⟩
  | .hbm, ⟨15, _⟩ => ⟨S_, .f32⟩
  | .hbm, ⟨16, _⟩ => ⟨S1024x1028, .f32⟩
  | .hbm, ⟨17, _⟩ => ⟨S3x1024x1028, .f32⟩
  | .hbm, ⟨18, _⟩ => ⟨S_, .f32⟩
  | .hbm, ⟨19, _⟩ => ⟨S1024x1028, .f32⟩
  | .hbm, ⟨20, _⟩ => ⟨S1024x1028, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩

abbrev nD : Nat := 1
abbrev τ : Topo := Topo.v7x

variable {F : FTy → Type} [FloatOps F]
-- ==== SumMixOut.lean ====
abbrev S1 : Shape := ⟨1, ![1]⟩
abbrev S4x256x2048 : Shape := ⟨3, ![4, 256, 2048]⟩
abbrev S3x256x2048 : Shape := ⟨3, ![3, 256, 2048]⟩
abbrev S2 : Shape := ⟨1, ![2]⟩
abbrev S512x2048 : Shape := ⟨2, ![512, 2048]⟩
abbrev S1x256x2048 : Shape := ⟨3, ![1, 256, 2048]⟩
abbrev S256x2048 : Shape := ⟨2, ![256, 2048]⟩
abbrev S_ : Shape := ⟨0, ![]⟩

abbrev nBuf : Space → Nat
  | .hbm => 11
  | .vmem => 3
  | .smem => 1
  | _ => 0

abbrev bufTy : (tb : Table) → Fin (tcTables nBuf tb) → BufTy
  | .hbm, ⟨0, _⟩ => ⟨S1, .i32⟩
  | .hbm, ⟨1, _⟩ => ⟨S1, .i32⟩
  | .hbm, ⟨2, _⟩ => ⟨S4x256x2048, .bf16⟩
  | .hbm, ⟨3, _⟩ => ⟨S3x256x2048, .bf16⟩
  | .hbm, ⟨4, _⟩ => ⟨S512x2048, .f32⟩
  | .hbm, ⟨5, _⟩ => ⟨S_, .i32⟩
  | .hbm, ⟨6, _⟩ => ⟨S_, .i32⟩
  | .hbm, ⟨7, _⟩ => ⟨S_, .i1⟩
  | .hbm, ⟨8, _⟩ => ⟨S256x2048, .f32⟩
  | .hbm, ⟨9, _⟩ => ⟨S256x2048, .f32⟩
  | .hbm, ⟨10, _⟩ => ⟨S256x2048, .f32⟩
  | .local _ .vmem, ⟨0, _⟩ => ⟨S1x256x2048, .bf16⟩
  | .local _ .vmem, ⟨1, _⟩ => ⟨S3x256x2048, .bf16⟩
  | .local _ .vmem, ⟨2, _⟩ => ⟨S256x2048, .f32⟩
  | .local _ .smem, ⟨0, _⟩ => ⟨S2, .i32⟩
  | _, _ => ⟨S1, .i32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v0 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S2_S1_0 : ∀ a, (![0] : Fin 1 → Nat) a + S1.size a ≤ S2.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S2) ![0] S1.size inb_S2_S1_0) numel1_S1
  let c0_i32 : BitVec 32 := 0#32
  let c0_i32_0 : BitVec 32 := 0#32
  ![v0.toNat, arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (inb_S2_S1_1 : ∀ a, (![1] : Fin 1 → Nat) a + S1.size a ≤ S2.size a) (numel1_S1 : S1.numel = 1) (pf : pre0.Contents (Elt F)) (i : grid0.Coords) : Fin 2 → Nat :=
  let arg0 : BitVec 32 := BitVec.ofNat 32 (i 0).val
  let c1 : Index := 1#32
  let v0 : BitVec 32 := pf.at 0 (Rect.unit (s := S2) ![1] S1.size inb_S2_S1_1) numel1_S1
  let c1_i32 : BitVec 32 := 1#32
  let v1 : BitVec 32 := Scalar.muli v0 c1_i32
  let v2 : BitVec 32 := Scalar.addi v1 arg0
  let c0_i32 : BitVec 32 := 0#32
  let c0_i32_0 : BitVec 32 := 0#32
  ![v2.toNat, c0_i32.toNat]

abbrev stage0_0 : Fin 1 → Memref sig .tc .vmem S1x256x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S3x256x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== SumMixOutIdeal.lean ====
abbrev S1 : Shape := ⟨1, ![1]⟩
abbrev S4x256x2048 : Shape := ⟨3, ![4, 256, 2048]⟩
abbrev S3x256x2048 : Shape := ⟨3, ![3, 256, 2048]⟩
abbrev S2 : Shape := ⟨1, ![2]⟩
abbrev S512x2048 : Shape := ⟨2, ![512, 2048]⟩
abbrev S1x256x2048 : Shape := ⟨3, ![1, 256, 2048]⟩
abbrev S256x2048 : Shape := ⟨2, ![256, 2048]⟩
abbrev S_ : Shape := ⟨0, ![]⟩

abbrev nBuf : Space → Nat
  | .hbm => 11
  | .vmem => 3
  | .smem => 1
  | _ => 0

abbrev bufTy : (tb : Table) → Fin (tcTables nBuf tb) → BufTy
  | .hbm, ⟨0, _⟩ => ⟨S1, .i32⟩
  | .hbm, ⟨1, _⟩ => ⟨S1, .i32⟩
  | .hbm, ⟨2, _⟩ => ⟨S4x256x2048, .bf16⟩
  | .hbm, ⟨3, _⟩ => ⟨S3x256x2048, .bf16⟩
  | .hbm, ⟨4, _⟩ => ⟨S512x2048, .f32⟩
  | .hbm, ⟨5, _⟩ => ⟨S_, .i32⟩
  | .hbm, ⟨6, _⟩ => ⟨S_, .i32⟩
  | .hbm, ⟨7, _⟩ => ⟨S_, .i1⟩
  | .hbm, ⟨8, _⟩ => ⟨S256x2048, .f32⟩
  | .hbm, ⟨9, _⟩ => ⟨S256x2048, .f32⟩
  | .hbm, ⟨10, _⟩ => ⟨S256x2048, .f32⟩
  | .local _ .vmem, ⟨0, _⟩ => ⟨S1x256x2048, .bf16⟩
  | .local _ .vmem, ⟨1, _⟩ => ⟨S3x256x2048, .bf16⟩
  | .local _ .vmem, ⟨2, _⟩ => ⟨S256x2048, .f32⟩
  | .local _ .smem, ⟨0, _⟩ => ⟨S2, .i32⟩
  | _, _ => ⟨S1, .i32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v0 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S2_S1_0 : ∀ a, (![0] : Fin 1 → Nat) a + S1.size a ≤ S2.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S2) ![0] S1.size inb_S2_S1_0) numel1_S1
  let c0_i32 : BitVec 32 := 0#32
  let c0_i32_0 : BitVec 32 := 0#32
  ![v0.toNat, arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (inb_S2_S1_1 : ∀ a, (![1] : Fin 1 → Nat) a + S1.size a ≤ S2.size a) (numel1_S1 : S1.numel = 1) (pf : pre0.Contents (Elt F)) (i : grid0.Coords) : Fin 2 → Nat :=
  let arg0 : BitVec 32 := BitVec.ofNat 32 (i 0).val
  let c1 : Index := 1#32
  let v0 : BitVec 32 := pf.at 0 (Rect.unit (s := S2) ![1] S1.size inb_S2_S1_1) numel1_S1
  let c1_i32 : BitVec 32 := 1#32
  let v1 : BitVec 32 := Scalar.muli v0 c1_i32
  let v2 : BitVec 32 := Scalar.addi v1 arg0
  let c0_i32 : BitVec 32 := 0#32
  let c0_i32_0 : BitVec 32 := 0#32
  ![v2.toNat, c0_i32.toNat]

abbrev stage0_0 : Fin 1 → Memref sig .tc .vmem S1x256x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S3x256x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== SumMixOutRefIdeal.lean ====
abbrev S1 : Shape := ⟨1, ![1]⟩
abbrev S4x256x2048 : Shape := ⟨3, ![4, 256, 2048]⟩
abbrev S3x256x2048 : Shape := ⟨3, ![3, 256, 2048]⟩
abbrev S4 : Shape := ⟨1, ![4]⟩
abbrev S4x1x1 : Shape := ⟨3, ![4, 1, 1]⟩
abbrev S_ : Shape := ⟨0, ![]⟩
abbrev S256x2048 : Shape := ⟨2, ![256, 2048]⟩

abbrev nBuf : Space → Nat
  | .hbm => 21
  | .vmem => 0
  | .smem => 0
  | _ => 0

abbrev bufTy : (tb : Table) → Fin (tcTables nBuf tb) → BufTy
  | .hbm, ⟨0, _⟩ => ⟨S1, .i32⟩
  | .hbm, ⟨1, _⟩ => ⟨S1, .i32⟩
  | .hbm, ⟨2, _⟩ => ⟨S4x256x2048, .bf16⟩
  | .hbm, ⟨3, _⟩ => ⟨S3x256x2048, .bf16⟩
  | .hbm, ⟨4, _⟩ => ⟨S4, .i32⟩
  | .hbm, ⟨5, _⟩ => ⟨S4x1x1, .i32⟩
  | .hbm, ⟨6, _⟩ => ⟨S_, .i32⟩
  | .hbm, ⟨7, _⟩ => ⟨S4x1x1, .i32⟩
  | .hbm, ⟨8, _⟩ => ⟨S4x1x1, .i1⟩
  | .hbm, ⟨9, _⟩ => ⟨S4x256x2048, .f32⟩
  | .hbm, ⟨10, _⟩ => ⟨S_, .f32⟩
  | .hbm, ⟨11, _⟩ => ⟨S_, .f32⟩
  | .hbm, ⟨12, _⟩ => ⟨S4x256x2048, .i1⟩
  | .hbm, ⟨13, _⟩ => ⟨S4x256x2048, .f32⟩
  | .hbm, ⟨14, _⟩ => ⟨S4x256x2048, .f32⟩
  | .hbm, ⟨15, _⟩ => ⟨S_, .f32⟩
  | .hbm, ⟨16, _⟩ => ⟨S256x2048, .f32⟩
  | .hbm, ⟨17, _⟩ => ⟨S3x256x2048, .f32⟩
  | .hbm, ⟨18, _⟩ => ⟨S_, .f32⟩
  | .hbm, ⟨19, _⟩ => ⟨S256x2048, .f32⟩
  | .hbm, ⟨20, _⟩ => ⟨S256x2048, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩

abbrev nD : Nat := 1
abbrev τ : Topo := Topo.v7x

variable {F : FTy → Type} [FloatOps F]
-- ==== SumPool.lean ====
abbrev S1 : Shape := ⟨1, ![1]⟩
abbrev S4x128x256 : Shape := ⟨3, ![4, 128, 256]⟩
abbrev S3x128x256 : Shape := ⟨3, ![3, 128, 256]⟩
abbrev S2 : Shape := ⟨1, ![2]⟩
abbrev S256x256 : Shape := ⟨2, ![256, 256]⟩
abbrev S1x128x256 : Shape := ⟨3, ![1, 128, 256]⟩
abbrev S128x256 : Shape := ⟨2, ![128, 256]⟩
abbrev S_ : Shape := ⟨0, ![]⟩

abbrev nBuf : Space → Nat
  | .hbm => 11
  | .vmem => 3
  | .smem => 1
  | _ => 0

abbrev bufTy : (tb : Table) → Fin (tcTables nBuf tb) → BufTy
  | .hbm, ⟨0, _⟩ => ⟨S1, .i32⟩
  | .hbm, ⟨1, _⟩ => ⟨S1, .i32⟩
  | .hbm, ⟨2, _⟩ => ⟨S4x128x256, .bf16⟩
  | .hbm, ⟨3, _⟩ => ⟨S3x128x256, .bf16⟩
  | .hbm, ⟨4, _⟩ => ⟨S256x256, .f32⟩
  | .hbm, ⟨5, _⟩ => ⟨S_, .i32⟩
  | .hbm, ⟨6, _⟩ => ⟨S_, .i32⟩
  | .hbm, ⟨7, _⟩ => ⟨S_, .i1⟩
  | .hbm, ⟨8, _⟩ => ⟨S128x256, .f32⟩
  | .hbm, ⟨9, _⟩ => ⟨S128x256, .f32⟩
  | .hbm, ⟨10, _⟩ => ⟨S128x256, .f32⟩
  | .local _ .vmem, ⟨0, _⟩ => ⟨S1x128x256, .bf16⟩
  | .local _ .vmem, ⟨1, _⟩ => ⟨S3x128x256, .bf16⟩
  | .local _ .vmem, ⟨2, _⟩ => ⟨S128x256, .f32⟩
  | .local _ .smem, ⟨0, _⟩ => ⟨S2, .i32⟩
  | _, _ => ⟨S1, .i32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v0 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S2_S1_0 : ∀ a, (![0] : Fin 1 → Nat) a + S1.size a ≤ S2.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S2) ![0] S1.size inb_S2_S1_0) numel1_S1
  let c0_i32 : BitVec 32 := 0#32
  let c0_i32_0 : BitVec 32 := 0#32
  ![v0.toNat, arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (inb_S2_S1_1 : ∀ a, (![1] : Fin 1 → Nat) a + S1.size a ≤ S2.size a) (numel1_S1 : S1.numel = 1) (pf : pre0.Contents (Elt F)) (i : grid0.Coords) : Fin 2 → Nat :=
  let arg0 : BitVec 32 := BitVec.ofNat 32 (i 0).val
  let c1 : Index := 1#32
  let v0 : BitVec 32 := pf.at 0 (Rect.unit (s := S2) ![1] S1.size inb_S2_S1_1) numel1_S1
  let c1_i32 : BitVec 32 := 1#32
  let v1 : BitVec 32 := Scalar.muli v0 c1_i32
  let v2 : BitVec 32 := Scalar.addi v1 arg0
  let c0_i32 : BitVec 32 := 0#32
  let c0_i32_0 : BitVec 32 := 0#32
  ![v2.toNat, c0_i32.toNat]

abbrev stage0_0 : Fin 1 → Memref sig .tc .vmem S1x128x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S3x128x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== SumPoolRefIdeal.lean ====
abbrev S1 : Shape := ⟨1, ![1]⟩
abbrev S4x128x256 : Shape := ⟨3, ![4, 128, 256]⟩
abbrev S3x128x256 : Shape := ⟨3, ![3, 128, 256]⟩
abbrev S4 : Shape := ⟨1, ![4]⟩
abbrev S4x1x1 : Shape := ⟨3, ![4, 1, 1]⟩
abbrev S_ : Shape := ⟨0, ![]⟩
abbrev S128x256 : Shape := ⟨2, ![128, 256]⟩

abbrev nBuf : Space → Nat
  | .hbm => 21
  | .vmem => 0
  | .smem => 0
  | _ => 0

abbrev bufTy : (tb : Table) → Fin (tcTables nBuf tb) → BufTy
  | .hbm, ⟨0, _⟩ => ⟨S1, .i32⟩
  | .hbm, ⟨1, _⟩ => ⟨S1, .i32⟩
  | .hbm, ⟨2, _⟩ => ⟨S4x128x256, .bf16⟩
  | .hbm, ⟨3, _⟩ => ⟨S3x128x256, .bf16⟩
  | .hbm, ⟨4, _⟩ => ⟨S4, .i32⟩
  | .hbm, ⟨5, _⟩ => ⟨S4x1x1, .i32⟩
  | .hbm, ⟨6, _⟩ => ⟨S_, .i32⟩
  | .hbm, ⟨7, _⟩ => ⟨S4x1x1, .i32⟩
  | .hbm, ⟨8, _⟩ => ⟨S4x1x1, .i1⟩
  | .hbm, ⟨9, _⟩ => ⟨S4x128x256, .f32⟩
  | .hbm, ⟨10, _⟩ => ⟨S_, .f32⟩
  | .hbm, ⟨11, _⟩ => ⟨S_, .f32⟩
  | .hbm, ⟨12, _⟩ => ⟨S4x128x256, .i1⟩
  | .hbm, ⟨13, _⟩ => ⟨S4x128x256, .f32⟩
  | .hbm, ⟨14, _⟩ => ⟨S4x128x256, .f32⟩
  | .hbm, ⟨15, _⟩ => ⟨S_, .f32⟩
  | .hbm, ⟨16, _⟩ => ⟨S128x256, .f32⟩
  | .hbm, ⟨17, _⟩ => ⟨S3x128x256, .f32⟩
  | .hbm, ⟨18, _⟩ => ⟨S_, .f32⟩
  | .hbm, ⟨19, _⟩ => ⟨S128x256, .f32⟩
  | .hbm, ⟨20, _⟩ => ⟨S128x256, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩

abbrev nD : Nat := 1
abbrev τ : Topo := Topo.v7x

variable {F : FTy → Type} [FloatOps F]
-- ==== Proof.Numbers.lean ====
module

public import Idealize.ShloMosaic.PureOps.Ideal.Laws
public import Mathlib.Tactic.Ring
public import Mathlib.Tactic.FieldSimp
public import Mathlib.Tactic.Positivity

@[expose] public section

noncomputable section

namespace Cert.Ffn

open Idealize.ShloMosaic

/-- An extended real that is a real number. -/
def Num (x : EReal) : Prop := ∃ r : ℝ, x = (r : EReal)

theorem num_coe (r : ℝ) : Num (r : EReal) := ⟨r, rfl⟩

theorem num_zero : Num 0 := ⟨0, EReal.coe_zero.symm⟩

theorem num_one : Num 1 := ⟨1, EReal.coe_one.symm⟩

theorem num_add {x y : EReal} : Num x → Num y → Num (x + y)
  | ⟨a, ha⟩, ⟨b, hb⟩ => ⟨a + b, by rw [ha, hb, EReal.coe_add]⟩

theorem num_sub {x y : EReal} : Num x → Num y → Num (x - y)
  | ⟨a, ha⟩, ⟨b, hb⟩ => ⟨a - b, by rw [ha, hb, EReal.coe_sub]⟩

theorem num_neg {x : EReal} : Num x → Num (-x)
  | ⟨a, ha⟩ => ⟨-a, by rw [ha, EReal.coe_neg]⟩

theorem num_mul {x y : EReal} : Num x → Num y → Num (x * y)
  | ⟨a, ha⟩, ⟨b, hb⟩ => ⟨a * b, by rw [ha, hb, EReal.coe_mul]⟩

theorem num_sum {ι : Type} (s : Finset ι) (f : ι → EReal) (h : ∀ i, Num (f i)) : Num (∑ i ∈ s, f i) := by
  classical
  induction s using Finset.induction_on with
  | empty => rw [Finset.sum_empty]; exact num_zero
  | insert a s ha ih => rw [Finset.sum_insert ha]; exact num_add (h a) ih

theorem num_exp {x : EReal} : Num x → Num (Ideal.exp x)
  | ⟨a, ha⟩ => ⟨Real.exp a, by rw [ha]; rfl⟩

/-- Away from zero the quotient of two real numbers is the real quotient. -/
theorem div_coe (a b : ℝ) (h : b ≠ 0) : Ideal.div (a : EReal) (b : EReal) = ((a / b : ℝ) : EReal) := by
  unfold Ideal.div
  rw [if_neg (by exact_mod_cast h), div_eq_mul_inv, EReal.coe_mul, EReal.coe_inv]

theorem rsqrt_coe (a : ℝ) (h : 0 < a) : Ideal.rsqrt (a : EReal) = (((Real.sqrt a)⁻¹ : ℝ) : EReal) := by
  show (if a < 0 then (⊥ : EReal) else if a = 0 then ⊤ else (((Real.sqrt a)⁻¹ : ℝ) : EReal)) = _
  rw [if_neg (not_lt.mpr h.le), if_neg h.ne']

theorem half_eq : Ideal.ofBits .f32 0x3F000000#32 = ((1 / 2 : ℝ) : EReal) := by
  simp [Ideal.ofBits, Ideal.ieee]
  rw [← EReal.coe_mul]
  norm_num

theorem one_eq : Ideal.ofBits .f32 0x3F800000#32 = 1 := by
  simp [Ideal.ofBits, Ideal.ieee]
  rw [← EReal.coe_mul]
  norm_num

theorem width_eq : Ideal.ofBits .f32 0x45000000#32 = ((2048 : ℝ) : EReal) := by
  simp [Ideal.ofBits, Ideal.ieee]
  rw [← EReal.coe_mul]
  norm_num

/-- The constant under the square root is a positive number. -/
theorem eps_pos : ∃ e : ℝ, 0 < e ∧ Ideal.ofBits .f32 0x358637BD#32 = (e : EReal) := by
  refine ⟨_, ?_, by simp [Ideal.ofBits, Ideal.ieee]; rfl⟩
  positivity

theorem top_eq : Ideal.ofBits .f32 0x7F800000#32 = ⊤ := by
  simp [Ideal.ofBits, Ideal.ieee]

/-- The test for a finite entry holds of the real numbers only. -/
theorem num_of_test {x : EReal} (h : Ideal.cmp .olt (max x (-x)) (Ideal.ofBits .f32 0x7F800000#32) = 1#1) : Num x := by
  rw [top_eq] at h
  have h' : max x (-x) < ⊤ := by
    by_contra hn
    simp [Ideal.cmp, hn] at h
  induction x using EReal.rec with
  | bot => simp at h'
  | top => simp at h'
  | coe r => exact num_coe r

/-- A factor that is a nonnegative number goes inside a sum, whatever its terms are. -/
theorem mul_sum_of_nonneg {ι : Type} (s : Finset ι) (f : ι → EReal) (a : ℝ) (ha : 0 ≤ a) :
    (a : EReal) * ∑ i ∈ s, f i = ∑ i ∈ s, (a : EReal) * f i := by
  classical
  induction s using Finset.induction_on with
  | empty => simp
  | insert i s hi ih =>
    rw [Finset.sum_insert hi, Finset.sum_insert hi, ← ih]
    exact EReal.left_distrib_of_nonneg_of_ne_top (by exact_mod_cast ha) (EReal.coe_ne_top a) _ _

/-- A sum of real numbers, taken among the extended ones. -/
theorem coe_sum {ι : Type} (s : Finset ι) (f : ι → ℝ) : ∑ i ∈ s, (f i : EReal) = ((∑ i ∈ s, f i : ℝ) : EReal) := by
  classical
  induction s using Finset.induction_on with
  | empty => simp
  | insert i s hi ih => rw [Finset.sum_insert hi, Finset.sum_insert hi, ih, EReal.coe_add]

/-- The scale of a row of real numbers is a positive real number. -/
theorem rsqrt_num {n : Nat} (h : Fin n → EReal) (hh : ∀ k, Num (h k)) :
    Num (Ideal.rsqrt (Ideal.div (∑ k : Fin n, h k * h k) (Ideal.ofBits .f32 0x45000000#32) + Ideal.ofBits .f32 0x358637BD#32)) := by
  choose a ha using hh
  obtain ⟨e, he, e'⟩ := eps_pos
  rw [show ∑ k : Fin n, h k * h k = ((∑ k : Fin n, a k * a k : ℝ) : EReal) from by
    rw [← coe_sum]; exact Finset.sum_congr rfl fun k _ => by rw [ha k, EReal.coe_mul], width_eq, div_coe _ _ (by norm_num), e', ← EReal.coe_add]
  have hs : 0 ≤ ∑ k : Fin n, a k * a k := Finset.sum_nonneg fun k _ => mul_self_nonneg (a k)
  rw [rsqrt_coe _ (by positivity)]
  exact num_coe _

/-- The gate's gradient, in the two orders of its factors. -/
theorem gate_grad {d u g s : EReal} (hd : Num d) (hu : Num u) (hg : Num g) (hs : Num s) :
    d * (u * (s * (1 + g * (1 - s)))) = d * u * s + g * (d * u) * (s * (1 - s)) := by
  obtain ⟨d, rfl⟩ := hd
  obtain ⟨u, rfl⟩ := hu
  obtain ⟨g, rfl⟩ := hg
  obtain ⟨s, rfl⟩ := hs
  have : d * (u * (s * (1 + g * (1 - s)))) = d * u * s + g * (d * u) * (s * (1 - s)) := by ring
  exact_mod_cast this

theorem num_logistic {x : EReal} : Num x → Num (Ideal.div 1 (1 + Ideal.exp (0 - x)))
  | ⟨a, ha⟩ => by
    have e : (1 : EReal) + Ideal.exp (0 - x) = ((1 + Real.exp (0 - a) : ℝ) : EReal) := by
      rw [ha, ← EReal.coe_zero, ← EReal.coe_sub]
      rfl
    rw [e, ← EReal.coe_one, div_coe _ _ (by positivity)]
    exact num_coe _

end Cert.Ffn
-- ==== Proof.FfnRef.lean ====
module

public import proofs.«01_k».proof.Proof.Gen.ReferenceIdeal.Read
public import proofs.«01_k».proof.Proof.Numbers
public import Idealize.ShloMosaic.Lib.Pipeline.ValueKit
public import Idealize.ShloMosaic.Lib.Pointwise

@[expose] public section

noncomputable section

namespace Cert.Ffn

open Cert.ReferenceIdeal Cert.ReferenceIdeal.Gen Cert.ReferenceIdeal.Read Idealize.ShloMosaic Idealize.ShloMosaic.TcCoe Idealize.SL.Sem

theorem ix2_ext {n m : Nat} {a a' : Fin n} {b b' : Fin m} (ha : a.val = a'.val) (hb : b.val = b'.val) : ix2 a b = ix2 a' b' := by
  rw [Fin.ext ha, Fin.ext hb]

/-- The scale of row `r`: one over the root of the mean square. -/
def rootScale (h : S2048x2048.Idx → EReal) (r : Fin 2048) : EReal :=
  Ideal.rsqrt (Ideal.div (∑ k : Fin 2048, h (ix2 r k) * h (ix2 r k)) (Ideal.ofBits .f32 0x45000000#32) + Ideal.ofBits .f32 0x358637BD#32)

/-- The normalised rows times the gain. -/
def scaled (h : S2048x2048.Idx → EReal) (g : S1x2048.Idx → EReal) : S2048x2048.Idx → EReal :=
  fun i => h i * rootScale h (i 0) * g (ix2 0 (i 1))

/-- The pair of products, gate columns first. -/
def wide (n : S2048x2048.Idx → EReal) (w : S2048x11264.Idx → EReal) (r : Fin 2048) (f : Fin 11264) : EReal :=
  ∑ k : Fin 2048, n (ix2 r k) * w (ix2 k f)

def sigm (x : EReal) : EReal := Ideal.div 1 (1 + Ideal.exp (0 - x))

theorem ref_norm (x0 : S2048x2048.Idx → EReal) (x1 : S1x2048.Idx → EReal) :
    val_main_v13 (F := Ideal) x0 x1 = scaled x0 x1 := by
  funext i
  pointwise [val_main_v13, val_main_v12, val_main_v11, val_main_v0, val_main_v10, val_main_v9, val_main_v8, val_main_v7, val_main_v6, val_main_v5,
    val_main_v4, val_main_v3, val_main_v2, val_main_v1, val_main_cst, val_main_cst_0, val_main_cst_1, scaled, rootScale]

theorem ref_wide (x0 : S2048x2048.Idx → EReal) (x1 : S1x2048.Idx → EReal) (x2 : S2048x11264.Idx → EReal) (i : S2048x11264.Idx) :
    val_main_v14 (F := Ideal) x0 x1 x2 i = wide (scaled x0 x1) x2 (i 0) (i 1) := by
  rw [val_main_v14_apply, ref_norm]
  refine Finset.sum_congr rfl fun k _ => ?_
  rw [show lidx_main_v14 i k = ix2 (i 0) k from eq_ix2 _, show ridx_main_v14 i k = ix2 k (i 1) from eq_ix2 _]
  rfl

theorem ref_gate (x0 : S2048x2048.Idx → EReal) (x1 : S1x2048.Idx → EReal) (x2 : S2048x11264.Idx → EReal) (i : S2048x5632.Idx) :
    val_main_v15 (F := Ideal) x0 x1 x2 i = wide (scaled x0 x1) x2 (i 0) ⟨(i 1).val, by have h : (i 1).val < 5632 := (i 1).isLt; omega⟩ := by
  rw [val_main_v15_apply, ref_wide]
  rfl

theorem ref_lift (x0 : S2048x2048.Idx → EReal) (x1 : S1x2048.Idx → EReal) (x2 : S2048x11264.Idx → EReal) (i : S2048x5632.Idx) :
    val_main_v16 (F := Ideal) x0 x1 x2 i = wide (scaled x0 x1) x2 (i 0) ⟨5632 + (i 1).val, by have h : (i 1).val < 5632 := (i 1).isLt; omega⟩ := by
  rw [val_main_v16_apply, ref_wide]
  rfl

theorem ref_sigm (x0 : S2048x2048.Idx → EReal) (x1 : S1x2048.Idx → EReal) (x2 : S2048x11264.Idx → EReal) (i : S2048x5632.Idx) :
    val_main_v17_2 (F := Ideal) x0 x1 x2 i = sigm (val_main_v15 (F := Ideal) x0 x1 x2 i) := by
  rw [val_main_v17_2_apply, val_main_call0_v4_apply, val_main_call0_v3_apply, val_main_call0_v2_apply, val_main_call0_v1_apply, val_main_call0_v0_apply]
  generalize val_main_v15 (F := Ideal) x0 x1 x2 i = x
  show Ideal.div (Ideal.ofBits .f32 0x3F800000#32) (Ideal.ofBits .f32 0x3F800000#32 + Ideal.exp (-x)) = sigm x
  rw [one_eq, sigm, zero_sub]

theorem ref_dact (x3 : S5632x2048.Idx → EReal) (x4 : S2048x2048.Idx → EReal) (i : S2048x5632.Idx) :
    val_main_v26 (F := Ideal) x3 x4 i = Ideal.ofBits .f32 0x3F000000#32 * ∑ k : Fin 2048, x4 (ix2 (i 0) k) * x3 (ix2 (i 1) k) := by
  rw [val_main_v26_apply, half_eq, mul_sum_of_nonneg _ _ _ (by norm_num), ← half_eq]
  refine Finset.sum_congr rfl fun k _ => ?_
  rw [val_main_v23_apply, val_main_v22_apply, val_main_cst_3_apply, ← mul_assoc,
    show lidx_main_v26 i k = ix2 (i 0) k from eq_ix2 _, show ridx_main_v26 i k = ix2 (i 1) k from eq_ix2 _]
  rfl

theorem ref_slope (x0 : S2048x2048.Idx → EReal) (x1 : S1x2048.Idx → EReal) (x2 : S2048x11264.Idx → EReal) (x3 : S5632x2048.Idx → EReal)
    (x4 : S2048x2048.Idx → EReal) (i : S2048x5632.Idx) :
    val_main_v29 (F := Ideal) x0 x1 x2 x3 x4 i
      = val_main_v26 (F := Ideal) x3 x4 i * val_main_v16 (F := Ideal) x0 x1 x2 i * sigm (val_main_v15 (F := Ideal) x0 x1 x2 i)
        + val_main_v15 (F := Ideal) x0 x1 x2 i * (val_main_v26 (F := Ideal) x3 x4 i * val_main_v16 (F := Ideal) x0 x1 x2 i)
          * (sigm (val_main_v15 (F := Ideal) x0 x1 x2 i) * (1 - sigm (val_main_v15 (F := Ideal) x0 x1 x2 i))) := by
  rw [val_main_v29_apply, val_main_call1_v2_apply, val_main_call1_v1_apply, val_main_call1_v0_apply, val_main_v28_apply, val_main_v17_1_apply,
    val_main_call0_v7_apply, val_main_call0_v6_apply, val_main_call0_cst_1_apply, ref_sigm, ← one_eq]
  rfl

theorem ref_rise (x0 : S2048x2048.Idx → EReal) (x1 : S1x2048.Idx → EReal) (x2 : S2048x11264.Idx → EReal) (x3 : S5632x2048.Idx → EReal)
    (x4 : S2048x2048.Idx → EReal) (i : S2048x5632.Idx) :
    val_main_v27 (F := Ideal) x0 x1 x2 x3 x4 i
      = val_main_v15 (F := Ideal) x0 x1 x2 i * sigm (val_main_v15 (F := Ideal) x0 x1 x2 i) * val_main_v26 (F := Ideal) x3 x4 i := by
  rw [val_main_v27_apply, val_main_v17_0_apply, ref_sigm]
  rfl

theorem ref_pair_0 (x0 : S2048x2048.Idx → EReal) (x1 : S1x2048.Idx → EReal) (x2 : S2048x11264.Idx → EReal) (x3 : S5632x2048.Idx → EReal)
    (x4 : S2048x2048.Idx → EReal) (i : S2x2048x5632.Idx) (h : (i 0).val = 0) :
    val_main_v35 (F := Ideal) x0 x1 x2 x3 x4 i = val_main_v29 (F := Ideal) x0 x1 x2 x3 x4 (ix2 (i 1) (i 2)) := by
  rw [val_main_v35_apply, val_main_v34_apply, val_main_v33_apply, val_main_v32_apply, val_main_v30, val_main_v31]
  generalize val_main_v29 (F := Ideal) x0 x1 x2 x3 x4 = y
  generalize val_main_v27 (F := Ideal) x0 x1 x2 x3 x4 = z
  pointwise [val_main_cst_4, val_main_cst_5]
  have h1 : (i 1).val < 2048 := (i 1).isLt
  have h2 : (i 2).val < 5632 := (i 2).isLt
  rw [dif_neg (by omega), dif_pos (by omega), zero_add]
  refine congrArg y (ix2_ext ?_ ?_) <;> (show _ = (_ : Nat); dsimp only; omega)

theorem ref_pair_1 (x0 : S2048x2048.Idx → EReal) (x1 : S1x2048.Idx → EReal) (x2 : S2048x11264.Idx → EReal) (x3 : S5632x2048.Idx → EReal)
    (x4 : S2048x2048.Idx → EReal) (i : S2x2048x5632.Idx) (h : (i 0).val ≠ 0) :
    val_main_v35 (F := Ideal) x0 x1 x2 x3 x4 i = val_main_v27 (F := Ideal) x0 x1 x2 x3 x4 (ix2 (i 1) (i 2)) := by
  rw [val_main_v35_apply, val_main_v34_apply, val_main_v33_apply, val_main_v32_apply, val_main_v30, val_main_v31]
  generalize val_main_v29 (F := Ideal) x0 x1 x2 x3 x4 = y
  generalize val_main_v27 (F := Ideal) x0 x1 x2 x3 x4 = z
  pointwise [val_main_cst_4, val_main_cst_5]
  have h0 : (i 0).val < 2 := (i 0).isLt
  have h1 : (i 1).val < 2048 := (i 1).isLt
  have h2 : (i 2).val < 5632 := (i 2).isLt
  rw [dif_pos (by omega), dif_neg (by omega), add_zero]
  refine congrArg z (ix2_ext ?_ ?_) <;> (show _ = (_ : Nat); dsimp only; omega)

theorem ref_out (x0 : S2048x2048.Idx → EReal) (x1 : S1x2048.Idx → EReal) (x2 : S2048x11264.Idx → EReal)
    (x4 : S2048x2048.Idx → EReal) (i : S4x1408x2048.Idx) :
    val_main_v37 (F := Ideal) x0 x1 x2 x4 i = Ideal.ofBits .f32 0x3F000000#32 * ∑ k : Fin 2048,
      val_main_v18 (F := Ideal) x0 x1 x2 (ix2 k ⟨(i 0).val * 1408 + (i 1).val, by have h0 : (i 0).val < 4 := (i 0).isLt; have h1 : (i 1).val < 1408 := (i 1).isLt; omega⟩) * x4 (ix2 k (i 2)) := by
  have h0 : (i 0).val < 4 := (i 0).isLt
  have h1 : (i 1).val < 1408 := (i 1).isLt
  have h2 : (i 2).val < 2048 := (i 2).isLt
  rw [val_main_v37_apply, val_main_v36_apply, val_main_v25_apply]
  show val_main_v24 (F := Ideal) x0 x1 x2 x4 _ = _
  rw [val_main_v24_apply, half_eq, mul_sum_of_nonneg _ _ _ (by norm_num), ← half_eq]
  refine Finset.sum_congr rfl fun k _ => ?_
  rw [val_main_v23_apply, val_main_v22_apply, val_main_cst_3_apply]
  generalize val_main_v18 (F := Ideal) x0 x1 x2 = y
  have e : ridx_main_v24 (idx_main_v25 (idx_main_v36 i)) k = ix2 k ⟨(i 0).val * 1408 + (i 1).val, by omega⟩ :=
    (eq_ix2 _).trans (ix2_ext rfl (by show (((i 0).val * 1408 + (i 1).val) * 2048 + (i 2).val) / 2048 = (i 0).val * 1408 + (i 1).val; omega))
  have e' : lidx_main_v24 (idx_main_v25 (idx_main_v36 i)) k = ix2 k (i 2) :=
    (eq_ix2 _).trans (ix2_ext rfl (by show (((i 0).val * 1408 + (i 1).val) * 2048 + (i 2).val) % 2048 = (i 2).val; omega))
  rw [e, e', mul_comm (y _), ← mul_assoc]
  rfl

end Cert.Ffn
-- ==== Proof.FfnNorm.lean ====
module

public import proofs.«01_k».proof.Proof.Gen.KernelIdeal.Frame
public import Idealize.ShloMosaic.Lib.Pipeline.ValueKit
public import Idealize.ShloMosaic.Lib.Pointwise

@[expose] public section

noncomputable section

namespace Cert.Ffn

open Cert.KernelIdeal Cert.KernelIdeal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-- The reciprocal root mean square of row `r`. -/
def rowScale (h : S2048x2048.Idx → EReal) (r : Fin 2048) : EReal :=
  Ideal.rsqrt (Ideal.div (∑ k : Fin 2048, h (ix2 r k) * h (ix2 r k)) (Ideal.ofBits .f32 0x45000000#32) + Ideal.ofBits .f32 0x358637BD#32)

/-- The normalised rows. -/
def normed (h : S2048x2048.Idx → EReal) (g : S1x2048.Idx → EReal) : S2048x2048.Idx → EReal :=
  fun i => h i * rowScale h (i 0) * g (ix2 0 (i 1))

theorem idx0 : ∀ t : Fin cfg0.N, win0_0.index t = ![t.val, 0] ∧ win0_1.index t = ![0, 0] ∧ win0_2.index t = ![t.val, 0] :=
  (by decide +kernel : ∀ t : Fin grid0.N, _)

theorem final0_2 (c : Dev nD) : (dat0 V c).arrAt 2 cfg0.N = normed (V c main_arg0) (V c main_arg1) := by
  refine (dat0 V c).arrAt_eq_of_covers 2 _ (by decide +kernel) fun t hf y => ?_
  obtain ⟨e0, e1, e2⟩ := idx0 t
  blk_simp
  rw [after0_2]
  frame_out
  pointwise [k0_pay1, k0_pay2, normed, rowScale]
  blk_point [iblk0, e0, e1, e2]

end Cert.Ffn
-- ==== Proof.FfnUp.lean ====
module

public import proofs.«01_k».proof.Proof.Gen.KernelIdeal.Frame
public import Idealize.ShloMosaic.Lib.Pipeline.ValueKit
public import Idealize.ShloMosaic.Lib.Pointwise

@[expose] public section

noncomputable section

namespace Cert.Ffn

open Cert.KernelIdeal Cert.KernelIdeal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-- The gate's product at row `r` and column `f`, from the four column shards of the weight. -/
def gate (n : S2048x2048.Idx → EReal) (w : S4x2048x2816.Idx → EReal) (r : Fin 2048) (f : Fin 5632) : EReal :=
  ∑ k : Fin 2048, n (ix2 r k) * w (ix3 (⟨f.val / 2816, by omega⟩ : Fin 4) k (⟨f.val % 2816, by omega⟩ : Fin 2816))

/-- The other product. -/
def lift (n : S2048x2048.Idx → EReal) (w : S4x2048x2816.Idx → EReal) (r : Fin 2048) (f : Fin 5632) : EReal :=
  ∑ k : Fin 2048, n (ix2 r k) * w (ix3 (⟨2 + f.val / 2816, by omega⟩ : Fin 4) k (⟨f.val % 2816, by omega⟩ : Fin 2816))

/-- The logistic function as the kernel computes it. -/
def logi (x : EReal) : EReal := Ideal.div (Ideal.ofBits .f32 0x3F800000#32) (Ideal.ofBits .f32 0x3F800000#32 + Ideal.exp (0 - x))

def slope (g u : EReal) : EReal :=
  u * (logi g * (Ideal.ofBits .f32 0x3F800000#32 + g * (Ideal.ofBits .f32 0x3F800000#32 - logi g)))

/-- The two saved factors. -/
def factors (n : S2048x2048.Idx → EReal) (w : S4x2048x2816.Idx → EReal) : S2x2048x5632.Idx → EReal :=
  fun i => if (i 0).val = 0 then slope (gate n w (i 1) (i 2)) (lift n w (i 1) (i 2)) else gate n w (i 1) (i 2) * logi (gate n w (i 1) (i 2))

/-- The gated activation. -/
def act (n : S2048x2048.Idx → EReal) (w : S4x2048x2816.Idx → EReal) : S2048x5632.Idx → EReal :=
  fun i => gate n w (i 0) (i 1) * logi (gate n w (i 0) (i 1)) * lift n w (i 0) (i 1)

theorem idx1 : ∀ t : Fin cfg1.N, win1_0.index t = ![t.val % 16, 0] ∧ win1_1.index t = ![t.val / 16, 0, 0] ∧ win1_2.index t = ![2 + t.val / 16, 0, 0]
    ∧ win1_3.index t = ![0, t.val % 16, t.val / 16] ∧ win1_4.index t = ![t.val % 16, t.val / 16] :=
  (by decide +kernel : ∀ t : Fin grid1.N, _)

theorem final1_4 (c : Dev nD) : (dat1 V c).arrAt 4 cfg1.N = act (V c main_v5_0) (V c main_v2) := by
  refine (dat1 V c).arrAt_eq_of_covers 4 _ (by decide +kernel) fun t hf y => ?_
  obtain ⟨e0, e1, e2, e3, e4⟩ := idx1 t
  blk_simp
  rw [after1_4]
  frame_out
  pointwise [k1_pay1, k1_pay2, k1_pay3, k1_pay4, k1_pay5, k1_pay8, act, gate, lift, logi]
  blk_point [iblk1, e0, e1, e2, e4]

theorem final1_3 (c : Dev nD) : (dat1 V c).arrAt 3 cfg1.N = factors (V c main_v5_0) (V c main_v2) := by
  refine (dat1 V c).arrAt_eq_of_covers 3 _ (by decide +kernel) fun t hf y => ?_
  obtain ⟨e0, e1, e2, e3, e4⟩ := idx1 t
  blk_simp
  rw [after1_3]
  unfold out1_3
  canon_tiles x h
  · have hz : (((win1_3.blk t).view.emb y) 0).val ≠ 0 := by
      blk_simp [e3]
      omega
    unfold factors
    rw [if_neg hz]
    pointwise [k1_pay1, k1_pay2, k1_pay4, k1_pay5, k1_pay7, gate, logi]
    blk_point [iblk1, e0, e1, e2, e3]
  · have hz : (((win1_3.blk t).view.emb y) 0).val = 0 := by
      blk_simp [e3]
      omega
    unfold factors slope
    rw [if_pos hz]
    pointwise [k1_pay1, k1_pay2, k1_pay3, k1_pay4, k1_pay5, k1_pay6, gate, lift, logi]
    blk_point [iblk1, e0, e1, e2, e3]

end Cert.Ffn
-- ==== Proof.FfnOut.lean ====
module

public import proofs.«01_k».proof.Proof.Gen.KernelIdeal.Frame
public import Idealize.ShloMosaic.Lib.Pipeline.ValueKit
public import Idealize.ShloMosaic.Lib.Pointwise

@[expose] public section

noncomputable section

namespace Cert.Ffn

open Cert.KernelIdeal Cert.KernelIdeal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-- The output weight's gradient. -/
def outGrad (a : S2048x5632.Idx → EReal) (d : S2048x2048.Idx → EReal) : S5632x2048.Idx → EReal :=
  fun i => Ideal.ofBits .f32 0x3F000000#32 * ∑ k : Fin 2048, a (ix2 k (i 0)) * d (ix2 k (i 1))

theorem idx2 : ∀ t : Fin cfg2.N, win2_0.index t = ![0, t.val] ∧ win2_1.index t = ![0, 0] ∧ win2_2.index t = ![t.val, 0] :=
  (by decide +kernel : ∀ t : Fin grid2.N, _)

theorem final2_2 (c : Dev nD) : (dat2 V c).arrAt 2 cfg2.N = outGrad (V c main_v6_1) (V c main_v4) := by
  refine (dat2 V c).arrAt_eq_of_covers 2 _ (by decide +kernel) fun t hf y => ?_
  obtain ⟨e0, e1, e2⟩ := idx2 t
  blk_simp
  rw [after2_2]
  frame_out
  pointwise [k2_pay1, outGrad]
  blk_point [iblk2, e0, e1, e2]

/-- The activation's gradient at row `r` and column `f`. -/
def actGrad (d : S2048x2048.Idx → EReal) (w : S5632x2048.Idx → EReal) (r : Fin 2048) (f : Fin 5632) : EReal :=
  Ideal.ofBits .f32 0x3F000000#32 * ∑ k : Fin 2048, d (ix2 r k) * w (ix2 f k)

/-- The gradients of the gate and of the other product. -/
def pairGrad (d : S2048x2048.Idx → EReal) (w : S5632x2048.Idx → EReal) (fa : S2x2048x5632.Idx → EReal) : S2x2048x5632.Idx → EReal :=
  fun i => actGrad d w (i 1) (i 2) * fa i

theorem idx3 : ∀ t : Fin cfg3.N, win3_0.index t = ![t.val % 8, 0] ∧ win3_1.index t = ![t.val / 8, 0] ∧ win3_2.index t = ![0, t.val % 8, t.val / 8]
    ∧ win3_3.index t = ![0, t.val % 8, t.val / 8] :=
  (by decide +kernel : ∀ t : Fin grid3.N, _)

theorem final3_3 (c : Dev nD) : (dat3 V c).arrAt 3 cfg3.N = pairGrad (V c main_v4) (V c main_v3) (V c main_v6_0) := by
  refine (dat3 V c).arrAt_eq_of_covers 3 _ (by decide +kernel) fun t hf y => ?_
  obtain ⟨e0, e1, e2, e3⟩ := idx3 t
  blk_simp
  rw [after3_3]
  unfold outsAt3
  frame_out
  canon_tiles x h
  · pointwise [k3_pay1, k3_pay3, pairGrad, actGrad]
    blk_point [iblk3, e0, e1, e2, e3]
  · pointwise [k3_pay1, k3_pay2, pairGrad, actGrad]
    blk_point [iblk3, e0, e1, e2, e3]

end Cert.Ffn
-- ==== Proof.FfnValue.lean ====
module

public import proofs.«01_k».proof.Proof.FfnNorm
public import proofs.«01_k».proof.Proof.FfnUp
public import proofs.«01_k».proof.Proof.FfnOut

@[expose] public section

noncomputable section

namespace Cert.Ffn

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg) (c : Dev nD)

/-- The weight's columns in four shards. -/
def shards (w : S2048x11264.Idx → EReal) : S4x2048x2816.Idx → EReal :=
  fun i => w (ix2 (i 1) (⟨(i 0).val * 2816 + (i 2).val, by have h0 : (i 0).val < 4 := (i 0).isLt; have h2 : (i 2).val < 2816 := (i 2).isLt; omega⟩ : Fin 11264))

/-- The weight gradient's rows in four shards. -/
def rowShards (w : S5632x2048.Idx → EReal) : S4x1408x2048.Idx → EReal :=
  fun i => w (ix2 (⟨(i 0).val * 1408 + (i 1).val, by have h0 : (i 0).val < 4 := (i 0).isLt; have h1 : (i 1).val < 1408 := (i 1).isLt; omega⟩ : Fin 5632) (i 2))

theorem entry_w : V1 m ρ c main_v2 = shards (m ((c.tc : Thread nD τ).loc main_arg2)) := by
  show StableHlo.after hostOps0 (W0 m ρ c) (Proc.devRef .tc main_v2) = _
  simp only [hostOps0]
  after_results_simp
  funext i
  pointwise [shards]

theorem entry_out : V1 m ρ c main_v3 = m ((c.tc : Thread nD τ).loc main_arg3) := by
  show StableHlo.after hostOps0 (W0 m ρ c) (Proc.devRef .tc main_v3) = _
  simp only [hostOps0]
  after_results_simp
  rfl

theorem entry_d : V1 m ρ c main_v4 = m ((c.tc : Thread nD τ).loc main_arg4) := by
  show StableHlo.after hostOps0 (W0 m ρ c) (Proc.devRef .tc main_v4) = _
  simp only [hostOps0]
  after_results_simp
  rfl

theorem exit_n : V2 m ρ c main_v5_0 = normed (m ((c.tc : Thread nD τ).loc main_arg0)) (m ((c.tc : Thread nD τ).loc main_arg1)) :=
  ((hF0 m ρ c 2).symm.trans (final0_2 (V1 m ρ) c)).trans (by
    rw [show V1 m ρ c main_arg0 = _ from W1_args m ρ c main_arg0 (by decide), show V1 m ρ c main_arg1 = _ from W1_args m ρ c main_arg1 (by decide)])

theorem keep2 (r : Ref sig .tc) (h : ∀ w : Fin cfg0.W, Pipeline.arrRef spec0 w = r → (cfg0.win w).isOut = false) : V2 m ρ c r = V1 m ρ c r :=
  W2_of m ρ c r h

theorem keep3 (r : Ref sig .tc) (h : ∀ w : Fin cfg1.W, Pipeline.arrRef spec1 w = r → (cfg1.win w).isOut = false) : V3 m ρ c r = V2 m ρ c r :=
  W3_of m ρ c r h

theorem keep4 (r : Ref sig .tc) (h : ∀ w : Fin cfg2.W, Pipeline.arrRef spec2 w = r → (cfg2.win w).isOut = false) : V4 m ρ c r = V3 m ρ c r :=
  W4_of m ρ c r h

theorem keep6 (r : Ref sig .tc) (h : ∀ w : Fin cfg3.W, Pipeline.arrRef spec3 w = r → (cfg3.win w).isOut = false) : V6 m ρ c r = V5 m ρ c r :=
  W6_of m ρ c r h

/-- The saved factors as the program computes them. -/
def savedFactors : S2x2048x5632.Idx → EReal :=
  factors (normed (m ((c.tc : Thread nD τ).loc main_arg0)) (m ((c.tc : Thread nD τ).loc main_arg1))) (shards (m ((c.tc : Thread nD τ).loc main_arg2)))

def savedAct : S2048x5632.Idx → EReal :=
  act (normed (m ((c.tc : Thread nD τ).loc main_arg0)) (m ((c.tc : Thread nD τ).loc main_arg1))) (shards (m ((c.tc : Thread nD τ).loc main_arg2)))

theorem exit_factors : V3 m ρ c main_v6_0 = savedFactors m c :=
  ((hF1 m ρ c 3).symm.trans (final1_3 (V2 m ρ) c)).trans (by
    rw [exit_n, keep2 m ρ c main_v2 (by decide), entry_w]; rfl)

theorem exit_act : V3 m ρ c main_v6_1 = savedAct m c :=
  ((hF1 m ρ c 4).symm.trans (final1_4 (V2 m ρ) c)).trans (by
    rw [exit_n, keep2 m ρ c main_v2 (by decide), entry_w]; rfl)

theorem exit_out : V4 m ρ c main_v7 = outGrad (savedAct m c) (m ((c.tc : Thread nD τ).loc main_arg4)) :=
  ((hF2 m ρ c 2).symm.trans (final2_2 (V3 m ρ) c)).trans (by
    rw [exit_act, keep3 m ρ c main_v4 (by decide), keep2 m ρ c main_v4 (by decide), entry_d])

theorem result_out : V6 m ρ c main_v8 = rowShards (outGrad (savedAct m c) (m ((c.tc : Thread nD τ).loc main_arg4))) := by
  rw [keep6 m ρ c main_v8 (by decide)]
  show StableHlo.after hostOps3 (W4 m ρ c) (Proc.devRef .tc main_v8) = _
  simp only [hostOps3]
  after_results_simp
  rw [show W4 m ρ c (Proc.devRef .tc main_v7) = _ from exit_out m ρ c]
  generalize outGrad (savedAct m c) (m ((c.tc : Thread nD τ).loc main_arg4)) = y
  funext i
  pointwise [rowShards]

theorem late_factors : V5 m ρ c main_v6_0 = savedFactors m c :=
  (W5_of m ρ c main_v6_0 (by decide)).trans ((W4_of m ρ c main_v6_0 (by decide)).trans (exit_factors m ρ c))

theorem late_d : V5 m ρ c main_v4 = m ((c.tc : Thread nD τ).loc main_arg4) :=
  (W5_of m ρ c main_v4 (by decide)).trans ((W4_of m ρ c main_v4 (by decide)).trans
    ((W3_of m ρ c main_v4 (by decide)).trans ((W2_of m ρ c main_v4 (by decide)).trans (entry_d m ρ c))))

theorem late_out : V5 m ρ c main_v3 = m ((c.tc : Thread nD τ).loc main_arg3) :=
  (W5_of m ρ c main_v3 (by decide)).trans ((W4_of m ρ c main_v3 (by decide)).trans
    ((W3_of m ρ c main_v3 (by decide)).trans ((W2_of m ρ c main_v3 (by decide)).trans (entry_out m ρ c))))

theorem result_pair : V6 m ρ c main_v9
    = pairGrad (m ((c.tc : Thread nD τ).loc main_arg4)) (m ((c.tc : Thread nD τ).loc main_arg3)) (savedFactors m c) := by
  rw [← late_d m ρ c, ← late_out m ρ c, ← late_factors m ρ c]
  exact (hF3 m ρ c 3).symm.trans (final3_3 (V5 m ρ) c)

end Cert.Ffn
-- ==== Proof.FfnRun.lean ====
module

public import proofs.«01_k».proof.Proof.FfnValue

@[expose] public section

noncomputable section

namespace Cert.Ffn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (ρ : Dev nD → PrngReg)

set_option backward.isDefEq.respectTransparency.types false in
/-- Every run ends with the two results at what the four calls compute, and with the arguments and the counters as they should be. -/
theorem kernel_run : θ_run defs (onTc (τ := τ) (main (F := Ideal))) ⟨m, fun _ => 0, ρ⟩ (fun r => (∀ c : Dev nD,
      (r.2.mem ((c.tc : Thread nD τ).loc main_v9)
          = pairGrad (m ((c.tc : Thread nD τ).loc main_arg4)) (m ((c.tc : Thread nD τ).loc main_arg3)) (savedFactors m c)
        ∧ r.2.mem ((c.tc : Thread nD τ).loc main_v8) = rowShards (outGrad (savedAct m c) (m ((c.tc : Thread nD τ).loc main_arg4))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu
      imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      · iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
        iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hb, -, Ho, -, Hr, -⟩, -⟩
      imodintro
      isplitl [Hb]
      · iexact Hb
      isplitl [Hr]
      · iexists _
        iexact Hr
      iexists ∅
      iexact Ho)
    (QY := fun c s => ∀ b ∈ Pipeline.ucRefs τ sig, s.mem (((c : Thread nD τ)).1, b) = W6 m ρ c b)
    (hfin := fun c s' => by
      iintro ⟨⟨Hb, -⟩, Hs⟩
      unfold StableHlo.held
      imodintro
      iapply (pointsTo_read_all (Pipeline.ucRefs τ sig) (fun b => (((c : Thread nD τ)).1, b)) (W6 m ρ c) s')
      isplitl [Hb] <;> iassumption)
    (hQ := fun s h hz => ⟨fun c =>
      ⟨⟨(h c _ (mem_uc main_v9 (by decide))).trans (result_pair m ρ c), (h c _ (mem_uc main_v8 (by decide))).trans (result_out m ρ c)⟩,
        (h c _ (mem_uc main_arg0 (by decide))).trans (W6_main_arg0 m ρ c),
        (h c _ (mem_uc main_arg1 (by decide))).trans (W6_main_arg1 m ρ c),
        (h c _ (mem_uc main_arg2 (by decide))).trans (W6_main_arg2 m ρ c),
        (h c _ (mem_uc main_arg3 (by decide))).trans (W6_main_arg3 m ρ c),
        (h c _ (mem_uc main_arg4 (by decide))).trans (W6_main_arg4 m ρ c)⟩,
      funext fun g => hz g (.inr (no_unscoped g.2))⟩)

end Cert.Ffn
-- ==== Proof.FfnClaim.lean ====
module

public import proofs.«01_k».proof.Proof.FfnRef
public import proofs.«01_k».proof.Proof.FfnRun
public import proofs.«01_k».proof.Proof.Gen.Pre_finite
public import proofs.«01_k».proof.Defs

@[expose] public section

noncomputable section

namespace Cert.Ffn

open Cert.KernelIdeal Cert.ReferenceIdeal.Read Idealize.ShloMosaic Idealize.ShloMosaic.TcCoe Idealize.SL.Sem

theorem gate_wide (n : S2048x2048.Idx → EReal) (w : S2048x11264.Idx → EReal) (r : Fin 2048) (f : Fin 5632) :
    gate n (shards w) r f = wide n w r ⟨f.val, by omega⟩ :=
  Finset.sum_congr rfl fun k _ => congrArg (fun i => n (ix2 r k) * w i)
    (ix2_ext rfl (by show f.val / 2816 * 2816 + f.val % 2816 = f.val; omega))

theorem lift_wide (n : S2048x2048.Idx → EReal) (w : S2048x11264.Idx → EReal) (r : Fin 2048) (f : Fin 5632) :
    lift n (shards w) r f = wide n w r ⟨5632 + f.val, by omega⟩ :=
  Finset.sum_congr rfl fun k _ => congrArg (fun i => n (ix2 r k) * w i)
    (ix2_ext rfl (by show (2 + f.val / 2816) * 2816 + f.val % 2816 = 5632 + f.val; omega))

theorem logi_sigm (x : EReal) : logi x = sigm x := by
  rw [logi, sigm, one_eq]

theorem normed_scaled (h : S2048x2048.Idx → EReal) (g : S1x2048.Idx → EReal) : normed h g = scaled h g := rfl

theorem num_scaled (h : S2048x2048.Idx → EReal) (g : S1x2048.Idx → EReal) (hh : ∀ i, Num (h i)) (hg : ∀ i, Num (g i)) (i : S2048x2048.Idx) :
    Num (scaled h g i) :=
  num_mul (num_mul (hh i) (rsqrt_num (fun k => h (ix2 (i 0) k)) fun k => hh _)) (hg _)

theorem num_wide (n : S2048x2048.Idx → EReal) (w : S2048x11264.Idx → EReal) (hn : ∀ i, Num (n i)) (hw : ∀ i, Num (w i)) (r : Fin 2048) (f : Fin 11264) :
    Num (wide n w r f) :=
  num_sum _ _ fun k => num_mul (hn _) (hw _)

/-- The gate's gradient at a row and a column, on real numbers. -/
theorem gate_entry (x0 : S2048x2048.Idx → EReal) (x1 : S1x2048.Idx → EReal) (x2 : S2048x11264.Idx → EReal) (x3 : S5632x2048.Idx → EReal)
    (x4 : S2048x2048.Idx → EReal) (h0 : ∀ i, Num (x0 i)) (h1 : ∀ i, Num (x1 i)) (h2 : ∀ i, Num (x2 i)) (h3 : ∀ i, Num (x3 i)) (h4 : ∀ i, Num (x4 i))
    (r : Fin 2048) (f : Fin 5632) :
    actGrad x4 x3 r f * slope (gate (normed x0 x1) (shards x2) r f) (lift (normed x0 x1) (shards x2) r f)
      = val_main_v29 (F := Ideal) x0 x1 x2 x3 x4 (ix2 r f) := by
  rw [ref_slope, ref_gate, ref_lift, ref_dact, gate_wide, lift_wide, slope, logi_sigm, one_eq, normed_scaled]
  have hn := num_scaled x0 x1 h0 h1
  refine gate_grad ?_ (num_wide _ _ hn h2 _ _) (num_wide _ _ hn h2 _ _) (num_logistic (num_wide _ _ hn h2 _ _))
  unfold actGrad
  rw [half_eq]
  exact num_mul (num_coe _) (num_sum _ _ fun k => num_mul (h4 _) (h3 _))

theorem lift_entry (x0 : S2048x2048.Idx → EReal) (x1 : S1x2048.Idx → EReal) (x2 : S2048x11264.Idx → EReal) (x3 : S5632x2048.Idx → EReal)
    (x4 : S2048x2048.Idx → EReal) (r : Fin 2048) (f : Fin 5632) :
    actGrad x4 x3 r f * (gate (normed x0 x1) (shards x2) r f * logi (gate (normed x0 x1) (shards x2) r f))
      = val_main_v27 (F := Ideal) x0 x1 x2 x3 x4 (ix2 r f) := by
  rw [ref_rise, ref_gate, ref_dact, gate_wide, logi_sigm, normed_scaled]
  exact mul_comm _ _

theorem act_entry (x0 : S2048x2048.Idx → EReal) (x1 : S1x2048.Idx → EReal) (x2 : S2048x11264.Idx → EReal) (r : Fin 2048) (f : Fin 5632) :
    gate (normed x0 x1) (shards x2) r f * logi (gate (normed x0 x1) (shards x2) r f) * lift (normed x0 x1) (shards x2) r f
      = val_main_v18 (F := Ideal) x0 x1 x2 (ix2 r f) := by
  rw [val_main_v18_apply, val_main_v17_0_apply, ref_sigm, ref_gate, ref_lift, gate_wide, lift_wide, logi_sigm, normed_scaled]
  rfl

/-- The pair of gradients that the program computes is the reference's, on real numbers. -/
theorem pair_eq (x0 : S2048x2048.Idx → EReal) (x1 : S1x2048.Idx → EReal) (x2 : S2048x11264.Idx → EReal) (x3 : S5632x2048.Idx → EReal)
    (x4 : S2048x2048.Idx → EReal) (h0 : ∀ i, Num (x0 i)) (h1 : ∀ i, Num (x1 i)) (h2 : ∀ i, Num (x2 i)) (h3 : ∀ i, Num (x3 i)) (h4 : ∀ i, Num (x4 i)) :
    pairGrad x4 x3 (factors (normed x0 x1) (shards x2)) = val_main_v35 (F := Ideal) x0 x1 x2 x3 x4 := by
  funext i
  by_cases h : (i 0).val = 0
  · rw [ref_pair_0 x0 x1 x2 x3 x4 i h]
    unfold pairGrad factors
    rw [if_pos h]
    exact gate_entry x0 x1 x2 x3 x4 h0 h1 h2 h3 h4 (i 1) (i 2)
  · rw [ref_pair_1 x0 x1 x2 x3 x4 i h]
    unfold pairGrad factors
    rw [if_neg h]
    exact lift_entry x0 x1 x2 x3 x4 (i 1) (i 2)

/-- The down projection's gradient, the same on all extended reals. -/
theorem out_eq (x0 : S2048x2048.Idx → EReal) (x1 : S1x2048.Idx → EReal) (x2 : S2048x11264.Idx → EReal) (x4 : S2048x2048.Idx → EReal) :
    rowShards (outGrad (act (normed x0 x1) (shards x2)) x4) = val_main_v37 (F := Ideal) x0 x1 x2 x4 := by
  funext i
  rw [ref_out]
  exact congrArg (Ideal.ofBits .f32 0x3F000000#32 * ·) (Finset.sum_congr rfl fun k _ => congrArg (· * _) (act_entry x0 x1 x2 k _))

theorem num_of_pre {s : Shape} {x : s.Idx → EReal} {t : s.Idx → EReal} (ht : ∀ i, t i = Ideal.ofBits .f32 0x7F800000#32)
    (h : (cmpf .olt (Host.absf (F := Ideal) (φ := .f32) x) t : IVec s 1) = fun _ => 1#1) (i : s.Idx) : Num (x i) :=
  num_of_test (by rw [← ht i]; exact congrFun h i)

theorem algebraic_kernel : Cert.algebraic_KernelIdeal_ReferenceIdeal_pre_finite := by
  intro m g m' g' hp hm
  refine ⟨fun c => pairGrad (m ((c.tc : Thread nD τ).loc main_arg4)) (m ((c.tc : Thread nD τ).loc main_arg3)) (savedFactors m c),
    fun c => rowShards (outGrad (savedAct m c) (m ((c.tc : Thread nD τ).loc main_arg4))), (θ_run _ _ _).mono (fun r h c => ?_) (kernel_run m g), (θ_run _ _ _).mono (fun r h c => ?_) (Cert.ReferenceIdeal.Value.run m' g')⟩
  · obtain ⟨⟨a, b⟩, e⟩ := h.1 c
    exact ⟨a, b, e⟩
  · obtain ⟨p0, p1, p2, p3, p4⟩ := hp c
    obtain ⟨a, b, e⟩ := h c
    obtain ⟨e0, e1, e2, e3, e4⟩ := hm c
    refine ⟨a.trans ?_, b.trans ?_, e⟩
    · rw [val_main_v35_eq, e0, e1, e2, e3, e4]
      exact (pair_eq _ _ _ _ _ (num_of_pre (fun _ => rfl) p0) (num_of_pre (fun _ => rfl) p1) (num_of_pre (fun _ => rfl) p2)
        (num_of_pre (fun _ => rfl) p3) (num_of_pre (fun _ => rfl) p4)).symm
    · rw [val_main_v37_eq, e0, e1, e2, e4]
      exact (out_eq _ _ _ _).symm

end Cert.Ffn
-- ==== Proof.DownValue.lean ====
module

public import proofs.«01_k».proof.Proof.Gen.DownIdeal.Value
public import proofs.«01_k».proof.Proof.Gen.DownRefIdeal.Read
public import proofs.«01_k».proof.Proof.Numbers
public import proofs.«01_k».proof.Defs
public import Idealize.ShloMosaic.Lib.Pipeline.ValueKit
public import Idealize.ShloMosaic.Lib.Pipeline.ReadBack
public import Idealize.ShloMosaic.Lib.Pointwise

@[expose] public section

noncomputable section

namespace Cert.Ffn.Down

open Cert.DownIdeal Cert.DownIdeal.Gen Idealize.ShloMosaic Idealize.ShloMosaic.TcCoe Idealize.SL.Sem
open Idealize.ShloMosaic.Pipeline (Dat)

variable (m : (ℓ : Loc nD τ sig) → Buf (Elt Ideal) ℓ) (c : Dev nD)

/-- The residual plus half the product. -/
def downOut (a : S2048x5632.Idx → EReal) (w : S5632x2048.Idx → EReal) (h : S2048x2048.Idx → EReal) : S2048x2048.Idx → EReal :=
  fun i => h i + Ideal.ofBits .f32 0x3F000000#32 * ∑ k : Fin 5632, a (ix2 (i 0) k) * w (ix2 k (i 1))

theorem idx : ∀ t : Fin cfg0.N, win0_0.index t = ![t.val / 2, t.val % 2] ∧ win0_1.index t = ![t.val % 2, 0] ∧ win0_2.index t = ![t.val / 2, 0]
    ∧ win0_3.index t = ![t.val / 2, 0] :=
  (by decide +kernel : ∀ t : Fin grid0.N, _)

theorem flush : ∀ t : Fin cfg0.N, (cfg0.win 3).flush t = true → t.val % 2 = 1 :=
  (by decide +kernel : ∀ t : Fin grid0.N, _)

theorem entry_w : V m c main_v0 = m ((c.tc : Thread nD τ).loc main_arg1) := by
  entry_read
  rfl

/-- The accumulator after a row block's first point. -/
theorem first (t : Fin cfg0.N) (h : t.val % 2 = 0) : (outsAt0 m c t.val t.isLt).2 = k0_pay2 (k0_pay1 (F := Ideal)) (iblk m c 0 t) (iblk m c 1 t) := by
  rw [outsAt0_A m c t h (by omega)]
  frame_out

/-- What a row block's second point writes. -/
theorem second (t : Fin cfg0.N) (h : t.val % 2 = 1) (X : Vec Ideal S512x2048 .f32) (hX : (outsAt0 m c (t.val - 1) (by have := t.isLt; omega)).2 = X) :
    (outsAt0 m c t.val t.isLt).1 = k0_pay3 (k0_pay2 X (iblk m c 0 t) (iblk m c 1 t)) (iblk m c 2 t) := by
  rw [outsAt0_B m c t (by omega) h, hX]
  frame_out
  exact congrArg (fun A => k0_pay3 (k0_pay2 A (iblk m c 0 t) (iblk m c 1 t)) (iblk m c 2 t)) ((Memref.isWhole_whole cc0_scratch0).read_unread (Val := Elt Ideal) X)

theorem halves (f : Fin 5632 → EReal) (g k : Fin 2816 → EReal) (hg : ∀ j : Fin 2816, g j = f ⟨j.val, by omega⟩)
    (hk : ∀ j : Fin 2816, k j = f ⟨2816 + j.val, by omega⟩) : ∑ j, g j + ∑ j, k j = ∑ j, f j := by
  rw [← Fin.sum_mul_add_congr (S := 2) (n := 2816) (F := fun s j => if s = 0 then g j else k j) (f := f), Fin.sum_univ_two]
  · rfl
  · intro s j hl
    fin_cases s
    · exact (hg j).trans (congrArg f (Fin.ext (by show j.val = 0 * 2816 + j.val; omega)))
    · exact (hk j).trans (congrArg f (Fin.ext (by show 2816 + j.val = 1 * 2816 + j.val; omega)))

theorem halves_mul (A B : Fin 5632 → EReal) (a b a' b' : Fin 2816 → EReal) (ha : ∀ j : Fin 2816, a j = A ⟨j.val, by omega⟩)
    (hb : ∀ j : Fin 2816, b j = B ⟨j.val, by omega⟩) (ha' : ∀ j : Fin 2816, a' j = A ⟨2816 + j.val, by omega⟩)
    (hb' : ∀ j : Fin 2816, b' j = B ⟨2816 + j.val, by omega⟩) : ∑ j, a j * b j + ∑ j, a' j * b' j = ∑ j, A j * B j :=
  halves _ _ _ (fun j => congrArg₂ _ (ha j) (hb j)) (fun j => congrArg₂ _ (ha' j) (hb' j))

theorem final : (dats m 0 c).arrAt 3 cfg0.N
    = downOut (m ((c.tc : Thread nD τ).loc main_arg0)) (m ((c.tc : Thread nD τ).loc main_arg1)) (m ((c.tc : Thread nD τ).loc main_arg2)) := by
  refine (dats m 0 c).arrAt_eq_of_covers 3 _ (by decide +kernel) fun t hf y => ?_
  have ht := flush t hf
  obtain ⟨e0, e1, e2, e3⟩ := idx t
  have hN : t.val < 8 := t.isLt
  have hp : t.val - 1 < 8 := by omega
  obtain ⟨f0, f1, f2, f3⟩ := idx ⟨t.val - 1, hp⟩
  dsimp only at f0 f1 f2 f3
  blk_simp
  rw [after0_3, second m c t ht _ (first m c ⟨t.val - 1, hp⟩ (by dsimp only; omega))]
  pointwise [k0_pay1, k0_pay2, k0_pay3, downOut]
  rw [mul_comm]
  have h0 : iblk m c 2 t y = m ((c.tc : Thread nD τ).loc main_arg2) (((View.whole main_v1).slice (win0_3.rect t)).emb y) := by
    blk_point [iblk, e2, e3, V_main_arg2]
  have h1 := halves_mul (fun x => m ((c.tc : Thread nD τ).loc main_arg0) (ix2 (((View.whole main_v1).slice (win0_3.rect t)).emb y 0) x))
      (fun x => m ((c.tc : Thread nD τ).loc main_arg1) (ix2 x (((View.whole main_v1).slice (win0_3.rect t)).emb y 1)))
      (fun k => iblk m c 0 ⟨t.val - 1, hp⟩ (ix2 (y 0) k)) (fun k => iblk m c 1 ⟨t.val - 1, hp⟩ (ix2 k (y 1)))
      (fun k => iblk m c 0 t (ix2 (y 0) k)) (fun k => iblk m c 1 t (ix2 k (y 1)))
      (fun j => by blk_point [iblk, f0, e3, V_main_arg0]) (fun j => by blk_point [iblk, f1, e3, entry_w])
      (fun j => by blk_point [iblk, e0, e3, V_main_arg0]) (fun j => by blk_point [iblk, e1, e3, entry_w])
  rw [h0]
  exact congrArg (fun z => _ + Ideal.ofBits .f32 0x3F000000#32 * z) h1

end Cert.Ffn.Down
-- ==== Proof.DownClaim.lean ====
module

public import proofs.«01_k».proof.Proof.DownValue
public import proofs.«01_k».proof.Proof.Gen.DownRefIdeal.Run
public import proofs.«01_k».proof.Proof.FfnRef

@[expose] public section

noncomputable section

namespace Cert.Ffn.Down

open Cert.DownRefIdeal Cert.DownRefIdeal.Gen Cert.DownRefIdeal.Read Idealize.ShloMosaic Idealize.ShloMosaic.TcCoe Idealize.SL.Sem

/-- The reference's down projection. -/
theorem ref_down (a : S2048x5632.Idx → EReal) (w : S5632x2048.Idx → EReal) (h : S2048x2048.Idx → EReal) :
    val_main_v4 (F := Ideal) a w h = downOut a w h := by
  funext i
  rw [val_main_v4_apply, val_main_v3_apply, val_main_v1_apply]
  exact congrArg (fun z => h i + Ideal.ofBits .f32 0x3F000000#32 * z) (Finset.sum_congr rfl fun k _ =>
    congrArg₂ (fun u v : EReal => u * v) (congrArg a (eq_ix2 _)) (congrArg w (eq_ix2 _)))

theorem algebraic_down : Cert.algebraic_DownIdeal_DownRefIdeal := by
  intro m g m' g' _ hm
  refine ⟨fun c => downOut (m ((c.tc : Thread Cert.DownIdeal.nD Cert.DownIdeal.τ).loc Cert.DownIdeal.main_arg0)) (m ((c.tc : Thread Cert.DownIdeal.nD Cert.DownIdeal.τ).loc Cert.DownIdeal.main_arg1))
    (m ((c.tc : Thread Cert.DownIdeal.nD Cert.DownIdeal.τ).loc Cert.DownIdeal.main_arg2)), (θ_run _ _ _).mono (fun r h c => ?_) (Cert.DownIdeal.Value.run_blocks m g), (θ_run _ _ _).mono (fun r h c => ?_) (Cert.DownRefIdeal.Value.run m' g')⟩
  · obtain ⟨a, e⟩ := h c
    exact ⟨a.trans (final m c), e⟩
  · obtain ⟨a, e⟩ := h c
    obtain ⟨e0, e1, e2⟩ := hm c
    refine ⟨a.trans ?_, e⟩
    rw [val_main_v4_eq, e0, e1, e2]
    exact ref_down _ _ _

end Cert.Ffn.Down
-- ==== Proof.TableWord.lean ====
module

public import proofs.«01_k».proof.Proof.Gen.SentIdeal.Frame
public import proofs.«01_k».proof.Proof.Gen.KeptIdeal.Frame
public import proofs.«01_k».proof.Proof.Gen.Pre_core_named
public import proofs.«01_k».proof.Proof.Gen.Pre_own_core_named
public import proofs.«01_k».proof.Proof.Gen.Sent.Frame
public import proofs.«01_k».proof.Proof.Gen.Kept.Frame
public import proofs.«01_k».proof.Defs
public import Idealize.ShloMosaic.Lib.Pipeline.ValueKit

@[expose] public section

noncomputable section

namespace Cert.Ffn

open Idealize.ShloMosaic Idealize.ShloMosaic.TcCoe Idealize.SL.Sem

variable {F : FTy → Type} [FloatOps F]

/-- The word of a core's number that passes the precondition's tests is zero or one. -/
theorem word_of_tests {w : BitVec 32} (h : IntOp.andi (IntOp.cmpi .sge w 0#32) (IntOp.cmpi .sle w 1#32) = 1#1) : w = 0#32 ∨ w = 1#32 := by
  have hs : ((0#32).sle w && w.sle 1#32) = true := by
    cases hx : ((0#32).sle w && w.sle 1#32)
    · simp [IntOp.andi, IntOp.cmpi, hx] at h
    · rfl
  obtain ⟨h0, h1⟩ := (Bool.and_eq_true _ _).mp hs
  rw [BitVec.sle_eq_decide, decide_eq_true_iff] at h0 h1
  have hb : (0#32).toInt = 0 := rfl
  have hc : (1#32).toInt = 1 := rfl
  rw [hb] at h0
  rw [hc] at h1
  rcases (by omega : w.toInt = 0 ∨ w.toInt = 1) with e | e
  · exact .inl (BitVec.eq_of_toInt_eq e)
  · exact .inr (BitVec.eq_of_toInt_eq e)

section Sent

open Cert.SentIdeal Cert.SentIdeal.Gen

variable (m : (ℓ : Loc nD τ sig) → Buf (Elt F) ℓ)

/-- The table of the call that sends is one minus the core's number. -/
theorem sent_table (c : Dev nD) : V m c main_v17 = fun i => 1#32 - m ((c.tc : Thread nD τ).loc main_arg0) i := by
  entry_read
  rfl

/-- Which block of rows every point of the call that sends takes. -/
theorem sent_index (w : BitVec 32) (h : m (((0 : Dev nD).tc : Thread nD τ).loc main_arg0) = fun _ => w) (i : grid0.Coords) :
    cc0_transform_0 (F := F) Gen.inb_S1_S1_0 Gen.numel1_S1 (tbl m) i = ![(1#32 - w).toNat, 0] := by
  have h1 : (tbl m).at 0 (Rect.unit (s := S1) ![0] S1.size Gen.inb_S1_S1_0) Gen.numel1_S1 = 1#32 - w := by
    show V m 0 main_v17 _ = _
    rw [sent_table, h]
  show ![((tbl m).at 0 (Rect.unit (s := S1) ![0] S1.size Gen.inb_S1_S1_0) Gen.numel1_S1 : BitVec 32).toNat, _] = _
  rw [h1]
  rfl

theorem sent_ok (w : BitVec 32) (hw : w = 0#32 ∨ w = 1#32) (h : m (((0 : Dev nD).tc : Thread nD τ).loc main_arg0) = fun _ => w) : Ok m := by
  intro i
  refine ⟨fun a => ?_, .inr (Affine.block_words_dvd (of_decide_eq_true rfl) (by decide))⟩
  refine (congrArg (fun z : Fin 2 → Nat => (z a + 1) * S1024x2048.size a) (sent_index m w h i)).trans_le ?_
  rcases hw with rfl | rfl <;> revert a <;> decide

end Sent

/-- On a memory of the precondition the core's number is zero or one. -/
theorem sent_word (m : (ℓ : Loc Cert.SentIdeal.nD Cert.SentIdeal.τ Cert.SentIdeal.sig) → Buf (Elt F) ℓ) (c : Dev Cert.SentIdeal.nD)
    (h : Cert.Pre_core_named.fn (F := F) (m ((c.tc : Thread Cert.SentIdeal.nD Cert.SentIdeal.τ).loc Cert.SentIdeal.main_arg0)) (m ((c.tc : Thread Cert.SentIdeal.nD Cert.SentIdeal.τ).loc Cert.SentIdeal.main_arg1))
      (m ((c.tc : Thread Cert.SentIdeal.nD Cert.SentIdeal.τ).loc Cert.SentIdeal.main_arg2)) (m ((c.tc : Thread Cert.SentIdeal.nD Cert.SentIdeal.τ).loc Cert.SentIdeal.main_arg3)) = fun _ => 1#1) :
    ∃ w : BitVec 32, (w = 0#32 ∨ w = 1#32) ∧ m ((c.tc : Thread Cert.SentIdeal.nD Cert.SentIdeal.τ).loc Cert.SentIdeal.main_arg0) = fun _ => w :=
  ⟨m ((c.tc : Thread Cert.SentIdeal.nD Cert.SentIdeal.τ).loc Cert.SentIdeal.main_arg0) (ix1 0), word_of_tests (congrFun h (ix1 0)),
    funext fun i => congrArg _ ((eq_ix1 i).trans (congrArg ix1 (Subsingleton.elim (α := Fin 1) _ _)))⟩

theorem kept_word (m : (ℓ : Loc Cert.KeptIdeal.nD Cert.KeptIdeal.τ Cert.KeptIdeal.sig) → Buf (Elt F) ℓ) (c : Dev Cert.KeptIdeal.nD)
    (h : Cert.Pre_own_core_named.fn (F := F) (m ((c.tc : Thread Cert.KeptIdeal.nD Cert.KeptIdeal.τ).loc Cert.KeptIdeal.main_arg0)) (m ((c.tc : Thread Cert.KeptIdeal.nD Cert.KeptIdeal.τ).loc Cert.KeptIdeal.main_arg1))
      (m ((c.tc : Thread Cert.KeptIdeal.nD Cert.KeptIdeal.τ).loc Cert.KeptIdeal.main_arg2)) (m ((c.tc : Thread Cert.KeptIdeal.nD Cert.KeptIdeal.τ).loc Cert.KeptIdeal.main_arg3)) (m ((c.tc : Thread Cert.KeptIdeal.nD Cert.KeptIdeal.τ).loc Cert.KeptIdeal.main_arg4)) = fun _ => 1#1) :
    ∃ w : BitVec 32, (w = 0#32 ∨ w = 1#32) ∧ m ((c.tc : Thread Cert.KeptIdeal.nD Cert.KeptIdeal.τ).loc Cert.KeptIdeal.main_arg0) = fun _ => w :=
  ⟨m ((c.tc : Thread Cert.KeptIdeal.nD Cert.KeptIdeal.τ).loc Cert.KeptIdeal.main_arg0) (ix1 0), word_of_tests (congrFun h (ix1 0)),
    funext fun i => congrArg _ ((eq_ix1 i).trans (congrArg ix1 (Subsingleton.elim (α := Fin 1) _ _)))⟩

section Kept

open Cert.KeptIdeal Cert.KeptIdeal.Gen

variable (m : (ℓ : Loc nD τ sig) → Buf (Elt F) ℓ)

/-- Which block of rows every point of the call that keeps takes. -/
theorem kept_index (w : BitVec 32) (h : m (((0 : Dev nD).tc : Thread nD τ).loc main_arg0) = fun _ => w) (i : grid0.Coords) :
    cc0_transform_0 (F := F) Gen.inb_S1_S1_0 Gen.numel1_S1 (tbl m) i = ![w.toNat, 0] := by
  have h1 : (tbl m).at 0 (Rect.unit (s := S1) ![0] S1.size Gen.inb_S1_S1_0) Gen.numel1_S1 = w := by
    show V m 0 main_arg0 _ = _
    rw [V_main_arg0, h]
  show ![((tbl m).at 0 (Rect.unit (s := S1) ![0] S1.size Gen.inb_S1_S1_0) Gen.numel1_S1 : BitVec 32).toNat, _] = _
  rw [h1]
  rfl

theorem kept_ok (w : BitVec 32) (hw : w = 0#32 ∨ w = 1#32) (h : m (((0 : Dev nD).tc : Thread nD τ).loc main_arg0) = fun _ => w) : Ok m := by
  intro i
  refine ⟨fun a => ?_, .inr (Affine.block_words_dvd (of_decide_eq_true rfl) (by decide))⟩
  refine (congrArg (fun z : Fin 2 → Nat => (z a + 1) * S1024x2048.size a) (kept_index m w h i)).trans_le ?_
  rcases hw with rfl | rfl <;> revert a <;> decide

end Kept

/-! ## The frames -/

theorem frame_sent : Cert.quiescent_Sent := fun m ρ h => by
  obtain ⟨w, hw, e⟩ := sent_word (F := Bits) m 0 (h 0)
  exact Cert.Sent.Gen.frame m ρ (show Cert.SentIdeal.Gen.Ok (F := Bits) m from sent_ok m w hw e)

theorem frame_sentIdeal : Cert.quiescent_SentIdeal := fun m ρ h => by
  obtain ⟨w, hw, e⟩ := sent_word m 0 (h 0)
  exact Cert.SentIdeal.Gen.frame m ρ (sent_ok m w hw e)

theorem frame_kept : Cert.quiescent_Kept := fun m ρ h => by
  obtain ⟨w, hw, e⟩ := kept_word (F := Bits) m 0 (h 0)
  exact Cert.Kept.Gen.frame m ρ (show Cert.KeptIdeal.Gen.Ok (F := Bits) m from kept_ok m w hw e)

theorem frame_keptIdeal : Cert.quiescent_KeptIdeal := fun m ρ h => by
  obtain ⟨w, hw, e⟩ := kept_word m 0 (h 0)
  exact Cert.KeptIdeal.Gen.frame m ρ (kept_ok m w hw e)

end Cert.Ffn
-- ==== Proof.SentValue.lean ====
module

public import proofs.«01_k».proof.Proof.TableWord
public import proofs.«01_k».proof.Proof.FfnRef
public import Idealize.ShloMosaic.Lib.Pipeline.ValueKit
public import Idealize.ShloMosaic.Lib.Pipeline.ReadBack
public import Idealize.ShloMosaic.Lib.Pointwise

@[expose] public section

noncomputable section

namespace Cert.Ffn.Sent

open Cert.SentIdeal Cert.SentIdeal.Gen Idealize.ShloMosaic Idealize.ShloMosaic.TcCoe Idealize.SL.Sem
open Idealize.ShloMosaic.Pipeline (Dat)

variable (m : (ℓ : Loc nD τ sig) → Buf (Elt Ideal) ℓ) (c : Dev nD)

theorem entry_rows : V m c main_v15 = fun i => scaled (m ((c.tc : Thread nD τ).loc main_arg1)) (m ((c.tc : Thread nD τ).loc main_arg2)) (ix2 (i 1) (i 0)) := by
  entry_read
  funext i
  pointwise [scaled, rootScale]

theorem out_eq (hO : Ok m) (t : Fin (cfgM m hO).N) : outsAt0 m hO c t = k0_pay1 (iblk m hO c 0 t) (iblk m hO c 1 t) := by
  unfold outsAt0
  frame_out
  exact congrArg₂ k0_pay1 ((hs0_0 m hO t).read_unread _) ((hs0_1 m hO t).read_unread _)

/-- Half the rows of the weight's gradient, in quarters of its columns. -/
def inHalf (n : S2048x2048.Idx → EReal) (d : S2x2048x5632.Idx → EReal) (p : Fin 2) : S4x1024x2816.Idx → EReal := fun i =>
  ∑ k : Fin 2048, n (ix2 k ⟨p.val * 1024 + (i 1).val, by have h : (i 1).val < 1024 := (i 1).isLt; omega⟩)
    * d (ix3 ⟨(i 0).val / 2, by have h : (i 0).val < 4 := (i 0).isLt; omega⟩ k ⟨(i 0).val % 2 * 2816 + (i 2).val, by have h : (i 2).val < 2816 := (i 2).isLt; omega⟩)

theorem maps : ∀ t : Fin grid0.N, cc0_transform_1 (grid0.coords t) = ![t.val / 2, 0, t.val % 2] ∧ cc0_transform_2 (grid0.coords t) = ![t.val, 0, 0] := by
  decide +kernel

theorem flushes : ∀ t : Fin grid0.N, Pipeline.Window.flushOf grid0 true cc0_transform_2 t = true := by decide +kernel

theorem covers (hO : Ok m) : ((cfgM m hO).win 2).Covers := by
  refine ⟨fun (a : Fin 3) => by fin_cases a <;> exact Nat.succ_pos _, fun β => ?_⟩
  have h0 : (β (0 : Fin 3)).val < (4 + 1 - 1) / 1 := (β (0 : Fin 3)).isLt
  have h1 : (β (1 : Fin 3)).val < (1024 + 1024 - 1) / 1024 := (β (1 : Fin 3)).isLt
  have h2 : (β (2 : Fin 3)).val < (2816 + 2816 - 1) / 2816 := (β (2 : Fin 3)).isLt
  let t : Fin grid0.N := ⟨(β (0 : Fin 3)).val, h0⟩
  refine ⟨t, flushes t, fun (a : Fin 3) => ⟨(congrFun (maps t).2 a).trans ?_, .inl rfl⟩⟩
  fin_cases a
  · rfl
  · exact (Nat.lt_one_iff.mp h1).symm
  · exact (Nat.lt_one_iff.mp h2).symm

theorem rows_at (hO : Ok m) (t : Fin (cfgM m hO).N) (q : Nat) (e : ((cfgM m hO).win 0).index t = ![q, 0]) (j : Fin 1024) (x : Fin 2048) (r : Fin 2048)
    (hr : r.val = q * 1024 + j.val) : iblk m hO c 0 t (ix2 j x) = V m c main_v15 (ix2 r x) := by
  refine congrArg (V m c main_v15) (funext fun a => Fin.ext ?_)
  have h : ∀ a, (((((cfgM m hO).win 0).blk t).view.emb (ix2 j x)) a).val = ((cfgM m hO).win 0).index t a * S1024x2048.size a + (ix2 j x a).val := fun a =>
    ValueKit.rect_emb_unit_val _ _ _ _ a
  refine (h a).trans ?_
  clear h
  rw [e]
  fin_cases a
  · exact hr.symm
  · exact Nat.zero_add _

theorem final (hO : Ok m) (p : Fin 2) (w : BitVec 32) (hw : (1#32 - w).toNat = p.val) (h : m (((0 : Dev nD).tc : Thread nD τ).loc main_arg0) = fun _ => w) :
    (dats m hO 0 c).arrAt 2 (cfgM m hO).N
      = inHalf (scaled (m ((c.tc : Thread nD τ).loc main_arg1)) (m ((c.tc : Thread nD τ).loc main_arg2))) (m ((c.tc : Thread nD τ).loc main_arg3)) p := by
  refine (dats m hO 0 c).arrAt_eq_of_covers 2 _ (covers m hO) fun t hf y => ?_
  have e0 : ((cfgM m hO).win 0).index t = ![p.val, 0] := (sent_index m w h (grid0.coords t)).trans (by rw [hw])
  have e1 : ((cfgM m hO).win 1).index t = ![t.val / 2, 0, t.val % 2] := (maps t).1
  have e2 : ((cfgM m hO).win 2).index t = ![t.val, 0, 0] := (maps t).2
  have hy : (y (1 : Fin 3)).val < 1024 := (y (1 : Fin 3)).isLt
  have h1 : (((((cfgM m hO).win 2).blk t).view.emb y) (1 : Fin 3)).val = (y (1 : Fin 3)).val :=
    (ValueKit.rect_emb_unit_val _ _ _ y (1 : Fin 3)).trans ((congrArg (fun z : Fin 3 → Nat => z 1 * 1024 + _) e2).trans (by simp))
  blk_simp
  rw [after0_2, out_eq]
  pointwise [k0_pay1, inHalf]
  refine Finset.sum_congr (M := EReal) rfl fun x _ => congrArg₂ (fun a b : EReal => a * b) ?_ ?_
  · refine (rows_at m c hO t p.val e0 (y (1 : Fin 3)) x ⟨p.val * 1024 + (((((cfgM m hO).win 2).blk t).view.emb y) (1 : Fin 3)).val, ?_⟩ ?_).trans (congrFun (entry_rows m c) _)
    · rw [h1]; omega
    · dsimp only; rw [h1]
  · blk_point [iblk, e1, e2, V_main_arg3]

end Cert.Ffn.Sent
-- ==== Proof.SentClaim.lean ====
module

public import proofs.«01_k».proof.Proof.SentValue
public import proofs.«01_k».proof.Proof.Gen.SentRefIdeal.Run
public import proofs.«01_k».proof.Proof.Gen.SentRefIdeal.Read

@[expose] public section

noncomputable section

namespace Cert.Ffn.Sent

open Cert.SentRefIdeal Cert.SentRefIdeal.Gen Cert.SentRefIdeal.Read Idealize.ShloMosaic Idealize.ShloMosaic.TcCoe Idealize.SL.Sem

variable (x0 : S1.Idx → BitVec 32) (x1 : S2048x2048.Idx → EReal) (x2 : S1x2048.Idx → EReal) (x3 : S2x2048x5632.Idx → EReal)

theorem ref_norm : val_main_v17 (F := Ideal) x1 x2 = scaled x1 x2 := by
  funext i
  pointwise [val_main_v17, val_main_v16, val_main_v15, val_main_v14, val_main_v13, val_main_v12, val_main_v11, val_main_v10, val_main_v9, val_main_v8,
    val_main_v7, val_main_v6, val_main_v5, val_main_v4, val_main_cst_0, val_main_cst_1, val_main_cst_2, scaled, rootScale]

theorem ref_pair (k : Fin 2048) (f : Fin 11264) : val_main_v2 (F := Ideal) x3 (ix2 k f)
    = x3 (ix3 ⟨f.val / 5632, by omega⟩ k ⟨f.val % 5632, by omega⟩) := by
  rw [val_main_v2_apply, val_main_v1_apply, val_main_v0_apply]
  refine congrArg x3 (funext fun a => Fin.ext ?_)
  fin_cases a <;> (dsimp [ix2, ix3]; omega)

/-- The reference's gradient of the weight, at a row of half `p` and a column of quarter `s`. -/
theorem ref_quarter (p : Fin 2) (i : S4x1024x2816.Idx) (z : S2x1024x4x2816.Idx) (h0 : (z 0).val = p.val) (h1 : (z 1).val = (i 1).val)
    (h2 : (z 2).val = (i 0).val) (h3 : (z 3).val = (i 2).val) : val_main_v21 (F := Ideal) x1 x2 x3 z = inHalf (scaled x1 x2) x3 p i := by
  have b0 : (i 0).val < 4 := (i 0).isLt
  have b1 : (i 1).val < 1024 := (i 1).isLt
  have b2 : (i 2).val < 2816 := (i 2).isLt
  rw [val_main_v21_apply, val_main_v20_apply, val_main_v19_apply, ref_norm]
  refine Finset.sum_congr (M := EReal) rfl fun k _ => (mul_comm (G := EReal) _ _).trans (congrArg₂ (fun a b : EReal => a * b) ?_ ?_)
  · refine congrArg (scaled x1 x2) (funext fun a => Fin.ext ?_)
    fin_cases a
    · rfl
    · show ((((z 0).val * 1024 + (z 1).val) * 4 + (z 2).val) * 2816 + (z 3).val) / 11264 = p.val * 1024 + (i 1).val
      omega
  · refine (congrArg (val_main_v2 (F := Ideal) x3) (eq_ix2 _)).trans ((ref_pair x3 k _).trans (congrArg x3 (funext fun a => Fin.ext ?_)))
    fin_cases a
    · show ((((z 0).val * 1024 + (z 1).val) * 4 + (z 2).val) * 2816 + (z 3).val) % 11264 / 5632 = (i 0).val / 2
      omega
    · rfl
    · show ((((z 0).val * 1024 + (z 1).val) * 4 + (z 2).val) * 2816 + (z 3).val) % 11264 % 5632 = (i 0).val % 2 * 2816 + (i 2).val
      omega

theorem ref_sent (w : BitVec 32) (hw : w = 0#32 ∨ w = 1#32) (p : Fin 2) (hp : (1#32 - w).toNat = p.val) :
    val_main_v30 (F := Ideal) (fun _ => w) x1 x2 x3 = inHalf (scaled x1 x2) x3 p := by
  funext i
  have b0 : (i 0).val < 4 := (i 0).isLt
  have b1 : (i 1).val < 1024 := (i 1).isLt
  have b2 : (i 2).val < 2816 := (i 2).isLt
  show val_main_v29 (F := Ideal) (fun _ => w) x1 x2 x3 i = _
  rw [val_main_v29_apply]
  rcases hw with rfl | rfl
  · have q : p.val = 1 := hp.symm.trans (by decide)
    refine Eq.trans (b := val_main_v25 (F := Ideal) x1 x2 x3 (idx_main_v29 i)) rfl ?_
    rw [val_main_v25_apply, val_main_v24_apply]
    refine ref_quarter x1 x2 x3 p i _ ?_ ?_ ?_ ?_ <;> (dsimp only; omega)
  · have q : p.val = 0 := hp.symm.trans (by decide)
    refine Eq.trans (b := val_main_v27 (F := Ideal) x1 x2 x3 (idx_main_v29 i)) rfl ?_
    rw [val_main_v27_apply, val_main_v26_apply]
    refine ref_quarter x1 x2 x3 p i _ ?_ ?_ ?_ ?_ <;> (dsimp only; omega)

theorem algebraic_sent : Cert.algebraic_SentIdeal_SentRefIdeal := by
  intro m g m' g' hpre hm
  obtain ⟨w, hw, e⟩ := sent_word m 0 (hpre 0)
  have hO := sent_ok m w hw e
  obtain ⟨p, hp⟩ : ∃ p : Fin 2, (1#32 - w).toNat = p.val := by
    rcases hw with rfl | rfl
    · exact ⟨1, rfl⟩
    · exact ⟨0, rfl⟩
  refine ⟨fun c => inHalf (scaled (m ((c.tc : Thread Cert.SentIdeal.nD Cert.SentIdeal.τ).loc Cert.SentIdeal.main_arg1)) (m ((c.tc : Thread Cert.SentIdeal.nD Cert.SentIdeal.τ).loc Cert.SentIdeal.main_arg2)))
    (m ((c.tc : Thread Cert.SentIdeal.nD Cert.SentIdeal.τ).loc Cert.SentIdeal.main_arg3)) p,
    (θ_run _ _ _).mono (fun r h c => ?_) (θ_run_and (Cert.SentIdeal.Gen.run_main m g hO) (Cert.SentIdeal.Gen.unchanged m g hO)),
    (θ_run _ _ _).mono (fun r h c => ?_) (Cert.SentRefIdeal.Value.run m' g')⟩
  · exact ⟨(Pipeline.FramePost.out_eq h.1 c 2).trans (final m c hO p w hp e), h.2 c⟩
  · obtain ⟨a, f⟩ := h c
    obtain ⟨e0, e1, e2, e3⟩ := hm c
    refine ⟨a.trans ?_, f⟩
    obtain rfl : c = 0 := Subsingleton.elim _ _
    rw [val_main_v30_eq, e0, e1, e2, e3, e]
    exact ref_sent _ _ _ w hw p hp

end Cert.Ffn.Sent
-- ==== Proof.KeptValue.lean ====
module

public import proofs.«01_k».proof.Proof.TableWord
public import proofs.«01_k».proof.Proof.SentValue
public import Idealize.ShloMosaic.Lib.Pipeline.ValueKit
public import Idealize.ShloMosaic.Lib.Pipeline.ReadBack
public import Idealize.ShloMosaic.Lib.Pointwise

@[expose] public section

noncomputable section

namespace Cert.Ffn.Kept

open Cert.KeptIdeal Cert.KeptIdeal.Gen Idealize.ShloMosaic Idealize.ShloMosaic.TcCoe Idealize.SL.Sem
open Idealize.ShloMosaic.Pipeline (Dat)

variable (m : (ℓ : Loc nD τ sig) → Buf (Elt Ideal) ℓ) (c : Dev nD)

theorem entry_rows : V m c main_v15 = fun i => scaled (m ((c.tc : Thread nD τ).loc main_arg1)) (m ((c.tc : Thread nD τ).loc main_arg2)) (ix2 (i 1) (i 0)) := by
  entry_read
  funext i
  pointwise [scaled, rootScale]

theorem out_eq (hO : Ok m) (t : Fin (cfgM m hO).N) : outsAt0 m hO c t = k0_pay1 (iblk m hO c 0 t) (iblk m hO c 1 t) (iblk m hO c 2 t) := by
  unfold outsAt0
  frame_out
  exact congr (congrArg₂ k0_pay1 ((hs0_0 m hO t).read_unread _) ((hs0_1 m hO t).read_unread _)) ((hs0_2 m hO t).read_unread _)

/-- The half the core keeps: its own rows of the weight's gradient plus what it received. -/
def ownHalf (n : S2048x2048.Idx → EReal) (d : S2x2048x5632.Idx → EReal) (o : S4x1024x2816.Idx → EReal) (p : Fin 2) : S4x1024x2816.Idx → EReal :=
  fun i => Cert.Ffn.Sent.inHalf n d p i + o i

theorem maps : ∀ t : Fin grid0.N, cc0_transform_1 (grid0.coords t) = ![t.val / 2, 0, t.val % 2] ∧ cc0_transform_2 (grid0.coords t) = ![t.val, 0, 0]
    ∧ cc0_transform_3 (grid0.coords t) = ![t.val, 0, 0] := by
  decide +kernel

theorem flushes : ∀ t : Fin grid0.N, Pipeline.Window.flushOf grid0 true cc0_transform_3 t = true := by decide +kernel

theorem covers (hO : Ok m) : ((cfgM m hO).win 3).Covers := by
  refine ⟨fun (a : Fin 3) => by fin_cases a <;> exact Nat.succ_pos _, fun β => ?_⟩
  have h0 : (β (0 : Fin 3)).val < (4 + 1 - 1) / 1 := (β (0 : Fin 3)).isLt
  have h1 : (β (1 : Fin 3)).val < (1024 + 1024 - 1) / 1024 := (β (1 : Fin 3)).isLt
  have h2 : (β (2 : Fin 3)).val < (2816 + 2816 - 1) / 2816 := (β (2 : Fin 3)).isLt
  let t : Fin grid0.N := ⟨(β (0 : Fin 3)).val, h0⟩
  refine ⟨t, flushes t, fun (a : Fin 3) => ⟨(congrFun (maps t).2.2 a).trans ?_, .inl rfl⟩⟩
  fin_cases a
  · rfl
  · exact (Nat.lt_one_iff.mp h1).symm
  · exact (Nat.lt_one_iff.mp h2).symm

theorem rows_at (hO : Ok m) (t : Fin (cfgM m hO).N) (q : Nat) (e : ((cfgM m hO).win 0).index t = ![q, 0]) (j : Fin 1024) (x : Fin 2048) (r : Fin 2048)
    (hr : r.val = q * 1024 + j.val) : iblk m hO c 0 t (ix2 j x) = V m c main_v15 (ix2 r x) := by
  refine congrArg (V m c main_v15) (funext fun a => Fin.ext ?_)
  have h : ∀ a, (((((cfgM m hO).win 0).blk t).view.emb (ix2 j x)) a).val = ((cfgM m hO).win 0).index t a * S1024x2048.size a + (ix2 j x a).val := fun a =>
    ValueKit.rect_emb_unit_val _ _ _ _ a
  refine (h a).trans ?_
  clear h
  rw [e]
  fin_cases a
  · exact hr.symm
  · exact Nat.zero_add _

theorem final (hO : Ok m) (p : Fin 2) (w : BitVec 32) (hw : w.toNat = p.val) (h : m (((0 : Dev nD).tc : Thread nD τ).loc main_arg0) = fun _ => w) :
    (dats m hO 0 c).arrAt 3 (cfgM m hO).N
      = ownHalf (scaled (m ((c.tc : Thread nD τ).loc main_arg1)) (m ((c.tc : Thread nD τ).loc main_arg2))) (m ((c.tc : Thread nD τ).loc main_arg3)) (m ((c.tc : Thread nD τ).loc main_arg4)) p := by
  refine (dats m hO 0 c).arrAt_eq_of_covers 3 _ (covers m hO) fun t hf y => ?_
  have e0 : ((cfgM m hO).win 0).index t = ![p.val, 0] := (kept_index m w h (grid0.coords t)).trans (by rw [hw])
  have e1 : ((cfgM m hO).win 1).index t = ![t.val / 2, 0, t.val % 2] := (maps t).1
  have e2 : ((cfgM m hO).win 2).index t = ![t.val, 0, 0] := (maps t).2.1
  have e3 : ((cfgM m hO).win 3).index t = ![t.val, 0, 0] := (maps t).2.2
  have hy : (y (1 : Fin 3)).val < 1024 := (y (1 : Fin 3)).isLt
  have h1 : (((((cfgM m hO).win 3).blk t).view.emb y) (1 : Fin 3)).val = (y (1 : Fin 3)).val :=
    (ValueKit.rect_emb_unit_val _ _ _ y (1 : Fin 3)).trans ((congrArg (fun z : Fin 3 → Nat => z 1 * 1024 + _) e3).trans (by simp))
  blk_simp
  rw [after0_3, out_eq]
  pointwise [k0_pay1, ownHalf, Cert.Ffn.Sent.inHalf]
  refine congrArg₂ (fun a b : EReal => a + b) ?_ (by blk_point [iblk, e2, e3, V_main_arg4])
  refine Finset.sum_congr (M := EReal) rfl fun x _ => congrArg₂ (fun a b : EReal => a * b) ?_ ?_
  · refine (rows_at m c hO t p.val e0 (y (1 : Fin 3)) x ⟨p.val * 1024 + (((((cfgM m hO).win 3).blk t).view.emb y) (1 : Fin 3)).val, ?_⟩ ?_).trans (congrFun (entry_rows m c) _)
    · rw [h1]; omega
    · dsimp only; rw [h1]
  · blk_point [iblk, e1, e3, V_main_arg3]

end Cert.Ffn.Kept
-- ==== Proof.KeptClaim.lean ====
module

public import proofs.«01_k».proof.Proof.KeptValue
public import proofs.«01_k».proof.Proof.SentClaim
public import proofs.«01_k».proof.Proof.Gen.KeptRefIdeal.Run
public import proofs.«01_k».proof.Proof.Gen.KeptRefIdeal.Read

@[expose] public section

noncomputable section

namespace Cert.Ffn.Kept

open Cert.KeptRefIdeal Cert.KeptRefIdeal.Gen Cert.KeptRefIdeal.Read Idealize.ShloMosaic Idealize.ShloMosaic.TcCoe Idealize.SL.Sem

variable (x1 : S2048x2048.Idx → EReal) (x2 : S1x2048.Idx → EReal) (x3 : S2x2048x5632.Idx → EReal) (x4 : S4x1024x2816.Idx → EReal)

/-- Both references compute the gradient of the weight in the same way. -/
theorem ref_same : val_main_v21 (F := Ideal) x1 x2 x3 = Cert.SentRefIdeal.Read.val_main_v21 (F := Ideal) x1 x2 x3 := rfl

theorem ref_kept (w : BitVec 32) (hw : w = 0#32 ∨ w = 1#32) (p : Fin 2) (hp : w.toNat = p.val) :
    val_main_v32 (F := Ideal) (fun _ => w) x1 x2 x3 x4 = ownHalf (scaled x1 x2) x3 x4 p := by
  funext i
  have b0 : (i 0).val < 4 := (i 0).isLt
  have b1 : (i 1).val < 1024 := (i 1).isLt
  have b2 : (i 2).val < 2816 := (i 2).isLt
  refine congrArg (fun z : EReal => z + x4 i) (?_ : val_main_v29 (F := Ideal) (fun _ => w) x1 x2 x3 i = _)
  rw [val_main_v29_apply]
  rcases hw with rfl | rfl
  · have q : p.val = 0 := hp.symm.trans (by decide)
    refine Eq.trans (b := val_main_v25 (F := Ideal) x1 x2 x3 (idx_main_v29 i)) rfl ?_
    rw [val_main_v25_apply, val_main_v24_apply, ref_same]
    refine Cert.Ffn.Sent.ref_quarter x1 x2 x3 p i _ ?_ ?_ ?_ ?_ <;> (dsimp only; omega)
  · have q : p.val = 1 := hp.symm.trans (by decide)
    refine Eq.trans (b := val_main_v27 (F := Ideal) x1 x2 x3 (idx_main_v29 i)) rfl ?_
    rw [val_main_v27_apply, val_main_v26_apply, ref_same]
    refine Cert.Ffn.Sent.ref_quarter x1 x2 x3 p i _ ?_ ?_ ?_ ?_ <;> (dsimp only; omega)

theorem algebraic_kept : Cert.algebraic_KeptIdeal_KeptRefIdeal := by
  intro m g m' g' hpre hm
  obtain ⟨w, hw, e⟩ := kept_word m 0 (hpre 0)
  have hO := kept_ok m w hw e
  obtain ⟨p, hp⟩ : ∃ p : Fin 2, w.toNat = p.val := by
    rcases hw with rfl | rfl
    · exact ⟨0, rfl⟩
    · exact ⟨1, rfl⟩
  refine ⟨fun c => ownHalf (scaled (m ((c.tc : Thread Cert.KeptIdeal.nD Cert.KeptIdeal.τ).loc Cert.KeptIdeal.main_arg1)) (m ((c.tc : Thread Cert.KeptIdeal.nD Cert.KeptIdeal.τ).loc Cert.KeptIdeal.main_arg2)))
    (m ((c.tc : Thread Cert.KeptIdeal.nD Cert.KeptIdeal.τ).loc Cert.KeptIdeal.main_arg3)) (m ((c.tc : Thread Cert.KeptIdeal.nD Cert.KeptIdeal.τ).loc Cert.KeptIdeal.main_arg4)) p,
    (θ_run _ _ _).mono (fun r h c => ?_) (θ_run_and (Cert.KeptIdeal.Gen.run_main m g hO) (Cert.KeptIdeal.Gen.unchanged m g hO)),
    (θ_run _ _ _).mono (fun r h c => ?_) (Cert.KeptRefIdeal.Value.run m' g')⟩
  · exact ⟨(Pipeline.FramePost.out_eq h.1 c 3).trans (final m c hO p w hp e), h.2 c⟩
  · obtain ⟨a, f⟩ := h c
    obtain ⟨e0, e1, e2, e3, e4⟩ := hm c
    refine ⟨a.trans ?_, f⟩
    obtain rfl : c = 0 := Subsingleton.elim _ _
    rw [val_main_v32_eq, e0, e1, e2, e3, e4, e]
    exact ref_kept _ _ _ _ w hw p hp

end Cert.Ffn.Kept
-- ==== Proof.AdamStep.lean ====
module

public import proofs.«01_k».proof.Proof.Numbers
public import Idealize.ShloMosaic.Lib.Pipeline.ValueKit

@[expose] public section

noncomputable section

namespace Cert.Ffn.Adam

open Idealize.ShloMosaic

variable {ι : Type}

/-- The new first moment: nine tenths of the old one plus a tenth of the gradient. -/
def stepM (g m : ι → EReal) : ι → EReal := fun i =>
  Ideal.ofBits .f32 0x3F666666#32 * m i + Ideal.ofBits .f32 0x3DCCCCCD#32 * g i

/-- The new second moment. -/
def stepV (g v : ι → EReal) : ι → EReal := fun i =>
  Ideal.ofBits .f32 0x3F7FBE77#32 * v i + Ideal.ofBits .f32 0x3A83126F#32 * (g i * g i)

/-- What is added to the weight. -/
def stepW (w g m v : ι → EReal) : ι → EReal := fun i =>
  Ideal.ofBits .f32 0xBA83126F#32 * (Ideal.div (Ideal.div (stepM g m i) (Ideal.ofBits .f32 0x3F26BD02#32))
      (Ideal.sqrt (Ideal.div (stepV g v i) (Ideal.ofBits .f32 0x3C231ACC#32)) + Ideal.ofBits .f32 0x322BCC77#32)
    + Ideal.ofBits .f32 0x3C23D70A#32 * w i)

/-- The four arrays that an update of weight `w` returns: the gradient, what is added to the weight, and the two moments. -/
structure Updates (w g m v : ι → EReal) (g' d u s : ι → EReal) : Prop where
  grad : g' = g
  delta : d = stepW w g m v
  first : u = stepM g m
  second : s = stepV g v

end Cert.Ffn.Adam
-- ==== Proof.AdamFfn.lean ====
module

public import proofs.«01_k».proof.Proof.AdamStep
public import proofs.«01_k».proof.Proof.Gen.AdamUpIdeal.Value
public import proofs.«01_k».proof.Proof.Gen.AdamUpRefIdeal.Run
public import proofs.«01_k».proof.Proof.Gen.AdamDownIdeal.Value
public import proofs.«01_k».proof.Proof.Gen.AdamDownRefIdeal.Run
public import proofs.«01_k».proof.Defs
public import Idealize.ShloMosaic.Lib.Pipeline.ReadBack
public import Idealize.ShloMosaic.Lib.Pointwise

@[expose] public section

noncomputable section

namespace Cert.Ffn.Adam

open Idealize.ShloMosaic Idealize.ShloMosaic.TcCoe Idealize.SL.Sem

section Up

open Cert.AdamUpIdeal Cert.AdamUpIdeal.Gen

theorem up_final (m : (ℓ : Loc nD τ sig) → Buf (Elt Ideal) ℓ) (c : Dev nD) :
    Updates (m (c.tc.loc main_arg0)) (m (c.tc.loc main_arg1)) (m (c.tc.loc main_arg2)) (m (c.tc.loc main_arg3))
      ((dats m 0 c).arrAt 4 cfg0.N) ((dats m 0 c).arrAt 5 cfg0.N) ((dats m 0 c).arrAt 6 cfg0.N) ((dats m 0 c).arrAt 7 cfg0.N) := by
  have idx : ∀ t : Fin cfg0.N, win0_0.index t = ![t.val, 0] ∧ win0_1.index t = ![t.val, 0] ∧ win0_2.index t = ![t.val, 0] ∧ win0_3.index t = ![t.val, 0]
      ∧ win0_4.index t = ![t.val, 0] ∧ win0_5.index t = ![t.val, 0] ∧ win0_6.index t = ![t.val, 0] ∧ win0_7.index t = ![t.val, 0] :=
    (by decide +kernel : ∀ t : Fin grid0.N, _)
  constructor <;> refine (dats m 0 c).arrAt_eq_of_covers _ _ (by decide +kernel) fun t hf y => ?_ <;> obtain ⟨e0, e1, e2, e3, e4, e5, e6, e7⟩ := idx t <;> blk_simp
  all_goals
    first | rw [after0_4, outsAt0] | rw [after0_5, outsAt0] | rw [after0_6, outsAt0] | rw [after0_7, outsAt0]
    frame_out
    try pointwise [k0_pay1, k0_pay2, k0_pay3, stepW, stepM, stepV]
    blk_point [iblk, e0, e1, e2, e3, e4, e5, e6, e7, V_main_arg0, V_main_arg1, V_main_arg2, V_main_arg3]

theorem algebraic_up : Cert.algebraic_AdamUpIdeal_AdamUpRefIdeal := fun m g m' g' _ hm =>
  ⟨_, _, _, _, (θ_run _ _ _).mono (fun r h c => ⟨(h c).1.trans (up_final m c).grad, (h c).2.1.trans (up_final m c).delta, (h c).2.2.1.trans (up_final m c).first,
      (h c).2.2.2.1.trans (up_final m c).second, (h c).2.2.2.2⟩) (Cert.AdamUpIdeal.Value.run_blocks m g),
    (θ_run _ _ _).mono (fun r h c => by
      obtain ⟨a, d, u, v, e⟩ := h c
      obtain ⟨e0, e1, e2, e3, e4⟩ := hm c
      rw [e0, e1, e2, e3] at d
      rw [e1, e2] at u
      rw [e1, e3] at v
      exact ⟨a.trans e1, d.trans rfl, u.trans rfl, v.trans rfl, e⟩) (Cert.AdamUpRefIdeal.Value.run m' g')⟩

end Up

section Down

open Cert.AdamDownIdeal Cert.AdamDownIdeal.Gen

theorem down_final (m : (ℓ : Loc nD τ sig) → Buf (Elt Ideal) ℓ) (c : Dev nD) :
    Updates (m (c.tc.loc main_arg0)) (m (c.tc.loc main_arg1)) (m (c.tc.loc main_arg2)) (m (c.tc.loc main_arg3))
      ((dats m 0 c).arrAt 4 cfg0.N) ((dats m 0 c).arrAt 5 cfg0.N) ((dats m 0 c).arrAt 6 cfg0.N) ((dats m 0 c).arrAt 7 cfg0.N) := by
  have idx : ∀ t : Fin cfg0.N, win0_0.index t = ![t.val, 0] ∧ win0_1.index t = ![t.val, 0] ∧ win0_2.index t = ![t.val, 0] ∧ win0_3.index t = ![t.val, 0]
      ∧ win0_4.index t = ![t.val, 0] ∧ win0_5.index t = ![t.val, 0] ∧ win0_6.index t = ![t.val, 0] ∧ win0_7.index t = ![t.val, 0] :=
    (by decide +kernel : ∀ t : Fin grid0.N, _)
  constructor <;> refine (dats m 0 c).arrAt_eq_of_covers _ _ (by decide +kernel) fun t hf y => ?_ <;> obtain ⟨e0, e1, e2, e3, e4, e5, e6, e7⟩ := idx t <;> blk_simp
  all_goals
    first | rw [after0_4, outsAt0] | rw [after0_5, outsAt0] | rw [after0_6, outsAt0] | rw [after0_7, outsAt0]
    frame_out
    try pointwise [k0_pay1, k0_pay2, k0_pay3, stepW, stepM, stepV]
    blk_point [iblk, e0, e1, e2, e3, e4, e5, e6, e7, V_main_arg0, V_main_arg1, V_main_arg2, V_main_arg3]

theorem algebraic_down : Cert.algebraic_AdamDownIdeal_AdamDownRefIdeal := fun m g m' g' _ hm =>
  ⟨_, _, _, _, (θ_run _ _ _).mono (fun r h c => ⟨(h c).1.trans (down_final m c).grad, (h c).2.1.trans (down_final m c).delta, (h c).2.2.1.trans (down_final m c).first,
      (h c).2.2.2.1.trans (down_final m c).second, (h c).2.2.2.2⟩) (Cert.AdamDownIdeal.Value.run_blocks m g),
    (θ_run _ _ _).mono (fun r h c => by
      obtain ⟨a, d, u, v, e⟩ := h c
      obtain ⟨e0, e1, e2, e3, e4⟩ := hm c
      rw [e0, e1, e2, e3] at d
      rw [e1, e2] at u
      rw [e1, e3] at v
      exact ⟨a.trans e1, d.trans rfl, u.trans rfl, v.trans rfl, e⟩) (Cert.AdamDownRefIdeal.Value.run m' g')⟩

end Down

end Cert.Ffn.Adam
-- ==== Proof.AdamMix.lean ====
module

public import proofs.«01_k».proof.Proof.AdamStep
public import proofs.«01_k».proof.Proof.Gen.AdamMixInIdeal.Value
public import proofs.«01_k».proof.Proof.Gen.AdamMixInRefIdeal.Run
public import proofs.«01_k».proof.Proof.Gen.AdamMixOutIdeal.Value
public import proofs.«01_k».proof.Proof.Gen.AdamMixOutRefIdeal.Run
public import proofs.«01_k».proof.Defs
public import Idealize.ShloMosaic.Lib.Pipeline.ReadBack
public import Idealize.ShloMosaic.Lib.Pointwise

@[expose] public section

noncomputable section

namespace Cert.Ffn.Adam

open Idealize.ShloMosaic Idealize.ShloMosaic.TcCoe Idealize.SL.Sem

section MixIn

open Cert.AdamMixInIdeal Cert.AdamMixInIdeal.Gen

theorem mixIn_final (m : (ℓ : Loc nD τ sig) → Buf (Elt Ideal) ℓ) (c : Dev nD) :
    Updates (m (c.tc.loc main_arg0)) (m (c.tc.loc main_arg1)) (m (c.tc.loc main_arg2)) (m (c.tc.loc main_arg3))
      ((dats m 0 c).arrAt 4 cfg0.N) ((dats m 0 c).arrAt 5 cfg0.N) ((dats m 0 c).arrAt 6 cfg0.N) ((dats m 0 c).arrAt 7 cfg0.N) := by
  have idx : ∀ t : Fin cfg0.N, win0_0.index t = ![t.val, 0] ∧ win0_1.index t = ![t.val, 0] ∧ win0_2.index t = ![t.val, 0] ∧ win0_3.index t = ![t.val, 0]
      ∧ win0_4.index t = ![t.val, 0] ∧ win0_5.index t = ![t.val, 0] ∧ win0_6.index t = ![t.val, 0] ∧ win0_7.index t = ![t.val, 0] :=
    (by decide +kernel : ∀ t : Fin grid0.N, _)
  constructor <;> refine (dats m 0 c).arrAt_eq_of_covers _ _ (by decide +kernel) fun t hf y => ?_ <;> obtain ⟨e0, e1, e2, e3, e4, e5, e6, e7⟩ := idx t <;> blk_simp
  all_goals
    first | rw [after0_4, outsAt0] | rw [after0_5, outsAt0] | rw [after0_6, outsAt0] | rw [after0_7, outsAt0]
    frame_out
    try pointwise [k0_pay1, k0_pay2, k0_pay3, stepW, stepM, stepV]
    blk_point [iblk, e0, e1, e2, e3, e4, e5, e6, e7, V_main_arg0, V_main_arg1, V_main_arg2, V_main_arg3]

theorem algebraic_mixIn : Cert.algebraic_AdamMixInIdeal_AdamMixInRefIdeal := fun m g m' g' _ hm =>
  ⟨_, _, _, _, (θ_run _ _ _).mono (fun r h c => ⟨(h c).1.trans (mixIn_final m c).grad, (h c).2.1.trans (mixIn_final m c).delta, (h c).2.2.1.trans (mixIn_final m c).first,
      (h c).2.2.2.1.trans (mixIn_final m c).second, (h c).2.2.2.2⟩) (Cert.AdamMixInIdeal.Value.run_blocks m g),
    (θ_run _ _ _).mono (fun r h c => by
      obtain ⟨a, d, u, v, e⟩ := h c
      obtain ⟨e0, e1, e2, e3, e4⟩ := hm c
      rw [e0, e1, e2, e3] at d
      rw [e1, e2] at u
      rw [e1, e3] at v
      exact ⟨a.trans e1, d.trans rfl, u.trans rfl, v.trans rfl, e⟩) (Cert.AdamMixInRefIdeal.Value.run m' g')⟩

end MixIn

section MixOut

open Cert.AdamMixOutIdeal Cert.AdamMixOutIdeal.Gen

theorem mixOut_final (m : (ℓ : Loc nD τ sig) → Buf (Elt Ideal) ℓ) (c : Dev nD) :
    Updates (m (c.tc.loc main_arg0)) (m (c.tc.loc main_arg1)) (m (c.tc.loc main_arg2)) (m (c.tc.loc main_arg3))
      ((dats m 0 c).arrAt 4 cfg0.N) ((dats m 0 c).arrAt 5 cfg0.N) ((dats m 0 c).arrAt 6 cfg0.N) ((dats m 0 c).arrAt 7 cfg0.N) := by
  have idx : ∀ t : Fin cfg0.N, win0_0.index t = ![t.val, 0] ∧ win0_1.index t = ![t.val, 0] ∧ win0_2.index t = ![t.val, 0] ∧ win0_3.index t = ![t.val, 0]
      ∧ win0_4.index t = ![t.val, 0] ∧ win0_5.index t = ![t.val, 0] ∧ win0_6.index t = ![t.val, 0] ∧ win0_7.index t = ![t.val, 0] :=
    (by decide +kernel : ∀ t : Fin grid0.N, _)
  constructor <;> refine (dats m 0 c).arrAt_eq_of_covers _ _ (by decide +kernel) fun t hf y => ?_ <;> obtain ⟨e0, e1, e2, e3, e4, e5, e6, e7⟩ := idx t <;> blk_simp
  all_goals
    first | rw [after0_4, outsAt0] | rw [after0_5, outsAt0] | rw [after0_6, outsAt0] | rw [after0_7, outsAt0]
    frame_out
    try pointwise [k0_pay1, k0_pay2, k0_pay3, stepW, stepM, stepV]
    blk_point [iblk, e0, e1, e2, e3, e4, e5, e6, e7, V_main_arg0, V_main_arg1, V_main_arg2, V_main_arg3]

theorem algebraic_mixOut : Cert.algebraic_AdamMixOutIdeal_AdamMixOutRefIdeal := fun m g m' g' _ hm =>
  ⟨_, _, _, _, (θ_run _ _ _).mono (fun r h c => ⟨(h c).1.trans (mixOut_final m c).grad, (h c).2.1.trans (mixOut_final m c).delta, (h c).2.2.1.trans (mixOut_final m c).first,
      (h c).2.2.2.1.trans (mixOut_final m c).second, (h c).2.2.2.2⟩) (Cert.AdamMixOutIdeal.Value.run_blocks m g),
    (θ_run _ _ _).mono (fun r h c => by
      obtain ⟨a, d, u, v, e⟩ := h c
      obtain ⟨e0, e1, e2, e3, e4⟩ := hm c
      rw [e0, e1, e2, e3] at d
      rw [e1, e2] at u
      rw [e1, e3] at v
      exact ⟨a.trans e1, d.trans rfl, u.trans rfl, v.trans rfl, e⟩) (Cert.AdamMixOutRefIdeal.Value.run m' g')⟩

end MixOut

end Cert.Ffn.Adam
-- ==== Proof.AdamAttn.lean ====
module

public import proofs.«01_k».proof.Proof.AdamStep
public import proofs.«01_k».proof.Proof.Gen.AdamPoolIdeal.Value
public import proofs.«01_k».proof.Proof.Gen.AdamPoolRefIdeal.Run
public import proofs.«01_k».proof.Proof.Gen.AdamScaleIdeal.Value
public import proofs.«01_k».proof.Proof.Gen.AdamScaleRefIdeal.Run
public import proofs.«01_k».proof.Defs
public import Idealize.ShloMosaic.Lib.Pipeline.ReadBack
public import Idealize.ShloMosaic.Lib.Pointwise

@[expose] public section

noncomputable section

namespace Cert.Ffn.Adam

open Idealize.ShloMosaic Idealize.ShloMosaic.TcCoe Idealize.SL.Sem

section Pool

open Cert.AdamPoolIdeal Cert.AdamPoolIdeal.Gen

theorem pool_final (m : (ℓ : Loc nD τ sig) → Buf (Elt Ideal) ℓ) (c : Dev nD) :
    Updates (m (c.tc.loc main_arg0)) (m (c.tc.loc main_arg1)) (m (c.tc.loc main_arg2)) (m (c.tc.loc main_arg3))
      ((dats m 0 c).arrAt 4 cfg0.N) ((dats m 0 c).arrAt 5 cfg0.N) ((dats m 0 c).arrAt 6 cfg0.N) ((dats m 0 c).arrAt 7 cfg0.N) := by
  have idx : ∀ t : Fin cfg0.N, win0_0.index t = ![t.val, 0] ∧ win0_1.index t = ![t.val, 0] ∧ win0_2.index t = ![t.val, 0] ∧ win0_3.index t = ![t.val, 0]
      ∧ win0_4.index t = ![t.val, 0] ∧ win0_5.index t = ![t.val, 0] ∧ win0_6.index t = ![t.val, 0] ∧ win0_7.index t = ![t.val, 0] :=
    (by decide +kernel : ∀ t : Fin grid0.N, _)
  constructor <;> refine (dats m 0 c).arrAt_eq_of_covers _ _ (by decide +kernel) fun t hf y => ?_ <;> obtain ⟨e0, e1, e2, e3, e4, e5, e6, e7⟩ := idx t <;> blk_simp
  all_goals
    first | rw [after0_4, outsAt0] | rw [after0_5, outsAt0] | rw [after0_6, outsAt0] | rw [after0_7, outsAt0]
    frame_out
    try pointwise [k0_pay1, k0_pay2, k0_pay3, stepW, stepM, stepV]
    blk_point [iblk, e0, e1, e2, e3, e4, e5, e6, e7, V_main_arg0, V_main_arg1, V_main_arg2, V_main_arg3]

theorem algebraic_pool : Cert.algebraic_AdamPoolIdeal_AdamPoolRefIdeal := fun m g m' g' _ hm =>
  ⟨_, _, _, _, (θ_run _ _ _).mono (fun r h c => ⟨(h c).1.trans (pool_final m c).grad, (h c).2.1.trans (pool_final m c).delta, (h c).2.2.1.trans (pool_final m c).first,
      (h c).2.2.2.1.trans (pool_final m c).second, (h c).2.2.2.2⟩) (Cert.AdamPoolIdeal.Value.run_blocks m g),
    (θ_run _ _ _).mono (fun r h c => by
      obtain ⟨a, d, u, v, e⟩ := h c
      obtain ⟨e0, e1, e2, e3, e4⟩ := hm c
      rw [e0, e1, e2, e3] at d
      rw [e1, e2] at u
      rw [e1, e3] at v
      exact ⟨a.trans e1, d.trans rfl, u.trans rfl, v.trans rfl, e⟩) (Cert.AdamPoolRefIdeal.Value.run m' g')⟩

end Pool

section Scale

open Cert.AdamScaleIdeal Cert.AdamScaleIdeal.Gen

theorem scale_final (m : (ℓ : Loc nD τ sig) → Buf (Elt Ideal) ℓ) (c : Dev nD) :
    Updates (m (c.tc.loc main_arg0)) (m (c.tc.loc main_arg1)) (m (c.tc.loc main_arg2)) (m (c.tc.loc main_arg3))
      ((dats m 0 c).arrAt 4 cfg0.N) ((dats m 0 c).arrAt 5 cfg0.N) ((dats m 0 c).arrAt 6 cfg0.N) ((dats m 0 c).arrAt 7 cfg0.N) := by
  have idx : ∀ t : Fin cfg0.N, win0_0.index t = ![t.val, 0] ∧ win0_1.index t = ![t.val, 0] ∧ win0_2.index t = ![t.val, 0] ∧ win0_3.index t = ![t.val, 0]
      ∧ win0_4.index t = ![t.val, 0] ∧ win0_5.index t = ![t.val, 0] ∧ win0_6.index t = ![t.val, 0] ∧ win0_7.index t = ![t.val, 0] :=
    (by decide +kernel : ∀ t : Fin grid0.N, _)
  constructor <;> refine (dats m 0 c).arrAt_eq_of_covers _ _ (by decide +kernel) fun t hf y => ?_ <;> obtain ⟨e0, e1, e2, e3, e4, e5, e6, e7⟩ := idx t <;> blk_simp
  all_goals
    first | rw [after0_4, outsAt0] | rw [after0_5, outsAt0] | rw [after0_6, outsAt0] | rw [after0_7, outsAt0]
    frame_out
    try pointwise [k0_pay1, k0_pay2, k0_pay3, stepW, stepM, stepV]
    blk_point [iblk, e0, e1, e2, e3, e4, e5, e6, e7, V_main_arg0, V_main_arg1, V_main_arg2, V_main_arg3]

theorem algebraic_scale : Cert.algebraic_AdamScaleIdeal_AdamScaleRefIdeal := fun m g m' g' _ hm =>
  ⟨_, _, _, _, (θ_run _ _ _).mono (fun r h c => ⟨(h c).1.trans (scale_final m c).grad, (h c).2.1.trans (scale_final m c).delta, (h c).2.2.1.trans (scale_final m c).first,
      (h c).2.2.2.1.trans (scale_final m c).second, (h c).2.2.2.2⟩) (Cert.AdamScaleIdeal.Value.run_blocks m g),
    (θ_run _ _ _).mono (fun r h c => by
      obtain ⟨a, d, u, v, e⟩ := h c
      obtain ⟨e0, e1, e2, e3, e4⟩ := hm c
      rw [e0, e1, e2, e3] at d
      rw [e1, e2] at u
      rw [e1, e3] at v
      exact ⟨a.trans e1, d.trans rfl, u.trans rfl, v.trans rfl, e⟩) (Cert.AdamScaleRefIdeal.Value.run m' g')⟩

end Scale

end Cert.Ffn.Adam
-- ==== Proof.AdamGate.lean ====
module

public import proofs.«01_k».proof.Proof.AdamStep
public import proofs.«01_k».proof.Proof.Gen.AdamAlphaIdeal.Value
public import proofs.«01_k».proof.Proof.Gen.AdamAlphaRefIdeal.Run
public import proofs.«01_k».proof.Proof.Gen.AdamBiasIdeal.Value
public import proofs.«01_k».proof.Proof.Gen.AdamBiasRefIdeal.Run
public import proofs.«01_k».proof.Defs
public import Idealize.ShloMosaic.Lib.Pipeline.ReadBack
public import Idealize.ShloMosaic.Lib.Pointwise

@[expose] public section

noncomputable section

namespace Cert.Ffn.Adam

open Idealize.ShloMosaic Idealize.ShloMosaic.TcCoe Idealize.SL.Sem

section Alpha

open Cert.AdamAlphaIdeal Cert.AdamAlphaIdeal.Gen

theorem alpha_final (m : (ℓ : Loc nD τ sig) → Buf (Elt Ideal) ℓ) (c : Dev nD) :
    Updates (m (c.tc.loc main_arg0)) (m (c.tc.loc main_arg1)) (m (c.tc.loc main_arg2)) (m (c.tc.loc main_arg3))
      ((dats m 0 c).arrAt 4 cfg0.N) ((dats m 0 c).arrAt 5 cfg0.N) ((dats m 0 c).arrAt 6 cfg0.N) ((dats m 0 c).arrAt 7 cfg0.N) := by
  have idx : ∀ t : Fin cfg0.N, win0_0.index t = ![t.val, 0] ∧ win0_1.index t = ![t.val, 0] ∧ win0_2.index t = ![t.val, 0] ∧ win0_3.index t = ![t.val, 0]
      ∧ win0_4.index t = ![t.val, 0] ∧ win0_5.index t = ![t.val, 0] ∧ win0_6.index t = ![t.val, 0] ∧ win0_7.index t = ![t.val, 0] :=
    (by decide +kernel : ∀ t : Fin grid0.N, _)
  constructor <;> refine (dats m 0 c).arrAt_eq_of_covers _ _ (by decide +kernel) fun t hf y => ?_ <;> obtain ⟨e0, e1, e2, e3, e4, e5, e6, e7⟩ := idx t <;> blk_simp
  all_goals
    first | rw [after0_4, outsAt0] | rw [after0_5, outsAt0] | rw [after0_6, outsAt0] | rw [after0_7, outsAt0]
    frame_out
    try pointwise [k0_pay1, k0_pay2, k0_pay3, stepW, stepM, stepV]
    blk_point [iblk, e0, e1, e2, e3, e4, e5, e6, e7, V_main_arg0, V_main_arg1, V_main_arg2, V_main_arg3]

theorem algebraic_alpha : Cert.algebraic_AdamAlphaIdeal_AdamAlphaRefIdeal := fun m g m' g' _ hm =>
  ⟨_, _, _, _, (θ_run _ _ _).mono (fun r h c => ⟨(h c).1.trans (alpha_final m c).grad, (h c).2.1.trans (alpha_final m c).delta, (h c).2.2.1.trans (alpha_final m c).first,
      (h c).2.2.2.1.trans (alpha_final m c).second, (h c).2.2.2.2⟩) (Cert.AdamAlphaIdeal.Value.run_blocks m g),
    (θ_run _ _ _).mono (fun r h c => by
      obtain ⟨a, d, u, v, e⟩ := h c
      obtain ⟨e0, e1, e2, e3, e4⟩ := hm c
      rw [e0, e1, e2, e3] at d
      rw [e1, e2] at u
      rw [e1, e3] at v
      exact ⟨a.trans e1, d.trans rfl, u.trans rfl, v.trans rfl, e⟩) (Cert.AdamAlphaRefIdeal.Value.run m' g')⟩

end Alpha

section Bias

open Cert.AdamBiasIdeal Cert.AdamBiasIdeal.Gen

theorem bias_final (m : (ℓ : Loc nD τ sig) → Buf (Elt Ideal) ℓ) (c : Dev nD) :
    Updates (m (c.tc.loc main_arg0)) (m (c.tc.loc main_arg1)) (m (c.tc.loc main_arg2)) (m (c.tc.loc main_arg3))
      ((dats m 0 c).arrAt 4 cfg0.N) ((dats m 0 c).arrAt 5 cfg0.N) ((dats m 0 c).arrAt 6 cfg0.N) ((dats m 0 c).arrAt 7 cfg0.N) := by
  have idx : ∀ t : Fin cfg0.N, win0_0.index t = ![t.val, 0] ∧ win0_1.index t = ![t.val, 0] ∧ win0_2.index t = ![t.val, 0] ∧ win0_3.index t = ![t.val, 0]
      ∧ win0_4.index t = ![t.val, 0] ∧ win0_5.index t = ![t.val, 0] ∧ win0_6.index t = ![t.val, 0] ∧ win0_7.index t = ![t.val, 0] :=
    (by decide +kernel : ∀ t : Fin grid0.N, _)
  constructor <;> refine (dats m 0 c).arrAt_eq_of_covers _ _ (by decide +kernel) fun t hf y => ?_ <;> obtain ⟨e0, e1, e2, e3, e4, e5, e6, e7⟩ := idx t <;> blk_simp
  all_goals
    first | rw [after0_4, outsAt0] | rw [after0_5, outsAt0] | rw [after0_6, outsAt0] | rw [after0_7, outsAt0]
    frame_out
    try pointwise [k0_pay1, k0_pay2, k0_pay3, stepW, stepM, stepV]
    blk_point [iblk, e0, e1, e2, e3, e4, e5, e6, e7, V_main_arg0, V_main_arg1, V_main_arg2, V_main_arg3]

theorem algebraic_bias : Cert.algebraic_AdamBiasIdeal_AdamBiasRefIdeal := fun m g m' g' _ hm =>
  ⟨_, _, _, _, (θ_run _ _ _).mono (fun r h c => ⟨(h c).1.trans (bias_final m c).grad, (h c).2.1.trans (bias_final m c).delta, (h c).2.2.1.trans (bias_final m c).first,
      (h c).2.2.2.1.trans (bias_final m c).second, (h c).2.2.2.2⟩) (Cert.AdamBiasIdeal.Value.run_blocks m g),
    (θ_run _ _ _).mono (fun r h c => by
      obtain ⟨a, d, u, v, e⟩ := h c
      obtain ⟨e0, e1, e2, e3, e4⟩ := hm c
      rw [e0, e1, e2, e3] at d
      rw [e1, e2] at u
      rw [e1, e3] at v
      exact ⟨a.trans e1, d.trans rfl, u.trans rfl, v.trans rfl, e⟩) (Cert.AdamBiasRefIdeal.Value.run m' g')⟩

end Bias

end Cert.Ffn.Adam
-- ==== Proof.AdamRow.lean ====
module

public import proofs.«01_k».proof.Proof.AdamStep
public import proofs.«01_k».proof.Proof.Gen.AdamGainIdeal.Value
public import proofs.«01_k».proof.Proof.Gen.AdamGainRefIdeal.Run
public import proofs.«01_k».proof.Proof.Gen.AdamHeadIdeal.Value
public import proofs.«01_k».proof.Proof.Gen.AdamHeadRefIdeal.Run
public import proofs.«01_k».proof.Defs
public import Idealize.ShloMosaic.Lib.Pipeline.ReadBack
public import Idealize.ShloMosaic.Lib.Pointwise

@[expose] public section

noncomputable section

namespace Cert.Ffn.Adam

open Idealize.ShloMosaic Idealize.ShloMosaic.TcCoe Idealize.SL.Sem

section Gain

open Cert.AdamGainIdeal Cert.AdamGainIdeal.Gen

theorem gain_final (m : (ℓ : Loc nD τ sig) → Buf (Elt Ideal) ℓ) (c : Dev nD) :
    Updates (m (c.tc.loc main_arg0)) (m (c.tc.loc main_arg1)) (m (c.tc.loc main_arg2)) (m (c.tc.loc main_arg3))
      ((dats m 0 c).arrAt 4 cfg0.N) ((dats m 0 c).arrAt 5 cfg0.N) ((dats m 0 c).arrAt 6 cfg0.N) ((dats m 0 c).arrAt 7 cfg0.N) := by
  have idx : ∀ t : Fin cfg0.N, win0_0.index t = ![t.val, 0] ∧ win0_1.index t = ![t.val, 0] ∧ win0_2.index t = ![t.val, 0] ∧ win0_3.index t = ![t.val, 0]
      ∧ win0_4.index t = ![t.val, 0] ∧ win0_5.index t = ![t.val, 0] ∧ win0_6.index t = ![t.val, 0] ∧ win0_7.index t = ![t.val, 0] :=
    (by decide +kernel : ∀ t : Fin grid0.N, _)
  constructor <;> refine (dats m 0 c).arrAt_eq_of_covers _ _ (by decide +kernel) fun t hf y => ?_ <;> obtain ⟨e0, e1, e2, e3, e4, e5, e6, e7⟩ := idx t <;> blk_simp
  all_goals
    first | rw [after0_4, outsAt0] | rw [after0_5, outsAt0] | rw [after0_6, outsAt0] | rw [after0_7, outsAt0]
    frame_out
    try pointwise [k0_pay1, k0_pay2, k0_pay3, stepW, stepM, stepV]
    blk_point [iblk, e0, e1, e2, e3, e4, e5, e6, e7, V_main_arg0, V_main_arg1, V_main_arg2, V_main_arg3]

theorem algebraic_gain : Cert.algebraic_AdamGainIdeal_AdamGainRefIdeal := fun m g m' g' _ hm =>
  ⟨_, _, _, _, (θ_run _ _ _).mono (fun r h c => ⟨(h c).1.trans (gain_final m c).grad, (h c).2.1.trans (gain_final m c).delta, (h c).2.2.1.trans (gain_final m c).first,
      (h c).2.2.2.1.trans (gain_final m c).second, (h c).2.2.2.2⟩) (Cert.AdamGainIdeal.Value.run_blocks m g),
    (θ_run _ _ _).mono (fun r h c => by
      obtain ⟨a, d, u, v, e⟩ := h c
      obtain ⟨e0, e1, e2, e3, e4⟩ := hm c
      rw [e0, e1, e2, e3] at d
      rw [e1, e2] at u
      rw [e1, e3] at v
      exact ⟨a.trans e1, d.trans rfl, u.trans rfl, v.trans rfl, e⟩) (Cert.AdamGainRefIdeal.Value.run m' g')⟩

end Gain

section Head

open Cert.AdamHeadIdeal Cert.AdamHeadIdeal.Gen

theorem head_final (m : (ℓ : Loc nD τ sig) → Buf (Elt Ideal) ℓ) (c : Dev nD) :
    Updates (m (c.tc.loc main_arg0)) (m (c.tc.loc main_arg1)) (m (c.tc.loc main_arg2)) (m (c.tc.loc main_arg3))
      ((dats m 0 c).arrAt 4 cfg0.N) ((dats m 0 c).arrAt 5 cfg0.N) ((dats m 0 c).arrAt 6 cfg0.N) ((dats m 0 c).arrAt 7 cfg0.N) := by
  have idx : ∀ t : Fin cfg0.N, win0_0.index t = ![t.val, 0] ∧ win0_1.index t = ![t.val, 0] ∧ win0_2.index t = ![t.val, 0] ∧ win0_3.index t = ![t.val, 0]
      ∧ win0_4.index t = ![t.val, 0] ∧ win0_5.index t = ![t.val, 0] ∧ win0_6.index t = ![t.val, 0] ∧ win0_7.index t = ![t.val, 0] :=
    (by decide +kernel : ∀ t : Fin grid0.N, _)
  constructor <;> refine (dats m 0 c).arrAt_eq_of_covers _ _ (by decide +kernel) fun t hf y => ?_ <;> obtain ⟨e0, e1, e2, e3, e4, e5, e6, e7⟩ := idx t <;> blk_simp
  all_goals
    first | rw [after0_4, outsAt0] | rw [after0_5, outsAt0] | rw [after0_6, outsAt0] | rw [after0_7, outsAt0]
    frame_out
    try pointwise [k0_pay1, k0_pay2, k0_pay3, stepW, stepM, stepV]
    blk_point [iblk, e0, e1, e2, e3, e4, e5, e6, e7, V_main_arg0, V_main_arg1, V_main_arg2, V_main_arg3]

theorem algebraic_head : Cert.algebraic_AdamHeadIdeal_AdamHeadRefIdeal := fun m g m' g' _ hm =>
  ⟨_, _, _, _, (θ_run _ _ _).mono (fun r h c => ⟨(h c).1.trans (head_final m c).grad, (h c).2.1.trans (head_final m c).delta, (h c).2.2.1.trans (head_final m c).first,
      (h c).2.2.2.1.trans (head_final m c).second, (h c).2.2.2.2⟩) (Cert.AdamHeadIdeal.Value.run_blocks m g),
    (θ_run _ _ _).mono (fun r h c => by
      obtain ⟨a, d, u, v, e⟩ := h c
      obtain ⟨e0, e1, e2, e3, e4⟩ := hm c
      rw [e0, e1, e2, e3] at d
      rw [e1, e2] at u
      rw [e1, e3] at v
      exact ⟨a.trans e1, d.trans rfl, u.trans rfl, v.trans rfl, e⟩) (Cert.AdamHeadRefIdeal.Value.run m' g')⟩

end Head

end Cert.Ffn.Adam
-- ==== Proof.NormLoop.lean ====
module

public import proofs.«01_k».proof.Proof.Gen.NormIdeal.Value
public import proofs.«01_k».proof.Proof.Numbers
public import Idealize.ShloMosaic.Lib.Pipeline.ValueKit
public import Idealize.ShloMosaic.Lib.Pipeline.ReadBack
public import Idealize.ShloMosaic.Lib.Pointwise

@[expose] public section

noncomputable section

namespace Cert.Ffn.Norm

open Cert.NormIdeal Cert.NormIdeal.Gen Idealize.ShloMosaic Idealize.ShloMosaic.TcCoe Idealize.SL.Sem
open Idealize.ShloMosaic.Pipeline (Dat)

/-! One row of the norm's backward pass: `d` the gradient of the normed row, `h` the row, `o` the gradient of the sum, `g` the gain. -/

def scale (h : Fin 2048 → EReal) : EReal :=
  Ideal.rsqrt (Ideal.div (∑ k, h k * h k) (Ideal.ofBits .f32 0x45000000#32) + Ideal.ofBits .f32 0x358637BD#32)

def rowDh (g d h o : Fin 2048 → EReal) (j : Fin 2048) : EReal :=
  o j + scale h * (d j * g j - h j * scale h * Ideal.div (∑ k, d k * g k * (h k * scale h)) (Ideal.ofBits .f32 0x45000000#32))

def rowDg (d h : Fin 2048 → EReal) (j : Fin 2048) : EReal := d j * (h j * scale h)

/-- Row `r` of an array of two axes. -/
abbrev row {n : ℕ} (x : (⟨2, ![n, 2048]⟩ : Shape).Idx → EReal) (r : Fin n) : Fin 2048 → EReal := fun k => x (ix2 r k)

theorem pay7_apply (g : Vec Ideal S1x2048 .f32) (d h o : Vec Ideal S64x2048 .f32) (x : S64x2048.Idx) :
    k0_pay7 g d h o x = rowDh (row g 0) (row d (x 0)) (row h (x 0)) (row o (x 0)) (x 1) := by
  obtain ⟨r, j, rfl⟩ : ∃ r j, x = ix2 r j := ⟨x 0, x 1, eq_ix2 x⟩
  pointwise [k0_pay5, k0_pay6, k0_pay7, rowDh, scale]

theorem pay8_apply (g : Vec Ideal S1x2048 .f32) (d h o : Vec Ideal S64x2048 .f32) (x : S64x2048.Idx) :
    k0_pay8 g d h o x = rowDh (row g 0) (row d (x 0)) (row h (x 0)) (row o (x 0)) (x 1) := by
  exact (by pointwise [k0_pay8] : k0_pay8 g d h o x = k0_pay7 g d h o x).trans (pay7_apply g d h o x)

theorem pay9_apply (a : Vec Ideal S1x2048 .f32) (d h : Vec Ideal S64x2048 .f32) (x : S1x2048.Idx) :
    k0_pay9 a d h x = a x + ∑ s : Fin 64, rowDg (row d s) (row h s) (x 1) := by
  pointwise [k0_pay5, k0_pay6, k0_pay9, rowDg, scale]

theorem off (k : Fin k0_t1_loop.trips) : k0_off1 k = ![64 * k.val, 0] := by
  revert k; decide +kernel

section Trip

variable (c : Dev nD) (i : grid0.Coords) (arg2 : Memref sig .tc .vmem S1x512x2816 .bf16) (harg2 : arg2.IsWhole) (arg3 : Memref sig .tc .vmem S1x2048x2816 .bf16) (harg3 : arg3.IsWhole)
  (arg4 : Memref sig .tc .vmem S512x2048 .f32) (harg4 : arg4.IsWhole) (arg5 : Memref sig .tc .vmem S512x2048 .f32) (harg5 : arg5.IsWhole)
  (arg6 : Memref sig .tc .vmem S1x2048 .f32) (harg6 : arg6.IsWhole) (arg7 : Memref sig .tc .vmem S512x2048 .f32) (harg7 : arg7.IsWhole)
  (arg8 : Memref sig .tc .vmem S512x2048 .bf16) (harg8 : arg8.IsWhole) (arg9 : Memref sig .tc .vmem S1x2048 .f32) (harg9 : arg9.IsWhole)
  (arg10 : Memref sig .tc .vmem S512x2048 .f32) (harg10 : arg10.IsWhole) (h3 : k0_cond3 i = 1#1) (g : Vec Ideal S1x2048 .f32)
  (X4 : BufTy.Contents (Elt Ideal) arg4.view.ty) (X5 : BufTy.Contents (Elt Ideal) arg5.view.ty) (X10 : BufTy.Contents (Elt Ideal) arg10.view.ty)

/-- The rows trip `k` reads. -/
abbrev tile (k : Fin k0_t1_loop.trips) : Rect S512x2048 := Rect.unit (k0_off1 k) S64x2048.size (k0_off1_inb i k h3)

/-- What trip `k` yields and stores. -/
theorem trip_eq (k : Fin k0_t1_loop.trips) (acc : FVec Ideal S1x2048 .f32) :
    tripR_k0_t1 (F := Ideal) Variants.none c none i arg2 harg2 arg3 harg3 arg4 harg4 arg5 harg5 arg6 harg6 arg7 harg7 arg8 harg8 arg9 harg9 arg10 harg10 h3 g X4 X5 X10 k acc
        = k0_pay9 acc (arg10.view.readAt (Elt Ideal) (tile i h3 k).toLoadRect X10) (arg4.view.readAt (Elt Ideal) (tile i h3 k).toLoadRect X4)
      ∧ tripL_k0_t1 (F := Ideal) Variants.none c none i arg2 harg2 arg3 harg3 arg4 harg4 arg5 harg5 arg6 harg6 arg7 harg7 arg8 harg8 arg9 harg9 arg10 harg10 h3 g X4 X5 X10 k acc
        = ([⟨tile i h3 k, k0_pay7 g (arg10.view.readAt (Elt Ideal) (tile i h3 k).toLoadRect X10) (arg4.view.readAt (Elt Ideal) (tile i h3 k).toLoadRect X4)
              (arg5.view.readAt (Elt Ideal) (tile i h3 k).toLoadRect X5)⟩],
            [⟨tile i h3 k, k0_pay8 g (arg10.view.readAt (Elt Ideal) (tile i h3 k).toLoadRect X10) (arg4.view.readAt (Elt Ideal) (tile i h3 k).toLoadRect X4)
              (arg5.view.readAt (Elt Ideal) (tile i h3 k).toLoadRect X5)⟩]) := by
  unfold tripR_k0_t1 tripL_k0_t1 trip_k0_t1
  exact ⟨rfl, rfl⟩

/-- A row read through trip `k`'s rectangle is the row the rectangle names. -/
theorem row_tile (v : View sig .tc .vmem S512x2048 .f32) (X : v.ty.Contents (Elt Ideal)) (k : Fin k0_t1_loop.trips) (s : Fin 64) (r : Fin 512)
    (hr : r.val = 64 * k.val + s.val) :
    row (v.readAt (Elt Ideal) (tile i h3 k).toLoadRect X : S64x2048.Idx → EReal) s = row (v.read (Elt Ideal) X : S512x2048.Idx → EReal) r := by
  funext j
  show v.read (Elt Ideal) X ((tile i h3 k).emb (ix2 s j)) = v.read (Elt Ideal) X (ix2 r j)
  congr 1
  funext a
  apply Fin.ext
  show k0_off1 k a + 1 * ((ix2 s j : S64x2048.Idx) a).val = _
  rw [off]
  fin_cases a
  · show 64 * k.val + 1 * s.val = r.val
    omega
  · show 0 + 1 * j.val = j.val
    omega

theorem tile_emb (k : Fin k0_t1_loop.trips) (x : S64x2048.Idx) :
    ((tile i h3 k).emb x 0).val = 64 * k.val + (x 0).val ∧ (tile i h3 k).emb x 1 = x 1 := by
  constructor
  · show k0_off1 k 0 + 1 * (x 0).val = _
    rw [off]
    show 64 * k.val + 1 * (x 0).val = _
    omega
  · apply Fin.ext
    show k0_off1 k 1 + 1 * (x 1).val = _
    rw [off]
    show 0 + 1 * (x 1).val = _
    omega

/-- What the loop leaves in the block of the gradient. -/
def blockDh (D H O : S512x2048.Idx → EReal) : S512x2048.Idx → EReal := fun y => rowDh (row g 0) (row D (y 0)) (row H (y 0)) (row O (y 0)) (y 1)

/-- Row `r`'s share of the gain's gradient. -/
def share (D H : S512x2048.Idx → EReal) (j : Fin 2048) (r : ℕ) : EReal := if h : r < 512 then rowDg (row D ⟨r, h⟩) (row H ⟨r, h⟩) j else 0

theorem share_of (D H : S512x2048.Idx → EReal) (j : Fin 2048) {r : ℕ} (h : r < 512) : share D H j r = rowDg (row D ⟨r, h⟩) (row H ⟨r, h⟩) j :=
  dif_pos h

theorem state_eq (n : ℕ) (hn : n ≤ k0_t1_loop.trips) :
    let st := st_k0_t1 (F := Ideal) Variants.none c none i arg2 harg2 arg3 harg3 arg4 harg4 arg5 harg5 arg6 harg6 arg7 harg7 arg8 harg8 arg9 harg9 arg10 harg10 h3 g X4 X5 X10 k0_pay4 n
    (∀ x, st.1 x = ∑ t ∈ Finset.range n, ∑ s : Fin 64, share (arg10.view.read (Elt Ideal) X10) (arg4.view.read (Elt Ideal) X4) (x 1) (t * 64 + s.val))
      ∧ (∀ p ∈ st.2.1, ∀ x : p.1.shape.Idx, p.2 x = blockDh g (arg10.view.read (Elt Ideal) X10) (arg4.view.read (Elt Ideal) X4) (arg5.view.read (Elt Ideal) X5) (p.1.emb x))
      ∧ (∀ p ∈ st.2.2, ∀ x : p.1.shape.Idx, p.2 x = blockDh g (arg10.view.read (Elt Ideal) X10) (arg4.view.read (Elt Ideal) X4) (arg5.view.read (Elt Ideal) X5) (p.1.emb x)) := by
  induction n with
  | zero =>
    refine ⟨fun x => ?_, fun p hp => absurd hp List.not_mem_nil, fun p hp => absurd hp List.not_mem_nil⟩
    rw [Finset.sum_range_zero]
    show k0_pay4 (F := Ideal) x = 0
    pointwise [k0_pay4]
  | succ n ih =>
    obtain ⟨i1, i2, i3⟩ := ih (by omega)
    obtain ⟨tR, tL⟩ := trip_eq c i arg2 harg2 arg3 harg3 arg4 harg4 arg5 harg5 arg6 harg6 arg7 harg7 arg8 harg8 arg9 harg9 arg10 harg10 h3 g X4 X5 X10 ⟨n, hn⟩
      (st_k0_t1 (F := Ideal) Variants.none c none i arg2 harg2 arg3 harg3 arg4 harg4 arg5 harg5 arg6 harg6 arg7 harg7 arg8 harg8 arg9 harg9 arg10 harg10 h3 g X4 X5 X10 k0_pay4 n).1
    have hs := st_k0_t1_succ (F := Ideal) Variants.none c none i arg2 harg2 arg3 harg3 arg4 harg4 arg5 harg5 arg6 harg6 arg7 harg7 arg8 harg8 arg9 harg9 arg10 harg10 h3 g X4 X5 X10 k0_pay4 ⟨n, hn⟩
    rw [show ((⟨n, hn⟩ : Fin k0_t1_loop.trips).val) = n from rfl, tR, tL] at hs
    dsimp only at i1 i2 i3
    have h8 : n < 8 := hn
    have hl : ∀ x : S64x2048.Idx, 64 * n + (x 0).val < 512 := fun x => by have : (x 0).val < 64 := (x 0).isLt; omega
    have hp : ∀ x : S64x2048.Idx, rowDh (row g 0) (row (arg10.view.readAt (Elt Ideal) (tile i h3 ⟨n, hn⟩).toLoadRect X10 : S64x2048.Idx → EReal) (x 0))
          (row (arg4.view.readAt (Elt Ideal) (tile i h3 ⟨n, hn⟩).toLoadRect X4 : S64x2048.Idx → EReal) (x 0))
          (row (arg5.view.readAt (Elt Ideal) (tile i h3 ⟨n, hn⟩).toLoadRect X5 : S64x2048.Idx → EReal) (x 0)) (x 1)
        = blockDh g (arg10.view.read (Elt Ideal) X10) (arg4.view.read (Elt Ideal) X4) (arg5.view.read (Elt Ideal) X5) ((tile i h3 ⟨n, hn⟩).emb x) := fun x => by
      obtain ⟨e0, e1⟩ := tile_emb i h3 ⟨n, hn⟩ x
      rw [blockDh, e1, row_tile i h3 _ X10 _ _ _ e0, row_tile i h3 _ X4 _ _ _ e0, row_tile i h3 _ X5 _ _ _ e0]
    dsimp only
    rw [hs]
    refine ⟨fun x => ?_, fun p hp' => ?_, fun p hp' => ?_⟩
    · dsimp only
      rw [pay9_apply, Finset.sum_range_succ, i1]
      refine congrArg (_ + ·) (Finset.sum_congr (M := EReal) rfl fun s _ => ?_)
      have hs' : n * 64 + s.val < 512 := by have := s.isLt; omega
      have hr : n * 64 + s.val = 64 * n + s.val := by omega
      exact (congrArg₂ (fun A B => rowDg A B (x 1)) (row_tile i h3 _ X10 ⟨n, hn⟩ s ⟨n * 64 + s.val, hs'⟩ hr) (row_tile i h3 _ X4 ⟨n, hn⟩ s ⟨n * 64 + s.val, hs'⟩ hr)).trans
        (share_of _ _ _ hs').symm
    · rcases List.mem_append.mp hp' with h | h
      · obtain rfl := List.mem_singleton.mp h
        exact fun x => (pay7_apply _ _ _ _ x).trans (hp x)
      · exact i2 p h
    · rcases List.mem_append.mp hp' with h | h
      · obtain rfl := List.mem_singleton.mp h
        exact fun x => (pay8_apply _ _ _ _ x).trans (hp x)
      · exact i3 p h

/-- The stores of the first `n` trips cover the first `64 n` rows. -/
theorem state_cover (n : ℕ) (hn : n ≤ k0_t1_loop.trips) :
    let st := st_k0_t1 (F := Ideal) Variants.none c none i arg2 harg2 arg3 harg3 arg4 harg4 arg5 harg5 arg6 harg6 arg7 harg7 arg8 harg8 arg9 harg9 arg10 harg10 h3 g X4 X5 X10 k0_pay4 n
    ∀ y : S512x2048.Idx, (y 0).val < 64 * n → (∃ p ∈ st.2.1, y ∈ p.1.set) ∧ ∃ p ∈ st.2.2, y ∈ p.1.set := by
  induction n with
  | zero => exact fun y h => absurd h (by omega)
  | succ n ih =>
    have ih := ih (by omega)
    obtain ⟨tR, tL⟩ := trip_eq c i arg2 harg2 arg3 harg3 arg4 harg4 arg5 harg5 arg6 harg6 arg7 harg7 arg8 harg8 arg9 harg9 arg10 harg10 h3 g X4 X5 X10 ⟨n, hn⟩
      (st_k0_t1 (F := Ideal) Variants.none c none i arg2 harg2 arg3 harg3 arg4 harg4 arg5 harg5 arg6 harg6 arg7 harg7 arg8 harg8 arg9 harg9 arg10 harg10 h3 g X4 X5 X10 k0_pay4 n).1
    have hs := st_k0_t1_succ (F := Ideal) Variants.none c none i arg2 harg2 arg3 harg3 arg4 harg4 arg5 harg5 arg6 harg6 arg7 harg7 arg8 harg8 arg9 harg9 arg10 harg10 h3 g X4 X5 X10 k0_pay4 ⟨n, hn⟩
    rw [show ((⟨n, hn⟩ : Fin k0_t1_loop.trips).val) = n from rfl, tR, tL] at hs
    dsimp only at ih
    dsimp only
    rw [hs]
    intro y hy
    by_cases h : (y 0).val < 64 * n
    · obtain ⟨⟨p, hp, hy⟩, q, hq, hy'⟩ := ih y h
      exact ⟨⟨p, List.mem_append.mpr (Or.inr hp), hy⟩, q, List.mem_append.mpr (Or.inr hq), hy'⟩
    · have hm : y ∈ (tile i h3 ⟨n, hn⟩).set := by
        rw [Rect.mem_set_unit]
        intro a
        rw [off]
        fin_cases a
        · show 64 * n ≤ (y 0).val ∧ (y 0).val < 64 * n + 64
          omega
        · have : (y 1).val < 2048 := (y 1).isLt
          show 0 ≤ (y 1).val ∧ (y 1).val < 0 + 2048
          omega
      exact ⟨⟨_, List.mem_append.mpr (Or.inl (List.mem_singleton.mpr rfl)), hm⟩, _, List.mem_append.mpr (Or.inl (List.mem_singleton.mpr rfl)), hm⟩

/-- The shares of the eight trips, row by row. -/
theorem shares (D H : S512x2048.Idx → EReal) (j : Fin 2048) :
    ∑ t ∈ Finset.range 8, ∑ s : Fin 64, share D H j (t * 64 + s.val) = ∑ r : Fin 512, rowDg (row D r) (row H r) j := by
  rw [Finset.sum_range]
  exact Fin.sum_mul_add_congr (S := 8) (n := 64) (F := fun t s => share D H j (t.val * 64 + s.val)) (f := fun r : Fin 512 => rowDg (row D r) (row H r) j)
    (fun t s hl => share_of D H j hl)

theorem trips : k0_t1_loop.trips = 8 := by decide +kernel

/-- The whole loop, from what its three arrays read as. -/
theorem loop_eq (P H O : S512x2048.Idx → EReal) (h10 : arg10.view.read (Elt Ideal) X10 = P) (h4 : arg4.view.read (Elt Ideal) X4 = H) (h5 : arg5.view.read (Elt Ideal) X5 = O) :
    let st := st_k0_t1 (F := Ideal) Variants.none c none i arg2 harg2 arg3 harg3 arg4 harg4 arg5 harg5 arg6 harg6 arg7 harg7 arg8 harg8 arg9 harg9 arg10 harg10 h3 g X4 X5 X10 k0_pay4 k0_t1_loop.trips
    (∀ x, st.1 x = ∑ r : Fin 512, rowDg (row P r) (row H r) (x 1)) ∧ View.canon st.2.1 = blockDh g P H O ∧ View.canon st.2.2 = blockDh g P H O := by
  subst h10 h4 h5
  obtain ⟨e1, e2, e3⟩ := state_eq c i arg2 harg2 arg3 harg3 arg4 harg4 arg5 harg5 arg6 harg6 arg7 harg7 arg8 harg8 arg9 harg9 arg10 harg10 h3 g X4 X5 X10 _ (Nat.le_refl k0_t1_loop.trips)
  have hc := state_cover c i arg2 harg2 arg3 harg3 arg4 harg4 arg5 harg5 arg6 harg6 arg7 harg7 arg8 harg8 arg9 harg9 arg10 harg10 h3 g X4 X5 X10 _ (Nat.le_refl k0_t1_loop.trips)
  have hb : ∀ y : S512x2048.Idx, (y 0).val < 64 * k0_t1_loop.trips := fun y => by rw [trips]; exact (y 0).isLt
  refine ⟨fun x => (e1 x).trans ?_, funext fun y => View.canon_apply_of_pieces _ _ e2 y (hc y (hb y)).1, funext fun y => View.canon_apply_of_pieces _ _ e3 y (hc y (hb y)).2⟩
  rw [trips]
  exact shares _ _ _

end Trip

end Cert.Ffn.Norm
-- ==== Proof.NormValue.lean ====
module

public import proofs.«01_k».proof.Proof.NormLoop
public import Idealize.ShloMosaic.Lib.Pipeline.ValueKit
public import Idealize.ShloMosaic.Lib.Pipeline.ReadBack
public import Idealize.ShloMosaic.Lib.Pointwise

@[expose] public section

noncomputable section

namespace Cert.Ffn.Norm

open Cert.NormIdeal Cert.NormIdeal.Gen Idealize.ShloMosaic Idealize.ShloMosaic.TcCoe Idealize.SL.Sem
open Idealize.ShloMosaic.Pipeline (Dat)

variable (m : (ℓ : Loc nD τ sig) → Buf (Elt Ideal) ℓ) (c : Dev nD)

theorem idx : ∀ t : Fin cfg0.N, win0_0.index t = ![t.val % 4 / 2, t.val / 4, t.val % 4 % 2] ∧ win0_1.index t = ![t.val % 4, 0, 0] ∧ win0_2.index t = ![t.val / 4, 0]
    ∧ win0_3.index t = ![t.val / 4, 0] ∧ win0_4.index t = ![0, 0] ∧ win0_5.index t = ![t.val / 4, 0] ∧ win0_6.index t = ![t.val / 4, 0] ∧ win0_7.index t = ![0, 0] :=
  (by decide +kernel : ∀ t : Fin grid0.N, _)

/-- The weight's columns in four shards. -/
def shards (w : S2048x11264.Idx → EReal) : S4x2048x2816.Idx → EReal :=
  fun i => w (ix2 (i 1) (⟨(i 0).val * 2816 + (i 2).val, by have h0 : (i 0).val < 4 := (i 0).isLt; have h2 : (i 2).val < 2816 := (i 2).isLt; omega⟩ : Fin 11264))

theorem entry_w : V m c main_v2 = shards (m ((c.tc : Thread nD τ).loc main_arg2)) := by
  entry_read
  funext i
  pointwise [shards]

/-- One term of the product of the pair's gradient with the weight, its two halves laid side by side. -/
def term (d : S2x2048x5632.Idx → EReal) (w : S2048x11264.Idx → EReal) (r j : Fin 2048) (k : Fin 11264) : EReal :=
  d (ix3 (⟨k.val / 5632, by omega⟩ : Fin 2) r (⟨k.val % 5632, Nat.mod_lt _ (by decide)⟩ : Fin 5632)) * w (ix2 j k)

/-- The gradient of the normed rows. -/
def normGrad (d : S2x2048x5632.Idx → EReal) (w : S2048x11264.Idx → EReal) : S2048x2048.Idx → EReal := fun i => ∑ k, term d w (i 0) (i 1) k

theorem pay2_apply (X : Vec Ideal S512x2048 .f32) (a : Vec Ideal S1x512x2816 .bf16) (b : Vec Ideal S1x2048x2816 .bf16) (r : Fin 512) (j : Fin 2048) :
    k0_pay2 X a b (ix2 r j) = X (ix2 r j) + ∑ k : Fin 2816, a (ix3 0 r k) * b (ix3 0 j k) := by
  pointwise [k0_pay2]

/-- The row of the array that row `r` of block `b` is. -/
abbrev at_ (t : Fin cfg0.N) (r : Fin 512) : Fin 2048 := ⟨t.val / 4 * 512 + r.val, by have : t.val < 16 := t.isLt; omega⟩

theorem block_term (t : Fin cfg0.N) (r : Fin 512) (j : Fin 2048) (k : Fin 2816) :
    (fun a b : EReal => a * b) (iblk m c 0 t (ix3 0 r k)) (iblk m c 1 t (ix3 0 j k))
      = term (m ((c.tc : Thread nD τ).loc main_arg3)) (m ((c.tc : Thread nD τ).loc main_arg2)) (at_ t r) j ⟨t.val % 4 * 2816 + k.val, by omega⟩ := by
  obtain ⟨e0, e1, e2, e3, e4, e5, e6, e7⟩ := idx t
  have hN : t.val < 16 := t.isLt
  unfold term
  refine congrArg₂ (fun a b : EReal => a * b) ?_ ?_
  · blk_point [iblk, e0, V_main_arg3]
  · blk_point [iblk, e1, entry_w, shards]

theorem h_read (t : Fin cfg0.N) (r : Fin 512) (j : Fin 2048) : iblk m c 2 t (ix2 r j) = m ((c.tc : Thread nD τ).loc main_arg0) (ix2 (at_ t r) j) := by
  obtain ⟨e0, e1, e2, e3, e4, e5, e6, e7⟩ := idx t
  blk_point [iblk, e2, V_main_arg0]

theorem o_read (t : Fin cfg0.N) (r : Fin 512) (j : Fin 2048) : iblk m c 3 t (ix2 r j) = m ((c.tc : Thread nD τ).loc main_arg4) (ix2 (at_ t r) j) := by
  obtain ⟨e0, e1, e2, e3, e4, e5, e6, e7⟩ := idx t
  blk_point [iblk, e3, V_main_arg4]

theorem g_read (t : Fin cfg0.N) (j : Fin 2048) : iblk m c 4 t (ix2 0 j) = m ((c.tc : Thread nD τ).loc main_arg1) (ix2 0 j) := by
  obtain ⟨e0, e1, e2, e3, e4, e5, e6, e7⟩ := idx t
  blk_point [iblk, e4, V_main_arg1]

theorem first_A (t : Fin cfg0.N) (h : t.val % 16 = 0) : (outsAt0 m c t.val t.isLt).2.2.2 = k0_pay2 (k0_pay1 (F := Ideal)) (iblk m c 0 t) (iblk m c 1 t)
    ∧ (outsAt0 m c t.val t.isLt).2.2.1 = k0_pay3 (F := Ideal) := by
  rw [outsAt0_A m c t (by omega) h (by omega)]
  constructor <;> frame_out

theorem first_D (t : Fin cfg0.N) (h : t.val % 4 = 0) (h' : t.val % 16 ≠ 0) :
    (outsAt0 m c t.val t.isLt).2.2.2 = k0_pay2 (k0_pay1 (F := Ideal)) (iblk m c 0 t) (iblk m c 1 t)
    ∧ (outsAt0 m c t.val t.isLt).2.2.1 = (outsAt0 m c (t.val - 1) (by have := t.isLt; omega)).2.2.1 := by
  rw [outsAt0_D m c t (by omega) h' (by omega)]
  constructor
  · frame_out
  · rfl

theorem next_B (t : Fin cfg0.N) (h : t.val % 4 ≠ 0) (h' : t.val % 4 ≠ 3) (X : Vec Ideal S512x2048 .f32) (hX : (outsAt0 m c (t.val - 1) (by have := t.isLt; omega)).2.2.2 = X) :
    (outsAt0 m c t.val t.isLt).2.2.2 = k0_pay2 X (iblk m c 0 t) (iblk m c 1 t)
    ∧ (outsAt0 m c t.val t.isLt).2.2.1 = (outsAt0 m c (t.val - 1) (by have := t.isLt; omega)).2.2.1 := by
  rw [outsAt0_B m c t h (by omega) h', hX]
  constructor
  · frame_out
    exact congrArg (fun A => k0_pay2 A (iblk m c 0 t) (iblk m c 1 t)) ((Memref.isWhole_whole cc0_scratch0).read_unread (Val := Elt Ideal) X)
  · rfl

/-- What the scratch reads as once the last product is stored over it. -/
theorem stored (X : Vec Ideal S512x2048 .f32) (a : Vec Ideal S1x512x2816 .bf16) (b : Vec Ideal S1x2048x2816 .bf16) :
    (View.whole cc0_scratch0).read (Elt Ideal) ((View.whole cc0_scratch0).writes (Elt Ideal) (View.whole cc0_scratch0).junk
      [⟨Rect.unit ![0, 0] ![512, 2048] inb_S512x2048_S512x2048_0_0, k0_pay2 (View.read (Elt Ideal) (View.whole cc0_scratch0) ((Memref.isWhole_whole cc0_scratch0).unread X)) a b⟩])
      = k0_pay2 X a b := by
  rw [View.read_writes_junk_eq_canon]
  refine (View.canon_unit_zero (S := S512x2048) (by funext a; fin_cases a <;> rfl) _ _).trans ?_
  exact congrArg (fun A => k0_pay2 A a b) ((Memref.isWhole_whole cc0_scratch0).read_unread (Val := Elt Ideal) X)

theorem pay10_apply (a b : Vec Ideal S1x2048 .f32) (x : S1x2048.Idx) : k0_pay10 a b x = a x + b x := by
  pointwise [k0_pay10]

theorem last_C (t : Fin cfg0.N) (h : t.val % 4 = 3) (X : Vec Ideal S512x2048 .f32) (hX : (outsAt0 m c (t.val - 1) (by have := t.isLt; omega)).2.2.2 = X)
    (Y : Vec Ideal S1x2048 .f32) (hY : (outsAt0 m c (t.val - 1) (by have := t.isLt; omega)).2.2.1 = Y) :
    (outsAt0 m c t.val t.isLt).1 = blockDh (iblk m c 4 t) (k0_pay2 X (iblk m c 0 t) (iblk m c 1 t)) (iblk m c 2 t) (iblk m c 3 t)
    ∧ (outsAt0 m c t.val t.isLt).2.1 = blockDh (iblk m c 4 t) (k0_pay2 X (iblk m c 0 t) (iblk m c 1 t)) (iblk m c 2 t) (iblk m c 3 t)
    ∧ ∀ x, (outsAt0 m c t.val t.isLt).2.2.1 x = Y x + ∑ r : Fin 512, rowDg (row (k0_pay2 X (iblk m c 0 t) (iblk m c 1 t)) r) (row (iblk m c 2 t) r) (x 1) := by
  rw [outsAt0_C m c t (by omega) (by omega) h, hX, hY]
  have hl := fun hh => loop_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t)
    (ms0_7 t) (hs0_7 t) scM0_0 (Memref.isWhole_whole _) hh (iblk m c 4 t) ((hs0_2 t).unread (iblk m c 2 t)) ((hs0_3 t).unread (iblk m c 3 t)) _ _ (iblk m c 2 t) (iblk m c 3 t)
    (stored X (iblk m c 0 t) (iblk m c 1 t)) ((hs0_2 t).read_unread (Val := Elt Ideal) (iblk m c 2 t)) ((hs0_3 t).read_unread (Val := Elt Ideal) (iblk m c 3 t))
  refine ⟨?_, ?_, fun x => ?_⟩
  · frame_out
    exact (hl _).2.1
  · frame_out
    exact (hl _).2.2
  · frame_out
    refine (pay10_apply _ _ x).trans ?_
    exact congrArg (Y x + ·) ((hl _).1 x)

/-- A quarter of the sum over the pair. -/
def quarter (d : S2x2048x5632.Idx → EReal) (w : S2048x11264.Idx → EReal) (r j : Fin 2048) (s : Fin 4) : EReal :=
  ∑ k : Fin 2816, term d w r j ⟨s.val * 2816 + k.val, by omega⟩

theorem quarters (d : S2x2048x5632.Idx → EReal) (w : S2048x11264.Idx → EReal) (r j : Fin 2048) :
    quarter d w r j 0 + quarter d w r j 1 + quarter d w r j 2 + quarter d w r j 3 = normGrad d w (ix2 r j) := by
  rw [← Fin.sum_univ_four]
  exact Fin.sum_mul_add_congr (S := 4) (n := 2816) (F := fun s k => term d w r j ⟨s.val * 2816 + k.val, by omega⟩) (f := fun k => term d w r j k) (fun s k hl => rfl)

/-- A point's product. -/
theorem point (t : Fin cfg0.N) (X : Vec Ideal S512x2048 .f32) (r : Fin 512) (j R : Fin 2048) (hR : R = at_ t r) (s : Fin 4) (hs : s.val = t.val % 4) :
    k0_pay2 X (iblk m c 0 t) (iblk m c 1 t) (ix2 r j)
      = X (ix2 r j) + quarter (m ((c.tc : Thread nD τ).loc main_arg3)) (m ((c.tc : Thread nD τ).loc main_arg2)) R j s := by
  subst hR
  refine (pay2_apply _ _ _ r j).trans (congrArg (X (ix2 r j) + ·) (Finset.sum_congr (M := EReal) rfl fun k _ => (block_term m c t r j k).trans ?_))
  exact congrArg _ (Fin.ext (by show t.val % 4 * 2816 + k.val = s.val * 2816 + k.val; rw [hs]))

theorem start (t : Fin cfg0.N) (h : t.val % 4 = 0) : (outsAt0 m c t.val t.isLt).2.2.2 = k0_pay2 (k0_pay1 (F := Ideal)) (iblk m c 0 t) (iblk m c 1 t) := by
  by_cases h' : t.val % 16 = 0
  · exact (first_A m c t h').1
  · exact (first_D m c t h h').1

theorem pay1_apply (x : S512x2048.Idx) : k0_pay1 (F := Ideal) x = 0 := by
  pointwise [k0_pay1]

/-- A row block's three points before its last, by their distance from it. -/
abbrev back (t : Fin cfg0.N) (n : ℕ) : Fin cfg0.N := ⟨t.val - n, by have := t.isLt; omega⟩

theorem scratch_last (t : Fin cfg0.N) (h : t.val % 4 = 3) (r : Fin 512) (j : Fin 2048) :
    k0_pay2 (outsAt0 m c (t.val - 1) (by have := t.isLt; omega)).2.2.2 (iblk m c 0 t) (iblk m c 1 t) (ix2 r j)
      = normGrad (m ((c.tc : Thread nD τ).loc main_arg3)) (m ((c.tc : Thread nD τ).loc main_arg2)) (ix2 (at_ t r) j) := by
  have h0 := start m c (back t 3) (by show (t.val - 3) % 4 = 0; omega)
  have h1 := (next_B m c (back t 2) (by show (t.val - 2) % 4 ≠ 0; omega) (by show (t.val - 2) % 4 ≠ 3; omega) _ h0).1
  have h2 := (next_B m c (back t 1) (by show (t.val - 1) % 4 ≠ 0; omega) (by show (t.val - 1) % 4 ≠ 3; omega) _ h1).1
  rw [show (outsAt0 m c (t.val - 1) (by have := t.isLt; omega)).2.2.2 = _ from h2]
  rw [← quarters, point m c t _ r j (at_ t r) rfl 3 (by show 3 = t.val % 4; omega),
    point m c (back t 1) _ r j (at_ t r) (Fin.ext (by show t.val / 4 * 512 + r.val = (t.val - 1) / 4 * 512 + r.val; omega)) 2 (by show 2 = (t.val - 1) % 4; omega),
    point m c (back t 2) _ r j (at_ t r) (Fin.ext (by show t.val / 4 * 512 + r.val = (t.val - 2) / 4 * 512 + r.val; omega)) 1 (by show 1 = (t.val - 2) % 4; omega),
    point m c (back t 3) _ r j (at_ t r) (Fin.ext (by show t.val / 4 * 512 + r.val = (t.val - 3) / 4 * 512 + r.val; omega)) 0 (by show 0 = (t.val - 3) % 4; omega),
    pay1_apply, zero_add]

/-- The gradient of the rows, from the gradient of the normed rows. -/
def rowsDh (g : S1x2048.Idx → EReal) (n h o : S2048x2048.Idx → EReal) : S2048x2048.Idx → EReal := fun i => rowDh (row g 0) (row n (i 0)) (row h (i 0)) (row o (i 0)) (i 1)

/-- The gradient of the gain. -/
def rowsDg (n h : S2048x2048.Idx → EReal) : S1x2048.Idx → EReal := fun i => ∑ r : Fin 2048, rowDg (row n r) (row h r) (i 1)

theorem block_last (t : Fin cfg0.N) (h : t.val % 4 = 3) (r : Fin 512) (j : Fin 2048) :
    blockDh (iblk m c 4 t) (k0_pay2 (outsAt0 m c (t.val - 1) (by have := t.isLt; omega)).2.2.2 (iblk m c 0 t) (iblk m c 1 t)) (iblk m c 2 t) (iblk m c 3 t) (ix2 r j)
      = rowsDh (m ((c.tc : Thread nD τ).loc main_arg1)) (normGrad (m ((c.tc : Thread nD τ).loc main_arg3)) (m ((c.tc : Thread nD τ).loc main_arg2))) (m ((c.tc : Thread nD τ).loc main_arg0))
          (m ((c.tc : Thread nD τ).loc main_arg4)) (ix2 (at_ t r) j) := by
  show rowDh (row (iblk m c 4 t) 0) (row _ r) (row (iblk m c 2 t) r) (row (iblk m c 3 t) r) j = rowDh _ _ _ _ j
  rw [show row (iblk m c 4 t) 0 = _ from funext fun k => g_read m c t k, show row (iblk m c 2 t) r = _ from funext fun k => h_read m c t r k,
    show row (iblk m c 3 t) r = _ from funext fun k => o_read m c t r k]
  exact congrArg (fun d => rowDh _ d _ _ j) (funext fun k => scratch_last m c t h r k)

theorem sum_last (t : Fin cfg0.N) (h : t.val % 4 = 3) (r : Fin 512) (j : Fin 2048) :
    rowDg (row (k0_pay2 (outsAt0 m c (t.val - 1) (by have := t.isLt; omega)).2.2.2 (iblk m c 0 t) (iblk m c 1 t)) r) (row (iblk m c 2 t) r) j
      = rowDg (row (normGrad (m ((c.tc : Thread nD τ).loc main_arg3)) (m ((c.tc : Thread nD τ).loc main_arg2))) (at_ t r)) (row (m ((c.tc : Thread nD τ).loc main_arg0)) (at_ t r)) j :=
  congrArg₂ (fun d k => rowDg d k j) (funext fun k => scratch_last m c t h r k) (funext fun k => h_read m c t r k)

theorem flush5 : ∀ t : Fin cfg0.N, (cfg0.win 5).flush t = true → t.val % 4 = 3 :=
  (by decide +kernel : ∀ t : Fin grid0.N, _)

theorem flush6 : ∀ t : Fin cfg0.N, (cfg0.win 6).flush t = true → t.val % 4 = 3 :=
  (by decide +kernel : ∀ t : Fin grid0.N, _)

theorem emb5 (t : Fin cfg0.N) (r : Fin 512) (j : Fin 2048) : (win0_5.blk t).view.emb (ix2 r j) = (ix2 (at_ t r) j : S2048x2048.Idx) := by
  obtain ⟨e0, e1, e2, e3, e4, e5, e6, e7⟩ := idx t
  funext a
  apply Fin.ext
  show win0_5.index t a * S512x2048.size a + 1 * ((ix2 r j : S512x2048.Idx) a).val = _
  rw [e5]
  fin_cases a
  · show t.val / 4 * 512 + 1 * r.val = t.val / 4 * 512 + r.val
    omega
  · show 0 * 2048 + 1 * j.val = j.val
    omega

theorem emb6 (t : Fin cfg0.N) (r : Fin 512) (j : Fin 2048) : (win0_6.blk t).view.emb (ix2 r j) = (ix2 (at_ t r) j : S2048x2048.Idx) := by
  obtain ⟨e0, e1, e2, e3, e4, e5, e6, e7⟩ := idx t
  funext a
  apply Fin.ext
  show win0_6.index t a * S512x2048.size a + 1 * ((ix2 r j : S512x2048.Idx) a).val = _
  rw [e6]
  fin_cases a
  · show t.val / 4 * 512 + 1 * r.val = t.val / 4 * 512 + r.val
    omega
  · show 0 * 2048 + 1 * j.val = j.val
    omega

theorem final_dh : (dats m 0 c).arrAt 5 cfg0.N
    = rowsDh (m ((c.tc : Thread nD τ).loc main_arg1)) (normGrad (m ((c.tc : Thread nD τ).loc main_arg3)) (m ((c.tc : Thread nD τ).loc main_arg2))) (m ((c.tc : Thread nD τ).loc main_arg0))
          (m ((c.tc : Thread nD τ).loc main_arg4)) := by
  refine (dats m 0 c).arrAt_eq_of_covers 5 _ (by decide +kernel) fun t hf y => ?_
  have ht := flush5 t hf
  blk_simp
  rw [after0_5, (last_C m c t ht _ rfl _ rfl).1]
  obtain ⟨r, j, rfl⟩ : ∃ (r : Fin 512) (j : Fin 2048), y = ix2 r j := ⟨y 0, y 1, eq_ix2 _⟩
  exact (block_last m c t ht r j).trans (congrArg _ (emb5 t r j).symm)

theorem final_dh' : (dats m 0 c).arrAt 6 cfg0.N
    = rowsDh (m ((c.tc : Thread nD τ).loc main_arg1)) (normGrad (m ((c.tc : Thread nD τ).loc main_arg3)) (m ((c.tc : Thread nD τ).loc main_arg2))) (m ((c.tc : Thread nD τ).loc main_arg0))
          (m ((c.tc : Thread nD τ).loc main_arg4)) := by
  refine (dats m 0 c).arrAt_eq_of_covers 6 _ (by decide +kernel) fun t hf y => ?_
  have ht := flush6 t hf
  blk_simp
  rw [after0_6, (last_C m c t ht _ rfl _ rfl).2.1]
  obtain ⟨r, j, rfl⟩ : ∃ (r : Fin 512) (j : Fin 2048), y = ix2 r j := ⟨y 0, y 1, eq_ix2 _⟩
  exact (block_last m c t ht r j).trans (congrArg _ (emb6 t r j).symm)

/-- The gain's gradient over one row block. -/
def blockSum (b : Fin 4) (j : Fin 2048) : EReal :=
  ∑ r : Fin 512, rowDg (row (normGrad (m ((c.tc : Thread nD τ).loc main_arg3)) (m ((c.tc : Thread nD τ).loc main_arg2))) ⟨b.val * 512 + r.val, by omega⟩)
    (row (m ((c.tc : Thread nD τ).loc main_arg0)) ⟨b.val * 512 + r.val, by omega⟩) j

/-- The gain's gradient through a row block: the three points before the last keep it. -/
theorem kept (t : Fin cfg0.N) (h : t.val % 4 = 3) : (outsAt0 m c (t.val - 1) (by have := t.isLt; omega)).2.2.1 = (outsAt0 m c (t.val - 3) (by have := t.isLt; omega)).2.2.1 := by
  have h1 := (next_B m c (back t 2) (by show (t.val - 2) % 4 ≠ 0; omega) (by show (t.val - 2) % 4 ≠ 3; omega) _ rfl).2
  have h2 := (next_B m c (back t 1) (by show (t.val - 1) % 4 ≠ 0; omega) (by show (t.val - 1) % 4 ≠ 3; omega) _ rfl).2
  exact h2.trans h1

theorem gain_last (t : Fin cfg0.N) (h : t.val % 4 = 3) (b : Fin 4) (hb : b.val = t.val / 4) (x : S1x2048.Idx) :
    (outsAt0 m c t.val t.isLt).2.2.1 x = (outsAt0 m c (t.val - 3) (by have := t.isLt; omega)).2.2.1 x + blockSum m c b (x 1) := by
  refine ((last_C m c t h _ rfl _ rfl).2.2 x).trans ?_
  rw [kept m c t h]
  refine congrArg (_ + ·) (Finset.sum_congr (M := EReal) rfl fun r _ => (sum_last m c t h r (x 1)).trans ?_)
  have e : at_ t r = ⟨b.val * 512 + r.val, by omega⟩ := Fin.ext (by show t.val / 4 * 512 + r.val = b.val * 512 + r.val; rw [hb])
  rw [e]

theorem gain_all (t : Fin cfg0.N) (ht : t.val = 15) (x : S1x2048.Idx) : (outsAt0 m c t.val t.isLt).2.2.1 x
    = rowsDg (normGrad (m ((c.tc : Thread nD τ).loc main_arg3)) (m ((c.tc : Thread nD τ).loc main_arg2))) (m ((c.tc : Thread nD τ).loc main_arg0)) x := by
  have a3 := gain_last m c t (by omega) 3 (by show 3 = t.val / 4; omega) x
  have b3 := congrFun (first_D m c (back t 3) (by show (t.val - 3) % 4 = 0; omega) (by show (t.val - 3) % 16 ≠ 0; omega)).2 x
  have a2 := gain_last m c (back t 4) (by show (t.val - 4) % 4 = 3; omega) 2 (by show 2 = (t.val - 4) / 4; omega) x
  have b2 := congrFun (first_D m c (back t 7) (by show (t.val - 7) % 4 = 0; omega) (by show (t.val - 7) % 16 ≠ 0; omega)).2 x
  have a1 := gain_last m c (back t 8) (by show (t.val - 8) % 4 = 3; omega) 1 (by show 1 = (t.val - 8) / 4; omega) x
  have b1 := congrFun (first_D m c (back t 11) (by show (t.val - 11) % 4 = 0; omega) (by show (t.val - 11) % 16 ≠ 0; omega)).2 x
  have a0 := gain_last m c (back t 12) (by show (t.val - 12) % 4 = 3; omega) 0 (by show 0 = (t.val - 12) / 4; omega) x
  have b0 : _ = (0 : EReal) := (congrFun (first_A m c (back t 15) (by show (t.val - 15) % 16 = 0; omega)).2 x).trans (by pointwise [k0_pay3])
  refine (a3.trans (congrArg (· + blockSum m c 3 (x 1)) (b3.trans (a2.trans (congrArg (· + blockSum m c 2 (x 1)) (b2.trans (a1.trans (congrArg (· + blockSum m c 1 (x 1))
    (b1.trans (a0.trans (congrArg (· + blockSum m c 0 (x 1)) b0)))))))))) ).trans ?_
  rw [zero_add, ← Fin.sum_univ_four (fun b => blockSum m c b (x 1))]
  exact Fin.sum_mul_add_congr (S := 4) (n := 512) (fun b r hl => rfl)

theorem flush7 : ∀ t : Fin cfg0.N, (cfg0.win 7).flush t = true → t.val = 15 :=
  (by decide +kernel : ∀ t : Fin grid0.N, _)

theorem final_dg : (dats m 0 c).arrAt 7 cfg0.N
    = rowsDg (normGrad (m ((c.tc : Thread nD τ).loc main_arg3)) (m ((c.tc : Thread nD τ).loc main_arg2))) (m ((c.tc : Thread nD τ).loc main_arg0)) := by
  refine (dats m 0 c).arrAt_eq_of_covers 7 _ (by decide +kernel) fun t hf y => ?_
  have ht := flush7 t hf
  obtain ⟨e0, e1, e2, e3, e4, e5, e6, e7⟩ := idx t
  blk_simp
  rw [after0_7]
  refine (gain_all m c t ht y).trans (congrArg _ ?_)
  funext a
  apply Fin.ext
  show (y a).val = win0_7.index t a * S1x2048.size a + 1 * (y a).val
  rw [e7]
  fin_cases a
  · show (y 0).val = 0 * 1 + 1 * (y 0).val
    omega
  · show (y 1).val = 0 * 2048 + 1 * (y 1).val
    omega

end Cert.Ffn.Norm
-- ==== Proof.NormClaim.lean ====
module

public import proofs.«01_k».proof.Proof.NormValue
public import proofs.«01_k».proof.Proof.FfnRef
public import proofs.«01_k».proof.Proof.FfnClaim
public import proofs.«01_k».proof.Proof.Gen.NormRefIdeal.Read
public import proofs.«01_k».proof.Proof.Gen.NormRefIdeal.Run
public import proofs.«01_k».proof.Proof.Gen.Pre_norm_finite
public import proofs.«01_k».proof.Defs

@[expose] public section

noncomputable section

namespace Cert.Ffn.Norm

open Cert.NormRefIdeal Cert.NormRefIdeal.Gen Cert.NormRefIdeal.Read Idealize.ShloMosaic Idealize.ShloMosaic.TcCoe Idealize.SL.Sem

variable (x0 : S2048x2048.Idx → EReal) (x1 : S1x2048.Idx → EReal) (x2 : S2048x11264.Idx → EReal) (x3 : S2x2048x5632.Idx → EReal) (x4 : S2048x2048.Idx → EReal)

theorem ref_grad (r j : Fin 2048) : val_main_v21 (F := Ideal) x2 x3 (ix2 r j) = normGrad x3 x2 (ix2 r j) := by
  rw [val_main_v21_apply]
  refine Finset.sum_congr rfl fun k _ => ?_
  rw [val_main_v2_apply, val_main_v1_apply, val_main_v0_apply]
  refine congrArg₂ (fun a b : EReal => a * b) (congrArg x3 ?_) (congrArg x2 (eq_ix2 _))
  funext a
  apply Fin.ext
  have hk : k.val < 11264 := k.isLt
  have hr : r.val < 2048 := r.isLt
  fin_cases a
  · show (r.val * 11264 + k.val) / 5632 % 2 = k.val / 5632
    omega
  · show (r.val * 11264 + k.val) / 11264 = r.val
    omega
  · show (r.val * 11264 + k.val) % 5632 = k.val % 5632
    omega

/-- What the root is taken of. -/
def square (h : Fin 2048 → EReal) : EReal := Ideal.div (∑ k, h k * h k) (Ideal.ofBits .f32 0x45000000#32) + Ideal.ofBits .f32 0x358637BD#32

/-- The reference's gradient of a row. -/
def refDh (g d h o : Fin 2048 → EReal) (j : Fin 2048) : EReal :=
  let v := Ideal.div ((∑ k, h k * (d k * g k)) * (Ideal.ofBits .f32 0xBF000000#32 * Ideal.div (scale h) (square h))) (Ideal.ofBits .f32 0x45000000#32)
  o j + d j * g j * scale h + h j * v + v * h j

theorem ref_dh (r j : Fin 2048) : val_main_v42 (F := Ideal) x0 x1 x2 x3 x4 (ix2 r j) = refDh (row x1 0) (row (val_main_v21 (F := Ideal) x2 x3) r) (row x0 r) (row x4 r) j := by
  generalize hd : val_main_v21 (F := Ideal) x2 x3 = d
  pointwise [val_main_v42, val_main_v41, val_main_v40, val_main_v39, val_main_v38, val_main_v37, val_main_v36, val_main_v35, val_main_v34, val_main_v33, val_main_v32, val_main_v31,
    val_main_v30, val_main_v29, val_main_v28, val_main_v26, val_main_v25, val_main_v17, val_main_v14, val_main_v13, val_main_v12, val_main_v11, val_main_v10, val_main_v9,
    val_main_v8, val_main_v7, val_main_v6, val_main_v5, val_main_v4, val_main_v3, val_main_cst, val_main_cst_0, val_main_cst_1, val_main_cst_2, val_main_cst_5, val_main_cst_6, val_main_cst_7,
    hd, refDh, scale, square]
  rw [Fin.sum_univ_one]

theorem ref_dg (j : Fin 2048) : val_main_v43 (F := Ideal) x0 x2 x3 (ix2 0 j) = ∑ r : Fin 2048, x0 (ix2 r j) * scale (row x0 r) * val_main_v21 (F := Ideal) x2 x3 (ix2 r j) := by
  generalize hd : val_main_v21 (F := Ideal) x2 x3 = d
  pointwise [val_main_v43, val_main_v27, val_main_v24, val_main_v23, val_main_v22, val_main_v16, val_main_v15, val_main_v11, val_main_v10, val_main_v9,
    val_main_v8, val_main_v7, val_main_v6, val_main_v5, val_main_v4, val_main_cst, val_main_cst_0, val_main_cst_1, val_main_cst_3, val_main_cst_4, hd, scale]
  rw [Fin.sum_univ_one]

/-- Minus a half. -/
theorem neg_half_eq : Ideal.ofBits .f32 0xBF000000#32 = ((-(1 / 2) : ℝ) : EReal) := by
  simp [Ideal.ofBits, Ideal.ieee]
  rw [← EReal.coe_mul]
  norm_num

/-- The two gradients of a row of real numbers are one. -/
theorem dh_eq (g d h o : Fin 2048 → EReal) (hg : ∀ k, Num (g k)) (hd : ∀ k, Num (d k)) (hh : ∀ k, Num (h k)) (j : Fin 2048) :
    rowDh g d h o j = refDh g d h o j := by
  choose G hG using hg
  choose D hD using hd
  choose H hH using hh
  obtain ⟨e, he, e'⟩ := eps_pos
  have hs : 0 ≤ ∑ k : Fin 2048, H k * H k := Finset.sum_nonneg fun k _ => mul_self_nonneg (H k)
  have hq : square h = (((∑ k : Fin 2048, H k * H k) / 2048 + e : ℝ) : EReal) := by
    rw [square, show ∑ k : Fin 2048, h k * h k = ((∑ k : Fin 2048, H k * H k : ℝ) : EReal) from by
      rw [← coe_sum]; exact Finset.sum_congr rfl fun k _ => by rw [hH k, EReal.coe_mul], width_eq, div_coe _ _ (by norm_num), e', ← EReal.coe_add]
  obtain ⟨x, hx, hx'⟩ : ∃ x : ℝ, 0 < x ∧ square h = (x : EReal) := ⟨_, by positivity, hq⟩
  have hr : scale h = (((Real.sqrt x)⁻¹ : ℝ) : EReal) := by
    show Ideal.rsqrt (square h) = _
    rw [hx', rsqrt_coe _ hx]
  have hx2 : Real.sqrt x * Real.sqrt x = x := Real.mul_self_sqrt hx.le
  have hs0 : 0 < Real.sqrt x := Real.sqrt_pos.mpr hx
  have s1 : ∑ k, d k * g k * (h k * scale h) = ((∑ k, D k * G k * (H k * (Real.sqrt x)⁻¹) : ℝ) : EReal) := by
    rw [← coe_sum]
    exact Finset.sum_congr rfl fun k _ => by rw [hH k, hD k, hG k, hr, EReal.coe_mul, EReal.coe_mul, EReal.coe_mul]
  have s2 : ∑ k, h k * (d k * g k) = ((∑ k, H k * (D k * G k) : ℝ) : EReal) := by
    rw [← coe_sum]
    exact Finset.sum_congr rfl fun k _ => by rw [hH k, hD k, hG k, EReal.coe_mul, EReal.coe_mul]
  have s3 : ∑ k, D k * G k * (H k * (Real.sqrt x)⁻¹) = (∑ k, H k * (D k * G k)) * (Real.sqrt x)⁻¹ := by
    rw [Finset.sum_mul]
    exact Finset.sum_congr rfl fun k _ => by ring
  rw [rowDh, refDh, s1, s2, s3, hx', hr, hD j, hG j, hH j, width_eq, neg_half_eq, div_coe _ _ (by norm_num), div_coe _ _ hx.ne']
  generalize ∑ k, H k * (D k * G k) = S
  simp only [← EReal.coe_mul, ← EReal.coe_sub]
  rw [div_coe _ _ (by norm_num)]
  simp only [← EReal.coe_mul]
  rw [add_assoc, add_assoc, ← EReal.coe_add, ← EReal.coe_add]
  refine congrArg (fun z : ℝ => o j + (z : EReal)) ?_
  generalize Real.sqrt x = s at *
  subst hx2
  field_simp
  ring

theorem num_grad (h2 : ∀ i, Num (x2 i)) (h3 : ∀ i, Num (x3 i)) (i : S2048x2048.Idx) : Num (normGrad x3 x2 i) :=
  num_sum _ _ fun k => num_mul (h3 _) (h2 _)

/-- The rows' gradient, on real numbers. -/
theorem rows_eq (h0 : ∀ i, Num (x0 i)) (h1 : ∀ i, Num (x1 i)) (h2 : ∀ i, Num (x2 i)) (h3 : ∀ i, Num (x3 i)) :
    val_main_v42 (F := Ideal) x0 x1 x2 x3 x4 = rowsDh x1 (normGrad x3 x2) x0 x4 := by
  funext i
  obtain ⟨r, j, rfl⟩ : ∃ (r j : Fin 2048), i = ix2 r j := ⟨i 0, i 1, eq_ix2 _⟩
  rw [ref_dh, show row (val_main_v21 (F := Ideal) x2 x3) r = row (normGrad x3 x2) r from funext fun k => ref_grad x2 x3 r k]
  exact (dh_eq _ _ _ _ (fun k => h1 _) (fun k => num_grad x2 x3 h2 h3 _) (fun k => h0 _) j).symm

theorem cast_eq (h0 : ∀ i, Num (x0 i)) (h1 : ∀ i, Num (x1 i)) (h2 : ∀ i, Num (x2 i)) (h3 : ∀ i, Num (x3 i)) :
    val_main_v44 (F := Ideal) x0 x1 x2 x3 x4 = rowsDh x1 (normGrad x3 x2) x0 x4 :=
  rows_eq x0 x1 x2 x3 x4 h0 h1 h2 h3

/-- The gain's gradient, the same on all extended reals. -/
theorem gain_eq : val_main_v43 (F := Ideal) x0 x2 x3 = rowsDg (normGrad x3 x2) x0 := by
  funext i
  obtain ⟨j, rfl⟩ : ∃ j : Fin 2048, i = ix2 0 j := ⟨i 1, (eq_ix2 _).trans (congrArg (fun a => ix2 a (i 1)) (Fin.ext (by have : (i 0).val < 1 := (i 0).isLt; show (i 0).val = 0; omega)))⟩
  rw [ref_dg]
  exact Finset.sum_congr rfl fun r _ => by rw [ref_grad, mul_comm]; rfl

theorem algebraic_norm : Cert.algebraic_NormIdeal_NormRefIdeal_pre_norm_finite := by
  intro m g m' g' hp hm
  refine ⟨fun c => rowsDh (m ((c.tc : Thread Cert.NormIdeal.nD Cert.NormIdeal.τ).loc Cert.NormIdeal.main_arg1)) (normGrad (m ((c.tc : Thread Cert.NormIdeal.nD Cert.NormIdeal.τ).loc Cert.NormIdeal.main_arg3))
      (m ((c.tc : Thread Cert.NormIdeal.nD Cert.NormIdeal.τ).loc Cert.NormIdeal.main_arg2))) (m ((c.tc : Thread Cert.NormIdeal.nD Cert.NormIdeal.τ).loc Cert.NormIdeal.main_arg0))
      (m ((c.tc : Thread Cert.NormIdeal.nD Cert.NormIdeal.τ).loc Cert.NormIdeal.main_arg4)),
    fun c => rowsDh (m ((c.tc : Thread Cert.NormIdeal.nD Cert.NormIdeal.τ).loc Cert.NormIdeal.main_arg1)) (normGrad (m ((c.tc : Thread Cert.NormIdeal.nD Cert.NormIdeal.τ).loc Cert.NormIdeal.main_arg3))
      (m ((c.tc : Thread Cert.NormIdeal.nD Cert.NormIdeal.τ).loc Cert.NormIdeal.main_arg2))) (m ((c.tc : Thread Cert.NormIdeal.nD Cert.NormIdeal.τ).loc Cert.NormIdeal.main_arg0))
      (m ((c.tc : Thread Cert.NormIdeal.nD Cert.NormIdeal.τ).loc Cert.NormIdeal.main_arg4)),
    fun c => rowsDg (normGrad (m ((c.tc : Thread Cert.NormIdeal.nD Cert.NormIdeal.τ).loc Cert.NormIdeal.main_arg3)) (m ((c.tc : Thread Cert.NormIdeal.nD Cert.NormIdeal.τ).loc Cert.NormIdeal.main_arg2)))
      (m ((c.tc : Thread Cert.NormIdeal.nD Cert.NormIdeal.τ).loc Cert.NormIdeal.main_arg0)),
    (θ_run _ _ _).mono (fun r h c => ?_) (Cert.NormIdeal.Value.run_blocks m g), (θ_run _ _ _).mono (fun r h c => ?_) (Cert.NormRefIdeal.Value.run m' g')⟩
  · obtain ⟨a, b, d, e⟩ := h c
    exact ⟨a.trans (final_dh m c), b.trans (final_dh' m c), d.trans (final_dg m c), e⟩
  · obtain ⟨p0, p1, p2, p3⟩ := hp c
    obtain ⟨a, b, d, e⟩ := h c
    obtain ⟨e0, e1, e2, e3, e4⟩ := hm c
    refine ⟨a.trans ?_, b.trans ?_, d.trans ?_, e⟩
    · rw [val_main_v42_eq, e0, e1, e2, e3, e4]
      exact rows_eq _ _ _ _ _ (num_of_pre (fun _ => rfl) p0) (num_of_pre (fun _ => rfl) p1) (num_of_pre (fun _ => rfl) p2) (num_of_pre (fun _ => rfl) p3)
    · rw [val_main_v44_eq, e0, e1, e2, e3, e4]
      exact cast_eq _ _ _ _ _ (num_of_pre (fun _ => rfl) p0) (num_of_pre (fun _ => rfl) p1) (num_of_pre (fun _ => rfl) p2) (num_of_pre (fun _ => rfl) p3)
    · rw [val_main_v43_eq, e0, e2, e3]
      exact gain_eq _ _ _

end Cert.Ffn.Norm
-- ==== Proof.SmallClaim.lean ====
module

public import proofs.«01_k».proof.Proof.Gen.SmallIdeal.Value
public import proofs.«01_k».proof.Proof.Gen.SmallRefIdeal.Run
public import proofs.«01_k».proof.Proof.Gen.SmallRefIdeal.Read
public import proofs.«01_k».proof.Proof.Numbers
public import proofs.«01_k».proof.Defs
public import Idealize.ShloMosaic.Lib.Pipeline.ValueKit
public import Idealize.ShloMosaic.Lib.Pipeline.ReadBack
public import Idealize.ShloMosaic.Lib.Pointwise

@[expose] public section

noncomputable section

namespace Cert.Ffn.Small

open Cert.SmallIdeal Cert.SmallIdeal.Gen Idealize.ShloMosaic Idealize.ShloMosaic.TcCoe Idealize.SL.Sem
open Idealize.ShloMosaic.Pipeline (Dat)

/-- Row `r` of the devices' padded stacks, column `l`, on device `d`: from the piece the row lies in, zero past the last. -/
def pick {α : Type} (z : α) (p0 p1 p2 p3 : Fin 16 → α) (p4 : Fin 8 → α) (p5 : Fin 4 → α) (p6 : Fin 2 → α) (p7 : Fin 64 → α) (p8 : Fin 1 → α) (r : Nat) : α :=
  if h : r < 16 then p0 ⟨r, h⟩
  else if h : r - 16 < 16 then p1 ⟨r - 16, h⟩
  else if h : r - 32 < 16 then p2 ⟨r - 32, h⟩
  else if h : r - 48 < 16 then p3 ⟨r - 48, h⟩
  else if h : r - 64 < 8 then p4 ⟨r - 64, h⟩
  else if h : r - 72 < 4 then p5 ⟨r - 72, h⟩
  else if h : r - 76 < 2 then p6 ⟨r - 76, h⟩
  else if h : r - 78 < 64 then p7 ⟨r - 78, h⟩
  else if h : r - 142 < 1 then p8 ⟨r - 142, h⟩
  else z

theorem kernel_stack (a0 a1 a2 a3 : S8x16x128.Idx → EReal) (a4 : S8x8x128.Idx → EReal) (a5 : S8x4x128.Idx → EReal) (a6 : S8x2x128.Idx → EReal)
    (a7 : S8x64x128.Idx → EReal) (a8 : S8x1x128.Idx → EReal) (z : S_.Idx → EReal) (hc) (hp : S8x143x128.Pads ![0, 0, 0] ![0, 1, 0] ![0, 0, 0] S8x144x128) (hz : 0 < S_.numel)
    (y : S8x144x128.Idx) :
    pad S8x144x128 ![0, 0, 0] ![0, 1, 0] ![0, 0, 0] (concatenate S8x143x128 1 [⟨S8x16x128, a0⟩, ⟨S8x16x128, a1⟩, ⟨S8x16x128, a2⟩, ⟨S8x16x128, a3⟩, ⟨S8x8x128, a4⟩, ⟨S8x4x128, a5⟩, ⟨S8x2x128, a6⟩, ⟨S8x64x128, a7⟩, ⟨S8x1x128, a8⟩]
      hc) z hp hz y
    = pick (z (Shape.Idx.first hz)) (fun r => a0 (ix3 (y 0) r (y 2))) (fun r => a1 (ix3 (y 0) r (y 2))) (fun r => a2 (ix3 (y 0) r (y 2))) (fun r => a3 (ix3 (y 0) r (y 2)))
        (fun r => a4 (ix3 (y 0) r (y 2))) (fun r => a5 (ix3 (y 0) r (y 2))) (fun r => a6 (ix3 (y 0) r (y 2))) (fun r => a7 (ix3 (y 0) r (y 2))) (fun r => a8 (ix3 (y 0) r (y 2))) (y 1).val := by
  pointwise [pick]
  by_cases h : (y 1).val < 143
  · simp only [dif_pos h, Nat.sub_sub, Nat.reduceAdd]
    have h' : (y 1).val - 142 < 1 := by omega
    simp only [dif_pos h']
  · have n0 : ¬ (y 1).val < 16 := by omega
    have n1 : ¬ (y 1).val - 16 < 16 := by omega
    have n2 : ¬ (y 1).val - 32 < 16 := by omega
    have n3 : ¬ (y 1).val - 48 < 16 := by omega
    have n4 : ¬ (y 1).val - 64 < 8 := by omega
    have n5 : ¬ (y 1).val - 72 < 4 := by omega
    have n6 : ¬ (y 1).val - 76 < 2 := by omega
    have n7 : ¬ (y 1).val - 78 < 64 := by omega
    have n8 : ¬ (y 1).val - 142 < 1 := by omega
    simp only [dif_neg h, dif_neg n0, dif_neg n1, dif_neg n2, dif_neg n3, dif_neg n4, dif_neg n5, dif_neg n6, dif_neg n7, dif_neg n8]

/-- Picking a row commutes with the sum over the devices. -/
theorem sum_pick (p0 p1 p2 p3 : Fin 8 → Fin 16 → EReal) (p4 : Fin 8 → Fin 8 → EReal) (p5 : Fin 8 → Fin 4 → EReal) (p6 : Fin 8 → Fin 2 → EReal)
    (p7 : Fin 8 → Fin 64 → EReal) (p8 : Fin 8 → Fin 1 → EReal) (r : Nat) :
    ∑ d : Fin 8, pick 0 (p0 d) (p1 d) (p2 d) (p3 d) (p4 d) (p5 d) (p6 d) (p7 d) (p8 d) r
      = pick 0 (fun r => ∑ d, p0 d r) (fun r => ∑ d, p1 d r) (fun r => ∑ d, p2 d r) (fun r => ∑ d, p3 d r) (fun r => ∑ d, p4 d r) (fun r => ∑ d, p5 d r)
          (fun r => ∑ d, p6 d r) (fun r => ∑ d, p7 d r) (fun r => ∑ d, p8 d r) r := by
  unfold pick
  by_cases h0 : r < 16
  · simp only [dif_pos h0]
  simp only [dif_neg h0]
  by_cases h1 : r - 16 < 16
  · simp only [dif_pos h1]
  simp only [dif_neg h1]
  by_cases h2 : r - 32 < 16
  · simp only [dif_pos h2]
  simp only [dif_neg h2]
  by_cases h3 : r - 48 < 16
  · simp only [dif_pos h3]
  simp only [dif_neg h3]
  by_cases h4 : r - 64 < 8
  · simp only [dif_pos h4]
  simp only [dif_neg h4]
  by_cases h5 : r - 72 < 4
  · simp only [dif_pos h5]
  simp only [dif_neg h5]
  by_cases h6 : r - 76 < 2
  · simp only [dif_pos h6]
  simp only [dif_neg h6]
  by_cases h7 : r - 78 < 64
  · simp only [dif_pos h7]
  simp only [dif_neg h7]
  by_cases h8 : r - 142 < 1
  · simp only [dif_pos h8]
  simp only [dif_neg h8]
  exact Finset.sum_const_zero

set_option maxHeartbeats 2000000 in
/-- The devices' padded stacks as the host lays them out. -/
def stack (x0 x1 x2 x3 : S8x1x2048.Idx → EReal) (x4 : S8x1x1024.Idx → EReal) (x5 : S8x1x512.Idx → EReal) (x6 : S8x1x256.Idx → EReal)
    (x7 : S8x16x512.Idx → EReal) (x8 : S8x1x128.Idx → EReal) : S8x144x128.Idx → EReal :=
  pad S8x144x128 ![0, 0, 0] ![0, 1, 0] ![0, 0, 0] (concatenate S8x143x128 1 [⟨S8x16x128, shapeCast S8x16x128 x0 shapeCasts_S8x1x2048_S8x16x128⟩,
      ⟨S8x16x128, shapeCast S8x16x128 x1 shapeCasts_S8x1x2048_S8x16x128⟩, ⟨S8x16x128, shapeCast S8x16x128 x2 shapeCasts_S8x1x2048_S8x16x128⟩, ⟨S8x16x128, shapeCast S8x16x128 x3 shapeCasts_S8x1x2048_S8x16x128⟩,
      ⟨S8x8x128, shapeCast S8x8x128 x4 shapeCasts_S8x1x1024_S8x8x128⟩, ⟨S8x4x128, shapeCast S8x4x128 x5 shapeCasts_S8x1x512_S8x4x128⟩, ⟨S8x2x128, shapeCast S8x2x128 x6 shapeCasts_S8x1x256_S8x2x128⟩,
      ⟨S8x64x128, shapeCast S8x64x128 x7 shapeCasts_S8x16x512_S8x64x128⟩, ⟨S8x1x128, x8⟩]
    concatenates_S8x16x128_S8x16x128_S8x16x128_S8x16x128_S8x8x128_S8x4x128_S8x2x128_S8x64x128_S8x1x128_S8x143x128_d1) (sitofp (F := Ideal) .f32 (constantI S_ 32 0#32))
    pads_S8x143x128_S8x144x128_000_010_000 h_S_

/-- The sum over the devices. -/
def total (x : S8x144x128.Idx → EReal) : S144x128.Idx → EReal := fun y => ∑ d : Fin 8, x (ix3 d (y 0) (y 1))

/-- The padding's value: the integer zero converted. -/
theorem no_int : (FloatOps.sitofp .f32 0#32 : Ideal .f32) = (0 : EReal) := by
  show (((0#32).toInt : ℝ) : EReal) = 0
  simp

section Kernel

variable (m : (ℓ : Loc nD τ sig) → Buf (Elt Ideal) ℓ) (c : Dev nD)

theorem idx : ∀ t : Fin cfg0.N, win0_0.index t = ![0, 0, 0] ∧ win0_1.index t = ![0, 0] :=
  (by decide +kernel : ∀ t : Fin grid0.N, _)

set_option maxHeartbeats 2000000 in
theorem entry : V m c main_v9 = stack (m ((c.tc : Thread nD τ).loc main_arg0)) (m ((c.tc : Thread nD τ).loc main_arg1)) (m ((c.tc : Thread nD τ).loc main_arg2)) (m ((c.tc : Thread nD τ).loc main_arg3))
      (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  show StableHlo.after [hostOps0, hostOps0_1].flatten _ _ = _
  simp only [hostOps0, hostOps0_1, List.flatten_cons, List.flatten_nil, List.cons_append, List.nil_append, List.append_nil, StableHlo.TRef.binary, StableHlo.TRef.unary, StableHlo.TRef.toBuf, StableHlo.TRef.ofBuf, cast_eq]
  after_results <;> rfl

theorem emb0 (t : Fin cfg0.N) (d : Fin 8) (r : Fin 144) (l : Fin 128) : (win0_0.blk t).view.emb (ix3 d r l) = (ix3 d r l : S8x144x128.Idx) := by
  obtain ⟨e0, e1⟩ := idx t
  refine funext fun a => Fin.ext ((ValueKit.rect_emb_unit_val _ _ _ _ a).trans ?_)
  have h : win0_0.index t a = 0 := by rw [e0]; fin_cases a <;> rfl
  show win0_0.index t a * _ + _ = _
  rw [h, Nat.zero_mul, Nat.zero_add]

theorem emb1 (t : Fin cfg0.N) (y : S144x128.Idx) : (win0_1.blk t).view.emb y = (y : S144x128.Idx) := by
  obtain ⟨e0, e1⟩ := idx t
  refine funext fun a => Fin.ext ((ValueKit.rect_emb_unit_val _ _ _ _ a).trans ?_)
  have h : win0_1.index t a = 0 := by rw [e1]; fin_cases a <;> rfl
  show win0_1.index t a * _ + _ = _
  rw [h, Nat.zero_mul, Nat.zero_add]

set_option maxHeartbeats 1000000 in
theorem final : (dats m 0 c).arrAt 1 cfg0.N = total (V m c main_v9) := by
  refine (dats m 0 c).arrAt_eq_of_covers _ _ (by decide +kernel) fun t hf y => ?_
  blk_simp
  rw [after0_1]
  frame_out
  blk_point [iblk]
  have h0 : ∀ d : Fin 8, ((View.whole main_v9).slice (win0_0.rect t)).emb (ix3 d (y 0) (y 1)) = ix3 d (y 0) (y 1) := fun d => emb0 t d _ _
  refine Eq.trans ?_ (Fin.sum_univ_eight (M := EReal) _).symm
  rw [emb1 t y]
  simp only [h0]
  rfl

end Kernel

section Reference

open Cert.SmallRefIdeal.Read

theorem piece_row (x : S8x1x2048.Idx → EReal) (r : Fin 16) (l : Fin 128) :
    val_main_v1 (F := Ideal) x (ix2 r l) = ∑ d : Fin 8, shapeCast S8x16x128 x shapeCasts_S8x1x2048_S8x16x128 (ix3 d r l) := by
  rw [val_main_v1_apply, val_main_v0_apply]
  pointwise [val_main_cst]
  refine Finset.sum_congr rfl fun d _ => congrArg x (funext fun a => Fin.ext ?_)
  match a with
  | ⟨0, _⟩ => rfl
  | ⟨1, _⟩ => rfl
  | ⟨2, _⟩ => show (r.val * 128 + l.val) % 2048 = r.val * 128 + l.val; omega

theorem piece_scale (x : S8x1x1024.Idx → EReal) (r : Fin 8) (l : Fin 128) :
    val_main_v9 (F := Ideal) x (ix2 r l) = ∑ d : Fin 8, shapeCast S8x8x128 x shapeCasts_S8x1x1024_S8x8x128 (ix3 d r l) := by
  rw [val_main_v9_apply, val_main_v8_apply]
  pointwise [val_main_cst_3]
  refine Finset.sum_congr rfl fun d _ => congrArg x (funext fun a => Fin.ext ?_)
  match a with
  | ⟨0, _⟩ => rfl
  | ⟨1, _⟩ => rfl
  | ⟨2, _⟩ => show (r.val * 128 + l.val) % 1024 = r.val * 128 + l.val; omega

theorem piece_bias (x : S8x1x512.Idx → EReal) (r : Fin 4) (l : Fin 128) :
    val_main_v11 (F := Ideal) x (ix2 r l) = ∑ d : Fin 8, shapeCast S8x4x128 x shapeCasts_S8x1x512_S8x4x128 (ix3 d r l) := by
  rw [val_main_v11_apply, val_main_v10_apply]
  pointwise [val_main_cst_4]
  refine Finset.sum_congr rfl fun d _ => congrArg x (funext fun a => Fin.ext ?_)
  match a with
  | ⟨0, _⟩ => rfl
  | ⟨1, _⟩ => rfl
  | ⟨2, _⟩ => show (r.val * 128 + l.val) % 512 = r.val * 128 + l.val; omega

theorem piece_head (x : S8x1x256.Idx → EReal) (r : Fin 2) (l : Fin 128) :
    val_main_v13 (F := Ideal) x (ix2 r l) = ∑ d : Fin 8, shapeCast S8x2x128 x shapeCasts_S8x1x256_S8x2x128 (ix3 d r l) := by
  rw [val_main_v13_apply, val_main_v12_apply]
  pointwise [val_main_cst_5]
  refine Finset.sum_congr rfl fun d _ => congrArg x (funext fun a => Fin.ext ?_)
  match a with
  | ⟨0, _⟩ => rfl
  | ⟨1, _⟩ => rfl
  | ⟨2, _⟩ => show (r.val * 128 + l.val) % 256 = r.val * 128 + l.val; omega

theorem piece_loss (x : S8x1x128.Idx → EReal) (r : Fin 1) (l : Fin 128) :
    val_main_v16 (F := Ideal) x (ix2 r l) = ∑ d : Fin 8, x (ix3 d r l) := by
  rw [val_main_v16_apply]
  pointwise [val_main_cst_7]
  refine Finset.sum_congr rfl fun d _ => congrArg x (funext fun a => Fin.ext ?_)
  match a with
  | ⟨0, _⟩ => rfl
  | ⟨1, _⟩ => rfl
  | ⟨2, _⟩ => rfl

theorem piece_alpha (x : S8x16x512.Idx → EReal) (r : Fin 64) (l : Fin 128) :
    val_main_v15 (F := Ideal) x (ix2 r l) = ∑ d : Fin 8, shapeCast S8x64x128 x shapeCasts_S8x16x512_S8x64x128 (ix3 d r l) := by
  rw [val_main_v15_apply, val_main_v14_apply]
  pointwise [val_main_cst_6]
  refine Finset.sum_congr rfl fun d _ => congrArg x (funext fun a => Fin.ext ?_)
  match a with
  | ⟨0, _⟩ => rfl
  | ⟨1, _⟩ => simp [idx_main_v14, idx_main_v15]; omega
  | ⟨2, _⟩ => simp [idx_main_v14, idx_main_v15]; omega

theorem ref_pick (x0 x1 x2 x3 : S8x1x2048.Idx → EReal) (x4 : S8x1x1024.Idx → EReal) (x5 : S8x1x512.Idx → EReal) (x6 : S8x1x256.Idx → EReal)
    (x7 : S8x16x512.Idx → EReal) (x8 : S8x1x128.Idx → EReal) (y : S144x128.Idx) : val_main_v18 (F := Ideal) x0 x1 x2 x3 x4 x5 x6 x7 x8 y
    = pick 0 (fun r => val_main_v1 (F := Ideal) x0 (ix2 r (y 1))) (fun r => val_main_v1 (F := Ideal) x1 (ix2 r (y 1))) (fun r => val_main_v1 (F := Ideal) x2 (ix2 r (y 1))) (fun r => val_main_v1 (F := Ideal) x3 (ix2 r (y 1)))
        (fun r => val_main_v9 (F := Ideal) x4 (ix2 r (y 1))) (fun r => val_main_v11 (F := Ideal) x5 (ix2 r (y 1))) (fun r => val_main_v13 (F := Ideal) x6 (ix2 r (y 1)))
        (fun r => val_main_v15 (F := Ideal) x7 (ix2 r (y 1))) (fun r => val_main_v16 (F := Ideal) x8 (ix2 r (y 1))) (y 0).val := by
  unfold val_main_v18 val_main_v17
  pointwise [pick, val_main_call0_v0, val_main_c]
  by_cases h : (y 0).val < 143
  · simp only [dif_pos h, Nat.sub_sub, Nat.reduceAdd]
    have h' : (y 0).val - 142 < 1 := by omega
    simp only [dif_pos h']
    rfl
  · have n0 : ¬ (y 0).val < 16 := by omega
    have n1 : ¬ (y 0).val - 16 < 16 := by omega
    have n2 : ¬ (y 0).val - 32 < 16 := by omega
    have n3 : ¬ (y 0).val - 48 < 16 := by omega
    have n4 : ¬ (y 0).val - 64 < 8 := by omega
    have n5 : ¬ (y 0).val - 72 < 4 := by omega
    have n6 : ¬ (y 0).val - 76 < 2 := by omega
    have n7 : ¬ (y 0).val - 78 < 64 := by omega
    have n8 : ¬ (y 0).val - 142 < 1 := by omega
    simp only [dif_neg h, dif_neg n0, dif_neg n1, dif_neg n2, dif_neg n3, dif_neg n4, dif_neg n5, dif_neg n6, dif_neg n7, dif_neg n8]
    exact no_int

theorem ref_total (x0 x1 x2 x3 : S8x1x2048.Idx → EReal) (x4 : S8x1x1024.Idx → EReal) (x5 : S8x1x512.Idx → EReal) (x6 : S8x1x256.Idx → EReal)
    (x7 : S8x16x512.Idx → EReal) (x8 : S8x1x128.Idx → EReal) : val_main_v18 (F := Ideal) x0 x1 x2 x3 x4 x5 x6 x7 x8 = total (stack x0 x1 x2 x3 x4 x5 x6 x7 x8) := by
  funext y
  rw [ref_pick]
  show _ = ∑ d : Fin 8, stack x0 x1 x2 x3 x4 x5 x6 x7 x8 (ix3 d (y 0) (y 1))
  unfold stack
  simp only [kernel_stack, funext fun r => piece_row x0 r (y 1), funext fun r => piece_row x1 r (y 1), funext fun r => piece_row x2 r (y 1), funext fun r => piece_row x3 r (y 1),
    funext fun r => piece_scale x4 r (y 1), funext fun r => piece_bias x5 r (y 1), funext fun r => piece_head x6 r (y 1), funext fun r => piece_alpha x7 r (y 1), funext fun r => piece_loss x8 r (y 1)]
  have z : sitofp (F := Ideal) .f32 (constantI S_ 32 0#32) (Shape.Idx.first h_S_) = (0 : EReal) := no_int
  rw [z]
  exact (sum_pick _ _ _ _ _ _ _ _ _ _).symm

end Reference

theorem algebraic_small : Cert.algebraic_SmallIdeal_SmallRefIdeal := by
  intro m g m' g' _ hm
  refine ⟨fun c => total (stack (m ((c.tc : Thread nD τ).loc main_arg0)) (m ((c.tc : Thread nD τ).loc main_arg1)) (m ((c.tc : Thread nD τ).loc main_arg2)) (m ((c.tc : Thread nD τ).loc main_arg3))
      (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))),
    (θ_run _ _ _).mono (fun r h c => ?_) (Cert.SmallIdeal.Value.run_blocks m g), (θ_run _ _ _).mono (fun r h c => ?_) (Cert.SmallRefIdeal.Value.run m' g')⟩
  · obtain ⟨a, e⟩ := h c
    exact ⟨a.trans ((final m c).trans (congrArg total (entry m c))), e⟩
  · obtain ⟨a, e⟩ := h c
    obtain ⟨e0, e1, e2, e3, e4, e5, e6, e7, e8⟩ := hm c
    refine ⟨a.trans ?_, e⟩
    rw [Cert.SmallRefIdeal.Read.val_main_v18_eq, e0, e1, e2, e3, e4, e5, e6, e7, e8]
    exact ref_total _ _ _ _ _ _ _ _ _

end Cert.Ffn.Small
-- ==== Proof.ChipSum.lean ====
module

public import proofs.«01_k».proof.Proof.TableWord
public import Idealize.ShloMosaic.Lib.Pipeline.ValueKit
public import Idealize.ShloMosaic.Lib.Pointwise

@[expose] public section

noncomputable section

namespace Cert.Ffn

open Idealize.ShloMosaic

/-- The word of a chip's number that passes the precondition's tests is one of the four. -/
theorem chip_of_tests {w : BitVec 32} (h : IntOp.andi (IntOp.cmpi .sge w 0#32) (IntOp.cmpi .slt w 4#32) = 1#1) : ∃ q : Fin 4, w = BitVec.ofNat 32 q.val := by
  have hs : ((0#32).sle w && w.slt 4#32) = true := by
    cases hx : ((0#32).sle w && w.slt 4#32)
    · simp [IntOp.andi, IntOp.cmpi, hx] at h
    · rfl
  obtain ⟨h0, h1⟩ := (Bool.and_eq_true _ _).mp hs
  rw [BitVec.sle_eq_decide, decide_eq_true_iff] at h0
  rw [BitVec.slt_eq_decide, decide_eq_true_iff] at h1
  have hb : (0#32).toInt = 0 := rfl
  have hc : (4#32).toInt = 4 := rfl
  rw [hb] at h0
  rw [hc] at h1
  rcases (by omega : w.toInt = 0 ∨ w.toInt = 1 ∨ w.toInt = 2 ∨ w.toInt = 3) with e | e | e | e
  · exact ⟨0, BitVec.eq_of_toInt_eq e⟩
  · exact ⟨1, BitVec.eq_of_toInt_eq e⟩
  · exact ⟨2, BitVec.eq_of_toInt_eq e⟩
  · exact ⟨3, BitVec.eq_of_toInt_eq e⟩

/-- The word of a core's number that passes the precondition's tests is one of the two. -/
theorem core_of_tests {w : BitVec 32} (h : IntOp.andi (IntOp.cmpi .sge w 0#32) (IntOp.cmpi .sle w 1#32) = 1#1) : ∃ p : Fin 2, w = BitVec.ofNat 32 p.val := by
  rcases word_of_tests h with e | e
  · exact ⟨0, e⟩
  · exact ⟨1, e⟩

/-- An array of one word is that word. -/
theorem word_everywhere (x : (⟨1, ![1]⟩ : Shape).Idx → BitVec 32) (w : BitVec 32) (h : x (ix1 0) = w) : x = fun _ => w :=
  funext fun i => (congrArg x ((eq_ix1 i).trans (congrArg ix1 (Subsingleton.elim (α := Fin 1) _ _)))).trans h

/-- The chip and the core whose numbers two such words are. -/
theorem place_of_tests (x₀ x₁ : (⟨1, ![1]⟩ : Shape).Idx → BitVec 32) (h : IntOp.andi (IntOp.cmpi .sge (x₀ (ix1 0)) 0#32) (IntOp.cmpi .slt (x₀ (ix1 0)) 4#32) = 1#1)
    (h' : IntOp.andi (IntOp.cmpi .sge (x₁ (ix1 0)) 0#32) (IntOp.cmpi .sle (x₁ (ix1 0)) 1#32) = 1#1) :
    ∃ (q : Fin 4) (p : Fin 2), (x₀ = fun _ => BitVec.ofNat 32 q.val) ∧ (x₁ = fun _ => BitVec.ofNat 32 p.val) := by
  obtain ⟨q, hq⟩ := chip_of_tests h
  obtain ⟨p, hp⟩ := core_of_tests h'
  exact ⟨q, p, word_everywhere _ _ hq, word_everywhere _ _ hp⟩

theorem chip_words (q : Fin 4) (i : Nat) (hi : i < 16) : (![(BitVec.ofNat 32 q.val).toNat, (BitVec.ofNat 32 i).toNat, (0#32).toNat] : Fin 3 → Nat) = ![q.val, i, 0] := by
  rw [BitVec.toNat_ofNat, BitVec.toNat_ofNat, Nat.mod_eq_of_lt (by omega), Nat.mod_eq_of_lt (by omega)]
  rfl

theorem core_words (p : Fin 2) (n i : Nat) (hn : n < 16) (hi : i < 16) :
    (![(Scalar.addi (Scalar.muli (BitVec.ofNat 32 p.val) (BitVec.ofNat 32 n)) (BitVec.ofNat 32 i)).toNat, (0#32).toNat] : Fin 2 → Nat) = ![p.val * n + i, 0] := by
  have hp : p.val * n ≤ 1 * n := Nat.mul_le_mul_right n (by omega)
  have e : (Scalar.addi (Scalar.muli (BitVec.ofNat 32 p.val) (BitVec.ofNat 32 n)) (BitVec.ofNat 32 i)).toNat = p.val * n + i := by
    show (BitVec.ofNat 32 p.val * BitVec.ofNat 32 n + BitVec.ofNat 32 i).toNat = _
    rw [← BitVec.ofNat_mul, ← BitVec.ofNat_add, BitVec.toNat_ofNat, Nat.mod_eq_of_lt (by omega)]
  rw [e]
  rfl

/-- What the four chips sum: chip `q`'s own pair sum and the three others', at a row and a column. -/
def chipSum {r n : Nat} (x : (⟨3, ![4, r, n]⟩ : Shape).Idx → EReal) (o : (⟨3, ![3, r, n]⟩ : Shape).Idx → EReal) (q : Fin 4) (a : Fin r) (b : Fin n) : EReal :=
  x (ix3 q a b) + o (ix3 0 a b) + o (ix3 1 a b) + o (ix3 2 a b)

/-- A block of that sum, from the chip's own block and the three others'. -/
def blockSum {r n : Nat} (x : (⟨3, ![1, r, n]⟩ : Shape).Idx → EReal) (o : (⟨3, ![3, r, n]⟩ : Shape).Idx → EReal) (y : (⟨2, ![r, n]⟩ : Shape).Idx) : EReal :=
  x (ix3 0 (y 0) (y 1)) + o (ix3 0 (y 0) (y 1)) + o (ix3 1 (y 0) (y 1)) + o (ix3 2 (y 0) (y 1))

/-- The sum over the chips of the pair sums masked to chip `q`'s, plus the three others' sum. -/
theorem masked_sum {r n : Nat} (x : (⟨3, ![4, r, n]⟩ : Shape).Idx → EReal) (o : (⟨3, ![3, r, n]⟩ : Shape).Idx → EReal) (q : Fin 4) (a : Fin r) (b : Fin n) :
    (0 + ∑ k : Fin 4, Scalar.select (IntOp.cmpi .eq (BitVec.ofNat 32 k.val) (BitVec.ofNat 32 q.val)) (x (ix3 k a b)) 0) + (0 + ∑ k : Fin 3, o (ix3 k a b)) = chipSum x o q a b := by
  have e : ∀ k : Fin 4, Scalar.select (IntOp.cmpi .eq (BitVec.ofNat 32 k.val) (BitVec.ofNat 32 q.val)) (x (ix3 k a b)) 0 = if k = q then x (ix3 k a b) else 0 := by
    intro k
    have hk : IntOp.cmpi .eq (BitVec.ofNat 32 k.val) (BitVec.ofNat 32 q.val) = if k = q then 1#1 else 0#1 := by revert k q; decide
    rw [hk]
    by_cases h : k = q
    · rw [if_pos h, if_pos h]; rfl
    · rw [if_neg h, if_neg h]; rfl
  simp only [e, Finset.sum_ite_eq', Finset.mem_univ, if_true, zero_add]
  rw [Fin.sum_univ_three (M := EReal)]
  unfold chipSum
  simp only [add_assoc]

/-- The same of sums whose terms are these. -/
theorem masked_sum_of {r n : Nat} (x : (⟨3, ![4, r, n]⟩ : Shape).Idx → EReal) (o : (⟨3, ![3, r, n]⟩ : Shape).Idx → EReal) (q : Fin 4) (a : Fin r) (b : Fin n) {z z' : EReal}
    {f : Fin 4 → EReal} {g : Fin 3 → EReal} (hz : z = 0) (hf : ∀ k, f k = Scalar.select (IntOp.cmpi .eq (BitVec.ofNat 32 k.val) (BitVec.ofNat 32 q.val)) (x (ix3 k a b)) 0)
    (hz' : z' = 0) (hg : ∀ k, g k = o (ix3 k a b)) : (z + ∑ k : Fin 4, f k) + (z' + ∑ k : Fin 3, g k) = chipSum x o q a b := by
  rw [hz, hz', funext hf, funext hg]
  exact masked_sum x o q a b

/-- A block whose rows are those of the arrays from `f` on sums what the arrays sum there. -/
theorem blockSum_eq {r n r' : Nat} {x : (⟨3, ![1, r, n]⟩ : Shape).Idx → EReal} {o : (⟨3, ![3, r, n]⟩ : Shape).Idx → EReal} {x' : (⟨3, ![4, r', n]⟩ : Shape).Idx → EReal}
    {o' : (⟨3, ![3, r', n]⟩ : Shape).Idx → EReal} {q : Fin 4} {y : (⟨2, ![r, n]⟩ : Shape).Idx} {a : Fin r'} {b : Fin n}
    (hx : x (ix3 0 (y 0) (y 1)) = x' (ix3 q a b)) (ho : ∀ k : Fin 3, o (ix3 k (y 0) (y 1)) = o' (ix3 k a b)) : blockSum x o y = chipSum x' o' q a b :=
  congrArg₂ (fun u v : EReal => u + v) (congrArg₂ (fun u v : EReal => u + v) (congrArg₂ (fun u v : EReal => u + v) hx (ho 0)) (ho 1)) (ho 2)

/-- The blocks of the chips' array and of its output are inside them. -/
theorem chip_inside {R n r : Nat} (q : Fin 4) (i : Nat) (hi : (i + 1) * R ≤ r) : ∀ a : Fin 3, ((![q.val, i, 0] : Fin 3 → Nat) a + 1) * (![1, R, n] : Fin 3 → Nat) a ≤ (![4, r, n] : Fin 3 → Nat) a := by
  intro a
  fin_cases a
  · show (q.val + 1) * 1 ≤ 4; omega
  · exact hi
  · show (0 + 1) * n ≤ n; omega

theorem core_inside {R n N : Nat} {full : Nat} (p : Fin 2) (i : Nat) (hi : i < N) (hf : full = 2 * N * R) :
    ∀ a : Fin 2, ((![p.val * N + i, 0] : Fin 2 → Nat) a + 1) * (![R, n] : Fin 2 → Nat) a ≤ (![full, n] : Fin 2 → Nat) a := by
  have hp : p.val * N ≤ 1 * N := Nat.mul_le_mul_right N (by omega)
  intro a
  fin_cases a
  · show (p.val * N + i + 1) * R ≤ full
    rw [hf]
    exact Nat.mul_le_mul_right R (by omega)
  · show (0 + 1) * n ≤ n; omega

/-- The points' blocks of the output are all those of the core's half. -/
theorem own_block {N t : Nat} (p : Fin 2) (ht : t < N) : (p.val * N + t) / N = p.val := by
  rw [Nat.add_comm, Nat.add_mul_div_right _ _ (by omega), Nat.div_eq_of_lt ht, Nat.zero_add]

theorem own_block_of {N b : Nat} (p : Fin 2) (h : b / N = p.val) : p.val * N + b % N = b := by
  rw [← h, Nat.mul_comm]
  exact Nat.div_add_mod b N

/-- An array of three axes read through a block of whole rows. -/
theorem read_rows {α : Type} {k b r R n u t : Nat} (A : (⟨3, ![k, r, n]⟩ : Shape).Idx → α) (z : (⟨3, ![k, r, n]⟩ : Shape).Idx) (e : Fin 3 → Nat) (he : e = ![u, t, 0])
    (s₀ : Fin b) (j : Fin R) (l : Fin n) (h : ∀ a : Fin 3, (z a).val = e a * (![b, R, n] : Fin 3 → Nat) a + (ix3 s₀ j l a).val)
    (s : Fin k) (hs : s.val = u * b + s₀.val) (x : Fin r) (hx : x.val = t * R + j.val) : A z = A (ix3 s x l) := by
  subst he
  refine congrArg A (funext fun a => Fin.ext ((h a).trans ?_))
  fin_cases a
  · exact hs.symm
  · exact hx.symm
  · show 0 * n + l.val = l.val
    rw [Nat.zero_mul, Nat.zero_add]

/-- The sum over the chips as a core's half of an array of two halves of `r` rows holds it. -/
def halfSum {r n full : Nat} (hr : 0 < r) (x : (⟨3, ![4, r, n]⟩ : Shape).Idx → EReal) (o : (⟨3, ![3, r, n]⟩ : Shape).Idx → EReal) (q : Fin 4) (z : (⟨2, ![full, n]⟩ : Shape).Idx) : EReal :=
  chipSum x o q ⟨(z 0).val % r, Nat.mod_lt _ hr⟩ (z 1)

/-- It is what the blocks' sums are, block by block. -/
theorem halfSum_block {r n full N R t : Nat} (hr : 0 < r) (p : Fin 2) (q : Fin 4) (hN : r = N * R) (ht : t < N) {x : (⟨3, ![4, r, n]⟩ : Shape).Idx → EReal}
    {o : (⟨3, ![3, r, n]⟩ : Shape).Idx → EReal} {x₀ : (⟨3, ![1, R, n]⟩ : Shape).Idx → EReal} {o₀ : (⟨3, ![3, R, n]⟩ : Shape).Idx → EReal} (y : (⟨2, ![R, n]⟩ : Shape).Idx)
    (z : (⟨2, ![full, n]⟩ : Shape).Idx) (e : Fin 2 → Nat) (he : e = ![p.val * N + t, 0]) (h : ∀ a : Fin 2, (z a).val = e a * (![R, n] : Fin 2 → Nat) a + (y a).val)
    (hx : ∀ a : Fin r, a.val = t * R + (y 0).val → x₀ (ix3 0 (y 0) (y 1)) = x (ix3 q a (y 1)))
    (ho : ∀ (k : Fin 3) (a : Fin r), a.val = t * R + (y 0).val → o₀ (ix3 k (y 0) (y 1)) = o (ix3 k a (y 1))) : blockSum x₀ o₀ y = halfSum hr x o q z := by
  subst he
  have hy : (y 0).val < R := (y 0).isLt
  have h0 : (z 0).val = (p.val * N + t) * R + (y 0).val := h 0
  have h1 : z 1 = y 1 := Fin.ext ((h 1).trans (by show 0 * n + (y 1).val = (y 1).val; rw [Nat.zero_mul, Nat.zero_add]))
  have hb : t * R + (y 0).val < N * R := Nat.lt_of_lt_of_le (by rw [Nat.add_mul]; omega : t * R + (y 0).val < (t + 1) * R) (Nat.mul_le_mul_right R ht)
  have hm : (z 0).val % r = t * R + (y 0).val := by
    rw [h0, hN, show (p.val * N + t) * R + (y 0).val = t * R + (y 0).val + N * R * p.val by rw [Nat.add_mul, Nat.mul_comm (N * R), ← Nat.mul_assoc]; omega,
      Nat.add_mul_mod_self_left, Nat.mod_eq_of_lt hb]
  unfold halfSum
  rw [h1]
  exact blockSum_eq (hx _ hm) fun k => ho k _ hm

/-- At the rows of the half, it is the sum over the chips. -/
theorem halfSum_half {r n full : Nat} (hr : 0 < r) (p : Fin 2) (q : Fin 4) (x : (⟨3, ![4, r, n]⟩ : Shape).Idx → EReal) (o : (⟨3, ![3, r, n]⟩ : Shape).Idx → EReal)
    (y : (⟨2, ![r, n]⟩ : Shape).Idx) (h) : halfSum (full := full) hr x o q (ix2 ⟨p.val * r + (y 0).val, h⟩ (y 1)) = chipSum x o q (y 0) (y 1) := by
  refine congrArg (fun a => chipSum x o q a (y 1)) (Fin.ext ?_)
  show (p.val * r + (y 0).val) % r = (y 0).val
  rw [Nat.add_comm, Nat.add_mul_mod_self_right]
  exact Nat.mod_eq_of_lt (y 0).isLt

/-- Selecting the half of an array the core's number says reads it at the core's rows. -/
theorem select_half {r n R : Nat} (p : Fin 2) (w : (⟨1, ![1]⟩ : Shape).Idx → BitVec 32) (hw : w = fun _ => BitVec.ofNat 32 p.val) (hR : R = 2 * r)
    (A : (⟨2, ![R, n]⟩ : Shape).Idx → EReal) (hc) (hb) (h0) (h1) (y : (⟨2, ![r, n]⟩ : Shape).Idx) :
    select (broadcastInDim ⟨2, ![r, n]⟩ ![] hb (cmpi .eq (shapeCast ⟨0, ![]⟩ w hc) (constantI ⟨0, ![]⟩ 32 0#32)))
      (extractStridedSlice ⟨2, ![r, n]⟩ ![0, 0] A h0) (extractStridedSlice ⟨2, ![r, n]⟩ ![r, 0] A h1) y
      = A (ix2 ⟨p.val * r + (y 0).val, by have : (y 0).val < r := (y 0).isLt; have : p.val * r ≤ 1 * r := Nat.mul_le_mul_right r (by omega); omega⟩ (y 1)) := by
  subst hw
  have hs : broadcastInDim ⟨2, ![r, n]⟩ ![] hb (cmpi .eq (shapeCast ⟨0, ![]⟩ (fun _ : (⟨1, ![1]⟩ : Shape).Idx => BitVec.ofNat 32 p.val) hc) (constantI ⟨0, ![]⟩ 32 0#32)) y
      = IntOp.cmpi .eq (BitVec.ofNat 32 p.val) 0#32 := rfl
  show Scalar.select (broadcastInDim ⟨2, ![r, n]⟩ ![] hb (cmpi .eq (shapeCast ⟨0, ![]⟩ (fun _ : (⟨1, ![1]⟩ : Shape).Idx => BitVec.ofNat 32 p.val) hc) (constantI ⟨0, ![]⟩ 32 0#32)) y) (extractStridedSlice ⟨2, ![r, n]⟩ ![0, 0] A h0 y) (extractStridedSlice ⟨2, ![r, n]⟩ ![r, 0] A h1 y) = _
  rw [hs]
  fin_cases p
  · refine Eq.trans (b := extractStridedSlice ⟨2, ![r, n]⟩ ![0, 0] A h0 y) rfl (congrArg A (funext fun a => Fin.ext ?_))
    fin_cases a
    · show 0 + (y 0).val = 0 * r + (y 0).val
      rw [Nat.zero_mul]
    · exact Nat.zero_add _
  · refine Eq.trans (b := extractStridedSlice ⟨2, ![r, n]⟩ ![r, 0] A h1 y) rfl (congrArg A (funext fun a => Fin.ext ?_))
    fin_cases a
    · show r + (y 0).val = 1 * r + (y 0).val
      rw [Nat.one_mul]
    · exact Nat.zero_add _

end Cert.Ffn
-- ==== Proof.SumUpClaim.lean ====
module

public import proofs.«01_k».proof.Proof.ChipSum
public import proofs.«01_k».proof.Proof.Gen.SumUp.Frame
public import proofs.«01_k».proof.Proof.Gen.SumUpIdeal.Frame
public import proofs.«01_k».proof.Proof.Gen.Pre_up_place_named
public import proofs.«01_k».proof.Proof.Gen.SumUpRefIdeal.Run
public import proofs.«01_k».proof.Proof.Gen.SumUpRefIdeal.Read
public import proofs.«01_k».proof.Defs
public import Idealize.ShloMosaic.Lib.Pipeline.ReadBack

@[expose] public section

noncomputable section

namespace Cert.Ffn.SumUpRef

open Idealize.ShloMosaic Idealize.ShloMosaic.TcCoe
open Cert.SumUpRefIdeal Cert.SumUpRefIdeal.Gen Cert.SumUpRefIdeal.Read

theorem ref_result (x0 : S1.Idx → BitVec 32) (x2 : S4x1024x2816.Idx → EReal) (x3 : S3x1024x2816.Idx → EReal) (q : Fin 4) (h : x0 = fun _ => BitVec.ofNat 32 q.val) (i : S1024x2816.Idx) :
    val_main_v10 (F := Ideal) x0 x2 x3 i = chipSum (r := 1024) (n := 2816) x2 x3 q (i 0) (i 1) := by
  subst h
  rw [val_main_v10_apply, val_main_v7_apply, val_main_v9_apply]
  refine masked_sum_of x2 x3 q (i 0) (i 1) Ideal.ofBits_zero_f32 (fun k => ?_) Ideal.ofBits_zero_f32 (fun k => ?_)
  · pointwise [val_main_v6, val_main_call0_v1, val_main_v5, val_main_call0_v2, val_main_call0_v0, val_main_cst, val_main_v4, val_main_v3, val_main_v2, val_main_v1, val_main_v0]
    exact congrArg₂ (Scalar.select _) (congrArg x2 (funext fun a => by fin_cases a <;> rfl)) Ideal.ofBits_zero_f32
  · exact congrArg x3 (funext fun a => by fin_cases a <;> rfl)

end Cert.Ffn.SumUpRef

namespace Cert.Ffn.SumUp

open Cert.SumUpIdeal Cert.SumUpIdeal.Gen Idealize.ShloMosaic Idealize.ShloMosaic.TcCoe Idealize.SL.Sem
open Idealize.ShloMosaic.Pipeline (Dat)

section Table

variable {F : FTy → Type} [FloatOps F] (m : (ℓ : Loc nD τ sig) → Buf (Elt F) ℓ)

/-- The numbers of the chip and of the core the memory gives. -/
abbrev Named (q : Fin 4) (p : Fin 2) : Prop :=
  (m (((0 : Dev nD).tc : Thread nD τ).loc main_arg0) = fun _ => BitVec.ofNat 32 q.val) ∧ (m (((0 : Dev nD).tc : Thread nD τ).loc main_arg1) = fun _ => BitVec.ofNat 32 p.val)

/-- The table: the chip's number, then the core's. -/
theorem table (c : Dev nD) : V m c main_v0 = concatenate S2 0 [⟨S1, m ((c.tc : Thread nD τ).loc main_arg0)⟩, ⟨S1, m ((c.tc : Thread nD τ).loc main_arg1)⟩] concatenates_S1_S1_S2_d0 := by
  entry_read
  simp only [hostOps0, List.flatten_cons, List.flatten_nil, List.append_nil]
  after_results

variable {m} {q : Fin 4} {p : Fin 2} (hn : Named m q p)
include hn

theorem chip_index (i : grid0.Coords) : cc0_transform_0 (F := F) Gen.inb_S2_S1_0 Gen.numel1_S1 (tbl m) i = ![q.val, (i 0).val, 0] := by
  have h1 : (tbl m).at 0 (Rect.unit (s := S2) ![0] S1.size Gen.inb_S2_S1_0) Gen.numel1_S1 = BitVec.ofNat 32 q.val := by
    show V m 0 main_v0 _ = _
    rw [table, hn.1, hn.2]
    rfl
  have hi : (i 0).val < 8 := (i 0).isLt
  exact (congrArg (fun w : BitVec 32 => (![w.toNat, (BitVec.ofNat 32 (i 0).val).toNat, (0#32).toNat] : Fin 3 → Nat)) h1).trans (chip_words q _ (by omega))

theorem core_index (i : grid0.Coords) : cc0_transform_2 (F := F) Gen.inb_S2_S1_1 Gen.numel1_S1 (tbl m) i = ![p.val * 8 + (i 0).val, 0] := by
  have h1 : (tbl m).at 0 (Rect.unit (s := S2) ![1] S1.size Gen.inb_S2_S1_1) Gen.numel1_S1 = BitVec.ofNat 32 p.val := by
    show V m 0 main_v0 _ = _
    rw [table, hn.1, hn.2]
    rfl
  have hi : (i 0).val < 8 := (i 0).isLt
  exact (congrArg (fun w : BitVec 32 => (![(Scalar.addi (Scalar.muli w 8#32) (BitVec.ofNat 32 (i 0).val)).toNat, (0#32).toNat] : Fin 2 → Nat)) h1).trans
    (core_words p 8 _ (by omega) (by omega))

theorem ok : Ok m :=
  ⟨fun i => ⟨fun a => (congrArg (fun z : Fin 3 → Nat => (z a + 1) * S1x128x2816.size a) (chip_index hn i)).trans_le
      (chip_inside (R := 128) (n := 2816) (r := 1024) q _ (by have : (i 0).val < 8 := (i 0).isLt; omega) a), .inr (Affine.block_words_dvd (of_decide_eq_true rfl) (by decide))⟩,
    fun i => ⟨fun a => (congrArg (fun z : Fin 2 → Nat => (z a + 1) * S128x2816.size a) (core_index hn i)).trans_le
      (core_inside (R := 128) (n := 2816) (N := 8) p _ (i 0).isLt rfl a), .inl rfl⟩⟩

end Table

theorem frame_sumUp : Cert.quiescent_SumUp := fun m ρ h => by
  obtain ⟨q, p, hn⟩ := place_of_tests _ _ (congrFun (h 0).1 (ix1 0)) (congrFun (h 0).2 (ix1 0))
  exact Cert.SumUp.Gen.frame m ρ (show Cert.SumUpIdeal.Gen.Ok (F := Bits) m from ok hn)

theorem frame_sumUpIdeal : Cert.quiescent_SumUpIdeal := fun m ρ h => by
  obtain ⟨q, p, hn⟩ := place_of_tests _ _ (congrFun (h 0).1 (ix1 0)) (congrFun (h 0).2 (ix1 0))
  exact Cert.SumUpIdeal.Gen.frame m ρ (ok hn)

section Value

variable (m : (ℓ : Loc nD τ sig) → Buf (Elt Ideal) ℓ) (c : Dev nD)

theorem out_eq (hO : Ok m) (t : Fin (cfgM m hO).N) : outsAt0 m hO c t = blockSum (r := 128) (n := 2816) (iblk m hO c 0 t) (iblk m hO c 1 t) := by
  unfold outsAt0
  frame_out
  rw [show View.read (Elt Ideal) (ms0_0 m hO t).view ((hs0_0 m hO t).unread (iblk m hO c 0 t)) = iblk m hO c 0 t from (hs0_0 m hO t).read_unread _,
    show View.read (Elt Ideal) (ms0_1 m hO t).view ((hs0_1 m hO t).unread (iblk m hO c 1 t)) = iblk m hO c 1 t from (hs0_1 m hO t).read_unread _]
  generalize iblk m hO c 0 t = x
  generalize iblk m hO c 1 t = o
  funext y
  pointwise [k0_pay1, blockSum]

/-- The array the region writes, the half of the core it runs on. -/
abbrev half (q : Fin 4) : S2048x2816.Idx → EReal :=
  halfSum (r := 1024) (n := 2816) (full := 2048) (by decide) (m ((c.tc : Thread nD τ).loc main_arg2)) (m ((c.tc : Thread nD τ).loc main_arg3)) q

variable {q : Fin 4} {p : Fin 2} (hn : Named m q p)

theorem coords_val : ∀ t : Fin grid0.N, (grid0.coords t 0).val = t.val := by decide +kernel

include hn

theorem index0 (hO : Ok m) (t : Fin (cfgM m hO).N) : ((cfgM m hO).win 0).index t = ![q.val, t.val, 0] :=
  (chip_index hn (grid0.coords t)).trans (by rw [coords_val])
theorem index2 (hO : Ok m) (t : Fin (cfgM m hO).N) : ((cfgM m hO).win 2).index t = ![p.val * 8 + t.val, 0] :=
  (core_index hn (grid0.coords t)).trans (by rw [coords_val])
omit hn in
theorem index1 : ∀ t : Fin grid0.N, cc0_transform_1 (grid0.coords t) = ![0, t.val, 0] := by decide +kernel

omit hn in
theorem flushes : ∀ (p : Fin 2) (t : Fin grid0.N), Pipeline.Window.flushOf grid0 true (fun i => ![p.val * 8 + (i 0).val, 0]) t = true := by decide +kernel

theorem flush2 (hO : Ok m) (t : Fin (cfgM m hO).N) : ((cfgM m hO).win 2).flush t = true := by
  have h := flushes p t
  have e : (fun i : grid0.Coords => (![p.val * 8 + (i 0).val, 0] : Fin 2 → Nat)) = cc0_transform_2 (F := Ideal) Gen.inb_S2_S1_1 Gen.numel1_S1 (tbl m) := funext fun i => (core_index hn i).symm
  rw [e] at h
  exact h

/-- The blocks written are those of the core's half. -/
theorem covers (hO : Ok m) : ((cfgM m hO).win 2).CoversWhere (fun β => β (0 : Fin 2) / 8 = p.val) := by
  refine ⟨fun (a : Fin 2) => by fin_cases a <;> exact Nat.succ_pos _, fun t ht => ⟨?_, fun a => .inl rfl⟩, fun β hβ => ?_⟩
  · exact (congrArg (fun z : Fin 2 → Nat => z 0 / 8) (index2 m hn hO t)).trans (own_block p t.isLt)
  · have h1 : (β (1 : Fin 2)).val < (2816 + 2816 - 1) / 2816 := (β (1 : Fin 2)).isLt
    let t : Fin grid0.N := ⟨(β (0 : Fin 2)).val % 8, Nat.mod_lt _ (by omega)⟩
    refine ⟨t, fun (a : Fin 2) => (congrFun (index2 m hn hO t) a).trans ?_, flush2 m hn hO t⟩
    fin_cases a
    · exact own_block_of p hβ
    · exact (Nat.lt_one_iff.mp h1).symm

/-- The blocks the body sees, of the chip's slice and of the arrivals. -/
theorem block0 (hO : Ok m) (t : Fin (cfgM m hO).N) (j : Fin 128) (l : Fin 2816) (a : Fin 1024) (ha : a.val = t.val * 128 + j.val) :
    (iblk m hO c 0 t : S1x128x2816.Idx → EReal) (ix3 (0 : Fin 1) j l) = m ((c.tc : Thread nD τ).loc main_arg2) (ix3 q a l) := by
  have h : ∀ a, (((((cfgM m hO).win 0).blk t).view.emb (ix3 (0 : Fin 1) j l : S1x128x2816.Idx)) a).val = ((cfgM m hO).win 0).index t a * S1x128x2816.size a + (ix3 (0 : Fin 1) j l a).val := fun a =>
    ValueKit.rect_emb_unit_val _ _ _ _ a
  exact (read_rows (V m c main_arg2) _ _ (index0 m hn hO t) (0 : Fin 1) _ _ h q (Nat.mul_one _).symm a ha).trans (congrFun (V_main_arg2 m c) _)
omit hn in
theorem block1 (hO : Ok m) (t : Fin (cfgM m hO).N) (k : Fin 3) (j : Fin 128) (l : Fin 2816) (a : Fin 1024) (ha : a.val = t.val * 128 + j.val) :
    (iblk m hO c 1 t : S3x128x2816.Idx → EReal) (ix3 k j l) = m ((c.tc : Thread nD τ).loc main_arg3) (ix3 k a l) := by
  have h : ∀ a, (((((cfgM m hO).win 1).blk t).view.emb (ix3 k j l : S3x128x2816.Idx)) a).val = ((cfgM m hO).win 1).index t a * S3x128x2816.size a + (ix3 k j l a).val := fun a =>
    ValueKit.rect_emb_unit_val _ _ _ _ a
  exact (read_rows (V m c main_arg3) _ _ (index1 t) k _ _ h k (by omega) a ha).trans (congrFun (V_main_arg3 m c) _)

/-- The array after the region, in the core's half. -/
theorem final (hO : Ok m) (i : S2048x2816.Idx) (hi : (i 0).val / 1024 = p.val) : (dats m hO 0 c).arrAt 2 (cfgM m hO).N i = half m c q i := by
  refine ((dats m hO 0 c).arrAt_apply_of_coversWhere (P := fun i : S2048x2816.Idx => (i 0).val / 1024 = p.val) 2 (half m c q) (fun β => β (0 : Fin 2) / 8 = p.val) (covers m hn hO) (fun t ht y => ?_) (fun j => ?_) i).trans (if_pos hi)
  · have h : ∀ a, ((((cfgM m hO).win 2).blk t).view.emb y a).val = ((cfgM m hO).win 2).index t a * S128x2816.size a + (y a).val := fun a =>
      ValueKit.rect_emb_unit_val _ _ _ _ a
    blk_simp
    rw [after0_2, out_eq]
    exact halfSum_block (N := 8) _ p q rfl t.isLt y _ _ (index2 m hn hO t) h (fun a ha => block0 m c hn hO t _ _ a ha) (fun k a ha => block1 m c hO t k _ _ a ha)
  · show (j (0 : Fin 2)).val / 1024 = p.val ↔ (j (0 : Fin 2)).val / 128 / 8 = p.val
    rw [Nat.div_div_eq_div_mul]

/-- What the program returns: the sum over the four chips of the core's half. -/
def result (q : Fin 4) : S1024x2816.Idx → EReal := fun i =>
  chipSum (r := 1024) (n := 2816) (m ((c.tc : Thread nD τ).loc main_arg2)) (m ((c.tc : Thread nD τ).loc main_arg3)) q (i 0) (i 1)

theorem returned (hO : Ok m) (hc : c = 0) : Pipeline.afterTail pcfgs (fun _ => adm m hO) (dats m hO) 0 (V0 m) [hostOps1, hostOps1_1] c main_v6 = result m c q := by
  subst hc
  have e1 : Pipeline.withArrays (Pipeline.pin pcfgs (fun x => adm m hO) 0).spec 0 (V0 m 0) (fun w => (dats m hO 0 0).arrAt w (Pipeline.pin pcfgs (fun x => adm m hO) 0).N) (Proc.tc.devRef main_v1)
      = (dats m hO 0 0).arrAt 2 (cfgM m hO).N := Pipeline.withArrays_arr spec0 (by decide) 0 (V0 m 0) _ 2
  have e2 : Pipeline.withArrays (Pipeline.pin pcfgs (fun x => adm m hO) 0).spec 0 (V0 m 0) (fun w => (dats m hO 0 0).arrAt w (Pipeline.pin pcfgs (fun x => adm m hO) 0).N) (Proc.tc.devRef main_arg1)
      = fun _ => BitVec.ofNat 32 p.val :=
    (Pipeline.withArrays_of_ne _ 0 (V0 m 0) _ main_arg1 (by exact (by decide : ∀ w, Pipeline.arrRef spec0 w ≠ main_arg1))).trans ((V_main_arg1 m 0).trans hn.2)
  unfold Pipeline.afterTail
  simp only [hostOps1, hostOps1_1, List.flatten_cons, List.flatten_nil, List.append_nil, List.cons_append, List.nil_append, StableHlo.TRef.ternary, StableHlo.TRef.toBuf, StableHlo.TRef.ofBuf, cast_eq]
  after_results
  funext y
  refine Eq.trans ?_ ((select_half (r := 1024) (n := 2816) p _ e2 rfl _ shapeCasts_S1_S_ bcast_S_S1024x2816 slices_S2048x2816_S1024x2816_0_0 slices_S2048x2816_S1024x2816_1024_0 y).trans
    ((congrFun e1 _).trans ((final m 0 hn hO _ ?_).trans (halfSum_half _ p q _ _ y _))))
  · exact rfl
  · show (p.val * 1024 + (y 0).val) / 1024 = p.val
    exact own_block p (y 0).isLt

end Value

theorem algebraic_sumUp : Cert.algebraic_SumUpIdeal_SumUpRefIdeal := by
  intro m g m' g' hpre hm
  obtain ⟨q, p, hn⟩ := place_of_tests _ _ (congrFun (hpre 0).1 (ix1 0)) (congrFun (hpre 0).2 (ix1 0))
  have hO := ok hn
  refine ⟨fun c => result m c q,
    (θ_run _ _ _).mono (fun r h c => ?_) (θ_run_and (Cert.SumUpIdeal.Gen.run_main m g hO) (Cert.SumUpIdeal.Gen.unchanged m g hO)),
    (θ_run _ _ _).mono (fun r h c => ?_) (Cert.SumUpRefIdeal.Value.run m' g')⟩
  · exact ⟨((h.1 c).2 main_v6 (by decide : main_v6 ∈ Pipeline.restRefs sig spec0)).trans (returned m c hn hO (Subsingleton.elim _ _)), h.2 c⟩
  · obtain ⟨a, f⟩ := h c
    obtain ⟨e0, e1, e2, e3⟩ := hm c
    refine ⟨a.trans ?_, f⟩
    obtain rfl : c = 0 := Subsingleton.elim _ _
    rw [Cert.SumUpRefIdeal.Read.val_main_v10_eq, e0, e2, e3]
    exact funext fun i => Cert.Ffn.SumUpRef.ref_result _ _ _ q hn.1 i

end Cert.Ffn.SumUp
-- ==== Proof.SumOutClaim.lean ====
module

public import proofs.«01_k».proof.Proof.ChipSum
public import proofs.«01_k».proof.Proof.Gen.SumOut.Frame
public import proofs.«01_k».proof.Proof.Gen.SumOutIdeal.Frame
public import proofs.«01_k».proof.Proof.Gen.Pre_out_place_named
public import proofs.«01_k».proof.Proof.Gen.SumOutRefIdeal.Run
public import proofs.«01_k».proof.Proof.Gen.SumOutRefIdeal.Read
public import proofs.«01_k».proof.Defs
public import Idealize.ShloMosaic.Lib.Pipeline.ReadBack

@[expose] public section

noncomputable section

namespace Cert.Ffn.SumOutRef

open Idealize.ShloMosaic Idealize.ShloMosaic.TcCoe
open Cert.SumOutRefIdeal Cert.SumOutRefIdeal.Gen Cert.SumOutRefIdeal.Read

theorem ref_result (x0 : S1.Idx → BitVec 32) (x2 : S4x704x2048.Idx → EReal) (x3 : S3x704x2048.Idx → EReal) (q : Fin 4) (h : x0 = fun _ => BitVec.ofNat 32 q.val) (i : S704x2048.Idx) :
    val_main_v10 (F := Ideal) x0 x2 x3 i = chipSum (r := 704) (n := 2048) x2 x3 q (i 0) (i 1) := by
  subst h
  rw [val_main_v10_apply, val_main_v7_apply, val_main_v9_apply]
  refine masked_sum_of x2 x3 q (i 0) (i 1) Ideal.ofBits_zero_f32 (fun k => ?_) Ideal.ofBits_zero_f32 (fun k => ?_)
  · pointwise [val_main_v6, val_main_call0_v1, val_main_v5, val_main_call0_v2, val_main_call0_v0, val_main_cst, val_main_v4, val_main_v3, val_main_v2, val_main_v1, val_main_v0]
    exact congrArg₂ (Scalar.select _) (congrArg x2 (funext fun a => by fin_cases a <;> rfl)) Ideal.ofBits_zero_f32
  · exact congrArg x3 (funext fun a => by fin_cases a <;> rfl)

end Cert.Ffn.SumOutRef

namespace Cert.Ffn.SumOut

open Cert.SumOutIdeal Cert.SumOutIdeal.Gen Idealize.ShloMosaic Idealize.ShloMosaic.TcCoe Idealize.SL.Sem
open Idealize.ShloMosaic.Pipeline (Dat)

section Table

variable {F : FTy → Type} [FloatOps F] (m : (ℓ : Loc nD τ sig) → Buf (Elt F) ℓ)

/-- The numbers of the chip and of the core the memory gives. -/
abbrev Named (q : Fin 4) (p : Fin 2) : Prop :=
  (m (((0 : Dev nD).tc : Thread nD τ).loc main_arg0) = fun _ => BitVec.ofNat 32 q.val) ∧ (m (((0 : Dev nD).tc : Thread nD τ).loc main_arg1) = fun _ => BitVec.ofNat 32 p.val)

theorem table (c : Dev nD) : V m c main_v0 = concatenate S2 0 [⟨S1, m ((c.tc : Thread nD τ).loc main_arg0)⟩, ⟨S1, m ((c.tc : Thread nD τ).loc main_arg1)⟩] concatenates_S1_S1_S2_d0 := by
  entry_read
  simp only [hostOps0, List.flatten_cons, List.flatten_nil, List.append_nil]
  after_results

variable {m} {q : Fin 4} {p : Fin 2} (hn : Named m q p)
include hn

theorem chip_index (i : grid0.Coords) : cc0_transform_0 (F := F) Gen.inb_S2_S1_0 Gen.numel1_S1 (tbl m) i = ![q.val, (i 0).val, 0] := by
  have h1 : (tbl m).at 0 (Rect.unit (s := S2) ![0] S1.size Gen.inb_S2_S1_0) Gen.numel1_S1 = BitVec.ofNat 32 q.val := by
    show V m 0 main_v0 _ = _
    rw [table, hn.1, hn.2]
    rfl
  have hi : (i 0).val < 4 := (i 0).isLt
  exact (congrArg (fun w : BitVec 32 => (![w.toNat, (BitVec.ofNat 32 (i 0).val).toNat, (0#32).toNat] : Fin 3 → Nat)) h1).trans (chip_words q _ (by omega))

theorem core_index (i : grid0.Coords) : cc0_transform_2 (F := F) Gen.inb_S2_S1_1 Gen.numel1_S1 (tbl m) i = ![p.val * 4 + (i 0).val, 0] := by
  have h1 : (tbl m).at 0 (Rect.unit (s := S2) ![1] S1.size Gen.inb_S2_S1_1) Gen.numel1_S1 = BitVec.ofNat 32 p.val := by
    show V m 0 main_v0 _ = _
    rw [table, hn.1, hn.2]
    rfl
  have hi : (i 0).val < 4 := (i 0).isLt
  exact (congrArg (fun w : BitVec 32 => (![(Scalar.addi (Scalar.muli w 4#32) (BitVec.ofNat 32 (i 0).val)).toNat, (0#32).toNat] : Fin 2 → Nat)) h1).trans
    (core_words p 4 _ (by omega) (by omega))

theorem ok : Ok m :=
  ⟨fun i => ⟨fun a => (congrArg (fun z : Fin 3 → Nat => (z a + 1) * S1x176x2048.size a) (chip_index hn i)).trans_le
      (chip_inside (R := 176) (n := 2048) (r := 704) q _ (by have : (i 0).val < 4 := (i 0).isLt; omega) a), .inr (Affine.block_words_dvd (of_decide_eq_true rfl) (by decide))⟩,
    fun i => ⟨fun a => (congrArg (fun z : Fin 2 → Nat => (z a + 1) * S176x2048.size a) (core_index hn i)).trans_le
      (core_inside (R := 176) (n := 2048) (N := 4) p _ (i 0).isLt rfl a), .inl rfl⟩⟩

end Table

theorem frame_sumOut : Cert.quiescent_SumOut := fun m ρ h => by
  obtain ⟨q, p, hn⟩ := place_of_tests _ _ (congrFun (h 0).1 (ix1 0)) (congrFun (h 0).2 (ix1 0))
  exact Cert.SumOut.Gen.frame m ρ (show Cert.SumOutIdeal.Gen.Ok (F := Bits) m from ok hn)

theorem frame_sumOutIdeal : Cert.quiescent_SumOutIdeal := fun m ρ h => by
  obtain ⟨q, p, hn⟩ := place_of_tests _ _ (congrFun (h 0).1 (ix1 0)) (congrFun (h 0).2 (ix1 0))
  exact Cert.SumOutIdeal.Gen.frame m ρ (ok hn)

section Value

variable (m : (ℓ : Loc nD τ sig) → Buf (Elt Ideal) ℓ) (c : Dev nD)

theorem out_eq (hO : Ok m) (t : Fin (cfgM m hO).N) : outsAt0 m hO c t = blockSum (r := 176) (n := 2048) (iblk m hO c 0 t) (iblk m hO c 1 t) := by
  unfold outsAt0
  frame_out
  rw [show View.read (Elt Ideal) (ms0_0 m hO t).view ((hs0_0 m hO t).unread (iblk m hO c 0 t)) = iblk m hO c 0 t from (hs0_0 m hO t).read_unread _,
    show View.read (Elt Ideal) (ms0_1 m hO t).view ((hs0_1 m hO t).unread (iblk m hO c 1 t)) = iblk m hO c 1 t from (hs0_1 m hO t).read_unread _]
  generalize iblk m hO c 0 t = x
  generalize iblk m hO c 1 t = o
  funext y
  pointwise [k0_pay1, blockSum]

/-- The array the region writes, the half of the core it runs on. -/
abbrev half (q : Fin 4) : S1408x2048.Idx → EReal :=
  halfSum (r := 704) (n := 2048) (full := 1408) (by decide) (m ((c.tc : Thread nD τ).loc main_arg2)) (m ((c.tc : Thread nD τ).loc main_arg3)) q

variable {q : Fin 4} {p : Fin 2} (hn : Named m q p)

theorem coords_val : ∀ t : Fin grid0.N, (grid0.coords t 0).val = t.val := by decide +kernel
theorem index1 : ∀ t : Fin grid0.N, cc0_transform_1 (grid0.coords t) = ![0, t.val, 0] := by decide +kernel
theorem flushes : ∀ (p : Fin 2) (t : Fin grid0.N), Pipeline.Window.flushOf grid0 true (fun i => ![p.val * 4 + (i 0).val, 0]) t = true := by decide +kernel

theorem block1 (hO : Ok m) (t : Fin (cfgM m hO).N) (k : Fin 3) (j : Fin 176) (l : Fin 2048) (a : Fin 704) (ha : a.val = t.val * 176 + j.val) :
    (iblk m hO c 1 t : S3x176x2048.Idx → EReal) (ix3 k j l) = m ((c.tc : Thread nD τ).loc main_arg3) (ix3 k a l) := by
  have h : ∀ a, (((((cfgM m hO).win 1).blk t).view.emb (ix3 k j l : S3x176x2048.Idx)) a).val = ((cfgM m hO).win 1).index t a * S3x176x2048.size a + (ix3 k j l a).val := fun a =>
    ValueKit.rect_emb_unit_val _ _ _ _ a
  exact (read_rows (V m c main_arg3) _ _ (index1 t) k _ _ h k (by omega) a ha).trans (congrFun (V_main_arg3 m c) _)

include hn

theorem index0 (hO : Ok m) (t : Fin (cfgM m hO).N) : ((cfgM m hO).win 0).index t = ![q.val, t.val, 0] :=
  (chip_index hn (grid0.coords t)).trans (by rw [coords_val])
theorem index2 (hO : Ok m) (t : Fin (cfgM m hO).N) : ((cfgM m hO).win 2).index t = ![p.val * 4 + t.val, 0] :=
  (core_index hn (grid0.coords t)).trans (by rw [coords_val])

theorem flush2 (hO : Ok m) (t : Fin (cfgM m hO).N) : ((cfgM m hO).win 2).flush t = true := by
  have h := flushes p t
  have e : (fun i : grid0.Coords => (![p.val * 4 + (i 0).val, 0] : Fin 2 → Nat)) = cc0_transform_2 (F := Ideal) Gen.inb_S2_S1_1 Gen.numel1_S1 (tbl m) := funext fun i => (core_index hn i).symm
  rw [e] at h
  exact h

theorem block0 (hO : Ok m) (t : Fin (cfgM m hO).N) (j : Fin 176) (l : Fin 2048) (a : Fin 704) (ha : a.val = t.val * 176 + j.val) :
    (iblk m hO c 0 t : S1x176x2048.Idx → EReal) (ix3 (0 : Fin 1) j l) = m ((c.tc : Thread nD τ).loc main_arg2) (ix3 q a l) := by
  have h : ∀ a, (((((cfgM m hO).win 0).blk t).view.emb (ix3 (0 : Fin 1) j l : S1x176x2048.Idx)) a).val = ((cfgM m hO).win 0).index t a * S1x176x2048.size a + (ix3 (0 : Fin 1) j l a).val := fun a =>
    ValueKit.rect_emb_unit_val _ _ _ _ a
  exact (read_rows (V m c main_arg2) _ _ (index0 m hn hO t) (0 : Fin 1) _ _ h q (Nat.mul_one _).symm a ha).trans (congrFun (V_main_arg2 m c) _)

/-- The blocks written are those of the core's half. -/
theorem covers (hO : Ok m) : ((cfgM m hO).win 2).CoversWhere (fun β => β (0 : Fin 2) / 4 = p.val) := by
  refine ⟨fun (a : Fin 2) => by fin_cases a <;> exact Nat.succ_pos _, fun t ht => ⟨?_, fun a => .inl rfl⟩, fun β hβ => ?_⟩
  · exact (congrArg (fun z : Fin 2 → Nat => z 0 / 4) (index2 m hn hO t)).trans (own_block p t.isLt)
  · have h1 : (β (1 : Fin 2)).val < (2048 + 2048 - 1) / 2048 := (β (1 : Fin 2)).isLt
    let t : Fin grid0.N := ⟨(β (0 : Fin 2)).val % 4, Nat.mod_lt _ (by omega)⟩
    refine ⟨t, fun (a : Fin 2) => (congrFun (index2 m hn hO t) a).trans ?_, flush2 m hn hO t⟩
    fin_cases a
    · exact own_block_of p hβ
    · exact (Nat.lt_one_iff.mp h1).symm

/-- The array after the region, in the core's half. -/
theorem final (hO : Ok m) (i : S1408x2048.Idx) (hi : (i 0).val / 704 = p.val) : (dats m hO 0 c).arrAt 2 (cfgM m hO).N i = half m c q i := by
  refine ((dats m hO 0 c).arrAt_apply_of_coversWhere (P := fun i : S1408x2048.Idx => (i 0).val / 704 = p.val) 2 (half m c q) (fun β => β (0 : Fin 2) / 4 = p.val) (covers m hn hO) (fun t ht y => ?_) (fun j => ?_) i).trans (if_pos hi)
  · have h : ∀ a, ((((cfgM m hO).win 2).blk t).view.emb y a).val = ((cfgM m hO).win 2).index t a * S176x2048.size a + (y a).val := fun a =>
      ValueKit.rect_emb_unit_val _ _ _ _ a
    blk_simp
    rw [after0_2, out_eq]
    exact halfSum_block (N := 4) _ p q rfl t.isLt y _ _ (index2 m hn hO t) h (fun a ha => block0 m c hn hO t _ _ a ha) (fun k a ha => block1 m c hO t k _ _ a ha)
  · show (j (0 : Fin 2)).val / 704 = p.val ↔ (j (0 : Fin 2)).val / 176 / 4 = p.val
    rw [Nat.div_div_eq_div_mul]

/-- What the program returns: the sum over the four chips of the core's half. -/
def result (q : Fin 4) : S704x2048.Idx → EReal := fun i =>
  chipSum (r := 704) (n := 2048) (m ((c.tc : Thread nD τ).loc main_arg2)) (m ((c.tc : Thread nD τ).loc main_arg3)) q (i 0) (i 1)

theorem returned (hO : Ok m) (hc : c = 0) : Pipeline.afterTail pcfgs (fun _ => adm m hO) (dats m hO) 0 (V0 m) [hostOps1, hostOps1_1] c main_v6 = result m c q := by
  subst hc
  have e1 : Pipeline.withArrays (Pipeline.pin pcfgs (fun x => adm m hO) 0).spec 0 (V0 m 0) (fun w => (dats m hO 0 0).arrAt w (Pipeline.pin pcfgs (fun x => adm m hO) 0).N) (Proc.tc.devRef main_v1)
      = (dats m hO 0 0).arrAt 2 (cfgM m hO).N := Pipeline.withArrays_arr spec0 (by decide) 0 (V0 m 0) _ 2
  have e2 : Pipeline.withArrays (Pipeline.pin pcfgs (fun x => adm m hO) 0).spec 0 (V0 m 0) (fun w => (dats m hO 0 0).arrAt w (Pipeline.pin pcfgs (fun x => adm m hO) 0).N) (Proc.tc.devRef main_arg1)
      = fun _ => BitVec.ofNat 32 p.val :=
    (Pipeline.withArrays_of_ne _ 0 (V0 m 0) _ main_arg1 (by exact (by decide : ∀ w, Pipeline.arrRef spec0 w ≠ main_arg1))).trans ((V_main_arg1 m 0).trans hn.2)
  unfold Pipeline.afterTail
  simp only [hostOps1, hostOps1_1, List.flatten_cons, List.flatten_nil, List.append_nil, List.cons_append, List.nil_append, StableHlo.TRef.ternary, StableHlo.TRef.toBuf, StableHlo.TRef.ofBuf, cast_eq]
  after_results
  funext y
  refine Eq.trans ?_ ((select_half (r := 704) (n := 2048) p _ e2 rfl _ shapeCasts_S1_S_ bcast_S_S704x2048 slices_S1408x2048_S704x2048_0_0 slices_S1408x2048_S704x2048_704_0 y).trans
    ((congrFun e1 _).trans ((final m 0 hn hO _ ?_).trans (halfSum_half _ p q _ _ y _))))
  · exact rfl
  · show (p.val * 704 + (y 0).val) / 704 = p.val
    exact own_block p (y 0).isLt

end Value

theorem algebraic_sumOut : Cert.algebraic_SumOutIdeal_SumOutRefIdeal := by
  intro m g m' g' hpre hm
  obtain ⟨q, p, hn⟩ := place_of_tests _ _ (congrFun (hpre 0).1 (ix1 0)) (congrFun (hpre 0).2 (ix1 0))
  have hO := ok hn
  refine ⟨fun c => result m c q,
    (θ_run _ _ _).mono (fun r h c => ?_) (θ_run_and (Cert.SumOutIdeal.Gen.run_main m g hO) (Cert.SumOutIdeal.Gen.unchanged m g hO)),
    (θ_run _ _ _).mono (fun r h c => ?_) (Cert.SumOutRefIdeal.Value.run m' g')⟩
  · exact ⟨((h.1 c).2 main_v6 (by decide : main_v6 ∈ Pipeline.restRefs sig spec0)).trans (returned m c hn hO (Subsingleton.elim _ _)), h.2 c⟩
  · obtain ⟨a, f⟩ := h c
    obtain ⟨e0, e1, e2, e3⟩ := hm c
    refine ⟨a.trans ?_, f⟩
    obtain rfl : c = 0 := Subsingleton.elim _ _
    rw [Cert.SumOutRefIdeal.Read.val_main_v10_eq, e0, e2, e3]
    exact funext fun i => Cert.Ffn.SumOutRef.ref_result _ _ _ q hn.1 i

end Cert.Ffn.SumOut
-- ==== Proof.SumMixInClaim.lean ====
module

public import proofs.«01_k».proof.Proof.ChipSum
public import proofs.«01_k».proof.Proof.Gen.SumMixIn.Frame
public import proofs.«01_k».proof.Proof.Gen.SumMixInIdeal.Frame
public import proofs.«01_k».proof.Proof.Gen.Pre_mix_in_place_named
public import proofs.«01_k».proof.Proof.Gen.SumMixInRefIdeal.Run
public import proofs.«01_k».proof.Proof.Gen.SumMixInRefIdeal.Read
public import proofs.«01_k».proof.Defs
public import Idealize.ShloMosaic.Lib.Pipeline.ReadBack

@[expose] public section

noncomputable section

namespace Cert.Ffn.SumMixInRef

open Idealize.ShloMosaic Idealize.ShloMosaic.TcCoe
open Cert.SumMixInRefIdeal Cert.SumMixInRefIdeal.Gen Cert.SumMixInRefIdeal.Read

theorem ref_result (x0 : S1.Idx → BitVec 32) (x2 : S4x1024x1028.Idx → EReal) (x3 : S3x1024x1028.Idx → EReal) (q : Fin 4) (h : x0 = fun _ => BitVec.ofNat 32 q.val) (i : S1024x1028.Idx) :
    val_main_v10 (F := Ideal) x0 x2 x3 i = chipSum (r := 1024) (n := 1028) x2 x3 q (i 0) (i 1) := by
  subst h
  rw [val_main_v10_apply, val_main_v7_apply, val_main_v9_apply]
  refine masked_sum_of x2 x3 q (i 0) (i 1) Ideal.ofBits_zero_f32 (fun k => ?_) Ideal.ofBits_zero_f32 (fun k => ?_)
  · pointwise [val_main_v6, val_main_call0_v1, val_main_v5, val_main_call0_v2, val_main_call0_v0, val_main_cst, val_main_v4, val_main_v3, val_main_v2, val_main_v1, val_main_v0]
    exact congrArg₂ (Scalar.select _) (congrArg x2 (funext fun a => by fin_cases a <;> rfl)) Ideal.ofBits_zero_f32
  · exact congrArg x3 (funext fun a => by fin_cases a <;> rfl)

end Cert.Ffn.SumMixInRef

namespace Cert.Ffn.SumMixIn

open Cert.SumMixInIdeal Cert.SumMixInIdeal.Gen Idealize.ShloMosaic Idealize.ShloMosaic.TcCoe Idealize.SL.Sem
open Idealize.ShloMosaic.Pipeline (Dat)

section Table

variable {F : FTy → Type} [FloatOps F] (m : (ℓ : Loc nD τ sig) → Buf (Elt F) ℓ)

/-- The numbers of the chip and of the core the memory gives. -/
abbrev Named (q : Fin 4) (p : Fin 2) : Prop :=
  (m (((0 : Dev nD).tc : Thread nD τ).loc main_arg0) = fun _ => BitVec.ofNat 32 q.val) ∧ (m (((0 : Dev nD).tc : Thread nD τ).loc main_arg1) = fun _ => BitVec.ofNat 32 p.val)

theorem table (c : Dev nD) : V m c main_v0 = concatenate S2 0 [⟨S1, m ((c.tc : Thread nD τ).loc main_arg0)⟩, ⟨S1, m ((c.tc : Thread nD τ).loc main_arg1)⟩] concatenates_S1_S1_S2_d0 := by
  entry_read
  simp only [hostOps0, List.flatten_cons, List.flatten_nil, List.append_nil]
  after_results

variable {m} {q : Fin 4} {p : Fin 2} (hn : Named m q p)
include hn

theorem chip_index (i : grid0.Coords) : cc0_transform_0 (F := F) Gen.inb_S2_S1_0 Gen.numel1_S1 (tbl m) i = ![q.val, (i 0).val, 0] := by
  have h1 : (tbl m).at 0 (Rect.unit (s := S2) ![0] S1.size Gen.inb_S2_S1_0) Gen.numel1_S1 = BitVec.ofNat 32 q.val := by
    show V m 0 main_v0 _ = _
    rw [table, hn.1, hn.2]
    rfl
  have hi : (i 0).val < 4 := (i 0).isLt
  exact (congrArg (fun w : BitVec 32 => (![w.toNat, (BitVec.ofNat 32 (i 0).val).toNat, (0#32).toNat] : Fin 3 → Nat)) h1).trans (chip_words q _ (by omega))

theorem core_index (i : grid0.Coords) : cc0_transform_2 (F := F) Gen.inb_S2_S1_1 Gen.numel1_S1 (tbl m) i = ![p.val * 4 + (i 0).val, 0] := by
  have h1 : (tbl m).at 0 (Rect.unit (s := S2) ![1] S1.size Gen.inb_S2_S1_1) Gen.numel1_S1 = BitVec.ofNat 32 p.val := by
    show V m 0 main_v0 _ = _
    rw [table, hn.1, hn.2]
    rfl
  have hi : (i 0).val < 4 := (i 0).isLt
  exact (congrArg (fun w : BitVec 32 => (![(Scalar.addi (Scalar.muli w 4#32) (BitVec.ofNat 32 (i 0).val)).toNat, (0#32).toNat] : Fin 2 → Nat)) h1).trans
    (core_words p 4 _ (by omega) (by omega))

theorem ok : Ok m :=
  ⟨fun i => ⟨fun a => (congrArg (fun z : Fin 3 → Nat => (z a + 1) * S1x256x1028.size a) (chip_index hn i)).trans_le
      (chip_inside (R := 256) (n := 1028) (r := 1024) q _ (by have : (i 0).val < 4 := (i 0).isLt; omega) a), .inr (Affine.block_words_dvd (of_decide_eq_true rfl) (by decide))⟩,
    fun i => ⟨fun a => (congrArg (fun z : Fin 2 → Nat => (z a + 1) * S256x1028.size a) (core_index hn i)).trans_le
      (core_inside (R := 256) (n := 1028) (N := 4) p _ (i 0).isLt rfl a), .inl rfl⟩⟩

end Table

theorem frame_sumMixIn : Cert.quiescent_SumMixIn := fun m ρ h => by
  obtain ⟨q, p, hn⟩ := place_of_tests _ _ (congrFun (h 0).1 (ix1 0)) (congrFun (h 0).2 (ix1 0))
  exact Cert.SumMixIn.Gen.frame m ρ (show Cert.SumMixInIdeal.Gen.Ok (F := Bits) m from ok hn)

theorem frame_sumMixInIdeal : Cert.quiescent_SumMixInIdeal := fun m ρ h => by
  obtain ⟨q, p, hn⟩ := place_of_tests _ _ (congrFun (h 0).1 (ix1 0)) (congrFun (h 0).2 (ix1 0))
  exact Cert.SumMixInIdeal.Gen.frame m ρ (ok hn)

section Value

variable (m : (ℓ : Loc nD τ sig) → Buf (Elt Ideal) ℓ) (c : Dev nD)

theorem out_eq (hO : Ok m) (t : Fin (cfgM m hO).N) : outsAt0 m hO c t = blockSum (r := 256) (n := 1028) (iblk m hO c 0 t) (iblk m hO c 1 t) := by
  unfold outsAt0
  frame_out
  rw [show View.read (Elt Ideal) (ms0_0 m hO t).view ((hs0_0 m hO t).unread (iblk m hO c 0 t)) = iblk m hO c 0 t from (hs0_0 m hO t).read_unread _,
    show View.read (Elt Ideal) (ms0_1 m hO t).view ((hs0_1 m hO t).unread (iblk m hO c 1 t)) = iblk m hO c 1 t from (hs0_1 m hO t).read_unread _]
  generalize iblk m hO c 0 t = x
  generalize iblk m hO c 1 t = o
  funext y
  pointwise [k0_pay1, blockSum]

/-- The array the region writes, the half of the core it runs on. -/
abbrev half (q : Fin 4) : S2048x1028.Idx → EReal :=
  halfSum (r := 1024) (n := 1028) (full := 2048) (by decide) (m ((c.tc : Thread nD τ).loc main_arg2)) (m ((c.tc : Thread nD τ).loc main_arg3)) q

variable {q : Fin 4} {p : Fin 2} (hn : Named m q p)

theorem coords_val : ∀ t : Fin grid0.N, (grid0.coords t 0).val = t.val := by decide +kernel
theorem index1 : ∀ t : Fin grid0.N, cc0_transform_1 (grid0.coords t) = ![0, t.val, 0] := by decide +kernel
theorem flushes : ∀ (p : Fin 2) (t : Fin grid0.N), Pipeline.Window.flushOf grid0 true (fun i => ![p.val * 4 + (i 0).val, 0]) t = true := by decide +kernel

theorem block1 (hO : Ok m) (t : Fin (cfgM m hO).N) (k : Fin 3) (j : Fin 256) (l : Fin 1028) (a : Fin 1024) (ha : a.val = t.val * 256 + j.val) :
    (iblk m hO c 1 t : S3x256x1028.Idx → EReal) (ix3 k j l) = m ((c.tc : Thread nD τ).loc main_arg3) (ix3 k a l) := by
  have h : ∀ a, (((((cfgM m hO).win 1).blk t).view.emb (ix3 k j l : S3x256x1028.Idx)) a).val = ((cfgM m hO).win 1).index t a * S3x256x1028.size a + (ix3 k j l a).val := fun a =>
    ValueKit.rect_emb_unit_val _ _ _ _ a
  exact (read_rows (V m c main_arg3) _ _ (index1 t) k _ _ h k (by omega) a ha).trans (congrFun (V_main_arg3 m c) _)

include hn

theorem index0 (hO : Ok m) (t : Fin (cfgM m hO).N) : ((cfgM m hO).win 0).index t = ![q.val, t.val, 0] :=
  (chip_index hn (grid0.coords t)).trans (by rw [coords_val])
theorem index2 (hO : Ok m) (t : Fin (cfgM m hO).N) : ((cfgM m hO).win 2).index t = ![p.val * 4 + t.val, 0] :=
  (core_index hn (grid0.coords t)).trans (by rw [coords_val])

theorem flush2 (hO : Ok m) (t : Fin (cfgM m hO).N) : ((cfgM m hO).win 2).flush t = true := by
  have h := flushes p t
  have e : (fun i : grid0.Coords => (![p.val * 4 + (i 0).val, 0] : Fin 2 → Nat)) = cc0_transform_2 (F := Ideal) Gen.inb_S2_S1_1 Gen.numel1_S1 (tbl m) := funext fun i => (core_index hn i).symm
  rw [e] at h
  exact h

theorem block0 (hO : Ok m) (t : Fin (cfgM m hO).N) (j : Fin 256) (l : Fin 1028) (a : Fin 1024) (ha : a.val = t.val * 256 + j.val) :
    (iblk m hO c 0 t : S1x256x1028.Idx → EReal) (ix3 (0 : Fin 1) j l) = m ((c.tc : Thread nD τ).loc main_arg2) (ix3 q a l) := by
  have h : ∀ a, (((((cfgM m hO).win 0).blk t).view.emb (ix3 (0 : Fin 1) j l : S1x256x1028.Idx)) a).val = ((cfgM m hO).win 0).index t a * S1x256x1028.size a + (ix3 (0 : Fin 1) j l a).val := fun a =>
    ValueKit.rect_emb_unit_val _ _ _ _ a
  exact (read_rows (V m c main_arg2) _ _ (index0 m hn hO t) (0 : Fin 1) _ _ h q (Nat.mul_one _).symm a ha).trans (congrFun (V_main_arg2 m c) _)

/-- The blocks written are those of the core's half. -/
theorem covers (hO : Ok m) : ((cfgM m hO).win 2).CoversWhere (fun β => β (0 : Fin 2) / 4 = p.val) := by
  refine ⟨fun (a : Fin 2) => by fin_cases a <;> exact Nat.succ_pos _, fun t ht => ⟨?_, fun a => .inl rfl⟩, fun β hβ => ?_⟩
  · exact (congrArg (fun z : Fin 2 → Nat => z 0 / 4) (index2 m hn hO t)).trans (own_block p t.isLt)
  · have h1 : (β (1 : Fin 2)).val < (1028 + 1028 - 1) / 1028 := (β (1 : Fin 2)).isLt
    let t : Fin grid0.N := ⟨(β (0 : Fin 2)).val % 4, Nat.mod_lt _ (by omega)⟩
    refine ⟨t, fun (a : Fin 2) => (congrFun (index2 m hn hO t) a).trans ?_, flush2 m hn hO t⟩
    fin_cases a
    · exact own_block_of p hβ
    · exact (Nat.lt_one_iff.mp h1).symm

/-- The array after the region, in the core's half. -/
theorem final (hO : Ok m) (i : S2048x1028.Idx) (hi : (i 0).val / 1024 = p.val) : (dats m hO 0 c).arrAt 2 (cfgM m hO).N i = half m c q i := by
  refine ((dats m hO 0 c).arrAt_apply_of_coversWhere (P := fun i : S2048x1028.Idx => (i 0).val / 1024 = p.val) 2 (half m c q) (fun β => β (0 : Fin 2) / 4 = p.val) (covers m hn hO) (fun t ht y => ?_) (fun j => ?_) i).trans (if_pos hi)
  · have h : ∀ a, ((((cfgM m hO).win 2).blk t).view.emb y a).val = ((cfgM m hO).win 2).index t a * S256x1028.size a + (y a).val := fun a =>
      ValueKit.rect_emb_unit_val _ _ _ _ a
    blk_simp
    rw [after0_2, out_eq]
    exact halfSum_block (N := 4) _ p q rfl t.isLt y _ _ (index2 m hn hO t) h (fun a ha => block0 m c hn hO t _ _ a ha) (fun k a ha => block1 m c hO t k _ _ a ha)
  · show (j (0 : Fin 2)).val / 1024 = p.val ↔ (j (0 : Fin 2)).val / 256 / 4 = p.val
    rw [Nat.div_div_eq_div_mul]

/-- What the program returns: the sum over the four chips of the core's half. -/
def result (q : Fin 4) : S1024x1028.Idx → EReal := fun i =>
  chipSum (r := 1024) (n := 1028) (m ((c.tc : Thread nD τ).loc main_arg2)) (m ((c.tc : Thread nD τ).loc main_arg3)) q (i 0) (i 1)

theorem returned (hO : Ok m) (hc : c = 0) : Pipeline.afterTail pcfgs (fun _ => adm m hO) (dats m hO) 0 (V0 m) [hostOps1, hostOps1_1] c main_v6 = result m c q := by
  subst hc
  have e1 : Pipeline.withArrays (Pipeline.pin pcfgs (fun x => adm m hO) 0).spec 0 (V0 m 0) (fun w => (dats m hO 0 0).arrAt w (Pipeline.pin pcfgs (fun x => adm m hO) 0).N) (Proc.tc.devRef main_v1)
      = (dats m hO 0 0).arrAt 2 (cfgM m hO).N := Pipeline.withArrays_arr spec0 (by decide) 0 (V0 m 0) _ 2
  have e2 : Pipeline.withArrays (Pipeline.pin pcfgs (fun x => adm m hO) 0).spec 0 (V0 m 0) (fun w => (dats m hO 0 0).arrAt w (Pipeline.pin pcfgs (fun x => adm m hO) 0).N) (Proc.tc.devRef main_arg1)
      = fun _ => BitVec.ofNat 32 p.val :=
    (Pipeline.withArrays_of_ne _ 0 (V0 m 0) _ main_arg1 (by exact (by decide : ∀ w, Pipeline.arrRef spec0 w ≠ main_arg1))).trans ((V_main_arg1 m 0).trans hn.2)
  unfold Pipeline.afterTail
  simp only [hostOps1, hostOps1_1, List.flatten_cons, List.flatten_nil, List.append_nil, List.cons_append, List.nil_append, StableHlo.TRef.ternary, StableHlo.TRef.toBuf, StableHlo.TRef.ofBuf, cast_eq]
  after_results
  funext y
  refine Eq.trans ?_ ((select_half (r := 1024) (n := 1028) p _ e2 rfl _ shapeCasts_S1_S_ bcast_S_S1024x1028 slices_S2048x1028_S1024x1028_0_0 slices_S2048x1028_S1024x1028_1024_0 y).trans
    ((congrFun e1 _).trans ((final m 0 hn hO _ ?_).trans (halfSum_half _ p q _ _ y _))))
  · exact rfl
  · show (p.val * 1024 + (y 0).val) / 1024 = p.val
    exact own_block p (y 0).isLt

end Value

theorem algebraic_sumMixIn : Cert.algebraic_SumMixInIdeal_SumMixInRefIdeal := by
  intro m g m' g' hpre hm
  obtain ⟨q, p, hn⟩ := place_of_tests _ _ (congrFun (hpre 0).1 (ix1 0)) (congrFun (hpre 0).2 (ix1 0))
  have hO := ok hn
  refine ⟨fun c => result m c q,
    (θ_run _ _ _).mono (fun r h c => ?_) (θ_run_and (Cert.SumMixInIdeal.Gen.run_main m g hO) (Cert.SumMixInIdeal.Gen.unchanged m g hO)),
    (θ_run _ _ _).mono (fun r h c => ?_) (Cert.SumMixInRefIdeal.Value.run m' g')⟩
  · exact ⟨((h.1 c).2 main_v6 (by decide : main_v6 ∈ Pipeline.restRefs sig spec0)).trans (returned m c hn hO (Subsingleton.elim _ _)), h.2 c⟩
  · obtain ⟨a, f⟩ := h c
    obtain ⟨e0, e1, e2, e3⟩ := hm c
    refine ⟨a.trans ?_, f⟩
    obtain rfl : c = 0 := Subsingleton.elim _ _
    rw [Cert.SumMixInRefIdeal.Read.val_main_v10_eq, e0, e2, e3]
    exact funext fun i => Cert.Ffn.SumMixInRef.ref_result _ _ _ q hn.1 i

end Cert.Ffn.SumMixIn
-- ==== Proof.SumMixOutClaim.lean ====
module

public import proofs.«01_k».proof.Proof.ChipSum
public import proofs.«01_k».proof.Proof.Gen.SumMixOut.Frame
public import proofs.«01_k».proof.Proof.Gen.SumMixOutIdeal.Frame
public import proofs.«01_k».proof.Proof.Gen.Pre_mix_out_place_named
public import proofs.«01_k».proof.Proof.Gen.SumMixOutRefIdeal.Run
public import proofs.«01_k».proof.Proof.Gen.SumMixOutRefIdeal.Read
public import proofs.«01_k».proof.Defs
public import Idealize.ShloMosaic.Lib.Pipeline.ReadBack

@[expose] public section

noncomputable section

namespace Cert.Ffn.SumMixOutRef

open Idealize.ShloMosaic Idealize.ShloMosaic.TcCoe
open Cert.SumMixOutRefIdeal Cert.SumMixOutRefIdeal.Gen Cert.SumMixOutRefIdeal.Read

theorem ref_result (x0 : S1.Idx → BitVec 32) (x2 : S4x256x2048.Idx → EReal) (x3 : S3x256x2048.Idx → EReal) (q : Fin 4) (h : x0 = fun _ => BitVec.ofNat 32 q.val) (i : S256x2048.Idx) :
    val_main_v10 (F := Ideal) x0 x2 x3 i = chipSum (r := 256) (n := 2048) x2 x3 q (i 0) (i 1) := by
  subst h
  rw [val_main_v10_apply, val_main_v7_apply, val_main_v9_apply]
  refine masked_sum_of x2 x3 q (i 0) (i 1) Ideal.ofBits_zero_f32 (fun k => ?_) Ideal.ofBits_zero_f32 (fun k => ?_)
  · pointwise [val_main_v6, val_main_call0_v1, val_main_v5, val_main_call0_v2, val_main_call0_v0, val_main_cst, val_main_v4, val_main_v3, val_main_v2, val_main_v1, val_main_v0]
    exact congrArg₂ (Scalar.select _) (congrArg x2 (funext fun a => by fin_cases a <;> rfl)) Ideal.ofBits_zero_f32
  · exact congrArg x3 (funext fun a => by fin_cases a <;> rfl)

end Cert.Ffn.SumMixOutRef

namespace Cert.Ffn.SumMixOut

open Cert.SumMixOutIdeal Cert.SumMixOutIdeal.Gen Idealize.ShloMosaic Idealize.ShloMosaic.TcCoe Idealize.SL.Sem
open Idealize.ShloMosaic.Pipeline (Dat)

section Table

variable {F : FTy → Type} [FloatOps F] (m : (ℓ : Loc nD τ sig) → Buf (Elt F) ℓ)

/-- The numbers of the chip and of the core the memory gives. -/
abbrev Named (q : Fin 4) (p : Fin 2) : Prop :=
  (m (((0 : Dev nD).tc : Thread nD τ).loc main_arg0) = fun _ => BitVec.ofNat 32 q.val) ∧ (m (((0 : Dev nD).tc : Thread nD τ).loc main_arg1) = fun _ => BitVec.ofNat 32 p.val)

theorem table (c : Dev nD) : V m c main_v0 = concatenate S2 0 [⟨S1, m ((c.tc : Thread nD τ).loc main_arg0)⟩, ⟨S1, m ((c.tc : Thread nD τ).loc main_arg1)⟩] concatenates_S1_S1_S2_d0 := by
  entry_read
  simp only [hostOps0, List.flatten_cons, List.flatten_nil, List.append_nil]
  after_results

variable {m} {q : Fin 4} {p : Fin 2} (hn : Named m q p)
include hn

theorem chip_index (i : grid0.Coords) : cc0_transform_0 (F := F) Gen.inb_S2_S1_0 Gen.numel1_S1 (tbl m) i = ![q.val, (i 0).val, 0] := by
  have h1 : (tbl m).at 0 (Rect.unit (s := S2) ![0] S1.size Gen.inb_S2_S1_0) Gen.numel1_S1 = BitVec.ofNat 32 q.val := by
    show V m 0 main_v0 _ = _
    rw [table, hn.1, hn.2]
    rfl
  have hi : (i 0).val < 1 := (i 0).isLt
  exact (congrArg (fun w : BitVec 32 => (![w.toNat, (BitVec.ofNat 32 (i 0).val).toNat, (0#32).toNat] : Fin 3 → Nat)) h1).trans (chip_words q _ (by omega))

theorem core_index (i : grid0.Coords) : cc0_transform_2 (F := F) Gen.inb_S2_S1_1 Gen.numel1_S1 (tbl m) i = ![p.val * 1 + (i 0).val, 0] := by
  have h1 : (tbl m).at 0 (Rect.unit (s := S2) ![1] S1.size Gen.inb_S2_S1_1) Gen.numel1_S1 = BitVec.ofNat 32 p.val := by
    show V m 0 main_v0 _ = _
    rw [table, hn.1, hn.2]
    rfl
  have hi : (i 0).val < 1 := (i 0).isLt
  exact (congrArg (fun w : BitVec 32 => (![(Scalar.addi (Scalar.muli w 1#32) (BitVec.ofNat 32 (i 0).val)).toNat, (0#32).toNat] : Fin 2 → Nat)) h1).trans
    (core_words p 1 _ (by omega) (by omega))

theorem ok : Ok m :=
  ⟨fun i => ⟨fun a => (congrArg (fun z : Fin 3 → Nat => (z a + 1) * S1x256x2048.size a) (chip_index hn i)).trans_le
      (chip_inside (R := 256) (n := 2048) (r := 256) q _ (by have : (i 0).val < 1 := (i 0).isLt; omega) a), .inr (Affine.block_words_dvd (of_decide_eq_true rfl) (by decide))⟩,
    fun i => ⟨fun a => (congrArg (fun z : Fin 2 → Nat => (z a + 1) * S256x2048.size a) (core_index hn i)).trans_le
      (core_inside (R := 256) (n := 2048) (N := 1) p _ (i 0).isLt rfl a), .inl rfl⟩⟩

end Table

theorem frame_sumMixOut : Cert.quiescent_SumMixOut := fun m ρ h => by
  obtain ⟨q, p, hn⟩ := place_of_tests _ _ (congrFun (h 0).1 (ix1 0)) (congrFun (h 0).2 (ix1 0))
  exact Cert.SumMixOut.Gen.frame m ρ (show Cert.SumMixOutIdeal.Gen.Ok (F := Bits) m from ok hn)

theorem frame_sumMixOutIdeal : Cert.quiescent_SumMixOutIdeal := fun m ρ h => by
  obtain ⟨q, p, hn⟩ := place_of_tests _ _ (congrFun (h 0).1 (ix1 0)) (congrFun (h 0).2 (ix1 0))
  exact Cert.SumMixOutIdeal.Gen.frame m ρ (ok hn)

section Value

variable (m : (ℓ : Loc nD τ sig) → Buf (Elt Ideal) ℓ) (c : Dev nD)

theorem out_eq (hO : Ok m) (t : Fin (cfgM m hO).N) : outsAt0 m hO c t = blockSum (r := 256) (n := 2048) (iblk m hO c 0 t) (iblk m hO c 1 t) := by
  unfold outsAt0
  frame_out
  rw [show View.read (Elt Ideal) (ms0_0 m hO t).view ((hs0_0 m hO t).unread (iblk m hO c 0 t)) = iblk m hO c 0 t from (hs0_0 m hO t).read_unread _,
    show View.read (Elt Ideal) (ms0_1 m hO t).view ((hs0_1 m hO t).unread (iblk m hO c 1 t)) = iblk m hO c 1 t from (hs0_1 m hO t).read_unread _]
  generalize iblk m hO c 0 t = x
  generalize iblk m hO c 1 t = o
  funext y
  pointwise [k0_pay1, blockSum]

/-- The array the region writes, the half of the core it runs on. -/
abbrev half (q : Fin 4) : S512x2048.Idx → EReal :=
  halfSum (r := 256) (n := 2048) (full := 512) (by decide) (m ((c.tc : Thread nD τ).loc main_arg2)) (m ((c.tc : Thread nD τ).loc main_arg3)) q

variable {q : Fin 4} {p : Fin 2} (hn : Named m q p)

theorem coords_val : ∀ t : Fin grid0.N, (grid0.coords t 0).val = t.val := by decide +kernel
theorem index1 : ∀ t : Fin grid0.N, cc0_transform_1 (grid0.coords t) = ![0, t.val, 0] := by decide +kernel
theorem flushes : ∀ (p : Fin 2) (t : Fin grid0.N), Pipeline.Window.flushOf grid0 true (fun i => ![p.val * 1 + (i 0).val, 0]) t = true := by decide +kernel

theorem block1 (hO : Ok m) (t : Fin (cfgM m hO).N) (k : Fin 3) (j : Fin 256) (l : Fin 2048) (a : Fin 256) (ha : a.val = t.val * 256 + j.val) :
    (iblk m hO c 1 t : S3x256x2048.Idx → EReal) (ix3 k j l) = m ((c.tc : Thread nD τ).loc main_arg3) (ix3 k a l) := by
  have h : ∀ a, (((((cfgM m hO).win 1).blk t).view.emb (ix3 k j l : S3x256x2048.Idx)) a).val = ((cfgM m hO).win 1).index t a * S3x256x2048.size a + (ix3 k j l a).val := fun a =>
    ValueKit.rect_emb_unit_val _ _ _ _ a
  exact (read_rows (V m c main_arg3) _ _ (index1 t) k _ _ h k (by omega) a ha).trans (congrFun (V_main_arg3 m c) _)

include hn

theorem index0 (hO : Ok m) (t : Fin (cfgM m hO).N) : ((cfgM m hO).win 0).index t = ![q.val, t.val, 0] :=
  (chip_index hn (grid0.coords t)).trans (by rw [coords_val])
theorem index2 (hO : Ok m) (t : Fin (cfgM m hO).N) : ((cfgM m hO).win 2).index t = ![p.val * 1 + t.val, 0] :=
  (core_index hn (grid0.coords t)).trans (by rw [coords_val])

theorem flush2 (hO : Ok m) (t : Fin (cfgM m hO).N) : ((cfgM m hO).win 2).flush t = true := by
  have h := flushes p t
  have e : (fun i : grid0.Coords => (![p.val * 1 + (i 0).val, 0] : Fin 2 → Nat)) = cc0_transform_2 (F := Ideal) Gen.inb_S2_S1_1 Gen.numel1_S1 (tbl m) := funext fun i => (core_index hn i).symm
  rw [e] at h
  exact h

theorem block0 (hO : Ok m) (t : Fin (cfgM m hO).N) (j : Fin 256) (l : Fin 2048) (a : Fin 256) (ha : a.val = t.val * 256 + j.val) :
    (iblk m hO c 0 t : S1x256x2048.Idx → EReal) (ix3 (0 : Fin 1) j l) = m ((c.tc : Thread nD τ).loc main_arg2) (ix3 q a l) := by
  have h : ∀ a, (((((cfgM m hO).win 0).blk t).view.emb (ix3 (0 : Fin 1) j l : S1x256x2048.Idx)) a).val = ((cfgM m hO).win 0).index t a * S1x256x2048.size a + (ix3 (0 : Fin 1) j l a).val := fun a =>
    ValueKit.rect_emb_unit_val _ _ _ _ a
  exact (read_rows (V m c main_arg2) _ _ (index0 m hn hO t) (0 : Fin 1) _ _ h q (Nat.mul_one _).symm a ha).trans (congrFun (V_main_arg2 m c) _)

/-- The block written is that of the core's half. -/
theorem covers (hO : Ok m) : ((cfgM m hO).win 2).CoversWhere (fun β => β (0 : Fin 2) / 1 = p.val) := by
  refine ⟨fun (a : Fin 2) => by fin_cases a <;> exact Nat.succ_pos _, fun t ht => ⟨?_, fun a => .inl rfl⟩, fun β hβ => ?_⟩
  · exact (congrArg (fun z : Fin 2 → Nat => z 0 / 1) (index2 m hn hO t)).trans (own_block p t.isLt)
  · have h1 : (β (1 : Fin 2)).val < (2048 + 2048 - 1) / 2048 := (β (1 : Fin 2)).isLt
    let t : Fin grid0.N := ⟨(β (0 : Fin 2)).val % 1, Nat.mod_lt _ (by omega)⟩
    refine ⟨t, fun (a : Fin 2) => (congrFun (index2 m hn hO t) a).trans ?_, flush2 m hn hO t⟩
    fin_cases a
    · exact own_block_of p hβ
    · exact (Nat.lt_one_iff.mp h1).symm

/-- The array after the region, in the core's half. -/
theorem final (hO : Ok m) (i : S512x2048.Idx) (hi : (i 0).val / 256 = p.val) : (dats m hO 0 c).arrAt 2 (cfgM m hO).N i = half m c q i := by
  refine ((dats m hO 0 c).arrAt_apply_of_coversWhere (P := fun i : S512x2048.Idx => (i 0).val / 256 = p.val) 2 (half m c q) (fun β => β (0 : Fin 2) / 1 = p.val) (covers m hn hO) (fun t ht y => ?_) (fun j => ?_) i).trans (if_pos hi)
  · have h : ∀ a, ((((cfgM m hO).win 2).blk t).view.emb y a).val = ((cfgM m hO).win 2).index t a * S256x2048.size a + (y a).val := fun a =>
      ValueKit.rect_emb_unit_val _ _ _ _ a
    blk_simp
    rw [after0_2, out_eq]
    exact halfSum_block (N := 1) _ p q rfl t.isLt y _ _ (index2 m hn hO t) h (fun a ha => block0 m c hn hO t _ _ a ha) (fun k a ha => block1 m c hO t k _ _ a ha)
  · show (j (0 : Fin 2)).val / 256 = p.val ↔ (j (0 : Fin 2)).val / 256 / 1 = p.val
    rw [Nat.div_div_eq_div_mul]

/-- What the program returns: the sum over the four chips of the core's half. -/
def result (q : Fin 4) : S256x2048.Idx → EReal := fun i =>
  chipSum (r := 256) (n := 2048) (m ((c.tc : Thread nD τ).loc main_arg2)) (m ((c.tc : Thread nD τ).loc main_arg3)) q (i 0) (i 1)

theorem returned (hO : Ok m) (hc : c = 0) : Pipeline.afterTail pcfgs (fun _ => adm m hO) (dats m hO) 0 (V0 m) [hostOps1, hostOps1_1] c main_v6 = result m c q := by
  subst hc
  have e1 : Pipeline.withArrays (Pipeline.pin pcfgs (fun x => adm m hO) 0).spec 0 (V0 m 0) (fun w => (dats m hO 0 0).arrAt w (Pipeline.pin pcfgs (fun x => adm m hO) 0).N) (Proc.tc.devRef main_v1)
      = (dats m hO 0 0).arrAt 2 (cfgM m hO).N := Pipeline.withArrays_arr spec0 (by decide) 0 (V0 m 0) _ 2
  have e2 : Pipeline.withArrays (Pipeline.pin pcfgs (fun x => adm m hO) 0).spec 0 (V0 m 0) (fun w => (dats m hO 0 0).arrAt w (Pipeline.pin pcfgs (fun x => adm m hO) 0).N) (Proc.tc.devRef main_arg1)
      = fun _ => BitVec.ofNat 32 p.val :=
    (Pipeline.withArrays_of_ne _ 0 (V0 m 0) _ main_arg1 (by exact (by decide : ∀ w, Pipeline.arrRef spec0 w ≠ main_arg1))).trans ((V_main_arg1 m 0).trans hn.2)
  unfold Pipeline.afterTail
  simp only [hostOps1, hostOps1_1, List.flatten_cons, List.flatten_nil, List.append_nil, List.cons_append, List.nil_append, StableHlo.TRef.ternary, StableHlo.TRef.toBuf, StableHlo.TRef.ofBuf, cast_eq]
  after_results
  funext y
  refine Eq.trans ?_ ((select_half (r := 256) (n := 2048) p _ e2 rfl _ shapeCasts_S1_S_ bcast_S_S256x2048 slices_S512x2048_S256x2048_0_0 slices_S512x2048_S256x2048_256_0 y).trans
    ((congrFun e1 _).trans ((final m 0 hn hO _ ?_).trans (halfSum_half _ p q _ _ y _))))
  · exact rfl
  · show (p.val * 256 + (y 0).val) / 256 = p.val
    exact own_block p (y 0).isLt

end Value

theorem algebraic_sumMixOut : Cert.algebraic_SumMixOutIdeal_SumMixOutRefIdeal := by
  intro m g m' g' hpre hm
  obtain ⟨q, p, hn⟩ := place_of_tests _ _ (congrFun (hpre 0).1 (ix1 0)) (congrFun (hpre 0).2 (ix1 0))
  have hO := ok hn
  refine ⟨fun c => result m c q,
    (θ_run _ _ _).mono (fun r h c => ?_) (θ_run_and (Cert.SumMixOutIdeal.Gen.run_main m g hO) (Cert.SumMixOutIdeal.Gen.unchanged m g hO)),
    (θ_run _ _ _).mono (fun r h c => ?_) (Cert.SumMixOutRefIdeal.Value.run m' g')⟩
  · exact ⟨((h.1 c).2 main_v6 (by decide : main_v6 ∈ Pipeline.restRefs sig spec0)).trans (returned m c hn hO (Subsingleton.elim _ _)), h.2 c⟩
  · obtain ⟨a, f⟩ := h c
    obtain ⟨e0, e1, e2, e3⟩ := hm c
    refine ⟨a.trans ?_, f⟩
    obtain rfl : c = 0 := Subsingleton.elim _ _
    rw [Cert.SumMixOutRefIdeal.Read.val_main_v10_eq, e0, e2, e3]
    exact funext fun i => Cert.Ffn.SumMixOutRef.ref_result _ _ _ q hn.1 i

end Cert.Ffn.SumMixOut
-- ==== Proof.SumPoolClaim.lean ====
module

public import proofs.«01_k».proof.Proof.ChipSum
public import proofs.«01_k».proof.Proof.Gen.SumPool.Frame
public import proofs.«01_k».proof.Proof.Gen.SumPoolIdeal.Frame
public import proofs.«01_k».proof.Proof.Gen.Pre_pool_place_named
public import proofs.«01_k».proof.Proof.Gen.SumPoolRefIdeal.Run
public import proofs.«01_k».proof.Proof.Gen.SumPoolRefIdeal.Read
public import proofs.«01_k».proof.Defs
public import Idealize.ShloMosaic.Lib.Pipeline.ReadBack

@[expose] public section

noncomputable section

namespace Cert.Ffn.SumPoolRef

open Idealize.ShloMosaic Idealize.ShloMosaic.TcCoe
open Cert.SumPoolRefIdeal Cert.SumPoolRefIdeal.Gen Cert.SumPoolRefIdeal.Read

theorem ref_result (x0 : S1.Idx → BitVec 32) (x2 : S4x128x256.Idx → EReal) (x3 : S3x128x256.Idx → EReal) (q : Fin 4) (h : x0 = fun _ => BitVec.ofNat 32 q.val) (i : S128x256.Idx) :
    val_main_v10 (F := Ideal) x0 x2 x3 i = chipSum (r := 128) (n := 256) x2 x3 q (i 0) (i 1) := by
  subst h
  rw [val_main_v10_apply, val_main_v7_apply, val_main_v9_apply]
  refine masked_sum_of x2 x3 q (i 0) (i 1) Ideal.ofBits_zero_f32 (fun k => ?_) Ideal.ofBits_zero_f32 (fun k => ?_)
  · pointwise [val_main_v6, val_main_call0_v1, val_main_v5, val_main_call0_v2, val_main_call0_v0, val_main_cst, val_main_v4, val_main_v3, val_main_v2, val_main_v1, val_main_v0]
    exact congrArg₂ (Scalar.select _) (congrArg x2 (funext fun a => by fin_cases a <;> rfl)) Ideal.ofBits_zero_f32
  · exact congrArg x3 (funext fun a => by fin_cases a <;> rfl)

end Cert.Ffn.SumPoolRef

namespace Cert.Ffn.SumPool

open Cert.SumPoolIdeal Cert.SumPoolIdeal.Gen Idealize.ShloMosaic Idealize.ShloMosaic.TcCoe Idealize.SL.Sem
open Idealize.ShloMosaic.Pipeline (Dat)

section Table

variable {F : FTy → Type} [FloatOps F] (m : (ℓ : Loc nD τ sig) → Buf (Elt F) ℓ)

/-- The numbers of the chip and of the core the memory gives. -/
abbrev Named (q : Fin 4) (p : Fin 2) : Prop :=
  (m (((0 : Dev nD).tc : Thread nD τ).loc main_arg0) = fun _ => BitVec.ofNat 32 q.val) ∧ (m (((0 : Dev nD).tc : Thread nD τ).loc main_arg1) = fun _ => BitVec.ofNat 32 p.val)

theorem table (c : Dev nD) : V m c main_v0 = concatenate S2 0 [⟨S1, m ((c.tc : Thread nD τ).loc main_arg0)⟩, ⟨S1, m ((c.tc : Thread nD τ).loc main_arg1)⟩] concatenates_S1_S1_S2_d0 := by
  entry_read
  simp only [hostOps0, List.flatten_cons, List.flatten_nil, List.append_nil]
  after_results

variable {m} {q : Fin 4} {p : Fin 2} (hn : Named m q p)
include hn

theorem chip_index (i : grid0.Coords) : cc0_transform_0 (F := F) Gen.inb_S2_S1_0 Gen.numel1_S1 (tbl m) i = ![q.val, (i 0).val, 0] := by
  have h1 : (tbl m).at 0 (Rect.unit (s := S2) ![0] S1.size Gen.inb_S2_S1_0) Gen.numel1_S1 = BitVec.ofNat 32 q.val := by
    show V m 0 main_v0 _ = _
    rw [table, hn.1, hn.2]
    rfl
  have hi : (i 0).val < 1 := (i 0).isLt
  exact (congrArg (fun w : BitVec 32 => (![w.toNat, (BitVec.ofNat 32 (i 0).val).toNat, (0#32).toNat] : Fin 3 → Nat)) h1).trans (chip_words q _ (by omega))

theorem core_index (i : grid0.Coords) : cc0_transform_2 (F := F) Gen.inb_S2_S1_1 Gen.numel1_S1 (tbl m) i = ![p.val * 1 + (i 0).val, 0] := by
  have h1 : (tbl m).at 0 (Rect.unit (s := S2) ![1] S1.size Gen.inb_S2_S1_1) Gen.numel1_S1 = BitVec.ofNat 32 p.val := by
    show V m 0 main_v0 _ = _
    rw [table, hn.1, hn.2]
    rfl
  have hi : (i 0).val < 1 := (i 0).isLt
  exact (congrArg (fun w : BitVec 32 => (![(Scalar.addi (Scalar.muli w 1#32) (BitVec.ofNat 32 (i 0).val)).toNat, (0#32).toNat] : Fin 2 → Nat)) h1).trans
    (core_words p 1 _ (by omega) (by omega))

theorem ok : Ok m :=
  ⟨fun i => ⟨fun a => (congrArg (fun z : Fin 3 → Nat => (z a + 1) * S1x128x256.size a) (chip_index hn i)).trans_le
      (chip_inside (R := 128) (n := 256) (r := 128) q _ (by have : (i 0).val < 1 := (i 0).isLt; omega) a), .inr (Affine.block_words_dvd (of_decide_eq_true rfl) (by decide))⟩,
    fun i => ⟨fun a => (congrArg (fun z : Fin 2 → Nat => (z a + 1) * S128x256.size a) (core_index hn i)).trans_le
      (core_inside (R := 128) (n := 256) (N := 1) p _ (i 0).isLt rfl a), .inl rfl⟩⟩

end Table

theorem frame_sumPool : Cert.quiescent_SumPool := fun m ρ h => by
  obtain ⟨q, p, hn⟩ := place_of_tests _ _ (congrFun (h 0).1 (ix1 0)) (congrFun (h 0).2 (ix1 0))
  exact Cert.SumPool.Gen.frame m ρ (show Cert.SumPoolIdeal.Gen.Ok (F := Bits) m from ok hn)

theorem frame_sumPoolIdeal : Cert.quiescent_SumPoolIdeal := fun m ρ h => by
  obtain ⟨q, p, hn⟩ := place_of_tests _ _ (congrFun (h 0).1 (ix1 0)) (congrFun (h 0).2 (ix1 0))
  exact Cert.SumPoolIdeal.Gen.frame m ρ (ok hn)

section Value

variable (m : (ℓ : Loc nD τ sig) → Buf (Elt Ideal) ℓ) (c : Dev nD)

theorem out_eq (hO : Ok m) (t : Fin (cfgM m hO).N) : outsAt0 m hO c t = blockSum (r := 128) (n := 256) (iblk m hO c 0 t) (iblk m hO c 1 t) := by
  unfold outsAt0
  frame_out
  rw [show View.read (Elt Ideal) (ms0_0 m hO t).view ((hs0_0 m hO t).unread (iblk m hO c 0 t)) = iblk m hO c 0 t from (hs0_0 m hO t).read_unread _,
    show View.read (Elt Ideal) (ms0_1 m hO t).view ((hs0_1 m hO t).unread (iblk m hO c 1 t)) = iblk m hO c 1 t from (hs0_1 m hO t).read_unread _]
  generalize iblk m hO c 0 t = x
  generalize iblk m hO c 1 t = o
  funext y
  pointwise [k0_pay1, blockSum]

/-- The array the region writes, the half of the core it runs on. -/
abbrev half (q : Fin 4) : S256x256.Idx → EReal :=
  halfSum (r := 128) (n := 256) (full := 256) (by decide) (m ((c.tc : Thread nD τ).loc main_arg2)) (m ((c.tc : Thread nD τ).loc main_arg3)) q

variable {q : Fin 4} {p : Fin 2} (hn : Named m q p)

theorem coords_val : ∀ t : Fin grid0.N, (grid0.coords t 0).val = t.val := by decide +kernel
theorem index1 : ∀ t : Fin grid0.N, cc0_transform_1 (grid0.coords t) = ![0, t.val, 0] := by decide +kernel
theorem flushes : ∀ (p : Fin 2) (t : Fin grid0.N), Pipeline.Window.flushOf grid0 true (fun i => ![p.val * 1 + (i 0).val, 0]) t = true := by decide +kernel

theorem block1 (hO : Ok m) (t : Fin (cfgM m hO).N) (k : Fin 3) (j : Fin 128) (l : Fin 256) (a : Fin 128) (ha : a.val = t.val * 128 + j.val) :
    (iblk m hO c 1 t : S3x128x256.Idx → EReal) (ix3 k j l) = m ((c.tc : Thread nD τ).loc main_arg3) (ix3 k a l) := by
  have h : ∀ a, (((((cfgM m hO).win 1).blk t).view.emb (ix3 k j l : S3x128x256.Idx)) a).val = ((cfgM m hO).win 1).index t a * S3x128x256.size a + (ix3 k j l a).val := fun a =>
    ValueKit.rect_emb_unit_val _ _ _ _ a
  exact (read_rows (V m c main_arg3) _ _ (index1 t) k _ _ h k (by omega) a ha).trans (congrFun (V_main_arg3 m c) _)

include hn

theorem index0 (hO : Ok m) (t : Fin (cfgM m hO).N) : ((cfgM m hO).win 0).index t = ![q.val, t.val, 0] :=
  (chip_index hn (grid0.coords t)).trans (by rw [coords_val])
theorem index2 (hO : Ok m) (t : Fin (cfgM m hO).N) : ((cfgM m hO).win 2).index t = ![p.val * 1 + t.val, 0] :=
  (core_index hn (grid0.coords t)).trans (by rw [coords_val])

theorem flush2 (hO : Ok m) (t : Fin (cfgM m hO).N) : ((cfgM m hO).win 2).flush t = true := by
  have h := flushes p t
  have e : (fun i : grid0.Coords => (![p.val * 1 + (i 0).val, 0] : Fin 2 → Nat)) = cc0_transform_2 (F := Ideal) Gen.inb_S2_S1_1 Gen.numel1_S1 (tbl m) := funext fun i => (core_index hn i).symm
  rw [e] at h
  exact h

theorem block0 (hO : Ok m) (t : Fin (cfgM m hO).N) (j : Fin 128) (l : Fin 256) (a : Fin 128) (ha : a.val = t.val * 128 + j.val) :
    (iblk m hO c 0 t : S1x128x256.Idx → EReal) (ix3 (0 : Fin 1) j l) = m ((c.tc : Thread nD τ).loc main_arg2) (ix3 q a l) := by
  have h : ∀ a, (((((cfgM m hO).win 0).blk t).view.emb (ix3 (0 : Fin 1) j l : S1x128x256.Idx)) a).val = ((cfgM m hO).win 0).index t a * S1x128x256.size a + (ix3 (0 : Fin 1) j l a).val := fun a =>
    ValueKit.rect_emb_unit_val _ _ _ _ a
  exact (read_rows (V m c main_arg2) _ _ (index0 m hn hO t) (0 : Fin 1) _ _ h q (Nat.mul_one _).symm a ha).trans (congrFun (V_main_arg2 m c) _)

/-- The block written is that of the core's half. -/
theorem covers (hO : Ok m) : ((cfgM m hO).win 2).CoversWhere (fun β => β (0 : Fin 2) / 1 = p.val) := by
  refine ⟨fun (a : Fin 2) => by fin_cases a <;> exact Nat.succ_pos _, fun t ht => ⟨?_, fun a => .inl rfl⟩, fun β hβ => ?_⟩
  · exact (congrArg (fun z : Fin 2 → Nat => z 0 / 1) (index2 m hn hO t)).trans (own_block p t.isLt)
  · have h1 : (β (1 : Fin 2)).val < (256 + 256 - 1) / 256 := (β (1 : Fin 2)).isLt
    let t : Fin grid0.N := ⟨(β (0 : Fin 2)).val % 1, Nat.mod_lt _ (by omega)⟩
    refine ⟨t, fun (a : Fin 2) => (congrFun (index2 m hn hO t) a).trans ?_, flush2 m hn hO t⟩
    fin_cases a
    · exact own_block_of p hβ
    · exact (Nat.lt_one_iff.mp h1).symm

/-- The array after the region, in the core's half. -/
theorem final (hO : Ok m) (i : S256x256.Idx) (hi : (i 0).val / 128 = p.val) : (dats m hO 0 c).arrAt 2 (cfgM m hO).N i = half m c q i := by
  refine ((dats m hO 0 c).arrAt_apply_of_coversWhere (P := fun i : S256x256.Idx => (i 0).val / 128 = p.val) 2 (half m c q) (fun β => β (0 : Fin 2) / 1 = p.val) (covers m hn hO) (fun t ht y => ?_) (fun j => ?_) i).trans (if_pos hi)
  · have h : ∀ a, ((((cfgM m hO).win 2).blk t).view.emb y a).val = ((cfgM m hO).win 2).index t a * S128x256.size a + (y a).val := fun a =>
      ValueKit.rect_emb_unit_val _ _ _ _ a
    blk_simp
    rw [after0_2, out_eq]
    exact halfSum_block (N := 1) _ p q rfl t.isLt y _ _ (index2 m hn hO t) h (fun a ha => block0 m c hn hO t _ _ a ha) (fun k a ha => block1 m c hO t k _ _ a ha)
  · show (j (0 : Fin 2)).val / 128 = p.val ↔ (j (0 : Fin 2)).val / 128 / 1 = p.val
    rw [Nat.div_div_eq_div_mul]

/-- What the program returns: the sum over the four chips of the core's half. -/
def result (q : Fin 4) : S128x256.Idx → EReal := fun i =>
  chipSum (r := 128) (n := 256) (m ((c.tc : Thread nD τ).loc main_arg2)) (m ((c.tc : Thread nD τ).loc main_arg3)) q (i 0) (i 1)

theorem returned (hO : Ok m) (hc : c = 0) : Pipeline.afterTail pcfgs (fun _ => adm m hO) (dats m hO) 0 (V0 m) [hostOps1, hostOps1_1] c main_v6 = result m c q := by
  subst hc
  have e1 : Pipeline.withArrays (Pipeline.pin pcfgs (fun x => adm m hO) 0).spec 0 (V0 m 0) (fun w => (dats m hO 0 0).arrAt w (Pipeline.pin pcfgs (fun x => adm m hO) 0).N) (Proc.tc.devRef main_v1)
      = (dats m hO 0 0).arrAt 2 (cfgM m hO).N := Pipeline.withArrays_arr spec0 (by decide) 0 (V0 m 0) _ 2
  have e2 : Pipeline.withArrays (Pipeline.pin pcfgs (fun x => adm m hO) 0).spec 0 (V0 m 0) (fun w => (dats m hO 0 0).arrAt w (Pipeline.pin pcfgs (fun x => adm m hO) 0).N) (Proc.tc.devRef main_arg1)
      = fun _ => BitVec.ofNat 32 p.val :=
    (Pipeline.withArrays_of_ne _ 0 (V0 m 0) _ main_arg1 (by exact (by decide : ∀ w, Pipeline.arrRef spec0 w ≠ main_arg1))).trans ((V_main_arg1 m 0).trans hn.2)
  unfold Pipeline.afterTail
  simp only [hostOps1, hostOps1_1, List.flatten_cons, List.flatten_nil, List.append_nil, List.cons_append, List.nil_append, StableHlo.TRef.ternary, StableHlo.TRef.toBuf, StableHlo.TRef.ofBuf, cast_eq]
  after_results
  funext y
  refine Eq.trans ?_ ((select_half (r := 128) (n := 256) p _ e2 rfl _ shapeCasts_S1_S_ bcast_S_S128x256 slices_S256x256_S128x256_0_0 slices_S256x256_S128x256_128_0 y).trans
    ((congrFun e1 _).trans ((final m 0 hn hO _ ?_).trans (halfSum_half _ p q _ _ y _))))
  · exact rfl
  · show (p.val * 128 + (y 0).val) / 128 = p.val
    exact own_block p (y 0).isLt

end Value

theorem algebraic_sumPool : Cert.algebraic_SumPoolIdeal_SumPoolRefIdeal := by
  intro m g m' g' hpre hm
  obtain ⟨q, p, hn⟩ := place_of_tests _ _ (congrFun (hpre 0).1 (ix1 0)) (congrFun (hpre 0).2 (ix1 0))
  have hO := ok hn
  refine ⟨fun c => result m c q,
    (θ_run _ _ _).mono (fun r h c => ?_) (θ_run_and (Cert.SumPoolIdeal.Gen.run_main m g hO) (Cert.SumPoolIdeal.Gen.unchanged m g hO)),
    (θ_run _ _ _).mono (fun r h c => ?_) (Cert.SumPoolRefIdeal.Value.run m' g')⟩
  · exact ⟨((h.1 c).2 main_v6 (by decide : main_v6 ∈ Pipeline.restRefs sig spec0)).trans (returned m c hn hO (Subsingleton.elim _ _)), h.2 c⟩
  · obtain ⟨a, f⟩ := h c
    obtain ⟨e0, e1, e2, e3⟩ := hm c
    refine ⟨a.trans ?_, f⟩
    obtain rfl : c = 0 := Subsingleton.elim _ _
    rw [Cert.SumPoolRefIdeal.Read.val_main_v10_eq, e0, e2, e3]
    exact funext fun i => Cert.Ffn.SumPoolRef.ref_result _ _ _ q hn.1 i

end Cert.Ffn.SumPool
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Norm
public import proofs.«01_k».proof.Proof.Gen.Norm.Skeleton
public import proofs.«01_k».proof.Proof.Gen.Norm.Loops
public import proofs.«01_k».proof.Proof.Gen.Norm.Launch
public import proofs.«01_k».proof.Proof.Gen.Norm.Points
public import proofs.«01_k».proof.Proof.Gen.Norm.Frame
public import proofs.«01_k».proof.Proof.Gen.NormIdeal
public import proofs.«01_k».proof.Proof.Gen.NormIdeal.Skeleton
public import proofs.«01_k».proof.Proof.Gen.NormIdeal.Loops
public import proofs.«01_k».proof.Proof.Gen.NormIdeal.Launch
public import proofs.«01_k».proof.Proof.Gen.NormIdeal.Points
public import proofs.«01_k».proof.Proof.Gen.NormIdeal.Frame
public import proofs.«01_k».proof.Proof.Gen.NormRefIdeal
public import proofs.«01_k».proof.Proof.Gen.Down
public import proofs.«01_k».proof.Proof.Gen.Down.Skeleton
public import proofs.«01_k».proof.Proof.Gen.Down.Launch
public import proofs.«01_k».proof.Proof.Gen.Down.Points
public import proofs.«01_k».proof.Proof.Gen.Down.Frame
public import proofs.«01_k».proof.Proof.Gen.DownIdeal
public import proofs.«01_k».proof.Proof.Gen.DownIdeal.Skeleton
public import proofs.«01_k».proof.Proof.Gen.DownIdeal.Launch
public import proofs.«01_k».proof.Proof.Gen.DownIdeal.Points
public import proofs.«01_k».proof.Proof.Gen.DownIdeal.Frame
public import proofs.«01_k».proof.Proof.Gen.DownRefIdeal
public import proofs.«01_k».proof.Proof.Gen.Sent
public import proofs.«01_k».proof.Proof.Gen.Sent.Skeleton
public import proofs.«01_k».proof.Proof.Gen.Sent.Launch
public import proofs.«01_k».proof.Proof.Gen.Sent.Points
public import proofs.«01_k».proof.Proof.Gen.Sent.Frame
public import proofs.«01_k».proof.Proof.Gen.SentIdeal
public import proofs.«01_k».proof.Proof.Gen.SentIdeal.Skeleton
public import proofs.«01_k».proof.Proof.Gen.SentIdeal.Launch
public import proofs.«01_k».proof.Proof.Gen.SentIdeal.Points
public import proofs.«01_k».proof.Proof.Gen.SentIdeal.Frame
public import proofs.«01_k».proof.Proof.Gen.SentRefIdeal
public import proofs.«01_k».proof.Proof.Gen.Kept
public import proofs.«01_k».proof.Proof.Gen.Kept.Skeleton
public import proofs.«01_k».proof.Proof.Gen.Kept.Launch
public import proofs.«01_k».proof.Proof.Gen.Kept.Points
public import proofs.«01_k».proof.Proof.Gen.Kept.Frame
public import proofs.«01_k».proof.Proof.Gen.KeptIdeal
public import proofs.«01_k».proof.Proof.Gen.KeptIdeal.Skeleton
public import proofs.«01_k».proof.Proof.Gen.KeptIdeal.Launch
public import proofs.«01_k».proof.Proof.Gen.KeptIdeal.Points
public import proofs.«01_k».proof.Proof.Gen.KeptIdeal.Frame
public import proofs.«01_k».proof.Proof.Gen.KeptRefIdeal
public import proofs.«01_k».proof.Proof.Gen.Gla
public import proofs.«01_k».proof.Proof.Gen.Gla.Skeleton
public import proofs.«01_k».proof.Proof.Gen.Gla.Launch
public import proofs.«01_k».proof.Proof.Gen.Gla.Points
public import proofs.«01_k».proof.Proof.Gen.Gla.Frame
public import proofs.«01_k».proof.Proof.Gen.GlaIdeal
public import proofs.«01_k».proof.Proof.Gen.GlaIdeal.Skeleton
public import proofs.«01_k».proof.Proof.Gen.GlaIdeal.Launch
public import proofs.«01_k».proof.Proof.Gen.GlaIdeal.Points
public import proofs.«01_k».proof.Proof.Gen.GlaIdeal.Frame
public import proofs.«01_k».proof.Proof.Gen.AdamUp
public import proofs.«01_k».proof.Proof.Gen.AdamUp.Skeleton
public import proofs.«01_k».proof.Proof.Gen.AdamUp.Launch
public import proofs.«01_k».proof.Proof.Gen.AdamUp.Points
public import proofs.«01_k».proof.Proof.Gen.AdamUp.Frame
public import proofs.«01_k».proof.Proof.Gen.AdamUpIdeal
public import proofs.«01_k».proof.Proof.Gen.AdamUpIdeal.Skeleton
public import proofs.«01_k».proof.Proof.Gen.AdamUpIdeal.Launch
public import proofs.«01_k».proof.Proof.Gen.AdamUpIdeal.Points
public import proofs.«01_k».proof.Proof.Gen.AdamUpIdeal.Frame
public import proofs.«01_k».proof.Proof.Gen.AdamUpIdeal.Value
public import proofs.«01_k».proof.Proof.Gen.AdamUpRefIdeal
public import proofs.«01_k».proof.Proof.Gen.AdamUpRefIdeal.Run
public import proofs.«01_k».proof.Proof.Gen.AdamUpRefIdeal.Read
public import proofs.«01_k».proof.Proof.Gen.AdamDown
public import proofs.«01_k».proof.Proof.Gen.AdamDown.Skeleton
public import proofs.«01_k».proof.Proof.Gen.AdamDown.Launch
public import proofs.«01_k».proof.Proof.Gen.AdamDown.Points
public import proofs.«01_k».proof.Proof.Gen.AdamDown.Frame
public import proofs.«01_k».proof.Proof.Gen.AdamDownIdeal
public import proofs.«01_k».proof.Proof.Gen.AdamDownIdeal.Skeleton
public import proofs.«01_k».proof.Proof.Gen.AdamDownIdeal.Launch
public import proofs.«01_k».proof.Proof.Gen.AdamDownIdeal.Points
public import proofs.«01_k».proof.Proof.Gen.AdamDownIdeal.Frame
public import proofs.«01_k».proof.Proof.Gen.AdamDownIdeal.Value
public import proofs.«01_k».proof.Proof.Gen.AdamDownRefIdeal
public import proofs.«01_k».proof.Proof.Gen.AdamDownRefIdeal.Run
public import proofs.«01_k».proof.Proof.Gen.AdamDownRefIdeal.Read
public import proofs.«01_k».proof.Proof.Gen.AdamGain
public import proofs.«01_k».proof.Proof.Gen.AdamGain.Skeleton
public import proofs.«01_k».proof.Proof.Gen.AdamGain.Launch
public import proofs.«01_k».proof.Proof.Gen.AdamGain.Points
public import proofs.«01_k».proof.Proof.Gen.AdamGain.Frame
public import proofs.«01_k».proof.Proof.Gen.AdamGainIdeal
public import proofs.«01_k».proof.Proof.Gen.AdamGainIdeal.Skeleton
public import proofs.«01_k».proof.Proof.Gen.AdamGainIdeal.Launch
public import proofs.«01_k».proof.Proof.Gen.AdamGainIdeal.Points
public import proofs.«01_k».proof.Proof.Gen.AdamGainIdeal.Frame
public import proofs.«01_k».proof.Proof.Gen.AdamGainIdeal.Value
public import proofs.«01_k».proof.Proof.Gen.AdamGainRefIdeal
public import proofs.«01_k».proof.Proof.Gen.AdamGainRefIdeal.Run
public import proofs.«01_k».proof.Proof.Gen.AdamGainRefIdeal.Read
public import proofs.«01_k».proof.Proof.Gen.AdamMixIn
public import proofs.«01_k».proof.Proof.Gen.AdamMixIn.Skeleton
public import proofs.«01_k».proof.Proof.Gen.AdamMixIn.Launch
public import proofs.«01_k».proof.Proof.Gen.AdamMixIn.Points
public import proofs.«01_k».proof.Proof.Gen.AdamMixIn.Frame
public import proofs.«01_k».proof.Proof.Gen.AdamMixInIdeal
public import proofs.«01_k».proof.Proof.Gen.AdamMixInIdeal.Skeleton
public import proofs.«01_k».proof.Proof.Gen.AdamMixInIdeal.Launch
public import proofs.«01_k».proof.Proof.Gen.AdamMixInIdeal.Points
public import proofs.«01_k».proof.Proof.Gen.AdamMixInIdeal.Frame
public import proofs.«01_k».proof.Proof.Gen.AdamMixInIdeal.Value
public import proofs.«01_k».proof.Proof.Gen.AdamMixInRefIdeal
public import proofs.«01_k».proof.Proof.Gen.AdamMixInRefIdeal.Run
public import proofs.«01_k».proof.Proof.Gen.AdamMixInRefIdeal.Read
public import proofs.«01_k».proof.Proof.Gen.AdamMixOut
public import proofs.«01_k».proof.Proof.Gen.AdamMixOut.Skeleton
public import proofs.«01_k».proof.Proof.Gen.AdamMixOut.Launch
public import proofs.«01_k».proof.Proof.Gen.AdamMixOut.Points
public import proofs.«01_k».proof.Proof.Gen.AdamMixOut.Frame
public import proofs.«01_k».proof.Proof.Gen.AdamMixOutIdeal
public import proofs.«01_k».proof.Proof.Gen.AdamMixOutIdeal.Skeleton
public import proofs.«01_k».proof.Proof.Gen.AdamMixOutIdeal.Launch
public import proofs.«01_k».proof.Proof.Gen.AdamMixOutIdeal.Points
public import proofs.«01_k».proof.Proof.Gen.AdamMixOutIdeal.Frame
public import proofs.«01_k».proof.Proof.Gen.AdamMixOutIdeal.Value
public import proofs.«01_k».proof.Proof.Gen.AdamMixOutRefIdeal
public import proofs.«01_k».proof.Proof.Gen.AdamMixOutRefIdeal.Run
public import proofs.«01_k».proof.Proof.Gen.AdamMixOutRefIdeal.Read
public import proofs.«01_k».proof.Proof.Gen.AdamPool
public import proofs.«01_k».proof.Proof.Gen.AdamPool.Skeleton
public import proofs.«01_k».proof.Proof.Gen.AdamPool.Launch
public import proofs.«01_k».proof.Proof.Gen.AdamPool.Points
public import proofs.«01_k».proof.Proof.Gen.AdamPool.Frame
public import proofs.«01_k».proof.Proof.Gen.AdamPoolIdeal
public import proofs.«01_k».proof.Proof.Gen.AdamPoolIdeal.Skeleton
public import proofs.«01_k».proof.Proof.Gen.AdamPoolIdeal.Launch
public import proofs.«01_k».proof.Proof.Gen.AdamPoolIdeal.Points
public import proofs.«01_k».proof.Proof.Gen.AdamPoolIdeal.Frame
public import proofs.«01_k».proof.Proof.Gen.AdamPoolIdeal.Value
public import proofs.«01_k».proof.Proof.Gen.AdamPoolRefIdeal
public import proofs.«01_k».proof.Proof.Gen.AdamPoolRefIdeal.Run
public import proofs.«01_k».proof.Proof.Gen.AdamPoolRefIdeal.Read
public import proofs.«01_k».proof.Proof.Gen.AdamScale
public import proofs.«01_k».proof.Proof.Gen.AdamScale.Skeleton
public import proofs.«01_k».proof.Proof.Gen.AdamScale.Launch
public import proofs.«01_k».proof.Proof.Gen.AdamScale.Points
public import proofs.«01_k».proof.Proof.Gen.AdamScale.Frame
public import proofs.«01_k».proof.Proof.Gen.AdamScaleIdeal
public import proofs.«01_k».proof.Proof.Gen.AdamScaleIdeal.Skeleton
public import proofs.«01_k».proof.Proof.Gen.AdamScaleIdeal.Launch
public import proofs.«01_k».proof.Proof.Gen.AdamScaleIdeal.Points
public import proofs.«01_k».proof.Proof.Gen.AdamScaleIdeal.Frame
public import proofs.«01_k».proof.Proof.Gen.AdamScaleIdeal.Value
public import proofs.«01_k».proof.Proof.Gen.AdamScaleRefIdeal
public import proofs.«01_k».proof.Proof.Gen.AdamScaleRefIdeal.Run
public import proofs.«01_k».proof.Proof.Gen.AdamScaleRefIdeal.Read
public import proofs.«01_k».proof.Proof.Gen.AdamAlpha
public import proofs.«01_k».proof.Proof.Gen.AdamAlpha.Skeleton
public import proofs.«01_k».proof.Proof.Gen.AdamAlpha.Launch
public import proofs.«01_k».proof.Proof.Gen.AdamAlpha.Points
public import proofs.«01_k».proof.Proof.Gen.AdamAlpha.Frame
public import proofs.«01_k».proof.Proof.Gen.AdamAlphaIdeal
public import proofs.«01_k».proof.Proof.Gen.AdamAlphaIdeal.Skeleton
public import proofs.«01_k».proof.Proof.Gen.AdamAlphaIdeal.Launch
public import proofs.«01_k».proof.Proof.Gen.AdamAlphaIdeal.Points
public import proofs.«01_k».proof.Proof.Gen.AdamAlphaIdeal.Frame
public import proofs.«01_k».proof.Proof.Gen.AdamAlphaIdeal.Value
public import proofs.«01_k».proof.Proof.Gen.AdamAlphaRefIdeal
public import proofs.«01_k».proof.Proof.Gen.AdamAlphaRefIdeal.Run
public import proofs.«01_k».proof.Proof.Gen.AdamAlphaRefIdeal.Read
public import proofs.«01_k».proof.Proof.Gen.AdamBias
public import proofs.«01_k».proof.Proof.Gen.AdamBias.Skeleton
public import proofs.«01_k».proof.Proof.Gen.AdamBias.Launch
public import proofs.«01_k».proof.Proof.Gen.AdamBias.Points
public import proofs.«01_k».proof.Proof.Gen.AdamBias.Frame
public import proofs.«01_k».proof.Proof.Gen.AdamBiasIdeal
public import proofs.«01_k».proof.Proof.Gen.AdamBiasIdeal.Skeleton
public import proofs.«01_k».proof.Proof.Gen.AdamBiasIdeal.Launch
public import proofs.«01_k».proof.Proof.Gen.AdamBiasIdeal.Points
public import proofs.«01_k».proof.Proof.Gen.AdamBiasIdeal.Frame
public import proofs.«01_k».proof.Proof.Gen.AdamBiasIdeal.Value
public import proofs.«01_k».proof.Proof.Gen.AdamBiasRefIdeal
public import proofs.«01_k».proof.Proof.Gen.AdamBiasRefIdeal.Run
public import proofs.«01_k».proof.Proof.Gen.AdamBiasRefIdeal.Read
public import proofs.«01_k».proof.Proof.Gen.AdamHead
public import proofs.«01_k».proof.Proof.Gen.AdamHead.Skeleton
public import proofs.«01_k».proof.Proof.Gen.AdamHead.Launch
public import proofs.«01_k».proof.Proof.Gen.AdamHead.Points
public import proofs.«01_k».proof.Proof.Gen.AdamHead.Frame
public import proofs.«01_k».proof.Proof.Gen.AdamHeadIdeal
public import proofs.«01_k».proof.Proof.Gen.AdamHeadIdeal.Skeleton
public import proofs.«01_k».proof.Proof.Gen.AdamHeadIdeal.Launch
public import proofs.«01_k».proof.Proof.Gen.AdamHeadIdeal.Points
public import proofs.«01_k».proof.Proof.Gen.AdamHeadIdeal.Frame
public import proofs.«01_k».proof.Proof.Gen.AdamHeadIdeal.Value
public import proofs.«01_k».proof.Proof.Gen.AdamHeadRefIdeal
public import proofs.«01_k».proof.Proof.Gen.AdamHeadRefIdeal.Run
public import proofs.«01_k».proof.Proof.Gen.AdamHeadRefIdeal.Read
public import proofs.«01_k».proof.Proof.Gen.Pre_finite
public import proofs.«01_k».proof.Proof.Gen.Pre_core_named
public import proofs.«01_k».proof.Proof.Gen.Pre_own_core_named
public import proofs.«01_k».proof.Proof.Gen.Small
public import proofs.«01_k».proof.Proof.Gen.Small.Skeleton
public import proofs.«01_k».proof.Proof.Gen.Small.Launch
public import proofs.«01_k».proof.Proof.Gen.Small.Points
public import proofs.«01_k».proof.Proof.Gen.Small.Frame
public import proofs.«01_k».proof.Proof.Gen.SmallIdeal
public import proofs.«01_k».proof.Proof.Gen.SmallIdeal.Skeleton
public import proofs.«01_k».proof.Proof.Gen.SmallIdeal.Launch
public import proofs.«01_k».proof.Proof.Gen.SmallIdeal.Points
public import proofs.«01_k».proof.Proof.Gen.SmallIdeal.Frame
public import proofs.«01_k».proof.Proof.Gen.SmallIdeal.Value
public import proofs.«01_k».proof.Proof.Gen.SmallRefIdeal
public import proofs.«01_k».proof.Proof.Gen.SmallRefIdeal.Run
public import proofs.«01_k».proof.Proof.Gen.SmallRefIdeal.Read
public import proofs.«01_k».proof.Proof.Gen.Pre_up_place_named
public import proofs.«01_k».proof.Proof.Gen.Pre_out_place_named
public import proofs.«01_k».proof.Proof.Gen.Pre_mix_in_place_named
public import proofs.«01_k».proof.Proof.Gen.Pre_mix_out_place_named
public import proofs.«01_k».proof.Proof.Gen.Pre_pool_place_named
public import proofs.«01_k».proof.Proof.Gen.SumUp
public import proofs.«01_k».proof.Proof.Gen.SumUp.Skeleton
public import proofs.«01_k».proof.Proof.Gen.SumUp.Launch
public import proofs.«01_k».proof.Proof.Gen.SumUp.Points
public import proofs.«01_k».proof.Proof.Gen.SumUp.Frame
public import proofs.«01_k».proof.Proof.Gen.SumUpIdeal
public import proofs.«01_k».proof.Proof.Gen.SumUpIdeal.Skeleton
public import proofs.«01_k».proof.Proof.Gen.SumUpIdeal.Launch
public import proofs.«01_k».proof.Proof.Gen.SumUpIdeal.Points
public import proofs.«01_k».proof.Proof.Gen.SumUpIdeal.Frame
public import proofs.«01_k».proof.Proof.Gen.SumUpRefIdeal
public import proofs.«01_k».proof.Proof.Gen.SumUpRefIdeal.Run
public import proofs.«01_k».proof.Proof.Gen.SumUpRefIdeal.Read
public import proofs.«01_k».proof.Proof.Gen.SumOut
public import proofs.«01_k».proof.Proof.Gen.SumOut.Skeleton
public import proofs.«01_k».proof.Proof.Gen.SumOut.Launch
public import proofs.«01_k».proof.Proof.Gen.SumOut.Points
public import proofs.«01_k».proof.Proof.Gen.SumOut.Frame
public import proofs.«01_k».proof.Proof.Gen.SumOutIdeal
public import proofs.«01_k».proof.Proof.Gen.SumOutIdeal.Skeleton
public import proofs.«01_k».proof.Proof.Gen.SumOutIdeal.Launch
public import proofs.«01_k».proof.Proof.Gen.SumOutIdeal.Points
public import proofs.«01_k».proof.Proof.Gen.SumOutIdeal.Frame
public import proofs.«01_k».proof.Proof.Gen.SumOutRefIdeal
public import proofs.«01_k».proof.Proof.Gen.SumOutRefIdeal.Run
public import proofs.«01_k».proof.Proof.Gen.SumOutRefIdeal.Read
public import proofs.«01_k».proof.Proof.Gen.SumMixIn
public import proofs.«01_k».proof.Proof.Gen.SumMixIn.Skeleton
public import proofs.«01_k».proof.Proof.Gen.SumMixIn.Launch
public import proofs.«01_k».proof.Proof.Gen.SumMixIn.Points
public import proofs.«01_k».proof.Proof.Gen.SumMixIn.Frame
public import proofs.«01_k».proof.Proof.Gen.SumMixInIdeal
public import proofs.«01_k».proof.Proof.Gen.SumMixInIdeal.Skeleton
public import proofs.«01_k».proof.Proof.Gen.SumMixInIdeal.Launch
public import proofs.«01_k».proof.Proof.Gen.SumMixInIdeal.Points
public import proofs.«01_k».proof.Proof.Gen.SumMixInIdeal.Frame
public import proofs.«01_k».proof.Proof.Gen.SumMixInRefIdeal
public import proofs.«01_k».proof.Proof.Gen.SumMixInRefIdeal.Run
public import proofs.«01_k».proof.Proof.Gen.SumMixInRefIdeal.Read
public import proofs.«01_k».proof.Proof.Gen.SumMixOut
public import proofs.«01_k».proof.Proof.Gen.SumMixOut.Skeleton
public import proofs.«01_k».proof.Proof.Gen.SumMixOut.Launch
public import proofs.«01_k».proof.Proof.Gen.SumMixOut.Points
public import proofs.«01_k».proof.Proof.Gen.SumMixOut.Frame
public import proofs.«01_k».proof.Proof.Gen.SumMixOutIdeal
public import proofs.«01_k».proof.Proof.Gen.SumMixOutIdeal.Skeleton
public import proofs.«01_k».proof.Proof.Gen.SumMixOutIdeal.Launch
public import proofs.«01_k».proof.Proof.Gen.SumMixOutIdeal.Points
public import proofs.«01_k».proof.Proof.Gen.SumMixOutIdeal.Frame
public import proofs.«01_k».proof.Proof.Gen.SumMixOutRefIdeal
public import proofs.«01_k».proof.Proof.Gen.SumMixOutRefIdeal.Run
public import proofs.«01_k».proof.Proof.Gen.SumMixOutRefIdeal.Read
public import proofs.«01_k».proof.Proof.Gen.SumPool
public import proofs.«01_k».proof.Proof.Gen.SumPool.Skeleton
public import proofs.«01_k».proof.Proof.Gen.SumPool.Launch
public import proofs.«01_k».proof.Proof.Gen.SumPool.Points
public import proofs.«01_k».proof.Proof.Gen.SumPool.Frame
public import proofs.«01_k».proof.Proof.Gen.SumPoolIdeal
public import proofs.«01_k».proof.Proof.Gen.SumPoolIdeal.Skeleton
public import proofs.«01_k».proof.Proof.Gen.SumPoolIdeal.Launch
public import proofs.«01_k».proof.Proof.Gen.SumPoolIdeal.Points
public import proofs.«01_k».proof.Proof.Gen.SumPoolIdeal.Frame
public import proofs.«01_k».proof.Proof.Gen.SumPoolRefIdeal
public import proofs.«01_k».proof.Proof.Gen.SumPoolRefIdeal.Run
public import proofs.«01_k».proof.Proof.Gen.SumPoolRefIdeal.Read
public import proofs.«01_k».proof.Proof.Gen.NormIdeal.Value
public import proofs.«01_k».proof.Proof.Gen.DownIdeal.Value
public import proofs.«01_k».proof.Proof.Gen.ReferenceIdeal.Run
public import proofs.«01_k».proof.Proof.Gen.ReferenceIdeal.Read
public import proofs.«01_k».proof.Proof.Gen.NormRefIdeal.Run
public import proofs.«01_k».proof.Proof.Gen.NormRefIdeal.Read
public import proofs.«01_k».proof.Proof.Gen.DownRefIdeal.Run
public import proofs.«01_k».proof.Proof.Gen.DownRefIdeal.Read
public import proofs.«01_k».proof.Proof.Gen.SentRefIdeal.Run
public import proofs.«01_k».proof.Proof.Gen.SentRefIdeal.Read
public import proofs.«01_k».proof.Proof.Gen.KeptRefIdeal.Run
public import proofs.«01_k».proof.Proof.Gen.KeptRefIdeal.Read
public import proofs.«01_k».proof.Proof.FfnClaim
public import proofs.«01_k».proof.Proof.DownClaim
public import proofs.«01_k».proof.Proof.SentClaim
public import proofs.«01_k».proof.Proof.KeptClaim
public import proofs.«01_k».proof.Proof.AdamFfn
public import proofs.«01_k».proof.Proof.AdamMix
public import proofs.«01_k».proof.Proof.AdamAttn
public import proofs.«01_k».proof.Proof.AdamGate
public import proofs.«01_k».proof.Proof.AdamRow
public import proofs.«01_k».proof.Proof.NormClaim
public import proofs.«01_k».proof.Proof.SmallClaim
public import proofs.«01_k».proof.Proof.SumUpClaim
public import proofs.«01_k».proof.Proof.SumOutClaim
public import proofs.«01_k».proof.Proof.SumMixInClaim
public import proofs.«01_k».proof.Proof.SumMixOutClaim
public import proofs.«01_k».proof.Proof.SumPoolClaim
public import Idealize.ShloMosaic.Adequacy
public import Idealize.ShloMosaic.Init

@[expose] public section

noncomputable section

namespace Cert.Proof

open Idealize.ShloMosaic Idealize.SL.Sem Cert.Kernel

/-! A host program without semaphores leaves every counter at zero. -/

theorem quiescent_ReferenceIdeal : Cert.quiescent_ReferenceIdeal := fun m ρ _ =>
  (θ_run Cert.ReferenceIdeal.defs _ _).mono (fun r h => ⟨fun c => (h c).2.2, sem_eq_zero_of_no_sems (by decide) r.2⟩) (Cert.ReferenceIdeal.Value.run m ρ)

theorem quiescent_NormRefIdeal : Cert.quiescent_NormRefIdeal := fun m ρ _ =>
  (θ_run Cert.NormRefIdeal.defs _ _).mono (fun r h => ⟨fun c => (h c).2.2.2, sem_eq_zero_of_no_sems (by decide) r.2⟩) (Cert.NormRefIdeal.Value.run m ρ)

theorem quiescent_DownRefIdeal : Cert.quiescent_DownRefIdeal := fun m ρ _ =>
  (θ_run Cert.DownRefIdeal.defs _ _).mono (fun r h => ⟨fun c => (h c).2, sem_eq_zero_of_no_sems (by decide) r.2⟩) (Cert.DownRefIdeal.Value.run m ρ)

theorem quiescent_SentRefIdeal : Cert.quiescent_SentRefIdeal := fun m ρ _ =>
  (θ_run Cert.SentRefIdeal.defs _ _).mono (fun r h => ⟨fun c => (h c).2, sem_eq_zero_of_no_sems (by decide) r.2⟩) (Cert.SentRefIdeal.Value.run m ρ)

theorem quiescent_KeptRefIdeal : Cert.quiescent_KeptRefIdeal := fun m ρ _ =>
  (θ_run Cert.KeptRefIdeal.defs _ _).mono (fun r h => ⟨fun c => (h c).2, sem_eq_zero_of_no_sems (by decide) r.2⟩) (Cert.KeptRefIdeal.Value.run m ρ)

theorem quiescent_AdamUpRefIdeal : Cert.quiescent_AdamUpRefIdeal := fun m ρ _ =>
  (θ_run Cert.AdamUpRefIdeal.defs _ _).mono (fun r h => ⟨fun c => (h c).2.2.2.2, sem_eq_zero_of_no_sems (by decide) r.2⟩) (Cert.AdamUpRefIdeal.Value.run m ρ)

theorem quiescent_AdamDownRefIdeal : Cert.quiescent_AdamDownRefIdeal := fun m ρ _ =>
  (θ_run Cert.AdamDownRefIdeal.defs _ _).mono (fun r h => ⟨fun c => (h c).2.2.2.2, sem_eq_zero_of_no_sems (by decide) r.2⟩) (Cert.AdamDownRefIdeal.Value.run m ρ)

theorem quiescent_AdamGainRefIdeal : Cert.quiescent_AdamGainRefIdeal := fun m ρ _ =>
  (θ_run Cert.AdamGainRefIdeal.defs _ _).mono (fun r h => ⟨fun c => (h c).2.2.2.2, sem_eq_zero_of_no_sems (by decide) r.2⟩) (Cert.AdamGainRefIdeal.Value.run m ρ)

theorem quiescent_AdamMixInRefIdeal : Cert.quiescent_AdamMixInRefIdeal := fun m ρ _ =>
  (θ_run Cert.AdamMixInRefIdeal.defs _ _).mono (fun r h => ⟨fun c => (h c).2.2.2.2, sem_eq_zero_of_no_sems (by decide) r.2⟩) (Cert.AdamMixInRefIdeal.Value.run m ρ)

theorem quiescent_AdamMixOutRefIdeal : Cert.quiescent_AdamMixOutRefIdeal := fun m ρ _ =>
  (θ_run Cert.AdamMixOutRefIdeal.defs _ _).mono (fun r h => ⟨fun c => (h c).2.2.2.2, sem_eq_zero_of_no_sems (by decide) r.2⟩) (Cert.AdamMixOutRefIdeal.Value.run m ρ)

theorem quiescent_AdamPoolRefIdeal : Cert.quiescent_AdamPoolRefIdeal := fun m ρ _ =>
  (θ_run Cert.AdamPoolRefIdeal.defs _ _).mono (fun r h => ⟨fun c => (h c).2.2.2.2, sem_eq_zero_of_no_sems (by decide) r.2⟩) (Cert.AdamPoolRefIdeal.Value.run m ρ)

theorem quiescent_AdamScaleRefIdeal : Cert.quiescent_AdamScaleRefIdeal := fun m ρ _ =>
  (θ_run Cert.AdamScaleRefIdeal.defs _ _).mono (fun r h => ⟨fun c => (h c).2.2.2.2, sem_eq_zero_of_no_sems (by decide) r.2⟩) (Cert.AdamScaleRefIdeal.Value.run m ρ)

theorem quiescent_AdamAlphaRefIdeal : Cert.quiescent_AdamAlphaRefIdeal := fun m ρ _ =>
  (θ_run Cert.AdamAlphaRefIdeal.defs _ _).mono (fun r h => ⟨fun c => (h c).2.2.2.2, sem_eq_zero_of_no_sems (by decide) r.2⟩) (Cert.AdamAlphaRefIdeal.Value.run m ρ)

theorem quiescent_AdamBiasRefIdeal : Cert.quiescent_AdamBiasRefIdeal := fun m ρ _ =>
  (θ_run Cert.AdamBiasRefIdeal.defs _ _).mono (fun r h => ⟨fun c => (h c).2.2.2.2, sem_eq_zero_of_no_sems (by decide) r.2⟩) (Cert.AdamBiasRefIdeal.Value.run m ρ)

theorem quiescent_AdamHeadRefIdeal : Cert.quiescent_AdamHeadRefIdeal := fun m ρ _ =>
  (θ_run Cert.AdamHeadRefIdeal.defs _ _).mono (fun r h => ⟨fun c => (h c).2.2.2.2, sem_eq_zero_of_no_sems (by decide) r.2⟩) (Cert.AdamHeadRefIdeal.Value.run m ρ)

theorem quiescent_SmallRefIdeal : Cert.quiescent_SmallRefIdeal := fun m ρ _ =>
  (θ_run Cert.SmallRefIdeal.defs _ _).mono (fun r h => ⟨fun c => (h c).2, sem_eq_zero_of_no_sems (by decide) r.2⟩) (Cert.SmallRefIdeal.Value.run m ρ)

theorem quiescent_SumUpRefIdeal : Cert.quiescent_SumUpRefIdeal := fun m ρ _ =>
  (θ_run Cert.SumUpRefIdeal.defs _ _).mono (fun r h => ⟨fun c => (h c).2, sem_eq_zero_of_no_sems (by decide) r.2⟩) (Cert.SumUpRefIdeal.Value.run m ρ)

theorem quiescent_SumOutRefIdeal : Cert.quiescent_SumOutRefIdeal := fun m ρ _ =>
  (θ_run Cert.SumOutRefIdeal.defs _ _).mono (fun r h => ⟨fun c => (h c).2, sem_eq_zero_of_no_sems (by decide) r.2⟩) (Cert.SumOutRefIdeal.Value.run m ρ)

theorem quiescent_SumMixInRefIdeal : Cert.quiescent_SumMixInRefIdeal := fun m ρ _ =>
  (θ_run Cert.SumMixInRefIdeal.defs _ _).mono (fun r h => ⟨fun c => (h c).2, sem_eq_zero_of_no_sems (by decide) r.2⟩) (Cert.SumMixInRefIdeal.Value.run m ρ)

theorem quiescent_SumMixOutRefIdeal : Cert.quiescent_SumMixOutRefIdeal := fun m ρ _ =>
  (θ_run Cert.SumMixOutRefIdeal.defs _ _).mono (fun r h => ⟨fun c => (h c).2, sem_eq_zero_of_no_sems (by decide) r.2⟩) (Cert.SumMixOutRefIdeal.Value.run m ρ)

theorem quiescent_SumPoolRefIdeal : Cert.quiescent_SumPoolRefIdeal := fun m ρ _ =>
  (θ_run Cert.SumPoolRefIdeal.defs _ _).mono (fun r h => ⟨fun c => (h c).2, sem_eq_zero_of_no_sems (by decide) r.2⟩) (Cert.SumPoolRefIdeal.Value.run m ρ)

theorem claim : Cert.Claim := ⟨Cert.Kernel.Gen.facts, Cert.KernelIdeal.Gen.facts, Cert.ReferenceIdeal.Gen.facts, Cert.Norm.Gen.facts, Cert.NormIdeal.Gen.facts, Cert.NormRefIdeal.Gen.facts, Cert.Down.Gen.facts, Cert.DownIdeal.Gen.facts, Cert.DownRefIdeal.Gen.facts, Cert.Sent.Gen.facts, Cert.SentIdeal.Gen.facts, Cert.SentRefIdeal.Gen.facts, Cert.Kept.Gen.facts, Cert.KeptIdeal.Gen.facts, Cert.KeptRefIdeal.Gen.facts, Cert.Gla.Gen.facts, Cert.GlaIdeal.Gen.facts, Cert.AdamUp.Gen.facts, Cert.AdamUpIdeal.Gen.facts, Cert.AdamUpRefIdeal.Gen.facts, Cert.AdamDown.Gen.facts, Cert.AdamDownIdeal.Gen.facts, Cert.AdamDownRefIdeal.Gen.facts, Cert.AdamGain.Gen.facts, Cert.AdamGainIdeal.Gen.facts, Cert.AdamGainRefIdeal.Gen.facts, Cert.AdamMixIn.Gen.facts, Cert.AdamMixInIdeal.Gen.facts, Cert.AdamMixInRefIdeal.Gen.facts, Cert.AdamMixOut.Gen.facts, Cert.AdamMixOutIdeal.Gen.facts, Cert.AdamMixOutRefIdeal.Gen.facts, Cert.AdamPool.Gen.facts, Cert.AdamPoolIdeal.Gen.facts, Cert.AdamPoolRefIdeal.Gen.facts, Cert.AdamScale.Gen.facts, Cert.AdamScaleIdeal.Gen.facts, Cert.AdamScaleRefIdeal.Gen.facts, Cert.AdamAlpha.Gen.facts, Cert.AdamAlphaIdeal.Gen.facts, Cert.AdamAlphaRefIdeal.Gen.facts, Cert.AdamBias.Gen.facts, Cert.AdamBiasIdeal.Gen.facts, Cert.AdamBiasRefIdeal.Gen.facts, Cert.AdamHead.Gen.facts, Cert.AdamHeadIdeal.Gen.facts, Cert.AdamHeadRefIdeal.Gen.facts, Cert.Small.Gen.facts, Cert.SmallIdeal.Gen.facts, Cert.SmallRefIdeal.Gen.facts, Cert.SumUp.Gen.facts, Cert.SumUpIdeal.Gen.facts, Cert.SumUpRefIdeal.Gen.facts, Cert.SumOut.Gen.facts, Cert.SumOutIdeal.Gen.facts, Cert.SumOutRefIdeal.Gen.facts, Cert.SumMixIn.Gen.facts, Cert.SumMixInIdeal.Gen.facts, Cert.SumMixInRefIdeal.Gen.facts, Cert.SumMixOut.Gen.facts, Cert.SumMixOutIdeal.Gen.facts, Cert.SumMixOutRefIdeal.Gen.facts, Cert.SumPool.Gen.facts, Cert.SumPoolIdeal.Gen.facts, Cert.SumPoolRefIdeal.Gen.facts, Cert.Pre_finite.Gen.facts, Cert.Pre_norm_finite.Gen.facts, Cert.Pre_core_named.Gen.facts, Cert.Pre_own_core_named.Gen.facts, Cert.Pre_up_place_named.Gen.facts, Cert.Pre_out_place_named.Gen.facts, Cert.Pre_mix_in_place_named.Gen.facts, Cert.Pre_mix_out_place_named.Gen.facts, Cert.Pre_pool_place_named.Gen.facts,
  fun m ρ _ => Cert.Kernel.Gen.frame m ρ,
  fun m ρ _ => Cert.KernelIdeal.Gen.frame m ρ,
  fun m ρ _ => Cert.KernelIdeal.Gen.frame m ρ,
  quiescent_ReferenceIdeal,
  fun m ρ _ => quiescent_ReferenceIdeal m ρ trivial,
  fun m ρ _ => Cert.Norm.Gen.frame m ρ,
  fun m ρ _ => Cert.NormIdeal.Gen.frame m ρ,
  fun m ρ _ => Cert.NormIdeal.Gen.frame m ρ,
  quiescent_NormRefIdeal,
  fun m ρ _ => quiescent_NormRefIdeal m ρ trivial,
  fun m ρ _ => Cert.Down.Gen.frame m ρ,
  fun m ρ _ => Cert.DownIdeal.Gen.frame m ρ,
  quiescent_DownRefIdeal,
  Cert.Ffn.frame_sent,
  Cert.Ffn.frame_sentIdeal,
  quiescent_SentRefIdeal,
  fun m ρ _ => quiescent_SentRefIdeal m ρ trivial,
  Cert.Ffn.frame_kept,
  Cert.Ffn.frame_keptIdeal,
  quiescent_KeptRefIdeal,
  fun m ρ _ => quiescent_KeptRefIdeal m ρ trivial,
  fun m ρ _ => Cert.Gla.Gen.frame m ρ,
  fun m ρ _ => Cert.GlaIdeal.Gen.frame m ρ,
  fun m ρ _ => Cert.AdamUp.Gen.frame m ρ,
  fun m ρ _ => Cert.AdamUpIdeal.Gen.frame m ρ,
  quiescent_AdamUpRefIdeal,
  fun m ρ _ => Cert.AdamDown.Gen.frame m ρ,
  fun m ρ _ => Cert.AdamDownIdeal.Gen.frame m ρ,
  quiescent_AdamDownRefIdeal,
  fun m ρ _ => Cert.AdamGain.Gen.frame m ρ,
  fun m ρ _ => Cert.AdamGainIdeal.Gen.frame m ρ,
  quiescent_AdamGainRefIdeal,
  fun m ρ _ => Cert.AdamMixIn.Gen.frame m ρ,
  fun m ρ _ => Cert.AdamMixInIdeal.Gen.frame m ρ,
  quiescent_AdamMixInRefIdeal,
  fun m ρ _ => Cert.AdamMixOut.Gen.frame m ρ,
  fun m ρ _ => Cert.AdamMixOutIdeal.Gen.frame m ρ,
  quiescent_AdamMixOutRefIdeal,
  fun m ρ _ => Cert.AdamPool.Gen.frame m ρ,
  fun m ρ _ => Cert.AdamPoolIdeal.Gen.frame m ρ,
  quiescent_AdamPoolRefIdeal,
  fun m ρ _ => Cert.AdamScale.Gen.frame m ρ,
  fun m ρ _ => Cert.AdamScaleIdeal.Gen.frame m ρ,
  quiescent_AdamScaleRefIdeal,
  fun m ρ _ => Cert.AdamAlpha.Gen.frame m ρ,
  fun m ρ _ => Cert.AdamAlphaIdeal.Gen.frame m ρ,
  quiescent_AdamAlphaRefIdeal,
  fun m ρ _ => Cert.AdamBias.Gen.frame m ρ,
  fun m ρ _ => Cert.AdamBiasIdeal.Gen.frame m ρ,
  quiescent_AdamBiasRefIdeal,
  fun m ρ _ => Cert.AdamHead.Gen.frame m ρ,
  fun m ρ _ => Cert.AdamHeadIdeal.Gen.frame m ρ,
  quiescent_AdamHeadRefIdeal,
  fun m ρ _ => Cert.Small.Gen.frame m ρ,
  fun m ρ _ => Cert.SmallIdeal.Gen.frame m ρ,
  quiescent_SmallRefIdeal,
  Cert.Ffn.SumUp.frame_sumUp,
  Cert.Ffn.SumUp.frame_sumUpIdeal,
  quiescent_SumUpRefIdeal,
  fun m ρ _ => quiescent_SumUpRefIdeal m ρ trivial,
  Cert.Ffn.SumOut.frame_sumOut,
  Cert.Ffn.SumOut.frame_sumOutIdeal,
  quiescent_SumOutRefIdeal,
  fun m ρ _ => quiescent_SumOutRefIdeal m ρ trivial,
  Cert.Ffn.SumMixIn.frame_sumMixIn,
  Cert.Ffn.SumMixIn.frame_sumMixInIdeal,
  quiescent_SumMixInRefIdeal,
  fun m ρ _ => quiescent_SumMixInRefIdeal m ρ trivial,
  Cert.Ffn.SumMixOut.frame_sumMixOut,
  Cert.Ffn.SumMixOut.frame_sumMixOutIdeal,
  quiescent_SumMixOutRefIdeal,
  fun m ρ _ => quiescent_SumMixOutRefIdeal m ρ trivial,
  Cert.Ffn.SumPool.frame_sumPool,
  Cert.Ffn.SumPool.frame_sumPoolIdeal,
  quiescent_SumPoolRefIdeal,
  fun m ρ _ => quiescent_SumPoolRefIdeal m ρ trivial,
  trivial,
  Cert.Ffn.algebraic_kernel,
  trivial,
  Cert.Ffn.Norm.algebraic_norm,
  trivial,
  Cert.Ffn.Down.algebraic_down,
  trivial,
  Cert.Ffn.Sent.algebraic_sent,
  trivial,
  Cert.Ffn.Kept.algebraic_kept,
  trivial,
  trivial,
  Cert.Ffn.Adam.algebraic_up,
  trivial,
  Cert.Ffn.Adam.algebraic_down,
  trivial,
  Cert.Ffn.Adam.algebraic_gain,
  trivial,
  Cert.Ffn.Adam.algebraic_mixIn,
  trivial,
  Cert.Ffn.Adam.algebraic_mixOut,
  trivial,
  Cert.Ffn.Adam.algebraic_pool,
  trivial,
  Cert.Ffn.Adam.algebraic_scale,
  trivial,
  Cert.Ffn.Adam.algebraic_alpha,
  trivial,
  Cert.Ffn.Adam.algebraic_bias,
  trivial,
  Cert.Ffn.Adam.algebraic_head,
  trivial,
  Cert.Ffn.Small.algebraic_small,
  trivial,
  Cert.Ffn.SumUp.algebraic_sumUp,
  trivial,
  Cert.Ffn.SumOut.algebraic_sumOut,
  trivial,
  Cert.Ffn.SumMixIn.algebraic_sumMixIn,
  trivial,
  Cert.Ffn.SumMixOut.algebraic_sumMixOut,
  trivial,
  Cert.Ffn.SumPool.algebraic_sumPool⟩

end Cert.Proof

end
